-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ConvQ (m : (ℓ : Loc Cert.ConvQ.nD Cert.ConvQ.τ Cert.ConvQ.sig) → Buf (Elt Bits) ℓ) : Prop :=
  True

def Pre_ConvQIdeal (m : (ℓ : Loc Cert.ConvQIdeal.nD Cert.ConvQIdeal.τ Cert.ConvQIdeal.sig) → Buf (Elt Ideal) ℓ) : Prop :=
  True

def Pre_ConvQRefIdeal (m : (ℓ : Loc Cert.ConvQRefIdeal.nD Cert.ConvQRefIdeal.τ Cert.ConvQRefIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKRefIdeal (m : (ℓ : Loc Cert.ConvKRefIdeal.nD Cert.ConvKRefIdeal.τ Cert.ConvKRefIdeal.sig) → Buf (Elt Ideal) ℓ) : Prop :=
  True

def Pre_ConvV (m : (ℓ : Loc Cert.ConvV.nD Cert.ConvV.τ Cert.ConvV.sig) → Buf (Elt Bits) ℓ) : Prop :=
  True

def Pre_ConvVIdeal (m : (ℓ : Loc Cert.ConvVIdeal.nD Cert.ConvVIdeal.τ Cert.ConvVIdeal.sig) → Buf (Elt Ideal) ℓ) : Prop :=
  True

def Pre_ConvVRefIdeal (m : (ℓ : Loc Cert.ConvVRefIdeal.nD Cert.ConvVRefIdeal.τ Cert.ConvVRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_gates_regular [hPre_gates_regular : Cert.Pre_gates_regular.Facts] (m : (ℓ : Loc Cert.GatesIdeal.nD Cert.GatesIdeal.τ Cert.GatesIdeal.sig) → Buf (Elt Ideal) ℓ) : Prop :=
  ∀ c : Dev Cert.GatesIdeal.nD,
    (Cert.Pre_gates_regular.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).1 = (fun _ => 1#1)
    ∧ (Cert.Pre_gates_regular.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.1 = (fun _ => 1#1)
    ∧ (Cert.Pre_gates_regular.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.2.1 = (fun _ => 1#1)
    ∧ (Cert.Pre_gates_regular.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.2.2.1 = (fun _ => 1#1)
    ∧ (Cert.Pre_gates_regular.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.2.2.2.1 = (fun _ => 1#1)
    ∧ (Cert.Pre_gates_regular.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.2.2.2.2 = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_gates_regular [hPre_gates_regular : Cert.Pre_gates_regular.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_gates_regular.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5))).1 = (fun _ => 1#1)
    ∧ (Cert.Pre_gates_regular.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5))).2.1 = (fun _ => 1#1)
    ∧ (Cert.Pre_gates_regular.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5))).2.2.1 = (fun _ => 1#1)
    ∧ (Cert.Pre_gates_regular.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5))).2.2.2.1 = (fun _ => 1#1)
    ∧ (Cert.Pre_gates_regular.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5))).2.2.2.2.1 = (fun _ => 1#1)
    ∧ (Cert.Pre_gates_regular.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5))).2.2.2.2.2 = (fun _ => 1#1)

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def Pre_SguF (m : (ℓ : Loc Cert.SguF.nD Cert.SguF.τ Cert.SguF.sig) → Buf (Elt Bits) ℓ) : Prop :=
  True

def Pre_SguFIdeal (m : (ℓ : Loc Cert.SguFIdeal.nD Cert.SguFIdeal.τ Cert.SguFIdeal.sig) → Buf (Elt Ideal) ℓ) : Prop :=
  True

def Pre_SguFRefIdeal (m : (ℓ : Loc Cert.SguFRefIdeal.nD Cert.SguFRefIdeal.τ Cert.SguFRefIdeal.sig) → Buf (Elt Ideal) ℓ) : Prop :=
  True

def Pre_ConvQF (m : (ℓ : Loc Cert.ConvQF.nD Cert.ConvQF.τ Cert.ConvQF.sig) → Buf (Elt Bits) ℓ) : Prop :=
  True

def Pre_ConvQFIdeal (m : (ℓ : Loc Cert.ConvQFIdeal.nD Cert.ConvQFIdeal.τ Cert.ConvQFIdeal.sig) → Buf (Elt Ideal) ℓ) : Prop :=
  True

def Pre_ConvQFRefIdeal (m : (ℓ : Loc Cert.ConvQFRefIdeal.nD Cert.ConvQFRefIdeal.τ Cert.ConvQFRefIdeal.sig) → Buf (Elt Ideal) ℓ) : Prop :=
  True

def Pre_ConvKF (m : (ℓ : Loc Cert.ConvKF.nD Cert.ConvKF.τ Cert.ConvKF.sig) → Buf (Elt Bits) ℓ) : Prop :=
  True

def Pre_ConvKFIdeal (m : (ℓ : Loc Cert.ConvKFIdeal.nD Cert.ConvKFIdeal.τ Cert.ConvKFIdeal.sig) → Buf (Elt Ideal) ℓ) : Prop :=
  True

def Pre_ConvKFRefIdeal (m : (ℓ : Loc Cert.ConvKFRefIdeal.nD Cert.ConvKFRefIdeal.τ Cert.ConvKFRefIdeal.sig) → Buf (Elt Ideal) ℓ) : Prop :=
  True

def Pre_ConvVF (m : (ℓ : Loc Cert.ConvVF.nD Cert.ConvVF.τ Cert.ConvVF.sig) → Buf (Elt Bits) ℓ) : Prop :=
  True

def Pre_ConvVFIdeal (m : (ℓ : Loc Cert.ConvVFIdeal.nD Cert.ConvVFIdeal.τ Cert.ConvVFIdeal.sig) → Buf (Elt Ideal) ℓ) : Prop :=
  True

def Pre_ConvVFRefIdeal (m : (ℓ : Loc Cert.ConvVFRefIdeal.nD Cert.ConvVFRefIdeal.τ Cert.ConvVFRefIdeal.sig) → Buf (Elt Ideal) ℓ) : Prop :=
  True

def Pre_GatesF (m : (ℓ : Loc Cert.GatesF.nD Cert.GatesF.τ Cert.GatesF.sig) → Buf (Elt Bits) ℓ) : Prop :=
  True

def Pre_GatesFIdeal (m : (ℓ : Loc Cert.GatesFIdeal.nD Cert.GatesFIdeal.τ Cert.GatesFIdeal.sig) → Buf (Elt Ideal) ℓ) : Prop :=
  True

def Pre_GatesFRefIdeal (m : (ℓ : Loc Cert.GatesFRefIdeal.nD Cert.GatesFRefIdeal.τ Cert.GatesFRefIdeal.sig) → Buf (Elt Ideal) ℓ) : Prop :=
  True

def Pre_SwigluF (m : (ℓ : Loc Cert.SwigluF.nD Cert.SwigluF.τ Cert.SwigluF.sig) → Buf (Elt Bits) ℓ) : Prop :=
  True

def Pre_SwigluFIdeal (m : (ℓ : Loc Cert.SwigluFIdeal.nD Cert.SwigluFIdeal.τ Cert.SwigluFIdeal.sig) → Buf (Elt Ideal) ℓ) : Prop :=
  True

def Pre_SwigluFRefIdeal (m : (ℓ : Loc Cert.SwigluFRefIdeal.nD Cert.SwigluFRefIdeal.τ Cert.SwigluFRefIdeal.sig) → Buf (Elt Ideal) ℓ) : Prop :=
  True

def Pre_ScanF (m : (ℓ : Loc Cert.ScanF.nD Cert.ScanF.τ Cert.ScanF.sig) → Buf (Elt Bits) ℓ) : Prop :=
  True

def Pre_ScanFIdeal (m : (ℓ : Loc Cert.ScanFIdeal.nD Cert.ScanFIdeal.τ Cert.ScanFIdeal.sig) → Buf (Elt Ideal) ℓ) : Prop :=
  True

def Pre_ScanFRefIdeal (m : (ℓ : Loc Cert.ScanFRefIdeal.nD Cert.ScanFRefIdeal.τ Cert.ScanFRefIdeal.sig) → Buf (Elt Ideal) ℓ) : Prop :=
  True

def Pre_WyF (m : (ℓ : Loc Cert.WyF.nD Cert.WyF.τ Cert.WyF.sig) → Buf (Elt Bits) ℓ) : Prop :=
  True

def Pre_WyFIdeal (m : (ℓ : Loc Cert.WyFIdeal.nD Cert.WyFIdeal.τ Cert.WyFIdeal.sig) → Buf (Elt Ideal) ℓ) : Prop :=
  True

def Pre_WyFIdeal_wy_finite [hPre_wy_finite : Cert.Pre_wy_finite.Facts] (m : (ℓ : Loc Cert.WyFIdeal.nD Cert.WyFIdeal.τ Cert.WyFIdeal.sig) → Buf (Elt Ideal) ℓ) : Prop :=
  ∀ c : Dev Cert.WyFIdeal.nD,
    (Cert.Pre_wy_finite.fn (F := Ideal) (m ((c.tc : Thread Cert.WyFIdeal.nD Cert.WyFIdeal.τ).loc Cert.WyFIdeal.main_arg0)) (m ((c.tc : Thread Cert.WyFIdeal.nD Cert.WyFIdeal.τ).loc Cert.WyFIdeal.main_arg1)) (m ((c.tc : Thread Cert.WyFIdeal.nD Cert.WyFIdeal.τ).loc Cert.WyFIdeal.main_arg2)) (m ((c.tc : Thread Cert.WyFIdeal.nD Cert.WyFIdeal.τ).loc Cert.WyFIdeal.main_arg3)) (m ((c.tc : Thread Cert.WyFIdeal.nD Cert.WyFIdeal.τ).loc Cert.WyFIdeal.main_arg4))).1 = (fun _ => 1#1)
    ∧ (Cert.Pre_wy_finite.fn (F := Ideal) (m ((c.tc : Thread Cert.WyFIdeal.nD Cert.WyFIdeal.τ).loc Cert.WyFIdeal.main_arg0)) (m ((c.tc : Thread Cert.WyFIdeal.nD Cert.WyFIdeal.τ).loc Cert.WyFIdeal.main_arg1)) (m ((c.tc : Thread Cert.WyFIdeal.nD Cert.WyFIdeal.τ).loc Cert.WyFIdeal.main_arg2)) (m ((c.tc : Thread Cert.WyFIdeal.nD Cert.WyFIdeal.τ).loc Cert.WyFIdeal.main_arg3)) (m ((c.tc : Thread Cert.WyFIdeal.nD Cert.WyFIdeal.τ).loc Cert.WyFIdeal.main_arg4))).2.1 = (fun _ => 1#1)
    ∧ (Cert.Pre_wy_finite.fn (F := Ideal) (m ((c.tc : Thread Cert.WyFIdeal.nD Cert.WyFIdeal.τ).loc Cert.WyFIdeal.main_arg0)) (m ((c.tc : Thread Cert.WyFIdeal.nD Cert.WyFIdeal.τ).loc Cert.WyFIdeal.main_arg1)) (m ((c.tc : Thread Cert.WyFIdeal.nD Cert.WyFIdeal.τ).loc Cert.WyFIdeal.main_arg2)) (m ((c.tc : Thread Cert.WyFIdeal.nD Cert.WyFIdeal.τ).loc Cert.WyFIdeal.main_arg3)) (m ((c.tc : Thread Cert.WyFIdeal.nD Cert.WyFIdeal.τ).loc Cert.WyFIdeal.main_arg4))).2.2.1 = (fun _ => 1#1)
    ∧ (Cert.Pre_wy_finite.fn (F := Ideal) (m ((c.tc : Thread Cert.WyFIdeal.nD Cert.WyFIdeal.τ).loc Cert.WyFIdeal.main_arg0)) (m ((c.tc : Thread Cert.WyFIdeal.nD Cert.WyFIdeal.τ).loc Cert.WyFIdeal.main_arg1)) (m ((c.tc : Thread Cert.WyFIdeal.nD Cert.WyFIdeal.τ).loc Cert.WyFIdeal.main_arg2)) (m ((c.tc : Thread Cert.WyFIdeal.nD Cert.WyFIdeal.τ).loc Cert.WyFIdeal.main_arg3)) (m ((c.tc : Thread Cert.WyFIdeal.nD Cert.WyFIdeal.τ).loc Cert.WyFIdeal.main_arg4))).2.2.2 = (fun _ => 1#1)

def Pre_WyFRefIdeal (m : (ℓ : Loc Cert.WyFRefIdeal.nD Cert.WyFRefIdeal.τ Cert.WyFRefIdeal.sig) → Buf (Elt Ideal) ℓ) : Prop :=
  True

def Pre_WyFRefIdeal_wy_finite [hPre_wy_finite : Cert.Pre_wy_finite.Facts] (m : (ℓ : Loc Cert.WyFRefIdeal.nD Cert.WyFRefIdeal.τ Cert.WyFRefIdeal.sig) → Buf (Elt Ideal) ℓ) : Prop :=
  ∀ c : Dev Cert.WyFRefIdeal.nD,
    (Cert.Pre_wy_finite.fn (F := Ideal) (m ((c.tc : Thread Cert.WyFRefIdeal.nD Cert.WyFRefIdeal.τ).loc Cert.WyFRefIdeal.main_arg0)) (m ((c.tc : Thread Cert.WyFRefIdeal.nD Cert.WyFRefIdeal.τ).loc Cert.WyFRefIdeal.main_arg1)) (m ((c.tc : Thread Cert.WyFRefIdeal.nD Cert.WyFRefIdeal.τ).loc Cert.WyFRefIdeal.main_arg2)) (m ((c.tc : Thread Cert.WyFRefIdeal.nD Cert.WyFRefIdeal.τ).loc Cert.WyFRefIdeal.main_arg3)) (m ((c.tc : Thread Cert.WyFRefIdeal.nD Cert.WyFRefIdeal.τ).loc Cert.WyFRefIdeal.main_arg4))).1 = (fun _ => 1#1)
    ∧ (Cert.Pre_wy_finite.fn (F := Ideal) (m ((c.tc : Thread Cert.WyFRefIdeal.nD Cert.WyFRefIdeal.τ).loc Cert.WyFRefIdeal.main_arg0)) (m ((c.tc : Thread Cert.WyFRefIdeal.nD Cert.WyFRefIdeal.τ).loc Cert.WyFRefIdeal.main_arg1)) (m ((c.tc : Thread Cert.WyFRefIdeal.nD Cert.WyFRefIdeal.τ).loc Cert.WyFRefIdeal.main_arg2)) (m ((c.tc : Thread Cert.WyFRefIdeal.nD Cert.WyFRefIdeal.τ).loc Cert.WyFRefIdeal.main_arg3)) (m ((c.tc : Thread Cert.WyFRefIdeal.nD Cert.WyFRefIdeal.τ).loc Cert.WyFRefIdeal.main_arg4))).2.1 = (fun _ => 1#1)
    ∧ (Cert.Pre_wy_finite.fn (F := Ideal) (m ((c.tc : Thread Cert.WyFRefIdeal.nD Cert.WyFRefIdeal.τ).loc Cert.WyFRefIdeal.main_arg0)) (m ((c.tc : Thread Cert.WyFRefIdeal.nD Cert.WyFRefIdeal.τ).loc Cert.WyFRefIdeal.main_arg1)) (m ((c.tc : Thread Cert.WyFRefIdeal.nD Cert.WyFRefIdeal.τ).loc Cert.WyFRefIdeal.main_arg2)) (m ((c.tc : Thread Cert.WyFRefIdeal.nD Cert.WyFRefIdeal.τ).loc Cert.WyFRefIdeal.main_arg3)) (m ((c.tc : Thread Cert.WyFRefIdeal.nD Cert.WyFRefIdeal.τ).loc Cert.WyFRefIdeal.main_arg4))).2.2.1 = (fun _ => 1#1)
    ∧ (Cert.Pre_wy_finite.fn (F := Ideal) (m ((c.tc : Thread Cert.WyFRefIdeal.nD Cert.WyFRefIdeal.τ).loc Cert.WyFRefIdeal.main_arg0)) (m ((c.tc : Thread Cert.WyFRefIdeal.nD Cert.WyFRefIdeal.τ).loc Cert.WyFRefIdeal.main_arg1)) (m ((c.tc : Thread Cert.WyFRefIdeal.nD Cert.WyFRefIdeal.τ).loc Cert.WyFRefIdeal.main_arg2)) (m ((c.tc : Thread Cert.WyFRefIdeal.nD Cert.WyFRefIdeal.τ).loc Cert.WyFRefIdeal.main_arg3)) (m ((c.tc : Thread Cert.WyFRefIdeal.nD Cert.WyFRefIdeal.τ).loc Cert.WyFRefIdeal.main_arg4))).2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def Pre_DhA (m : (ℓ : Loc Cert.DhA.nD Cert.DhA.τ Cert.DhA.sig) → Buf (Elt Bits) ℓ) : Prop :=
  True

def Pre_DhAIdeal (m : (ℓ : Loc Cert.DhAIdeal.nD Cert.DhAIdeal.τ Cert.DhAIdeal.sig) → Buf (Elt Ideal) ℓ) : Prop :=
  True

def Pre_DhARefIdeal (m : (ℓ : Loc Cert.DhARefIdeal.nD Cert.DhARefIdeal.τ Cert.DhARefIdeal.sig) → Buf (Elt Ideal) ℓ) : Prop :=
  True

def Pre_DhB (m : (ℓ : Loc Cert.DhB.nD Cert.DhB.τ Cert.DhB.sig) → Buf (Elt Bits) ℓ) : Prop :=
  True

def Pre_DhBIdeal (m : (ℓ : Loc Cert.DhBIdeal.nD Cert.DhBIdeal.τ Cert.DhBIdeal.sig) → Buf (Elt Ideal) ℓ) : Prop :=
  True

def Pre_DhBRefIdeal (m : (ℓ : Loc Cert.DhBRefIdeal.nD Cert.DhBRefIdeal.τ Cert.DhBRefIdeal.sig) → Buf (Elt Ideal) ℓ) : Prop :=
  True

def Pre_Wy (m : (ℓ : Loc Cert.Wy.nD Cert.Wy.τ Cert.Wy.sig) → Buf (Elt Bits) ℓ) : Prop :=
  True

def Pre_WyIdeal (m : (ℓ : Loc Cert.WyIdeal.nD Cert.WyIdeal.τ Cert.WyIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_ConvQ [hConvQ : Cert.ConvQ.Facts] : Prop :=
  ∀ (m : (ℓ : Loc Cert.ConvQ.nD Cert.ConvQ.τ Cert.ConvQ.sig) → Buf (Elt Bits) ℓ) (g : Dev Cert.ConvQ.nD → PrngReg), Pre_ConvQ m →
    θ_run (Cert.ConvQ.defs (F := Bits)) (onTc (τ := Cert.ConvQ.τ) (Cert.ConvQ.main (F := Bits))) ⟨m, fun _ => 0, g⟩ (fun r => (∀ c : Dev Cert.ConvQ.nD,
      r.2.mem ((c.tc : Thread Cert.ConvQ.nD Cert.ConvQ.τ).loc Cert.ConvQ.main_arg0) = m ((c.tc : Thread Cert.ConvQ.nD Cert.ConvQ.τ).loc Cert.ConvQ.main_arg0)
      ∧ r.2.mem ((c.tc : Thread Cert.ConvQ.nD Cert.ConvQ.τ).loc Cert.ConvQ.main_arg1) = m ((c.tc : Thread Cert.ConvQ.nD Cert.ConvQ.τ).loc Cert.ConvQ.main_arg1)
      ∧ r.2.mem ((c.tc : Thread Cert.ConvQ.nD Cert.ConvQ.τ).loc Cert.ConvQ.main_arg2) = m ((c.tc : Thread Cert.ConvQ.nD Cert.ConvQ.τ).loc Cert.ConvQ.main_arg2)
      ∧ r.2.mem ((c.tc : Thread Cert.ConvQ.nD Cert.ConvQ.τ).loc Cert.ConvQ.main_arg3) = m ((c.tc : Thread Cert.ConvQ.nD Cert.ConvQ.τ).loc Cert.ConvQ.main_arg3))
      ∧ r.2.sem = fun _ => 0)

def quiescent_ConvQIdeal [hConvQIdeal : Cert.ConvQIdeal.Facts] : Prop :=
  ∀ (m : (ℓ : Loc Cert.ConvQIdeal.nD Cert.ConvQIdeal.τ Cert.ConvQIdeal.sig) → Buf (Elt Ideal) ℓ) (g : Dev Cert.ConvQIdeal.nD → PrngReg), Pre_ConvQIdeal m →
    θ_run (Cert.ConvQIdeal.defs (F := Ideal)) (onTc (τ := Cert.ConvQIdeal.τ) (Cert.ConvQIdeal.main (F := Ideal))) ⟨m, fun _ => 0, g⟩ (fun r => (∀ c : Dev Cert.ConvQIdeal.nD,
      r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
      ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1)
      ∧ r.2.mem ((c.tc : Thread Cert.ConvQIdeal.nD Cert.ConvQIdeal.τ).loc Cert.ConvQIdeal.main_arg2) = m ((c.tc : Thread Cert.ConvQIdeal.nD Cert.ConvQIdeal.τ).loc Cert.ConvQIdeal.main_arg2)
      ∧ r.2.mem ((c.tc : Thread Cert.ConvQIdeal.nD Cert.ConvQIdeal.τ).loc Cert.ConvQIdeal.main_arg3) = m ((c.tc : Thread Cert.ConvQIdeal.nD Cert.ConvQIdeal.τ).loc Cert.ConvQIdeal.main_arg3))
      ∧ r.2.sem = fun _ => 0)

def quiescent_ConvQRefIdeal [hConvQRefIdeal : Cert.ConvQRefIdeal.Facts] : Prop :=
  ∀ (m : (ℓ : Loc Cert.ConvQRefIdeal.nD Cert.ConvQRefIdeal.τ Cert.ConvQRefIdeal.sig) → Buf (Elt Ideal) ℓ) (g : Dev Cert.ConvQRefIdeal.nD → PrngReg), Pre_ConvQRefIdeal m →
    θ_run (Cert.ConvQRefIdeal.defs (F := Ideal)) (onTc (τ := Cert.ConvQRefIdeal.τ) (Cert.ConvQRefIdeal.main (F := Ideal))) ⟨m, fun _ => 0, g⟩ (fun r => (∀ c : Dev Cert.ConvQRefIdeal.nD,
      r.2.mem ((c.tc : Thread Cert.ConvQRefIdeal.nD Cert.ConvQRefIdeal.τ).loc Cert.ConvQRefIdeal.main_arg0) = m ((c.tc : Thread Cert.ConvQRefIdeal.nD Cert.ConvQRefIdeal.τ).loc Cert.ConvQRefIdeal.main_arg0)
      ∧ r.2.mem ((c.tc : Thread Cert.ConvQRefIdeal.nD Cert.ConvQRefIdeal.τ).loc Cert.ConvQRefIdeal.main_arg1) = m ((c.tc : Thread Cert.ConvQRefIdeal.nD Cert.ConvQRefIdeal.τ).loc Cert.ConvQRefIdeal.main_arg1)
      ∧ r.2.mem ((c.tc : Thread Cert.ConvQRefIdeal.nD Cert.ConvQRefIdeal.τ).loc Cert.ConvQRefIdeal.main_arg2) = m ((c.tc : Thread Cert.ConvQRefIdeal.nD Cert.ConvQRefIdeal.τ).loc Cert.ConvQRefIdeal.main_arg2)
      ∧ r.2.mem ((c.tc : Thread Cert.ConvQRefIdeal.nD Cert.ConvQRefIdeal.τ).loc Cert.ConvQRefIdeal.main_arg3) = m ((c.tc : Thread Cert.ConvQRefIdeal.nD Cert.ConvQRefIdeal.τ).loc Cert.ConvQRefIdeal.main_arg3))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ r.2.sem = fun _ => 0)

def quiescent_ConvKRefIdeal [hConvKRefIdeal : Cert.ConvKRefIdeal.Facts] : Prop :=
  ∀ (m : (ℓ : Loc Cert.ConvKRefIdeal.nD Cert.ConvKRefIdeal.τ Cert.ConvKRefIdeal.sig) → Buf (Elt Ideal) ℓ) (g : Dev Cert.ConvKRefIdeal.nD → PrngReg), Pre_ConvKRefIdeal m →
    θ_run (Cert.ConvKRefIdeal.defs (F := Ideal)) (onTc (τ := Cert.ConvKRefIdeal.τ) (Cert.ConvKRefIdeal.main (F := Ideal))) ⟨m, fun _ => 0, g⟩ (fun r => (∀ c : Dev Cert.ConvKRefIdeal.nD,
      r.2.mem ((c.tc : Thread Cert.ConvKRefIdeal.nD Cert.ConvKRefIdeal.τ).loc Cert.ConvKRefIdeal.main_arg0) = m ((c.tc : Thread Cert.ConvKRefIdeal.nD Cert.ConvKRefIdeal.τ).loc Cert.ConvKRefIdeal.main_arg0)
      ∧ r.2.mem ((c.tc : Thread Cert.ConvKRefIdeal.nD Cert.ConvKRefIdeal.τ).loc Cert.ConvKRefIdeal.main_arg1) = m ((c.tc : Thread Cert.ConvKRefIdeal.nD Cert.ConvKRefIdeal.τ).loc Cert.ConvKRefIdeal.main_arg1)
      ∧ r.2.mem ((c.tc : Thread Cert.ConvKRefIdeal.nD Cert.ConvKRefIdeal.τ).loc Cert.ConvKRefIdeal.main_arg2) = m ((c.tc : Thread Cert.ConvKRefIdeal.nD Cert.ConvKRefIdeal.τ).loc Cert.ConvKRefIdeal.main_arg2)
      ∧ r.2.mem ((c.tc : Thread Cert.ConvKRefIdeal.nD Cert.ConvKRefIdeal.τ).loc Cert.ConvKRefIdeal.main_arg3) = m ((c.tc : Thread Cert.ConvKRefIdeal.nD Cert.ConvKRefIdeal.τ).loc Cert.ConvKRefIdeal.main_arg3))
      ∧ r.2.sem = fun _ => 0)

def quiescent_ConvV [hConvV : Cert.ConvV.Facts] : Prop :=
  ∀ (m : (ℓ : Loc Cert.ConvV.nD Cert.ConvV.τ Cert.ConvV.sig) → Buf (Elt Bits) ℓ) (g : Dev Cert.ConvV.nD → PrngReg), Pre_ConvV m →
    θ_run (Cert.ConvV.defs (F := Bits)) (onTc (τ := Cert.ConvV.τ) (Cert.ConvV.main (F := Bits))) ⟨m, fun _ => 0, g⟩ (fun r => (∀ c : Dev Cert.ConvV.nD,
      r.2.mem ((c.tc : Thread Cert.ConvV.nD Cert.ConvV.τ).loc Cert.ConvV.main_arg0) = m ((c.tc : Thread Cert.ConvV.nD Cert.ConvV.τ).loc Cert.ConvV.main_arg0)
      ∧ r.2.mem ((c.tc : Thread Cert.ConvV.nD Cert.ConvV.τ).loc Cert.ConvV.main_arg1) = m ((c.tc : Thread Cert.ConvV.nD Cert.ConvV.τ).loc Cert.ConvV.main_arg1)
      ∧ r.2.mem ((c.tc : Thread Cert.ConvV.nD Cert.ConvV.τ).loc Cert.ConvV.main_arg2) = m ((c.tc : Thread Cert.ConvV.nD Cert.ConvV.τ).loc Cert.ConvV.main_arg2))
      ∧ r.2.sem = fun _ => 0)

def quiescent_ConvVIdeal [hConvVIdeal : Cert.ConvVIdeal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
      ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2))
      ∧ r.2.sem = fun _ => 0)

def quiescent_ConvVRefIdeal [hConvVRefIdeal : Cert.ConvVRefIdeal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1)
      ∧ r.2.mem ((c.tc : Thread Cert.ConvVRefIdeal.nD Cert.ConvVRefIdeal.τ).loc Cert.ConvVRefIdeal.main_arg2) = m ((c.tc : Thread Cert.ConvVRefIdeal.nD Cert.ConvVRefIdeal.τ).loc Cert.ConvVRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesIdeal_pre_gates_regular [hGatesIdeal : Cert.GatesIdeal.Facts] [hPre_gates_regular : Cert.Pre_gates_regular.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_gates_regular m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5))
      ∧ r.2.sem = fun _ => 0)

def quiescent_GatesRefIdeal_pre_gates_regular [hGatesRefIdeal : Cert.GatesRefIdeal.Facts] [hPre_gates_regular : Cert.Pre_gates_regular.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_gates_regular m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1))
      ∧ r.2.sem = fun _ => 0)

def quiescent_SguF [hSguF : Cert.SguF.Facts] : Prop :=
  ∀ (m : (ℓ : Loc Cert.SguF.nD Cert.SguF.τ Cert.SguF.sig) → Buf (Elt Bits) ℓ) (g : Dev Cert.SguF.nD → PrngReg), Pre_SguF m →
    θ_run (Cert.SguF.defs (F := Bits)) (onTc (τ := Cert.SguF.τ) (Cert.SguF.main (F := Bits))) ⟨m, fun _ => 0, g⟩ (fun r => (∀ c : Dev Cert.SguF.nD,
      r.2.mem ((c.tc : Thread Cert.SguF.nD Cert.SguF.τ).loc Cert.SguF.main_arg0) = m ((c.tc : Thread Cert.SguF.nD Cert.SguF.τ).loc Cert.SguF.main_arg0)
      ∧ r.2.mem ((c.tc : Thread Cert.SguF.nD Cert.SguF.τ).loc Cert.SguF.main_arg1) = m ((c.tc : Thread Cert.SguF.nD Cert.SguF.τ).loc Cert.SguF.main_arg1)
      ∧ r.2.mem ((c.tc : Thread Cert.SguF.nD Cert.SguF.τ).loc Cert.SguF.main_arg2) = m ((c.tc : Thread Cert.SguF.nD Cert.SguF.τ).loc Cert.SguF.main_arg2)
      ∧ r.2.mem ((c.tc : Thread Cert.SguF.nD Cert.SguF.τ).loc Cert.SguF.main_arg3) = m ((c.tc : Thread Cert.SguF.nD Cert.SguF.τ).loc Cert.SguF.main_arg3))
      ∧ r.2.sem = fun _ => 0)

def quiescent_SguFIdeal [hSguFIdeal : Cert.SguFIdeal.Facts] : Prop :=
  ∀ (m : (ℓ : Loc Cert.SguFIdeal.nD Cert.SguFIdeal.τ Cert.SguFIdeal.sig) → Buf (Elt Ideal) ℓ) (g : Dev Cert.SguFIdeal.nD → PrngReg), Pre_SguFIdeal m →
    θ_run (Cert.SguFIdeal.defs (F := Ideal)) (onTc (τ := Cert.SguFIdeal.τ) (Cert.SguFIdeal.main (F := Ideal))) ⟨m, fun _ => 0, g⟩ (fun r => (∀ c : Dev Cert.SguFIdeal.nD,
      r.2.mem ((c.tc : Thread Cert.SguFIdeal.nD Cert.SguFIdeal.τ).loc Cert.SguFIdeal.main_arg0) = m ((c.tc : Thread Cert.SguFIdeal.nD Cert.SguFIdeal.τ).loc Cert.SguFIdeal.main_arg0)
      ∧ r.2.mem ((c.tc : Thread Cert.SguFIdeal.nD Cert.SguFIdeal.τ).loc Cert.SguFIdeal.main_arg1) = m ((c.tc : Thread Cert.SguFIdeal.nD Cert.SguFIdeal.τ).loc Cert.SguFIdeal.main_arg1)
      ∧ r.2.mem ((c.tc : Thread Cert.SguFIdeal.nD Cert.SguFIdeal.τ).loc Cert.SguFIdeal.main_arg2) = m ((c.tc : Thread Cert.SguFIdeal.nD Cert.SguFIdeal.τ).loc Cert.SguFIdeal.main_arg2)
      ∧ r.2.mem ((c.tc : Thread Cert.SguFIdeal.nD Cert.SguFIdeal.τ).loc Cert.SguFIdeal.main_arg3) = m ((c.tc : Thread Cert.SguFIdeal.nD Cert.SguFIdeal.τ).loc Cert.SguFIdeal.main_arg3))
      ∧ r.2.sem = fun _ => 0)

def quiescent_SguFRefIdeal [hSguFRefIdeal : Cert.SguFRefIdeal.Facts] : Prop :=
  ∀ (m : (ℓ : Loc Cert.SguFRefIdeal.nD Cert.SguFRefIdeal.τ Cert.SguFRefIdeal.sig) → Buf (Elt Ideal) ℓ) (g : Dev Cert.SguFRefIdeal.nD → PrngReg), Pre_SguFRefIdeal m →
    θ_run (Cert.SguFRefIdeal.defs (F := Ideal)) (onTc (τ := Cert.SguFRefIdeal.τ) (Cert.SguFRefIdeal.main (F := Ideal))) ⟨m, fun _ => 0, g⟩ (fun r => (∀ c : Dev Cert.SguFRefIdeal.nD,
      r.2.mem ((c.tc : Thread Cert.SguFRefIdeal.nD Cert.SguFRefIdeal.τ).loc Cert.SguFRefIdeal.main_arg0) = m ((c.tc : Thread Cert.SguFRefIdeal.nD Cert.SguFRefIdeal.τ).loc Cert.SguFRefIdeal.main_arg0)
      ∧ r.2.mem ((c.tc : Thread Cert.SguFRefIdeal.nD Cert.SguFRefIdeal.τ).loc Cert.SguFRefIdeal.main_arg1) = m ((c.tc : Thread Cert.SguFRefIdeal.nD Cert.SguFRefIdeal.τ).loc Cert.SguFRefIdeal.main_arg1)
      ∧ r.2.mem ((c.tc : Thread Cert.SguFRefIdeal.nD Cert.SguFRefIdeal.τ).loc Cert.SguFRefIdeal.main_arg2) = m ((c.tc : Thread Cert.SguFRefIdeal.nD Cert.SguFRefIdeal.τ).loc Cert.SguFRefIdeal.main_arg2)
      ∧ r.2.mem ((c.tc : Thread Cert.SguFRefIdeal.nD Cert.SguFRefIdeal.τ).loc Cert.SguFRefIdeal.main_arg3) = m ((c.tc : Thread Cert.SguFRefIdeal.nD Cert.SguFRefIdeal.τ).loc Cert.SguFRefIdeal.main_arg3))
      ∧ r.2.sem = fun _ => 0)

def quiescent_ConvQF [hConvQF : Cert.ConvQF.Facts] : Prop :=
  ∀ (m : (ℓ : Loc Cert.ConvQF.nD Cert.ConvQF.τ Cert.ConvQF.sig) → Buf (Elt Bits) ℓ) (g : Dev Cert.ConvQF.nD → PrngReg), Pre_ConvQF m →
    θ_run (Cert.ConvQF.defs (F := Bits)) (onTc (τ := Cert.ConvQF.τ) (Cert.ConvQF.main (F := Bits))) ⟨m, fun _ => 0, g⟩ (fun r => (∀ c : Dev Cert.ConvQF.nD,
      r.2.mem ((c.tc : Thread Cert.ConvQF.nD Cert.ConvQF.τ).loc Cert.ConvQF.main_arg0) = m ((c.tc : Thread Cert.ConvQF.nD Cert.ConvQF.τ).loc Cert.ConvQF.main_arg0)
      ∧ r.2.mem ((c.tc : Thread Cert.ConvQF.nD Cert.ConvQF.τ).loc Cert.ConvQF.main_arg1) = m ((c.tc : Thread Cert.ConvQF.nD Cert.ConvQF.τ).loc Cert.ConvQF.main_arg1))
      ∧ r.2.sem = fun _ => 0)

def quiescent_ConvQFIdeal [hConvQFIdeal : Cert.ConvQFIdeal.Facts] : Prop :=
  ∀ (m : (ℓ : Loc Cert.ConvQFIdeal.nD Cert.ConvQFIdeal.τ Cert.ConvQFIdeal.sig) → Buf (Elt Ideal) ℓ) (g : Dev Cert.ConvQFIdeal.nD → PrngReg), Pre_ConvQFIdeal m →
    θ_run (Cert.ConvQFIdeal.defs (F := Ideal)) (onTc (τ := Cert.ConvQFIdeal.τ) (Cert.ConvQFIdeal.main (F := Ideal))) ⟨m, fun _ => 0, g⟩ (fun r => (∀ c : Dev Cert.ConvQFIdeal.nD,
      r.2.mem ((c.tc : Thread Cert.ConvQFIdeal.nD Cert.ConvQFIdeal.τ).loc Cert.ConvQFIdeal.main_arg0) = m ((c.tc : Thread Cert.ConvQFIdeal.nD Cert.ConvQFIdeal.τ).loc Cert.ConvQFIdeal.main_arg0)
      ∧ r.2.mem ((c.tc : Thread Cert.ConvQFIdeal.nD Cert.ConvQFIdeal.τ).loc Cert.ConvQFIdeal.main_arg1) = m ((c.tc : Thread Cert.ConvQFIdeal.nD Cert.ConvQFIdeal.τ).loc Cert.ConvQFIdeal.main_arg1))
      ∧ r.2.sem = fun _ => 0)

def quiescent_ConvQFRefIdeal [hConvQFRefIdeal : Cert.ConvQFRefIdeal.Facts] : Prop :=
  ∀ (m : (ℓ : Loc Cert.ConvQFRefIdeal.nD Cert.ConvQFRefIdeal.τ Cert.ConvQFRefIdeal.sig) → Buf (Elt Ideal) ℓ) (g : Dev Cert.ConvQFRefIdeal.nD → PrngReg), Pre_ConvQFRefIdeal m →
    θ_run (Cert.ConvQFRefIdeal.defs (F := Ideal)) (onTc (τ := Cert.ConvQFRefIdeal.τ) (Cert.ConvQFRefIdeal.main (F := Ideal))) ⟨m, fun _ => 0, g⟩ (fun r => (∀ c : Dev Cert.ConvQFRefIdeal.nD,
      r.2.mem ((c.tc : Thread Cert.ConvQFRefIdeal.nD Cert.ConvQFRefIdeal.τ).loc Cert.ConvQFRefIdeal.main_arg0) = m ((c.tc : Thread Cert.ConvQFRefIdeal.nD Cert.ConvQFRefIdeal.τ).loc Cert.ConvQFRefIdeal.main_arg0)
      ∧ r.2.mem ((c.tc : Thread Cert.ConvQFRefIdeal.nD Cert.ConvQFRefIdeal.τ).loc Cert.ConvQFRefIdeal.main_arg1) = m ((c.tc : Thread Cert.ConvQFRefIdeal.nD Cert.ConvQFRefIdeal.τ).loc Cert.ConvQFRefIdeal.main_arg1))
      ∧ r.2.sem = fun _ => 0)

def quiescent_ConvKF [hConvKF : Cert.ConvKF.Facts] : Prop :=
  ∀ (m : (ℓ : Loc Cert.ConvKF.nD Cert.ConvKF.τ Cert.ConvKF.sig) → Buf (Elt Bits) ℓ) (g : Dev Cert.ConvKF.nD → PrngReg), Pre_ConvKF m →
    θ_run (Cert.ConvKF.defs (F := Bits)) (onTc (τ := Cert.ConvKF.τ) (Cert.ConvKF.main (F := Bits))) ⟨m, fun _ => 0, g⟩ (fun r => (∀ c : Dev Cert.ConvKF.nD,
      r.2.mem ((c.tc : Thread Cert.ConvKF.nD Cert.ConvKF.τ).loc Cert.ConvKF.main_arg0) = m ((c.tc : Thread Cert.ConvKF.nD Cert.ConvKF.τ).loc Cert.ConvKF.main_arg0)
      ∧ r.2.mem ((c.tc : Thread Cert.ConvKF.nD Cert.ConvKF.τ).loc Cert.ConvKF.main_arg1) = m ((c.tc : Thread Cert.ConvKF.nD Cert.ConvKF.τ).loc Cert.ConvKF.main_arg1))
      ∧ r.2.sem = fun _ => 0)

def quiescent_ConvKFIdeal [hConvKFIdeal : Cert.ConvKFIdeal.Facts] : Prop :=
  ∀ (m : (ℓ : Loc Cert.ConvKFIdeal.nD Cert.ConvKFIdeal.τ Cert.ConvKFIdeal.sig) → Buf (Elt Ideal) ℓ) (g : Dev Cert.ConvKFIdeal.nD → PrngReg), Pre_ConvKFIdeal m →
    θ_run (Cert.ConvKFIdeal.defs (F := Ideal)) (onTc (τ := Cert.ConvKFIdeal.τ) (Cert.ConvKFIdeal.main (F := Ideal))) ⟨m, fun _ => 0, g⟩ (fun r => (∀ c : Dev Cert.ConvKFIdeal.nD,
      r.2.mem ((c.tc : Thread Cert.ConvKFIdeal.nD Cert.ConvKFIdeal.τ).loc Cert.ConvKFIdeal.main_arg0) = m ((c.tc : Thread Cert.ConvKFIdeal.nD Cert.ConvKFIdeal.τ).loc Cert.ConvKFIdeal.main_arg0)
      ∧ r.2.mem ((c.tc : Thread Cert.ConvKFIdeal.nD Cert.ConvKFIdeal.τ).loc Cert.ConvKFIdeal.main_arg1) = m ((c.tc : Thread Cert.ConvKFIdeal.nD Cert.ConvKFIdeal.τ).loc Cert.ConvKFIdeal.main_arg1))
      ∧ r.2.sem = fun _ => 0)

def quiescent_ConvKFRefIdeal [hConvKFRefIdeal : Cert.ConvKFRefIdeal.Facts] : Prop :=
  ∀ (m : (ℓ : Loc Cert.ConvKFRefIdeal.nD Cert.ConvKFRefIdeal.τ Cert.ConvKFRefIdeal.sig) → Buf (Elt Ideal) ℓ) (g : Dev Cert.ConvKFRefIdeal.nD → PrngReg), Pre_ConvKFRefIdeal m →
    θ_run (Cert.ConvKFRefIdeal.defs (F := Ideal)) (onTc (τ := Cert.ConvKFRefIdeal.τ) (Cert.ConvKFRefIdeal.main (F := Ideal))) ⟨m, fun _ => 0, g⟩ (fun r => (∀ c : Dev Cert.ConvKFRefIdeal.nD,
      r.2.mem ((c.tc : Thread Cert.ConvKFRefIdeal.nD Cert.ConvKFRefIdeal.τ).loc Cert.ConvKFRefIdeal.main_arg0) = m ((c.tc : Thread Cert.ConvKFRefIdeal.nD Cert.ConvKFRefIdeal.τ).loc Cert.ConvKFRefIdeal.main_arg0)
      ∧ r.2.mem ((c.tc : Thread Cert.ConvKFRefIdeal.nD Cert.ConvKFRefIdeal.τ).loc Cert.ConvKFRefIdeal.main_arg1) = m ((c.tc : Thread Cert.ConvKFRefIdeal.nD Cert.ConvKFRefIdeal.τ).loc Cert.ConvKFRefIdeal.main_arg1))
      ∧ r.2.sem = fun _ => 0)

def quiescent_ConvVF [hConvVF : Cert.ConvVF.Facts] : Prop :=
  ∀ (m : (ℓ : Loc Cert.ConvVF.nD Cert.ConvVF.τ Cert.ConvVF.sig) → Buf (Elt Bits) ℓ) (g : Dev Cert.ConvVF.nD → PrngReg), Pre_ConvVF m →
    θ_run (Cert.ConvVF.defs (F := Bits)) (onTc (τ := Cert.ConvVF.τ) (Cert.ConvVF.main (F := Bits))) ⟨m, fun _ => 0, g⟩ (fun r => (∀ c : Dev Cert.ConvVF.nD,
      r.2.mem ((c.tc : Thread Cert.ConvVF.nD Cert.ConvVF.τ).loc Cert.ConvVF.main_arg0) = m ((c.tc : Thread Cert.ConvVF.nD Cert.ConvVF.τ).loc Cert.ConvVF.main_arg0)
      ∧ r.2.mem ((c.tc : Thread Cert.ConvVF.nD Cert.ConvVF.τ).loc Cert.ConvVF.main_arg1) = m ((c.tc : Thread Cert.ConvVF.nD Cert.ConvVF.τ).loc Cert.ConvVF.main_arg1))
      ∧ r.2.sem = fun _ => 0)

def quiescent_ConvVFIdeal [hConvVFIdeal : Cert.ConvVFIdeal.Facts] : Prop :=
  ∀ (m : (ℓ : Loc Cert.ConvVFIdeal.nD Cert.ConvVFIdeal.τ Cert.ConvVFIdeal.sig) → Buf (Elt Ideal) ℓ) (g : Dev Cert.ConvVFIdeal.nD → PrngReg), Pre_ConvVFIdeal m →
    θ_run (Cert.ConvVFIdeal.defs (F := Ideal)) (onTc (τ := Cert.ConvVFIdeal.τ) (Cert.ConvVFIdeal.main (F := Ideal))) ⟨m, fun _ => 0, g⟩ (fun r => (∀ c : Dev Cert.ConvVFIdeal.nD,
      r.2.mem ((c.tc : Thread Cert.ConvVFIdeal.nD Cert.ConvVFIdeal.τ).loc Cert.ConvVFIdeal.main_arg0) = m ((c.tc : Thread Cert.ConvVFIdeal.nD Cert.ConvVFIdeal.τ).loc Cert.ConvVFIdeal.main_arg0)
      ∧ r.2.mem ((c.tc : Thread Cert.ConvVFIdeal.nD Cert.ConvVFIdeal.τ).loc Cert.ConvVFIdeal.main_arg1) = m ((c.tc : Thread Cert.ConvVFIdeal.nD Cert.ConvVFIdeal.τ).loc Cert.ConvVFIdeal.main_arg1))
      ∧ r.2.sem = fun _ => 0)

def quiescent_ConvVFRefIdeal [hConvVFRefIdeal : Cert.ConvVFRefIdeal.Facts] : Prop :=
  ∀ (m : (ℓ : Loc Cert.ConvVFRefIdeal.nD Cert.ConvVFRefIdeal.τ Cert.ConvVFRefIdeal.sig) → Buf (Elt Ideal) ℓ) (g : Dev Cert.ConvVFRefIdeal.nD → PrngReg), Pre_ConvVFRefIdeal m →
    θ_run (Cert.ConvVFRefIdeal.defs (F := Ideal)) (onTc (τ := Cert.ConvVFRefIdeal.τ) (Cert.ConvVFRefIdeal.main (F := Ideal))) ⟨m, fun _ => 0, g⟩ (fun r => (∀ c : Dev Cert.ConvVFRefIdeal.nD,
      r.2.mem ((c.tc : Thread Cert.ConvVFRefIdeal.nD Cert.ConvVFRefIdeal.τ).loc Cert.ConvVFRefIdeal.main_arg0) = m ((c.tc : Thread Cert.ConvVFRefIdeal.nD Cert.ConvVFRefIdeal.τ).loc Cert.ConvVFRefIdeal.main_arg0)
      ∧ r.2.mem ((c.tc : Thread Cert.ConvVFRefIdeal.nD Cert.ConvVFRefIdeal.τ).loc Cert.ConvVFRefIdeal.main_arg1) = m ((c.tc : Thread Cert.ConvVFRefIdeal.nD Cert.ConvVFRefIdeal.τ).loc Cert.ConvVFRefIdeal.main_arg1))
      ∧ r.2.sem = fun _ => 0)

def quiescent_GatesF [hGatesF : Cert.GatesF.Facts] : Prop :=
  ∀ (m : (ℓ : Loc Cert.GatesF.nD Cert.GatesF.τ Cert.GatesF.sig) → Buf (Elt Bits) ℓ) (g : Dev Cert.GatesF.nD → PrngReg), Pre_GatesF m →
    θ_run (Cert.GatesF.defs (F := Bits)) (onTc (τ := Cert.GatesF.τ) (Cert.GatesF.main (F := Bits))) ⟨m, fun _ => 0, g⟩ (fun r => (∀ c : Dev Cert.GatesF.nD,
      r.2.mem ((c.tc : Thread Cert.GatesF.nD Cert.GatesF.τ).loc Cert.GatesF.main_arg0) = m ((c.tc : Thread Cert.GatesF.nD Cert.GatesF.τ).loc Cert.GatesF.main_arg0)
      ∧ r.2.mem ((c.tc : Thread Cert.GatesF.nD Cert.GatesF.τ).loc Cert.GatesF.main_arg1) = m ((c.tc : Thread Cert.GatesF.nD Cert.GatesF.τ).loc Cert.GatesF.main_arg1)
      ∧ r.2.mem ((c.tc : Thread Cert.GatesF.nD Cert.GatesF.τ).loc Cert.GatesF.main_arg2) = m ((c.tc : Thread Cert.GatesF.nD Cert.GatesF.τ).loc Cert.GatesF.main_arg2))
      ∧ r.2.sem = fun _ => 0)

def quiescent_GatesFIdeal [hGatesFIdeal : Cert.GatesFIdeal.Facts] : Prop :=
  ∀ (m : (ℓ : Loc Cert.GatesFIdeal.nD Cert.GatesFIdeal.τ Cert.GatesFIdeal.sig) → Buf (Elt Ideal) ℓ) (g : Dev Cert.GatesFIdeal.nD → PrngReg), Pre_GatesFIdeal m →
    θ_run (Cert.GatesFIdeal.defs (F := Ideal)) (onTc (τ := Cert.GatesFIdeal.τ) (Cert.GatesFIdeal.main (F := Ideal))) ⟨m, fun _ => 0, g⟩ (fun r => (∀ c : Dev Cert.GatesFIdeal.nD,
      r.2.mem ((c.tc : Thread Cert.GatesFIdeal.nD Cert.GatesFIdeal.τ).loc Cert.GatesFIdeal.main_arg0) = m ((c.tc : Thread Cert.GatesFIdeal.nD Cert.GatesFIdeal.τ).loc Cert.GatesFIdeal.main_arg0)
      ∧ r.2.mem ((c.tc : Thread Cert.GatesFIdeal.nD Cert.GatesFIdeal.τ).loc Cert.GatesFIdeal.main_arg1) = m ((c.tc : Thread Cert.GatesFIdeal.nD Cert.GatesFIdeal.τ).loc Cert.GatesFIdeal.main_arg1)
      ∧ r.2.mem ((c.tc : Thread Cert.GatesFIdeal.nD Cert.GatesFIdeal.τ).loc Cert.GatesFIdeal.main_arg2) = m ((c.tc : Thread Cert.GatesFIdeal.nD Cert.GatesFIdeal.τ).loc Cert.GatesFIdeal.main_arg2))
      ∧ r.2.sem = fun _ => 0)

def quiescent_GatesFRefIdeal [hGatesFRefIdeal : Cert.GatesFRefIdeal.Facts] : Prop :=
  ∀ (m : (ℓ : Loc Cert.GatesFRefIdeal.nD Cert.GatesFRefIdeal.τ Cert.GatesFRefIdeal.sig) → Buf (Elt Ideal) ℓ) (g : Dev Cert.GatesFRefIdeal.nD → PrngReg), Pre_GatesFRefIdeal m →
    θ_run (Cert.GatesFRefIdeal.defs (F := Ideal)) (onTc (τ := Cert.GatesFRefIdeal.τ) (Cert.GatesFRefIdeal.main (F := Ideal))) ⟨m, fun _ => 0, g⟩ (fun r => (∀ c : Dev Cert.GatesFRefIdeal.nD,
      r.2.mem ((c.tc : Thread Cert.GatesFRefIdeal.nD Cert.GatesFRefIdeal.τ).loc Cert.GatesFRefIdeal.main_arg0) = m ((c.tc : Thread Cert.GatesFRefIdeal.nD Cert.GatesFRefIdeal.τ).loc Cert.GatesFRefIdeal.main_arg0)
      ∧ r.2.mem ((c.tc : Thread Cert.GatesFRefIdeal.nD Cert.GatesFRefIdeal.τ).loc Cert.GatesFRefIdeal.main_arg1) = m ((c.tc : Thread Cert.GatesFRefIdeal.nD Cert.GatesFRefIdeal.τ).loc Cert.GatesFRefIdeal.main_arg1)
      ∧ r.2.mem ((c.tc : Thread Cert.GatesFRefIdeal.nD Cert.GatesFRefIdeal.τ).loc Cert.GatesFRefIdeal.main_arg2) = m ((c.tc : Thread Cert.GatesFRefIdeal.nD Cert.GatesFRefIdeal.τ).loc Cert.GatesFRefIdeal.main_arg2))
      ∧ r.2.sem = fun _ => 0)

def quiescent_SwigluF [hSwigluF : Cert.SwigluF.Facts] : Prop :=
  ∀ (m : (ℓ : Loc Cert.SwigluF.nD Cert.SwigluF.τ Cert.SwigluF.sig) → Buf (Elt Bits) ℓ) (g : Dev Cert.SwigluF.nD → PrngReg), Pre_SwigluF m →
    θ_run (Cert.SwigluF.defs (F := Bits)) (onTc (τ := Cert.SwigluF.τ) (Cert.SwigluF.main (F := Bits))) ⟨m, fun _ => 0, g⟩ (fun r => (∀ c : Dev Cert.SwigluF.nD,
      r.2.mem ((c.tc : Thread Cert.SwigluF.nD Cert.SwigluF.τ).loc Cert.SwigluF.main_arg0) = m ((c.tc : Thread Cert.SwigluF.nD Cert.SwigluF.τ).loc Cert.SwigluF.main_arg0)
      ∧ r.2.mem ((c.tc : Thread Cert.SwigluF.nD Cert.SwigluF.τ).loc Cert.SwigluF.main_arg1) = m ((c.tc : Thread Cert.SwigluF.nD Cert.SwigluF.τ).loc Cert.SwigluF.main_arg1))
      ∧ r.2.sem = fun _ => 0)

def quiescent_SwigluFIdeal [hSwigluFIdeal : Cert.SwigluFIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg), Pre_SwigluFIdeal m →
    θ_run (Cert.SwigluFIdeal.defs (F := Ideal)) (onTc (τ := Cert.SwigluFIdeal.τ) (Cert.SwigluFIdeal.main (F := Ideal))) ⟨m, fun _ => 0, g⟩ (fun r => (∀ c : Dev Cert.SwigluFIdeal.nD,
      r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0)
      ∧ r.2.mem ((c.tc : Thread Cert.SwigluFIdeal.nD Cert.SwigluFIdeal.τ).loc Cert.SwigluFIdeal.main_arg1) = m ((c.tc : Thread Cert.SwigluFIdeal.nD Cert.SwigluFIdeal.τ).loc Cert.SwigluFIdeal.main_arg1))
      ∧ r.2.sem = fun _ => 0)

def quiescent_SwigluFRefIdeal [hSwigluFRefIdeal : Cert.SwigluFRefIdeal.Facts] : Prop :=
  ∀ (m : (ℓ : Loc Cert.SwigluFRefIdeal.nD Cert.SwigluFRefIdeal.τ Cert.SwigluFRefIdeal.sig) → Buf (Elt Ideal) ℓ) (g : Dev Cert.SwigluFRefIdeal.nD → PrngReg), Pre_SwigluFRefIdeal m →
    θ_run (Cert.SwigluFRefIdeal.defs (F := Ideal)) (onTc (τ := Cert.SwigluFRefIdeal.τ) (Cert.SwigluFRefIdeal.main (F := Ideal))) ⟨m, fun _ => 0, g⟩ (fun r => (∀ c : Dev Cert.SwigluFRefIdeal.nD,
      r.2.mem ((c.tc : Thread Cert.SwigluFRefIdeal.nD Cert.SwigluFRefIdeal.τ).loc Cert.SwigluFRefIdeal.main_arg0) = m ((c.tc : Thread Cert.SwigluFRefIdeal.nD Cert.SwigluFRefIdeal.τ).loc Cert.SwigluFRefIdeal.main_arg0)
      ∧ r.2.mem ((c.tc : Thread Cert.SwigluFRefIdeal.nD Cert.SwigluFRefIdeal.τ).loc Cert.SwigluFRefIdeal.main_arg1) = m ((c.tc : Thread Cert.SwigluFRefIdeal.nD Cert.SwigluFRefIdeal.τ).loc Cert.SwigluFRefIdeal.main_arg1))
      ∧ r.2.sem = fun _ => 0)

def quiescent_ScanF [hScanF : Cert.ScanF.Facts] : Prop :=
  ∀ (m : (ℓ : Loc Cert.ScanF.nD Cert.ScanF.τ Cert.ScanF.sig) → Buf (Elt Bits) ℓ) (g : Dev Cert.ScanF.nD → PrngReg), Pre_ScanF m →
    θ_run (Cert.ScanF.defs (F := Bits)) (onTc (τ := Cert.ScanF.τ) (Cert.ScanF.main (F := Bits))) ⟨m, fun _ => 0, g⟩ (fun r => (∀ c : Dev Cert.ScanF.nD,
      r.2.mem ((c.tc : Thread Cert.ScanF.nD Cert.ScanF.τ).loc Cert.ScanF.main_arg0) = m ((c.tc : Thread Cert.ScanF.nD Cert.ScanF.τ).loc Cert.ScanF.main_arg0)
      ∧ r.2.mem ((c.tc : Thread Cert.ScanF.nD Cert.ScanF.τ).loc Cert.ScanF.main_arg1) = m ((c.tc : Thread Cert.ScanF.nD Cert.ScanF.τ).loc Cert.ScanF.main_arg1)
      ∧ r.2.mem ((c.tc : Thread Cert.ScanF.nD Cert.ScanF.τ).loc Cert.ScanF.main_arg2) = m ((c.tc : Thread Cert.ScanF.nD Cert.ScanF.τ).loc Cert.ScanF.main_arg2)
      ∧ r.2.mem ((c.tc : Thread Cert.ScanF.nD Cert.ScanF.τ).loc Cert.ScanF.main_arg3) = m ((c.tc : Thread Cert.ScanF.nD Cert.ScanF.τ).loc Cert.ScanF.main_arg3)
      ∧ r.2.mem ((c.tc : Thread Cert.ScanF.nD Cert.ScanF.τ).loc Cert.ScanF.main_arg4) = m ((c.tc : Thread Cert.ScanF.nD Cert.ScanF.τ).loc Cert.ScanF.main_arg4)
      ∧ r.2.mem ((c.tc : Thread Cert.ScanF.nD Cert.ScanF.τ).loc Cert.ScanF.main_arg5) = m ((c.tc : Thread Cert.ScanF.nD Cert.ScanF.τ).loc Cert.ScanF.main_arg5)
      ∧ r.2.mem ((c.tc : Thread Cert.ScanF.nD Cert.ScanF.τ).loc Cert.ScanF.main_arg6) = m ((c.tc : Thread Cert.ScanF.nD Cert.ScanF.τ).loc Cert.ScanF.main_arg6)
      ∧ r.2.mem ((c.tc : Thread Cert.ScanF.nD Cert.ScanF.τ).loc Cert.ScanF.main_arg7) = m ((c.tc : Thread Cert.ScanF.nD Cert.ScanF.τ).loc Cert.ScanF.main_arg7))
      ∧ r.2.sem = fun _ => 0)

def quiescent_ScanFIdeal [hScanFIdeal : Cert.ScanFIdeal.Facts] : Prop :=
  ∀ (m : (ℓ : Loc Cert.ScanFIdeal.nD Cert.ScanFIdeal.τ Cert.ScanFIdeal.sig) → Buf (Elt Ideal) ℓ) (g : Dev Cert.ScanFIdeal.nD → PrngReg), Pre_ScanFIdeal m →
    θ_run (Cert.ScanFIdeal.defs (F := Ideal)) (onTc (τ := Cert.ScanFIdeal.τ) (Cert.ScanFIdeal.main (F := Ideal))) ⟨m, fun _ => 0, g⟩ (fun r => (∀ c : Dev Cert.ScanFIdeal.nD,
      r.2.mem ((c.tc : Thread Cert.ScanFIdeal.nD Cert.ScanFIdeal.τ).loc Cert.ScanFIdeal.main_arg0) = m ((c.tc : Thread Cert.ScanFIdeal.nD Cert.ScanFIdeal.τ).loc Cert.ScanFIdeal.main_arg0)
      ∧ r.2.mem ((c.tc : Thread Cert.ScanFIdeal.nD Cert.ScanFIdeal.τ).loc Cert.ScanFIdeal.main_arg1) = m ((c.tc : Thread Cert.ScanFIdeal.nD Cert.ScanFIdeal.τ).loc Cert.ScanFIdeal.main_arg1)
      ∧ r.2.mem ((c.tc : Thread Cert.ScanFIdeal.nD Cert.ScanFIdeal.τ).loc Cert.ScanFIdeal.main_arg2) = m ((c.tc : Thread Cert.ScanFIdeal.nD Cert.ScanFIdeal.τ).loc Cert.ScanFIdeal.main_arg2)
      ∧ r.2.mem ((c.tc : Thread Cert.ScanFIdeal.nD Cert.ScanFIdeal.τ).loc Cert.ScanFIdeal.main_arg3) = m ((c.tc : Thread Cert.ScanFIdeal.nD Cert.ScanFIdeal.τ).loc Cert.ScanFIdeal.main_arg3)
      ∧ r.2.mem ((c.tc : Thread Cert.ScanFIdeal.nD Cert.ScanFIdeal.τ).loc Cert.ScanFIdeal.main_arg4) = m ((c.tc : Thread Cert.ScanFIdeal.nD Cert.ScanFIdeal.τ).loc Cert.ScanFIdeal.main_arg4)
      ∧ r.2.mem ((c.tc : Thread Cert.ScanFIdeal.nD Cert.ScanFIdeal.τ).loc Cert.ScanFIdeal.main_arg5) = m ((c.tc : Thread Cert.ScanFIdeal.nD Cert.ScanFIdeal.τ).loc Cert.ScanFIdeal.main_arg5)
      ∧ r.2.mem ((c.tc : Thread Cert.ScanFIdeal.nD Cert.ScanFIdeal.τ).loc Cert.ScanFIdeal.main_arg6) = m ((c.tc : Thread Cert.ScanFIdeal.nD Cert.ScanFIdeal.τ).loc Cert.ScanFIdeal.main_arg6)
      ∧ r.2.mem ((c.tc : Thread Cert.ScanFIdeal.nD Cert.ScanFIdeal.τ).loc Cert.ScanFIdeal.main_arg7) = m ((c.tc : Thread Cert.ScanFIdeal.nD Cert.ScanFIdeal.τ).loc Cert.ScanFIdeal.main_arg7))
      ∧ r.2.sem = fun _ => 0)

def quiescent_ScanFRefIdeal [hScanFRefIdeal : Cert.ScanFRefIdeal.Facts] : Prop :=
  ∀ (m : (ℓ : Loc Cert.ScanFRefIdeal.nD Cert.ScanFRefIdeal.τ Cert.ScanFRefIdeal.sig) → Buf (Elt Ideal) ℓ) (g : Dev Cert.ScanFRefIdeal.nD → PrngReg), Pre_ScanFRefIdeal m →
    θ_run (Cert.ScanFRefIdeal.defs (F := Ideal)) (onTc (τ := Cert.ScanFRefIdeal.τ) (Cert.ScanFRefIdeal.main (F := Ideal))) ⟨m, fun _ => 0, g⟩ (fun r => (∀ c : Dev Cert.ScanFRefIdeal.nD,
      r.2.mem ((c.tc : Thread Cert.ScanFRefIdeal.nD Cert.ScanFRefIdeal.τ).loc Cert.ScanFRefIdeal.main_arg0) = m ((c.tc : Thread Cert.ScanFRefIdeal.nD Cert.ScanFRefIdeal.τ).loc Cert.ScanFRefIdeal.main_arg0)
      ∧ r.2.mem ((c.tc : Thread Cert.ScanFRefIdeal.nD Cert.ScanFRefIdeal.τ).loc Cert.ScanFRefIdeal.main_arg1) = m ((c.tc : Thread Cert.ScanFRefIdeal.nD Cert.ScanFRefIdeal.τ).loc Cert.ScanFRefIdeal.main_arg1)
      ∧ r.2.mem ((c.tc : Thread Cert.ScanFRefIdeal.nD Cert.ScanFRefIdeal.τ).loc Cert.ScanFRefIdeal.main_arg2) = m ((c.tc : Thread Cert.ScanFRefIdeal.nD Cert.ScanFRefIdeal.τ).loc Cert.ScanFRefIdeal.main_arg2)
      ∧ r.2.mem ((c.tc : Thread Cert.ScanFRefIdeal.nD Cert.ScanFRefIdeal.τ).loc Cert.ScanFRefIdeal.main_arg3) = m ((c.tc : Thread Cert.ScanFRefIdeal.nD Cert.ScanFRefIdeal.τ).loc Cert.ScanFRefIdeal.main_arg3)
      ∧ r.2.mem ((c.tc : Thread Cert.ScanFRefIdeal.nD Cert.ScanFRefIdeal.τ).loc Cert.ScanFRefIdeal.main_arg4) = m ((c.tc : Thread Cert.ScanFRefIdeal.nD Cert.ScanFRefIdeal.τ).loc Cert.ScanFRefIdeal.main_arg4)
      ∧ r.2.mem ((c.tc : Thread Cert.ScanFRefIdeal.nD Cert.ScanFRefIdeal.τ).loc Cert.ScanFRefIdeal.main_arg5) = m ((c.tc : Thread Cert.ScanFRefIdeal.nD Cert.ScanFRefIdeal.τ).loc Cert.ScanFRefIdeal.main_arg5)
      ∧ r.2.mem ((c.tc : Thread Cert.ScanFRefIdeal.nD Cert.ScanFRefIdeal.τ).loc Cert.ScanFRefIdeal.main_arg6) = m ((c.tc : Thread Cert.ScanFRefIdeal.nD Cert.ScanFRefIdeal.τ).loc Cert.ScanFRefIdeal.main_arg6)
      ∧ r.2.mem ((c.tc : Thread Cert.ScanFRefIdeal.nD Cert.ScanFRefIdeal.τ).loc Cert.ScanFRefIdeal.main_arg7) = m ((c.tc : Thread Cert.ScanFRefIdeal.nD Cert.ScanFRefIdeal.τ).loc Cert.ScanFRefIdeal.main_arg7))
      ∧ r.2.sem = fun _ => 0)

def quiescent_WyF [hWyF : Cert.WyF.Facts] : Prop :=
  ∀ (m : (ℓ : Loc Cert.WyF.nD Cert.WyF.τ Cert.WyF.sig) → Buf (Elt Bits) ℓ) (g : Dev Cert.WyF.nD → PrngReg), Pre_WyF m →
    θ_run (Cert.WyF.defs (F := Bits)) (onTc (τ := Cert.WyF.τ) (Cert.WyF.main (F := Bits))) ⟨m, fun _ => 0, g⟩ (fun r => (∀ c : Dev Cert.WyF.nD,
      r.2.mem ((c.tc : Thread Cert.WyF.nD Cert.WyF.τ).loc Cert.WyF.main_arg0) = m ((c.tc : Thread Cert.WyF.nD Cert.WyF.τ).loc Cert.WyF.main_arg0)
      ∧ r.2.mem ((c.tc : Thread Cert.WyF.nD Cert.WyF.τ).loc Cert.WyF.main_arg1) = m ((c.tc : Thread Cert.WyF.nD Cert.WyF.τ).loc Cert.WyF.main_arg1)
      ∧ r.2.mem ((c.tc : Thread Cert.WyF.nD Cert.WyF.τ).loc Cert.WyF.main_arg2) = m ((c.tc : Thread Cert.WyF.nD Cert.WyF.τ).loc Cert.WyF.main_arg2)
      ∧ r.2.mem ((c.tc : Thread Cert.WyF.nD Cert.WyF.τ).loc Cert.WyF.main_arg3) = m ((c.tc : Thread Cert.WyF.nD Cert.WyF.τ).loc Cert.WyF.main_arg3)
      ∧ r.2.mem ((c.tc : Thread Cert.WyF.nD Cert.WyF.τ).loc Cert.WyF.main_arg4) = m ((c.tc : Thread Cert.WyF.nD Cert.WyF.τ).loc Cert.WyF.main_arg4))
      ∧ r.2.sem = fun _ => 0)

def quiescent_WyFIdeal [hWyFIdeal : Cert.WyFIdeal.Facts] : Prop :=
  ∀ (m : (ℓ : Loc Cert.WyFIdeal.nD Cert.WyFIdeal.τ Cert.WyFIdeal.sig) → Buf (Elt Ideal) ℓ) (g : Dev Cert.WyFIdeal.nD → PrngReg), Pre_WyFIdeal m →
    θ_run (Cert.WyFIdeal.defs (F := Ideal)) (onTc (τ := Cert.WyFIdeal.τ) (Cert.WyFIdeal.main (F := Ideal))) ⟨m, fun _ => 0, g⟩ (fun r => (∀ c : Dev Cert.WyFIdeal.nD,
      r.2.mem ((c.tc : Thread Cert.WyFIdeal.nD Cert.WyFIdeal.τ).loc Cert.WyFIdeal.main_arg0) = m ((c.tc : Thread Cert.WyFIdeal.nD Cert.WyFIdeal.τ).loc Cert.WyFIdeal.main_arg0)
      ∧ r.2.mem ((c.tc : Thread Cert.WyFIdeal.nD Cert.WyFIdeal.τ).loc Cert.WyFIdeal.main_arg1) = m ((c.tc : Thread Cert.WyFIdeal.nD Cert.WyFIdeal.τ).loc Cert.WyFIdeal.main_arg1)
      ∧ r.2.mem ((c.tc : Thread Cert.WyFIdeal.nD Cert.WyFIdeal.τ).loc Cert.WyFIdeal.main_arg2) = m ((c.tc : Thread Cert.WyFIdeal.nD Cert.WyFIdeal.τ).loc Cert.WyFIdeal.main_arg2)
      ∧ r.2.mem ((c.tc : Thread Cert.WyFIdeal.nD Cert.WyFIdeal.τ).loc Cert.WyFIdeal.main_arg3) = m ((c.tc : Thread Cert.WyFIdeal.nD Cert.WyFIdeal.τ).loc Cert.WyFIdeal.main_arg3)
      ∧ r.2.mem ((c.tc : Thread Cert.WyFIdeal.nD Cert.WyFIdeal.τ).loc Cert.WyFIdeal.main_arg4) = m ((c.tc : Thread Cert.WyFIdeal.nD Cert.WyFIdeal.τ).loc Cert.WyFIdeal.main_arg4))
      ∧ r.2.sem = fun _ => 0)

def quiescent_WyFIdeal_pre_wy_finite [hWyFIdeal : Cert.WyFIdeal.Facts] [hPre_wy_finite : Cert.Pre_wy_finite.Facts] : Prop :=
  ∀ (m : (ℓ : Loc Cert.WyFIdeal.nD Cert.WyFIdeal.τ Cert.WyFIdeal.sig) → Buf (Elt Ideal) ℓ) (g : Dev Cert.WyFIdeal.nD → PrngReg), Pre_WyFIdeal_wy_finite m →
    θ_run (Cert.WyFIdeal.defs (F := Ideal)) (onTc (τ := Cert.WyFIdeal.τ) (Cert.WyFIdeal.main (F := Ideal))) ⟨m, fun _ => 0, g⟩ (fun r => (∀ c : Dev Cert.WyFIdeal.nD,
      r.2.mem ((c.tc : Thread Cert.WyFIdeal.nD Cert.WyFIdeal.τ).loc Cert.WyFIdeal.main_arg0) = m ((c.tc : Thread Cert.WyFIdeal.nD Cert.WyFIdeal.τ).loc Cert.WyFIdeal.main_arg0)
      ∧ r.2.mem ((c.tc : Thread Cert.WyFIdeal.nD Cert.WyFIdeal.τ).loc Cert.WyFIdeal.main_arg1) = m ((c.tc : Thread Cert.WyFIdeal.nD Cert.WyFIdeal.τ).loc Cert.WyFIdeal.main_arg1)
      ∧ r.2.mem ((c.tc : Thread Cert.WyFIdeal.nD Cert.WyFIdeal.τ).loc Cert.WyFIdeal.main_arg2) = m ((c.tc : Thread Cert.WyFIdeal.nD Cert.WyFIdeal.τ).loc Cert.WyFIdeal.main_arg2)
      ∧ r.2.mem ((c.tc : Thread Cert.WyFIdeal.nD Cert.WyFIdeal.τ).loc Cert.WyFIdeal.main_arg3) = m ((c.tc : Thread Cert.WyFIdeal.nD Cert.WyFIdeal.τ).loc Cert.WyFIdeal.main_arg3)
      ∧ r.2.mem ((c.tc : Thread Cert.WyFIdeal.nD Cert.WyFIdeal.τ).loc Cert.WyFIdeal.main_arg4) = m ((c.tc : Thread Cert.WyFIdeal.nD Cert.WyFIdeal.τ).loc Cert.WyFIdeal.main_arg4))
      ∧ r.2.sem = fun _ => 0)

def quiescent_WyFRefIdeal [hWyFRefIdeal : Cert.WyFRefIdeal.Facts] : Prop :=
  ∀ (m : (ℓ : Loc Cert.WyFRefIdeal.nD Cert.WyFRefIdeal.τ Cert.WyFRefIdeal.sig) → Buf (Elt Ideal) ℓ) (g : Dev Cert.WyFRefIdeal.nD → PrngReg), Pre_WyFRefIdeal m →
    θ_run (Cert.WyFRefIdeal.defs (F := Ideal)) (onTc (τ := Cert.WyFRefIdeal.τ) (Cert.WyFRefIdeal.main (F := Ideal))) ⟨m, fun _ => 0, g⟩ (fun r => (∀ c : Dev Cert.WyFRefIdeal.nD,
      r.2.mem ((c.tc : Thread Cert.WyFRefIdeal.nD Cert.WyFRefIdeal.τ).loc Cert.WyFRefIdeal.main_arg0) = m ((c.tc : Thread Cert.WyFRefIdeal.nD Cert.WyFRefIdeal.τ).loc Cert.WyFRefIdeal.main_arg0)
      ∧ r.2.mem ((c.tc : Thread Cert.WyFRefIdeal.nD Cert.WyFRefIdeal.τ).loc Cert.WyFRefIdeal.main_arg1) = m ((c.tc : Thread Cert.WyFRefIdeal.nD Cert.WyFRefIdeal.τ).loc Cert.WyFRefIdeal.main_arg1)
      ∧ r.2.mem ((c.tc : Thread Cert.WyFRefIdeal.nD Cert.WyFRefIdeal.τ).loc Cert.WyFRefIdeal.main_arg2) = m ((c.tc : Thread Cert.WyFRefIdeal.nD Cert.WyFRefIdeal.τ).loc Cert.WyFRefIdeal.main_arg2)
      ∧ r.2.mem ((c.tc : Thread Cert.WyFRefIdeal.nD Cert.WyFRefIdeal.τ).loc Cert.WyFRefIdeal.main_arg3) = m ((c.tc : Thread Cert.WyFRefIdeal.nD Cert.WyFRefIdeal.τ).loc Cert.WyFRefIdeal.main_arg3)
      ∧ r.2.mem ((c.tc : Thread Cert.WyFRefIdeal.nD Cert.WyFRefIdeal.τ).loc Cert.WyFRefIdeal.main_arg4) = m ((c.tc : Thread Cert.WyFRefIdeal.nD Cert.WyFRefIdeal.τ).loc Cert.WyFRefIdeal.main_arg4))
      ∧ r.2.sem = fun _ => 0)

def quiescent_WyFRefIdeal_pre_wy_finite [hWyFRefIdeal : Cert.WyFRefIdeal.Facts] [hPre_wy_finite : Cert.Pre_wy_finite.Facts] : Prop :=
  ∀ (m : (ℓ : Loc Cert.WyFRefIdeal.nD Cert.WyFRefIdeal.τ Cert.WyFRefIdeal.sig) → Buf (Elt Ideal) ℓ) (g : Dev Cert.WyFRefIdeal.nD → PrngReg), Pre_WyFRefIdeal_wy_finite m →
    θ_run (Cert.WyFRefIdeal.defs (F := Ideal)) (onTc (τ := Cert.WyFRefIdeal.τ) (Cert.WyFRefIdeal.main (F := Ideal))) ⟨m, fun _ => 0, g⟩ (fun r => (∀ c : Dev Cert.WyFRefIdeal.nD,
      r.2.mem ((c.tc : Thread Cert.WyFRefIdeal.nD Cert.WyFRefIdeal.τ).loc Cert.WyFRefIdeal.main_arg0) = m ((c.tc : Thread Cert.WyFRefIdeal.nD Cert.WyFRefIdeal.τ).loc Cert.WyFRefIdeal.main_arg0)
      ∧ r.2.mem ((c.tc : Thread Cert.WyFRefIdeal.nD Cert.WyFRefIdeal.τ).loc Cert.WyFRefIdeal.main_arg1) = m ((c.tc : Thread Cert.WyFRefIdeal.nD Cert.WyFRefIdeal.τ).loc Cert.WyFRefIdeal.main_arg1)
      ∧ r.2.mem ((c.tc : Thread Cert.WyFRefIdeal.nD Cert.WyFRefIdeal.τ).loc Cert.WyFRefIdeal.main_arg2) = m ((c.tc : Thread Cert.WyFRefIdeal.nD Cert.WyFRefIdeal.τ).loc Cert.WyFRefIdeal.main_arg2)
      ∧ r.2.mem ((c.tc : Thread Cert.WyFRefIdeal.nD Cert.WyFRefIdeal.τ).loc Cert.WyFRefIdeal.main_arg3) = m ((c.tc : Thread Cert.WyFRefIdeal.nD Cert.WyFRefIdeal.τ).loc Cert.WyFRefIdeal.main_arg3)
      ∧ r.2.mem ((c.tc : Thread Cert.WyFRefIdeal.nD Cert.WyFRefIdeal.τ).loc Cert.WyFRefIdeal.main_arg4) = m ((c.tc : Thread Cert.WyFRefIdeal.nD Cert.WyFRefIdeal.τ).loc Cert.WyFRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1))
      ∧ r.2.sem = fun _ => 0)

def quiescent_DhA [hDhA : Cert.DhA.Facts] : Prop :=
  ∀ (m : (ℓ : Loc Cert.DhA.nD Cert.DhA.τ Cert.DhA.sig) → Buf (Elt Bits) ℓ) (g : Dev Cert.DhA.nD → PrngReg), Pre_DhA m →
    θ_run (Cert.DhA.defs (F := Bits)) (onTc (τ := Cert.DhA.τ) (Cert.DhA.main (F := Bits))) ⟨m, fun _ => 0, g⟩ (fun r => (∀ c : Dev Cert.DhA.nD,
      r.2.mem ((c.tc : Thread Cert.DhA.nD Cert.DhA.τ).loc Cert.DhA.main_arg0) = m ((c.tc : Thread Cert.DhA.nD Cert.DhA.τ).loc Cert.DhA.main_arg0)
      ∧ r.2.mem ((c.tc : Thread Cert.DhA.nD Cert.DhA.τ).loc Cert.DhA.main_arg1) = m ((c.tc : Thread Cert.DhA.nD Cert.DhA.τ).loc Cert.DhA.main_arg1))
      ∧ r.2.sem = fun _ => 0)

def quiescent_DhAIdeal [hDhAIdeal : Cert.DhAIdeal.Facts] : Prop :=
  ∀ (m : (ℓ : Loc Cert.DhAIdeal.nD Cert.DhAIdeal.τ Cert.DhAIdeal.sig) → Buf (Elt Ideal) ℓ) (g : Dev Cert.DhAIdeal.nD → PrngReg), Pre_DhAIdeal m →
    θ_run (Cert.DhAIdeal.defs (F := Ideal)) (onTc (τ := Cert.DhAIdeal.τ) (Cert.DhAIdeal.main (F := Ideal))) ⟨m, fun _ => 0, g⟩ (fun r => (∀ c : Dev Cert.DhAIdeal.nD,
      r.2.mem ((c.tc : Thread Cert.DhAIdeal.nD Cert.DhAIdeal.τ).loc Cert.DhAIdeal.main_arg0) = m ((c.tc : Thread Cert.DhAIdeal.nD Cert.DhAIdeal.τ).loc Cert.DhAIdeal.main_arg0)
      ∧ r.2.mem ((c.tc : Thread Cert.DhAIdeal.nD Cert.DhAIdeal.τ).loc Cert.DhAIdeal.main_arg1) = m ((c.tc : Thread Cert.DhAIdeal.nD Cert.DhAIdeal.τ).loc Cert.DhAIdeal.main_arg1))
      ∧ r.2.sem = fun _ => 0)

def quiescent_DhARefIdeal [hDhARefIdeal : Cert.DhARefIdeal.Facts] : Prop :=
  ∀ (m : (ℓ : Loc Cert.DhARefIdeal.nD Cert.DhARefIdeal.τ Cert.DhARefIdeal.sig) → Buf (Elt Ideal) ℓ) (g : Dev Cert.DhARefIdeal.nD → PrngReg), Pre_DhARefIdeal m →
    θ_run (Cert.DhARefIdeal.defs (F := Ideal)) (onTc (τ := Cert.DhARefIdeal.τ) (Cert.DhARefIdeal.main (F := Ideal))) ⟨m, fun _ => 0, g⟩ (fun r => (∀ c : Dev Cert.DhARefIdeal.nD,
      r.2.mem ((c.tc : Thread Cert.DhARefIdeal.nD Cert.DhARefIdeal.τ).loc Cert.DhARefIdeal.main_arg0) = m ((c.tc : Thread Cert.DhARefIdeal.nD Cert.DhARefIdeal.τ).loc Cert.DhARefIdeal.main_arg0)
      ∧ r.2.mem ((c.tc : Thread Cert.DhARefIdeal.nD Cert.DhARefIdeal.τ).loc Cert.DhARefIdeal.main_arg1) = m ((c.tc : Thread Cert.DhARefIdeal.nD Cert.DhARefIdeal.τ).loc Cert.DhARefIdeal.main_arg1))
      ∧ r.2.sem = fun _ => 0)

def quiescent_DhB [hDhB : Cert.DhB.Facts] : Prop :=
  ∀ (m : (ℓ : Loc Cert.DhB.nD Cert.DhB.τ Cert.DhB.sig) → Buf (Elt Bits) ℓ) (g : Dev Cert.DhB.nD → PrngReg), Pre_DhB m →
    θ_run (Cert.DhB.defs (F := Bits)) (onTc (τ := Cert.DhB.τ) (Cert.DhB.main (F := Bits))) ⟨m, fun _ => 0, g⟩ (fun r => (∀ c : Dev Cert.DhB.nD,
      r.2.mem ((c.tc : Thread Cert.DhB.nD Cert.DhB.τ).loc Cert.DhB.main_arg0) = m ((c.tc : Thread Cert.DhB.nD Cert.DhB.τ).loc Cert.DhB.main_arg0)
      ∧ r.2.mem ((c.tc : Thread Cert.DhB.nD Cert.DhB.τ).loc Cert.DhB.main_arg1) = m ((c.tc : Thread Cert.DhB.nD Cert.DhB.τ).loc Cert.DhB.main_arg1))
      ∧ r.2.sem = fun _ => 0)

def quiescent_DhBIdeal [hDhBIdeal : Cert.DhBIdeal.Facts] : Prop :=
  ∀ (m : (ℓ : Loc Cert.DhBIdeal.nD Cert.DhBIdeal.τ Cert.DhBIdeal.sig) → Buf (Elt Ideal) ℓ) (g : Dev Cert.DhBIdeal.nD → PrngReg), Pre_DhBIdeal m →
    θ_run (Cert.DhBIdeal.defs (F := Ideal)) (onTc (τ := Cert.DhBIdeal.τ) (Cert.DhBIdeal.main (F := Ideal))) ⟨m, fun _ => 0, g⟩ (fun r => (∀ c : Dev Cert.DhBIdeal.nD,
      r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
      ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1))
      ∧ r.2.sem = fun _ => 0)

def quiescent_DhBRefIdeal [hDhBRefIdeal : Cert.DhBRefIdeal.Facts] : Prop :=
  ∀ (m : (ℓ : Loc Cert.DhBRefIdeal.nD Cert.DhBRefIdeal.τ Cert.DhBRefIdeal.sig) → Buf (Elt Ideal) ℓ) (g : Dev Cert.DhBRefIdeal.nD → PrngReg), Pre_DhBRefIdeal m →
    θ_run (Cert.DhBRefIdeal.defs (F := Ideal)) (onTc (τ := Cert.DhBRefIdeal.τ) (Cert.DhBRefIdeal.main (F := Ideal))) ⟨m, fun _ => 0, g⟩ (fun r => (∀ c : Dev Cert.DhBRefIdeal.nD,
      r.2.mem ((c.tc : Thread Cert.DhBRefIdeal.nD Cert.DhBRefIdeal.τ).loc Cert.DhBRefIdeal.main_arg0) = m ((c.tc : Thread Cert.DhBRefIdeal.nD Cert.DhBRefIdeal.τ).loc Cert.DhBRefIdeal.main_arg0)
      ∧ r.2.mem ((c.tc : Thread Cert.DhBRefIdeal.nD Cert.DhBRefIdeal.τ).loc Cert.DhBRefIdeal.main_arg1) = m ((c.tc : Thread Cert.DhBRefIdeal.nD Cert.DhBRefIdeal.τ).loc Cert.DhBRefIdeal.main_arg1))
      ∧ r.2.sem = fun _ => 0)

def quiescent_Wy [hWy : Cert.Wy.Facts] : Prop :=
  ∀ (m : (ℓ : Loc Cert.Wy.nD Cert.Wy.τ Cert.Wy.sig) → Buf (Elt Bits) ℓ) (g : Dev Cert.Wy.nD → PrngReg), Pre_Wy m →
    θ_run (Cert.Wy.defs (F := Bits)) (onTc (τ := Cert.Wy.τ) (Cert.Wy.main (F := Bits))) ⟨m, fun _ => 0, g⟩ (fun r => (∀ c : Dev Cert.Wy.nD,
      r.2.mem ((c.tc : Thread Cert.Wy.nD Cert.Wy.τ).loc Cert.Wy.main_arg0) = m ((c.tc : Thread Cert.Wy.nD Cert.Wy.τ).loc Cert.Wy.main_arg0)
      ∧ r.2.mem ((c.tc : Thread Cert.Wy.nD Cert.Wy.τ).loc Cert.Wy.main_arg1) = m ((c.tc : Thread Cert.Wy.nD Cert.Wy.τ).loc Cert.Wy.main_arg1)
      ∧ r.2.mem ((c.tc : Thread Cert.Wy.nD Cert.Wy.τ).loc Cert.Wy.main_arg2) = m ((c.tc : Thread Cert.Wy.nD Cert.Wy.τ).loc Cert.Wy.main_arg2)
      ∧ r.2.mem ((c.tc : Thread Cert.Wy.nD Cert.Wy.τ).loc Cert.Wy.main_arg3) = m ((c.tc : Thread Cert.Wy.nD Cert.Wy.τ).loc Cert.Wy.main_arg3)
      ∧ r.2.mem ((c.tc : Thread Cert.Wy.nD Cert.Wy.τ).loc Cert.Wy.main_arg4) = m ((c.tc : Thread Cert.Wy.nD Cert.Wy.τ).loc Cert.Wy.main_arg4)
      ∧ r.2.mem ((c.tc : Thread Cert.Wy.nD Cert.Wy.τ).loc Cert.Wy.main_arg5) = m ((c.tc : Thread Cert.Wy.nD Cert.Wy.τ).loc Cert.Wy.main_arg5)
      ∧ r.2.mem ((c.tc : Thread Cert.Wy.nD Cert.Wy.τ).loc Cert.Wy.main_arg6) = m ((c.tc : Thread Cert.Wy.nD Cert.Wy.τ).loc Cert.Wy.main_arg6)
      ∧ r.2.mem ((c.tc : Thread Cert.Wy.nD Cert.Wy.τ).loc Cert.Wy.main_arg7) = m ((c.tc : Thread Cert.Wy.nD Cert.Wy.τ).loc Cert.Wy.main_arg7))
      ∧ r.2.sem = fun _ => 0)

def quiescent_WyIdeal [hWyIdeal : Cert.WyIdeal.Facts] : Prop :=
  ∀ (m : (ℓ : Loc Cert.WyIdeal.nD Cert.WyIdeal.τ Cert.WyIdeal.sig) → Buf (Elt Ideal) ℓ) (g : Dev Cert.WyIdeal.nD → PrngReg), Pre_WyIdeal m →
    θ_run (Cert.WyIdeal.defs (F := Ideal)) (onTc (τ := Cert.WyIdeal.τ) (Cert.WyIdeal.main (F := Ideal))) ⟨m, fun _ => 0, g⟩ (fun r => (∀ c : Dev Cert.WyIdeal.nD,
      r.2.mem ((c.tc : Thread Cert.WyIdeal.nD Cert.WyIdeal.τ).loc Cert.WyIdeal.main_arg0) = m ((c.tc : Thread Cert.WyIdeal.nD Cert.WyIdeal.τ).loc Cert.WyIdeal.main_arg0)
      ∧ r.2.mem ((c.tc : Thread Cert.WyIdeal.nD Cert.WyIdeal.τ).loc Cert.WyIdeal.main_arg1) = m ((c.tc : Thread Cert.WyIdeal.nD Cert.WyIdeal.τ).loc Cert.WyIdeal.main_arg1)
      ∧ r.2.mem ((c.tc : Thread Cert.WyIdeal.nD Cert.WyIdeal.τ).loc Cert.WyIdeal.main_arg2) = m ((c.tc : Thread Cert.WyIdeal.nD Cert.WyIdeal.τ).loc Cert.WyIdeal.main_arg2)
      ∧ r.2.mem ((c.tc : Thread Cert.WyIdeal.nD Cert.WyIdeal.τ).loc Cert.WyIdeal.main_arg3) = m ((c.tc : Thread Cert.WyIdeal.nD Cert.WyIdeal.τ).loc Cert.WyIdeal.main_arg3)
      ∧ r.2.mem ((c.tc : Thread Cert.WyIdeal.nD Cert.WyIdeal.τ).loc Cert.WyIdeal.main_arg4) = m ((c.tc : Thread Cert.WyIdeal.nD Cert.WyIdeal.τ).loc Cert.WyIdeal.main_arg4)
      ∧ r.2.mem ((c.tc : Thread Cert.WyIdeal.nD Cert.WyIdeal.τ).loc Cert.WyIdeal.main_arg5) = m ((c.tc : Thread Cert.WyIdeal.nD Cert.WyIdeal.τ).loc Cert.WyIdeal.main_arg5)
      ∧ r.2.mem ((c.tc : Thread Cert.WyIdeal.nD Cert.WyIdeal.τ).loc Cert.WyIdeal.main_arg6) = m ((c.tc : Thread Cert.WyIdeal.nD Cert.WyIdeal.τ).loc Cert.WyIdeal.main_arg6)
      ∧ r.2.mem ((c.tc : Thread Cert.WyIdeal.nD Cert.WyIdeal.τ).loc Cert.WyIdeal.main_arg7) = m ((c.tc : Thread Cert.WyIdeal.nD Cert.WyIdeal.τ).loc Cert.WyIdeal.main_arg7))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v17) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_v19) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_ConvQ_ConvQIdeal : Prop :=
  True

def algebraic_ConvQIdeal_ConvQRefIdeal [hConvQIdeal : Cert.ConvQIdeal.Facts] [hConvQRefIdeal : Cert.ConvQRefIdeal.Facts] : Prop :=
  ∀ (m : (ℓ : Loc Cert.ConvQIdeal.nD Cert.ConvQIdeal.τ Cert.ConvQIdeal.sig) → Buf (Elt Ideal) ℓ) (g : Dev Cert.ConvQIdeal.nD → PrngReg)
    (m' : (ℓ : Loc Cert.ConvQRefIdeal.nD Cert.ConvQRefIdeal.τ Cert.ConvQRefIdeal.sig) → Buf (Elt Ideal) ℓ) (g' : Dev Cert.ConvQRefIdeal.nD → PrngReg), Pre_ConvQIdeal m →
    (∀ c : Dev Cert.ConvQIdeal.nD,
      m' ((c.tc : Thread Cert.ConvQRefIdeal.nD Cert.ConvQRefIdeal.τ).loc Cert.ConvQRefIdeal.main_arg0) = m ((c.tc : Thread Cert.ConvQIdeal.nD Cert.ConvQIdeal.τ).loc Cert.ConvQIdeal.main_arg0)
      ∧ m' ((c.tc : Thread Cert.ConvQRefIdeal.nD Cert.ConvQRefIdeal.τ).loc Cert.ConvQRefIdeal.main_arg1) = m ((c.tc : Thread Cert.ConvQIdeal.nD Cert.ConvQIdeal.τ).loc Cert.ConvQIdeal.main_arg1)
      ∧ m' ((c.tc : Thread Cert.ConvQRefIdeal.nD Cert.ConvQRefIdeal.τ).loc Cert.ConvQRefIdeal.main_arg2) = m ((c.tc : Thread Cert.ConvQIdeal.nD Cert.ConvQIdeal.τ).loc Cert.ConvQIdeal.main_arg2)
      ∧ m' ((c.tc : Thread Cert.ConvQRefIdeal.nD Cert.ConvQRefIdeal.τ).loc Cert.ConvQRefIdeal.main_arg3) = m ((c.tc : Thread Cert.ConvQIdeal.nD Cert.ConvQIdeal.τ).loc Cert.ConvQIdeal.main_arg3)) →
    ∃ (v0 : (c : Dev Cert.ConvQIdeal.nD) → Buf (Elt Ideal) ((c.tc : Thread Cert.ConvQIdeal.nD Cert.ConvQIdeal.τ).loc Cert.ConvQIdeal.main_v5_0)) (v1 : (c : Dev Cert.ConvQIdeal.nD) → Buf (Elt Ideal) ((c.tc : Thread Cert.ConvQIdeal.nD Cert.ConvQIdeal.τ).loc Cert.ConvQIdeal.main_v5_1)),
      θ_run (Cert.ConvQIdeal.defs (F := Ideal)) (onTc (τ := Cert.ConvQIdeal.τ) (Cert.ConvQIdeal.main (F := Ideal))) ⟨m, fun _ => 0, g⟩ (fun r => ∀ c : Dev Cert.ConvQIdeal.nD,
          r.2.mem ((c.tc : Thread Cert.ConvQIdeal.nD Cert.ConvQIdeal.τ).loc Cert.ConvQIdeal.main_v5_0) = v0 c
          ∧ r.2.mem ((c.tc : Thread Cert.ConvQIdeal.nD Cert.ConvQIdeal.τ).loc Cert.ConvQIdeal.main_v5_1) = v1 c
          ∧ r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
          ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1)
          ∧ r.2.mem ((c.tc : Thread Cert.ConvQIdeal.nD Cert.ConvQIdeal.τ).loc Cert.ConvQIdeal.main_arg2) = m ((c.tc : Thread Cert.ConvQIdeal.nD Cert.ConvQIdeal.τ).loc Cert.ConvQIdeal.main_arg2)
          ∧ r.2.mem ((c.tc : Thread Cert.ConvQIdeal.nD Cert.ConvQIdeal.τ).loc Cert.ConvQIdeal.main_arg3) = m ((c.tc : Thread Cert.ConvQIdeal.nD Cert.ConvQIdeal.τ).loc Cert.ConvQIdeal.main_arg3))
      ∧ θ_run (Cert.ConvQRefIdeal.defs (F := Ideal)) (onTc (τ := Cert.ConvQRefIdeal.τ) (Cert.ConvQRefIdeal.main (F := Ideal))) ⟨m', fun _ => 0, g'⟩ (fun r => ∀ c : Dev Cert.ConvQRefIdeal.nD,
          r.2.mem ((c.tc : Thread Cert.ConvQRefIdeal.nD Cert.ConvQRefIdeal.τ).loc Cert.ConvQRefIdeal.main_v126) = v0 c
          ∧ r.2.mem ((c.tc : Thread Cert.ConvQRefIdeal.nD Cert.ConvQRefIdeal.τ).loc Cert.ConvQRefIdeal.main_v120) = v1 c
          ∧ r.2.mem ((c.tc : Thread Cert.ConvQRefIdeal.nD Cert.ConvQRefIdeal.τ).loc Cert.ConvQRefIdeal.main_arg0) = m' ((c.tc : Thread Cert.ConvQRefIdeal.nD Cert.ConvQRefIdeal.τ).loc Cert.ConvQRefIdeal.main_arg0)
          ∧ r.2.mem ((c.tc : Thread Cert.ConvQRefIdeal.nD Cert.ConvQRefIdeal.τ).loc Cert.ConvQRefIdeal.main_arg1) = m' ((c.tc : Thread Cert.ConvQRefIdeal.nD Cert.ConvQRefIdeal.τ).loc Cert.ConvQRefIdeal.main_arg1)
          ∧ r.2.mem ((c.tc : Thread Cert.ConvQRefIdeal.nD Cert.ConvQRefIdeal.τ).loc Cert.ConvQRefIdeal.main_arg2) = m' ((c.tc : Thread Cert.ConvQRefIdeal.nD Cert.ConvQRefIdeal.τ).loc Cert.ConvQRefIdeal.main_arg2)
          ∧ r.2.mem ((c.tc : Thread Cert.ConvQRefIdeal.nD Cert.ConvQRefIdeal.τ).loc Cert.ConvQRefIdeal.main_arg3) = m' ((c.tc : Thread Cert.ConvQRefIdeal.nD Cert.ConvQRefIdeal.τ).loc Cert.ConvQRefIdeal.main_arg3))

def preserves_ConvK_ConvKIdeal : Prop :=
  True

def algebraic_ConvKIdeal_ConvKRefIdeal [hConvKIdeal : Cert.ConvKIdeal.Facts] [hConvKRefIdeal : Cert.ConvKRefIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvKRefIdeal.nD Cert.ConvKRefIdeal.τ Cert.ConvKRefIdeal.sig) → Buf (Elt Ideal) ℓ) (g' : Dev Cert.ConvKRefIdeal.nD → PrngReg), Pre_ConvKIdeal m →
    (∀ c : Dev Cert.ConvKIdeal.nD,
      m' ((c.tc : Thread Cert.ConvKRefIdeal.nD Cert.ConvKRefIdeal.τ).loc Cert.ConvKRefIdeal.main_arg0) = m ((c.tc : Thread Cert.ConvKIdeal.nD Cert.ConvKIdeal.τ).loc Cert.ConvKIdeal.main_arg0)
      ∧ m' ((c.tc : Thread Cert.ConvKRefIdeal.nD Cert.ConvKRefIdeal.τ).loc Cert.ConvKRefIdeal.main_arg1) = m ((c.tc : Thread Cert.ConvKIdeal.nD Cert.ConvKIdeal.τ).loc Cert.ConvKIdeal.main_arg1)
      ∧ m' ((c.tc : Thread Cert.ConvKRefIdeal.nD Cert.ConvKRefIdeal.τ).loc Cert.ConvKRefIdeal.main_arg2) = m ((c.tc : Thread Cert.ConvKIdeal.nD Cert.ConvKIdeal.τ).loc Cert.ConvKIdeal.main_arg2)
      ∧ m' ((c.tc : Thread Cert.ConvKRefIdeal.nD Cert.ConvKRefIdeal.τ).loc Cert.ConvKRefIdeal.main_arg3) = m ((c.tc : Thread Cert.ConvKIdeal.nD Cert.ConvKIdeal.τ).loc Cert.ConvKIdeal.main_arg3)) →
    ∃ (v0 : (c : Dev Cert.ConvKIdeal.nD) → Buf (Elt Ideal) ((c.tc : Thread Cert.ConvKIdeal.nD Cert.ConvKIdeal.τ).loc Cert.ConvKIdeal.main_v5_0)) (v1 : (c : Dev Cert.ConvKIdeal.nD) → Buf (Elt Ideal) ((c.tc : Thread Cert.ConvKIdeal.nD Cert.ConvKIdeal.τ).loc Cert.ConvKIdeal.main_v5_1)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v5_0) = v0 c
          ∧ r.2.mem ((c.tc : Thread Cert.ConvKIdeal.nD Cert.ConvKIdeal.τ).loc Cert.ConvKIdeal.main_v5_1) = v1 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ θ_run (Cert.ConvKRefIdeal.defs (F := Ideal)) (onTc (τ := Cert.ConvKRefIdeal.τ) (Cert.ConvKRefIdeal.main (F := Ideal))) ⟨m', fun _ => 0, g'⟩ (fun r => ∀ c : Dev Cert.ConvKRefIdeal.nD,
          r.2.mem ((c.tc : Thread Cert.ConvKRefIdeal.nD Cert.ConvKRefIdeal.τ).loc Cert.ConvKRefIdeal.main_v122) = v0 c
          ∧ r.2.mem ((c.tc : Thread Cert.ConvKRefIdeal.nD Cert.ConvKRefIdeal.τ).loc Cert.ConvKRefIdeal.main_v116) = v1 c
          ∧ r.2.mem ((c.tc : Thread Cert.ConvKRefIdeal.nD Cert.ConvKRefIdeal.τ).loc Cert.ConvKRefIdeal.main_arg0) = m' ((c.tc : Thread Cert.ConvKRefIdeal.nD Cert.ConvKRefIdeal.τ).loc Cert.ConvKRefIdeal.main_arg0)
          ∧ r.2.mem ((c.tc : Thread Cert.ConvKRefIdeal.nD Cert.ConvKRefIdeal.τ).loc Cert.ConvKRefIdeal.main_arg1) = m' ((c.tc : Thread Cert.ConvKRefIdeal.nD Cert.ConvKRefIdeal.τ).loc Cert.ConvKRefIdeal.main_arg1)
          ∧ r.2.mem ((c.tc : Thread Cert.ConvKRefIdeal.nD Cert.ConvKRefIdeal.τ).loc Cert.ConvKRefIdeal.main_arg2) = m' ((c.tc : Thread Cert.ConvKRefIdeal.nD Cert.ConvKRefIdeal.τ).loc Cert.ConvKRefIdeal.main_arg2)
          ∧ r.2.mem ((c.tc : Thread Cert.ConvKRefIdeal.nD Cert.ConvKRefIdeal.τ).loc Cert.ConvKRefIdeal.main_arg3) = m' ((c.tc : Thread Cert.ConvKRefIdeal.nD Cert.ConvKRefIdeal.τ).loc Cert.ConvKRefIdeal.main_arg3))

def preserves_ConvV_ConvVIdeal : Prop :=
  True

def algebraic_ConvVIdeal_ConvVRefIdeal [hConvVIdeal : Cert.ConvVIdeal.Facts] [hConvVRefIdeal : Cert.ConvVRefIdeal.Facts] : Prop :=
  ∀ (m : (ℓ : Loc Cert.ConvVIdeal.nD Cert.ConvVIdeal.τ Cert.ConvVIdeal.sig) → Buf (Elt Ideal) ℓ) (g : Dev Cert.ConvVIdeal.nD → PrngReg)
    (m' : (ℓ : Loc Cert.ConvVRefIdeal.nD Cert.ConvVRefIdeal.τ Cert.ConvVRefIdeal.sig) → Buf (Elt Ideal) ℓ) (g' : Dev Cert.ConvVRefIdeal.nD → PrngReg), Pre_ConvVIdeal m →
    (∀ c : Dev Cert.ConvVIdeal.nD,
      m' ((c.tc : Thread Cert.ConvVRefIdeal.nD Cert.ConvVRefIdeal.τ).loc Cert.ConvVRefIdeal.main_arg0) = m ((c.tc : Thread Cert.ConvVIdeal.nD Cert.ConvVIdeal.τ).loc Cert.ConvVIdeal.main_arg0)
      ∧ m' ((c.tc : Thread Cert.ConvVRefIdeal.nD Cert.ConvVRefIdeal.τ).loc Cert.ConvVRefIdeal.main_arg1) = m ((c.tc : Thread Cert.ConvVIdeal.nD Cert.ConvVIdeal.τ).loc Cert.ConvVIdeal.main_arg1)
      ∧ m' ((c.tc : Thread Cert.ConvVRefIdeal.nD Cert.ConvVRefIdeal.τ).loc Cert.ConvVRefIdeal.main_arg2) = m ((c.tc : Thread Cert.ConvVIdeal.nD Cert.ConvVIdeal.τ).loc Cert.ConvVIdeal.main_arg2)) →
    ∃ (v0 : (c : Dev Cert.ConvVIdeal.nD) → Buf (Elt Ideal) ((c.tc : Thread Cert.ConvVIdeal.nD Cert.ConvVIdeal.τ).loc Cert.ConvVIdeal.main_v5_0)) (v1 : (c : Dev Cert.ConvVIdeal.nD) → Buf (Elt Ideal) ((c.tc : Thread Cert.ConvVIdeal.nD Cert.ConvVIdeal.τ).loc Cert.ConvVIdeal.main_v5_1)),
      θ_run (Cert.ConvVIdeal.defs (F := Ideal)) (onTc (τ := Cert.ConvVIdeal.τ) (Cert.ConvVIdeal.main (F := Ideal))) ⟨m, fun _ => 0, g⟩ (fun r => ∀ c : Dev Cert.ConvVIdeal.nD,
          r.2.mem ((c.tc : Thread Cert.ConvVIdeal.nD Cert.ConvVIdeal.τ).loc Cert.ConvVIdeal.main_v5_0) = v0 c
          ∧ r.2.mem ((c.tc : Thread Cert.ConvVIdeal.nD Cert.ConvVIdeal.τ).loc Cert.ConvVIdeal.main_v5_1) = v1 c
          ∧ r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
          ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
          ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2))
      ∧ θ_run (Cert.ConvVRefIdeal.defs (F := Ideal)) (onTc (τ := Cert.ConvVRefIdeal.τ) (Cert.ConvVRefIdeal.main (F := Ideal))) ⟨m', fun _ => 0, g'⟩ (fun r => ∀ c : Dev Cert.ConvVRefIdeal.nD,
          r.2.mem ((c.tc : Thread Cert.ConvVRefIdeal.nD Cert.ConvVRefIdeal.τ).loc Cert.ConvVRefIdeal.main_v87) = v0 c
          ∧ r.2.mem ((c.tc : Thread Cert.ConvVRefIdeal.nD Cert.ConvVRefIdeal.τ).loc Cert.ConvVRefIdeal.main_v81) = v1 c
          ∧ r.2.mem ((c.tc : Thread Cert.ConvVRefIdeal.nD Cert.ConvVRefIdeal.τ).loc Cert.ConvVRefIdeal.main_arg0) = m' ((c.tc : Thread Cert.ConvVRefIdeal.nD Cert.ConvVRefIdeal.τ).loc Cert.ConvVRefIdeal.main_arg0)
          ∧ r.2.mem ((c.tc : Thread Cert.ConvVRefIdeal.nD Cert.ConvVRefIdeal.τ).loc Cert.ConvVRefIdeal.main_arg1) = m' ((c.tc : Thread Cert.ConvVRefIdeal.nD Cert.ConvVRefIdeal.τ).loc Cert.ConvVRefIdeal.main_arg1)
          ∧ r.2.mem ((c.tc : Thread Cert.ConvVRefIdeal.nD Cert.ConvVRefIdeal.τ).loc Cert.ConvVRefIdeal.main_arg2) = m' ((c.tc : Thread Cert.ConvVRefIdeal.nD Cert.ConvVRefIdeal.τ).loc Cert.ConvVRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v40) = v0 c
          ∧ r.2.mem ((c.tc : Thread Cert.NormRefIdeal.nD Cert.NormRefIdeal.τ).loc Cert.NormRefIdeal.main_v41) = v1 c
          ∧ r.2.mem ((c.tc : Thread Cert.NormRefIdeal.nD Cert.NormRefIdeal.τ).loc Cert.NormRefIdeal.main_v42) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v7)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v7) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v14) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v7_0)) (v1 : (c : Dev Cert.SguIdeal.nD) → Buf (Elt Ideal) ((c.tc : Thread Cert.SguIdeal.nD Cert.SguIdeal.τ).loc Cert.SguIdeal.main_v7_1)) (v2 : (c : Dev Cert.SguIdeal.nD) → Buf (Elt Ideal) ((c.tc : Thread Cert.SguIdeal.nD Cert.SguIdeal.τ).loc Cert.SguIdeal.main_v7_2)) (v3 : (c : Dev Cert.SguIdeal.nD) → Buf (Elt Ideal) ((c.tc : Thread Cert.SguIdeal.nD Cert.SguIdeal.τ).loc Cert.SguIdeal.main_v7_3)) (v4 : (c : Dev Cert.SguIdeal.nD) → Buf (Elt Ideal) ((c.tc : Thread Cert.SguIdeal.nD Cert.SguIdeal.τ).loc Cert.SguIdeal.main_v7_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v7_0) = v0 c
          ∧ r.2.mem ((c.tc : Thread Cert.SguIdeal.nD Cert.SguIdeal.τ).loc Cert.SguIdeal.main_v7_1) = v1 c
          ∧ r.2.mem ((c.tc : Thread Cert.SguIdeal.nD Cert.SguIdeal.τ).loc Cert.SguIdeal.main_v7_2) = v2 c
          ∧ r.2.mem ((c.tc : Thread Cert.SguIdeal.nD Cert.SguIdeal.τ).loc Cert.SguIdeal.main_v7_3) = v3 c
          ∧ r.2.mem ((c.tc : Thread Cert.SguIdeal.nD Cert.SguIdeal.τ).loc Cert.SguIdeal.main_v7_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v146) = v0 c
          ∧ r.2.mem ((c.tc : Thread Cert.SguRefIdeal.nD Cert.SguRefIdeal.τ).loc Cert.SguRefIdeal.main_v148) = v1 c
          ∧ r.2.mem ((c.tc : Thread Cert.SguRefIdeal.nD Cert.SguRefIdeal.τ).loc Cert.SguRefIdeal.main_v149) = v2 c
          ∧ r.2.mem ((c.tc : Thread Cert.SguRefIdeal.nD Cert.SguRefIdeal.τ).loc Cert.SguRefIdeal.main_v97) = v3 c
          ∧ r.2.mem ((c.tc : Thread Cert.SguRefIdeal.nD Cert.SguRefIdeal.τ).loc Cert.SguRefIdeal.main_v150) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Gates_GatesIdeal : Prop :=
  True

def algebraic_GatesIdeal_GatesRefIdeal_pre_gates_regular [hGatesIdeal : Cert.GatesIdeal.Facts] [hGatesRefIdeal : Cert.GatesRefIdeal.Facts] [hPre_gates_regular : Cert.Pre_gates_regular.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_gates_regular m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)) →
    ∃ (v0 : (c : Dev Cert.GatesIdeal.nD) → Buf (Elt Ideal) ((c.tc : Thread Cert.GatesIdeal.nD Cert.GatesIdeal.τ).loc Cert.GatesIdeal.main_v9_0)) (v1 : (c : Dev Cert.GatesIdeal.nD) → Buf (Elt Ideal) ((c.tc : Thread Cert.GatesIdeal.nD Cert.GatesIdeal.τ).loc Cert.GatesIdeal.main_v9_1)) (v2 : (c : Dev Cert.GatesIdeal.nD) → Buf (Elt Ideal) ((c.tc : Thread Cert.GatesIdeal.nD Cert.GatesIdeal.τ).loc Cert.GatesIdeal.main_v9_2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v9_0) = v0 c
          ∧ r.2.mem ((c.tc : Thread Cert.GatesIdeal.nD Cert.GatesIdeal.τ).loc Cert.GatesIdeal.main_v9_1) = v1 c
          ∧ r.2.mem ((c.tc : Thread Cert.GatesIdeal.nD Cert.GatesIdeal.τ).loc Cert.GatesIdeal.main_v9_2) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v59) = v0 c
          ∧ r.2.mem ((c.tc : Thread Cert.GatesRefIdeal.nD Cert.GatesRefIdeal.τ).loc Cert.GatesRefIdeal.main_v61) = v1 c
          ∧ r.2.mem ((c.tc : Thread Cert.GatesRefIdeal.nD Cert.GatesRefIdeal.τ).loc Cert.GatesRefIdeal.main_v63) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)) →
    ∃ (v0 : (c : Dev Cert.NormFIdeal.nD) → Buf (Elt Ideal) ((c.tc : Thread Cert.NormFIdeal.nD Cert.NormFIdeal.τ).loc Cert.NormFIdeal.main_v1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v1) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v15) = v0 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1))

def preserves_SguF_SguFIdeal : Prop :=
  True

def algebraic_SguFIdeal_SguFRefIdeal [hSguFIdeal : Cert.SguFIdeal.Facts] [hSguFRefIdeal : Cert.SguFRefIdeal.Facts] : Prop :=
  ∀ (m : (ℓ : Loc Cert.SguFIdeal.nD Cert.SguFIdeal.τ Cert.SguFIdeal.sig) → Buf (Elt Ideal) ℓ) (g : Dev Cert.SguFIdeal.nD → PrngReg)
    (m' : (ℓ : Loc Cert.SguFRefIdeal.nD Cert.SguFRefIdeal.τ Cert.SguFRefIdeal.sig) → Buf (Elt Ideal) ℓ) (g' : Dev Cert.SguFRefIdeal.nD → PrngReg), Pre_SguFIdeal m →
    (∀ c : Dev Cert.SguFIdeal.nD,
      m' ((c.tc : Thread Cert.SguFRefIdeal.nD Cert.SguFRefIdeal.τ).loc Cert.SguFRefIdeal.main_arg0) = m ((c.tc : Thread Cert.SguFIdeal.nD Cert.SguFIdeal.τ).loc Cert.SguFIdeal.main_arg0)
      ∧ m' ((c.tc : Thread Cert.SguFRefIdeal.nD Cert.SguFRefIdeal.τ).loc Cert.SguFRefIdeal.main_arg1) = m ((c.tc : Thread Cert.SguFIdeal.nD Cert.SguFIdeal.τ).loc Cert.SguFIdeal.main_arg1)
      ∧ m' ((c.tc : Thread Cert.SguFRefIdeal.nD Cert.SguFRefIdeal.τ).loc Cert.SguFRefIdeal.main_arg2) = m ((c.tc : Thread Cert.SguFIdeal.nD Cert.SguFIdeal.τ).loc Cert.SguFIdeal.main_arg2)
      ∧ m' ((c.tc : Thread Cert.SguFRefIdeal.nD Cert.SguFRefIdeal.τ).loc Cert.SguFRefIdeal.main_arg3) = m ((c.tc : Thread Cert.SguFIdeal.nD Cert.SguFIdeal.τ).loc Cert.SguFIdeal.main_arg3)) →
    ∃ (v0 : (c : Dev Cert.SguFIdeal.nD) → Buf (Elt Ideal) ((c.tc : Thread Cert.SguFIdeal.nD Cert.SguFIdeal.τ).loc Cert.SguFIdeal.main_v7)),
      θ_run (Cert.SguFIdeal.defs (F := Ideal)) (onTc (τ := Cert.SguFIdeal.τ) (Cert.SguFIdeal.main (F := Ideal))) ⟨m, fun _ => 0, g⟩ (fun r => ∀ c : Dev Cert.SguFIdeal.nD,
          r.2.mem ((c.tc : Thread Cert.SguFIdeal.nD Cert.SguFIdeal.τ).loc Cert.SguFIdeal.main_v7) = v0 c
          ∧ r.2.mem ((c.tc : Thread Cert.SguFIdeal.nD Cert.SguFIdeal.τ).loc Cert.SguFIdeal.main_arg0) = m ((c.tc : Thread Cert.SguFIdeal.nD Cert.SguFIdeal.τ).loc Cert.SguFIdeal.main_arg0)
          ∧ r.2.mem ((c.tc : Thread Cert.SguFIdeal.nD Cert.SguFIdeal.τ).loc Cert.SguFIdeal.main_arg1) = m ((c.tc : Thread Cert.SguFIdeal.nD Cert.SguFIdeal.τ).loc Cert.SguFIdeal.main_arg1)
          ∧ r.2.mem ((c.tc : Thread Cert.SguFIdeal.nD Cert.SguFIdeal.τ).loc Cert.SguFIdeal.main_arg2) = m ((c.tc : Thread Cert.SguFIdeal.nD Cert.SguFIdeal.τ).loc Cert.SguFIdeal.main_arg2)
          ∧ r.2.mem ((c.tc : Thread Cert.SguFIdeal.nD Cert.SguFIdeal.τ).loc Cert.SguFIdeal.main_arg3) = m ((c.tc : Thread Cert.SguFIdeal.nD Cert.SguFIdeal.τ).loc Cert.SguFIdeal.main_arg3))
      ∧ θ_run (Cert.SguFRefIdeal.defs (F := Ideal)) (onTc (τ := Cert.SguFRefIdeal.τ) (Cert.SguFRefIdeal.main (F := Ideal))) ⟨m', fun _ => 0, g'⟩ (fun r => ∀ c : Dev Cert.SguFRefIdeal.nD,
          r.2.mem ((c.tc : Thread Cert.SguFRefIdeal.nD Cert.SguFRefIdeal.τ).loc Cert.SguFRefIdeal.main_v66) = v0 c
          ∧ r.2.mem ((c.tc : Thread Cert.SguFRefIdeal.nD Cert.SguFRefIdeal.τ).loc Cert.SguFRefIdeal.main_arg0) = m' ((c.tc : Thread Cert.SguFRefIdeal.nD Cert.SguFRefIdeal.τ).loc Cert.SguFRefIdeal.main_arg0)
          ∧ r.2.mem ((c.tc : Thread Cert.SguFRefIdeal.nD Cert.SguFRefIdeal.τ).loc Cert.SguFRefIdeal.main_arg1) = m' ((c.tc : Thread Cert.SguFRefIdeal.nD Cert.SguFRefIdeal.τ).loc Cert.SguFRefIdeal.main_arg1)
          ∧ r.2.mem ((c.tc : Thread Cert.SguFRefIdeal.nD Cert.SguFRefIdeal.τ).loc Cert.SguFRefIdeal.main_arg2) = m' ((c.tc : Thread Cert.SguFRefIdeal.nD Cert.SguFRefIdeal.τ).loc Cert.SguFRefIdeal.main_arg2)
          ∧ r.2.mem ((c.tc : Thread Cert.SguFRefIdeal.nD Cert.SguFRefIdeal.τ).loc Cert.SguFRefIdeal.main_arg3) = m' ((c.tc : Thread Cert.SguFRefIdeal.nD Cert.SguFRefIdeal.τ).loc Cert.SguFRefIdeal.main_arg3))

def preserves_ConvQF_ConvQFIdeal : Prop :=
  True

def algebraic_ConvQFIdeal_ConvQFRefIdeal [hConvQFIdeal : Cert.ConvQFIdeal.Facts] [hConvQFRefIdeal : Cert.ConvQFRefIdeal.Facts] : Prop :=
  ∀ (m : (ℓ : Loc Cert.ConvQFIdeal.nD Cert.ConvQFIdeal.τ Cert.ConvQFIdeal.sig) → Buf (Elt Ideal) ℓ) (g : Dev Cert.ConvQFIdeal.nD → PrngReg)
    (m' : (ℓ : Loc Cert.ConvQFRefIdeal.nD Cert.ConvQFRefIdeal.τ Cert.ConvQFRefIdeal.sig) → Buf (Elt Ideal) ℓ) (g' : Dev Cert.ConvQFRefIdeal.nD → PrngReg), Pre_ConvQFIdeal m →
    (∀ c : Dev Cert.ConvQFIdeal.nD,
      m' ((c.tc : Thread Cert.ConvQFRefIdeal.nD Cert.ConvQFRefIdeal.τ).loc Cert.ConvQFRefIdeal.main_arg0) = m ((c.tc : Thread Cert.ConvQFIdeal.nD Cert.ConvQFIdeal.τ).loc Cert.ConvQFIdeal.main_arg0)
      ∧ m' ((c.tc : Thread Cert.ConvQFRefIdeal.nD Cert.ConvQFRefIdeal.τ).loc Cert.ConvQFRefIdeal.main_arg1) = m ((c.tc : Thread Cert.ConvQFIdeal.nD Cert.ConvQFIdeal.τ).loc Cert.ConvQFIdeal.main_arg1)) →
    ∃ (v0 : (c : Dev Cert.ConvQFIdeal.nD) → Buf (Elt Ideal) ((c.tc : Thread Cert.ConvQFIdeal.nD Cert.ConvQFIdeal.τ).loc Cert.ConvQFIdeal.main_v5)),
      θ_run (Cert.ConvQFIdeal.defs (F := Ideal)) (onTc (τ := Cert.ConvQFIdeal.τ) (Cert.ConvQFIdeal.main (F := Ideal))) ⟨m, fun _ => 0, g⟩ (fun r => ∀ c : Dev Cert.ConvQFIdeal.nD,
          r.2.mem ((c.tc : Thread Cert.ConvQFIdeal.nD Cert.ConvQFIdeal.τ).loc Cert.ConvQFIdeal.main_v5) = v0 c
          ∧ r.2.mem ((c.tc : Thread Cert.ConvQFIdeal.nD Cert.ConvQFIdeal.τ).loc Cert.ConvQFIdeal.main_arg0) = m ((c.tc : Thread Cert.ConvQFIdeal.nD Cert.ConvQFIdeal.τ).loc Cert.ConvQFIdeal.main_arg0)
          ∧ r.2.mem ((c.tc : Thread Cert.ConvQFIdeal.nD Cert.ConvQFIdeal.τ).loc Cert.ConvQFIdeal.main_arg1) = m ((c.tc : Thread Cert.ConvQFIdeal.nD Cert.ConvQFIdeal.τ).loc Cert.ConvQFIdeal.main_arg1))
      ∧ θ_run (Cert.ConvQFRefIdeal.defs (F := Ideal)) (onTc (τ := Cert.ConvQFRefIdeal.τ) (Cert.ConvQFRefIdeal.main (F := Ideal))) ⟨m', fun _ => 0, g'⟩ (fun r => ∀ c : Dev Cert.ConvQFRefIdeal.nD,
          r.2.mem ((c.tc : Thread Cert.ConvQFRefIdeal.nD Cert.ConvQFRefIdeal.τ).loc Cert.ConvQFRefIdeal.main_v58) = v0 c
          ∧ r.2.mem ((c.tc : Thread Cert.ConvQFRefIdeal.nD Cert.ConvQFRefIdeal.τ).loc Cert.ConvQFRefIdeal.main_arg0) = m' ((c.tc : Thread Cert.ConvQFRefIdeal.nD Cert.ConvQFRefIdeal.τ).loc Cert.ConvQFRefIdeal.main_arg0)
          ∧ r.2.mem ((c.tc : Thread Cert.ConvQFRefIdeal.nD Cert.ConvQFRefIdeal.τ).loc Cert.ConvQFRefIdeal.main_arg1) = m' ((c.tc : Thread Cert.ConvQFRefIdeal.nD Cert.ConvQFRefIdeal.τ).loc Cert.ConvQFRefIdeal.main_arg1))

def preserves_ConvKF_ConvKFIdeal : Prop :=
  True

def algebraic_ConvKFIdeal_ConvKFRefIdeal [hConvKFIdeal : Cert.ConvKFIdeal.Facts] [hConvKFRefIdeal : Cert.ConvKFRefIdeal.Facts] : Prop :=
  ∀ (m : (ℓ : Loc Cert.ConvKFIdeal.nD Cert.ConvKFIdeal.τ Cert.ConvKFIdeal.sig) → Buf (Elt Ideal) ℓ) (g : Dev Cert.ConvKFIdeal.nD → PrngReg)
    (m' : (ℓ : Loc Cert.ConvKFRefIdeal.nD Cert.ConvKFRefIdeal.τ Cert.ConvKFRefIdeal.sig) → Buf (Elt Ideal) ℓ) (g' : Dev Cert.ConvKFRefIdeal.nD → PrngReg), Pre_ConvKFIdeal m →
    (∀ c : Dev Cert.ConvKFIdeal.nD,
      m' ((c.tc : Thread Cert.ConvKFRefIdeal.nD Cert.ConvKFRefIdeal.τ).loc Cert.ConvKFRefIdeal.main_arg0) = m ((c.tc : Thread Cert.ConvKFIdeal.nD Cert.ConvKFIdeal.τ).loc Cert.ConvKFIdeal.main_arg0)
      ∧ m' ((c.tc : Thread Cert.ConvKFRefIdeal.nD Cert.ConvKFRefIdeal.τ).loc Cert.ConvKFRefIdeal.main_arg1) = m ((c.tc : Thread Cert.ConvKFIdeal.nD Cert.ConvKFIdeal.τ).loc Cert.ConvKFIdeal.main_arg1)) →
    ∃ (v0 : (c : Dev Cert.ConvKFIdeal.nD) → Buf (Elt Ideal) ((c.tc : Thread Cert.ConvKFIdeal.nD Cert.ConvKFIdeal.τ).loc Cert.ConvKFIdeal.main_v5)),
      θ_run (Cert.ConvKFIdeal.defs (F := Ideal)) (onTc (τ := Cert.ConvKFIdeal.τ) (Cert.ConvKFIdeal.main (F := Ideal))) ⟨m, fun _ => 0, g⟩ (fun r => ∀ c : Dev Cert.ConvKFIdeal.nD,
          r.2.mem ((c.tc : Thread Cert.ConvKFIdeal.nD Cert.ConvKFIdeal.τ).loc Cert.ConvKFIdeal.main_v5) = v0 c
          ∧ r.2.mem ((c.tc : Thread Cert.ConvKFIdeal.nD Cert.ConvKFIdeal.τ).loc Cert.ConvKFIdeal.main_arg0) = m ((c.tc : Thread Cert.ConvKFIdeal.nD Cert.ConvKFIdeal.τ).loc Cert.ConvKFIdeal.main_arg0)
          ∧ r.2.mem ((c.tc : Thread Cert.ConvKFIdeal.nD Cert.ConvKFIdeal.τ).loc Cert.ConvKFIdeal.main_arg1) = m ((c.tc : Thread Cert.ConvKFIdeal.nD Cert.ConvKFIdeal.τ).loc Cert.ConvKFIdeal.main_arg1))
      ∧ θ_run (Cert.ConvKFRefIdeal.defs (F := Ideal)) (onTc (τ := Cert.ConvKFRefIdeal.τ) (Cert.ConvKFRefIdeal.main (F := Ideal))) ⟨m', fun _ => 0, g'⟩ (fun r => ∀ c : Dev Cert.ConvKFRefIdeal.nD,
          r.2.mem ((c.tc : Thread Cert.ConvKFRefIdeal.nD Cert.ConvKFRefIdeal.τ).loc Cert.ConvKFRefIdeal.main_v56) = v0 c
          ∧ r.2.mem ((c.tc : Thread Cert.ConvKFRefIdeal.nD Cert.ConvKFRefIdeal.τ).loc Cert.ConvKFRefIdeal.main_arg0) = m' ((c.tc : Thread Cert.ConvKFRefIdeal.nD Cert.ConvKFRefIdeal.τ).loc Cert.ConvKFRefIdeal.main_arg0)
          ∧ r.2.mem ((c.tc : Thread Cert.ConvKFRefIdeal.nD Cert.ConvKFRefIdeal.τ).loc Cert.ConvKFRefIdeal.main_arg1) = m' ((c.tc : Thread Cert.ConvKFRefIdeal.nD Cert.ConvKFRefIdeal.τ).loc Cert.ConvKFRefIdeal.main_arg1))

def preserves_ConvVF_ConvVFIdeal : Prop :=
  True

def algebraic_ConvVFIdeal_ConvVFRefIdeal [hConvVFIdeal : Cert.ConvVFIdeal.Facts] [hConvVFRefIdeal : Cert.ConvVFRefIdeal.Facts] : Prop :=
  ∀ (m : (ℓ : Loc Cert.ConvVFIdeal.nD Cert.ConvVFIdeal.τ Cert.ConvVFIdeal.sig) → Buf (Elt Ideal) ℓ) (g : Dev Cert.ConvVFIdeal.nD → PrngReg)
    (m' : (ℓ : Loc Cert.ConvVFRefIdeal.nD Cert.ConvVFRefIdeal.τ Cert.ConvVFRefIdeal.sig) → Buf (Elt Ideal) ℓ) (g' : Dev Cert.ConvVFRefIdeal.nD → PrngReg), Pre_ConvVFIdeal m →
    (∀ c : Dev Cert.ConvVFIdeal.nD,
      m' ((c.tc : Thread Cert.ConvVFRefIdeal.nD Cert.ConvVFRefIdeal.τ).loc Cert.ConvVFRefIdeal.main_arg0) = m ((c.tc : Thread Cert.ConvVFIdeal.nD Cert.ConvVFIdeal.τ).loc Cert.ConvVFIdeal.main_arg0)
      ∧ m' ((c.tc : Thread Cert.ConvVFRefIdeal.nD Cert.ConvVFRefIdeal.τ).loc Cert.ConvVFRefIdeal.main_arg1) = m ((c.tc : Thread Cert.ConvVFIdeal.nD Cert.ConvVFIdeal.τ).loc Cert.ConvVFIdeal.main_arg1)) →
    ∃ (v0 : (c : Dev Cert.ConvVFIdeal.nD) → Buf (Elt Ideal) ((c.tc : Thread Cert.ConvVFIdeal.nD Cert.ConvVFIdeal.τ).loc Cert.ConvVFIdeal.main_v5)),
      θ_run (Cert.ConvVFIdeal.defs (F := Ideal)) (onTc (τ := Cert.ConvVFIdeal.τ) (Cert.ConvVFIdeal.main (F := Ideal))) ⟨m, fun _ => 0, g⟩ (fun r => ∀ c : Dev Cert.ConvVFIdeal.nD,
          r.2.mem ((c.tc : Thread Cert.ConvVFIdeal.nD Cert.ConvVFIdeal.τ).loc Cert.ConvVFIdeal.main_v5) = v0 c
          ∧ r.2.mem ((c.tc : Thread Cert.ConvVFIdeal.nD Cert.ConvVFIdeal.τ).loc Cert.ConvVFIdeal.main_arg0) = m ((c.tc : Thread Cert.ConvVFIdeal.nD Cert.ConvVFIdeal.τ).loc Cert.ConvVFIdeal.main_arg0)
          ∧ r.2.mem ((c.tc : Thread Cert.ConvVFIdeal.nD Cert.ConvVFIdeal.τ).loc Cert.ConvVFIdeal.main_arg1) = m ((c.tc : Thread Cert.ConvVFIdeal.nD Cert.ConvVFIdeal.τ).loc Cert.ConvVFIdeal.main_arg1))
      ∧ θ_run (Cert.ConvVFRefIdeal.defs (F := Ideal)) (onTc (τ := Cert.ConvVFRefIdeal.τ) (Cert.ConvVFRefIdeal.main (F := Ideal))) ⟨m', fun _ => 0, g'⟩ (fun r => ∀ c : Dev Cert.ConvVFRefIdeal.nD,
          r.2.mem ((c.tc : Thread Cert.ConvVFRefIdeal.nD Cert.ConvVFRefIdeal.τ).loc Cert.ConvVFRefIdeal.main_v38) = v0 c
          ∧ r.2.mem ((c.tc : Thread Cert.ConvVFRefIdeal.nD Cert.ConvVFRefIdeal.τ).loc Cert.ConvVFRefIdeal.main_arg0) = m' ((c.tc : Thread Cert.ConvVFRefIdeal.nD Cert.ConvVFRefIdeal.τ).loc Cert.ConvVFRefIdeal.main_arg0)
          ∧ r.2.mem ((c.tc : Thread Cert.ConvVFRefIdeal.nD Cert.ConvVFRefIdeal.τ).loc Cert.ConvVFRefIdeal.main_arg1) = m' ((c.tc : Thread Cert.ConvVFRefIdeal.nD Cert.ConvVFRefIdeal.τ).loc Cert.ConvVFRefIdeal.main_arg1))

def preserves_GatesF_GatesFIdeal : Prop :=
  True

def algebraic_GatesFIdeal_GatesFRefIdeal [hGatesFIdeal : Cert.GatesFIdeal.Facts] [hGatesFRefIdeal : Cert.GatesFRefIdeal.Facts] : Prop :=
  ∀ (m : (ℓ : Loc Cert.GatesFIdeal.nD Cert.GatesFIdeal.τ Cert.GatesFIdeal.sig) → Buf (Elt Ideal) ℓ) (g : Dev Cert.GatesFIdeal.nD → PrngReg)
    (m' : (ℓ : Loc Cert.GatesFRefIdeal.nD Cert.GatesFRefIdeal.τ Cert.GatesFRefIdeal.sig) → Buf (Elt Ideal) ℓ) (g' : Dev Cert.GatesFRefIdeal.nD → PrngReg), Pre_GatesFIdeal m →
    (∀ c : Dev Cert.GatesFIdeal.nD,
      m' ((c.tc : Thread Cert.GatesFRefIdeal.nD Cert.GatesFRefIdeal.τ).loc Cert.GatesFRefIdeal.main_arg0) = m ((c.tc : Thread Cert.GatesFIdeal.nD Cert.GatesFIdeal.τ).loc Cert.GatesFIdeal.main_arg0)
      ∧ m' ((c.tc : Thread Cert.GatesFRefIdeal.nD Cert.GatesFRefIdeal.τ).loc Cert.GatesFRefIdeal.main_arg1) = m ((c.tc : Thread Cert.GatesFIdeal.nD Cert.GatesFIdeal.τ).loc Cert.GatesFIdeal.main_arg1)
      ∧ m' ((c.tc : Thread Cert.GatesFRefIdeal.nD Cert.GatesFRefIdeal.τ).loc Cert.GatesFRefIdeal.main_arg2) = m ((c.tc : Thread Cert.GatesFIdeal.nD Cert.GatesFIdeal.τ).loc Cert.GatesFIdeal.main_arg2)) →
    ∃ (v0 : (c : Dev Cert.GatesFIdeal.nD) → Buf (Elt Ideal) ((c.tc : Thread Cert.GatesFIdeal.nD Cert.GatesFIdeal.τ).loc Cert.GatesFIdeal.main_v9_0)) (v1 : (c : Dev Cert.GatesFIdeal.nD) → Buf (Elt Ideal) ((c.tc : Thread Cert.GatesFIdeal.nD Cert.GatesFIdeal.τ).loc Cert.GatesFIdeal.main_v9_1)),
      θ_run (Cert.GatesFIdeal.defs (F := Ideal)) (onTc (τ := Cert.GatesFIdeal.τ) (Cert.GatesFIdeal.main (F := Ideal))) ⟨m, fun _ => 0, g⟩ (fun r => ∀ c : Dev Cert.GatesFIdeal.nD,
          r.2.mem ((c.tc : Thread Cert.GatesFIdeal.nD Cert.GatesFIdeal.τ).loc Cert.GatesFIdeal.main_v9_0) = v0 c
          ∧ r.2.mem ((c.tc : Thread Cert.GatesFIdeal.nD Cert.GatesFIdeal.τ).loc Cert.GatesFIdeal.main_v9_1) = v1 c
          ∧ r.2.mem ((c.tc : Thread Cert.GatesFIdeal.nD Cert.GatesFIdeal.τ).loc Cert.GatesFIdeal.main_arg0) = m ((c.tc : Thread Cert.GatesFIdeal.nD Cert.GatesFIdeal.τ).loc Cert.GatesFIdeal.main_arg0)
          ∧ r.2.mem ((c.tc : Thread Cert.GatesFIdeal.nD Cert.GatesFIdeal.τ).loc Cert.GatesFIdeal.main_arg1) = m ((c.tc : Thread Cert.GatesFIdeal.nD Cert.GatesFIdeal.τ).loc Cert.GatesFIdeal.main_arg1)
          ∧ r.2.mem ((c.tc : Thread Cert.GatesFIdeal.nD Cert.GatesFIdeal.τ).loc Cert.GatesFIdeal.main_arg2) = m ((c.tc : Thread Cert.GatesFIdeal.nD Cert.GatesFIdeal.τ).loc Cert.GatesFIdeal.main_arg2))
      ∧ θ_run (Cert.GatesFRefIdeal.defs (F := Ideal)) (onTc (τ := Cert.GatesFRefIdeal.τ) (Cert.GatesFRefIdeal.main (F := Ideal))) ⟨m', fun _ => 0, g'⟩ (fun r => ∀ c : Dev Cert.GatesFRefIdeal.nD,
          r.2.mem ((c.tc : Thread Cert.GatesFRefIdeal.nD Cert.GatesFRefIdeal.τ).loc Cert.GatesFRefIdeal.main_v31) = v0 c
          ∧ r.2.mem ((c.tc : Thread Cert.GatesFRefIdeal.nD Cert.GatesFRefIdeal.τ).loc Cert.GatesFRefIdeal.main_v33) = v1 c
          ∧ r.2.mem ((c.tc : Thread Cert.GatesFRefIdeal.nD Cert.GatesFRefIdeal.τ).loc Cert.GatesFRefIdeal.main_arg0) = m' ((c.tc : Thread Cert.GatesFRefIdeal.nD Cert.GatesFRefIdeal.τ).loc Cert.GatesFRefIdeal.main_arg0)
          ∧ r.2.mem ((c.tc : Thread Cert.GatesFRefIdeal.nD Cert.GatesFRefIdeal.τ).loc Cert.GatesFRefIdeal.main_arg1) = m' ((c.tc : Thread Cert.GatesFRefIdeal.nD Cert.GatesFRefIdeal.τ).loc Cert.GatesFRefIdeal.main_arg1)
          ∧ r.2.mem ((c.tc : Thread Cert.GatesFRefIdeal.nD Cert.GatesFRefIdeal.τ).loc Cert.GatesFRefIdeal.main_arg2) = m' ((c.tc : Thread Cert.GatesFRefIdeal.nD Cert.GatesFRefIdeal.τ).loc Cert.GatesFRefIdeal.main_arg2))

def preserves_SwigluF_SwigluFIdeal : Prop :=
  True

def algebraic_SwigluFIdeal_SwigluFRefIdeal [hSwigluFIdeal : Cert.SwigluFIdeal.Facts] [hSwigluFRefIdeal : Cert.SwigluFRefIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg)
    (m' : (ℓ : Loc Cert.SwigluFRefIdeal.nD Cert.SwigluFRefIdeal.τ Cert.SwigluFRefIdeal.sig) → Buf (Elt Ideal) ℓ) (g' : Dev Cert.SwigluFRefIdeal.nD → PrngReg), Pre_SwigluFIdeal m →
    (∀ c : Dev Cert.SwigluFIdeal.nD,
      m' ((c.tc : Thread Cert.SwigluFRefIdeal.nD Cert.SwigluFRefIdeal.τ).loc Cert.SwigluFRefIdeal.main_arg0) = m ((c.tc : Thread Cert.SwigluFIdeal.nD Cert.SwigluFIdeal.τ).loc Cert.SwigluFIdeal.main_arg0)
      ∧ m' ((c.tc : Thread Cert.SwigluFRefIdeal.nD Cert.SwigluFRefIdeal.τ).loc Cert.SwigluFRefIdeal.main_arg1) = m ((c.tc : Thread Cert.SwigluFIdeal.nD Cert.SwigluFIdeal.τ).loc Cert.SwigluFIdeal.main_arg1)) →
    ∃ (v0 : (c : Dev Cert.SwigluFIdeal.nD) → Buf (Elt Ideal) ((c.tc : Thread Cert.SwigluFIdeal.nD Cert.SwigluFIdeal.τ).loc Cert.SwigluFIdeal.main_v5_0)) (v1 : (c : Dev Cert.SwigluFIdeal.nD) → Buf (Elt Ideal) ((c.tc : Thread Cert.SwigluFIdeal.nD Cert.SwigluFIdeal.τ).loc Cert.SwigluFIdeal.main_v5_1)),
      θ_run (Cert.SwigluFIdeal.defs (F := Ideal)) (onTc (τ := Cert.SwigluFIdeal.τ) (Cert.SwigluFIdeal.main (F := Ideal))) ⟨m, fun _ => 0, g⟩ (fun r => ∀ c : Dev Cert.SwigluFIdeal.nD,
          r.2.mem ((c.tc : Thread Cert.SwigluFIdeal.nD Cert.SwigluFIdeal.τ).loc Cert.SwigluFIdeal.main_v5_0) = v0 c
          ∧ r.2.mem ((c.tc : Thread Cert.SwigluFIdeal.nD Cert.SwigluFIdeal.τ).loc Cert.SwigluFIdeal.main_v5_1) = v1 c
          ∧ r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0)
          ∧ r.2.mem ((c.tc : Thread Cert.SwigluFIdeal.nD Cert.SwigluFIdeal.τ).loc Cert.SwigluFIdeal.main_arg1) = m ((c.tc : Thread Cert.SwigluFIdeal.nD Cert.SwigluFIdeal.τ).loc Cert.SwigluFIdeal.main_arg1))
      ∧ θ_run (Cert.SwigluFRefIdeal.defs (F := Ideal)) (onTc (τ := Cert.SwigluFRefIdeal.τ) (Cert.SwigluFRefIdeal.main (F := Ideal))) ⟨m', fun _ => 0, g'⟩ (fun r => ∀ c : Dev Cert.SwigluFRefIdeal.nD,
          r.2.mem ((c.tc : Thread Cert.SwigluFRefIdeal.nD Cert.SwigluFRefIdeal.τ).loc Cert.SwigluFRefIdeal.main_v9) = v0 c
          ∧ r.2.mem ((c.tc : Thread Cert.SwigluFRefIdeal.nD Cert.SwigluFRefIdeal.τ).loc Cert.SwigluFRefIdeal.main_v11) = v1 c
          ∧ r.2.mem ((c.tc : Thread Cert.SwigluFRefIdeal.nD Cert.SwigluFRefIdeal.τ).loc Cert.SwigluFRefIdeal.main_arg0) = m' ((c.tc : Thread Cert.SwigluFRefIdeal.nD Cert.SwigluFRefIdeal.τ).loc Cert.SwigluFRefIdeal.main_arg0)
          ∧ r.2.mem ((c.tc : Thread Cert.SwigluFRefIdeal.nD Cert.SwigluFRefIdeal.τ).loc Cert.SwigluFRefIdeal.main_arg1) = m' ((c.tc : Thread Cert.SwigluFRefIdeal.nD Cert.SwigluFRefIdeal.τ).loc Cert.SwigluFRefIdeal.main_arg1))

def preserves_ScanF_ScanFIdeal : Prop :=
  True

def algebraic_ScanFIdeal_ScanFRefIdeal [hScanFIdeal : Cert.ScanFIdeal.Facts] [hScanFRefIdeal : Cert.ScanFRefIdeal.Facts] : Prop :=
  ∀ (m : (ℓ : Loc Cert.ScanFIdeal.nD Cert.ScanFIdeal.τ Cert.ScanFIdeal.sig) → Buf (Elt Ideal) ℓ) (g : Dev Cert.ScanFIdeal.nD → PrngReg)
    (m' : (ℓ : Loc Cert.ScanFRefIdeal.nD Cert.ScanFRefIdeal.τ Cert.ScanFRefIdeal.sig) → Buf (Elt Ideal) ℓ) (g' : Dev Cert.ScanFRefIdeal.nD → PrngReg), Pre_ScanFIdeal m →
    (∀ c : Dev Cert.ScanFIdeal.nD,
      m' ((c.tc : Thread Cert.ScanFRefIdeal.nD Cert.ScanFRefIdeal.τ).loc Cert.ScanFRefIdeal.main_arg0) = m ((c.tc : Thread Cert.ScanFIdeal.nD Cert.ScanFIdeal.τ).loc Cert.ScanFIdeal.main_arg0)
      ∧ m' ((c.tc : Thread Cert.ScanFRefIdeal.nD Cert.ScanFRefIdeal.τ).loc Cert.ScanFRefIdeal.main_arg1) = m ((c.tc : Thread Cert.ScanFIdeal.nD Cert.ScanFIdeal.τ).loc Cert.ScanFIdeal.main_arg1)
      ∧ m' ((c.tc : Thread Cert.ScanFRefIdeal.nD Cert.ScanFRefIdeal.τ).loc Cert.ScanFRefIdeal.main_arg2) = m ((c.tc : Thread Cert.ScanFIdeal.nD Cert.ScanFIdeal.τ).loc Cert.ScanFIdeal.main_arg2)
      ∧ m' ((c.tc : Thread Cert.ScanFRefIdeal.nD Cert.ScanFRefIdeal.τ).loc Cert.ScanFRefIdeal.main_arg3) = m ((c.tc : Thread Cert.ScanFIdeal.nD Cert.ScanFIdeal.τ).loc Cert.ScanFIdeal.main_arg3)
      ∧ m' ((c.tc : Thread Cert.ScanFRefIdeal.nD Cert.ScanFRefIdeal.τ).loc Cert.ScanFRefIdeal.main_arg4) = m ((c.tc : Thread Cert.ScanFIdeal.nD Cert.ScanFIdeal.τ).loc Cert.ScanFIdeal.main_arg4)
      ∧ m' ((c.tc : Thread Cert.ScanFRefIdeal.nD Cert.ScanFRefIdeal.τ).loc Cert.ScanFRefIdeal.main_arg5) = m ((c.tc : Thread Cert.ScanFIdeal.nD Cert.ScanFIdeal.τ).loc Cert.ScanFIdeal.main_arg5)
      ∧ m' ((c.tc : Thread Cert.ScanFRefIdeal.nD Cert.ScanFRefIdeal.τ).loc Cert.ScanFRefIdeal.main_arg6) = m ((c.tc : Thread Cert.ScanFIdeal.nD Cert.ScanFIdeal.τ).loc Cert.ScanFIdeal.main_arg6)
      ∧ m' ((c.tc : Thread Cert.ScanFRefIdeal.nD Cert.ScanFRefIdeal.τ).loc Cert.ScanFRefIdeal.main_arg7) = m ((c.tc : Thread Cert.ScanFIdeal.nD Cert.ScanFIdeal.τ).loc Cert.ScanFIdeal.main_arg7)) →
    ∃ (v0 : (c : Dev Cert.ScanFIdeal.nD) → Buf (Elt Ideal) ((c.tc : Thread Cert.ScanFIdeal.nD Cert.ScanFIdeal.τ).loc Cert.ScanFIdeal.main_v3_0)) (v1 : (c : Dev Cert.ScanFIdeal.nD) → Buf (Elt Ideal) ((c.tc : Thread Cert.ScanFIdeal.nD Cert.ScanFIdeal.τ).loc Cert.ScanFIdeal.main_v3_1)),
      θ_run (Cert.ScanFIdeal.defs (F := Ideal)) (onTc (τ := Cert.ScanFIdeal.τ) (Cert.ScanFIdeal.main (F := Ideal))) ⟨m, fun _ => 0, g⟩ (fun r => ∀ c : Dev Cert.ScanFIdeal.nD,
          r.2.mem ((c.tc : Thread Cert.ScanFIdeal.nD Cert.ScanFIdeal.τ).loc Cert.ScanFIdeal.main_v3_0) = v0 c
          ∧ r.2.mem ((c.tc : Thread Cert.ScanFIdeal.nD Cert.ScanFIdeal.τ).loc Cert.ScanFIdeal.main_v3_1) = v1 c
          ∧ r.2.mem ((c.tc : Thread Cert.ScanFIdeal.nD Cert.ScanFIdeal.τ).loc Cert.ScanFIdeal.main_arg0) = m ((c.tc : Thread Cert.ScanFIdeal.nD Cert.ScanFIdeal.τ).loc Cert.ScanFIdeal.main_arg0)
          ∧ r.2.mem ((c.tc : Thread Cert.ScanFIdeal.nD Cert.ScanFIdeal.τ).loc Cert.ScanFIdeal.main_arg1) = m ((c.tc : Thread Cert.ScanFIdeal.nD Cert.ScanFIdeal.τ).loc Cert.ScanFIdeal.main_arg1)
          ∧ r.2.mem ((c.tc : Thread Cert.ScanFIdeal.nD Cert.ScanFIdeal.τ).loc Cert.ScanFIdeal.main_arg2) = m ((c.tc : Thread Cert.ScanFIdeal.nD Cert.ScanFIdeal.τ).loc Cert.ScanFIdeal.main_arg2)
          ∧ r.2.mem ((c.tc : Thread Cert.ScanFIdeal.nD Cert.ScanFIdeal.τ).loc Cert.ScanFIdeal.main_arg3) = m ((c.tc : Thread Cert.ScanFIdeal.nD Cert.ScanFIdeal.τ).loc Cert.ScanFIdeal.main_arg3)
          ∧ r.2.mem ((c.tc : Thread Cert.ScanFIdeal.nD Cert.ScanFIdeal.τ).loc Cert.ScanFIdeal.main_arg4) = m ((c.tc : Thread Cert.ScanFIdeal.nD Cert.ScanFIdeal.τ).loc Cert.ScanFIdeal.main_arg4)
          ∧ r.2.mem ((c.tc : Thread Cert.ScanFIdeal.nD Cert.ScanFIdeal.τ).loc Cert.ScanFIdeal.main_arg5) = m ((c.tc : Thread Cert.ScanFIdeal.nD Cert.ScanFIdeal.τ).loc Cert.ScanFIdeal.main_arg5)
          ∧ r.2.mem ((c.tc : Thread Cert.ScanFIdeal.nD Cert.ScanFIdeal.τ).loc Cert.ScanFIdeal.main_arg6) = m ((c.tc : Thread Cert.ScanFIdeal.nD Cert.ScanFIdeal.τ).loc Cert.ScanFIdeal.main_arg6)
          ∧ r.2.mem ((c.tc : Thread Cert.ScanFIdeal.nD Cert.ScanFIdeal.τ).loc Cert.ScanFIdeal.main_arg7) = m ((c.tc : Thread Cert.ScanFIdeal.nD Cert.ScanFIdeal.τ).loc Cert.ScanFIdeal.main_arg7))
      ∧ θ_run (Cert.ScanFRefIdeal.defs (F := Ideal)) (onTc (τ := Cert.ScanFRefIdeal.τ) (Cert.ScanFRefIdeal.main (F := Ideal))) ⟨m', fun _ => 0, g'⟩ (fun r => ∀ c : Dev Cert.ScanFRefIdeal.nD,
          r.2.mem ((c.tc : Thread Cert.ScanFRefIdeal.nD Cert.ScanFRefIdeal.τ).loc Cert.ScanFRefIdeal.main_v45) = v0 c
          ∧ r.2.mem ((c.tc : Thread Cert.ScanFRefIdeal.nD Cert.ScanFRefIdeal.τ).loc Cert.ScanFRefIdeal.main_v46) = v1 c
          ∧ r.2.mem ((c.tc : Thread Cert.ScanFRefIdeal.nD Cert.ScanFRefIdeal.τ).loc Cert.ScanFRefIdeal.main_arg0) = m' ((c.tc : Thread Cert.ScanFRefIdeal.nD Cert.ScanFRefIdeal.τ).loc Cert.ScanFRefIdeal.main_arg0)
          ∧ r.2.mem ((c.tc : Thread Cert.ScanFRefIdeal.nD Cert.ScanFRefIdeal.τ).loc Cert.ScanFRefIdeal.main_arg1) = m' ((c.tc : Thread Cert.ScanFRefIdeal.nD Cert.ScanFRefIdeal.τ).loc Cert.ScanFRefIdeal.main_arg1)
          ∧ r.2.mem ((c.tc : Thread Cert.ScanFRefIdeal.nD Cert.ScanFRefIdeal.τ).loc Cert.ScanFRefIdeal.main_arg2) = m' ((c.tc : Thread Cert.ScanFRefIdeal.nD Cert.ScanFRefIdeal.τ).loc Cert.ScanFRefIdeal.main_arg2)
          ∧ r.2.mem ((c.tc : Thread Cert.ScanFRefIdeal.nD Cert.ScanFRefIdeal.τ).loc Cert.ScanFRefIdeal.main_arg3) = m' ((c.tc : Thread Cert.ScanFRefIdeal.nD Cert.ScanFRefIdeal.τ).loc Cert.ScanFRefIdeal.main_arg3)
          ∧ r.2.mem ((c.tc : Thread Cert.ScanFRefIdeal.nD Cert.ScanFRefIdeal.τ).loc Cert.ScanFRefIdeal.main_arg4) = m' ((c.tc : Thread Cert.ScanFRefIdeal.nD Cert.ScanFRefIdeal.τ).loc Cert.ScanFRefIdeal.main_arg4)
          ∧ r.2.mem ((c.tc : Thread Cert.ScanFRefIdeal.nD Cert.ScanFRefIdeal.τ).loc Cert.ScanFRefIdeal.main_arg5) = m' ((c.tc : Thread Cert.ScanFRefIdeal.nD Cert.ScanFRefIdeal.τ).loc Cert.ScanFRefIdeal.main_arg5)
          ∧ r.2.mem ((c.tc : Thread Cert.ScanFRefIdeal.nD Cert.ScanFRefIdeal.τ).loc Cert.ScanFRefIdeal.main_arg6) = m' ((c.tc : Thread Cert.ScanFRefIdeal.nD Cert.ScanFRefIdeal.τ).loc Cert.ScanFRefIdeal.main_arg6)
          ∧ r.2.mem ((c.tc : Thread Cert.ScanFRefIdeal.nD Cert.ScanFRefIdeal.τ).loc Cert.ScanFRefIdeal.main_arg7) = m' ((c.tc : Thread Cert.ScanFRefIdeal.nD Cert.ScanFRefIdeal.τ).loc Cert.ScanFRefIdeal.main_arg7))

def preserves_WyF_WyFIdeal : Prop :=
  True

def algebraic_WyFIdeal_WyFRefIdeal_pre_wy_finite [hWyFIdeal : Cert.WyFIdeal.Facts] [hWyFRefIdeal : Cert.WyFRefIdeal.Facts] [hPre_wy_finite : Cert.Pre_wy_finite.Facts] : Prop :=
  ∀ (m : (ℓ : Loc Cert.WyFIdeal.nD Cert.WyFIdeal.τ Cert.WyFIdeal.sig) → Buf (Elt Ideal) ℓ) (g : Dev Cert.WyFIdeal.nD → PrngReg)
    (m' : (ℓ : Loc Cert.WyFRefIdeal.nD Cert.WyFRefIdeal.τ Cert.WyFRefIdeal.sig) → Buf (Elt Ideal) ℓ) (g' : Dev Cert.WyFRefIdeal.nD → PrngReg), Pre_WyFIdeal_wy_finite m →
    (∀ c : Dev Cert.WyFIdeal.nD,
      m' ((c.tc : Thread Cert.WyFRefIdeal.nD Cert.WyFRefIdeal.τ).loc Cert.WyFRefIdeal.main_arg0) = m ((c.tc : Thread Cert.WyFIdeal.nD Cert.WyFIdeal.τ).loc Cert.WyFIdeal.main_arg0)
      ∧ m' ((c.tc : Thread Cert.WyFRefIdeal.nD Cert.WyFRefIdeal.τ).loc Cert.WyFRefIdeal.main_arg1) = m ((c.tc : Thread Cert.WyFIdeal.nD Cert.WyFIdeal.τ).loc Cert.WyFIdeal.main_arg1)
      ∧ m' ((c.tc : Thread Cert.WyFRefIdeal.nD Cert.WyFRefIdeal.τ).loc Cert.WyFRefIdeal.main_arg2) = m ((c.tc : Thread Cert.WyFIdeal.nD Cert.WyFIdeal.τ).loc Cert.WyFIdeal.main_arg2)
      ∧ m' ((c.tc : Thread Cert.WyFRefIdeal.nD Cert.WyFRefIdeal.τ).loc Cert.WyFRefIdeal.main_arg3) = m ((c.tc : Thread Cert.WyFIdeal.nD Cert.WyFIdeal.τ).loc Cert.WyFIdeal.main_arg3)
      ∧ m' ((c.tc : Thread Cert.WyFRefIdeal.nD Cert.WyFRefIdeal.τ).loc Cert.WyFRefIdeal.main_arg4) = m ((c.tc : Thread Cert.WyFIdeal.nD Cert.WyFIdeal.τ).loc Cert.WyFIdeal.main_arg4)) →
    ∃ (v0 : (c : Dev Cert.WyFIdeal.nD) → Buf (Elt Ideal) ((c.tc : Thread Cert.WyFIdeal.nD Cert.WyFIdeal.τ).loc Cert.WyFIdeal.main_v4_0)) (v1 : (c : Dev Cert.WyFIdeal.nD) → Buf (Elt Ideal) ((c.tc : Thread Cert.WyFIdeal.nD Cert.WyFIdeal.τ).loc Cert.WyFIdeal.main_v4_1)) (v2 : (c : Dev Cert.WyFIdeal.nD) → Buf (Elt Ideal) ((c.tc : Thread Cert.WyFIdeal.nD Cert.WyFIdeal.τ).loc Cert.WyFIdeal.main_v4_2)),
      θ_run (Cert.WyFIdeal.defs (F := Ideal)) (onTc (τ := Cert.WyFIdeal.τ) (Cert.WyFIdeal.main (F := Ideal))) ⟨m, fun _ => 0, g⟩ (fun r => ∀ c : Dev Cert.WyFIdeal.nD,
          r.2.mem ((c.tc : Thread Cert.WyFIdeal.nD Cert.WyFIdeal.τ).loc Cert.WyFIdeal.main_v4_0) = v0 c
          ∧ r.2.mem ((c.tc : Thread Cert.WyFIdeal.nD Cert.WyFIdeal.τ).loc Cert.WyFIdeal.main_v4_1) = v1 c
          ∧ r.2.mem ((c.tc : Thread Cert.WyFIdeal.nD Cert.WyFIdeal.τ).loc Cert.WyFIdeal.main_v4_2) = v2 c
          ∧ r.2.mem ((c.tc : Thread Cert.WyFIdeal.nD Cert.WyFIdeal.τ).loc Cert.WyFIdeal.main_arg0) = m ((c.tc : Thread Cert.WyFIdeal.nD Cert.WyFIdeal.τ).loc Cert.WyFIdeal.main_arg0)
          ∧ r.2.mem ((c.tc : Thread Cert.WyFIdeal.nD Cert.WyFIdeal.τ).loc Cert.WyFIdeal.main_arg1) = m ((c.tc : Thread Cert.WyFIdeal.nD Cert.WyFIdeal.τ).loc Cert.WyFIdeal.main_arg1)
          ∧ r.2.mem ((c.tc : Thread Cert.WyFIdeal.nD Cert.WyFIdeal.τ).loc Cert.WyFIdeal.main_arg2) = m ((c.tc : Thread Cert.WyFIdeal.nD Cert.WyFIdeal.τ).loc Cert.WyFIdeal.main_arg2)
          ∧ r.2.mem ((c.tc : Thread Cert.WyFIdeal.nD Cert.WyFIdeal.τ).loc Cert.WyFIdeal.main_arg3) = m ((c.tc : Thread Cert.WyFIdeal.nD Cert.WyFIdeal.τ).loc Cert.WyFIdeal.main_arg3)
          ∧ r.2.mem ((c.tc : Thread Cert.WyFIdeal.nD Cert.WyFIdeal.τ).loc Cert.WyFIdeal.main_arg4) = m ((c.tc : Thread Cert.WyFIdeal.nD Cert.WyFIdeal.τ).loc Cert.WyFIdeal.main_arg4))
      ∧ θ_run (Cert.WyFRefIdeal.defs (F := Ideal)) (onTc (τ := Cert.WyFRefIdeal.τ) (Cert.WyFRefIdeal.main (F := Ideal))) ⟨m', fun _ => 0, g'⟩ (fun r => ∀ c : Dev Cert.WyFRefIdeal.nD,
          r.2.mem ((c.tc : Thread Cert.WyFRefIdeal.nD Cert.WyFRefIdeal.τ).loc Cert.WyFRefIdeal.main_v56) = v0 c
          ∧ r.2.mem ((c.tc : Thread Cert.WyFRefIdeal.nD Cert.WyFRefIdeal.τ).loc Cert.WyFRefIdeal.main_v59) = v1 c
          ∧ r.2.mem ((c.tc : Thread Cert.WyFRefIdeal.nD Cert.WyFRefIdeal.τ).loc Cert.WyFRefIdeal.main_v36) = v2 c
          ∧ r.2.mem ((c.tc : Thread Cert.WyFRefIdeal.nD Cert.WyFRefIdeal.τ).loc Cert.WyFRefIdeal.main_arg0) = m' ((c.tc : Thread Cert.WyFRefIdeal.nD Cert.WyFRefIdeal.τ).loc Cert.WyFRefIdeal.main_arg0)
          ∧ r.2.mem ((c.tc : Thread Cert.WyFRefIdeal.nD Cert.WyFRefIdeal.τ).loc Cert.WyFRefIdeal.main_arg1) = m' ((c.tc : Thread Cert.WyFRefIdeal.nD Cert.WyFRefIdeal.τ).loc Cert.WyFRefIdeal.main_arg1)
          ∧ r.2.mem ((c.tc : Thread Cert.WyFRefIdeal.nD Cert.WyFRefIdeal.τ).loc Cert.WyFRefIdeal.main_arg2) = m' ((c.tc : Thread Cert.WyFRefIdeal.nD Cert.WyFRefIdeal.τ).loc Cert.WyFRefIdeal.main_arg2)
          ∧ r.2.mem ((c.tc : Thread Cert.WyFRefIdeal.nD Cert.WyFRefIdeal.τ).loc Cert.WyFRefIdeal.main_arg3) = m' ((c.tc : Thread Cert.WyFRefIdeal.nD Cert.WyFRefIdeal.τ).loc Cert.WyFRefIdeal.main_arg3)
          ∧ r.2.mem ((c.tc : Thread Cert.WyFRefIdeal.nD Cert.WyFRefIdeal.τ).loc Cert.WyFRefIdeal.main_arg4) = m' ((c.tc : Thread Cert.WyFRefIdeal.nD Cert.WyFRefIdeal.τ).loc Cert.WyFRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v3)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v3) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v5) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v2) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v8) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v2)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v2) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v8) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v6) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v7)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v7) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v9) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)) →
    ∃ (v0 : (c : Dev Cert.DwguIdeal.nD) → Buf (Elt Ideal) ((c.tc : Thread Cert.DwguIdeal.nD Cert.DwguIdeal.τ).loc Cert.DwguIdeal.main_v5)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v5) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v7) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1))

def preserves_DhA_DhAIdeal : Prop :=
  True

def algebraic_DhAIdeal_DhARefIdeal [hDhAIdeal : Cert.DhAIdeal.Facts] [hDhARefIdeal : Cert.DhARefIdeal.Facts] : Prop :=
  ∀ (m : (ℓ : Loc Cert.DhAIdeal.nD Cert.DhAIdeal.τ Cert.DhAIdeal.sig) → Buf (Elt Ideal) ℓ) (g : Dev Cert.DhAIdeal.nD → PrngReg)
    (m' : (ℓ : Loc Cert.DhARefIdeal.nD Cert.DhARefIdeal.τ Cert.DhARefIdeal.sig) → Buf (Elt Ideal) ℓ) (g' : Dev Cert.DhARefIdeal.nD → PrngReg), Pre_DhAIdeal m →
    (∀ c : Dev Cert.DhAIdeal.nD,
      m' ((c.tc : Thread Cert.DhARefIdeal.nD Cert.DhARefIdeal.τ).loc Cert.DhARefIdeal.main_arg0) = m ((c.tc : Thread Cert.DhAIdeal.nD Cert.DhAIdeal.τ).loc Cert.DhAIdeal.main_arg0)
      ∧ m' ((c.tc : Thread Cert.DhARefIdeal.nD Cert.DhARefIdeal.τ).loc Cert.DhARefIdeal.main_arg1) = m ((c.tc : Thread Cert.DhAIdeal.nD Cert.DhAIdeal.τ).loc Cert.DhAIdeal.main_arg1)) →
    ∃ (v0 : (c : Dev Cert.DhAIdeal.nD) → Buf (Elt Ideal) ((c.tc : Thread Cert.DhAIdeal.nD Cert.DhAIdeal.τ).loc Cert.DhAIdeal.main_v14)),
      θ_run (Cert.DhAIdeal.defs (F := Ideal)) (onTc (τ := Cert.DhAIdeal.τ) (Cert.DhAIdeal.main (F := Ideal))) ⟨m, fun _ => 0, g⟩ (fun r => ∀ c : Dev Cert.DhAIdeal.nD,
          r.2.mem ((c.tc : Thread Cert.DhAIdeal.nD Cert.DhAIdeal.τ).loc Cert.DhAIdeal.main_v14) = v0 c
          ∧ r.2.mem ((c.tc : Thread Cert.DhAIdeal.nD Cert.DhAIdeal.τ).loc Cert.DhAIdeal.main_arg0) = m ((c.tc : Thread Cert.DhAIdeal.nD Cert.DhAIdeal.τ).loc Cert.DhAIdeal.main_arg0)
          ∧ r.2.mem ((c.tc : Thread Cert.DhAIdeal.nD Cert.DhAIdeal.τ).loc Cert.DhAIdeal.main_arg1) = m ((c.tc : Thread Cert.DhAIdeal.nD Cert.DhAIdeal.τ).loc Cert.DhAIdeal.main_arg1))
      ∧ θ_run (Cert.DhARefIdeal.defs (F := Ideal)) (onTc (τ := Cert.DhARefIdeal.τ) (Cert.DhARefIdeal.main (F := Ideal))) ⟨m', fun _ => 0, g'⟩ (fun r => ∀ c : Dev Cert.DhARefIdeal.nD,
          r.2.mem ((c.tc : Thread Cert.DhARefIdeal.nD Cert.DhARefIdeal.τ).loc Cert.DhARefIdeal.main_v3) = v0 c
          ∧ r.2.mem ((c.tc : Thread Cert.DhARefIdeal.nD Cert.DhARefIdeal.τ).loc Cert.DhARefIdeal.main_arg0) = m' ((c.tc : Thread Cert.DhARefIdeal.nD Cert.DhARefIdeal.τ).loc Cert.DhARefIdeal.main_arg0)
          ∧ r.2.mem ((c.tc : Thread Cert.DhARefIdeal.nD Cert.DhARefIdeal.τ).loc Cert.DhARefIdeal.main_arg1) = m' ((c.tc : Thread Cert.DhARefIdeal.nD Cert.DhARefIdeal.τ).loc Cert.DhARefIdeal.main_arg1))

def preserves_DhB_DhBIdeal : Prop :=
  True

def algebraic_DhBIdeal_DhBRefIdeal [hDhBIdeal : Cert.DhBIdeal.Facts] [hDhBRefIdeal : Cert.DhBRefIdeal.Facts] : Prop :=
  ∀ (m : (ℓ : Loc Cert.DhBIdeal.nD Cert.DhBIdeal.τ Cert.DhBIdeal.sig) → Buf (Elt Ideal) ℓ) (g : Dev Cert.DhBIdeal.nD → PrngReg)
    (m' : (ℓ : Loc Cert.DhBRefIdeal.nD Cert.DhBRefIdeal.τ Cert.DhBRefIdeal.sig) → Buf (Elt Ideal) ℓ) (g' : Dev Cert.DhBRefIdeal.nD → PrngReg), Pre_DhBIdeal m →
    (∀ c : Dev Cert.DhBIdeal.nD,
      m' ((c.tc : Thread Cert.DhBRefIdeal.nD Cert.DhBRefIdeal.τ).loc Cert.DhBRefIdeal.main_arg0) = m ((c.tc : Thread Cert.DhBIdeal.nD Cert.DhBIdeal.τ).loc Cert.DhBIdeal.main_arg0)
      ∧ m' ((c.tc : Thread Cert.DhBRefIdeal.nD Cert.DhBRefIdeal.τ).loc Cert.DhBRefIdeal.main_arg1) = m ((c.tc : Thread Cert.DhBIdeal.nD Cert.DhBIdeal.τ).loc Cert.DhBIdeal.main_arg1)) →
    ∃ (v0 : (c : Dev Cert.DhBIdeal.nD) → Buf (Elt Ideal) ((c.tc : Thread Cert.DhBIdeal.nD Cert.DhBIdeal.τ).loc Cert.DhBIdeal.main_v8)),
      θ_run (Cert.DhBIdeal.defs (F := Ideal)) (onTc (τ := Cert.DhBIdeal.τ) (Cert.DhBIdeal.main (F := Ideal))) ⟨m, fun _ => 0, g⟩ (fun r => ∀ c : Dev Cert.DhBIdeal.nD,
          r.2.mem ((c.tc : Thread Cert.DhBIdeal.nD Cert.DhBIdeal.τ).loc Cert.DhBIdeal.main_v8) = v0 c
          ∧ r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
          ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1))
      ∧ θ_run (Cert.DhBRefIdeal.defs (F := Ideal)) (onTc (τ := Cert.DhBRefIdeal.τ) (Cert.DhBRefIdeal.main (F := Ideal))) ⟨m', fun _ => 0, g'⟩ (fun r => ∀ c : Dev Cert.DhBRefIdeal.nD,
          r.2.mem ((c.tc : Thread Cert.DhBRefIdeal.nD Cert.DhBRefIdeal.τ).loc Cert.DhBRefIdeal.main_v3) = v0 c
          ∧ r.2.mem ((c.tc : Thread Cert.DhBRefIdeal.nD Cert.DhBRefIdeal.τ).loc Cert.DhBRefIdeal.main_arg0) = m' ((c.tc : Thread Cert.DhBRefIdeal.nD Cert.DhBRefIdeal.τ).loc Cert.DhBRefIdeal.main_arg0)
          ∧ r.2.mem ((c.tc : Thread Cert.DhBRefIdeal.nD Cert.DhBRefIdeal.τ).loc Cert.DhBRefIdeal.main_arg1) = m' ((c.tc : Thread Cert.DhBRefIdeal.nD Cert.DhBRefIdeal.τ).loc Cert.DhBRefIdeal.main_arg1))

def preserves_Wy_WyIdeal : Prop :=
  True

def Claim : Prop :=
  ∃ (hLoss : Cert.Loss.Facts) (hLossIdeal : Cert.LossIdeal.Facts) (hLossRefIdeal : Cert.LossRefIdeal.Facts) (hConvQ : Cert.ConvQ.Facts) (hConvQIdeal : Cert.ConvQIdeal.Facts) (hConvQRefIdeal : Cert.ConvQRefIdeal.Facts) (hConvK : Cert.ConvK.Facts) (hConvKIdeal : Cert.ConvKIdeal.Facts) (hConvKRefIdeal : Cert.ConvKRefIdeal.Facts) (hConvV : Cert.ConvV.Facts) (hConvVIdeal : Cert.ConvVIdeal.Facts) (hConvVRefIdeal : Cert.ConvVRefIdeal.Facts) (hNorm : Cert.Norm.Facts) (hNormIdeal : Cert.NormIdeal.Facts) (hNormRefIdeal : Cert.NormRefIdeal.Facts) (hSwiglu : Cert.Swiglu.Facts) (hSwigluIdeal : Cert.SwigluIdeal.Facts) (hSwigluRefIdeal : Cert.SwigluRefIdeal.Facts) (hSgu : Cert.Sgu.Facts) (hSguIdeal : Cert.SguIdeal.Facts) (hSguRefIdeal : Cert.SguRefIdeal.Facts) (hGates : Cert.Gates.Facts) (hGatesIdeal : Cert.GatesIdeal.Facts) (hGatesRefIdeal : Cert.GatesRefIdeal.Facts) (hNormF : Cert.NormF.Facts) (hNormFIdeal : Cert.NormFIdeal.Facts) (hNormFRefIdeal : Cert.NormFRefIdeal.Facts) (hSguF : Cert.SguF.Facts) (hSguFIdeal : Cert.SguFIdeal.Facts) (hSguFRefIdeal : Cert.SguFRefIdeal.Facts) (hConvQF : Cert.ConvQF.Facts) (hConvQFIdeal : Cert.ConvQFIdeal.Facts) (hConvQFRefIdeal : Cert.ConvQFRefIdeal.Facts) (hConvKF : Cert.ConvKF.Facts) (hConvKFIdeal : Cert.ConvKFIdeal.Facts) (hConvKFRefIdeal : Cert.ConvKFRefIdeal.Facts) (hConvVF : Cert.ConvVF.Facts) (hConvVFIdeal : Cert.ConvVFIdeal.Facts) (hConvVFRefIdeal : Cert.ConvVFRefIdeal.Facts) (hGatesF : Cert.GatesF.Facts) (hGatesFIdeal : Cert.GatesFIdeal.Facts) (hGatesFRefIdeal : Cert.GatesFRefIdeal.Facts) (hSwigluF : Cert.SwigluF.Facts) (hSwigluFIdeal : Cert.SwigluFIdeal.Facts) (hSwigluFRefIdeal : Cert.SwigluFRefIdeal.Facts) (hScanF : Cert.ScanF.Facts) (hScanFIdeal : Cert.ScanFIdeal.Facts) (hScanFRefIdeal : Cert.ScanFRefIdeal.Facts) (hWyF : Cert.WyF.Facts) (hWyFIdeal : Cert.WyFIdeal.Facts) (hWyFRefIdeal : Cert.WyFRefIdeal.Facts) (hOut : Cert.Out.Facts) (hOutIdeal : Cert.OutIdeal.Facts) (hOutRefIdeal : Cert.OutRefIdeal.Facts) (hDmix : Cert.Dmix.Facts) (hDmixIdeal : Cert.DmixIdeal.Facts) (hDmixRefIdeal : Cert.DmixRefIdeal.Facts) (hDwout : Cert.Dwout.Facts) (hDwoutIdeal : Cert.DwoutIdeal.Facts) (hDwoutRefIdeal : Cert.DwoutRefIdeal.Facts) (hDown : Cert.Down.Facts) (hDownIdeal : Cert.DownIdeal.Facts) (hDownRefIdeal : Cert.DownRefIdeal.Facts) (hDwdown : Cert.Dwdown.Facts) (hDwdownIdeal : Cert.DwdownIdeal.Facts) (hDwdownRefIdeal : Cert.DwdownRefIdeal.Facts) (hAdam : Cert.Adam.Facts) (hAdamIdeal : Cert.AdamIdeal.Facts) (hAdamRefIdeal : Cert.AdamRefIdeal.Facts) (hProj : Cert.Proj.Facts) (hProjIdeal : Cert.ProjIdeal.Facts) (hProjRefIdeal : Cert.ProjRefIdeal.Facts) (hDwin : Cert.Dwin.Facts) (hDwinIdeal : Cert.DwinIdeal.Facts) (hDwinRefIdeal : Cert.DwinRefIdeal.Facts) (hDwgu : Cert.Dwgu.Facts) (hDwguIdeal : Cert.DwguIdeal.Facts) (hDwguRefIdeal : Cert.DwguRefIdeal.Facts) (hDhA : Cert.DhA.Facts) (hDhAIdeal : Cert.DhAIdeal.Facts) (hDhARefIdeal : Cert.DhARefIdeal.Facts) (hDhB : Cert.DhB.Facts) (hDhBIdeal : Cert.DhBIdeal.Facts) (hDhBRefIdeal : Cert.DhBRefIdeal.Facts) (hWy : Cert.Wy.Facts) (hWyIdeal : Cert.WyIdeal.Facts) (hPre_gates_regular : Cert.Pre_gates_regular.Facts) (hPre_wy_finite : Cert.Pre_wy_finite.Facts),
    quiescent_Loss (hLoss := hLoss)
    ∧ quiescent_LossIdeal (hLossIdeal := hLossIdeal)
    ∧ quiescent_LossRefIdeal (hLossRefIdeal := hLossRefIdeal)
    ∧ quiescent_ConvQ (hConvQ := hConvQ)
    ∧ quiescent_ConvQIdeal (hConvQIdeal := hConvQIdeal)
    ∧ quiescent_ConvQRefIdeal (hConvQRefIdeal := hConvQRefIdeal)
    ∧ quiescent_ConvK (hConvK := hConvK)
    ∧ quiescent_ConvKIdeal (hConvKIdeal := hConvKIdeal)
    ∧ quiescent_ConvKRefIdeal (hConvKRefIdeal := hConvKRefIdeal)
    ∧ quiescent_ConvV (hConvV := hConvV)
    ∧ quiescent_ConvVIdeal (hConvVIdeal := hConvVIdeal)
    ∧ quiescent_ConvVRefIdeal (hConvVRefIdeal := hConvVRefIdeal)
    ∧ quiescent_Norm (hNorm := hNorm)
    ∧ quiescent_NormIdeal (hNormIdeal := hNormIdeal)
    ∧ quiescent_NormRefIdeal (hNormRefIdeal := hNormRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Sgu (hSgu := hSgu)
    ∧ quiescent_SguIdeal (hSguIdeal := hSguIdeal)
    ∧ quiescent_SguRefIdeal (hSguRefIdeal := hSguRefIdeal)
    ∧ quiescent_Gates (hGates := hGates)
    ∧ quiescent_GatesIdeal (hGatesIdeal := hGatesIdeal)
    ∧ quiescent_GatesIdeal_pre_gates_regular (hGatesIdeal := hGatesIdeal) (hPre_gates_regular := hPre_gates_regular)
    ∧ quiescent_GatesRefIdeal (hGatesRefIdeal := hGatesRefIdeal)
    ∧ quiescent_GatesRefIdeal_pre_gates_regular (hGatesRefIdeal := hGatesRefIdeal) (hPre_gates_regular := hPre_gates_regular)
    ∧ quiescent_NormF (hNormF := hNormF)
    ∧ quiescent_NormFIdeal (hNormFIdeal := hNormFIdeal)
    ∧ quiescent_NormFRefIdeal (hNormFRefIdeal := hNormFRefIdeal)
    ∧ quiescent_SguF (hSguF := hSguF)
    ∧ quiescent_SguFIdeal (hSguFIdeal := hSguFIdeal)
    ∧ quiescent_SguFRefIdeal (hSguFRefIdeal := hSguFRefIdeal)
    ∧ quiescent_ConvQF (hConvQF := hConvQF)
    ∧ quiescent_ConvQFIdeal (hConvQFIdeal := hConvQFIdeal)
    ∧ quiescent_ConvQFRefIdeal (hConvQFRefIdeal := hConvQFRefIdeal)
    ∧ quiescent_ConvKF (hConvKF := hConvKF)
    ∧ quiescent_ConvKFIdeal (hConvKFIdeal := hConvKFIdeal)
    ∧ quiescent_ConvKFRefIdeal (hConvKFRefIdeal := hConvKFRefIdeal)
    ∧ quiescent_ConvVF (hConvVF := hConvVF)
    ∧ quiescent_ConvVFIdeal (hConvVFIdeal := hConvVFIdeal)
    ∧ quiescent_ConvVFRefIdeal (hConvVFRefIdeal := hConvVFRefIdeal)
    ∧ quiescent_GatesF (hGatesF := hGatesF)
    ∧ quiescent_GatesFIdeal (hGatesFIdeal := hGatesFIdeal)
    ∧ quiescent_GatesFRefIdeal (hGatesFRefIdeal := hGatesFRefIdeal)
    ∧ quiescent_SwigluF (hSwigluF := hSwigluF)
    ∧ quiescent_SwigluFIdeal (hSwigluFIdeal := hSwigluFIdeal)
    ∧ quiescent_SwigluFRefIdeal (hSwigluFRefIdeal := hSwigluFRefIdeal)
    ∧ quiescent_ScanF (hScanF := hScanF)
    ∧ quiescent_ScanFIdeal (hScanFIdeal := hScanFIdeal)
    ∧ quiescent_ScanFRefIdeal (hScanFRefIdeal := hScanFRefIdeal)
    ∧ quiescent_WyF (hWyF := hWyF)
    ∧ quiescent_WyFIdeal (hWyFIdeal := hWyFIdeal)
    ∧ quiescent_WyFIdeal_pre_wy_finite (hWyFIdeal := hWyFIdeal) (hPre_wy_finite := hPre_wy_finite)
    ∧ quiescent_WyFRefIdeal (hWyFRefIdeal := hWyFRefIdeal)
    ∧ quiescent_WyFRefIdeal_pre_wy_finite (hWyFRefIdeal := hWyFRefIdeal) (hPre_wy_finite := hPre_wy_finite)
    ∧ quiescent_Out (hOut := hOut)
    ∧ quiescent_OutIdeal (hOutIdeal := hOutIdeal)
    ∧ quiescent_OutRefIdeal (hOutRefIdeal := hOutRefIdeal)
    ∧ quiescent_Dmix (hDmix := hDmix)
    ∧ quiescent_DmixIdeal (hDmixIdeal := hDmixIdeal)
    ∧ quiescent_DmixRefIdeal (hDmixRefIdeal := hDmixRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Down (hDown := hDown)
    ∧ quiescent_DownIdeal (hDownIdeal := hDownIdeal)
    ∧ quiescent_DownRefIdeal (hDownRefIdeal := hDownRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Adam (hAdam := hAdam)
    ∧ quiescent_AdamIdeal (hAdamIdeal := hAdamIdeal)
    ∧ quiescent_AdamRefIdeal (hAdamRefIdeal := hAdamRefIdeal)
    ∧ quiescent_Proj (hProj := hProj)
    ∧ quiescent_ProjIdeal (hProjIdeal := hProjIdeal)
    ∧ quiescent_ProjRefIdeal (hProjRefIdeal := hProjRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dwgu (hDwgu := hDwgu)
    ∧ quiescent_DwguIdeal (hDwguIdeal := hDwguIdeal)
    ∧ quiescent_DwguRefIdeal (hDwguRefIdeal := hDwguRefIdeal)
    ∧ quiescent_DhA (hDhA := hDhA)
    ∧ quiescent_DhAIdeal (hDhAIdeal := hDhAIdeal)
    ∧ quiescent_DhARefIdeal (hDhARefIdeal := hDhARefIdeal)
    ∧ quiescent_DhB (hDhB := hDhB)
    ∧ quiescent_DhBIdeal (hDhBIdeal := hDhBIdeal)
    ∧ quiescent_DhBRefIdeal (hDhBRefIdeal := hDhBRefIdeal)
    ∧ quiescent_Wy (hWy := hWy)
    ∧ quiescent_WyIdeal (hWyIdeal := hWyIdeal)
    ∧ preserves_Loss_LossIdeal
    ∧ algebraic_LossIdeal_LossRefIdeal (hLossIdeal := hLossIdeal) (hLossRefIdeal := hLossRefIdeal)
    ∧ preserves_ConvQ_ConvQIdeal
    ∧ algebraic_ConvQIdeal_ConvQRefIdeal (hConvQIdeal := hConvQIdeal) (hConvQRefIdeal := hConvQRefIdeal)
    ∧ preserves_ConvK_ConvKIdeal
    ∧ algebraic_ConvKIdeal_ConvKRefIdeal (hConvKIdeal := hConvKIdeal) (hConvKRefIdeal := hConvKRefIdeal)
    ∧ preserves_ConvV_ConvVIdeal
    ∧ algebraic_ConvVIdeal_ConvVRefIdeal (hConvVIdeal := hConvVIdeal) (hConvVRefIdeal := hConvVRefIdeal)
    ∧ preserves_Norm_NormIdeal
    ∧ algebraic_NormIdeal_NormRefIdeal (hNormIdeal := hNormIdeal) (hNormRefIdeal := hNormRefIdeal)
    ∧ preserves_Swiglu_SwigluIdeal
    ∧ algebraic_SwigluIdeal_SwigluRefIdeal (hSwigluIdeal := hSwigluIdeal) (hSwigluRefIdeal := hSwigluRefIdeal)
    ∧ preserves_Sgu_SguIdeal
    ∧ algebraic_SguIdeal_SguRefIdeal (hSguIdeal := hSguIdeal) (hSguRefIdeal := hSguRefIdeal)
    ∧ preserves_Gates_GatesIdeal
    ∧ algebraic_GatesIdeal_GatesRefIdeal_pre_gates_regular (hGatesIdeal := hGatesIdeal) (hGatesRefIdeal := hGatesRefIdeal) (hPre_gates_regular := hPre_gates_regular)
    ∧ preserves_NormF_NormFIdeal
    ∧ algebraic_NormFIdeal_NormFRefIdeal (hNormFIdeal := hNormFIdeal) (hNormFRefIdeal := hNormFRefIdeal)
    ∧ preserves_SguF_SguFIdeal
    ∧ algebraic_SguFIdeal_SguFRefIdeal (hSguFIdeal := hSguFIdeal) (hSguFRefIdeal := hSguFRefIdeal)
    ∧ preserves_ConvQF_ConvQFIdeal
    ∧ algebraic_ConvQFIdeal_ConvQFRefIdeal (hConvQFIdeal := hConvQFIdeal) (hConvQFRefIdeal := hConvQFRefIdeal)
    ∧ preserves_ConvKF_ConvKFIdeal
    ∧ algebraic_ConvKFIdeal_ConvKFRefIdeal (hConvKFIdeal := hConvKFIdeal) (hConvKFRefIdeal := hConvKFRefIdeal)
    ∧ preserves_ConvVF_ConvVFIdeal
    ∧ algebraic_ConvVFIdeal_ConvVFRefIdeal (hConvVFIdeal := hConvVFIdeal) (hConvVFRefIdeal := hConvVFRefIdeal)
    ∧ preserves_GatesF_GatesFIdeal
    ∧ algebraic_GatesFIdeal_GatesFRefIdeal (hGatesFIdeal := hGatesFIdeal) (hGatesFRefIdeal := hGatesFRefIdeal)
    ∧ preserves_SwigluF_SwigluFIdeal
    ∧ algebraic_SwigluFIdeal_SwigluFRefIdeal (hSwigluFIdeal := hSwigluFIdeal) (hSwigluFRefIdeal := hSwigluFRefIdeal)
    ∧ preserves_ScanF_ScanFIdeal
    ∧ algebraic_ScanFIdeal_ScanFRefIdeal (hScanFIdeal := hScanFIdeal) (hScanFRefIdeal := hScanFRefIdeal)
    ∧ preserves_WyF_WyFIdeal
    ∧ algebraic_WyFIdeal_WyFRefIdeal_pre_wy_finite (hWyFIdeal := hWyFIdeal) (hWyFRefIdeal := hWyFRefIdeal) (hPre_wy_finite := hPre_wy_finite)
    ∧ preserves_Out_OutIdeal
    ∧ algebraic_OutIdeal_OutRefIdeal (hOutIdeal := hOutIdeal) (hOutRefIdeal := hOutRefIdeal)
    ∧ preserves_Dmix_DmixIdeal
    ∧ algebraic_DmixIdeal_DmixRefIdeal (hDmixIdeal := hDmixIdeal) (hDmixRefIdeal := hDmixRefIdeal)
    ∧ preserves_Dwout_DwoutIdeal
    ∧ algebraic_DwoutIdeal_DwoutRefIdeal (hDwoutIdeal := hDwoutIdeal) (hDwoutRefIdeal := hDwoutRefIdeal)
    ∧ preserves_Down_DownIdeal
    ∧ algebraic_DownIdeal_DownRefIdeal (hDownIdeal := hDownIdeal) (hDownRefIdeal := hDownRefIdeal)
    ∧ preserves_Dwdown_DwdownIdeal
    ∧ algebraic_DwdownIdeal_DwdownRefIdeal (hDwdownIdeal := hDwdownIdeal) (hDwdownRefIdeal := hDwdownRefIdeal)
    ∧ preserves_Adam_AdamIdeal
    ∧ algebraic_AdamIdeal_AdamRefIdeal (hAdamIdeal := hAdamIdeal) (hAdamRefIdeal := hAdamRefIdeal)
    ∧ preserves_Proj_ProjIdeal
    ∧ algebraic_ProjIdeal_ProjRefIdeal (hProjIdeal := hProjIdeal) (hProjRefIdeal := hProjRefIdeal)
    ∧ preserves_Dwin_DwinIdeal
    ∧ algebraic_DwinIdeal_DwinRefIdeal (hDwinIdeal := hDwinIdeal) (hDwinRefIdeal := hDwinRefIdeal)
    ∧ preserves_Dwgu_DwguIdeal
    ∧ algebraic_DwguIdeal_DwguRefIdeal (hDwguIdeal := hDwguIdeal) (hDwguRefIdeal := hDwguRefIdeal)
    ∧ preserves_DhA_DhAIdeal
    ∧ algebraic_DhAIdeal_DhARefIdeal (hDhAIdeal := hDhAIdeal) (hDhARefIdeal := hDhARefIdeal)
    ∧ preserves_DhB_DhBIdeal
    ∧ algebraic_DhBIdeal_DhBRefIdeal (hDhBIdeal := hDhBIdeal) (hDhBRefIdeal := hDhBRefIdeal)
    ∧ preserves_Wy_WyIdeal
-- ==== Pre_gates_regular.lean ====
abbrev S1x2048x6412 : Shape := ⟨3, ![1, 2048, 6412]⟩
abbrev S6 : Shape := ⟨1, ![6]⟩
abbrev S6x2048x128 : Shape := ⟨3, ![6, 2048, 128]⟩
abbrev S1x2048x6 : Shape := ⟨3, ![1, 2048, 6]⟩
abbrev S2048x6 : Shape := ⟨2, ![2048, 6]⟩
abbrev S_ : Shape := ⟨0, ![]⟩
abbrev S1x6 : Shape := ⟨2, ![1, 6]⟩

class Facts : Prop where
  slices_S1x2048x6412_S1x2048x6_0_0_4102 : S1x2048x6412.Slices ![0, 0, 4102] S1x2048x6
  shapeCasts_S1x2048x6_S2048x6 : S1x2048x6.ShapeCasts S2048x6
  bcast_S_S2048x6 : S_.BroadcastsInDim S2048x6 (![] : Fin 0 → Fin S2048x6.rank)
  bcast_S_S6 : S_.BroadcastsInDim S6 (![] : Fin 0 → Fin S6.rank)
  bcast_S_S6x2048x128 : S_.BroadcastsInDim S6x2048x128 (![] : Fin 0 → Fin S6x2048x128.rank)
  bcast_S6_S1x6_1 : S6.BroadcastsInDim S1x6 (![1] : Fin 1 → Fin S1x6.rank)
  bcast_S1x6_S2048x6_0_1 : S1x6.BroadcastsInDim S2048x6 (![0, 1] : Fin 2 → Fin S2048x6.rank)

variable [Facts]

def fn_part1 {F : FTy → Type} [FloatOps F] (main_v1 : FVec F S2048x6 .f32) (main_v4 : IVec S2048x6 1) (main_v7 : IVec S6 1) (main_v10 : IVec S6 1) (main_v13 : IVec S6x2048x128 1) (main_v16 : IVec S6x2048x128 1) (main_v18 : FVec F S2048x6 .f32) : IVec S2048x6 1 × IVec S6 1 × IVec S6 1 × IVec S6x2048x128 1 × IVec S6x2048x128 1 × IVec S2048x6 1 :=
  let main_v19 : FVec F S2048x6 .f32 := addf main_v1 main_v18
  let main_cst_4 : FVec F S_ .f32 := constant S_ .f32 0x00000000#32
  let main_v20 : FVec F S2048x6 .f32 := broadcastInDim S2048x6 ![] bcast_S_S2048x6 main_cst_4
  let main_v21 : IVec S2048x6 1 := cmpf .une main_v19 main_v20
  (main_v4, main_v7, main_v10, main_v13, main_v16, main_v21)

def fn {F : FTy → Type} [FloatOps F] (main_arg0 : FVec F S1x2048x6412 .f32) (main_arg1 : FVec F S6 .f32) (main_arg2 : FVec F S6 .f32) (main_arg3 : FVec F S6x2048x128 .f32) (main_arg4 : FVec F S6x2048x128 .f32) (main_arg5 : FVec F S6x2048x128 .f32) : IVec S2048x6 1 × IVec S6 1 × IVec S6 1 × IVec S6x2048x128 1 × IVec S6x2048x128 1 × IVec S2048x6 1 :=
  let main_v0 : FVec F S1x2048x6 .f32 := (extractStridedSlice S1x2048x6 ![0, 0, 4102] · slices_S1x2048x6412_S1x2048x6_0_0_4102) main_arg0
  let main_v1 : FVec F S2048x6 .f32 := shapeCast S2048x6 main_v0 shapeCasts_S1x2048x6_S2048x6
  let main_v2 : FVec F S2048x6 .f32 := Host.absf main_v1
  let main_cst : FVec F S_ .f32 := constant S_ .f32 0x7F800000#32
  let main_v3 : FVec F S2048x6 .f32 := broadcastInDim S2048x6 ![] bcast_S_S2048x6 main_cst
  let main_v4 : IVec S2048x6 1 := cmpf .olt main_v2 main_v3
  let main_v5 : FVec F S6 .f32 := Host.absf main_arg1
  let main_cst_0 : FVec F S_ .f32 := constant S_ .f32 0x7F800000#32
  let main_v6 : FVec F S6 .f32 := broadcastInDim S6 ![] bcast_S_S6 main_cst_0
  let main_v7 : IVec S6 1 := cmpf .olt main_v5 main_v6
  let main_v8 : FVec F S6 .f32 := Host.absf main_arg2
  let main_cst_1 : FVec F S_ .f32 := constant S_ .f32 0x7F800000#32
  let main_v9 : FVec F S6 .f32 := broadcastInDim S6 ![] bcast_S_S6 main_cst_1
  let main_v10 : IVec S6 1 := cmpf .olt main_v8 main_v9
  let main_v11 : FVec F S6x2048x128 .f32 := Host.absf main_arg4
  let main_cst_2 : FVec F S_ .f32 := constant S_ .f32 0x7F800000#32
  let main_v12 : FVec F S6x2048x128 .f32 := broadcastInDim S6x2048x128 ![] bcast_S_S6x2048x128 main_cst_2
  let main_v13 : IVec S6x2048x128 1 := cmpf .olt main_v11 main_v12
  let main_v14 : FVec F S6x2048x128 .f32 := Host.absf main_arg5
  let main_cst_3 : FVec F S_ .f32 := constant S_ .f32 0x7F800000#32
  let main_v15 : FVec F S6x2048x128 .f32 := broadcastInDim S6x2048x128 ![] bcast_S_S6x2048x128 main_cst_3
  let main_v16 : IVec S6x2048x128 1 := cmpf .olt main_v14 main_v15
  let main_v17 : FVec F S1x6 .f32 := broadcastInDim S1x6 ![1] bcast_S6_S1x6_1 main_arg2
  let main_v18 : FVec F S2048x6 .f32 := broadcastInDim S2048x6 ![0, 1] bcast_S1x6_S2048x6_0_1 main_v17
  fn_part1 (F := F) main_v1 main_v4 main_v7 main_v10 main_v13 main_v16 main_v18
-- ==== Pre_wy_finite.lean ====
abbrev S2048x768 : Shape := ⟨2, ![2048, 768]⟩
abbrev S6x2048 : Shape := ⟨2, ![6, 2048]⟩
abbrev S_ : Shape := ⟨0, ![]⟩

class Facts : Prop where
  bcast_S_S2048x768 : S_.BroadcastsInDim S2048x768 (![] : Fin 0 → Fin S2048x768.rank)
  bcast_S_S6x2048 : S_.BroadcastsInDim S6x2048 (![] : Fin 0 → Fin S6x2048.rank)

variable [Facts]

def fn {F : FTy → Type} [FloatOps F] (main_arg0 : FVec F S2048x768 .f32) (main_arg1 : FVec F S2048x768 .f32) (main_arg2 : FVec F S2048x768 .f32) (main_arg3 : FVec F S6x2048 .f32) (main_arg4 : FVec F S6x2048 .f32) : IVec S2048x768 1 × IVec S2048x768 1 × IVec S6x2048 1 × IVec S6x2048 1 :=
  let main_v0 : FVec F S2048x768 .f32 := Host.absf main_arg1
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S2048x768 .f32 := Host.absf main_arg2
  let main_cst_0 : FVec F S_ .f32 := constant S_ .f32 0x7F800000#32
  let main_v4 : FVec F S2048x768 .f32 := broadcastInDim S2048x768 ![] bcast_S_S2048x768 main_cst_0
  let main_v5 : IVec S2048x768 1 := cmpf .olt main_v3 main_v4
  let main_v6 : FVec F S6x2048 .f32 := Host.absf main_arg3
  let main_cst_1 : FVec F S_ .f32 := constant S_ .f32 0x7F800000#32
  let main_v7 : FVec F S6x2048 .f32 := broadcastInDim S6x2048 ![] bcast_S_S6x2048 main_cst_1
  let main_v8 : IVec S6x2048 1 := cmpf .olt main_v6 main_v7
  let main_v9 : FVec F S6x2048 .f32 := Host.absf main_arg4
  let main_cst_2 : FVec F S_ .f32 := constant S_ .f32 0x7F800000#32
  let main_v10 : FVec F S6x2048 .f32 := broadcastInDim S6x2048 ![] bcast_S_S6x2048 main_cst_2
  let main_v11 : IVec S6x2048 1 := cmpf .olt main_v9 main_v10
  (main_v2, main_v5, main_v8, main_v11)
-- ==== Loss.lean ====
abbrev S2048x2048 : Shape := ⟨2, ![2048, 2048]⟩
abbrev S8x128 : Shape := ⟨2, ![8, 128]⟩
abbrev S512x2048 : Shape := ⟨2, ![512, 2048]⟩
abbrev S1x512x2048 : Shape := ⟨3, ![1, 512, 2048]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S2048x2048 : Shape := ⟨2, ![2048, 2048]⟩
abbrev S1x2048x2048 : Shape := ⟨3, ![1, 2048, 2048]⟩
abbrev S_ : Shape := ⟨0, ![]⟩
abbrev S1x2048 : Shape := ⟨2, ![1, 2048]⟩
abbrev S8x128 : Shape := ⟨2, ![8, 128]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S_, .f32⟩
  | .hbm, ⟨7, _⟩ => ⟨S1x2048x2048, .f32⟩
  | .hbm, ⟨8, _⟩ => ⟨S1x2048x2048, .f32⟩
  | .hbm, ⟨9, _⟩ => ⟨S_, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048x2048, .f32⟩
  | .hbm, ⟨26, _⟩ => ⟨S1x2048x2048, .f32⟩
  | .hbm, ⟨27, _⟩ => ⟨S2048x2048, .f32⟩
  | .hbm, ⟨28, _⟩ => ⟨S2048x2048, .bf16⟩
  | .hbm, ⟨29, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== ConvQ.lean ====
abbrev S1x2048x6412 : Shape := ⟨3, ![1, 2048, 6412]⟩
abbrev S4x2304 : Shape := ⟨2, ![4, 2304]⟩
abbrev S2048x768 : Shape := ⟨2, ![2048, 768]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S4x768 : Shape := ⟨2, ![4, 768]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 12
  | .vmem => 12
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S2048x768, .f32⟩
  | .hbm, ⟨3, _⟩ => ⟨S2048x768, .f32⟩
  | .hbm, ⟨4, _⟩ => ⟨S2048x6412, .f32⟩
  | .hbm, ⟨5, _⟩ => ⟨S2048x4108, .f32⟩
  | .hbm, ⟨6, _⟩ => ⟨S_, .f32⟩
  | .hbm, ⟨7, _⟩ => ⟨S2048x116, .f32⟩
  | .hbm, ⟨8, _⟩ => ⟨S2048x2304, .f32⟩
  | .hbm, ⟨9, _⟩ => ⟨S2048x6528, .f32⟩
  | .hbm, ⟨10, _⟩ => ⟨S2048x768, .bf16⟩
  | .hbm, ⟨11, _⟩ => ⟨S4x768, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S4x128, .f32⟩
  | .local _ .vmem, ⟨11, _⟩ => ⟨S4x128, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvQRefIdeal.lean ====
abbrev S1x2048x6412 : Shape := ⟨3, ![1, 2048, 6412]⟩
abbrev S4x2304 : Shape := ⟨2, ![4, 2304]⟩
abbrev S2048x768 : Shape := ⟨2, ![2048, 768]⟩
abbrev S1x2048x512 : Shape := ⟨3, ![1, 2048, 512]⟩
abbrev S1x2048x768 : Shape := ⟨3, ![1, 2048, 768]⟩
abbrev S1x2048x6 : Shape := ⟨3, ![1, 2048, 6]⟩
abbrev S4x768 : Shape := ⟨2, ![4, 768]⟩
abbrev S_ : Shape := ⟨0, ![]⟩
abbrev S1x3x768 : Shape := ⟨3, ![1, 3, 768]⟩
abbrev S1x2051x768 : Shape := ⟨3, ![1, 2051, 768]⟩
abbrev S1x768 : Shape := ⟨2, ![1, 768]⟩
abbrev S768 : Shape := ⟨1, ![768]⟩
abbrev S1x1x768 : Shape := ⟨3, ![1, 1, 768]⟩
abbrev S1x2048x6x128 : Shape := ⟨4, ![1, 2048, 6, 128]⟩
abbrev S1x6x2048x128 : Shape := ⟨4, ![1, 6, 2048, 128]⟩
abbrev S1x6x2048 : Shape := ⟨3, ![1, 6, 2048]⟩
abbrev S1x6x2048x1 : Shape := ⟨4, ![1, 6, 2048, 1]⟩
abbrev S6x2048 : Shape := ⟨2, ![6, 2048]⟩

abbrev nBuf : Space → Nat
  | .hbm => 172
  | .vmem => 0
  | .smem => 0
  | _ => 0

abbrev hbmTy0_0 (i : Nat) : BufTy := match i % 128 with
  | 0 => ⟨S1x2048x6412, .f32⟩
  | 1 => ⟨S4x2304, .f32⟩
  | 2 => ⟨S2048x768, .f32⟩
  | 3 => ⟨S2048x768, .f32⟩
  | 4 => ⟨S1x2048x512, .f32⟩
  | 5 => ⟨S1x2048x512, .f32⟩
  | 6 => ⟨S1x2048x768, .f32⟩
  | 7 => ⟨S1x2048x768, .f32⟩
  | 8 => ⟨S1x2048x768, .f32⟩
  | 9 => ⟨S1x2048x768, .f32⟩
  | 10 => ⟨S1x2048x6, .f32⟩
  | 11 => ⟨S1x2048x6, .f32⟩
  | 12 => ⟨S1x2048x768, .f32⟩
  | 13 => ⟨S1x2048x768, .f32⟩
  | 14 => ⟨S1x2048x768, .f32⟩
  | 15 => ⟨S4x768, .f32⟩
  | 16 => ⟨S_, .f32⟩
  | 17 => ⟨S1x3x768, .f32⟩
  | 18 => ⟨S1x2051x768, .f32⟩
  | 19 => ⟨S_, .f32⟩
  | 20 => ⟨S1x3x768, .f32⟩
  | 21 => ⟨S1x2048x768, .f32⟩
  | 22 => ⟨S1x768, .f32⟩
  | 23 => ⟨S768, .f32⟩
  | 24 => ⟨S1x1x768, .f32⟩
  | 25 => ⟨S1x2048x768, .f32⟩
  | 26 => ⟨S1x2048x768, .f32⟩
  | 27 => ⟨S_, .f32⟩
  | 28 => ⟨S1x2048x768, .f32⟩
  | 29 => ⟨S1x2048x768, .f32⟩
  | 30 => ⟨S1x2048x768, .f32⟩
  | 31 => ⟨S1x768, .f32⟩
  | 32 => ⟨S768, .f32⟩
  | 33 => ⟨S1x1x768, .f32⟩
  | 34 => ⟨S1x2048x768, .f32⟩
  | 35 => ⟨S1x2048x768, .f32⟩
  | 36 => ⟨S1x2048x768, .f32⟩
  | 37 => ⟨S1x2048x768, .f32⟩
  | 38 => ⟨S1x768, .f32⟩
  | 39 => ⟨S768, .f32⟩
  | 40 => ⟨S1x1x768, .f32⟩
  | 41 => ⟨S1x2048x768, .f32⟩
  | 42 => ⟨S1x2048x768, .f32⟩
  | 43 => ⟨S1x2048x768, .f32⟩
  | 44 => ⟨S1x2048x768, .f32⟩
  | 45 => ⟨S1x768, .f32⟩
  | 46 => ⟨S768, .f32⟩
  | 47 => ⟨S1x1x768, .f32⟩
  | 48 => ⟨S1x2048x768, .f32⟩
  | 49 => ⟨S1x2048x768, .f32⟩
  | 50 => ⟨S1x2048x768, .f32⟩
  | 51 => ⟨S1x2048x768, .f32⟩
  | 52 => ⟨S1x2048x768, .f32⟩
  | 53 => ⟨S_, .f32⟩
  | 54 => ⟨S1x2048x768, .f32⟩
  | 55 => ⟨S1x2048x768, .f32⟩
  | 56 => ⟨S_, .f32⟩
  | 57 => ⟨S1x2048x768, .f32⟩
  | 58 => ⟨S1x2048x768, .f32⟩
  | 59 => ⟨S_, .f32⟩
  | 60 => ⟨S1x2048x768, .f32⟩
  | 61 => ⟨S1x2048x768, .f32⟩
  | 62 => ⟨S1x2048x768, .f32⟩
  | 63 => ⟨S1x2048x768, .f32⟩
  | 64 => ⟨S1x2048x6x128, .f32⟩
  | 65 => ⟨S1x6x2048x128, .f32⟩
  | 66 => ⟨S1x6x2048x128, .f32⟩
  | 67 => ⟨S_, .f32⟩
  | 68 => ⟨S1x6x2048, .f32⟩
  | 69 => ⟨S1x6x2048x1, .f32⟩
  | 70 => ⟨S_, .f32⟩
  | 71 => ⟨S1x6x2048x1, .f32⟩
  | 72 => ⟨S1x6x2048x1, .f32⟩
  | 73 => ⟨S1x6x2048x1, .f32⟩
  | 74 => ⟨S1x6x2048x1, .f32⟩
  | 75 => ⟨S_, .f32⟩
  | 76 => ⟨S1x6x2048x1, .f32⟩
  | 77 => ⟨S1x6x2048x1, .f32⟩
  | 78 => ⟨S1x6x2048x128, .f32⟩
  | 79 => ⟨S1x6x2048x128, .f32⟩
  | 80 => ⟨S_, .f32⟩
  | 81 => ⟨S1x6x2048x128, .f32⟩
  | 82 => ⟨S1x6x2048x128, .f32⟩
  | 83 => ⟨S2048x768, .f32⟩
  | 84 => ⟨S1x2048x6x128, .f32⟩
  | 85 => ⟨S1x6x2048x128, .f32⟩
  | 86 => ⟨S_, .f32⟩
  | 87 => ⟨S1x6x2048x128, .f32⟩
  | 88 => ⟨S1x6x2048x128, .f32⟩
  | 89 => ⟨S1x6x2048x128, .f32⟩
  | 90 => ⟨S_, .f32⟩
  | 91 => ⟨S1x6x2048, .f32⟩
  | 92 => ⟨S1x6x2048x1, .f32⟩
  | 93 => ⟨S1x6x2048x128, .f32⟩
  | 94 => ⟨S1x6x2048x128, .f32⟩
  | 95 => ⟨S1x6x2048x1, .f32⟩
  | 96 => ⟨S_, .f32⟩
  | 97 => ⟨S6x2048, .f32⟩
  | 98 => ⟨S1x6x2048, .f32⟩
  | 99 => ⟨S1x6x2048x128, .f32⟩
  | 100 => ⟨S1x6x2048x128, .f32⟩
  | 101 => ⟨S1x6x2048x128, .f32⟩
  | 102 => ⟨S1x6x2048x128, .f32⟩
  | 103 => ⟨S1x6x2048x128, .f32⟩
  | 104 => ⟨S1x2048x6x128, .f32⟩
  | 105 => ⟨S1x2048x768, .f32⟩
  | 106 => ⟨S1x2048x768, .f32⟩
  | 107 => ⟨S1x2048x768, .f32⟩
  | 108 => ⟨S1x2048x768, .f32⟩
  | 109 => ⟨S1x2048x768, .f32⟩
  | 110 => ⟨S1x2048x768, .f32⟩
  | 111 => ⟨S_, .f32⟩
  | 112 => ⟨S1x768, .f32⟩
  | 113 => ⟨S1x1x768, .f32⟩
  | 114 => ⟨S1x2048x768, .f32⟩
  | 115 => ⟨S1x2048x768, .f32⟩
  | 116 => ⟨S_, .f32⟩
  | 117 => ⟨S768, .f32⟩
  | 118 => ⟨S1x768, .f32⟩
  | 119 => ⟨S_, .f32⟩
  | 120 => ⟨S4x768, .f32⟩
  | 121 => ⟨S_, .f32⟩
  | 122 => ⟨S1x2051x768, .f32⟩
  | 123 => ⟨S1x2048x768, .f32⟩
  | 124 => ⟨S_, .f32⟩
  | 125 => ⟨S1x768, .f32⟩
  | 126 => ⟨S1x1x768, .f32⟩
  | 127 => ⟨S1x2048x768, .f32⟩
  | _ => ⟨S1x2048x6412, .f32⟩

abbrev hbmTy0_1 (i : Nat) : BufTy := match i % 128 with
  | 0 => ⟨S1x2048x768, .f32⟩
  | 1 => ⟨S_, .f32⟩
  | 2 => ⟨S768, .f32⟩
  | 3 => ⟨S1x768, .f32⟩
  | 4 => ⟨S_, .f32⟩
  | 5 => ⟨S4x768, .f32⟩
  | 6 => ⟨S4x768, .f32⟩
  | 7 => ⟨S_, .f32⟩
  | 8 => ⟨S1x2051x768, .f32⟩
  | 9 => ⟨S1x2051x768, .f32⟩
  | 10 => ⟨S1x2048x768, .f32⟩
  | 11 => ⟨S_, .f32⟩
  | 12 => ⟨S1x768, .f32⟩
  | 13 => ⟨S1x1x768, .f32⟩
  | 14 => ⟨S1x2048x768, .f32⟩
  | 15 => ⟨S1x2048x768, .f32⟩
  | 16 => ⟨S_, .f32⟩
  | 17 => ⟨S768, .f32⟩
  | 18 => ⟨S1x768, .f32⟩
  | 19 => ⟨S_, .f32⟩
  | 20 => ⟨S4x768, .f32⟩
  | 21 => ⟨S4x768, .f32⟩
  | 22 => ⟨S_, .f32⟩
  | 23 => ⟨S1x2051x768, .f32⟩
  | 24 => ⟨S1x2051x768, .f32⟩
  | 25 => ⟨S1x2048x768, .f32⟩
  | 26 => ⟨S_, .f32⟩
  | 27 => ⟨S1x768, .f32⟩
  | 28 => ⟨S1x1x768, .f32⟩
  | 29 => ⟨S1x2048x768, .f32⟩
  | 30 => ⟨S1x2048x768, .f32⟩
  | 31 => ⟨S_, .f32⟩
  | 32 => ⟨S768, .f32⟩
  | 33 => ⟨S1x768, .f32⟩
  | 34 => ⟨S_, .f32⟩
  | 35 => ⟨S4x768, .f32⟩
  | 36 => ⟨S4x768, .f32⟩
  | 37 => ⟨S_, .f32⟩
  | 38 => ⟨S1x2051x768, .f32⟩
  | 39 => ⟨S1x2051x768, .f32⟩
  | 40 => ⟨S1x3x768, .f32⟩
  | 41 => ⟨S1x2048x768, .f32⟩
  | 42 => ⟨S2048x768, .f32⟩
  | 43 => ⟨S2048x768, .bf16⟩
  | _ => ⟨S1x2048x6412, .f32⟩

abbrev hbmTy (i : Nat) : BufTy := match i / 128 with
  | 0 => hbmTy0_0 i
  | 1 => hbmTy0_1 i
  | _ => ⟨S1x2048x6412, .f32⟩

abbrev bufTy : (tb : Table) → Fin (tcTables nBuf tb) → BufTy
  | .hbm, ⟨i, _⟩ => hbmTy i
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v44_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v44_1 : Ref sig .tc := ⟨.hbm, 62, rfl⟩
abbrev main_v44_0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_2 : Ref sig .tc := ⟨.hbm, 67, rfl⟩
abbrev main_v48 : Ref sig .tc := ⟨.hbm, 68, rfl⟩
abbrev main_v49 : Ref sig .tc := ⟨.hbm, 69, rfl⟩
abbrev main_cst_3 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_5 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v80 : Ref sig .tc := ⟨.hbm, 109, rfl⟩
abbrev main_v81 : Ref sig .tc := ⟨.hbm, 110, rfl⟩
abbrev main_cst_9 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_10 : Ref sig .tc := ⟨.hbm, 116, rfl⟩
abbrev main_v86 : Ref sig .tc := ⟨.hbm, 117, rfl⟩
abbrev main_v87 : Ref sig .tc := ⟨.hbm, 118, rfl⟩
abbrev main_cst_11 : Ref sig .tc := ⟨.hbm, 119, rfl⟩
abbrev main_v88 : Ref sig .tc := ⟨.hbm, 120, rfl⟩
abbrev main_cst_12 : Ref sig .tc := ⟨.hbm, 121, rfl⟩
abbrev main_v89 : Ref sig .tc := ⟨.hbm, 122, rfl⟩
abbrev main_v90 : Ref sig .tc := ⟨.hbm, 123, rfl⟩
abbrev main_cst_13 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_14 : Ref sig .tc := ⟨.hbm, 129, rfl⟩
abbrev main_v95 : Ref sig .tc := ⟨.hbm, 130, rfl⟩
abbrev main_v96 : Ref sig .tc := ⟨.hbm, 131, rfl⟩
abbrev main_cst_15 : Ref sig .tc := ⟨.hbm, 132, rfl⟩
abbrev main_v97 : Ref sig .tc := ⟨.hbm, 133, rfl⟩
abbrev main_v98 : Ref sig .tc := ⟨.hbm, 134, rfl⟩
abbrev main_cst_16 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_17 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_18 : Ref sig .tc := ⟨.hbm, 144, rfl⟩
abbrev main_v106 : Ref sig .tc := ⟨.hbm, 145, rfl⟩
abbrev main_v107 : Ref sig .tc := ⟨.hbm, 146, rfl⟩
abbrev main_cst_19 : Ref sig .tc := ⟨.hbm, 147, rfl⟩
abbrev main_v108 : Ref sig .tc := ⟨.hbm, 148, rfl⟩
abbrev main_v109 : Ref sig .tc := ⟨.hbm, 149, rfl⟩
abbrev main_cst_20 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_21 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_22 : Ref sig .tc := ⟨.hbm, 159, rfl⟩
abbrev main_v117 : Ref sig .tc := ⟨.hbm, 160, rfl⟩
abbrev main_v118 : Ref sig .tc := ⟨.hbm, 161, rfl⟩
abbrev main_cst_23 : Ref sig .tc := ⟨.hbm, 162, rfl⟩
abbrev main_v119 : Ref sig .tc := ⟨.hbm, 163, rfl⟩
abbrev main_v120 : Ref sig .tc := ⟨.hbm, 164, rfl⟩
abbrev main_cst_24 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩

abbrev nD : Nat := 1
abbrev τ : Topo := Topo.v7x

variable {F : FTy → Type} [FloatOps F]
-- ==== ConvK.lean ====
abbrev S1x2048x6412 : Shape := ⟨3, ![1, 2048, 6412]⟩
abbrev S4x2304 : Shape := ⟨2, ![4, 2304]⟩
abbrev S2048x768 : Shape := ⟨2, ![2048, 768]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S4x768 : Shape := ⟨2, ![4, 768]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 12
  | .vmem => 12
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S2048x768, .f32⟩
  | .hbm, ⟨3, _⟩ => ⟨S2048x768, .f32⟩
  | .hbm, ⟨4, _⟩ => ⟨S2048x6412, .f32⟩
  | .hbm, ⟨5, _⟩ => ⟨S2048x4108, .f32⟩
  | .hbm, ⟨6, _⟩ => ⟨S_, .f32⟩
  | .hbm, ⟨7, _⟩ => ⟨S2048x116, .f32⟩
  | .hbm, ⟨8, _⟩ => ⟨S2048x2304, .f32⟩
  | .hbm, ⟨9, _⟩ => ⟨S2048x6528, .f32⟩
  | .hbm, ⟨10, _⟩ => ⟨S2048x768, .bf16⟩
  | .hbm, ⟨11, _⟩ => ⟨S4x768, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S4x128, .f32⟩
  | .local _ .vmem, ⟨11, _⟩ => ⟨S4x128, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvKRefIdeal.lean ====
abbrev S1x2048x6412 : Shape := ⟨3, ![1, 2048, 6412]⟩
abbrev S4x2304 : Shape := ⟨2, ![4, 2304]⟩
abbrev S2048x768 : Shape := ⟨2, ![2048, 768]⟩
abbrev S1x2048x512 : Shape := ⟨3, ![1, 2048, 512]⟩
abbrev S1x2048x768 : Shape := ⟨3, ![1, 2048, 768]⟩
abbrev S1x2048x6 : Shape := ⟨3, ![1, 2048, 6]⟩
abbrev S4x768 : Shape := ⟨2, ![4, 768]⟩
abbrev S_ : Shape := ⟨0, ![]⟩
abbrev S1x3x768 : Shape := ⟨3, ![1, 3, 768]⟩
abbrev S1x2051x768 : Shape := ⟨3, ![1, 2051, 768]⟩
abbrev S1x768 : Shape := ⟨2, ![1, 768]⟩
abbrev S768 : Shape := ⟨1, ![768]⟩
abbrev S1x1x768 : Shape := ⟨3, ![1, 1, 768]⟩
abbrev S1x2048x6x128 : Shape := ⟨4, ![1, 2048, 6, 128]⟩
abbrev S1x6x2048x128 : Shape := ⟨4, ![1, 6, 2048, 128]⟩
abbrev S1x6x2048 : Shape := ⟨3, ![1, 6, 2048]⟩
abbrev S1x6x2048x1 : Shape := ⟨4, ![1, 6, 2048, 1]⟩
abbrev S6x2048 : Shape := ⟨2, ![6, 2048]⟩

abbrev nBuf : Space → Nat
  | .hbm => 166
  | .vmem => 0
  | .smem => 0
  | _ => 0

abbrev hbmTy0_0 (i : Nat) : BufTy := match i % 128 with
  | 0 => ⟨S1x2048x6412, .f32⟩
  | 1 => ⟨S4x2304, .f32⟩
  | 2 => ⟨S2048x768, .f32⟩
  | 3 => ⟨S2048x768, .f32⟩
  | 4 => ⟨S1x2048x512, .f32⟩
  | 5 => ⟨S1x2048x512, .f32⟩
  | 6 => ⟨S1x2048x768, .f32⟩
  | 7 => ⟨S1x2048x768, .f32⟩
  | 8 => ⟨S1x2048x768, .f32⟩
  | 9 => ⟨S1x2048x768, .f32⟩
  | 10 => ⟨S1x2048x6, .f32⟩
  | 11 => ⟨S1x2048x6, .f32⟩
  | 12 => ⟨S1x2048x768, .f32⟩
  | 13 => ⟨S1x2048x768, .f32⟩
  | 14 => ⟨S1x2048x768, .f32⟩
  | 15 => ⟨S4x768, .f32⟩
  | 16 => ⟨S_, .f32⟩
  | 17 => ⟨S1x3x768, .f32⟩
  | 18 => ⟨S1x2051x768, .f32⟩
  | 19 => ⟨S_, .f32⟩
  | 20 => ⟨S1x3x768, .f32⟩
  | 21 => ⟨S1x2048x768, .f32⟩
  | 22 => ⟨S1x768, .f32⟩
  | 23 => ⟨S768, .f32⟩
  | 24 => ⟨S1x1x768, .f32⟩
  | 25 => ⟨S1x2048x768, .f32⟩
  | 26 => ⟨S1x2048x768, .f32⟩
  | 27 => ⟨S_, .f32⟩
  | 28 => ⟨S1x2048x768, .f32⟩
  | 29 => ⟨S1x2048x768, .f32⟩
  | 30 => ⟨S1x2048x768, .f32⟩
  | 31 => ⟨S1x768, .f32⟩
  | 32 => ⟨S768, .f32⟩
  | 33 => ⟨S1x1x768, .f32⟩
  | 34 => ⟨S1x2048x768, .f32⟩
  | 35 => ⟨S1x2048x768, .f32⟩
  | 36 => ⟨S1x2048x768, .f32⟩
  | 37 => ⟨S1x2048x768, .f32⟩
  | 38 => ⟨S1x768, .f32⟩
  | 39 => ⟨S768, .f32⟩
  | 40 => ⟨S1x1x768, .f32⟩
  | 41 => ⟨S1x2048x768, .f32⟩
  | 42 => ⟨S1x2048x768, .f32⟩
  | 43 => ⟨S1x2048x768, .f32⟩
  | 44 => ⟨S1x2048x768, .f32⟩
  | 45 => ⟨S1x768, .f32⟩
  | 46 => ⟨S768, .f32⟩
  | 47 => ⟨S1x1x768, .f32⟩
  | 48 => ⟨S1x2048x768, .f32⟩
  | 49 => ⟨S1x2048x768, .f32⟩
  | 50 => ⟨S1x2048x768, .f32⟩
  | 51 => ⟨S1x2048x768, .f32⟩
  | 52 => ⟨S1x2048x768, .f32⟩
  | 53 => ⟨S_, .f32⟩
  | 54 => ⟨S1x2048x768, .f32⟩
  | 55 => ⟨S1x2048x768, .f32⟩
  | 56 => ⟨S_, .f32⟩
  | 57 => ⟨S1x2048x768, .f32⟩
  | 58 => ⟨S1x2048x768, .f32⟩
  | 59 => ⟨S_, .f32⟩
  | 60 => ⟨S1x2048x768, .f32⟩
  | 61 => ⟨S1x2048x768, .f32⟩
  | 62 => ⟨S1x2048x768, .f32⟩
  | 63 => ⟨S1x2048x768, .f32⟩
  | 64 => ⟨S1x2048x6x128, .f32⟩
  | 65 => ⟨S1x6x2048x128, .f32⟩
  | 66 => ⟨S1x6x2048x128, .f32⟩
  | 67 => ⟨S_, .f32⟩
  | 68 => ⟨S1x6x2048, .f32⟩
  | 69 => ⟨S1x6x2048x1, .f32⟩
  | 70 => ⟨S_, .f32⟩
  | 71 => ⟨S1x6x2048x1, .f32⟩
  | 72 => ⟨S1x6x2048x1, .f32⟩
  | 73 => ⟨S1x6x2048x1, .f32⟩
  | 74 => ⟨S1x6x2048x1, .f32⟩
  | 75 => ⟨S_, .f32⟩
  | 76 => ⟨S1x6x2048x1, .f32⟩
  | 77 => ⟨S1x6x2048x1, .f32⟩
  | 78 => ⟨S1x6x2048x128, .f32⟩
  | 79 => ⟨S1x6x2048x128, .f32⟩
  | 80 => ⟨S2048x768, .f32⟩
  | 81 => ⟨S1x2048x6x128, .f32⟩
  | 82 => ⟨S1x6x2048x128, .f32⟩
  | 83 => ⟨S1x6x2048x128, .f32⟩
  | 84 => ⟨S_, .f32⟩
  | 85 => ⟨S1x6x2048, .f32⟩
  | 86 => ⟨S1x6x2048x1, .f32⟩
  | 87 => ⟨S1x6x2048x128, .f32⟩
  | 88 => ⟨S1x6x2048x128, .f32⟩
  | 89 => ⟨S1x6x2048x1, .f32⟩
  | 90 => ⟨S_, .f32⟩
  | 91 => ⟨S6x2048, .f32⟩
  | 92 => ⟨S1x6x2048, .f32⟩
  | 93 => ⟨S1x6x2048x128, .f32⟩
  | 94 => ⟨S1x6x2048x128, .f32⟩
  | 95 => ⟨S1x6x2048x128, .f32⟩
  | 96 => ⟨S1x6x2048x128, .f32⟩
  | 97 => ⟨S1x6x2048x128, .f32⟩
  | 98 => ⟨S1x2048x6x128, .f32⟩
  | 99 => ⟨S1x2048x768, .f32⟩
  | 100 => ⟨S1x2048x768, .f32⟩
  | 101 => ⟨S1x2048x768, .f32⟩
  | 102 => ⟨S1x2048x768, .f32⟩
  | 103 => ⟨S1x2048x768, .f32⟩
  | 104 => ⟨S1x2048x768, .f32⟩
  | 105 => ⟨S_, .f32⟩
  | 106 => ⟨S1x768, .f32⟩
  | 107 => ⟨S1x1x768, .f32⟩
  | 108 => ⟨S1x2048x768, .f32⟩
  | 109 => ⟨S1x2048x768, .f32⟩
  | 110 => ⟨S_, .f32⟩
  | 111 => ⟨S768, .f32⟩
  | 112 => ⟨S1x768, .f32⟩
  | 113 => ⟨S_, .f32⟩
  | 114 => ⟨S4x768, .f32⟩
  | 115 => ⟨S_, .f32⟩
  | 116 => ⟨S1x2051x768, .f32⟩
  | 117 => ⟨S1x2048x768, .f32⟩
  | 118 => ⟨S_, .f32⟩
  | 119 => ⟨S1x768, .f32⟩
  | 120 => ⟨S1x1x768, .f32⟩
  | 121 => ⟨S1x2048x768, .f32⟩
  | 122 => ⟨S1x2048x768, .f32⟩
  | 123 => ⟨S_, .f32⟩
  | 124 => ⟨S768, .f32⟩
  | 125 => ⟨S1x768, .f32⟩
  | 126 => ⟨S_, .f32⟩
  | 127 => ⟨S4x768, .f32⟩
  | _ => ⟨S1x2048x6412, .f32⟩

abbrev hbmTy0_1 (i : Nat) : BufTy := match i % 128 with
  | 0 => ⟨S4x768, .f32⟩
  | 1 => ⟨S_, .f32⟩
  | 2 => ⟨S1x2051x768, .f32⟩
  | 3 => ⟨S1x2051x768, .f32⟩
  | 4 => ⟨S1x2048x768, .f32⟩
  | 5 => ⟨S_, .f32⟩
  | 6 => ⟨S1x768, .f32⟩
  | 7 => ⟨S1x1x768, .f32⟩
  | 8 => ⟨S1x2048x768, .f32⟩
  | 9 => ⟨S1x2048x768, .f32⟩
  | 10 => ⟨S_, .f32⟩
  | 11 => ⟨S768, .f32⟩
  | 12 => ⟨S1x768, .f32⟩
  | 13 => ⟨S_, .f32⟩
  | 14 => ⟨S4x768, .f32⟩
  | 15 => ⟨S4x768, .f32⟩
  | 16 => ⟨S_, .f32⟩
  | 17 => ⟨S1x2051x768, .f32⟩
  | 18 => ⟨S1x2051x768, .f32⟩
  | 19 => ⟨S1x2048x768, .f32⟩
  | 20 => ⟨S_, .f32⟩
  | 21 => ⟨S1x768, .f32⟩
  | 22 => ⟨S1x1x768, .f32⟩
  | 23 => ⟨S1x2048x768, .f32⟩
  | 24 => ⟨S1x2048x768, .f32⟩
  | 25 => ⟨S_, .f32⟩
  | 26 => ⟨S768, .f32⟩
  | 27 => ⟨S1x768, .f32⟩
  | 28 => ⟨S_, .f32⟩
  | 29 => ⟨S4x768, .f32⟩
  | 30 => ⟨S4x768, .f32⟩
  | 31 => ⟨S_, .f32⟩
  | 32 => ⟨S1x2051x768, .f32⟩
  | 33 => ⟨S1x2051x768, .f32⟩
  | 34 => ⟨S1x3x768, .f32⟩
  | 35 => ⟨S1x2048x768, .f32⟩
  | 36 => ⟨S2048x768, .f32⟩
  | 37 => ⟨S2048x768, .bf16⟩
  | _ => ⟨S1x2048x6412, .f32⟩

abbrev hbmTy (i : Nat) : BufTy := match i / 128 with
  | 0 => hbmTy0_0 i
  | 1 => hbmTy0_1 i
  | _ => ⟨S1x2048x6412, .f32⟩

abbrev bufTy : (tb : Table) → Fin (tcTables nBuf tb) → BufTy
  | .hbm, ⟨i, _⟩ => hbmTy i
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v44_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v44_1 : Ref sig .tc := ⟨.hbm, 62, rfl⟩
abbrev main_v44_0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_2 : Ref sig .tc := ⟨.hbm, 67, rfl⟩
abbrev main_v48 : Ref sig .tc := ⟨.hbm, 68, rfl⟩
abbrev main_v49 : Ref sig .tc := ⟨.hbm, 69, rfl⟩
abbrev main_cst_3 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v76 : Ref sig .tc := ⟨.hbm, 103, rfl⟩
abbrev main_v77 : Ref sig .tc := ⟨.hbm, 104, rfl⟩
abbrev main_cst_7 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_8 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_cst_10 : Ref sig .tc := ⟨.hbm, 115, rfl⟩
abbrev main_v85 : Ref sig .tc := ⟨.hbm, 116, rfl⟩
abbrev main_v86 : Ref sig .tc := ⟨.hbm, 117, rfl⟩
abbrev main_cst_11 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_12 : Ref sig .tc := ⟨.hbm, 123, rfl⟩
abbrev main_v91 : Ref sig .tc := ⟨.hbm, 124, rfl⟩
abbrev main_v92 : Ref sig .tc := ⟨.hbm, 125, rfl⟩
abbrev main_cst_13 : Ref sig .tc := ⟨.hbm, 126, rfl⟩
abbrev main_v93 : Ref sig .tc := ⟨.hbm, 127, rfl⟩
abbrev main_v94 : Ref sig .tc := ⟨.hbm, 128, rfl⟩
abbrev main_cst_14 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_15 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_16 : Ref sig .tc := ⟨.hbm, 138, rfl⟩
abbrev main_v102 : Ref sig .tc := ⟨.hbm, 139, rfl⟩
abbrev main_v103 : Ref sig .tc := ⟨.hbm, 140, rfl⟩
abbrev main_cst_17 : Ref sig .tc := ⟨.hbm, 141, rfl⟩
abbrev main_v104 : Ref sig .tc := ⟨.hbm, 142, rfl⟩
abbrev main_v105 : Ref sig .tc := ⟨.hbm, 143, rfl⟩
abbrev main_cst_18 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_19 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_20 : Ref sig .tc := ⟨.hbm, 153, rfl⟩
abbrev main_v113 : Ref sig .tc := ⟨.hbm, 154, rfl⟩
abbrev main_v114 : Ref sig .tc := ⟨.hbm, 155, rfl⟩
abbrev main_cst_21 : Ref sig .tc := ⟨.hbm, 156, rfl⟩
abbrev main_v115 : Ref sig .tc := ⟨.hbm, 157, rfl⟩
abbrev main_v116 : Ref sig .tc := ⟨.hbm, 158, rfl⟩
abbrev main_cst_22 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩

abbrev nD : Nat := 1
abbrev τ : Topo := Topo.v7x

variable {F : FTy → Type} [FloatOps F]
-- ==== ConvV.lean ====
abbrev S1x2048x6412 : Shape := ⟨3, ![1, 2048, 6412]⟩
abbrev S4x2304 : Shape := ⟨2, ![4, 2304]⟩
abbrev S2048x768 : Shape := ⟨2, ![2048, 768]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S4x768 : Shape := ⟨2, ![4, 768]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 11
  | .vmem => 10
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S2048x768, .f32⟩
  | .hbm, ⟨3, _⟩ => ⟨S2048x6412, .f32⟩
  | .hbm, ⟨4, _⟩ => ⟨S2048x4108, .f32⟩
  | .hbm, ⟨5, _⟩ => ⟨S_, .f32⟩
  | .hbm, ⟨6, _⟩ => ⟨S2048x116, .f32⟩
  | .hbm, ⟨7, _⟩ => ⟨S2048x2304, .f32⟩
  | .hbm, ⟨8, _⟩ => ⟨S2048x6528, .f32⟩
  | .hbm, ⟨9, _⟩ => ⟨S2048x768, .bf16⟩
  | .hbm, ⟨10, _⟩ => ⟨S4x768, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvVRefIdeal.lean ====
abbrev S1x2048x6412 : Shape := ⟨3, ![1, 2048, 6412]⟩
abbrev S4x2304 : Shape := ⟨2, ![4, 2304]⟩
abbrev S2048x768 : Shape := ⟨2, ![2048, 768]⟩
abbrev S1x2048x768 : Shape := ⟨3, ![1, 2048, 768]⟩
abbrev S4x768 : Shape := ⟨2, ![4, 768]⟩
abbrev S_ : Shape := ⟨0, ![]⟩
abbrev S1x3x768 : Shape := ⟨3, ![1, 3, 768]⟩
abbrev S1x2051x768 : Shape := ⟨3, ![1, 2051, 768]⟩
abbrev S1x768 : Shape := ⟨2, ![1, 768]⟩
abbrev S768 : Shape := ⟨1, ![768]⟩
abbrev S1x1x768 : Shape := ⟨3, ![1, 1, 768]⟩
abbrev S1x2048x6x128 : Shape := ⟨4, ![1, 2048, 6, 128]⟩
abbrev S1x6x2048x128 : Shape := ⟨4, ![1, 6, 2048, 128]⟩

abbrev nBuf : Space → Nat
  | .hbm => 125
  | .vmem => 0
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S2048x768, .f32⟩
  | .hbm, ⟨3, _⟩ => ⟨S1x2048x768, .f32⟩
  | .hbm, ⟨4, _⟩ => ⟨S4x768, .f32⟩
  | .hbm, ⟨5, _⟩ => ⟨S_, .f32⟩
  | .hbm, ⟨6, _⟩ => ⟨S1x3x768, .f32⟩
  | .hbm, ⟨7, _⟩ => ⟨S1x2051x768, .f32⟩
  | .hbm, ⟨8, _⟩ => ⟨S_, .f32⟩
  | .hbm, ⟨9, _⟩ => ⟨S1x3x768, .f32⟩
  | .hbm, ⟨10, _⟩ => ⟨S1x2048x768, .f32⟩
  | .hbm, ⟨11, _⟩ => ⟨S1x768, .f32⟩
  | .hbm, ⟨12, _⟩ => ⟨S768, .f32⟩
  | .hbm, ⟨13, _⟩ => ⟨S1x1x768, .f32⟩
  | .hbm, ⟨14, _⟩ => ⟨S1x2048x768, .f32⟩
  | .hbm, ⟨15, _⟩ => ⟨S1x2048x768, .f32⟩
  | .hbm, ⟨16, _⟩ => ⟨S_, .f32⟩
  | .hbm, ⟨17, _⟩ => ⟨S1x2048x768, .f32⟩
  | .hbm, ⟨18, _⟩ => ⟨S1x2048x768, .f32⟩
  | .hbm, ⟨19, _⟩ => ⟨S1x2048x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S1x2048x768, .f32⟩
  | .hbm, ⟨24, _⟩ => ⟨S1x2048x768, .f32⟩
  | .hbm, ⟨25, _⟩ => ⟨S1x2048x768, .f32⟩
  | .hbm, ⟨26, _⟩ => ⟨S1x2048x768, .f32⟩
  | .hbm, ⟨27, _⟩ => ⟨S1x768, .f32⟩
  | .hbm, ⟨28, _⟩ => ⟨S768, .f32⟩
  | .hbm, ⟨29, _⟩ => ⟨S1x1x768, .f32⟩
  | .hbm, ⟨30, _⟩ => ⟨S1x2048x768, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S1x768, .f32⟩
  | .hbm, ⟨35, _⟩ => ⟨S768, .f32⟩
  | .hbm, ⟨36, _⟩ => ⟨S1x1x768, .f32⟩
  | .hbm, ⟨37, _⟩ => ⟨S1x2048x768, .f32⟩
  | .hbm, ⟨38, _⟩ => ⟨S1x2048x768, .f32⟩
  | .hbm, ⟨39, _⟩ => ⟨S1x2048x768, .f32⟩
  | .hbm, ⟨40, _⟩ => ⟨S1x2048x768, .f32⟩
  | .hbm, ⟨41, _⟩ => ⟨S1x2048x768, .f32⟩
  | .hbm, ⟨42, _⟩ => ⟨S_, .f32⟩
  | .hbm, ⟨43, _⟩ => ⟨S1x2048x768, .f32⟩
  | .hbm, ⟨44, _⟩ => ⟨S1x2048x768, .f32⟩
  | .hbm, ⟨45, _⟩ => ⟨S_, .f32⟩
  | .hbm, ⟨46, _⟩ => ⟨S1x2048x768, .f32⟩
  | .hbm, ⟨47, _⟩ => ⟨S1x2048x768, .f32⟩
  | .hbm, ⟨48, _⟩ => ⟨S_, .f32⟩
  | .hbm, ⟨49, _⟩ => ⟨S1x2048x768, .f32⟩
  | .hbm, ⟨50, _⟩ => ⟨S1x2048x768, .f32⟩
  | .hbm, ⟨51, _⟩ => ⟨S1x2048x768, .f32⟩
  | .hbm, ⟨52, _⟩ => ⟨S1x2048x768, .f32⟩
  | .hbm, ⟨53, _⟩ => ⟨S1x2048x6x128, .f32⟩
  | .hbm, ⟨54, _⟩ => ⟨S1x6x2048x128, .f32⟩
  | .hbm, ⟨55, _⟩ => ⟨S1x2048x6x128, .f32⟩
  | .hbm, ⟨56, _⟩ => ⟨S1x6x2048x128, .f32⟩
  | .hbm, ⟨57, _⟩ => ⟨S1x2048x6x128, .f32⟩
  | .hbm, ⟨58, _⟩ => ⟨S1x2048x768, .f32⟩
  | .hbm, ⟨59, _⟩ => ⟨S1x2048x768, .f32⟩
  | .hbm, ⟨60, _⟩ => ⟨S1x2048x768, .f32⟩
  | .hbm, ⟨61, _⟩ => ⟨S1x2048x768, .f32⟩
  | .hbm, ⟨62, _⟩ => ⟨S1x2048x768, .f32⟩
  | .hbm, ⟨63, _⟩ => ⟨S1x2048x768, .f32⟩
  | .hbm, ⟨64, _⟩ => ⟨S_, .f32⟩
  | .hbm, ⟨65, _⟩ => ⟨S1x768, .f32⟩
  | .hbm, ⟨66, _⟩ => ⟨S1x1x768, .f32⟩
  | .hbm, ⟨67, _⟩ => ⟨S1x2048x768, .f32⟩
  | .hbm, ⟨68, _⟩ => ⟨S1x2048x768, .f32⟩
  | .hbm, ⟨69, _⟩ => ⟨S_, .f32⟩
  | .hbm, ⟨70, _⟩ => ⟨S768, .f32⟩
  | .hbm, ⟨71, _⟩ => ⟨S1x768, .f32⟩
  | .hbm, ⟨72, _⟩ => ⟨S_, .f32⟩
  | .hbm, ⟨73, _⟩ => ⟨S4x768, .f32⟩
  | .hbm, ⟨74, _⟩ => ⟨S_, .f32⟩
  | .hbm, ⟨75, _⟩ => ⟨S1x2051x768, .f32⟩
  | .hbm, ⟨76, _⟩ => ⟨S1x2048x768, .f32⟩
  | .hbm, ⟨77, _⟩ => ⟨S_, .f32⟩
  | .hbm, ⟨78, _⟩ => ⟨S1x768, .f32⟩
  | .hbm, ⟨79, _⟩ => ⟨S1x1x768, .f32⟩
  | .hbm, ⟨80, _⟩ => ⟨S1x2048x768, .f32⟩
  | .hbm, ⟨81, _⟩ => ⟨S1x2048x768, .f32⟩
  | .hbm, ⟨82, _⟩ => ⟨S_, .f32⟩
  | .hbm, ⟨83, _⟩ => ⟨S768, .f32⟩
  | .hbm, ⟨84, _⟩ => ⟨S1x768, .f32⟩
  | .hbm, ⟨85, _⟩ => ⟨S_, .f32⟩
  | .hbm, ⟨86, _⟩ => ⟨S4x768, .f32⟩
  | .hbm, ⟨87, _⟩ => ⟨S4x768, .f32⟩
  | .hbm, ⟨88, _⟩ => ⟨S_, .f32⟩
  | .hbm, ⟨89, _⟩ => ⟨S1x2051x768, .f32⟩
  | .hbm, ⟨90, _⟩ => ⟨S1x2051x768, .f32⟩
  | .hbm, ⟨91, _⟩ => ⟨S1x2048x768, .f32⟩
  | .hbm, ⟨92, _⟩ => ⟨S_, .f32⟩
  | .hbm, ⟨93, _⟩ => ⟨S1x768, .f32⟩
  | .hbm, ⟨94, _⟩ => ⟨S1x1x768, .f32⟩
  | .hbm, ⟨95, _⟩ => ⟨S1x2048x768, .f32⟩
  | .hbm, ⟨96, _⟩ => ⟨S1x2048x768, .f32⟩
  | .hbm, ⟨97, _⟩ => ⟨S_, .f32⟩
  | .hbm, ⟨98, _⟩ => ⟨S768, .f32⟩
  | .hbm, ⟨99, _⟩ => ⟨S1x768, .f32⟩
  | .hbm, ⟨100, _⟩ => ⟨S_, .f32⟩
  | .hbm, ⟨101, _⟩ => ⟨S4x768, .f32⟩
  | .hbm, ⟨102, _⟩ => ⟨S4x768, .f32⟩
  | .hbm, ⟨103, _⟩ => ⟨S_, .f32⟩
  | .hbm, ⟨104, _⟩ => ⟨S1x2051x768, .f32⟩
  | .hbm, ⟨105, _⟩ => ⟨S1x2051x768, .f32⟩
  | .hbm, ⟨106, _⟩ => ⟨S1x2048x768, .f32⟩
  | .hbm, ⟨107, _⟩ => ⟨S_, .f32⟩
  | .hbm, ⟨108, _⟩ => ⟨S1x768, .f32⟩
  | .hbm, ⟨109, _⟩ => ⟨S1x1x768, .f32⟩
  | .hbm, ⟨110, _⟩ => ⟨S1x2048x768, .f32⟩
  | .hbm, ⟨111, _⟩ => ⟨S1x2048x768, .f32⟩
  | .hbm, ⟨112, _⟩ => ⟨S_, .f32⟩
  | .hbm, ⟨113, _⟩ => ⟨S768, .f32⟩
  | .hbm, ⟨114, _⟩ => ⟨S1x768, .f32⟩
  | .hbm, ⟨115, _⟩ => ⟨S_, .f32⟩
  | .hbm, ⟨116, _⟩ => ⟨S4x768, .f32⟩
  | .hbm, ⟨117, _⟩ => ⟨S4x768, .f32⟩
  | .hbm, ⟨118, _⟩ => ⟨S_, .f32⟩
  | .hbm, ⟨119, _⟩ => ⟨S1x2051x768, .f32⟩
  | .hbm, ⟨120, _⟩ => ⟨S1x2051x768, .f32⟩
  | .hbm, ⟨121, _⟩ => ⟨S1x3x768, .f32⟩
  | .hbm, ⟨122, _⟩ => ⟨S1x2048x768, .f32⟩
  | .hbm, ⟨123, _⟩ => ⟨S2048x768, .f32⟩
  | .hbm, ⟨124, _⟩ => ⟨S2048x768, .bf16⟩
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_cst_16 : Ref sig .tc := ⟨.hbm, 115, rfl⟩
abbrev main_v80 : Ref sig .tc := ⟨.hbm, 116, rfl⟩
abbrev main_v81 : Ref sig .tc := ⟨.hbm, 117, rfl⟩
abbrev main_cst_17 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S2048x2048 : Shape := ⟨2, ![2048, 2048]⟩
abbrev S2048 : Shape := ⟨1, ![2048]⟩
abbrev S1x2048x2048 : Shape := ⟨3, ![1, 2048, 2048]⟩
abbrev S_ : Shape := ⟨0, ![]⟩
abbrev S1x2048 : Shape := ⟨2, ![1, 2048]⟩
abbrev S1x2048x1 : Shape := ⟨3, ![1, 2048, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048x2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x2048, .f32⟩
  | .hbm, ⟨21, _⟩ => ⟨S1x2048x2048, .f32⟩
  | .hbm, ⟨22, _⟩ => ⟨S1x1x2048, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S_, .f32⟩
  | .hbm, ⟨28, _⟩ => ⟨S1x2048, .f32⟩
  | .hbm, ⟨29, _⟩ => ⟨S1x1x2048, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S2048, .f32⟩
  | .hbm, ⟨34, _⟩ => ⟨S1x2048x2048, .f32⟩
  | .hbm, ⟨35, _⟩ => ⟨S_, .f32⟩
  | .hbm, ⟨36, _⟩ => ⟨S1x2048, .f32⟩
  | .hbm, ⟨37, _⟩ => ⟨S1x2048x1, .f32⟩
  | .hbm, ⟨38, _⟩ => ⟨S1x2048x2048, .f32⟩
  | .hbm, ⟨39, _⟩ => ⟨S1x2048x2048, .f32⟩
  | .hbm, ⟨40, _⟩ => ⟨S1x2048x1, .f32⟩
  | .hbm, ⟨41, _⟩ => ⟨S_, .f32⟩
  | .hbm, ⟨42, _⟩ => ⟨S1x2048x1, .f32⟩
  | .hbm, ⟨43, _⟩ => ⟨S1x2048x1, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S1x2048x2048, .f32⟩
  | .hbm, ⟨48, _⟩ => ⟨S1x2048x2048, .f32⟩
  | .hbm, ⟨49, _⟩ => ⟨S1x2048x2048, .f32⟩
  | .hbm, ⟨50, _⟩ => ⟨S1x2048x2048, .f32⟩
  | .hbm, ⟨51, _⟩ => ⟨S1x2048x2048, .f32⟩
  | .hbm, ⟨52, _⟩ => ⟨S2048x2048, .f32⟩
  | .hbm, ⟨53, _⟩ => ⟨S2048x2048, .f32⟩
  | .hbm, ⟨54, _⟩ => ⟨S2048x2048, .bf16⟩
  | .hbm, ⟨55, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Swiglu.lean ====
abbrev S1x2048x11264 : Shape := ⟨3, ![1, 2048, 11264]⟩
abbrev S5632x2048 : Shape := ⟨2, ![5632, 2048]⟩
abbrev S2048x2048 : Shape := ⟨2, ![2048, 2048]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S1x5632x2048 : Shape := ⟨3, ![1, 5632, 2048]⟩
abbrev S512x2048 : Shape := ⟨2, ![512, 2048]⟩
abbrev S1x1408x2048 : Shape := ⟨3, ![1, 1408, 2048]⟩
abbrev S2x512x1408 : Shape := ⟨3, ![2, 512, 1408]⟩
abbrev S1408x2048 : Shape := ⟨2, ![1408, 2048]⟩
abbrev S512x1408 : Shape := ⟨2, ![512, 1408]⟩
abbrev S1x512x1408 : Shape := ⟨3, ![1, 512, 1408]⟩

abbrev nBuf : Space → Nat
  | .hbm => 11
  | .vmem => 8
  | .smem => 0
  | _ => 0

abbrev bufTy : (tb : Table) → Fin (tcTables nBuf tb) → BufTy
  | .hbm, ⟨0, _⟩ => ⟨S1x2048x11264, .f32⟩
  | .hbm, ⟨1, _⟩ => ⟨S5632x2048, .f32⟩
  | .hbm, ⟨2, _⟩ => ⟨S2048x2048, .f32⟩
  | .hbm, ⟨3, _⟩ => ⟨S1x2048x11264, .bf16⟩
  | .hbm, ⟨4, _⟩ => ⟨S2048x11264, .bf16⟩
  | .hbm, ⟨5, _⟩ => ⟨S2048x2x5632, .bf16⟩
  | .hbm, ⟨6, _⟩ => ⟨S2x2048x5632, .bf16⟩
  | .hbm, ⟨7, _⟩ => ⟨S2048x2048, .bf16⟩
  | .hbm, ⟨8, _⟩ => ⟨S5632x2048, .bf16⟩
  | .hbm, ⟨9, _⟩ => ⟨S1x5632x2048, .bf16⟩
  | .hbm, ⟨10, _⟩ => ⟨S2x2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S1x2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S1x2048x11264 : Shape := ⟨3, ![1, 2048, 11264]⟩
abbrev S5632x2048 : Shape := ⟨2, ![5632, 2048]⟩
abbrev S2048x2048 : Shape := ⟨2, ![2048, 2048]⟩
abbrev S1x2048x5632 : Shape := ⟨3, ![1, 2048, 5632]⟩
abbrev S_ : Shape := ⟨0, ![]⟩
abbrev S1x2048x2048 : Shape := ⟨3, ![1, 2048, 2048]⟩
abbrev S2048x11264 : Shape := ⟨2, ![2048, 11264]⟩
abbrev S2048x2x5632 : Shape := ⟨3, ![2048, 2, 5632]⟩
abbrev S2x2048x5632 : Shape := ⟨3, ![2, 2048, 5632]⟩

abbrev nBuf : Space → Nat
  | .hbm => 33
  | .vmem => 0
  | .smem => 0
  | _ => 0

abbrev bufTy : (tb : Table) → Fin (tcTables nBuf tb) → BufTy
  | .hbm, ⟨0, _⟩ => ⟨S1x2048x11264, .f32⟩
  | .hbm, ⟨1, _⟩ => ⟨S5632x2048, .f32⟩
  | .hbm, ⟨2, _⟩ => ⟨S2048x2048, .f32⟩
  | .hbm, ⟨3, _⟩ => ⟨S1x2048x5632, .f32⟩
  | .hbm, ⟨4, _⟩ => ⟨S1x2048x5632, .f32⟩
  | .hbm, ⟨5, _⟩ => ⟨S1x2048x5632, .f32⟩
  | .hbm, ⟨6, _⟩ => ⟨S1x2048x5632, .f32⟩
  | .hbm, ⟨7, _⟩ => ⟨S_, .f32⟩
  | .hbm, ⟨8, _⟩ => ⟨S1x2048x5632, .f32⟩
  | .hbm, ⟨9, _⟩ => ⟨S1x2048x5632, .f32⟩
  | .hbm, ⟨10, _⟩ => ⟨S_, .f32⟩
  | .hbm, ⟨11, _⟩ => ⟨S1x2048x5632, .f32⟩
  | .hbm, ⟨12, _⟩ => ⟨S1x2048x5632, .f32⟩
  | .hbm, ⟨13, _⟩ => ⟨S_, .f32⟩
  | .hbm, ⟨14, _⟩ => ⟨S1x2048x5632, .f32⟩
  | .hbm, ⟨15, _⟩ => ⟨S1x2048x5632, .f32⟩
  | .hbm, ⟨16, _⟩ => ⟨S1x2048x5632, .f32⟩
  | .hbm, ⟨17, _⟩ => ⟨S1x2048x5632, .f32⟩
  | .hbm, ⟨18, _⟩ => ⟨S1x2048x5632, .f32⟩
  | .hbm, ⟨19, _⟩ => ⟨S1x2048x2048, .f32⟩
  | .hbm, ⟨20, _⟩ => ⟨S1x2048x2048, .f32⟩
  | .hbm, ⟨21, _⟩ => ⟨S1x2048x5632, .f32⟩
  | .hbm, ⟨22, _⟩ => ⟨S1x2048x5632, .f32⟩
  | .hbm, ⟨23, _⟩ => ⟨S1x2048x5632, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S1x2048x11264, .f32⟩
  | .hbm, ⟨29, _⟩ => ⟨S2048x11264, .f32⟩
  | .hbm, ⟨30, _⟩ => ⟨S2048x2x5632, .f32⟩
  | .hbm, ⟨31, _⟩ => ⟨S2x2048x5632, .f32⟩
  | .hbm, ⟨32, _⟩ => ⟨S2x2048x5632, .bf16⟩
  | _, _ => ⟨S1x2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== Sgu.lean ====
abbrev S1x2048x6412 : Shape := ⟨3, ![1, 2048, 6412]⟩
abbrev S4x128 : Shape := ⟨2, ![4, 128]⟩
abbrev S4x128x128 : Shape := ⟨3, ![4, 128, 128]⟩
abbrev S2048x2048 : Shape := ⟨2, ![2048, 2048]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S4x1x128 : Shape := ⟨3, ![4, 1, 128]⟩
abbrev S4x128x1 : Shape := ⟨3, ![4, 128, 1]⟩
abbrev S2048x512 : Shape := ⟨2, ![2048, 512]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S1x128 : Shape := ⟨2, ![1, 128]⟩
abbrev S128x128 : Shape := ⟨2, ![128, 128]⟩
abbrev S128x1 : Shape := ⟨2, ![128, 1]⟩
abbrev S2048 : Shape := ⟨1, ![2048]⟩
abbrev S2048x1 : Shape := ⟨2, ![2048, 1]⟩
abbrev S16x128x128 : Shape := ⟨3, ![16, 128, 128]⟩
abbrev S128 : Shape := ⟨1, ![128]⟩

abbrev nBuf : Space → Nat
  | .hbm => 18
  | .vmem => 22
  | .smem => 0
  | _ => 0

abbrev bufTy : (tb : Table) → Fin (tcTables nBuf tb) → BufTy
  | .hbm, ⟨0, _⟩ => ⟨S1x2048x6412, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S2048x2048, .f32⟩
  | .hbm, ⟨5, _⟩ => ⟨S2048x6412, .f32⟩
  | .hbm, ⟨6, _⟩ => ⟨S2048x4108, .f32⟩
  | .hbm, ⟨7, _⟩ => ⟨S_, .f32⟩
  | .hbm, ⟨8, _⟩ => ⟨S2048x116, .f32⟩
  | .hbm, ⟨9, _⟩ => ⟨S2048x2304, .f32⟩
  | .hbm, ⟨10, _⟩ => ⟨S2048x6528, .f32⟩
  | .hbm, ⟨11, _⟩ => ⟨S4x1x128, .f32⟩
  | .hbm, ⟨12, _⟩ => ⟨S4x128x1, .f32⟩
  | .hbm, ⟨13, _⟩ => ⟨S2048x512, .bf16⟩
  | .hbm, ⟨14, _⟩ => ⟨S2048x512, .bf16⟩
  | .hbm, ⟨15, _⟩ => ⟨S4x1x128, .f32⟩
  | .hbm, ⟨16, _⟩ => ⟨S4x128x128, .f32⟩
  | .hbm, ⟨17, _⟩ => ⟨S4x128x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x1x128, .f32⟩
  | .local _ .vmem, ⟨17, _⟩ => ⟨S1x1x128, .f32⟩
  | .local _ .vmem, ⟨18, _⟩ => ⟨S1x128x128, .f32⟩
  | .local _ .vmem, ⟨19, _⟩ => ⟨S1x128x128, .f32⟩
  | .local _ .vmem, ⟨20, _⟩ => ⟨S1x128x1, .f32⟩
  | .local _ .vmem, ⟨21, _⟩ => ⟨S1x128x1, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SguRefIdeal.lean ====
abbrev S1x2048x6412 : Shape := ⟨3, ![1, 2048, 6412]⟩
abbrev S4x128 : Shape := ⟨2, ![4, 128]⟩
abbrev S4x128x128 : Shape := ⟨3, ![4, 128, 128]⟩
abbrev S2048x2048 : Shape := ⟨2, ![2048, 2048]⟩
abbrev S1x2048x512 : Shape := ⟨3, ![1, 2048, 512]⟩
abbrev S1x2048x768 : Shape := ⟨3, ![1, 2048, 768]⟩
abbrev S1x2048x6 : Shape := ⟨3, ![1, 2048, 6]⟩
abbrev S_ : Shape := ⟨0, ![]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S1x1x4x128 : Shape := ⟨4, ![1, 1, 4, 128]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S1x1x128x4x1 : Shape := ⟨5, ![1, 1, 128, 4, 1]⟩
abbrev S2048x512 : Shape := ⟨2, ![2048, 512]⟩
abbrev S1x128x4 : Shape := ⟨3, ![1, 128, 4]⟩
abbrev S1x4x128 : Shape := ⟨3, ![1, 4, 128]⟩
abbrev S2048x4 : Shape := ⟨2, ![2048, 4]⟩
abbrev S4x1x128 : Shape := ⟨3, ![4, 1, 128]⟩
abbrev S4x128x1 : Shape := ⟨3, ![4, 128, 1]⟩

abbrev nBuf : Space → Nat
  | .hbm => 202
  | .vmem => 0
  | .smem => 0
  | _ => 0

abbrev hbmTy0_0 (i : Nat) : BufTy := match i % 128 with
  | 0 => ⟨S1x2048x6412, .f32⟩
  | 1 => ⟨S4x128, .f32⟩
  | 2 => ⟨S4x128x128, .f32⟩
  | 3 => ⟨S4x128, .f32⟩
  | 4 => ⟨S2048x2048, .f32⟩
  | 5 => ⟨S1x2048x512, .f32⟩
  | 6 => ⟨S1x2048x512, .f32⟩
  | 7 => ⟨S1x2048x768, .f32⟩
  | 8 => ⟨S1x2048x768, .f32⟩
  | 9 => ⟨S1x2048x768, .f32⟩
  | 10 => ⟨S1x2048x768, .f32⟩
  | 11 => ⟨S1x2048x6, .f32⟩
  | 12 => ⟨S1x2048x6, .f32⟩
  | 13 => ⟨S1x2048x768, .f32⟩
  | 14 => ⟨S1x2048x768, .f32⟩
  | 15 => ⟨S1x2048x768, .f32⟩
  | 16 => ⟨S1x2048x512, .f32⟩
  | 17 => ⟨S1x2048x512, .f32⟩
  | 18 => ⟨S1x2048x512, .f32⟩
  | 19 => ⟨S_, .f32⟩
  | 20 => ⟨S1x2048x512, .f32⟩
  | 21 => ⟨S1x2048x512, .f32⟩
  | 22 => ⟨S_, .f32⟩
  | 23 => ⟨S1x2048x512, .f32⟩
  | 24 => ⟨S1x2048x512, .f32⟩
  | 25 => ⟨S1x2048x512, .f32⟩
  | 26 => ⟨S_, .f32⟩
  | 27 => ⟨S1x2048x512, .f32⟩
  | 28 => ⟨S1x2048x512, .f32⟩
  | 29 => ⟨S1x2048x512, .f32⟩
  | 30 => ⟨S_, .f32⟩
  | 31 => ⟨S1x2048x512, .f32⟩
  | 32 => ⟨S1x2048x512, .f32⟩
  | 33 => ⟨S_, .f32⟩
  | 34 => ⟨S1x2048x512, .f32⟩
  | 35 => ⟨S1x2048x512, .f32⟩
  | 36 => ⟨S1x2048x512, .f32⟩
  | 37 => ⟨S_, .f32⟩
  | 38 => ⟨S1x2048x512, .f32⟩
  | 39 => ⟨S1x2048x512, .f32⟩
  | 40 => ⟨S_, .f32⟩
  | 41 => ⟨S1x2048x512, .f32⟩
  | 42 => ⟨S1x2048x512, .f32⟩
  | 43 => ⟨S1x2048x512, .f32⟩
  | 44 => ⟨S1x2048x512, .f32⟩
  | 45 => ⟨S1x2048x512, .f32⟩
  | 46 => ⟨S1x2048x512, .f32⟩
  | 47 => ⟨S_, .f32⟩
  | 48 => ⟨S1x2048x512, .f32⟩
  | 49 => ⟨S1x2048x512, .f32⟩
  | 50 => ⟨S_, .f32⟩
  | 51 => ⟨S1x2048x512, .f32⟩
  | 52 => ⟨S1x2048x512, .f32⟩
  | 53 => ⟨S1x2048x512, .f32⟩
  | 54 => ⟨S_, .f32⟩
  | 55 => ⟨S1x2048x512, .f32⟩
  | 56 => ⟨S1x2048x512, .f32⟩
  | 57 => ⟨S1x2048x512, .f32⟩
  | 58 => ⟨S_, .f32⟩
  | 59 => ⟨S1x2048x512, .f32⟩
  | 60 => ⟨S1x2048x512, .f32⟩
  | 61 => ⟨S_, .f32⟩
  | 62 => ⟨S1x2048x512, .f32⟩
  | 63 => ⟨S1x2048x512, .f32⟩
  | 64 => ⟨S1x2048x512, .f32⟩
  | 65 => ⟨S_, .f32⟩
  | 66 => ⟨S1x2048x512, .f32⟩
  | 67 => ⟨S1x2048x512, .f32⟩
  | 68 => ⟨S_, .f32⟩
  | 69 => ⟨S1x2048x512, .f32⟩
  | 70 => ⟨S1x2048x512, .f32⟩
  | 71 => ⟨S1x2048x512, .f32⟩
  | 72 => ⟨S1x2048x4x128, .f32⟩
  | 73 => ⟨S1x2048x4x128, .f32⟩
  | 74 => ⟨S_, .f32⟩
  | 75 => ⟨S1x2048x4, .f32⟩
  | 76 => ⟨S1x2048x4x1, .f32⟩
  | 77 => ⟨S_, .f32⟩
  | 78 => ⟨S1x2048x4x1, .f32⟩
  | 79 => ⟨S1x2048x4x1, .f32⟩
  | 80 => ⟨S_, .f32⟩
  | 81 => ⟨S1x2048x4x1, .f32⟩
  | 82 => ⟨S1x2048x4x1, .f32⟩
  | 83 => ⟨S1x2048x4x1, .f32⟩
  | 84 => ⟨S1x2048x4x1, .f32⟩
  | 85 => ⟨S_, .f32⟩
  | 86 => ⟨S1x2048x4x1, .f32⟩
  | 87 => ⟨S1x2048x4x1, .f32⟩
  | 88 => ⟨S1x2048x4x128, .f32⟩
  | 89 => ⟨S1x2048x4x128, .f32⟩
  | 90 => ⟨S1x1x4x128, .f32⟩
  | 91 => ⟨S1x2048x4x128, .f32⟩
  | 92 => ⟨S1x2048x4x128, .f32⟩
  | 93 => ⟨S1x16x128x4x128, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S1x128x128, .i1⟩
  | 106 => ⟨S_, .f32⟩
  | 107 => ⟨S4x128x128, .f32⟩
  | 108 => ⟨S4x128x128, .i1⟩
  | 109 => ⟨S4x128x128, .f32⟩
  | 110 => ⟨S_, .f32⟩
  | 111 => ⟨S4x128x128, .f32⟩
  | 112 => ⟨S4x1x16x128x128, .f32⟩
  | 113 => ⟨S1x16x128x4x128, .f32⟩
  | 114 => ⟨S128x4, .f32⟩
  | 115 => ⟨S1x1x128x4x1, .f32⟩
  | 116 => ⟨S1x16x128x4x128, .f32⟩
  | 117 => ⟨S1x16x128x4x128, .f32⟩
  | 118 => ⟨S1x2048x512, .f32⟩
  | 119 => ⟨S1x2048x512, .f32⟩
  | 120 => ⟨S2048x512, .f32⟩
  | 121 => ⟨S1x2048x512, .f32⟩
  | 122 => ⟨S1x2048x512, .f32⟩
  | 123 => ⟨S1x2048x512, .f32⟩
  | 124 => ⟨S1x16x128x4x128, .f32⟩
  | 125 => ⟨S_, .f32⟩
  | 126 => ⟨S1x128x4, .f32⟩
  | 127 => ⟨S1x1x128x4x1, .f32⟩
  | _ => ⟨S1x2048x6412, .f32⟩

abbrev hbmTy0_1 (i : Nat) : BufTy := match i % 128 with
  | 0 => ⟨S_, .f32⟩
  | 1 => ⟨S128x4, .f32⟩
  | 2 => ⟨S4x128, .f32⟩
  | 3 => ⟨S4x1x16x128x128, .f32⟩
  | 4 => ⟨S4x128x128, .f32⟩
  | 5 => ⟨S4x1x16x128x128, .f32⟩
  | 6 => ⟨S1x16x128x4x128, .f32⟩
  | 7 => ⟨S_, .f32⟩
  | 8 => ⟨S4x128x128, .f32⟩
  | 9 => ⟨S4x128x128, .f32⟩
  | 10 => ⟨S1x2048x4x128, .f32⟩
  | 11 => ⟨S1x2048x4x128, .f32⟩
  | 12 => ⟨S_, .f32⟩
  | 13 => ⟨S1x4x128, .f32⟩
  | 14 => ⟨S1x1x4x128, .f32⟩
  | 15 => ⟨S1x2048x4x128, .f32⟩
  | 16 => ⟨S1x2048x4x128, .f32⟩
  | 17 => ⟨S_, .f32⟩
  | 18 => ⟨S4x128, .f32⟩
  | 19 => ⟨S1x2048x4x128, .f32⟩
  | 20 => ⟨S_, .f32⟩
  | 21 => ⟨S1x2048x4, .f32⟩
  | 22 => ⟨S1x2048x4x1, .f32⟩
  | 23 => ⟨S1x2048x4x128, .f32⟩
  | 24 => ⟨S1x2048x4x128, .f32⟩
  | 25 => ⟨S1x2048x4x1, .f32⟩
  | 26 => ⟨S_, .f32⟩
  | 27 => ⟨S1x2048x4x1, .f32⟩
  | 28 => ⟨S1x2048x4x1, .f32⟩
  | 29 => ⟨S_, .f32⟩
  | 30 => ⟨S2048x4, .f32⟩
  | 31 => ⟨S1x2048x4, .f32⟩
  | 32 => ⟨S1x2048x4x128, .f32⟩
  | 33 => ⟨S1x2048x4x128, .f32⟩
  | 34 => ⟨S1x2048x4x128, .f32⟩
  | 35 => ⟨S1x2048x4x128, .f32⟩
  | 36 => ⟨S1x2048x4x128, .f32⟩
  | 37 => ⟨S1x2048x512, .f32⟩
  | 38 => ⟨S1x2048x512, .f32⟩
  | 39 => ⟨S1x2048x512, .f32⟩
  | 40 => ⟨S_, .f32⟩
  | 41 => ⟨S1x2048x512, .f32⟩
  | 42 => ⟨S1x2048x512, .f32⟩
  | 43 => ⟨S1x2048x512, .f32⟩
  | 44 => ⟨S_, .f32⟩
  | 45 => ⟨S1x2048x512, .f32⟩
  | 46 => ⟨S1x2048x512, .f32⟩
  | 47 => ⟨S1x2048x512, .f32⟩
  | 48 => ⟨S_, .f32⟩
  | 49 => ⟨S1x2048x512, .f32⟩
  | 50 => ⟨S1x2048x512, .f32⟩
  | 51 => ⟨S1x2048x512, .f32⟩
  | 52 => ⟨S1x2048x512, .f32⟩
  | 53 => ⟨S1x2048x512, .f32⟩
  | 54 => ⟨S1x2048x512, .f32⟩
  | 55 => ⟨S_, .f32⟩
  | 56 => ⟨S1x2048x512, .f32⟩
  | 57 => ⟨S1x2048x512, .f32⟩
  | 58 => ⟨S1x2048x512, .f32⟩
  | 59 => ⟨S_, .f32⟩
  | 60 => ⟨S1x2048x512, .f32⟩
  | 61 => ⟨S1x2048x512, .f32⟩
  | 62 => ⟨S1x2048x512, .f32⟩
  | 63 => ⟨S_, .f32⟩
  | 64 => ⟨S1x2048x512, .f32⟩
  | 65 => ⟨S1x2048x512, .f32⟩
  | 66 => ⟨S1x2048x512, .f32⟩
  | 67 => ⟨S1x2048x512, .f32⟩
  | 68 => ⟨S2048x512, .f32⟩
  | 69 => ⟨S2048x512, .bf16⟩
  | 70 => ⟨S2048x512, .f32⟩
  | 71 => ⟨S2048x512, .bf16⟩
  | 72 => ⟨S4x1x128, .f32⟩
  | 73 => ⟨S4x128x1, .f32⟩
  | _ => ⟨S1x2048x6412, .f32⟩

abbrev hbmTy (i : Nat) : BufTy := match i / 128 with
  | 0 => hbmTy0_0 i
  | 1 => hbmTy0_1 i
  | _ => ⟨S1x2048x6412, .f32⟩

abbrev bufTy : (tb : Table) → Fin (tcTables nBuf tb) → BufTy
  | .hbm, ⟨i, _⟩ => hbmTy i
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c : Ref sig .tc := ⟨.hbm, 94, rfl⟩
abbrev main_v71 : Ref sig .tc := ⟨.hbm, 95, rfl⟩
abbrev main_call0_v0 : Ref sig .tc := ⟨.hbm, 96, rfl⟩
abbrev main_call0_c : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_c_0 : Ref sig .tc := ⟨.hbm, 102, rfl⟩
abbrev main_call0_v5 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75_1 : Ref sig .tc := ⟨.hbm, 108, rfl⟩
abbrev main_v75_0 : Ref sig .tc := ⟨.hbm, 109, rfl⟩
abbrev main_call1_cst : Ref sig .tc := ⟨.hbm, 110, rfl⟩
abbrev main_v75_2 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_call2_cst : Ref sig .tc := ⟨.hbm, 135, rfl⟩
abbrev main_call2_v0 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_21 : Ref sig .tc := ⟨.hbm, 145, rfl⟩
abbrev main_v104 : Ref sig .tc := ⟨.hbm, 146, rfl⟩
abbrev main_v105 : Ref sig .tc := ⟨.hbm, 147, rfl⟩
abbrev main_cst_22 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_23 : Ref sig .tc := ⟨.hbm, 154, rfl⟩
abbrev main_v111 : Ref sig .tc := ⟨.hbm, 155, rfl⟩
abbrev main_v112 : Ref sig .tc := ⟨.hbm, 156, rfl⟩
abbrev main_cst_24 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_25 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_26 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_27 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_28 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_29 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_30 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩

abbrev nD : Nat := 1
abbrev τ : Topo := Topo.v7x

variable {F : FTy → Type} [FloatOps F]
-- ==== Gates.lean ====
abbrev S1x2048x6412 : Shape := ⟨3, ![1, 2048, 6412]⟩
abbrev S6 : Shape := ⟨1, ![6]⟩
abbrev S6x2048x128 : Shape := ⟨3, ![6, 2048, 128]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S6x1x1 : Shape := ⟨3, ![6, 1, 1]⟩
abbrev S6x1x128 : Shape := ⟨3, ![6, 1, 128]⟩
abbrev S2048x128 : Shape := ⟨2, ![2048, 128]⟩
abbrev S1x1x128 : Shape := ⟨3, ![1, 1, 128]⟩
abbrev S1x2048x128 : Shape := ⟨3, ![1, 2048, 128]⟩
abbrev S1x128 : Shape := ⟨2, ![1, 128]⟩
abbrev S128x128 : Shape := ⟨2, ![128, 128]⟩
abbrev S32x64x64 : Shape := ⟨3, ![32, 64, 64]⟩
abbrev S32x64x128 : Shape := ⟨3, ![32, 64, 128]⟩
abbrev S128 : Shape := ⟨1, ![128]⟩
abbrev S1 : Shape := ⟨1, ![1]⟩
abbrev S1x1 : Shape := ⟨2, ![1, 1]⟩

abbrev nBuf : Space → Nat
  | .hbm => 19
  | .vmem => 17
  | .smem => 0
  | _ => 0

abbrev bufTy : (tb : Table) → Fin (tcTables nBuf tb) → BufTy
  | .hbm, ⟨0, _⟩ => ⟨S1x2048x6412, .f32⟩
  | .hbm, ⟨1, _⟩ => ⟨S6, .f32⟩
  | .hbm, ⟨2, _⟩ => ⟨S6, .f32⟩
  | .hbm, ⟨3, _⟩ => ⟨S6x2048x128, .f32⟩
  | .hbm, ⟨4, _⟩ => ⟨S6x2048x128, .f32⟩
  | .hbm, ⟨5, _⟩ => ⟨S6x2048x128, .f32⟩
  | .hbm, ⟨6, _⟩ => ⟨S2048x6412, .f32⟩
  | .hbm, ⟨7, _⟩ => ⟨S2048x4108, .f32⟩
  | .hbm, ⟨8, _⟩ => ⟨S_, .f32⟩
  | .hbm, ⟨9, _⟩ => ⟨S2048x116, .f32⟩
  | .hbm, ⟨10, _⟩ => ⟨S2048x2304, .f32⟩
  | .hbm, ⟨11, _⟩ => ⟨S2048x6528, .f32⟩
  | .hbm, ⟨12, _⟩ => ⟨S6x1x1, .f32⟩
  | .hbm, ⟨13, _⟩ => ⟨S6x1x128, .f32⟩
  | .hbm, ⟨14, _⟩ => ⟨S6x1x1, .f32⟩
  | .hbm, ⟨15, _⟩ => ⟨S6x1x128, .f32⟩
  | .hbm, ⟨16, _⟩ => ⟨S2048x128, .bf16⟩
  | .hbm, ⟨17, _⟩ => ⟨S6x1x128, .f32⟩
  | .hbm, ⟨18, _⟩ => ⟨S6x1x128, .f32⟩
  | .local _ .vmem, ⟨0, _⟩ => ⟨S2048x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S2048x128, .bf16⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S2048x128, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c32_i32 : BitVec 32 := 32#32
  let c0_i32_0 : BitVec 32 := 0#32
  ![c0_i32.toNat, c32_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GatesRefIdeal.lean ====
abbrev S1x2048x6412 : Shape := ⟨3, ![1, 2048, 6412]⟩
abbrev S6 : Shape := ⟨1, ![6]⟩
abbrev S6x2048x128 : Shape := ⟨3, ![6, 2048, 128]⟩
abbrev S1x2048x512 : Shape := ⟨3, ![1, 2048, 512]⟩
abbrev S1x2048x768 : Shape := ⟨3, ![1, 2048, 768]⟩
abbrev S1x2048x6 : Shape := ⟨3, ![1, 2048, 6]⟩
abbrev S_ : Shape := ⟨0, ![]⟩
abbrev S6x2048 : Shape := ⟨2, ![6, 2048]⟩
abbrev S1x6x2048 : Shape := ⟨3, ![1, 6, 2048]⟩
abbrev S1x6x32x64 : Shape := ⟨4, ![1, 6, 32, 64]⟩
abbrev S1x1x6 : Shape := ⟨3, ![1, 1, 6]⟩
abbrev S1x6 : Shape := ⟨2, ![1, 6]⟩
abbrev S2048x6 : Shape := ⟨2, ![2048, 6]⟩
abbrev S2048x12 : Shape := ⟨2, ![2048, 12]⟩
abbrev S2048x128 : Shape := ⟨2, ![2048, 128]⟩
abbrev S6x1x1 : Shape := ⟨3, ![6, 1, 1]⟩
abbrev S6x1x128 : Shape := ⟨3, ![6, 1, 128]⟩

abbrev nBuf : Space → Nat
  | .hbm => 130
  | .vmem => 0
  | .smem => 0
  | _ => 0

abbrev hbmTy0_0 (i : Nat) : BufTy := match i % 128 with
  | 0 => ⟨S1x2048x6412, .f32⟩
  | 1 => ⟨S6, .f32⟩
  | 2 => ⟨S6, .f32⟩
  | 3 => ⟨S6x2048x128, .f32⟩
  | 4 => ⟨S6x2048x128, .f32⟩
  | 5 => ⟨S6x2048x128, .f32⟩
  | 6 => ⟨S1x2048x512, .f32⟩
  | 7 => ⟨S1x2048x512, .f32⟩
  | 8 => ⟨S1x2048x768, .f32⟩
  | 9 => ⟨S1x2048x768, .f32⟩
  | 10 => ⟨S1x2048x768, .f32⟩
  | 11 => ⟨S1x2048x768, .f32⟩
  | 12 => ⟨S1x2048x6, .f32⟩
  | 13 => ⟨S1x2048x6, .f32⟩
  | 14 => ⟨S1x2048x768, .f32⟩
  | 15 => ⟨S1x2048x768, .f32⟩
  | 16 => ⟨S1x2048x768, .f32⟩
  | 17 => ⟨S_, .f32⟩
  | 18 => ⟨S6x2048, .f32⟩
  | 19 => ⟨S1x6x2048, .f32⟩
  | 20 => ⟨S6x2048x128, .f32⟩
  | 21 => ⟨S_, .f32⟩
  | 22 => ⟨S6x2048, .f32⟩
  | 23 => ⟨S1x6x32x64, .f32⟩
  | 24 => ⟨S1x2048x6, .f32⟩
  | 25 => ⟨S1x2048x6, .f32⟩
  | 26 => ⟨S_, .f32⟩
  | 27 => ⟨S1x2048x6, .f32⟩
  | 28 => ⟨S1x2048x6, .f32⟩
  | 29 => ⟨S_, .f32⟩
  | 30 => ⟨S1x2048x6, .f32⟩
  | 31 => ⟨S1x2048x6, .f32⟩
  | 32 => ⟨S_, .f32⟩
  | 33 => ⟨S1x2048x6, .f32⟩
  | 34 => ⟨S1x2048x6, .f32⟩
  | 35 => ⟨S1x2048x6, .f32⟩
  | 36 => ⟨S1x6x2048, .f32⟩
  | 37 => ⟨S6, .f32⟩
  | 38 => ⟨S1x1x6, .f32⟩
  | 39 => ⟨S1x1x6, .f32⟩
  | 40 => ⟨S1x1x6, .f32⟩
  | 41 => ⟨S1x2048x6, .f32⟩
  | 42 => ⟨S1x2048x6, .f32⟩
  | 43 => ⟨S_, .f32⟩
  | 44 => ⟨S1x2048x6, .f32⟩
  | 45 => ⟨S1x2048x6, .f32⟩
  | 46 => ⟨S1x2048x6, .f32⟩
  | 47 => ⟨S1x2048x6, .f32⟩
  | 48 => ⟨S1x2048x6, .i1⟩
  | 49 => ⟨S1x2048x6, .f32⟩
  | 50 => ⟨S1x2048x6, .f32⟩
  | 51 => ⟨S1x2048x6, .f32⟩
  | 52 => ⟨S1x2048x6, .f32⟩
  | 53 => ⟨S1x2048x6, .f32⟩
  | 54 => ⟨S1x2048x6, .f32⟩
  | 55 => ⟨S1x2048x6, .f32⟩
  | 56 => ⟨S1x2048x6, .f32⟩
  | 57 => ⟨S_, .f32⟩
  | 58 => ⟨S1x2048x6, .f32⟩
  | 59 => ⟨S1x2048x6, .i1⟩
  | 60 => ⟨S_, .f32⟩
  | 61 => ⟨S1x2048x6, .f32⟩
  | 62 => ⟨S1x2048x6, .f32⟩
  | 63 => ⟨S_, .f32⟩
  | 64 => ⟨S1x2048x6, .f32⟩
  | 65 => ⟨S1x2048x6, .i1⟩
  | 66 => ⟨S_, .f32⟩
  | 67 => ⟨S1x2048x6, .f32⟩
  | 68 => ⟨S1x2048x6, .f32⟩
  | 69 => ⟨S1x2048x6, .f32⟩
  | 70 => ⟨S1x2048x6, .f32⟩
  | 71 => ⟨S_, .f32⟩
  | 72 => ⟨S_, .f32⟩
  | 73 => ⟨S_, .i1⟩
  | 74 => ⟨S_, .f32⟩
  | 75 => ⟨S_, .f32⟩
  | 76 => ⟨S_, .f32⟩
  | 77 => ⟨S_, .f32⟩
  | 78 => ⟨S1x2048x6, .f32⟩
  | 79 => ⟨S1x2048x6, .i1⟩
  | 80 => ⟨S_, .f32⟩
  | 81 => ⟨S1x2048x6, .f32⟩
  | 82 => ⟨S1x2048x6, .f32⟩
  | 83 => ⟨S1x2048x6, .f32⟩
  | 84 => ⟨S1x2048x6, .f32⟩
  | 85 => ⟨S1x2048x6, .f32⟩
  | 86 => ⟨S_, .f32⟩
  | 87 => ⟨S1x2048x6, .f32⟩
  | 88 => ⟨S1x2048x6, .f32⟩
  | 89 => ⟨S1x2048x6, .f32⟩
  | 90 => ⟨S1x2048x6, .f32⟩
  | 91 => ⟨S1x6x2048, .f32⟩
  | 92 => ⟨S1x6x32x64, .f32⟩
  | 93 => ⟨S_, .f32⟩
  | 94 => ⟨S_, .f32⟩
  | 95 => ⟨S1x6x32x64, .f32⟩
  | 96 => ⟨S_, .f32⟩
  | 97 => ⟨S_, .f32⟩
  | 98 => ⟨S1x6x32x64, .f32⟩
  | 99 => ⟨S1x6x2048, .f32⟩
  | 100 => ⟨S1x2048x6, .f32⟩
  | 101 => ⟨S1x2048x6, .f32⟩
  | 102 => ⟨S1x2048x6, .f32⟩
  | 103 => ⟨S1x2048x6, .f32⟩
  | 104 => ⟨S_, .f32⟩
  | 105 => ⟨S1x6, .f32⟩
  | 106 => ⟨S1x1x6, .f32⟩
  | 107 => ⟨S1x2048x6, .f32⟩
  | 108 => ⟨S_, .f32⟩
  | 109 => ⟨S1x6, .f32⟩
  | 110 => ⟨S1x1x6, .f32⟩
  | 111 => ⟨S_, .f32⟩
  | 112 => ⟨S6, .f32⟩
  | 113 => ⟨S1x1x6, .f32⟩
  | 114 => ⟨S_, .f32⟩
  | 115 => ⟨S6, .f32⟩
  | 116 => ⟨S6, .f32⟩
  | 117 => ⟨S1x2048x6, .f32⟩
  | 118 => ⟨S1x2048x6, .f32⟩
  | 119 => ⟨S2048x6, .f32⟩
  | 120 => ⟨S2048x6, .f32⟩
  | 121 => ⟨S2048x12, .f32⟩
  | 122 => ⟨S_, .i32⟩
  | 123 => ⟨S_, .f32⟩
  | 124 => ⟨S2048x128, .f32⟩
  | 125 => ⟨S2048x128, .bf16⟩
  | 126 => ⟨S6x1x1, .f32⟩
  | 127 => ⟨S6x1x128, .f32⟩
  | _ => ⟨S1x2048x6412, .f32⟩

abbrev hbmTy0_1 (i : Nat) : BufTy := match i % 128 with
  | 0 => ⟨S6x1x1, .f32⟩
  | 1 => ⟨S6x1x128, .f32⟩
  | _ => ⟨S1x2048x6412, .f32⟩

abbrev hbmTy (i : Nat) : BufTy := match i / 128 with
  | 0 => hbmTy0_0 i
  | 1 => hbmTy0_1 i
  | _ => ⟨S1x2048x6412, .f32⟩

abbrev bufTy : (tb : Table) → Fin (tcTables nBuf tb) → BufTy
  | .hbm, ⟨i, _⟩ => hbmTy i
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_v32_0 : Ref sig .tc := ⟨.hbm, 56, rfl⟩
abbrev main_call0_cst_0 : Ref sig .tc := ⟨.hbm, 57, rfl⟩
abbrev main_call0_v13 : Ref sig .tc := ⟨.hbm, 58, rfl⟩
abbrev main_call0_v14 : Ref sig .tc := ⟨.hbm, 59, rfl⟩
abbrev main_call0_cst_1 : Ref sig .tc := ⟨.hbm, 60, rfl⟩
abbrev main_call0_v15 : Ref sig .tc := ⟨.hbm, 61, rfl⟩
abbrev main_call0_v16 : Ref sig .tc := ⟨.hbm, 62, rfl⟩
abbrev main_call0_cst_2 : Ref sig .tc := ⟨.hbm, 63, rfl⟩
abbrev main_call0_v17 : Ref sig .tc := ⟨.hbm, 64, rfl⟩
abbrev main_call0_v18 : Ref sig .tc := ⟨.hbm, 65, rfl⟩
abbrev main_call0_cst_3 : Ref sig .tc := ⟨.hbm, 66, rfl⟩
abbrev main_call0_v19 : Ref sig .tc := ⟨.hbm, 67, rfl⟩
abbrev main_call0_v20 : Ref sig .tc := ⟨.hbm, 68, rfl⟩
abbrev main_call0_v21 : Ref sig .tc := ⟨.hbm, 69, rfl⟩
abbrev main_v32_1 : Ref sig .tc := ⟨.hbm, 70, rfl⟩
abbrev main_call0_cst_4 : Ref sig .tc := ⟨.hbm, 71, rfl⟩
abbrev main_call0_cst_5 : Ref sig .tc := ⟨.hbm, 72, rfl⟩
abbrev main_call0_v23 : Ref sig .tc := ⟨.hbm, 73, rfl⟩
abbrev main_call0_cst_6 : Ref sig .tc := ⟨.hbm, 74, rfl⟩
abbrev main_call0_cst_7 : Ref sig .tc := ⟨.hbm, 75, rfl⟩
abbrev main_call0_v24 : Ref sig .tc := ⟨.hbm, 76, rfl⟩
abbrev main_call0_cst_8 : Ref sig .tc := ⟨.hbm, 77, rfl⟩
abbrev main_call0_v25 : Ref sig .tc := ⟨.hbm, 78, rfl⟩
abbrev main_call0_v26 : Ref sig .tc := ⟨.hbm, 79, rfl⟩
abbrev main_call0_cst_9 : Ref sig .tc := ⟨.hbm, 80, rfl⟩
abbrev main_call0_v27 : Ref sig .tc := ⟨.hbm, 81, rfl⟩
abbrev main_call0_v28 : Ref sig .tc := ⟨.hbm, 82, rfl⟩
abbrev main_call0_v29 : Ref sig .tc := ⟨.hbm, 83, rfl⟩
abbrev main_call0_v30 : Ref sig .tc := ⟨.hbm, 84, rfl⟩
abbrev main_call0_v31 : Ref sig .tc := ⟨.hbm, 85, rfl⟩
abbrev main_call0_cst_10 : Ref sig .tc := ⟨.hbm, 86, rfl⟩
abbrev main_call0_v32 : Ref sig .tc := ⟨.hbm, 87, rfl⟩
abbrev main_v32_2 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_call1_call0_cst : Ref sig .tc := ⟨.hbm, 93, rfl⟩
abbrev main_call1_call0_v0 : Ref sig .tc := ⟨.hbm, 94, rfl⟩
abbrev main_v37 : Ref sig .tc := ⟨.hbm, 95, rfl⟩
abbrev main_call2_call0_cst : Ref sig .tc := ⟨.hbm, 96, rfl⟩
abbrev main_call2_call0_v0 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_4 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_cst_5 : Ref sig .tc := ⟨.hbm, 108, rfl⟩
abbrev main_v47 : Ref sig .tc := ⟨.hbm, 109, rfl⟩
abbrev main_v48 : Ref sig .tc := ⟨.hbm, 110, rfl⟩
abbrev main_cst_6 : Ref sig .tc := ⟨.hbm, 111, rfl⟩
abbrev main_v49 : Ref sig .tc := ⟨.hbm, 112, rfl⟩
abbrev main_v50 : Ref sig .tc := ⟨.hbm, 113, rfl⟩
abbrev main_cst_7 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_c : Ref sig .tc := ⟨.hbm, 122, rfl⟩
abbrev main_call4_v0 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩

abbrev nD : Nat := 1
abbrev τ : Topo := Topo.v7x

variable {F : FTy → Type} [FloatOps F]
-- ==== NormF.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFRefIdeal.lean ====
abbrev S2048x2048 : Shape := ⟨2, ![2048, 2048]⟩
abbrev S2048 : Shape := ⟨1, ![2048]⟩
abbrev S1x2048x2048 : Shape := ⟨3, ![1, 2048, 2048]⟩
abbrev S_ : Shape := ⟨0, ![]⟩
abbrev S1x2048 : Shape := ⟨2, ![1, 2048]⟩
abbrev S1x2048x1 : Shape := ⟨3, ![1, 2048, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048x2048, .f32⟩
  | .hbm, ⟨3, _⟩ => ⟨S1x2048x2048, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x2048, .f32⟩
  | .hbm, ⟨15, _⟩ => ⟨S1x2048x2048, .f32⟩
  | .hbm, ⟨16, _⟩ => ⟨S1x1x2048, .f32⟩
  | .hbm, ⟨17, _⟩ => ⟨S1x2048x2048, .f32⟩
  | .hbm, ⟨18, _⟩ => ⟨S1x2048x2048, .f32⟩
  | .hbm, ⟨19, _⟩ => ⟨S2048x2048, .f32⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== SguF.lean ====
abbrev S1x2048x6412 : Shape := ⟨3, ![1, 2048, 6412]⟩
abbrev S4x128 : Shape := ⟨2, ![4, 128]⟩
abbrev S4x128x128 : Shape := ⟨3, ![4, 128, 128]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S4x1x128 : Shape := ⟨3, ![4, 1, 128]⟩
abbrev S4x128x1 : Shape := ⟨3, ![4, 128, 1]⟩
abbrev S2048x512 : Shape := ⟨2, ![2048, 512]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S1x128 : Shape := ⟨2, ![1, 128]⟩
abbrev S128x128 : Shape := ⟨2, ![128, 128]⟩
abbrev S128x1 : Shape := ⟨2, ![128, 1]⟩
abbrev S2048 : Shape := ⟨1, ![2048]⟩
abbrev S2048x1 : Shape := ⟨2, ![2048, 1]⟩
abbrev S16x128x128 : Shape := ⟨3, ![16, 128, 128]⟩

abbrev nBuf : Space → Nat
  | .hbm => 13
  | .vmem => 12
  | .smem => 0
  | _ => 0

abbrev bufTy : (tb : Table) → Fin (tcTables nBuf tb) → BufTy
  | .hbm, ⟨0, _⟩ => ⟨S1x2048x6412, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S2048x6412, .f32⟩
  | .hbm, ⟨5, _⟩ => ⟨S2048x4108, .f32⟩
  | .hbm, ⟨6, _⟩ => ⟨S_, .f32⟩
  | .hbm, ⟨7, _⟩ => ⟨S2048x116, .f32⟩
  | .hbm, ⟨8, _⟩ => ⟨S2048x2304, .f32⟩
  | .hbm, ⟨9, _⟩ => ⟨S2048x6528, .f32⟩
  | .hbm, ⟨10, _⟩ => ⟨S4x1x128, .f32⟩
  | .hbm, ⟨11, _⟩ => ⟨S4x128x1, .f32⟩
  | .hbm, ⟨12, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S2048x128, .bf16⟩
  | .local _ .vmem, ⟨11, _⟩ => ⟨S2048x128, .bf16⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFRefIdeal.lean ====
abbrev S1x2048x6412 : Shape := ⟨3, ![1, 2048, 6412]⟩
abbrev S4x128 : Shape := ⟨2, ![4, 128]⟩
abbrev S4x128x128 : Shape := ⟨3, ![4, 128, 128]⟩
abbrev S1x2048x512 : Shape := ⟨3, ![1, 2048, 512]⟩
abbrev S1x2048x768 : Shape := ⟨3, ![1, 2048, 768]⟩
abbrev S1x2048x6 : Shape := ⟨3, ![1, 2048, 6]⟩
abbrev S_ : Shape := ⟨0, ![]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S1x1x4x128 : Shape := ⟨4, ![1, 1, 4, 128]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S1x1x128x4x1 : Shape := ⟨5, ![1, 1, 128, 4, 1]⟩
abbrev S2048x512 : Shape := ⟨2, ![2048, 512]⟩

abbrev nBuf : Space → Nat
  | .hbm => 93
  | .vmem => 0
  | .smem => 0
  | _ => 0

abbrev bufTy : (tb : Table) → Fin (tcTables nBuf tb) → BufTy
  | .hbm, ⟨0, _⟩ => ⟨S1x2048x6412, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S1x2048x512, .f32⟩
  | .hbm, ⟨5, _⟩ => ⟨S1x2048x512, .f32⟩
  | .hbm, ⟨6, _⟩ => ⟨S1x2048x768, .f32⟩
  | .hbm, ⟨7, _⟩ => ⟨S1x2048x768, .f32⟩
  | .hbm, ⟨8, _⟩ => ⟨S1x2048x768, .f32⟩
  | .hbm, ⟨9, _⟩ => ⟨S1x2048x768, .f32⟩
  | .hbm, ⟨10, _⟩ => ⟨S1x2048x6, .f32⟩
  | .hbm, ⟨11, _⟩ => ⟨S1x2048x6, .f32⟩
  | .hbm, ⟨12, _⟩ => ⟨S1x2048x768, .f32⟩
  | .hbm, ⟨13, _⟩ => ⟨S1x2048x768, .f32⟩
  | .hbm, ⟨14, _⟩ => ⟨S1x2048x768, .f32⟩
  | .hbm, ⟨15, _⟩ => ⟨S1x2048x512, .f32⟩
  | .hbm, ⟨16, _⟩ => ⟨S1x2048x512, .f32⟩
  | .hbm, ⟨17, _⟩ => ⟨S_, .f32⟩
  | .hbm, ⟨18, _⟩ => ⟨S1x2048x512, .f32⟩
  | .hbm, ⟨19, _⟩ => ⟨S1x2048x512, .f32⟩
  | .hbm, ⟨20, _⟩ => ⟨S1x2048x512, .f32⟩
  | .hbm, ⟨21, _⟩ => ⟨S_, .f32⟩
  | .hbm, ⟨22, _⟩ => ⟨S1x2048x512, .f32⟩
  | .hbm, ⟨23, _⟩ => ⟨S1x2048x512, .f32⟩
  | .hbm, ⟨24, _⟩ => ⟨S1x2048x512, .f32⟩
  | .hbm, ⟨25, _⟩ => ⟨S_, .f32⟩
  | .hbm, ⟨26, _⟩ => ⟨S1x2048x512, .f32⟩
  | .hbm, ⟨27, _⟩ => ⟨S1x2048x512, .f32⟩
  | .hbm, ⟨28, _⟩ => ⟨S_, .f32⟩
  | .hbm, ⟨29, _⟩ => ⟨S1x2048x512, .f32⟩
  | .hbm, ⟨30, _⟩ => ⟨S1x2048x512, .f32⟩
  | .hbm, ⟨31, _⟩ => ⟨S1x2048x512, .f32⟩
  | .hbm, ⟨32, _⟩ => ⟨S1x2048x512, .f32⟩
  | .hbm, ⟨33, _⟩ => ⟨S1x2048x512, .f32⟩
  | .hbm, ⟨34, _⟩ => ⟨S_, .f32⟩
  | .hbm, ⟨35, _⟩ => ⟨S1x2048x512, .f32⟩
  | .hbm, ⟨36, _⟩ => ⟨S1x2048x512, .f32⟩
  | .hbm, ⟨37, _⟩ => ⟨S1x2048x512, .f32⟩
  | .hbm, ⟨38, _⟩ => ⟨S_, .f32⟩
  | .hbm, ⟨39, _⟩ => ⟨S1x2048x512, .f32⟩
  | .hbm, ⟨40, _⟩ => ⟨S1x2048x512, .f32⟩
  | .hbm, ⟨41, _⟩ => ⟨S1x2048x512, .f32⟩
  | .hbm, ⟨42, _⟩ => ⟨S_, .f32⟩
  | .hbm, ⟨43, _⟩ => ⟨S1x2048x512, .f32⟩
  | .hbm, ⟨44, _⟩ => ⟨S1x2048x512, .f32⟩
  | .hbm, ⟨45, _⟩ => ⟨S_, .f32⟩
  | .hbm, ⟨46, _⟩ => ⟨S1x2048x512, .f32⟩
  | .hbm, ⟨47, _⟩ => ⟨S1x2048x512, .f32⟩
  | .hbm, ⟨48, _⟩ => ⟨S1x2048x512, .f32⟩
  | .hbm, ⟨49, _⟩ => ⟨S1x2048x4x128, .f32⟩
  | .hbm, ⟨50, _⟩ => ⟨S1x2048x4x128, .f32⟩
  | .hbm, ⟨51, _⟩ => ⟨S_, .f32⟩
  | .hbm, ⟨52, _⟩ => ⟨S1x2048x4, .f32⟩
  | .hbm, ⟨53, _⟩ => ⟨S1x2048x4x1, .f32⟩
  | .hbm, ⟨54, _⟩ => ⟨S_, .f32⟩
  | .hbm, ⟨55, _⟩ => ⟨S1x2048x4x1, .f32⟩
  | .hbm, ⟨56, _⟩ => ⟨S1x2048x4x1, .f32⟩
  | .hbm, ⟨57, _⟩ => ⟨S_, .f32⟩
  | .hbm, ⟨58, _⟩ => ⟨S1x2048x4x1, .f32⟩
  | .hbm, ⟨59, _⟩ => ⟨S1x2048x4x1, .f32⟩
  | .hbm, ⟨60, _⟩ => ⟨S1x2048x4x1, .f32⟩
  | .hbm, ⟨61, _⟩ => ⟨S1x2048x4x128, .f32⟩
  | .hbm, ⟨62, _⟩ => ⟨S1x2048x4x128, .f32⟩
  | .hbm, ⟨63, _⟩ => ⟨S1x1x4x128, .f32⟩
  | .hbm, ⟨64, _⟩ => ⟨S1x2048x4x128, .f32⟩
  | .hbm, ⟨65, _⟩ => ⟨S1x2048x4x128, .f32⟩
  | .hbm, ⟨66, _⟩ => ⟨S1x16x128x4x128, .f32⟩
  | .hbm, ⟨67, _⟩ => ⟨S_, .i1⟩
  | .hbm, ⟨68, _⟩ => ⟨S128x128, .i1⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S_, .i1⟩
  | .hbm, ⟨76, _⟩ => ⟨S128x128, .i1⟩
  | .hbm, ⟨77, _⟩ => ⟨S128x128, .i1⟩
  | .hbm, ⟨78, _⟩ => ⟨S1x128x128, .i1⟩
  | .hbm, ⟨79, _⟩ => ⟨S_, .f32⟩
  | .hbm, ⟨80, _⟩ => ⟨S4x128x128, .f32⟩
  | .hbm, ⟨81, _⟩ => ⟨S4x128x128, .i1⟩
  | .hbm, ⟨82, _⟩ => ⟨S4x128x128, .f32⟩
  | .hbm, ⟨83, _⟩ => ⟨S4x1x16x128x128, .f32⟩
  | .hbm, ⟨84, _⟩ => ⟨S1x16x128x4x128, .f32⟩
  | .hbm, ⟨85, _⟩ => ⟨S128x4, .f32⟩
  | .hbm, ⟨86, _⟩ => ⟨S1x1x128x4x1, .f32⟩
  | .hbm, ⟨87, _⟩ => ⟨S1x16x128x4x128, .f32⟩
  | .hbm, ⟨88, _⟩ => ⟨S1x16x128x4x128, .f32⟩
  | .hbm, ⟨89, _⟩ => ⟨S1x2048x512, .f32⟩
  | .hbm, ⟨90, _⟩ => ⟨S1x2048x512, .f32⟩
  | .hbm, ⟨91, _⟩ => ⟨S2048x512, .f32⟩
  | .hbm, ⟨92, _⟩ => ⟨S2048x512, .bf16⟩
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c : Ref sig .tc := ⟨.hbm, 67, rfl⟩
abbrev main_v52 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_0 : Ref sig .tc := ⟨.hbm, 75, rfl⟩
abbrev main_call0_v5 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_call1_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== ConvQF.lean ====
abbrev S1x2048x6412 : Shape := ⟨3, ![1, 2048, 6412]⟩
abbrev S4x2304 : Shape := ⟨2, ![4, 2304]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S2048x768 : Shape := ⟨2, ![2048, 768]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 9
  | .vmem => 6
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S2048x6412, .f32⟩
  | .hbm, ⟨3, _⟩ => ⟨S2048x4108, .f32⟩
  | .hbm, ⟨4, _⟩ => ⟨S_, .f32⟩
  | .hbm, ⟨5, _⟩ => ⟨S2048x116, .f32⟩
  | .hbm, ⟨6, _⟩ => ⟨S2048x2304, .f32⟩
  | .hbm, ⟨7, _⟩ => ⟨S2048x6528, .f32⟩
  | .hbm, ⟨8, _⟩ => ⟨S2048x768, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvQFRefIdeal.lean ====
abbrev S1x2048x6412 : Shape := ⟨3, ![1, 2048, 6412]⟩
abbrev S4x2304 : Shape := ⟨2, ![4, 2304]⟩
abbrev S1x2048x512 : Shape := ⟨3, ![1, 2048, 512]⟩
abbrev S1x2048x768 : Shape := ⟨3, ![1, 2048, 768]⟩
abbrev S1x2048x6 : Shape := ⟨3, ![1, 2048, 6]⟩
abbrev S4x768 : Shape := ⟨2, ![4, 768]⟩
abbrev S_ : Shape := ⟨0, ![]⟩
abbrev S1x3x768 : Shape := ⟨3, ![1, 3, 768]⟩
abbrev S1x2051x768 : Shape := ⟨3, ![1, 2051, 768]⟩
abbrev S1x768 : Shape := ⟨2, ![1, 768]⟩
abbrev S768 : Shape := ⟨1, ![768]⟩
abbrev S1x1x768 : Shape := ⟨3, ![1, 1, 768]⟩
abbrev S1x2048x6x128 : Shape := ⟨4, ![1, 2048, 6, 128]⟩
abbrev S1x6x2048x128 : Shape := ⟨4, ![1, 6, 2048, 128]⟩
abbrev S1x6x2048 : Shape := ⟨3, ![1, 6, 2048]⟩
abbrev S1x6x2048x1 : Shape := ⟨4, ![1, 6, 2048, 1]⟩
abbrev S6x2048x128 : Shape := ⟨3, ![6, 2048, 128]⟩
abbrev S2048x6x128 : Shape := ⟨3, ![2048, 6, 128]⟩
abbrev S2048x768 : Shape := ⟨2, ![2048, 768]⟩

abbrev nBuf : Space → Nat
  | .hbm => 74
  | .vmem => 0
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S1x2048x512, .f32⟩
  | .hbm, ⟨3, _⟩ => ⟨S1x2048x512, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x6, .f32⟩
  | .hbm, ⟨9, _⟩ => ⟨S1x2048x6, .f32⟩
  | .hbm, ⟨10, _⟩ => ⟨S1x2048x768, .f32⟩
  | .hbm, ⟨11, _⟩ => ⟨S1x2048x768, .f32⟩
  | .hbm, ⟨12, _⟩ => ⟨S1x2048x768, .f32⟩
  | .hbm, ⟨13, _⟩ => ⟨S4x768, .f32⟩
  | .hbm, ⟨14, _⟩ => ⟨S_, .f32⟩
  | .hbm, ⟨15, _⟩ => ⟨S1x3x768, .f32⟩
  | .hbm, ⟨16, _⟩ => ⟨S1x2051x768, .f32⟩
  | .hbm, ⟨17, _⟩ => ⟨S1x2048x768, .f32⟩
  | .hbm, ⟨18, _⟩ => ⟨S1x768, .f32⟩
  | .hbm, ⟨19, _⟩ => ⟨S768, .f32⟩
  | .hbm, ⟨20, _⟩ => ⟨S1x1x768, .f32⟩
  | .hbm, ⟨21, _⟩ => ⟨S1x2048x768, .f32⟩
  | .hbm, ⟨22, _⟩ => ⟨S1x2048x768, .f32⟩
  | .hbm, ⟨23, _⟩ => ⟨S_, .f32⟩
  | .hbm, ⟨24, _⟩ => ⟨S1x2048x768, .f32⟩
  | .hbm, ⟨25, _⟩ => ⟨S1x2048x768, .f32⟩
  | .hbm, ⟨26, _⟩ => ⟨S1x2048x768, .f32⟩
  | .hbm, ⟨27, _⟩ => ⟨S1x768, .f32⟩
  | .hbm, ⟨28, _⟩ => ⟨S768, .f32⟩
  | .hbm, ⟨29, _⟩ => ⟨S1x1x768, .f32⟩
  | .hbm, ⟨30, _⟩ => ⟨S1x2048x768, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S1x768, .f32⟩
  | .hbm, ⟨35, _⟩ => ⟨S768, .f32⟩
  | .hbm, ⟨36, _⟩ => ⟨S1x1x768, .f32⟩
  | .hbm, ⟨37, _⟩ => ⟨S1x2048x768, .f32⟩
  | .hbm, ⟨38, _⟩ => ⟨S1x2048x768, .f32⟩
  | .hbm, ⟨39, _⟩ => ⟨S1x2048x768, .f32⟩
  | .hbm, ⟨40, _⟩ => ⟨S1x2048x768, .f32⟩
  | .hbm, ⟨41, _⟩ => ⟨S1x768, .f32⟩
  | .hbm, ⟨42, _⟩ => ⟨S768, .f32⟩
  | .hbm, ⟨43, _⟩ => ⟨S1x1x768, .f32⟩
  | .hbm, ⟨44, _⟩ => ⟨S1x2048x768, .f32⟩
  | .hbm, ⟨45, _⟩ => ⟨S1x2048x768, .f32⟩
  | .hbm, ⟨46, _⟩ => ⟨S1x2048x768, .f32⟩
  | .hbm, ⟨47, _⟩ => ⟨S1x2048x768, .f32⟩
  | .hbm, ⟨48, _⟩ => ⟨S1x2048x768, .f32⟩
  | .hbm, ⟨49, _⟩ => ⟨S_, .f32⟩
  | .hbm, ⟨50, _⟩ => ⟨S1x2048x768, .f32⟩
  | .hbm, ⟨51, _⟩ => ⟨S1x2048x768, .f32⟩
  | .hbm, ⟨52, _⟩ => ⟨S_, .f32⟩
  | .hbm, ⟨53, _⟩ => ⟨S1x2048x768, .f32⟩
  | .hbm, ⟨54, _⟩ => ⟨S1x2048x768, .f32⟩
  | .hbm, ⟨55, _⟩ => ⟨S1x2048x768, .f32⟩
  | .hbm, ⟨56, _⟩ => ⟨S1x2048x6x128, .f32⟩
  | .hbm, ⟨57, _⟩ => ⟨S1x6x2048x128, .f32⟩
  | .hbm, ⟨58, _⟩ => ⟨S1x6x2048x128, .f32⟩
  | .hbm, ⟨59, _⟩ => ⟨S_, .f32⟩
  | .hbm, ⟨60, _⟩ => ⟨S1x6x2048, .f32⟩
  | .hbm, ⟨61, _⟩ => ⟨S1x6x2048x1, .f32⟩
  | .hbm, ⟨62, _⟩ => ⟨S_, .f32⟩
  | .hbm, ⟨63, _⟩ => ⟨S1x6x2048x1, .f32⟩
  | .hbm, ⟨64, _⟩ => ⟨S1x6x2048x1, .f32⟩
  | .hbm, ⟨65, _⟩ => ⟨S1x6x2048x1, .f32⟩
  | .hbm, ⟨66, _⟩ => ⟨S1x6x2048x128, .f32⟩
  | .hbm, ⟨67, _⟩ => ⟨S1x6x2048x128, .f32⟩
  | .hbm, ⟨68, _⟩ => ⟨S_, .f32⟩
  | .hbm, ⟨69, _⟩ => ⟨S1x6x2048x128, .f32⟩
  | .hbm, ⟨70, _⟩ => ⟨S1x6x2048x128, .f32⟩
  | .hbm, ⟨71, _⟩ => ⟨S6x2048x128, .f32⟩
  | .hbm, ⟨72, _⟩ => ⟨S2048x6x128, .f32⟩
  | .hbm, ⟨73, _⟩ => ⟨S2048x768, .f32⟩
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_v47 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== ConvKF.lean ====
abbrev S1x2048x6412 : Shape := ⟨3, ![1, 2048, 6412]⟩
abbrev S4x2304 : Shape := ⟨2, ![4, 2304]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S2048x768 : Shape := ⟨2, ![2048, 768]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 9
  | .vmem => 6
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S2048x6412, .f32⟩
  | .hbm, ⟨3, _⟩ => ⟨S2048x4108, .f32⟩
  | .hbm, ⟨4, _⟩ => ⟨S_, .f32⟩
  | .hbm, ⟨5, _⟩ => ⟨S2048x116, .f32⟩
  | .hbm, ⟨6, _⟩ => ⟨S2048x2304, .f32⟩
  | .hbm, ⟨7, _⟩ => ⟨S2048x6528, .f32⟩
  | .hbm, ⟨8, _⟩ => ⟨S2048x768, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvKFRefIdeal.lean ====
abbrev S1x2048x6412 : Shape := ⟨3, ![1, 2048, 6412]⟩
abbrev S4x2304 : Shape := ⟨2, ![4, 2304]⟩
abbrev S1x2048x512 : Shape := ⟨3, ![1, 2048, 512]⟩
abbrev S1x2048x768 : Shape := ⟨3, ![1, 2048, 768]⟩
abbrev S1x2048x6 : Shape := ⟨3, ![1, 2048, 6]⟩
abbrev S4x768 : Shape := ⟨2, ![4, 768]⟩
abbrev S_ : Shape := ⟨0, ![]⟩
abbrev S1x3x768 : Shape := ⟨3, ![1, 3, 768]⟩
abbrev S1x2051x768 : Shape := ⟨3, ![1, 2051, 768]⟩
abbrev S1x768 : Shape := ⟨2, ![1, 768]⟩
abbrev S768 : Shape := ⟨1, ![768]⟩
abbrev S1x1x768 : Shape := ⟨3, ![1, 1, 768]⟩
abbrev S1x2048x6x128 : Shape := ⟨4, ![1, 2048, 6, 128]⟩
abbrev S1x6x2048x128 : Shape := ⟨4, ![1, 6, 2048, 128]⟩
abbrev S1x6x2048 : Shape := ⟨3, ![1, 6, 2048]⟩
abbrev S1x6x2048x1 : Shape := ⟨4, ![1, 6, 2048, 1]⟩
abbrev S6x2048x128 : Shape := ⟨3, ![6, 2048, 128]⟩
abbrev S2048x6x128 : Shape := ⟨3, ![2048, 6, 128]⟩
abbrev S2048x768 : Shape := ⟨2, ![2048, 768]⟩

abbrev nBuf : Space → Nat
  | .hbm => 71
  | .vmem => 0
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S1x2048x512, .f32⟩
  | .hbm, ⟨3, _⟩ => ⟨S1x2048x512, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x6, .f32⟩
  | .hbm, ⟨9, _⟩ => ⟨S1x2048x6, .f32⟩
  | .hbm, ⟨10, _⟩ => ⟨S1x2048x768, .f32⟩
  | .hbm, ⟨11, _⟩ => ⟨S1x2048x768, .f32⟩
  | .hbm, ⟨12, _⟩ => ⟨S1x2048x768, .f32⟩
  | .hbm, ⟨13, _⟩ => ⟨S4x768, .f32⟩
  | .hbm, ⟨14, _⟩ => ⟨S_, .f32⟩
  | .hbm, ⟨15, _⟩ => ⟨S1x3x768, .f32⟩
  | .hbm, ⟨16, _⟩ => ⟨S1x2051x768, .f32⟩
  | .hbm, ⟨17, _⟩ => ⟨S1x2048x768, .f32⟩
  | .hbm, ⟨18, _⟩ => ⟨S1x768, .f32⟩
  | .hbm, ⟨19, _⟩ => ⟨S768, .f32⟩
  | .hbm, ⟨20, _⟩ => ⟨S1x1x768, .f32⟩
  | .hbm, ⟨21, _⟩ => ⟨S1x2048x768, .f32⟩
  | .hbm, ⟨22, _⟩ => ⟨S1x2048x768, .f32⟩
  | .hbm, ⟨23, _⟩ => ⟨S_, .f32⟩
  | .hbm, ⟨24, _⟩ => ⟨S1x2048x768, .f32⟩
  | .hbm, ⟨25, _⟩ => ⟨S1x2048x768, .f32⟩
  | .hbm, ⟨26, _⟩ => ⟨S1x2048x768, .f32⟩
  | .hbm, ⟨27, _⟩ => ⟨S1x768, .f32⟩
  | .hbm, ⟨28, _⟩ => ⟨S768, .f32⟩
  | .hbm, ⟨29, _⟩ => ⟨S1x1x768, .f32⟩
  | .hbm, ⟨30, _⟩ => ⟨S1x2048x768, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S1x768, .f32⟩
  | .hbm, ⟨35, _⟩ => ⟨S768, .f32⟩
  | .hbm, ⟨36, _⟩ => ⟨S1x1x768, .f32⟩
  | .hbm, ⟨37, _⟩ => ⟨S1x2048x768, .f32⟩
  | .hbm, ⟨38, _⟩ => ⟨S1x2048x768, .f32⟩
  | .hbm, ⟨39, _⟩ => ⟨S1x2048x768, .f32⟩
  | .hbm, ⟨40, _⟩ => ⟨S1x2048x768, .f32⟩
  | .hbm, ⟨41, _⟩ => ⟨S1x768, .f32⟩
  | .hbm, ⟨42, _⟩ => ⟨S768, .f32⟩
  | .hbm, ⟨43, _⟩ => ⟨S1x1x768, .f32⟩
  | .hbm, ⟨44, _⟩ => ⟨S1x2048x768, .f32⟩
  | .hbm, ⟨45, _⟩ => ⟨S1x2048x768, .f32⟩
  | .hbm, ⟨46, _⟩ => ⟨S1x2048x768, .f32⟩
  | .hbm, ⟨47, _⟩ => ⟨S1x2048x768, .f32⟩
  | .hbm, ⟨48, _⟩ => ⟨S1x2048x768, .f32⟩
  | .hbm, ⟨49, _⟩ => ⟨S_, .f32⟩
  | .hbm, ⟨50, _⟩ => ⟨S1x2048x768, .f32⟩
  | .hbm, ⟨51, _⟩ => ⟨S1x2048x768, .f32⟩
  | .hbm, ⟨52, _⟩ => ⟨S_, .f32⟩
  | .hbm, ⟨53, _⟩ => ⟨S1x2048x768, .f32⟩
  | .hbm, ⟨54, _⟩ => ⟨S1x2048x768, .f32⟩
  | .hbm, ⟨55, _⟩ => ⟨S1x2048x768, .f32⟩
  | .hbm, ⟨56, _⟩ => ⟨S1x2048x6x128, .f32⟩
  | .hbm, ⟨57, _⟩ => ⟨S1x6x2048x128, .f32⟩
  | .hbm, ⟨58, _⟩ => ⟨S1x6x2048x128, .f32⟩
  | .hbm, ⟨59, _⟩ => ⟨S_, .f32⟩
  | .hbm, ⟨60, _⟩ => ⟨S1x6x2048, .f32⟩
  | .hbm, ⟨61, _⟩ => ⟨S1x6x2048x1, .f32⟩
  | .hbm, ⟨62, _⟩ => ⟨S_, .f32⟩
  | .hbm, ⟨63, _⟩ => ⟨S1x6x2048x1, .f32⟩
  | .hbm, ⟨64, _⟩ => ⟨S1x6x2048x1, .f32⟩
  | .hbm, ⟨65, _⟩ => ⟨S1x6x2048x1, .f32⟩
  | .hbm, ⟨66, _⟩ => ⟨S1x6x2048x128, .f32⟩
  | .hbm, ⟨67, _⟩ => ⟨S1x6x2048x128, .f32⟩
  | .hbm, ⟨68, _⟩ => ⟨S6x2048x128, .f32⟩
  | .hbm, ⟨69, _⟩ => ⟨S2048x6x128, .f32⟩
  | .hbm, ⟨70, _⟩ => ⟨S2048x768, .f32⟩
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_v47 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== ConvVF.lean ====
abbrev S1x2048x6412 : Shape := ⟨3, ![1, 2048, 6412]⟩
abbrev S4x2304 : Shape := ⟨2, ![4, 2304]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S2048x768 : Shape := ⟨2, ![2048, 768]⟩
abbrev S2048x128 : Shape := ⟨2, ![2048, 128]⟩
abbrev S4x128 : Shape := ⟨2, ![4, 128]⟩
abbrev S1x128 : Shape := ⟨2, ![1, 128]⟩

abbrev nBuf : Space → Nat
  | .hbm => 9
  | .vmem => 6
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S2048x6412, .f32⟩
  | .hbm, ⟨3, _⟩ => ⟨S2048x4108, .f32⟩
  | .hbm, ⟨4, _⟩ => ⟨S_, .f32⟩
  | .hbm, ⟨5, _⟩ => ⟨S2048x116, .f32⟩
  | .hbm, ⟨6, _⟩ => ⟨S2048x2304, .f32⟩
  | .hbm, ⟨7, _⟩ => ⟨S2048x6528, .f32⟩
  | .hbm, ⟨8, _⟩ => ⟨S2048x768, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvVFRefIdeal.lean ====
abbrev S1x2048x6412 : Shape := ⟨3, ![1, 2048, 6412]⟩
abbrev S4x2304 : Shape := ⟨2, ![4, 2304]⟩
abbrev S1x2048x768 : Shape := ⟨3, ![1, 2048, 768]⟩
abbrev S4x768 : Shape := ⟨2, ![4, 768]⟩
abbrev S_ : Shape := ⟨0, ![]⟩
abbrev S1x3x768 : Shape := ⟨3, ![1, 3, 768]⟩
abbrev S1x2051x768 : Shape := ⟨3, ![1, 2051, 768]⟩
abbrev S1x768 : Shape := ⟨2, ![1, 768]⟩
abbrev S768 : Shape := ⟨1, ![768]⟩
abbrev S1x1x768 : Shape := ⟨3, ![1, 1, 768]⟩
abbrev S1x2048x6x128 : Shape := ⟨4, ![1, 2048, 6, 128]⟩
abbrev S1x6x2048x128 : Shape := ⟨4, ![1, 6, 2048, 128]⟩
abbrev S6x2048x128 : Shape := ⟨3, ![6, 2048, 128]⟩
abbrev S2048x6x128 : Shape := ⟨3, ![2048, 6, 128]⟩
abbrev S2048x768 : Shape := ⟨2, ![2048, 768]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x6412, .f32⟩
  | .hbm, ⟨1, _⟩ => ⟨S4x2304, .f32⟩
  | .hbm, ⟨2, _⟩ => ⟨S1x2048x768, .f32⟩
  | .hbm, ⟨3, _⟩ => ⟨S4x768, .f32⟩
  | .hbm, ⟨4, _⟩ => ⟨S_, .f32⟩
  | .hbm, ⟨5, _⟩ => ⟨S1x3x768, .f32⟩
  | .hbm, ⟨6, _⟩ => ⟨S1x2051x768, .f32⟩
  | .hbm, ⟨7, _⟩ => ⟨S1x2048x768, .f32⟩
  | .hbm, ⟨8, _⟩ => ⟨S1x768, .f32⟩
  | .hbm, ⟨9, _⟩ => ⟨S768, .f32⟩
  | .hbm, ⟨10, _⟩ => ⟨S1x1x768, .f32⟩
  | .hbm, ⟨11, _⟩ => ⟨S1x2048x768, .f32⟩
  | .hbm, ⟨12, _⟩ => ⟨S1x2048x768, .f32⟩
  | .hbm, ⟨13, _⟩ => ⟨S_, .f32⟩
  | .hbm, ⟨14, _⟩ => ⟨S1x2048x768, .f32⟩
  | .hbm, ⟨15, _⟩ => ⟨S1x2048x768, .f32⟩
  | .hbm, ⟨16, _⟩ => ⟨S1x2048x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S1x2048x768, .f32⟩
  | .hbm, ⟨21, _⟩ => ⟨S1x2048x768, .f32⟩
  | .hbm, ⟨22, _⟩ => ⟨S1x2048x768, .f32⟩
  | .hbm, ⟨23, _⟩ => ⟨S1x2048x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S1x2048x768, .f32⟩
  | .hbm, ⟨28, _⟩ => ⟨S1x2048x768, .f32⟩
  | .hbm, ⟨29, _⟩ => ⟨S1x2048x768, .f32⟩
  | .hbm, ⟨30, _⟩ => ⟨S1x2048x768, .f32⟩
  | .hbm, ⟨31, _⟩ => ⟨S1x768, .f32⟩
  | .hbm, ⟨32, _⟩ => ⟨S768, .f32⟩
  | .hbm, ⟨33, _⟩ => ⟨S1x1x768, .f32⟩
  | .hbm, ⟨34, _⟩ => ⟨S1x2048x768, .f32⟩
  | .hbm, ⟨35, _⟩ => ⟨S1x2048x768, .f32⟩
  | .hbm, ⟨36, _⟩ => ⟨S1x2048x768, .f32⟩
  | .hbm, ⟨37, _⟩ => ⟨S1x2048x768, .f32⟩
  | .hbm, ⟨38, _⟩ => ⟨S1x2048x768, .f32⟩
  | .hbm, ⟨39, _⟩ => ⟨S_, .f32⟩
  | .hbm, ⟨40, _⟩ => ⟨S1x2048x768, .f32⟩
  | .hbm, ⟨41, _⟩ => ⟨S1x2048x768, .f32⟩
  | .hbm, ⟨42, _⟩ => ⟨S_, .f32⟩
  | .hbm, ⟨43, _⟩ => ⟨S1x2048x768, .f32⟩
  | .hbm, ⟨44, _⟩ => ⟨S1x2048x768, .f32⟩
  | .hbm, ⟨45, _⟩ => ⟨S1x2048x768, .f32⟩
  | .hbm, ⟨46, _⟩ => ⟨S1x2048x6x128, .f32⟩
  | .hbm, ⟨47, _⟩ => ⟨S1x6x2048x128, .f32⟩
  | .hbm, ⟨48, _⟩ => ⟨S6x2048x128, .f32⟩
  | .hbm, ⟨49, _⟩ => ⟨S2048x6x128, .f32⟩
  | .hbm, ⟨50, _⟩ => ⟨S2048x768, .f32⟩
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== GatesF.lean ====
abbrev S1x2048x6412 : Shape := ⟨3, ![1, 2048, 6412]⟩
abbrev S6 : Shape := ⟨1, ![6]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S6x1x1 : Shape := ⟨3, ![6, 1, 1]⟩
abbrev S6x1x128 : Shape := ⟨3, ![6, 1, 128]⟩
abbrev S6x2048x128 : Shape := ⟨3, ![6, 2048, 128]⟩
abbrev S2048x128 : Shape := ⟨2, ![2048, 128]⟩
abbrev S1x1x128 : Shape := ⟨3, ![1, 1, 128]⟩
abbrev S1x2048x128 : Shape := ⟨3, ![1, 2048, 128]⟩
abbrev S1x128 : Shape := ⟨2, ![1, 128]⟩
abbrev S128x128 : Shape := ⟨2, ![128, 128]⟩
abbrev S32x64x64 : Shape := ⟨3, ![32, 64, 64]⟩
abbrev S32x64x128 : Shape := ⟨3, ![32, 64, 128]⟩

abbrev nBuf : Space → Nat
  | .hbm => 15
  | .vmem => 9
  | .smem => 0
  | _ => 0

abbrev bufTy : (tb : Table) → Fin (tcTables nBuf tb) → BufTy
  | .hbm, ⟨0, _⟩ => ⟨S1x2048x6412, .f32⟩
  | .hbm, ⟨1, _⟩ => ⟨S6, .f32⟩
  | .hbm, ⟨2, _⟩ => ⟨S6, .f32⟩
  | .hbm, ⟨3, _⟩ => ⟨S2048x6412, .f32⟩
  | .hbm, ⟨4, _⟩ => ⟨S2048x4108, .f32⟩
  | .hbm, ⟨5, _⟩ => ⟨S_, .f32⟩
  | .hbm, ⟨6, _⟩ => ⟨S2048x116, .f32⟩
  | .hbm, ⟨7, _⟩ => ⟨S2048x2304, .f32⟩
  | .hbm, ⟨8, _⟩ => ⟨S2048x6528, .f32⟩
  | .hbm, ⟨9, _⟩ => ⟨S6x1x1, .f32⟩
  | .hbm, ⟨10, _⟩ => ⟨S6x1x128, .f32⟩
  | .hbm, ⟨11, _⟩ => ⟨S6x1x1, .f32⟩
  | .hbm, ⟨12, _⟩ => ⟨S6x1x128, .f32⟩
  | .hbm, ⟨13, _⟩ => ⟨S6x2048x128, .f32⟩
  | .hbm, ⟨14, _⟩ => ⟨S6x2048x128, .f32⟩
  | .local _ .vmem, ⟨0, _⟩ => ⟨S2048x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | _, _ => ⟨S1x2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c32_i32 : BitVec 32 := 32#32
  let c0_i32_0 : BitVec 32 := 0#32
  ![c0_i32.toNat, c32_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesFRefIdeal.lean ====
abbrev S1x2048x6412 : Shape := ⟨3, ![1, 2048, 6412]⟩
abbrev S6 : Shape := ⟨1, ![6]⟩
abbrev S1x2048x512 : Shape := ⟨3, ![1, 2048, 512]⟩
abbrev S1x2048x768 : Shape := ⟨3, ![1, 2048, 768]⟩
abbrev S1x2048x6 : Shape := ⟨3, ![1, 2048, 6]⟩
abbrev S_ : Shape := ⟨0, ![]⟩
abbrev S1x6x2048 : Shape := ⟨3, ![1, 6, 2048]⟩
abbrev S1x1x6 : Shape := ⟨3, ![1, 1, 6]⟩
abbrev S1x6x32x64 : Shape := ⟨4, ![1, 6, 32, 64]⟩
abbrev S6x2048x1 : Shape := ⟨3, ![6, 2048, 1]⟩
abbrev S6x2048x128 : Shape := ⟨3, ![6, 2048, 128]⟩

abbrev nBuf : Space → Nat
  | .hbm => 54
  | .vmem => 0
  | .smem => 0
  | _ => 0

abbrev bufTy : (tb : Table) → Fin (tcTables nBuf tb) → BufTy
  | .hbm, ⟨0, _⟩ => ⟨S1x2048x6412, .f32⟩
  | .hbm, ⟨1, _⟩ => ⟨S6, .f32⟩
  | .hbm, ⟨2, _⟩ => ⟨S6, .f32⟩
  | .hbm, ⟨3, _⟩ => ⟨S1x2048x512, .f32⟩
  | .hbm, ⟨4, _⟩ => ⟨S1x2048x512, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x768, .f32⟩
  | .hbm, ⟨9, _⟩ => ⟨S1x2048x6, .f32⟩
  | .hbm, ⟨10, _⟩ => ⟨S1x2048x6, .f32⟩
  | .hbm, ⟨11, _⟩ => ⟨S1x2048x768, .f32⟩
  | .hbm, ⟨12, _⟩ => ⟨S1x2048x768, .f32⟩
  | .hbm, ⟨13, _⟩ => ⟨S1x2048x768, .f32⟩
  | .hbm, ⟨14, _⟩ => ⟨S1x2048x6, .f32⟩
  | .hbm, ⟨15, _⟩ => ⟨S1x2048x6, .f32⟩
  | .hbm, ⟨16, _⟩ => ⟨S_, .f32⟩
  | .hbm, ⟨17, _⟩ => ⟨S1x2048x6, .f32⟩
  | .hbm, ⟨18, _⟩ => ⟨S1x2048x6, .f32⟩
  | .hbm, ⟨19, _⟩ => ⟨S_, .f32⟩
  | .hbm, ⟨20, _⟩ => ⟨S1x2048x6, .f32⟩
  | .hbm, ⟨21, _⟩ => ⟨S1x2048x6, .f32⟩
  | .hbm, ⟨22, _⟩ => ⟨S1x6x2048, .f32⟩
  | .hbm, ⟨23, _⟩ => ⟨S6, .f32⟩
  | .hbm, ⟨24, _⟩ => ⟨S1x1x6, .f32⟩
  | .hbm, ⟨25, _⟩ => ⟨S1x1x6, .f32⟩
  | .hbm, ⟨26, _⟩ => ⟨S1x1x6, .f32⟩
  | .hbm, ⟨27, _⟩ => ⟨S1x2048x6, .f32⟩
  | .hbm, ⟨28, _⟩ => ⟨S1x2048x6, .f32⟩
  | .hbm, ⟨29, _⟩ => ⟨S_, .f32⟩
  | .hbm, ⟨30, _⟩ => ⟨S1x2048x6, .f32⟩
  | .hbm, ⟨31, _⟩ => ⟨S1x2048x6, .f32⟩
  | .hbm, ⟨32, _⟩ => ⟨S1x2048x6, .f32⟩
  | .hbm, ⟨33, _⟩ => ⟨S1x2048x6, .f32⟩
  | .hbm, ⟨34, _⟩ => ⟨S1x2048x6, .i1⟩
  | .hbm, ⟨35, _⟩ => ⟨S1x2048x6, .f32⟩
  | .hbm, ⟨36, _⟩ => ⟨S1x2048x6, .f32⟩
  | .hbm, ⟨37, _⟩ => ⟨S1x2048x6, .f32⟩
  | .hbm, ⟨38, _⟩ => ⟨S1x2048x6, .f32⟩
  | .hbm, ⟨39, _⟩ => ⟨S1x2048x6, .f32⟩
  | .hbm, ⟨40, _⟩ => ⟨S1x2048x6, .f32⟩
  | .hbm, ⟨41, _⟩ => ⟨S1x2048x6, .f32⟩
  | .hbm, ⟨42, _⟩ => ⟨S1x2048x6, .f32⟩
  | .hbm, ⟨43, _⟩ => ⟨S1x2048x6, .f32⟩
  | .hbm, ⟨44, _⟩ => ⟨S1x2048x6, .f32⟩
  | .hbm, ⟨45, _⟩ => ⟨S1x6x2048, .f32⟩
  | .hbm, ⟨46, _⟩ => ⟨S1x6x32x64, .f32⟩
  | .hbm, ⟨47, _⟩ => ⟨S_, .f32⟩
  | .hbm, ⟨48, _⟩ => ⟨S_, .f32⟩
  | .hbm, ⟨49, _⟩ => ⟨S1x6x32x64, .f32⟩
  | .hbm, ⟨50, _⟩ => ⟨S6x2048x1, .f32⟩
  | .hbm, ⟨51, _⟩ => ⟨S6x2048x128, .f32⟩
  | .hbm, ⟨52, _⟩ => ⟨S6x2048x1, .f32⟩
  | .hbm, ⟨53, _⟩ => ⟨S6x2048x128, .f32⟩
  | _, _ => ⟨S1x2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_call0_cst : Ref sig .tc := ⟨.hbm, 47, rfl⟩
abbrev main_call1_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== SwigluF.lean ====
abbrev S2048x2048 : Shape := ⟨2, ![2048, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S1x4x2048x2816 : Shape := ⟨4, ![1, 4, 2048, 2816]⟩
abbrev S2x2048x5632 : Shape := ⟨3, ![2, 2048, 5632]⟩
abbrev S2048x5632 : Shape := ⟨2, ![2048, 5632]⟩
abbrev S512x2048 : Shape := ⟨2, ![512, 2048]⟩
abbrev S1x1x2048x1408 : Shape := ⟨4, ![1, 1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 9
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S1x4x2048x2816, .bf16⟩
  | .hbm, ⟨6, _⟩ => ⟨S2048x2048, .bf16⟩
  | .hbm, ⟨7, _⟩ => ⟨S2x2048x5632, .bf16⟩
  | .hbm, ⟨8, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  let c0_i32_13 : BitVec 32 := 0#32
  ![c0_i32_11.toNat, v17.toNat, c0_i32_12.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluFRefIdeal.lean ====
abbrev S2048x2048 : Shape := ⟨2, ![2048, 2048]⟩
abbrev S2048x11264 : Shape := ⟨2, ![2048, 11264]⟩
abbrev S1x2048x2048 : Shape := ⟨3, ![1, 2048, 2048]⟩
abbrev S1x2048x11264 : Shape := ⟨3, ![1, 2048, 11264]⟩
abbrev S1x2048x5632 : Shape := ⟨3, ![1, 2048, 5632]⟩
abbrev S_ : Shape := ⟨0, ![]⟩
abbrev S2048x2x5632 : Shape := ⟨3, ![2048, 2, 5632]⟩
abbrev S2x2048x5632 : Shape := ⟨3, ![2, 2048, 5632]⟩
abbrev S2048x5632 : Shape := ⟨2, ![2048, 5632]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S1x2048x2048, .f32⟩
  | .hbm, ⟨3, _⟩ => ⟨S1x2048x11264, .f32⟩
  | .hbm, ⟨4, _⟩ => ⟨S1x2048x5632, .f32⟩
  | .hbm, ⟨5, _⟩ => ⟨S1x2048x5632, .f32⟩
  | .hbm, ⟨6, _⟩ => ⟨S1x2048x5632, .f32⟩
  | .hbm, ⟨7, _⟩ => ⟨S1x2048x5632, .f32⟩
  | .hbm, ⟨8, _⟩ => ⟨S_, .f32⟩
  | .hbm, ⟨9, _⟩ => ⟨S1x2048x5632, .f32⟩
  | .hbm, ⟨10, _⟩ => ⟨S1x2048x5632, .f32⟩
  | .hbm, ⟨11, _⟩ => ⟨S_, .f32⟩
  | .hbm, ⟨12, _⟩ => ⟨S1x2048x5632, .f32⟩
  | .hbm, ⟨13, _⟩ => ⟨S1x2048x5632, .f32⟩
  | .hbm, ⟨14, _⟩ => ⟨S1x2048x5632, .f32⟩
  | .hbm, ⟨15, _⟩ => ⟨S1x2048x5632, .f32⟩
  | .hbm, ⟨16, _⟩ => ⟨S2048x11264, .f32⟩
  | .hbm, ⟨17, _⟩ => ⟨S2048x2x5632, .f32⟩
  | .hbm, ⟨18, _⟩ => ⟨S2x2048x5632, .f32⟩
  | .hbm, ⟨19, _⟩ => ⟨S2x2048x5632, .bf16⟩
  | .hbm, ⟨20, _⟩ => ⟨S2048x5632, .f32⟩
  | .hbm, ⟨21, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== ScanF.lean ====
abbrev S2048x768 : Shape := ⟨2, ![2048, 768]⟩
abbrev S6x2048 : Shape := ⟨2, ![6, 2048]⟩
abbrev S6x32x64x64 : Shape := ⟨4, ![6, 32, 64, 64]⟩
abbrev S128 : Shape := ⟨1, ![128]⟩
abbrev S6x2048x1 : Shape := ⟨3, ![6, 2048, 1]⟩
abbrev S6x2048x128 : Shape := ⟨3, ![6, 2048, 128]⟩
abbrev S1x128 : Shape := ⟨2, ![1, 128]⟩
abbrev S32x6x128x128 : Shape := ⟨4, ![32, 6, 128, 128]⟩
abbrev S64x768 : Shape := ⟨2, ![64, 768]⟩
abbrev S6x64x128 : Shape := ⟨3, ![6, 64, 128]⟩
abbrev S6x1x64x64 : Shape := ⟨4, ![6, 1, 64, 64]⟩
abbrev S1x6x128x128 : Shape := ⟨4, ![1, 6, 128, 128]⟩
abbrev S6x128x128 : Shape := ⟨3, ![6, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x64x128 : Shape := ⟨3, ![1, 64, 128]⟩
abbrev S1x1x64x64 : Shape := ⟨4, ![1, 1, 64, 64]⟩
abbrev S64x64 : Shape := ⟨2, ![64, 64]⟩
abbrev S64 : Shape := ⟨1, ![64]⟩
abbrev S64x1 : Shape := ⟨2, ![64, 1]⟩

abbrev nBuf : Space → Nat
  | .hbm => 13
  | .vmem => 20
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S6x2048, .f32⟩
  | .hbm, ⟨5, _⟩ => ⟨S6x32x64x64, .f32⟩
  | .hbm, ⟨6, _⟩ => ⟨S2048x768, .f32⟩
  | .hbm, ⟨7, _⟩ => ⟨S128, .f32⟩
  | .hbm, ⟨8, _⟩ => ⟨S6x2048x1, .f32⟩
  | .hbm, ⟨9, _⟩ => ⟨S6x2048x128, .f32⟩
  | .hbm, ⟨10, _⟩ => ⟨S1x128, .f32⟩
  | .hbm, ⟨11, _⟩ => ⟨S2048x768, .bf16⟩
  | .hbm, ⟨12, _⟩ => ⟨S32x6x128x128, .f32⟩
  | .local _ .vmem, ⟨0, _⟩ => ⟨S64x768, .f32⟩
  | .local _ .vmem, ⟨1, _⟩ => ⟨S64x768, .f32⟩
  | .local _ .vmem, ⟨2, _⟩ => ⟨S64x768, .f32⟩
  | .local _ .vmem, ⟨3, _⟩ => ⟨S64x768, .f32⟩
  | .local _ .vmem, ⟨4, _⟩ => ⟨S64x768, .f32⟩
  | .local _ .vmem, ⟨5, _⟩ => ⟨S64x768, .f32⟩
  | .local _ .vmem, ⟨6, _⟩ => ⟨S64x768, .f32⟩
  | .local _ .vmem, ⟨7, _⟩ => ⟨S64x768, .f32⟩
  | .local _ .vmem, ⟨8, _⟩ => ⟨S6x64x128, .f32⟩
  | .local _ .vmem, ⟨9, _⟩ => ⟨S6x64x128, .f32⟩
  | .local _ .vmem, ⟨10, _⟩ => ⟨S6x1x64x64, .f32⟩
  | .local _ .vmem, ⟨11, _⟩ => ⟨S6x1x64x64, .f32⟩
  | .local _ .vmem, ⟨12, _⟩ => ⟨S64x768, .f32⟩
  | .local _ .vmem, ⟨13, _⟩ => ⟨S64x768, .f32⟩
  | .local _ .vmem, ⟨14, _⟩ => ⟨S1x128, .f32⟩
  | .local _ .vmem, ⟨15, _⟩ => ⟨S64x768, .bf16⟩
  | .local _ .vmem, ⟨16, _⟩ => ⟨S64x768, .bf16⟩
  | .local _ .vmem, ⟨17, _⟩ => ⟨S1x6x128x128, .f32⟩
  | .local _ .vmem, ⟨18, _⟩ => ⟨S1x6x128x128, .f32⟩
  | .local _ .vmem, ⟨19, _⟩ => ⟨S6x128x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ScanFRefIdeal.lean ====
abbrev S2048x768 : Shape := ⟨2, ![2048, 768]⟩
abbrev S6x2048 : Shape := ⟨2, ![6, 2048]⟩
abbrev S6x32x64x64 : Shape := ⟨4, ![6, 32, 64, 64]⟩
abbrev S128 : Shape := ⟨1, ![128]⟩
abbrev S1x2048x6x128 : Shape := ⟨4, ![1, 2048, 6, 128]⟩
abbrev S1x6x2048x128 : Shape := ⟨4, ![1, 6, 2048, 128]⟩
abbrev S1x6x32x64x128 : Shape := ⟨5, ![1, 6, 32, 64, 128]⟩
abbrev S1x6x2048 : Shape := ⟨3, ![1, 6, 2048]⟩
abbrev S1x6x32x64 : Shape := ⟨4, ![1, 6, 32, 64]⟩
abbrev S1x6x32x64x64 : Shape := ⟨5, ![1, 6, 32, 64, 64]⟩
abbrev S32x1x6x64x128 : Shape := ⟨5, ![32, 1, 6, 64, 128]⟩
abbrev S32x1x6x64 : Shape := ⟨4, ![32, 1, 6, 64]⟩
abbrev S32x1x6x64x64 : Shape := ⟨5, ![32, 1, 6, 64, 64]⟩
abbrev S_ : Shape := ⟨0, ![]⟩
abbrev S1x6x128x128 : Shape := ⟨4, ![1, 6, 128, 128]⟩
abbrev S32x1x6x128x128 : Shape := ⟨5, ![32, 1, 6, 128, 128]⟩
abbrev S1x1x6x64x128 : Shape := ⟨5, ![1, 1, 6, 64, 128]⟩
abbrev S1x6x64x128 : Shape := ⟨4, ![1, 6, 64, 128]⟩
abbrev S1x1x6x64 : Shape := ⟨4, ![1, 1, 6, 64]⟩
abbrev S1x6x64 : Shape := ⟨3, ![1, 6, 64]⟩
abbrev S1x1x6x64x64 : Shape := ⟨5, ![1, 1, 6, 64, 64]⟩
abbrev S1x6x64x64 : Shape := ⟨4, ![1, 6, 64, 64]⟩
abbrev S1x6x64x1 : Shape := ⟨4, ![1, 6, 64, 1]⟩
abbrev S1x6x1 : Shape := ⟨3, ![1, 6, 1]⟩
abbrev S1x6x1x1 : Shape := ⟨4, ![1, 6, 1, 1]⟩
abbrev S1x1x6x128x128 : Shape := ⟨5, ![1, 1, 6, 128, 128]⟩
abbrev S1x2048x6 : Shape := ⟨3, ![1, 2048, 6]⟩
abbrev S1x2048x6x1 : Shape := ⟨4, ![1, 2048, 6, 1]⟩
abbrev S1x1x1x128 : Shape := ⟨4, ![1, 1, 1, 128]⟩
abbrev S32x6x128x128 : Shape := ⟨4, ![32, 6, 128, 128]⟩

abbrev nBuf : Space → Nat
  | .hbm => 152
  | .vmem => 0
  | .smem => 0
  | _ => 0

abbrev hbmTy0_0 (i : Nat) : BufTy := match i % 128 with
  | 0 => ⟨S2048x768, .f32⟩
  | 1 => ⟨S2048x768, .f32⟩
  | 2 => ⟨S2048x768, .f32⟩
  | 3 => ⟨S2048x768, .f32⟩
  | 4 => ⟨S6x2048, .f32⟩
  | 5 => ⟨S6x32x64x64, .f32⟩
  | 6 => ⟨S2048x768, .f32⟩
  | 7 => ⟨S128, .f32⟩
  | 8 => ⟨S1x2048x6x128, .f32⟩
  | 9 => ⟨S1x6x2048x128, .f32⟩
  | 10 => ⟨S1x6x32x64x128, .f32⟩
  | 11 => ⟨S1x2048x6x128, .f32⟩
  | 12 => ⟨S1x6x2048x128, .f32⟩
  | 13 => ⟨S1x6x32x64x128, .f32⟩
  | 14 => ⟨S1x2048x6x128, .f32⟩
  | 15 => ⟨S1x6x2048x128, .f32⟩
  | 16 => ⟨S1x6x32x64x128, .f32⟩
  | 17 => ⟨S1x2048x6x128, .f32⟩
  | 18 => ⟨S1x6x2048x128, .f32⟩
  | 19 => ⟨S1x6x32x64x128, .f32⟩
  | 20 => ⟨S1x6x2048, .f32⟩
  | 21 => ⟨S1x6x32x64, .f32⟩
  | 22 => ⟨S1x6x32x64x64, .f32⟩
  | 23 => ⟨S32x1x6x64x128, .f32⟩
  | 24 => ⟨S32x1x6x64x128, .f32⟩
  | 25 => ⟨S32x1x6x64x128, .f32⟩
  | 26 => ⟨S32x1x6x64x128, .f32⟩
  | 27 => ⟨S32x1x6x64, .f32⟩
  | 28 => ⟨S32x1x6x64x64, .f32⟩
  | 29 => ⟨S_, .f32⟩
  | 30 => ⟨S1x6x128x128, .f32⟩
  | 31 => ⟨S_, .f32⟩
  | 32 => ⟨S32x1x6x64x128, .f32⟩
  | 33 => ⟨S_, .f32⟩
  | 34 => ⟨S32x1x6x128x128, .f32⟩
  | 35 => ⟨S_, .i32⟩
  | 36 => ⟨S32x1x6x64x128, .f32⟩
  | 37 => ⟨S32x1x6x64x128, .f32⟩
  | 38 => ⟨S32x1x6x64x128, .f32⟩
  | 39 => ⟨S32x1x6x64x128, .f32⟩
  | 40 => ⟨S32x1x6x64, .f32⟩
  | 41 => ⟨S32x1x6x64x64, .f32⟩
  | 42 => ⟨S_, .i32⟩
  | 43 => ⟨S1x6x128x128, .f32⟩
  | 44 => ⟨S32x1x6x64x128, .f32⟩
  | 45 => ⟨S32x1x6x128x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S1x1x6x64x128, .f32⟩
  | 53 => ⟨S1x6x64x128, .f32⟩
  | 54 => ⟨S_, .i32⟩
  | 55 => ⟨S_, .i32⟩
  | 56 => ⟨S_, .i32⟩
  | 57 => ⟨S_, .i32⟩
  | 58 => ⟨S1x1x6x64x128, .f32⟩
  | 59 => ⟨S1x6x64x128, .f32⟩
  | 60 => ⟨S_, .i32⟩
  | 61 => ⟨S_, .i32⟩
  | 62 => ⟨S_, .i32⟩
  | 63 => ⟨S_, .i32⟩
  | 64 => ⟨S1x1x6x64x128, .f32⟩
  | 65 => ⟨S1x6x64x128, .f32⟩
  | 66 => ⟨S_, .i32⟩
  | 67 => ⟨S_, .i32⟩
  | 68 => ⟨S_, .i32⟩
  | 69 => ⟨S_, .i32⟩
  | 70 => ⟨S1x1x6x64x128, .f32⟩
  | 71 => ⟨S1x6x64x128, .f32⟩
  | 72 => ⟨S_, .i32⟩
  | 73 => ⟨S_, .i32⟩
  | 74 => ⟨S_, .i32⟩
  | 75 => ⟨S1x1x6x64, .f32⟩
  | 76 => ⟨S1x6x64, .f32⟩
  | 77 => ⟨S_, .i32⟩
  | 78 => ⟨S_, .i32⟩
  | 79 => ⟨S_, .i32⟩
  | 80 => ⟨S_, .i32⟩
  | 81 => ⟨S1x1x6x64x64, .f32⟩
  | 82 => ⟨S1x6x64x64, .f32⟩
  | 83 => ⟨S1x6x64x128, .f32⟩
  | 84 => ⟨S1x6x64x128, .f32⟩
  | 85 => ⟨S1x6x64, .f32⟩
  | 86 => ⟨S1x6x64x1, .f32⟩
  | 87 => ⟨S1x6x64x128, .f32⟩
  | 88 => ⟨S1x6x64x128, .f32⟩
  | 89 => ⟨S1x6x64x128, .f32⟩
  | 90 => ⟨S1x6x64x128, .f32⟩
  | 91 => ⟨S1x6x64x128, .f32⟩
  | 92 => ⟨S1x6x1, .f32⟩
  | 93 => ⟨S1x6x1, .f32⟩
  | 94 => ⟨S1x6x1x1, .f32⟩
  | 95 => ⟨S1x6x128x128, .f32⟩
  | 96 => ⟨S1x6x128x128, .f32⟩
  | 97 => ⟨S1x6x64, .f32⟩
  | 98 => ⟨S1x6x64, .f32⟩
  | 99 => ⟨S1x6x64, .f32⟩
  | 100 => ⟨S1x6x64x1, .f32⟩
  | 101 => ⟨S1x6x64x128, .f32⟩
  | 102 => ⟨S1x6x64x128, .f32⟩
  | 103 => ⟨S1x6x128x128, .f32⟩
  | 104 => ⟨S1x6x128x128, .f32⟩
  | 105 => ⟨S1x1x6x64x128, .f32⟩
  | 106 => ⟨S_, .i32⟩
  | 107 => ⟨S_, .i32⟩
  | 108 => ⟨S_, .i32⟩
  | 109 => ⟨S_, .i32⟩
  | 110 => ⟨S32x1x6x64x128, .f32⟩
  | 111 => ⟨S1x1x6x128x128, .f32⟩
  | 112 => ⟨S_, .i32⟩
  | 113 => ⟨S_, .i32⟩
  | 114 => ⟨S_, .i32⟩
  | 115 => ⟨S_, .i32⟩
  | 116 => ⟨S32x1x6x128x128, .f32⟩
  | 117 => ⟨S_, .i32⟩
  | 118 => ⟨S_, .i32⟩
  | 119 => ⟨S1x6x32x64x128, .f32⟩
  | 120 => ⟨S1x6x2048x128, .f32⟩
  | 121 => ⟨S1x2048x6x128, .f32⟩
  | 122 => ⟨S1x2048x6x128, .f32⟩
  | 123 => ⟨S_, .f32⟩
  | 124 => ⟨S1x2048x6, .f32⟩
  | 125 => ⟨S1x2048x6x1, .f32⟩
  | 126 => ⟨S_, .f32⟩
  | 127 => ⟨S1x2048x6x1, .f32⟩
  | _ => ⟨S2048x768, .f32⟩

abbrev hbmTy0_1 (i : Nat) : BufTy := match i % 128 with
  | 0 => ⟨S1x2048x6x1, .f32⟩
  | 1 => ⟨S_, .f32⟩
  | 2 => ⟨S1x2048x6x1, .f32⟩
  | 3 => ⟨S1x2048x6x1, .f32⟩
  | 4 => ⟨S1x2048x6x1, .f32⟩
  | 5 => ⟨S1x2048x6x128, .f32⟩
  | 6 => ⟨S1x2048x6x128, .f32⟩
  | 7 => ⟨S1x1x1x128, .f32⟩
  | 8 => ⟨S1x2048x6x128, .f32⟩
  | 9 => ⟨S1x2048x6x128, .f32⟩
  | 10 => ⟨S1x2048x6x128, .f32⟩
  | 11 => ⟨S1x2048x6x128, .f32⟩
  | 12 => ⟨S1x2048x6x128, .f32⟩
  | 13 => ⟨S_, .f32⟩
  | 14 => ⟨S1x2048x6x128, .f32⟩
  | 15 => ⟨S1x2048x6x128, .f32⟩
  | 16 => ⟨S_, .f32⟩
  | 17 => ⟨S1x2048x6x128, .f32⟩
  | 18 => ⟨S1x2048x6x128, .f32⟩
  | 19 => ⟨S1x2048x6x128, .f32⟩
  | 20 => ⟨S1x2048x6x128, .f32⟩
  | 21 => ⟨S2048x768, .f32⟩
  | 22 => ⟨S2048x768, .bf16⟩
  | 23 => ⟨S32x6x128x128, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_c : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev main_v24_6 : Ref sig .tc := ⟨.hbm, 42, rfl⟩
abbrev main_v24_7 : Ref sig .tc := ⟨.hbm, 43, rfl⟩
abbrev main_v24_8 : Ref sig .tc := ⟨.hbm, 44, rfl⟩
abbrev main_v24_9 : Ref sig .tc := ⟨.hbm, 45, rfl⟩
abbrev main_while0c_c_14 : Ref sig .tc := ⟨.hbm, 46, rfl⟩
abbrev main_while0c_v47 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_c_1 : Ref sig .tc := ⟨.hbm, 50, rfl⟩
abbrev main_while0b_call0_c_2 : Ref sig .tc := ⟨.hbm, 51, rfl⟩
abbrev main_while0b_call0_v0 : Ref sig .tc := ⟨.hbm, 52, rfl⟩
abbrev main_while0b_v47 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_c_2 : Ref sig .tc := ⟨.hbm, 57, rfl⟩
abbrev main_while0b_call1_v0 : Ref sig .tc := ⟨.hbm, 58, rfl⟩
abbrev main_while0b_v48 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_c_2 : Ref sig .tc := ⟨.hbm, 63, rfl⟩
abbrev main_while0b_call2_v0 : Ref sig .tc := ⟨.hbm, 64, rfl⟩
abbrev main_while0b_v49 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_c_2 : Ref sig .tc := ⟨.hbm, 69, rfl⟩
abbrev main_while0b_call3_v0 : Ref sig .tc := ⟨.hbm, 70, rfl⟩
abbrev main_while0b_v50 : Ref sig .tc := ⟨.hbm, 71, rfl⟩
abbrev main_while0b_call4_c : Ref sig .tc := ⟨.hbm, 72, rfl⟩
abbrev main_while0b_call4_c_0 : Ref sig .tc := ⟨.hbm, 73, rfl⟩
abbrev main_while0b_call4_c_1 : Ref sig .tc := ⟨.hbm, 74, rfl⟩
abbrev main_while0b_call4_v0 : Ref sig .tc := ⟨.hbm, 75, rfl⟩
abbrev main_while0b_v51 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_c_1 : Ref sig .tc := ⟨.hbm, 79, rfl⟩
abbrev main_while0b_call5_c_2 : Ref sig .tc := ⟨.hbm, 80, rfl⟩
abbrev main_while0b_call5_v0 : Ref sig .tc := ⟨.hbm, 81, rfl⟩
abbrev main_while0b_v52 : Ref sig .tc := ⟨.hbm, 82, rfl⟩
abbrev main_while0b_v53 : Ref sig .tc := ⟨.hbm, 83, rfl⟩
abbrev main_while0b_v54 : Ref sig .tc := ⟨.hbm, 84, rfl⟩
abbrev main_while0b_v55 : Ref sig .tc := ⟨.hbm, 85, rfl⟩
abbrev main_while0b_v56 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_v73 : Ref sig .tc := ⟨.hbm, 103, rfl⟩
abbrev main_while0b_v74 : Ref sig .tc := ⟨.hbm, 104, rfl⟩
abbrev main_while0b_call6_v0 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_c_2 : Ref sig .tc := ⟨.hbm, 109, rfl⟩
abbrev main_while0b_v75 : Ref sig .tc := ⟨.hbm, 110, rfl⟩
abbrev main_while0b_call7_v0 : Ref sig .tc := ⟨.hbm, 111, rfl⟩
abbrev main_while0b_call7_c : Ref sig .tc := ⟨.hbm, 112, rfl⟩
abbrev main_while0b_call7_c_0 : Ref sig .tc := ⟨.hbm, 113, rfl⟩
abbrev main_while0b_call7_c_1 : Ref sig .tc := ⟨.hbm, 114, rfl⟩
abbrev main_while0b_call7_c_2 : Ref sig .tc := ⟨.hbm, 115, rfl⟩
abbrev main_while0b_v76 : Ref sig .tc := ⟨.hbm, 116, rfl⟩
abbrev main_while0b_c_14 : Ref sig .tc := ⟨.hbm, 117, rfl⟩
abbrev main_while0b_v77 : Ref sig .tc := ⟨.hbm, 118, rfl⟩
abbrev main_v25 : Ref sig .tc := ⟨.hbm, 119, rfl⟩
abbrev main_v26 : Ref sig .tc := ⟨.hbm, 120, rfl⟩
abbrev main_v27 : Ref sig .tc := ⟨.hbm, 121, rfl⟩
abbrev main_v28 : Ref sig .tc := ⟨.hbm, 122, rfl⟩
abbrev main_cst_2 : Ref sig .tc := ⟨.hbm, 123, rfl⟩
abbrev main_v29 : Ref sig .tc := ⟨.hbm, 124, rfl⟩
abbrev main_v30 : Ref sig .tc := ⟨.hbm, 125, rfl⟩
abbrev main_cst_3 : Ref sig .tc := ⟨.hbm, 126, rfl⟩
abbrev main_v31 : Ref sig .tc := ⟨.hbm, 127, rfl⟩
abbrev main_v32 : Ref sig .tc := ⟨.hbm, 128, rfl⟩
abbrev main_cst_4 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_call8_v0 : Ref sig .tc := ⟨.hbm, 139, rfl⟩
abbrev main_call8_v1 : Ref sig .tc := ⟨.hbm, 140, rfl⟩
abbrev main_call8_cst : Ref sig .tc := ⟨.hbm, 141, rfl⟩
abbrev main_call8_v2 : Ref sig .tc := ⟨.hbm, 142, rfl⟩
abbrev main_call8_v3 : Ref sig .tc := ⟨.hbm, 143, rfl⟩
abbrev main_call8_cst_0 : Ref sig .tc := ⟨.hbm, 144, rfl⟩
abbrev main_call8_v4 : Ref sig .tc := ⟨.hbm, 145, rfl⟩
abbrev main_call8_v5 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩

abbrev nD : Nat := 1
abbrev τ : Topo := Topo.v7x

variable {F : FTy → Type} [FloatOps F]

abbrev main_while0_count : Scf.Loop 32 := ⟨0#32, 32#32, 1#32⟩
-- ==== WyF.lean ====
abbrev S2048x768 : Shape := ⟨2, ![2048, 768]⟩
abbrev S6x2048 : Shape := ⟨2, ![6, 2048]⟩
abbrev S6x2048x1 : Shape := ⟨3, ![6, 2048, 1]⟩
abbrev S6x2048x128 : Shape := ⟨3, ![6, 2048, 128]⟩
abbrev S6x32x64x64 : Shape := ⟨4, ![6, 32, 64, 64]⟩
abbrev S1024x128 : Shape := ⟨2, ![1024, 128]⟩
abbrev S1x1024x128 : Shape := ⟨3, ![1, 1024, 128]⟩
abbrev S1x16x64x64 : Shape := ⟨4, ![1, 16, 64, 64]⟩
abbrev S16x64x128 : Shape := ⟨3, ![16, 64, 128]⟩
abbrev S16x64x64 : Shape := ⟨3, ![16, 64, 64]⟩
abbrev S16x128x64 : Shape := ⟨3, ![16, 128, 64]⟩

abbrev nBuf : Space → Nat
  | .hbm => 12
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S6x2048, .f32⟩
  | .hbm, ⟨4, _⟩ => ⟨S6x2048, .f32⟩
  | .hbm, ⟨5, _⟩ => ⟨S6x2048x1, .f32⟩
  | .hbm, ⟨6, _⟩ => ⟨S6x2048x128, .f32⟩
  | .hbm, ⟨7, _⟩ => ⟨S6x2048x1, .f32⟩
  | .hbm, ⟨8, _⟩ => ⟨S6x2048x128, .f32⟩
  | .hbm, ⟨9, _⟩ => ⟨S2048x768, .f32⟩
  | .hbm, ⟨10, _⟩ => ⟨S2048x768, .f32⟩
  | .hbm, ⟨11, _⟩ => ⟨S6x32x64x64, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x16x64x64, .f32⟩
  | .local _ .vmem, ⟨15, _⟩ => ⟨S1x16x64x64, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== WyFRefIdeal.lean ====
abbrev S2048x768 : Shape := ⟨2, ![2048, 768]⟩
abbrev S6x2048 : Shape := ⟨2, ![6, 2048]⟩
abbrev S1x2048x6x128 : Shape := ⟨4, ![1, 2048, 6, 128]⟩
abbrev S1x6x2048x128 : Shape := ⟨4, ![1, 6, 2048, 128]⟩
abbrev S1x6x2048 : Shape := ⟨3, ![1, 6, 2048]⟩
abbrev S1x6x32x64x128 : Shape := ⟨5, ![1, 6, 32, 64, 128]⟩
abbrev S1x6x32x64 : Shape := ⟨4, ![1, 6, 32, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x6x32x64x1 : Shape := ⟨5, ![1, 6, 32, 64, 1]⟩
abbrev S1x6x32x1x64 : Shape := ⟨5, ![1, 6, 32, 1, 64]⟩
abbrev S1x6x32x64x64 : Shape := ⟨5, ![1, 6, 32, 64, 64]⟩
abbrev S_ : Shape := ⟨0, ![]⟩
abbrev S6x32x64x64 : Shape := ⟨4, ![6, 32, 64, 64]⟩
abbrev S64x1x6x32x64 : Shape := ⟨5, ![64, 1, 6, 32, 64]⟩
abbrev S64x1x6x32x128 : Shape := ⟨5, ![64, 1, 6, 32, 128]⟩
abbrev S1 : Shape := ⟨1, ![1]⟩
abbrev S1x1x6x32x64 : Shape := ⟨5, ![1, 1, 6, 32, 64]⟩
abbrev S1x1x6x32x128 : Shape := ⟨5, ![1, 1, 6, 32, 128]⟩
abbrev S1x6x32x128 : Shape := ⟨4, ![1, 6, 32, 128]⟩
abbrev S1x6x32x1x128 : Shape := ⟨5, ![1, 6, 32, 1, 128]⟩

abbrev nBuf : Space → Nat
  | .hbm => 125
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S6x2048, .f32⟩
  | .hbm, ⟨4, _⟩ => ⟨S6x2048, .f32⟩
  | .hbm, ⟨5, _⟩ => ⟨S1x2048x6x128, .f32⟩
  | .hbm, ⟨6, _⟩ => ⟨S1x6x2048x128, .f32⟩
  | .hbm, ⟨7, _⟩ => ⟨S1x2048x6x128, .f32⟩
  | .hbm, ⟨8, _⟩ => ⟨S1x6x2048x128, .f32⟩
  | .hbm, ⟨9, _⟩ => ⟨S1x2048x6x128, .f32⟩
  | .hbm, ⟨10, _⟩ => ⟨S1x6x2048x128, .f32⟩
  | .hbm, ⟨11, _⟩ => ⟨S1x6x2048, .f32⟩
  | .hbm, ⟨12, _⟩ => ⟨S1x6x2048, .f32⟩
  | .hbm, ⟨13, _⟩ => ⟨S1x6x32x64x128, .f32⟩
  | .hbm, ⟨14, _⟩ => ⟨S1x6x32x64x128, .f32⟩
  | .hbm, ⟨15, _⟩ => ⟨S1x6x32x64x128, .f32⟩
  | .hbm, ⟨16, _⟩ => ⟨S1x6x32x64, .f32⟩
  | .hbm, ⟨17, _⟩ => ⟨S1x6x32x64, .f32⟩
  | .hbm, ⟨18, _⟩ => ⟨S64, .i32⟩
  | .hbm, ⟨19, _⟩ => ⟨S64x1, .i32⟩
  | .hbm, ⟨20, _⟩ => ⟨S1x64, .i32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S64x1, .i32⟩
  | .hbm, ⟨25, _⟩ => ⟨S1x64, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S1x6x32x64x1, .f32⟩
  | .hbm, ⟨30, _⟩ => ⟨S1x6x32x1x64, .f32⟩
  | .hbm, ⟨31, _⟩ => ⟨S1x6x32x64x64, .f32⟩
  | .hbm, ⟨32, _⟩ => ⟨S1x6x32x64x64, .f32⟩
  | .hbm, ⟨33, _⟩ => ⟨S1x6x32x64x64, .f32⟩
  | .hbm, ⟨34, _⟩ => ⟨S_, .f32⟩
  | .hbm, ⟨35, _⟩ => ⟨S_, .f32⟩
  | .hbm, ⟨36, _⟩ => ⟨S1x6x32x64x64, .i1⟩
  | .hbm, ⟨37, _⟩ => ⟨S1x6x32x64x64, .f32⟩
  | .hbm, ⟨38, _⟩ => ⟨S1x6x32x64x64, .f32⟩
  | .hbm, ⟨39, _⟩ => ⟨S1x6x32x64x64, .f32⟩
  | .hbm, ⟨40, _⟩ => ⟨S1x6x32x64x1, .f32⟩
  | .hbm, ⟨41, _⟩ => ⟨S1x6x32x64x128, .f32⟩
  | .hbm, ⟨42, _⟩ => ⟨S1x6x32x64x128, .f32⟩
  | .hbm, ⟨43, _⟩ => ⟨S1x6x32x64x64, .f32⟩
  | .hbm, ⟨44, _⟩ => ⟨S1x6x32x64x64, .f32⟩
  | .hbm, ⟨45, _⟩ => ⟨S6x32x64x64, .f32⟩
  | .hbm, ⟨46, _⟩ => ⟨S1x6x32x64x64, .f32⟩
  | .hbm, ⟨47, _⟩ => ⟨S_, .f32⟩
  | .hbm, ⟨48, _⟩ => ⟨S_, .f32⟩
  | .hbm, ⟨49, _⟩ => ⟨S1x6x32x64x64, .i1⟩
  | .hbm, ⟨50, _⟩ => ⟨S1x6x32x64x64, .f32⟩
  | .hbm, ⟨51, _⟩ => ⟨S1x6x32x64x64, .f32⟩
  | .hbm, ⟨52, _⟩ => ⟨S1x6x32x64x64, .f32⟩
  | .hbm, ⟨53, _⟩ => ⟨S1x6x32x64x1, .f32⟩
  | .hbm, ⟨54, _⟩ => ⟨S1x6x32x64x128, .f32⟩
  | .hbm, ⟨55, _⟩ => ⟨S1x6x32x64x128, .f32⟩
  | .hbm, ⟨56, _⟩ => ⟨S1x6x32x64, .f32⟩
  | .hbm, ⟨57, _⟩ => ⟨S1x6x32x64x1, .f32⟩
  | .hbm, ⟨58, _⟩ => ⟨S1x6x32x64x128, .f32⟩
  | .hbm, ⟨59, _⟩ => ⟨S1x6x32x64x128, .f32⟩
  | .hbm, ⟨60, _⟩ => ⟨S64, .i32⟩
  | .hbm, ⟨61, _⟩ => ⟨S_, .f32⟩
  | .hbm, ⟨62, _⟩ => ⟨S1x6x32x64x128, .f32⟩
  | .hbm, ⟨63, _⟩ => ⟨S_, .f32⟩
  | .hbm, ⟨64, _⟩ => ⟨S1x6x32x64x128, .f32⟩
  | .hbm, ⟨65, _⟩ => ⟨S64x1x6x32x64, .f32⟩
  | .hbm, ⟨66, _⟩ => ⟨S64x1x6x32x128, .f32⟩
  | .hbm, ⟨67, _⟩ => ⟨S64x1x6x32x128, .f32⟩
  | .hbm, ⟨68, _⟩ => ⟨S_, .i32⟩
  | .hbm, ⟨69, _⟩ => ⟨S64, .i32⟩
  | .hbm, ⟨70, _⟩ => ⟨S64x1x6x32x64, .f32⟩
  | .hbm, ⟨71, _⟩ => ⟨S64x1x6x32x128, .f32⟩
  | .hbm, ⟨72, _⟩ => ⟨S64x1x6x32x128, .f32⟩
  | .hbm, ⟨73, _⟩ => ⟨S64, .i32⟩
  | .hbm, ⟨74, _⟩ => ⟨S_, .i32⟩
  | .hbm, ⟨75, _⟩ => ⟨S1x6x32x64x128, .f32⟩
  | .hbm, ⟨76, _⟩ => ⟨S1x6x32x64x128, .f32⟩
  | .hbm, ⟨77, _⟩ => ⟨S_, .i32⟩
  | .hbm, ⟨78, _⟩ => ⟨S_, .i1⟩
  | .hbm, ⟨79, _⟩ => ⟨S1, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S1x1x6x32x64, .f32⟩
  | .hbm, ⟨86, _⟩ => ⟨S1x6x32x64, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S1x1x6x32x128, .f32⟩
  | .hbm, ⟨92, _⟩ => ⟨S1x6x32x128, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S1x1x6x32x128, .f32⟩
  | .hbm, ⟨98, _⟩ => ⟨S1x6x32x128, .f32⟩
  | .hbm, ⟨99, _⟩ => ⟨S64, .i32⟩
  | .hbm, ⟨100, _⟩ => ⟨S64, .i1⟩
  | .hbm, ⟨101, _⟩ => ⟨S64x1, .i1⟩
  | .hbm, ⟨102, _⟩ => ⟨S1x6x32x128, .f32⟩
  | .hbm, ⟨103, _⟩ => ⟨S1x6x32x128, .f32⟩
  | .hbm, ⟨104, _⟩ => ⟨S1x6x32x1x128, .f32⟩
  | .hbm, ⟨105, _⟩ => ⟨S1x6x32x64x128, .i1⟩
  | .hbm, ⟨106, _⟩ => ⟨S1x6x32x64x128, .f32⟩
  | .hbm, ⟨107, _⟩ => ⟨S1x6x32x64x128, .f32⟩
  | .hbm, ⟨108, _⟩ => ⟨S64, .i32⟩
  | .hbm, ⟨109, _⟩ => ⟨S64, .i1⟩
  | .hbm, ⟨110, _⟩ => ⟨S64x1, .i1⟩
  | .hbm, ⟨111, _⟩ => ⟨S1x6x32x128, .f32⟩
  | .hbm, ⟨112, _⟩ => ⟨S1x6x32x128, .f32⟩
  | .hbm, ⟨113, _⟩ => ⟨S1x6x32x1x128, .f32⟩
  | .hbm, ⟨114, _⟩ => ⟨S1x6x32x64x128, .i1⟩
  | .hbm, ⟨115, _⟩ => ⟨S1x6x32x64x128, .f32⟩
  | .hbm, ⟨116, _⟩ => ⟨S1x6x32x64x128, .f32⟩
  | .hbm, ⟨117, _⟩ => ⟨S_, .i32⟩
  | .hbm, ⟨118, _⟩ => ⟨S_, .i32⟩
  | .hbm, ⟨119, _⟩ => ⟨S1x6x2048x128, .f32⟩
  | .hbm, ⟨120, _⟩ => ⟨S1x2048x6x128, .f32⟩
  | .hbm, ⟨121, _⟩ => ⟨S2048x768, .f32⟩
  | .hbm, ⟨122, _⟩ => ⟨S1x6x2048x128, .f32⟩
  | .hbm, ⟨123, _⟩ => ⟨S1x2048x6x128, .f32⟩
  | .hbm, ⟨124, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_1 : Ref sig .tc := ⟨.hbm, 61, rfl⟩
abbrev main_v48 : Ref sig .tc := ⟨.hbm, 62, rfl⟩
abbrev main_cst_2 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c : Ref sig .tc := ⟨.hbm, 68, rfl⟩
abbrev main_v53_0 : Ref sig .tc := ⟨.hbm, 69, rfl⟩
abbrev main_v53_1 : Ref sig .tc := ⟨.hbm, 70, rfl⟩
abbrev main_v53_2 : Ref sig .tc := ⟨.hbm, 71, rfl⟩
abbrev main_v53_3 : Ref sig .tc := ⟨.hbm, 72, rfl⟩
abbrev main_v53_4 : Ref sig .tc := ⟨.hbm, 73, rfl⟩
abbrev main_v53_5 : Ref sig .tc := ⟨.hbm, 74, rfl⟩
abbrev main_v53_6 : Ref sig .tc := ⟨.hbm, 75, rfl⟩
abbrev main_v53_7 : Ref sig .tc := ⟨.hbm, 76, rfl⟩
abbrev main_while0c_c_10 : Ref sig .tc := ⟨.hbm, 77, rfl⟩
abbrev main_while0c_v60 : Ref sig .tc := ⟨.hbm, 78, rfl⟩
abbrev main_while0b_call2_v0 : Ref sig .tc := ⟨.hbm, 79, rfl⟩
abbrev main_while0b_v60 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_c_2 : Ref sig .tc := ⟨.hbm, 84, rfl⟩
abbrev main_while0b_call3_v0 : Ref sig .tc := ⟨.hbm, 85, rfl⟩
abbrev main_while0b_v61 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_c_2 : Ref sig .tc := ⟨.hbm, 90, rfl⟩
abbrev main_while0b_call4_v0 : Ref sig .tc := ⟨.hbm, 91, rfl⟩
abbrev main_while0b_v62 : Ref sig .tc := ⟨.hbm, 92, rfl⟩
abbrev main_while0b_call5_c : Ref sig .tc := ⟨.hbm, 93, rfl⟩
abbrev main_while0b_call5_c_0 : Ref sig .tc := ⟨.hbm, 94, rfl⟩
abbrev main_while0b_call5_c_1 : Ref sig .tc := ⟨.hbm, 95, rfl⟩
abbrev main_while0b_call5_c_2 : Ref sig .tc := ⟨.hbm, 96, rfl⟩
abbrev main_while0b_call5_v0 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_v68 : Ref sig .tc := ⟨.hbm, 103, rfl⟩
abbrev main_while0b_v69 : Ref sig .tc := ⟨.hbm, 104, rfl⟩
abbrev main_while0b_call6_v0 : Ref sig .tc := ⟨.hbm, 105, rfl⟩
abbrev main_while0b_call6_v1 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_call7_v0 : Ref sig .tc := ⟨.hbm, 114, rfl⟩
abbrev main_while0b_call7_v1 : Ref sig .tc := ⟨.hbm, 115, rfl⟩
abbrev main_while0b_v77 : Ref sig .tc := ⟨.hbm, 116, rfl⟩
abbrev main_while0b_c_10 : Ref sig .tc := ⟨.hbm, 117, rfl⟩
abbrev main_while0b_v78 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩

abbrev nD : Nat := 1
abbrev τ : Topo := Topo.v7x

variable {F : FTy → Type} [FloatOps F]

abbrev main_while0_count : Scf.Loop 32 := ⟨0#32, 64#32, 1#32⟩
-- ==== Out.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S1x2048x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S2048x2048 : Shape := ⟨2, ![2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dmix.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DmixRefIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwout.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwoutRefIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S1x2048x2048, .f32⟩
  | .hbm, ⟨4, _⟩ => ⟨S2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1x5632x2048 : Shape := ⟨3, ![1, 5632, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 7
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S5632x2048, .bf16⟩
  | .hbm, ⟨5, _⟩ => ⟨S1x5632x2048, .bf16⟩
  | .hbm, ⟨6, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩
abbrev S1x2048x5632 : Shape := ⟨3, ![1, 2048, 5632]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S1x2048x5632, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwdown.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwdownRefIdeal.lean ====
abbrev S2048x5632 : Shape := ⟨2, ![2048, 5632]⟩
abbrev S2048x2048 : Shape := ⟨2, ![2048, 2048]⟩
abbrev S_ : Shape := ⟨0, ![]⟩
abbrev S1x2048x2048 : Shape := ⟨3, ![1, 2048, 2048]⟩
abbrev S5632x2048 : Shape := ⟨2, ![5632, 2048]⟩
abbrev S1x2048x5632 : Shape := ⟨3, ![1, 2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S1x2048x2048, .f32⟩
  | .hbm, ⟨4, _⟩ => ⟨S_, .f32⟩
  | .hbm, ⟨5, _⟩ => ⟨S5632x2048, .f32⟩
  | .hbm, ⟨6, _⟩ => ⟨S1x2048x5632, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S2048x5632, .f32⟩
  | .hbm, ⟨11, _⟩ => ⟨S5632x2048, .f32⟩
  | .hbm, ⟨12, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Adam.lean ====
abbrev S1152x128 : Shape := ⟨2, ![1152, 128]⟩

abbrev nBuf : Space → Nat
  | .hbm => 7
  | .vmem => 7
  | .smem => 0
  | _ => 0

abbrev bufTy : (tb : Table) → Fin (tcTables nBuf tb) → BufTy
  | .hbm, ⟨0, _⟩ => ⟨S1152x128, .f32⟩
  | .hbm, ⟨1, _⟩ => ⟨S1152x128, .f32⟩
  | .hbm, ⟨2, _⟩ => ⟨S1152x128, .f32⟩
  | .hbm, ⟨3, _⟩ => ⟨S1152x128, .f32⟩
  | .hbm, ⟨4, _⟩ => ⟨S1152x128, .f32⟩
  | .hbm, ⟨5, _⟩ => ⟨S1152x128, .f32⟩
  | .hbm, ⟨6, _⟩ => ⟨S1152x128, .f32⟩
  | .local _ .vmem, ⟨0, _⟩ => ⟨S1152x128, .f32⟩
  | .local _ .vmem, ⟨1, _⟩ => ⟨S1152x128, .f32⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | _, _ => ⟨S1152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1152x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1152x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1152x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRefIdeal.lean ====
abbrev S1152x128 : Shape := ⟨2, ![1152, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1152x128, .f32⟩
  | .hbm, ⟨1, _⟩ => ⟨S1152x128, .f32⟩
  | .hbm, ⟨2, _⟩ => ⟨S1152x128, .f32⟩
  | .hbm, ⟨3, _⟩ => ⟨S1152x128, .f32⟩
  | .hbm, ⟨4, _⟩ => ⟨S_, .f32⟩
  | .hbm, ⟨5, _⟩ => ⟨S1152x128, .f32⟩
  | .hbm, ⟨6, _⟩ => ⟨S1152x128, .f32⟩
  | .hbm, ⟨7, _⟩ => ⟨S_, .f32⟩
  | .hbm, ⟨8, _⟩ => ⟨S1152x128, .f32⟩
  | .hbm, ⟨9, _⟩ => ⟨S1152x128, .f32⟩
  | .hbm, ⟨10, _⟩ => ⟨S1152x128, .f32⟩
  | .hbm, ⟨11, _⟩ => ⟨S_, .f32⟩
  | .hbm, ⟨12, _⟩ => ⟨S1152x128, .f32⟩
  | .hbm, ⟨13, _⟩ => ⟨S1152x128, .f32⟩
  | .hbm, ⟨14, _⟩ => ⟨S1152x128, .f32⟩
  | .hbm, ⟨15, _⟩ => ⟨S_, .f32⟩
  | .hbm, ⟨16, _⟩ => ⟨S1152x128, .f32⟩
  | .hbm, ⟨17, _⟩ => ⟨S1152x128, .f32⟩
  | .hbm, ⟨18, _⟩ => ⟨S1152x128, .f32⟩
  | .hbm, ⟨19, _⟩ => ⟨S_, .f32⟩
  | .hbm, ⟨20, _⟩ => ⟨S1152x128, .f32⟩
  | .hbm, ⟨21, _⟩ => ⟨S1152x128, .f32⟩
  | .hbm, ⟨22, _⟩ => ⟨S_, .f32⟩
  | .hbm, ⟨23, _⟩ => ⟨S1152x128, .f32⟩
  | .hbm, ⟨24, _⟩ => ⟨S1152x128, .f32⟩
  | .hbm, ⟨25, _⟩ => ⟨S1152x128, .f32⟩
  | .hbm, ⟨26, _⟩ => ⟨S_, .f32⟩
  | .hbm, ⟨27, _⟩ => ⟨S1152x128, .f32⟩
  | .hbm, ⟨28, _⟩ => ⟨S1152x128, .f32⟩
  | .hbm, ⟨29, _⟩ => ⟨S1152x128, .f32⟩
  | .hbm, ⟨30, _⟩ => ⟨S_, .f32⟩
  | .hbm, ⟨31, _⟩ => ⟨S1152x128, .f32⟩
  | .hbm, ⟨32, _⟩ => ⟨S1152x128, .f32⟩
  | .hbm, ⟨33, _⟩ => ⟨S1152x128, .f32⟩
  | .hbm, ⟨34, _⟩ => ⟨S_, .f32⟩
  | .hbm, ⟨35, _⟩ => ⟨S1152x128, .f32⟩
  | .hbm, ⟨36, _⟩ => ⟨S1152x128, .f32⟩
  | _, _ => ⟨S1152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proj.lean ====
abbrev S2048x2048 : Shape := ⟨2, ![2048, 2048]⟩
abbrev S2048x6412 : Shape := ⟨2, ![2048, 6412]⟩
abbrev S1x2048x6412 : Shape := ⟨3, ![1, 2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S1x2048x6528 : Shape := ⟨3, ![1, 2048, 6528]⟩
abbrev S1024x2048 : Shape := ⟨2, ![1024, 2048]⟩
abbrev S1x2048x2176 : Shape := ⟨3, ![1, 2048, 2176]⟩
abbrev S1024x2176 : Shape := ⟨2, ![1024, 2176]⟩
abbrev S2048x2176 : Shape := ⟨2, ![2048, 2176]⟩

abbrev nBuf : Space → Nat
  | .hbm => 13
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x6412, .f32⟩
  | .hbm, ⟨2, _⟩ => ⟨S2048x2048, .bf16⟩
  | .hbm, ⟨3, _⟩ => ⟨S1x2048x6412, .f32⟩
  | .hbm, ⟨4, _⟩ => ⟨S2048x6412, .f32⟩
  | .hbm, ⟨5, _⟩ => ⟨S2048x4108, .f32⟩
  | .hbm, ⟨6, _⟩ => ⟨S_, .f32⟩
  | .hbm, ⟨7, _⟩ => ⟨S2048x116, .f32⟩
  | .hbm, ⟨8, _⟩ => ⟨S2048x2304, .f32⟩
  | .hbm, ⟨9, _⟩ => ⟨S2048x6528, .f32⟩
  | .hbm, ⟨10, _⟩ => ⟨S2048x6528, .bf16⟩
  | .hbm, ⟨11, _⟩ => ⟨S1x2048x6528, .bf16⟩
  | .hbm, ⟨12, _⟩ => ⟨S2048x6528, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2176, .bf16⟩
  | .local _ .vmem, ⟨3, _⟩ => ⟨S1x2048x2176, .bf16⟩
  | .local _ .vmem, ⟨4, _⟩ => ⟨S1024x2176, .f32⟩
  | .local _ .vmem, ⟨5, _⟩ => ⟨S1024x2176, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x2048 : Shape := ⟨2, ![2048, 2048]⟩
abbrev S2048x6412 : Shape := ⟨2, ![2048, 6412]⟩
abbrev S1x2048x2048 : Shape := ⟨3, ![1, 2048, 2048]⟩
abbrev S1x2048x6412 : Shape := ⟨3, ![1, 2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6412, .f32⟩
  | .hbm, ⟨2, _⟩ => ⟨S1x2048x2048, .f32⟩
  | .hbm, ⟨3, _⟩ => ⟨S1x2048x6412, .f32⟩
  | .hbm, ⟨4, _⟩ => ⟨S2048x6412, .f32⟩
  | .hbm, ⟨5, _⟩ => ⟨S2048x4108, .f32⟩
  | .hbm, ⟨6, _⟩ => ⟨S_, .f32⟩
  | .hbm, ⟨7, _⟩ => ⟨S2048x116, .f32⟩
  | .hbm, ⟨8, _⟩ => ⟨S2048x2304, .f32⟩
  | .hbm, ⟨9, _⟩ => ⟨S2048x6528, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwin.lean ====
abbrev S2048x2048 : Shape := ⟨2, ![2048, 2048]⟩
abbrev S1x2048x6412 : Shape := ⟨3, ![1, 2048, 6412]⟩
abbrev S2048x6412 : Shape := ⟨2, ![2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S2048x1024 : Shape := ⟨2, ![2048, 1024]⟩
abbrev S2048x2176 : Shape := ⟨2, ![2048, 2176]⟩
abbrev S1024x2176 : Shape := ⟨2, ![1024, 2176]⟩

abbrev nBuf : Space → Nat
  | .hbm => 11
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048x6412, .f32⟩
  | .hbm, ⟨2, _⟩ => ⟨S2048x2048, .bf16⟩
  | .hbm, ⟨3, _⟩ => ⟨S2048x6412, .f32⟩
  | .hbm, ⟨4, _⟩ => ⟨S2048x4108, .f32⟩
  | .hbm, ⟨5, _⟩ => ⟨S_, .f32⟩
  | .hbm, ⟨6, _⟩ => ⟨S2048x116, .f32⟩
  | .hbm, ⟨7, _⟩ => ⟨S2048x2304, .f32⟩
  | .hbm, ⟨8, _⟩ => ⟨S2048x6528, .f32⟩
  | .hbm, ⟨9, _⟩ => ⟨S2048x6528, .bf16⟩
  | .hbm, ⟨10, _⟩ => ⟨S2048x6528, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2176, .bf16⟩
  | .local _ .vmem, ⟨3, _⟩ => ⟨S2048x2176, .bf16⟩
  | .local _ .vmem, ⟨4, _⟩ => ⟨S1024x2176, .bf16⟩
  | .local _ .vmem, ⟨5, _⟩ => ⟨S1024x2176, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwinRefIdeal.lean ====
abbrev S2048x2048 : Shape := ⟨2, ![2048, 2048]⟩
abbrev S1x2048x6412 : Shape := ⟨3, ![1, 2048, 6412]⟩
abbrev S_ : Shape := ⟨0, ![]⟩
abbrev S2048x6412 : Shape := ⟨2, ![2048, 6412]⟩
abbrev S1x2048x2048 : Shape := ⟨3, ![1, 2048, 2048]⟩
abbrev S6412x2048 : Shape := ⟨2, ![6412, 2048]⟩
abbrev S2048x4108 : Shape := ⟨2, ![2048, 4108]⟩
abbrev S2048x116 : Shape := ⟨2, ![2048, 116]⟩
abbrev S2048x2304 : Shape := ⟨2, ![2048, 2304]⟩
abbrev S2048x6528 : Shape := ⟨2, ![2048, 6528]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x6412, .f32⟩
  | .hbm, ⟨2, _⟩ => ⟨S_, .f32⟩
  | .hbm, ⟨3, _⟩ => ⟨S2048x6412, .f32⟩
  | .hbm, ⟨4, _⟩ => ⟨S1x2048x2048, .f32⟩
  | .hbm, ⟨5, _⟩ => ⟨S1x2048x6412, .f32⟩
  | .hbm, ⟨6, _⟩ => ⟨S6412x2048, .f32⟩
  | .hbm, ⟨7, _⟩ => ⟨S2048x6412, .f32⟩
  | .hbm, ⟨8, _⟩ => ⟨S2048x4108, .f32⟩
  | .hbm, ⟨9, _⟩ => ⟨S_, .f32⟩
  | .hbm, ⟨10, _⟩ => ⟨S2048x116, .f32⟩
  | .hbm, ⟨11, _⟩ => ⟨S2048x2304, .f32⟩
  | .hbm, ⟨12, _⟩ => ⟨S2048x6528, .f32⟩
  | .hbm, ⟨13, _⟩ => ⟨S2048x6528, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Dwgu.lean ====
abbrev S2048x2048 : Shape := ⟨2, ![2048, 2048]⟩
abbrev S1x2048x11264 : Shape := ⟨3, ![1, 2048, 11264]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048x11264, .f32⟩
  | .hbm, ⟨2, _⟩ => ⟨S2048x2048, .bf16⟩
  | .hbm, ⟨3, _⟩ => ⟨S1x2048x11264, .bf16⟩
  | .hbm, ⟨4, _⟩ => ⟨S2048x11264, .bf16⟩
  | .hbm, ⟨5, _⟩ => ⟨S2048x2x5632, .bf16⟩
  | .hbm, ⟨6, _⟩ => ⟨S2x2048x5632, .bf16⟩
  | .hbm, ⟨7, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli c2_i32_4 arg0
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwguRefIdeal.lean ====
abbrev S2048x2048 : Shape := ⟨2, ![2048, 2048]⟩
abbrev S1x2048x11264 : Shape := ⟨3, ![1, 2048, 11264]⟩
abbrev S_ : Shape := ⟨0, ![]⟩
abbrev S2048x11264 : Shape := ⟨2, ![2048, 11264]⟩
abbrev S1x2048x2048 : Shape := ⟨3, ![1, 2048, 2048]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x11264, .f32⟩
  | .hbm, ⟨2, _⟩ => ⟨S_, .f32⟩
  | .hbm, ⟨3, _⟩ => ⟨S2048x11264, .f32⟩
  | .hbm, ⟨4, _⟩ => ⟨S1x2048x2048, .f32⟩
  | .hbm, ⟨5, _⟩ => ⟨S1x2048x11264, .f32⟩
  | .hbm, ⟨6, _⟩ => ⟨S11264x2048, .f32⟩
  | .hbm, ⟨7, _⟩ => ⟨S2048x11264, .f32⟩
  | .hbm, ⟨8, _⟩ => ⟨S2048x4x2816, .f32⟩
  | .hbm, ⟨9, _⟩ => ⟨S4x2048x2816, .f32⟩
  | .hbm, ⟨10, _⟩ => ⟨S4x2048x2816, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhA.lean ====
abbrev S2048x6412 : Shape := ⟨2, ![2048, 6412]⟩
abbrev S1x2048x6412 : Shape := ⟨3, ![1, 2048, 6412]⟩
abbrev S2048x4108 : Shape := ⟨2, ![2048, 4108]⟩
abbrev S_ : Shape := ⟨0, ![]⟩
abbrev S2048x116 : Shape := ⟨2, ![2048, 116]⟩
abbrev S2048x2304 : Shape := ⟨2, ![2048, 2304]⟩
abbrev S2048x6528 : Shape := ⟨2, ![2048, 6528]⟩
abbrev S1x2048x6528 : Shape := ⟨3, ![1, 2048, 6528]⟩
abbrev S2048x2048 : Shape := ⟨2, ![2048, 2048]⟩
abbrev S1024x2176 : Shape := ⟨2, ![1024, 2176]⟩
abbrev S1x2048x2176 : Shape := ⟨3, ![1, 2048, 2176]⟩
abbrev S1024x2048 : Shape := ⟨2, ![1024, 2048]⟩
abbrev S2048x2176 : Shape := ⟨2, ![2048, 2176]⟩

abbrev nBuf : Space → Nat
  | .hbm => 19
  | .vmem => 6
  | .smem => 0
  | _ => 0

abbrev bufTy : (tb : Table) → Fin (tcTables nBuf tb) → BufTy
  | .hbm, ⟨0, _⟩ => ⟨S2048x6412, .f32⟩
  | .hbm, ⟨1, _⟩ => ⟨S1x2048x6412, .f32⟩
  | .hbm, ⟨2, _⟩ => ⟨S2048x6412, .f32⟩
  | .hbm, ⟨3, _⟩ => ⟨S2048x4108, .f32⟩
  | .hbm, ⟨4, _⟩ => ⟨S_, .f32⟩
  | .hbm, ⟨5, _⟩ => ⟨S2048x116, .f32⟩
  | .hbm, ⟨6, _⟩ => ⟨S2048x2304, .f32⟩
  | .hbm, ⟨7, _⟩ => ⟨S2048x6528, .f32⟩
  | .hbm, ⟨8, _⟩ => ⟨S2048x6528, .bf16⟩
  | .hbm, ⟨9, _⟩ => ⟨S1x2048x6412, .f32⟩
  | .hbm, ⟨10, _⟩ => ⟨S2048x6412, .f32⟩
  | .hbm, ⟨11, _⟩ => ⟨S2048x4108, .f32⟩
  | .hbm, ⟨12, _⟩ => ⟨S_, .f32⟩
  | .hbm, ⟨13, _⟩ => ⟨S2048x116, .f32⟩
  | .hbm, ⟨14, _⟩ => ⟨S2048x2304, .f32⟩
  | .hbm, ⟨15, _⟩ => ⟨S2048x6528, .f32⟩
  | .hbm, ⟨16, _⟩ => ⟨S2048x6528, .bf16⟩
  | .hbm, ⟨17, _⟩ => ⟨S1x2048x6528, .bf16⟩
  | .hbm, ⟨18, _⟩ => ⟨S2048x2048, .f32⟩
  | .local _ .vmem, ⟨0, _⟩ => ⟨S1024x2176, .bf16⟩
  | .local _ .vmem, ⟨1, _⟩ => ⟨S1024x2176, .bf16⟩
  | .local _ .vmem, ⟨2, _⟩ => ⟨S1x2048x2176, .bf16⟩
  | .local _ .vmem, ⟨3, _⟩ => ⟨S1x2048x2176, .bf16⟩
  | .local _ .vmem, ⟨4, _⟩ => ⟨S1024x2048, .f32⟩
  | .local _ .vmem, ⟨5, _⟩ => ⟨S1024x2048, .f32⟩
  | _, _ => ⟨S2048x6412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhARefIdeal.lean ====
abbrev S2048x6412 : Shape := ⟨2, ![2048, 6412]⟩
abbrev S1x2048x6412 : Shape := ⟨3, ![1, 2048, 6412]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x6412, .f32⟩
  | .hbm, ⟨1, _⟩ => ⟨S1x2048x6412, .f32⟩
  | .hbm, ⟨2, _⟩ => ⟨S_, .f32⟩
  | .hbm, ⟨3, _⟩ => ⟨S1x2048x2048, .f32⟩
  | .hbm, ⟨4, _⟩ => ⟨S1x2048x6412, .f32⟩
  | .hbm, ⟨5, _⟩ => ⟨S1x2048x2048, .f32⟩
  | .hbm, ⟨6, _⟩ => ⟨S2048x2048, .f32⟩
  | _, _ => ⟨S2048x6412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DhB.lean ====
abbrev S2048x11264 : Shape := ⟨2, ![2048, 11264]⟩
abbrev S1x2048x11264 : Shape := ⟨3, ![1, 2048, 11264]⟩
abbrev S2048x4x2816 : Shape := ⟨3, ![2048, 4, 2816]⟩
abbrev S4x2048x2816 : Shape := ⟨3, ![4, 2048, 2816]⟩
abbrev S1x4x2048x2816 : Shape := ⟨4, ![1, 4, 2048, 2816]⟩
abbrev S2048x2x5632 : Shape := ⟨3, ![2048, 2, 5632]⟩
abbrev S2x2048x5632 : Shape := ⟨3, ![2, 2048, 5632]⟩
abbrev S2048x2048 : Shape := ⟨2, ![2048, 2048]⟩
abbrev S1x1024x1408 : Shape := ⟨3, ![1, 1024, 1408]⟩
abbrev S1x1x2048x1408 : Shape := ⟨4, ![1, 1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 11
  | .vmem => 6
  | .smem => 0
  | _ => 0

abbrev bufTy : (tb : Table) → Fin (tcTables nBuf tb) → BufTy
  | .hbm, ⟨0, _⟩ => ⟨S2048x11264, .f32⟩
  | .hbm, ⟨1, _⟩ => ⟨S1x2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S1x4x2048x2816, .bf16⟩
  | .hbm, ⟨6, _⟩ => ⟨S1x2048x11264, .bf16⟩
  | .hbm, ⟨7, _⟩ => ⟨S2048x11264, .bf16⟩
  | .hbm, ⟨8, _⟩ => ⟨S2048x2x5632, .bf16⟩
  | .hbm, ⟨9, _⟩ => ⟨S2x2048x5632, .bf16⟩
  | .hbm, ⟨10, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x2048, .f32⟩
  | .local _ .vmem, ⟨5, _⟩ => ⟨S1024x2048, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhBRefIdeal.lean ====
abbrev S2048x11264 : Shape := ⟨2, ![2048, 11264]⟩
abbrev S1x2048x11264 : Shape := ⟨3, ![1, 2048, 11264]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S1x2048x11264, .f32⟩
  | .hbm, ⟨2, _⟩ => ⟨S_, .f32⟩
  | .hbm, ⟨3, _⟩ => ⟨S1x2048x2048, .f32⟩
  | .hbm, ⟨4, _⟩ => ⟨S1x2048x11264, .f32⟩
  | .hbm, ⟨5, _⟩ => ⟨S1x2048x2048, .f32⟩
  | .hbm, ⟨6, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wy.lean ====
abbrev S2048x768 : Shape := ⟨2, ![2048, 768]⟩
abbrev S6x2048 : Shape := ⟨2, ![6, 2048]⟩
abbrev S6x32x64x64 : Shape := ⟨4, ![6, 32, 64, 64]⟩
abbrev S6x2048x1 : Shape := ⟨3, ![6, 2048, 1]⟩
abbrev S6x2048x128 : Shape := ⟨3, ![6, 2048, 128]⟩
abbrev S1024x128 : Shape := ⟨2, ![1024, 128]⟩
abbrev S1x1024x128 : Shape := ⟨3, ![1, 1024, 128]⟩
abbrev S1x16x64x64 : Shape := ⟨4, ![1, 16, 64, 64]⟩
abbrev S16x64x128 : Shape := ⟨3, ![16, 64, 128]⟩
abbrev S16x64x64 : Shape := ⟨3, ![16, 64, 64]⟩
abbrev S16x128x64 : Shape := ⟨3, ![16, 128, 64]⟩
abbrev S_ : Shape := ⟨0, ![]⟩

abbrev nBuf : Space → Nat
  | .hbm => 21
  | .vmem => 26
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S6x2048, .f32⟩
  | .hbm, ⟨4, _⟩ => ⟨S6x2048, .f32⟩
  | .hbm, ⟨5, _⟩ => ⟨S2048x768, .f32⟩
  | .hbm, ⟨6, _⟩ => ⟨S2048x768, .f32⟩
  | .hbm, ⟨7, _⟩ => ⟨S6x32x64x64, .f32⟩
  | .hbm, ⟨8, _⟩ => ⟨S6x2048x1, .f32⟩
  | .hbm, ⟨9, _⟩ => ⟨S6x2048x128, .f32⟩
  | .hbm, ⟨10, _⟩ => ⟨S6x2048x1, .f32⟩
  | .hbm, ⟨11, _⟩ => ⟨S6x2048x128, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S6x2048x128, .f32⟩
  | .hbm, ⟨16, _⟩ => ⟨S6x2048x128, .f32⟩
  | .hbm, ⟨17, _⟩ => ⟨S_, .f32⟩
  | .hbm, ⟨18, _⟩ => ⟨S6x2048, .f32⟩
  | .hbm, ⟨19, _⟩ => ⟨S_, .f32⟩
  | .hbm, ⟨20, _⟩ => ⟨S6x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x16x64x64, .f32⟩
  | .local _ .vmem, ⟨15, _⟩ => ⟨S1x16x64x64, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1x1024x128, .f32⟩
  | .local _ .vmem, ⟨23, _⟩ => ⟨S1x1024x128, .f32⟩
  | .local _ .vmem, ⟨24, _⟩ => ⟨S1x1024x128, .f32⟩
  | .local _ .vmem, ⟨25, _⟩ => ⟨S1x1024x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Proof.Arith.lean ====
/- Facts about extended reals that several calls need: the real numbers that the programs' constants are, and the
   places where a product distributes over a sum. -/
module

public import Idealize.ShloMosaic.Lib.Pointwise
public import Idealize.ShloMosaic.Lib.IdealHost

@[expose] public section

noncomputable section

namespace Cert.Arith

open Idealize.ShloMosaic

/-! ## The constants -/

theorem half : Ideal.ofBits .f32 0x3F000000#32 = (((1 : ℝ) / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem n2048 : Ideal.ofBits .f32 0x45000000#32 = ((2048 : ℝ) : EReal) := by
  simp [Ideal.ofBits, Ideal.ieee, -EReal.coe_mul]; norm_num

theorem inv2048 : Ideal.ofBits .f32 0x3A000000#32 = (((1 : ℝ) / 2048 : ℝ) : EReal) := by
  simp [Ideal.ofBits, Ideal.ieee, -EReal.coe_mul]; norm_num

theorem inv4096 : Ideal.ofBits .f32 0x39800000#32 = (((1 : ℝ) / 4096 : ℝ) : EReal) := by
  simp [Ideal.ofBits, Ideal.ieee, -EReal.coe_mul]; norm_num

/-! ## Factors of sums -/

/-- A factor that is a real number and not negative goes into any sum. -/
theorem coe_mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Cert.Arith

end
-- ==== Proof.Loss.Value.lean ====
/- The loss and its cotangent: the block of 512 rows that one grid point computes, and the arrays after the run. -/
module

public import proofs.«01_k».proof.Proof.Arith
public import proofs.«01_k».proof.Proof.Gen.LossIdeal.Frame
public import Idealize.ShloMosaic.Lib.Pipeline.ValueKit

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ)

/-- The cotangent of the layers: the error over the number of columns. -/
def dy (Y X : FVec Ideal S2048x2048 .f32) : FVec Ideal S2048x2048 .f32 := fun j => (Y j - X j) * Ideal.ofBits .f32 0x3A000000#32

/-- The loss: half of the sum of the rows' mean squared errors. -/
def loss (Y X : FVec Ideal S2048x2048 .f32) : EReal :=
  ∑ r : Fin 2048, ∑ l : Fin 2048, Ideal.ofBits .f32 0x39800000#32 * ((Y (ix2 r l) - X (ix2 r l)) * (Y (ix2 r l) - X (ix2 r l)))

/-- The windows' blocks: block `t` of 512 rows, and the one tile of the loss. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

theorem final2 (c : Dev nD) : (dats m 0 c).arrAt 2 (cfgs 0).N
    = dy (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 4 = 0
  · rw [outsAt0_A m c t h]; frame_out
    pointwise [k0_pay2, k0_pay1, dy]
    blk_point [iblk, V, idx t]
  · rw [outsAt0_B m c t h]; frame_out
    pointwise [k0_pay2, k0_pay1, dy]
    blk_point [iblk, V, idx t]

theorem final3 (c : Dev nD) : (dats m 0 c).arrAt 3 (cfgs 0).N
    = dy (m ((c : Thread nD τ).loc main_arg0)) (m ((c : Thread nD τ).loc main_arg1)) := by
  refine (dats m 0 c).arrAt_eq_of_covers 3 _ (by decide +kernel) fun t _ y => ?_
  blk_simp
  rw [after0_3]
  by_cases h : t.val % 4 = 0
  · rw [outsAt0_A m c t h]; frame_out
    pointwise [k0_pay3, k0_pay1, dy]
    blk_point [iblk, V, idx t]
  · rw [outsAt0_B m c t h]; frame_out
    pointwise [k0_pay3, k0_pay1, dy]
    blk_point [iblk, V, idx t]

theorem hzero (j : S8x128.Idx) : k0_pay4 (F := Ideal) j = 0 := by pointwise [k0_pay4]

theorem hpay (x0 x1 : Vec Ideal S512x2048 .f32) (acc : Vec Ideal S8x128 .f32) (j : S8x128.Idx) :
    k0_pay5 (F := Ideal) x0 x1 acc j = acc j + ∑ r : Fin 512, ∑ l : Fin 2048,
      Ideal.ofBits .f32 0x39800000#32 * ((x0 (ix2 r l) - x1 (ix2 r l)) * (x0 (ix2 r l) - x1 (ix2 r l))) := by
  pointwise [k0_pay5, k0_pay1]
  simp only [Arith.inv4096, Arith.coe_mul_sum _ (by norm_num : (0 : ℝ) ≤ 1 / 4096)]

theorem final4 (c : Dev nD) (j : S8x128.Idx) : (dats m 0 c).arrAt 4 (cfgs 0).N j
    = loss (m ((c : Thread nD τ).loc main_arg0)) (m ((c : Thread nD τ).loc main_arg1)) := by
  refine congrFun ((dats m 0 c).arrAt_eq_of_after_last 4 t0_3 (by decide +kernel) (fun _ => loss (m ((c : Thread nD τ).loc main_arg0)) (m ((c : Thread nD τ).loc main_arg1))) fun j => ?_) j
  blk_simp
  rw [after0_4, Pipeline.eq_sum_fin_of_reset_step_apply_last (fun n h => (outsAt0 m c n h).2.2) 4 (fun _ => 0) _
    (fun t h j => by rw [outsAt0_A m c t h]; frame_out; rw [hpay, hzero])
    (fun t h j => by rw [outsAt0_B m c t h]; frame_out; rw [hpay])
    (le_of_eq N_0) t0_3 rfl j, zero_add]
  unfold loss
  refine Fin.sum_mul_add_congr fun t k hk => ?_
  refine Fin.sum_fin_congr fun l => ?_
  blk_point [iblk, V, idx t]

end Cert.LossIdeal.Value

end
-- ==== Proof.Loss.lean ====
/- The loss and its cotangent: the kernel and the derivative of the loss give the same arrays. -/
module

public import proofs.«01_k».proof.Defs
public import proofs.«01_k».proof.Proof.Loss.Value
public import proofs.«01_k».proof.Proof.Gen.LossRefIdeal.Run
public import Idealize.ShloMosaic.Lib.Claim

@[expose] public section

set_option maxRecDepth 16384

noncomputable section

namespace Cert.Proof

open Idealize.ShloMosaic Idealize.ShloMosaic.TcCoe Idealize.SL.Sem
open Cert.LossIdeal.Value (dy loss)

/-- Half of twice the error over the number of columns is the error over the number of columns. -/
theorem cotangent (e : EReal) : Ideal.div (Ideal.ofBits .f32 0x3F000000#32) (Ideal.ofBits .f32 0x45000000#32) * (Ideal.ofBits .f32 0x40000000#32 * e)
    = e * Ideal.ofBits .f32 0x3A000000#32 := by
  rw [Arith.half, Arith.two, Arith.n2048, Arith.inv2048, Ideal.div_coe (by norm_num), ← EReal.coe_mul, ← mul_assoc, ← EReal.coe_mul, mul_comm]
  norm_num

/-- Half of the sum of the rows' means is the sum over all entries of the entries over twice the number of columns. -/
theorem mean (f : Fin 2048 → Fin 2048 → EReal) : Ideal.ofBits .f32 0x3F000000#32
      * ∑ _a : Fin 1, ∑ r : Fin 2048, Ideal.div (∑ l : Fin 2048, f r l) (Ideal.ofBits .f32 0x45000000#32)
    = ∑ r : Fin 2048, ∑ l : Fin 2048, Ideal.ofBits .f32 0x39800000#32 * f r l := by
  rw [Fin.sum_univ_one, Arith.half, Arith.n2048, Arith.inv4096, Arith.coe_mul_sum _ (by norm_num)]
  refine Finset.sum_congr rfl fun r _ => ?_
  rw [← Arith.coe_mul_sum _ (by norm_num), Ideal.div_coe (by norm_num), mul_comm _ (((1 : ℝ) / 2048 : ℝ) : EReal), ← mul_assoc, ← EReal.coe_mul]
  norm_num

theorem algebraic_loss : Cert.algebraic_LossIdeal_LossRefIdeal := by
  pair_intro
  · run_from Cert.LossIdeal.Gen.run_main m g
  · run_from Cert.LossRefIdeal.Value.run m' g'
    · rw [Cert.LossIdeal.Value.final2 m c]
      funext j
      pointwise [dy]
      exact cotangent _
    · rw [Cert.LossIdeal.Value.final3 m c]
      funext j
      pointwise [dy]
      exact cotangent _
    · funext j
      rw [Cert.LossIdeal.Value.final4 m c]
      pointwise [loss]
      exact mean fun r l => _

end Cert.Proof

end
-- ==== Proof.Columns.lean ====
/- The projection's output as the calls take it: its parts moved so that each starts at a multiple of 128 columns. -/
module

public import proofs.«01_k».proof.Proof.Gen.ConvQIdeal.Frame
public import Idealize.ShloMosaic.Lib.Pipeline.ValueKit

@[expose] public section

set_option maxRecDepth 16384

noncomputable section

namespace Cert.Columns

open Cert.ConvQIdeal Cert.ConvQIdeal.Gen Idealize.ShloMosaic Idealize.ShloMosaic.TcCoe Idealize.SL.Sem

/-- The first 4108 columns, 116 columns of zeros, and the other 2304 columns. -/
def columns (P : FVec Ideal S1x2048x6412 .f32) : FVec Ideal S2048x6528 .f32 :=
  concatenate S2048x6528 1
    [⟨S2048x4108, extractStridedSlice S2048x4108 ![0, 0] (shapeCast S2048x6412 P shapeCasts_S1x2048x6412_S2048x6412)
        slices_S2048x6412_S2048x4108_0_0⟩,
      ⟨S2048x116, broadcastInDim S2048x116 ![] bcast_S_S2048x116 (constant S_ FTy.f32 0#32)⟩,
      ⟨S2048x2304, extractStridedSlice S2048x2304 ![0, 4108] (shapeCast S2048x6412 P shapeCasts_S1x2048x6412_S2048x6412)
        slices_S2048x6412_S2048x2304_0_4108⟩]
    concatenates_S2048x4108_S2048x116_S2048x2304_S2048x6528_d1

/-- A column of the first part is where it was. -/
theorem columns_read (P : FVec Ideal S1x2048x6412 .f32) (r : Fin 2048) (k : Fin 6528) (k' : Fin 6412) (h : k.1 = k'.1)
    (hk : k.1 < 4108) : columns P (ix2 r k) = P (ix3 0 r k') := by
  pointwise [columns]
  rw [dif_pos hk]
  blk_ext

/-- A column of the last part stands 116 columns further right. -/
theorem columns_read_last (P : FVec Ideal S1x2048x6412 .f32) (r : Fin 2048) (k : Fin 6528) (k' : Fin 6412)
    (h : k.1 = k'.1 + 116) (hk : 4224 ≤ k.1) : columns P (ix2 r k) = P (ix3 0 r k') := by
  pointwise [columns]
  rw [dif_neg (by omega), dif_neg (by omega)]
  blk_ext

end Cert.Columns

end
-- ==== Proof.Conv.Spec.lean ====
module
public import proofs.«01_k».proof.Proof.Arith
public import Idealize.ShloMosaic.Lib.Pointwise
public import Idealize.ShloMosaic.Lib.WordCmp
@[expose] public section
/-! # The gradient of the causal depthwise convolution, one head at a time

A head has 128 channels.  The convolution adds four taps of its input: the row itself and the three rows
before it, each times the tap's weight of the channel.  SiLU follows, and for the queries and the keys the
row is divided by its Euclidean norm over the head's channels.  This module writes the gradients of the input
and of the weights with plain sums, and shows that the two spellings of SiLU's derivative agree. -/
noncomputable section
namespace Cert.Conv
open Idealize.ShloMosaic Cert.Arith

/-- The numbers of one head: a value for each row and channel. -/
abbrev Head := Fin 2048 → Fin 128 → EReal

/-- Tap weights of one head. -/
abbrev Taps := Fin 4 → Fin 128 → EReal

/-- The row `k` rows earlier; zero before the first row. -/
def back (X : Head) (k : ℕ) (t : Fin 2048) (l : Fin 128) : EReal :=
  if k ≤ t.1 then X ⟨t.1 - k, by omega⟩ l else 0

/-- The row `k` rows later; zero after the last row. -/
def ahead (X : Head) (k : ℕ) (t : Fin 2048) (l : Fin 128) : EReal :=
  if h : t.1 + k < 2048 then X ⟨t.1 + k, h⟩ l else 0

/-- The convolution. -/
def conv (X : Head) (W : Taps) : Head := fun t l =>
  W 0 l * back X 3 t l + W 1 l * back X 2 t l + W 2 l * back X 1 t l + W 3 l * X t l

/-- The logistic function. -/
def logi (z : EReal) : EReal := Ideal.div 1 (1 + Ideal.exp (-z))

/-- SiLU of a head. -/
def act (Z : Head) : Head := fun t l => Z t l * logi (Z t l)

/-- The small number below the norm's root. -/
def eps : EReal := Ideal.ofBits .f32 0x358637BD#32

/-- A row's sum of squares, and the small number. -/
def energy (Y : Head) (t : Fin 2048) : EReal := ∑ l, Y t l * Y t l + eps

/-- The number that every channel of a row has in common in the norm's gradient. -/
def common (Y C : Head) (t : Fin 2048) : EReal :=
  (∑ l, Y t l * C t l) * (Ideal.ofBits .f32 0xBF000000#32 * Ideal.div (Ideal.rsqrt (energy Y t)) (energy Y t))

/-- The norm's gradient at the row `Y` and the cotangent `C`. -/
def normGrad (Y C : Head) : Head := fun t l =>
  C t l * Ideal.rsqrt (energy Y t) + Y t l * common Y C t + common Y C t * Y t l

/-- SiLU's gradient at `Z` and the cotangent `G`. -/
def siluGrad (Z G : Head) : Head := fun t l =>
  G t l * logi (Z t l) + Z t l * G t l * (logi (Z t l) * (1 - logi (Z t l)))

theorem back_zero (X : Head) (t : Fin 2048) (l : Fin 128) : back X 0 t l = X t l := by simp [back]

theorem ahead_zero (X : Head) (t : Fin 2048) (l : Fin 128) : ahead X 0 t l = X t l := by simp [ahead]

/-- The gradient of the convolution's input, from its output's gradient `D`. -/
def dx (D : Head) (W : Taps) : Head := fun t l =>
  W 3 l * D t l + W 2 l * ahead D 1 t l + W 1 l * ahead D 2 t l + W 0 l * ahead D 3 t l

/-- The gradient of the tap weight that multiplies the row `k` rows earlier. -/
def dw (D X : Head) (k : ℕ) (l : Fin 128) : EReal := ∑ t, D t l * back X k t l

/-- The gradient of the convolution's output, from the cotangent `C` of what follows SiLU: for the values, SiLU alone. -/
def gradV (X : Head) (W : Taps) (C : Head) : Head := siluGrad (conv X W) C

/-- The same for the queries and the keys, where the norm follows SiLU. -/
def grad (X : Head) (W : Taps) (C : Head) : Head := siluGrad (conv X W) (normGrad (act (conv X W)) C)

/-! ## Heads of the arrays

The projection's output has the convolution's 2304 channels after 1024 other columns: six heads of queries, six
of keys and six of values.  `o` says which of the three. -/

/-- Head `h` of the layer's input. -/
def headOf (o : Fin 3) (P : FVec Ideal ⟨3, ![1, 2048, 6412]⟩ .f32) (h : Fin 6) : Head :=
  fun r l => P (ix3 0 r ⟨1024 + 768 * o.1 + 128 * h.1 + l.1, by omega⟩)

/-- Head `h`'s tap weights. -/
def tapsOf (o : Fin 3) (W : FVec Ideal ⟨2, ![4, 2304]⟩ .f32) (h : Fin 6) : Taps :=
  fun r l => W (ix2 r ⟨768 * o.1 + 128 * h.1 + l.1, by omega⟩)

/-- Head `h` of a cotangent. -/
def cotOf (A : FVec Ideal ⟨2, ![2048, 768]⟩ .f32) (h : Fin 6) : Head := fun r l => A (ix2 r ⟨128 * h.1 + l.1, by omega⟩)

/-- Six heads side by side. -/
def side {n : ℕ} (F : Fin 6 → Fin n → Fin 128 → EReal) : (⟨2, ![n, 768]⟩ : Shape).Idx → EReal := fun j =>
  F ⟨(j 1 : ℕ) / 128, Nat.div_lt_of_lt_mul (j 1).2⟩ (j 0) ⟨(j 1 : ℕ) % 128, Nat.mod_lt _ (by norm_num)⟩

theorem side_at {n : ℕ} (F : Fin 6 → Fin n → Fin 128 → EReal) (j : (⟨2, ![n, 768]⟩ : Shape).Idx) (h : Fin 6) (r : Fin n)
    (l : Fin 128) (h0 : (j 0 : ℕ) = r) (h1 : (j 1 : ℕ) = 128 * h.1 + l.1) : side F j = F h r l := by
  have e0 : j 0 = r := Fin.ext h0
  have e1 : (⟨(j 1 : ℕ) / 128, Nat.div_lt_of_lt_mul (j 1).2⟩ : Fin 6) = h := Fin.ext (by simp only [h1]; omega)
  have e2 : (⟨(j 1 : ℕ) % 128, Nat.mod_lt _ (by norm_num)⟩ : Fin 128) = l := Fin.ext (by simp only [h1]; omega)
  show F _ _ _ = F _ _ _
  rw [e0, e1, e2]

/-- Two arrays of six heads are the same where every head is. -/
theorem side_ext {n : ℕ} (F : Fin 6 → Fin n → Fin 128 → EReal) (G : (⟨2, ![n, 768]⟩ : Shape).Idx → EReal)
    (e : ∀ (h : Fin 6) (r : Fin n) (l : Fin 128), G (ix2 r ⟨128 * h.1 + l.1, by omega⟩) = F h r l) : side F = G := by
  funext j
  have h1 : (j 1 : ℕ) < 768 := (j 1).2
  have hj : j = ix2 (j 0) ⟨128 * ((j 1 : ℕ) / 128) + (j 1 : ℕ) % 128, by omega⟩ := by
    funext a
    fin_cases a
    · rfl
    · exact Fin.ext (by show (j 1 : ℕ) = 128 * ((j 1 : ℕ) / 128) + (j 1 : ℕ) % 128; omega)
  exact (side_at F j ⟨(j 1 : ℕ) / 128, by omega⟩ (j 0) ⟨(j 1 : ℕ) % 128, by omega⟩ rfl (by simp only; omega)).trans
    ((e _ _ _).symm.trans (congrArg G hj.symm))

/-- The reciprocal's square times the exponential is the logistic function times what it lacks to one. -/
theorem logi_deriv (z : EReal) :
    Ideal.div 1 ((1 + Ideal.exp (-z)) * (1 + Ideal.exp (-z))) * Ideal.exp (-z) = logi z * (1 - logi z) := by
  unfold logi
  induction z using EReal.rec with
  | bot =>
    have e : (1 : EReal) + ⊤ = ⊤ := EReal.add_top_of_ne_bot (by decide)
    have e2 : Ideal.div 1 ⊤ = 0 := by simp [Ideal.div]
    simp [e, e2]
  | top =>
    have e : Ideal.div 1 1 = 1 := by
      rw [show (1 : EReal) = ((1 : ℝ) : EReal) from rfl, Ideal.div_coe one_ne_zero]; simp
    have e' : (1 : EReal) - 1 = 0 := by
      rw [show (1 : EReal) = ((1 : ℝ) : EReal) from rfl, ← EReal.coe_sub]; simp
    simp [e, e']
  | coe z =>
    have h : (1 + Real.exp (-z)) ≠ 0 := by positivity
    have e1 : (1 : EReal) + Ideal.exp (-(z : EReal)) = ((1 + Real.exp (-z) : ℝ) : EReal) := by
      rw [← EReal.coe_neg, Ideal.exp_coe]; norm_cast
    rw [e1, ← EReal.coe_mul, Ideal.div_coe (mul_ne_zero h h), Ideal.div_coe h, ← EReal.coe_neg, Ideal.exp_coe,
      one_mul, one_mul]
    norm_cast
    field_simp
    ring

/-- SiLU's gradient as the reciprocal rule writes it. -/
theorem siluGrad_recip (z g : EReal) :
    g * logi z + (0 - (0 - z * g * Ideal.div 1 ((1 + Ideal.exp (0 - z)) * (1 + Ideal.exp (0 - z))))
      * Ideal.exp (0 - z)) = g * logi z + z * g * (logi z * (1 - logi z)) := by
  rw [← logi_deriv]
  simp only [sub_eq_add_neg, zero_add, neg_mul, neg_neg, mul_assoc]

/-- A tap read from the rotated rows where the row number is at least `k`. -/
theorem select_back (X : Head) (W : EReal) (k : ℕ) (hk : k < 2048) (t : Fin 2048) (l : Fin 128) :
    Scalar.select (IntOp.cmpi .sge (BitVec.ofNat 32 t.1) (BitVec.ofNat 32 k))
      (W * X ⟨(t.1 + 2048 - k) % 2048, Nat.mod_lt _ (by norm_num)⟩ l) 0 = W * back X k t l := by
  have : t.1 < 2048 := t.2
  word_cmp
  unfold back
  split_ifs with h
  · congr 2
    exact Fin.ext (by simp only; omega)
  · rw [mul_zero]

/-- A row's tap read from the rotated rows where the row number is below `2048 - k`. -/
theorem select_ahead (X : Head) (W : EReal) (k n : ℕ) (hk : k + n = 2048) (hn : n < 2048) (t : Fin 2048) (l : Fin 128) :
    Scalar.select (IntOp.cmpi .slt (BitVec.ofNat 32 t.1) (BitVec.ofNat 32 n))
      (W * X ⟨(t.1 + 2048 - n) % 2048, Nat.mod_lt _ (by norm_num)⟩ l) 0 = W * ahead X k t l := by
  have : t.1 < 2048 := t.2
  word_cmp
  unfold ahead
  by_cases h : t.1 < n
  · rw [if_pos h, dif_pos (by omega)]
    congr 2
    exact Fin.ext (by simp only; omega)
  · rw [if_neg h, dif_neg (by omega), mul_zero]

/-- A product of rows that stand `3 - a` rows too low, read three rows further down. -/
theorem dite_ahead (D : Head) (w : EReal) (t : Fin 2048) (l : Fin 128) (k lo a : ℕ) (hk : k = t.1 + 3) (ha : lo + a = 3) :
    (if h : lo ≤ k ∧ k - lo < 2048 then D ⟨k - lo, h.2⟩ l * w else 0) = w * ahead D a t l := by
  unfold ahead
  by_cases h : t.1 + a < 2048
  · rw [dif_pos (by omega), dif_pos h, mul_comm]
    congr 2
    exact Fin.ext (by simp only; omega)
  · rw [dif_neg (by omega), dif_neg h, mul_zero]

/-- The weight gradient of a tap, summed over the rows that have a row `k` rows earlier. -/
theorem sum_select_back (D X : Head) (k : ℕ) (hk : k < 2048) (l : Fin 128) :
    ∑ t : Fin 2048, Scalar.select (IntOp.cmpi .sge (BitVec.ofNat 32 t.1) (BitVec.ofNat 32 k))
      (D t l * X ⟨(t.1 + 2048 - k) % 2048, Nat.mod_lt _ (by norm_num)⟩ l) 0 = dw D X k l :=
  Finset.sum_congr rfl fun t _ => select_back X (D t l) k hk t l

/-- The weight gradient of the tap that multiplies the row itself. -/
theorem sum_here (D X : Head) (l : Fin 128) : ∑ t : Fin 2048, D t l * X t l = dw D X 0 l := by
  simp [dw, back]

end Cert.Conv
-- ==== Proof.Conv.Q.lean ====
/- The convolution's gradient for the queries: one head's block, and the arrays after the run. -/
module

public import proofs.«01_k».proof.Proof.Columns
public import proofs.«01_k».proof.Proof.Conv.Spec

@[expose] public section

set_option maxRecDepth 16384

noncomputable section

namespace Cert.ConvQIdeal.Value

open Cert.Conv Cert.Columns Cert.ConvQIdeal Cert.ConvQIdeal.Gen Idealize.ShloMosaic Idealize.ShloMosaic.TcCoe Idealize.SL.Sem

/-! ## One head's block -/

/-- The block of inputs, and the block of tap weights, as plain functions. -/
def head (x : FVec Ideal S2048x128 .f32) : Head := fun t l => x (ix2 t l)

def taps (x : FVec Ideal S4x128 .f32) : Taps := fun t l => x (ix2 t l)

theorem conv_read (x0 : FVec Ideal S2048x128 .f32) (x1 : FVec Ideal S4x128 .f32) (x2 x3) (t : Fin 2048) (l : Fin 128) :
    k0_pay19 (F := Ideal) x0 x1 x2 x3 (ix2 t l) = conv (head x0) (taps x1) t l := by
  pointwise [k0_pay19, k0_pay7, k0_pay6, k0_pay5, k0_pay4, k0_pay3]
  simp only [conv, ← select_back _ _ 3 (by norm_num), ← select_back _ _ 2 (by norm_num), ← select_back _ _ 1 (by norm_num)]
  rfl

theorem exp_read (x0 : FVec Ideal S2048x128 .f32) (x1 : FVec Ideal S4x128 .f32) (x2 x3) (t : Fin 2048) (l : Fin 128) :
    k0_pay20 (F := Ideal) x0 x1 x2 x3 (ix2 t l) = Ideal.exp (0 - conv (head x0) (taps x1) t l) := by
  rw [← conv_read x0 x1 x2 x3 t l]
  pointwise [k0_pay20, k0_pay19, k0_pay8]

/-- The head's cotangent: the two users' cotangents, added and scaled. -/
def ct (x2 x3 : FVec Ideal S2048x128 .f32) : Head := fun t l => (x2 (ix2 t l) + x3 (ix2 t l)) * Ideal.ofBits .f32 0x3DB504F3#32

set_option maxHeartbeats 1000000 in
theorem grad_read (x0 : FVec Ideal S2048x128 .f32) (x1 : FVec Ideal S4x128 .f32) (x2 x3) (t : Fin 2048) (l : Fin 128) :
    k0_pay14 (F := Ideal) (k0_pay20 x0 x1 x2 x3) (k0_pay21 x0 x1 x2 x3) (k0_pay22 x0 x1 x2 x3) (ix2 t l) =
      grad (head x0) (taps x1) (ct x2 x3) t l := by
  pointwise [k0_pay22, k0_pay21, k0_pay14, k0_pay13, k0_pay12, k0_pay11, k0_pay10, k0_pay9]
  simp only [conv_read, exp_read]
  rw [grad, siluGrad, ← siluGrad_recip]
  simp only [normGrad, act, logi, common, energy, eps, ct, zero_sub, Finset.univ_unique, Finset.sum_singleton]

theorem grad_read' (x0 : FVec Ideal S2048x128 .f32) (x1 : FVec Ideal S4x128 .f32) (x2 x3) (t : Fin 2048) (l : Fin 128) :
    k0_pay23 (F := Ideal) x0 x1 x2 x3 (ix2 t l) = grad (head x0) (taps x1) (ct x2 x3) t l :=
  grad_read x0 x1 x2 x3 t l

theorem out4_read (x0 : FVec Ideal S2048x128 .f32) (x1 : FVec Ideal S4x128 .f32) (x2 x3) (t : Fin 2048) (l : Fin 128) :
    out0_4 (F := Ideal) x0 x1 x2 x3 (ix2 t l) = dx (grad (head x0) (taps x1) (ct x2 x3)) (taps x1) t l := by
  unfold out0_4
  frame_out
  pointwise [k0_pay2, k0_pay17]
  simp only [grad_read, grad_read', dx]
  rw [← select_ahead _ _ 1 2047 rfl (by norm_num), ← select_ahead _ _ 2 2046 rfl (by norm_num), ← select_ahead _ _ 3 2045 rfl (by norm_num)]
  simp only [taps]
  ac_rfl

set_option maxHeartbeats 1000000 in
theorem out5_read (x0 : FVec Ideal S2048x128 .f32) (x1 : FVec Ideal S4x128 .f32) (x2 x3) (i : S4x128.Idx) :
    out0_5 (F := Ideal) x0 x1 x2 x3 i = dw (grad (head x0) (taps x1) (ct x2 x3)) (head x0) (3 - i 0) (i 1) := by
  unfold out0_5
  canon_tiles x h
  all_goals
    obtain ⟨r, l, rfl⟩ : ∃ (r : Fin 1) (l : Fin 128), x = ix2 r l := ⟨x 0, x 1, by idx_vars x⟩
    have hl : i 1 = l := Fin.ext h1
    have hr : r = 0 := Subsingleton.elim _ _
    subst hr
    pointwise [k0_pay1, k0_pay18, k0_pay16, k0_pay15, k0_pay6, k0_pay5, k0_pay4, k0_pay3]
    simp only [grad_read, grad_read', hl]
    rw [show (i 0 : ℕ) = _ from h0]
  · exact sum_here _ (head x0) l
  · exact sum_select_back _ (head x0) 1 (by norm_num) l
  · exact sum_select_back _ (head x0) 2 (by norm_num) l
  · exact sum_select_back _ (head x0) 3 (by norm_num) l

/-- The windows' blocks: grid point `t` has head `t`. -/
theorem idx : ∀ t : Fin cfg0.N, win0_0.index t = ![0, 8 + t.val] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-! ## The arrays -/

variable (m : (ℓ : Loc nD τ sig) → Buf (Elt Ideal) ℓ)

/-- Head `h`'s cotangent. -/
def cotOf2 (A B : FVec Ideal S2048x768 .f32) (h : Fin 6) : Head := fun r l => (cotOf A h r l + cotOf B h r l) * Ideal.ofBits .f32 0x3DB504F3#32

/-- The input's gradient. -/
def DX (P : FVec Ideal S1x2048x6412 .f32) (W : FVec Ideal S4x2304 .f32) (A B : FVec Ideal S2048x768 .f32) : S2048x768.Idx → EReal :=
  side fun h => dx (grad (headOf 0 P h) (tapsOf 0 W h) (cotOf2 A B h)) (tapsOf 0 W h)

/-- The weights' gradient. -/
def DW (P : FVec Ideal S1x2048x6412 .f32) (W : FVec Ideal S4x2304 .f32) (A B : FVec Ideal S2048x768 .f32) : S4x768.Idx → EReal :=
  side fun h k => dw (grad (headOf 0 P h) (tapsOf 0 W h) (cotOf2 A B h)) (headOf 0 P h) (3 - k)

theorem seg_eq (c : Dev nD) : V m c main_v4 = columns (m ((c : Thread nD τ).loc main_arg0)) := by
  unfold V
  after_results
  rfl

theorem blocks_read (c : Dev nD) (t : Fin cfg0.N) (h : Fin 6) (ht : h.1 = t.1) :
    head (iblk m c 0 t) = headOf 0 (m ((c : Thread nD τ).loc main_arg0)) h
    ∧ taps (iblk m c 1 t) = tapsOf 0 (m ((c : Thread nD τ).loc main_arg1)) h
    ∧ ct (iblk m c 2 t) (iblk m c 3 t) = cotOf2 (m ((c : Thread nD τ).loc main_arg2)) (m ((c : Thread nD τ).loc main_arg3)) h := by
  refine ⟨?_, ?_, ?_⟩ <;> funext r l
  · refine Eq.trans ?_ (columns_read _ r ⟨1024 + 768 * (0 : Fin 3).1 + 128 * h.1 + l.1, by omega⟩ _ rfl (by simp only; omega))
    rw [← seg_eq]
    unfold head
    blk_ext [iblk, idx t]
  · unfold taps tapsOf
    blk_point [iblk, V, idx t]
  · unfold ct cotOf2 cotOf
    blk_point [iblk, V, idx t]

theorem final4 (c : Dev nD) : (dats m 0 c).arrAt 4 (cfgs 0).N
    = DX (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  idx_vars y
  obtain ⟨e1, e2, e3⟩ := blocks_read m c t ⟨t.1, lt_of_lt_of_eq t.isLt N_0⟩ rfl
  rw [out4_read, e1, e2, e3]
  unfold DX
  rw [side_at _ _ ⟨t.1, lt_of_lt_of_eq t.isLt N_0⟩ y0 y1]
  · blk_simp [idx t]
  · blk_simp [idx t]
    show _ = 128 * t.1 + y1.1
    omega

theorem final5 (c : Dev nD) : (dats m 0 c).arrAt 5 (cfgs 0).N
    = DW (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  idx_vars y
  obtain ⟨e1, e2, e3⟩ := blocks_read m c t ⟨t.1, lt_of_lt_of_eq t.isLt N_0⟩ rfl
  rw [out5_read, e1, e2, e3]
  unfold DW
  rw [side_at _ _ ⟨t.1, lt_of_lt_of_eq t.isLt N_0⟩ y0 y1]
  · rfl
  · blk_simp [idx t]
  · blk_simp [idx t]
    show _ = 128 * t.1 + y1.1
    omega

end Cert.ConvQIdeal.Value

end
-- ==== Proof.Reads.lean ====
/- Host operations read at an index: sums over axes of one element, and rows padded before and after. -/
module

public import Idealize.ShloMosaic.Lib.Pointwise
public import Idealize.ShloMosaic.Lib.IdealHost

@[expose] public section

noncomputable section

namespace Cert.Reads

open Idealize.ShloMosaic

/-- The sum over a first and a last axis of one element each is the element. -/
theorem sum_outer {a b : ℕ} (h : (⟨4, ![1, a, b, 1]⟩ : Shape).ReducesTo [0, 3] ⟨2, ![a, b]⟩)
    (x : (⟨4, ![1, a, b, 1]⟩ : Shape).Idx → EReal) (j : Fin a) (k : Fin b) :
    Ideal.hostReduceAdd h x 0 (ix2 j k) = x (ix4 0 j k 0) := by
  unfold Ideal.hostReduceAdd
  rw [zero_add, show (Finset.univ.filter fun i => h.drop i = ix2 j k) = {ix4 0 j k 0} from ?_, Finset.sum_singleton]
  ext i
  simp only [Finset.mem_filter, Finset.mem_univ, true_and, Finset.mem_singleton]
  constructor
  · intro e
    have e1 : i 1 = j := congrFun e 0
    have e2 : i 2 = k := congrFun e 1
    funext c
    fin_cases c
    · exact Subsingleton.elim (α := Fin 1) _ _
    · exact e1
    · exact e2
    · exact Subsingleton.elim (α := Fin 1) _ _
  · rintro rfl
    funext c
    fin_cases c <;> rfl

/-- The sum over two first axes of one element each is the element. -/
theorem sum_front {a : ℕ} (h : (⟨3, ![1, 1, a]⟩ : Shape).ReducesTo [0, 1] ⟨1, ![a]⟩)
    (x : (⟨3, ![1, 1, a]⟩ : Shape).Idx → EReal) (j : Fin a) :
    Ideal.hostReduceAdd h x 0 (ix1 j) = x (ix3 0 0 j) := by
  unfold Ideal.hostReduceAdd
  rw [zero_add, show (Finset.univ.filter fun i => h.drop i = ix1 j) = {ix3 0 0 j} from ?_, Finset.sum_singleton]
  ext i
  simp only [Finset.mem_filter, Finset.mem_univ, true_and, Finset.mem_singleton]
  constructor
  · intro e
    have e1 : i 2 = j := congrFun e 0
    funext c
    fin_cases c
    · exact Subsingleton.elim (α := Fin 1) _ _
    · exact Subsingleton.elim (α := Fin 1) _ _
    · exact e1
  · rintro rfl
    funext c
    fin_cases c <;> rfl

/-- The sum over a first and a last axis of one element each is the element, with one axis between. -/
theorem sum_ends {a : ℕ} (h : (⟨3, ![1, a, 1]⟩ : Shape).ReducesTo [0, 2] ⟨1, ![a]⟩)
    (x : (⟨3, ![1, a, 1]⟩ : Shape).Idx → EReal) (j : Fin a) :
    Ideal.hostReduceAdd h x 0 (ix1 j) = x (ix3 0 j 0) := by
  unfold Ideal.hostReduceAdd
  rw [zero_add, show (Finset.univ.filter fun i => h.drop i = ix1 j) = {ix3 0 j 0} from ?_, Finset.sum_singleton]
  ext i
  simp only [Finset.mem_filter, Finset.mem_univ, true_and, Finset.mem_singleton]
  constructor
  · intro e
    have e1 : i 1 = j := congrFun e 0
    funext c
    fin_cases c
    · exact Subsingleton.elim (α := Fin 1) _ _
    · exact e1
    · exact Subsingleton.elim (α := Fin 1) _ _
  · rintro rfl
    funext c
    fin_cases c <;> rfl

/-- Rows with `lo` rows of zeros before them and some after. -/
theorem pad_rows {a b c lo hi : ℕ} (x : FVec Ideal ⟨3, ![1, a, c]⟩ .f32) (z : FVec Ideal ⟨0, ![]⟩ .f32) (hz : ∀ i, z i = 0)
    (hp) (h1) (j : Fin b) (k : Fin c) :
    pad (⟨3, ![1, b, c]⟩ : Shape) ![0, lo, 0] ![0, hi, 0] ![0, 0, 0] x z hp h1 (ix3 0 j k)
      = if h : lo ≤ j.1 ∧ j.1 - lo < a then x (ix3 0 ⟨j.1 - lo, h.2⟩ k) else (0 : EReal) := by
  pointwise
  simp only [hz]
  refine dite_congr rfl (fun e => congrArg x ?_) fun _ => rfl
  funext i
  fin_cases i
  · exact Subsingleton.elim (α := Fin 1) _ _
  · exact Fin.ext (by show (j.1 - lo) / (0 + 1) = j.1 - lo; simp)
  · exact Fin.ext (by show (k.1 - 0) / (0 + 1) = k.1; simp)

/-- A sum over the indices that one map sends to `j` is a sum over what counts them. -/
theorem sum_fiber {ι κ α : Type*} [Fintype ι] [DecidableEq κ] [Fintype α] (d : ι → κ) (j : κ) (e : α → ι) (back : ι → α)
    (h1 : ∀ a, d (e a) = j) (h2 : ∀ a, back (e a) = a) (h3 : ∀ i, d i = j → e (back i) = i) (x : ι → EReal) :
    ∑ i ∈ Finset.univ.filter (fun i => d i = j), x i = ∑ a, x (e a) :=
  Finset.sum_bij' (fun i _ => back i) (fun a _ => e a) (fun i _ => Finset.mem_univ _)
    (fun a _ => Finset.mem_filter.mpr ⟨Finset.mem_univ _, h1 a⟩) (fun i hi => h3 i (Finset.mem_filter.mp hi).2)
    (fun a _ => h2 a) fun i hi => by rw [h3 i (Finset.mem_filter.mp hi).2]

/-- The sum over the first and the last of three axes. -/
theorem reduce_ends {a b c : ℕ} (h : (⟨3, ![a, b, c]⟩ : Shape).Reduces [0, 2] ⟨1, ![b]⟩)
    (x : (⟨3, ![a, b, c]⟩ : Shape).Idx → EReal) (j : Fin b) :
    Ideal.reduceAdd h x (ix1 j) = ∑ k : Fin a, ∑ l : Fin c, x (ix3 k j l) := by
  rw [← Fintype.sum_prod_type' (f := fun k l => x (ix3 k j l))]
  refine sum_fiber _ _ (fun p : Fin a × Fin c => ix3 p.1 j p.2) (fun i => (i 0, i 2)) ?_ (fun _ => rfl) ?_ x
  · intro p; funext q; fin_cases q; rfl
  · intro i e
    have e1 : i 1 = j := congrFun e 0
    funext q; fin_cases q
    · rfl
    · exact e1.symm
    · rfl

/-- The sum over two first axes of one element each is the element, with two axes left. -/
theorem sum_front4 {a b : ℕ} (h : (⟨4, ![1, 1, a, b]⟩ : Shape).ReducesTo [0, 1] ⟨2, ![a, b]⟩)
    (x : (⟨4, ![1, 1, a, b]⟩ : Shape).Idx → EReal) (j : Fin a) (k : Fin b) :
    Ideal.hostReduceAdd h x 0 (ix2 j k) = x (ix4 0 0 j k) := by
  unfold Ideal.hostReduceAdd
  rw [zero_add, sum_fiber _ _ (fun _ : Unit => ix4 0 0 j k) (fun _ => ()) ?_ (fun _ => rfl) ?_ x]
  · simp
  · intro p; funext q; fin_cases q <;> rfl
  · intro i e
    have e1 : i 2 = j := congrFun e 0
    have e2 : i 3 = k := congrFun e 1
    funext q; fin_cases q
    · exact Subsingleton.elim (α := Fin 1) _ _
    · exact Subsingleton.elim (α := Fin 1) _ _
    · exact e1.symm
    · exact e2.symm

/-- The sum over three axes of one element each is the element. -/
theorem sum_outer5 {a b : ℕ} (h : (⟨5, ![1, 1, a, b, 1]⟩ : Shape).ReducesTo [0, 1, 4] ⟨2, ![a, b]⟩)
    (x : (⟨5, ![1, 1, a, b, 1]⟩ : Shape).Idx → EReal) (j : Fin a) (k : Fin b) :
    Ideal.hostReduceAdd h x 0 (ix2 j k) = x (ix5 0 0 j k 0) := by
  unfold Ideal.hostReduceAdd
  rw [zero_add, sum_fiber _ _ (fun _ : Unit => ix5 0 0 j k 0) (fun _ => ()) ?_ (fun _ => rfl) ?_ x]
  · simp
  · intro p; funext q; fin_cases q <;> rfl
  · intro i e
    have e1 : i 2 = j := congrFun e 0
    have e2 : i 3 = k := congrFun e 1
    funext q; fin_cases q
    · exact Subsingleton.elim (α := Fin 1) _ _
    · exact Subsingleton.elim (α := Fin 1) _ _
    · exact e1.symm
    · exact e2.symm
    · exact Subsingleton.elim (α := Fin 1) _ _

/-- The sum over the second and the last of five axes. -/
theorem sum_second_last {n a b c d : ℕ} (h : (⟨5, ![n, a, b, c, d]⟩ : Shape).ReducesTo [1, 4] ⟨3, ![n, b, c]⟩)
    (x : (⟨5, ![n, a, b, c, d]⟩ : Shape).Idx → EReal) (i : Fin n) (j : Fin b) (k : Fin c) :
    Ideal.hostReduceAdd h x 0 (ix3 i j k) = ∑ p : Fin a, ∑ q : Fin d, x (ix5 i p j k q) := by
  rw [← Fintype.sum_prod_type' (f := fun p q => x (ix5 i p j k q))]
  unfold Ideal.hostReduceAdd
  rw [zero_add]
  refine sum_fiber _ _ (fun p : Fin a × Fin d => ix5 i p.1 j k p.2) (fun i => (i 1, i 4)) ?_ (fun _ => rfl) ?_ x
  · intro p; funext q; fin_cases q <;> rfl
  · intro y e
    have e0 : y 0 = i := congrFun e 0
    have e1 : y 2 = j := congrFun e 1
    have e2 : y 3 = k := congrFun e 2
    funext q; fin_cases q
    · exact e0.symm
    · rfl
    · exact e1.symm
    · exact e2.symm
    · rfl

end Cert.Reads

end
-- ==== Proof.Conv.QRef.lean ====
/- The convolution's gradient for the queries, read from the reference's operations. -/
module

public import proofs.«01_k».proof.Proof.Gen.ConvQRefIdeal.Run
public import proofs.«01_k».proof.Proof.Conv.Spec
public import proofs.«01_k».proof.Proof.Reads
public import Idealize.ShloMosaic.Lib.Pipeline.ValueKit

@[expose] public section

set_option maxRecDepth 16384

noncomputable section

namespace Cert.ConvQRefIdeal.Value

open Cert.Conv Cert.Reads Cert.ConvQRefIdeal Idealize.ShloMosaic Idealize.ShloMosaic.TcCoe Idealize.SL.Sem

variable (V : Valuation τ sig (Elt Ideal)) (h : Fin 6) (t : Fin 2048) (l : Fin 128)

/-- Channel `l` of head `h`. -/
abbrev ch (h : Fin 6) (l : Fin 128) : Fin 768 := ⟨h.1 * 128 + l.1, by omega⟩

/-- The head's input, tap weights and cotangent. -/
abbrev X : Head := headOf 0 (V (Proc.devRef .tc main_arg0)) h
abbrev W : Taps := tapsOf 0 (V (Proc.devRef .tc main_arg1)) h
abbrev C : Head := fun r l =>
  (cotOf (V (Proc.devRef .tc main_arg2)) h r l + cotOf (V (Proc.devRef .tc main_arg3)) h r l) * Ideal.ofBits .f32 0x3DB504F3#32

/-! ## The four taps -/

theorem tap3 : res_main_v15 V (ix3 0 t (ch h l)) = back (X V h) 3 t l := by
  pointwise [res_main_v15, res_main_v13]
  unfold back X headOf
  by_cases e : 3 ≤ t.1
  · rw [dif_neg (by omega), if_pos e]
    blk_ext
  · rw [dif_pos (by omega), if_neg e]

theorem tap2 : res_main_v23 V (ix3 0 t (ch h l)) = back (X V h) 2 t l := by
  pointwise [res_main_v23, res_main_v13]
  unfold back X headOf
  by_cases e : 2 ≤ t.1
  · rw [dif_neg (by omega), if_pos e]
    blk_ext
  · rw [dif_pos (by omega), if_neg e]

theorem tap1 : res_main_v30 V (ix3 0 t (ch h l)) = back (X V h) 1 t l := by
  pointwise [res_main_v30, res_main_v13]
  unfold back X headOf
  by_cases e : 1 ≤ t.1
  · rw [dif_neg (by omega), if_pos e]
    blk_ext
  · rw [dif_pos (by omega), if_neg e]

theorem tap0 : res_main_v37 V (ix3 0 t (ch h l)) = X V h t l := by
  pointwise [res_main_v37, res_main_v13]
  unfold X headOf
  blk_ext

theorem weights : res_main_v18 V (ix3 0 0 (ch h l)) = W V h 0 l ∧ res_main_v26 V (ix3 0 0 (ch h l)) = W V h 1 l
    ∧ res_main_v33 V (ix3 0 0 (ch h l)) = W V h 2 l ∧ res_main_v40 V (ix3 0 0 (ch h l)) = W V h 3 l := by
  refine ⟨?_, ?_, ?_, ?_⟩
  · pointwise [res_main_v18, res_main_v11]
    unfold W tapsOf; blk_ext
  · pointwise [res_main_v26, res_main_v11]
    unfold W tapsOf; blk_ext
  · pointwise [res_main_v33, res_main_v11]
    unfold W tapsOf; blk_ext
  · pointwise [res_main_v40, res_main_v11]
    unfold W tapsOf; blk_ext

/-! ## The convolution, SiLU and the norm -/

theorem conv_at : res_main_v43 V (ix3 0 t (ch h l)) = conv (X V h) (W V h) t l := by
  obtain ⟨w0, w1, w2, w3⟩ := weights V h l
  pointwise [res_main_v43]
  rw [tap3, tap2, tap1, tap0, w0, w1, w2, w3]
  unfold conv
  ac_rfl

theorem logi_at : res_main_v44_2 V (ix3 0 t (ch h l)) = logi (conv (X V h) (W V h) t l) := by
  pointwise [res_main_v44_2]
  rw [conv_at]
  rfl

theorem act_at : res_main_v46 V (ix4 0 h t l) = act (conv (X V h) (W V h)) t l := by
  pointwise [res_main_v46]
  rw [conv_at, logi_at]
  rfl

theorem energy_at : res_main_v51 V (ix4 0 h t 0) = energy (act (conv (X V h) (W V h))) t := by
  pointwise [res_main_v51]
  simp only [act_at]
  rfl

theorem root_at : res_main_v52 V (ix4 0 h t 0) = Ideal.rsqrt (energy (act (conv (X V h) (W V h))) t) := by
  pointwise [res_main_v52]
  rw [energy_at]

theorem cot_at : res_main_v64 V (ix4 0 h t l) = C V h t l := by
  pointwise [res_main_v64]
  unfold C cotOf
  blk_point []

theorem common_at : res_main_v73 V (ix4 0 h t l) = common (act (conv (X V h) (W V h))) (C V h) t := by
  pointwise [res_main_v73]
  refine (sum_outer _ _ h t).trans ?_
  pointwise
  simp only [act_at, cot_at, energy_at, root_at]
  rfl

theorem norm_at : res_main_v79 V (ix3 0 t (ch h l)) = normGrad (act (conv (X V h) (W V h))) (C V h) t l := by
  have e1 : (⟨(h.1 * 128 + l.1) / 128, by omega⟩ : Fin 6) = h := Fin.ext (by simp only; omega)
  have e2 : (⟨(h.1 * 128 + l.1) % 128, by omega⟩ : Fin 128) = l := Fin.ext (by simp only; omega)
  pointwise [res_main_v79]
  rw [e1, e2, cot_at, root_at, act_at, common_at]
  rfl

theorem grad_at : res_main_v80 V (ix3 0 t (ch h l)) = grad (X V h) (W V h) (C V h) t l := by
  pointwise [res_main_v80]
  rw [norm_at, logi_at, conv_at]
  rfl

/-! ## The two results -/

theorem dx_at (k : Fin 2051) (hk : k.1 = t.1 + 3) :
    res_main_v122 V (ix3 0 k (ch h l)) = dx (grad (X V h) (W V h) (C V h)) (W V h) t l := by
  obtain ⟨w0, w1, w2, w3⟩ := weights V h l
  have last := dite_ahead (grad (X V h) (W V h) (C V h)) (W V h 0 l) t l k.1 0 3 hk rfl
  simp only [Nat.zero_le, Nat.sub_zero, true_and] at last
  unfold res_main_v122
  refine (congrArg₂ (· + ·) (congrArg₂ (· + ·) (congrArg₂ (· + ·) (pad_rows _ _ ?_ _ _ k _) (pad_rows _ _ ?_ _ _ k _))
    (pad_rows _ _ ?_ _ _ k _)) (pad_rows _ _ ?_ _ _ k _)).trans ?_
  case refine_5 =>
    pointwise
    simp only [grad_at, w0, w1, w2, w3]
    rw [dite_ahead _ _ t l k.1 3 0 hk rfl, dite_ahead _ _ t l k.1 2 1 hk rfl, dite_ahead _ _ t l k.1 1 2 hk rfl,
      last, ahead_zero]
    rfl
  all_goals exact fun i => by pointwise

/-- The input's gradient. -/
theorem result0 : val3 V (Proc.devRef .tc main_v126) = side fun h => dx (grad (X V h) (W V h) (C V h)) (W V h) := by
  rw [show val3 V (Proc.devRef .tc main_v126) = _ from val3_main_v126 V]
  refine (side_ext _ _ fun h r l => ?_).symm
  pointwise
  rw [show (⟨128 * h.1 + l.1, by omega⟩ : Fin 768) = ch h l from Fin.ext (by simp only; omega)]
  exact dx_at V h r l _ (by simp only; omega)

/-- The weights' gradient. -/
theorem result1 : val3 V (Proc.devRef .tc main_v120) = side fun h k => dw (grad (X V h) (W V h) (C V h)) (X V h) (3 - k) := by
  rw [show val3 V (Proc.devRef .tc main_v120) = _ from val3_main_v120 V]
  refine (side_ext _ _ fun h k l => ?_).symm
  have hc : h.1 * 128 + l.1 < 768 := by omega
  rw [show (⟨128 * h.1 + l.1, by omega⟩ : Fin 768) = ch h l from Fin.ext (by simp only; omega)]
  pointwise
  fin_cases k <;> simp only [sum_front, hc] <;> norm_num
  all_goals
    pointwise
    simp only [tap3, tap2, tap1, tap0, grad_at, dw, back_zero]
    exact Finset.sum_congr rfl fun r _ => mul_comm _ _

end Cert.ConvQRefIdeal.Value

end
-- ==== Proof.Conv.K.lean ====
/- The convolution's gradient for the keys: one head's block, and the arrays after the run. -/
module

public import proofs.«01_k».proof.Proof.Gen.ConvKIdeal.Value
public import proofs.«01_k».proof.Proof.Columns
public import proofs.«01_k».proof.Proof.Conv.Q

@[expose] public section

set_option maxRecDepth 16384

noncomputable section

namespace Cert.ConvKIdeal.Value

open Cert.Conv Cert.Columns Cert.ConvKIdeal Cert.ConvKIdeal.Gen Idealize.ShloMosaic Idealize.ShloMosaic.TcCoe Idealize.SL.Sem

/-! ## One head's block: convolution and SiLU are the queries' -/

open Cert.ConvQIdeal.Value (head taps)

theorem conv_read (x0 : FVec Ideal S2048x128 .f32) (x1 : FVec Ideal S4x128 .f32) (x2 x3) (t : Fin 2048) (l : Fin 128) :
    k0_pay20 (F := Ideal) x0 x1 x2 x3 (ix2 t l) = conv (head x0) (taps x1) t l :=
  ConvQIdeal.Value.conv_read x0 x1 x2 x3 t l

theorem exp_read (x0 : FVec Ideal S2048x128 .f32) (x1 : FVec Ideal S4x128 .f32) (x2 x3) (t : Fin 2048) (l : Fin 128) :
    k0_pay21 (F := Ideal) x0 x1 x2 x3 (ix2 t l) = Ideal.exp (0 - conv (head x0) (taps x1) t l) :=
  ConvQIdeal.Value.exp_read x0 x1 x2 x3 t l

/-- The head's cotangent: the two users' cotangents, added. -/
def ct (x2 x3 : FVec Ideal S2048x128 .f32) : Head := fun t l => x2 (ix2 t l) + x3 (ix2 t l)

set_option maxHeartbeats 1000000 in
theorem grad_read (x0 : FVec Ideal S2048x128 .f32) (x1 : FVec Ideal S4x128 .f32) (x2 x3) (t : Fin 2048) (l : Fin 128) :
    k0_pay15 (F := Ideal) (k0_pay22 x0 x1 x2 x3) (k0_pay23 x0 x1 x2 x3) (k0_pay24 x0 x1 x2 x3) (ix2 t l) =
      grad (head x0) (taps x1) (ct x2 x3) t l := by
  pointwise [k0_pay24, k0_pay23, k0_pay22, k0_pay15, k0_pay14, k0_pay13, k0_pay12, k0_pay11, k0_pay10, k0_pay9]
  simp only [conv_read, exp_read]
  rw [grad, siluGrad, ← siluGrad_recip]
  simp only [normGrad, act, logi, common, energy, eps, ct, zero_sub, Finset.univ_unique, Finset.sum_singleton]

theorem grad_read' (x0 : FVec Ideal S2048x128 .f32) (x1 : FVec Ideal S4x128 .f32) (x2 x3) (t : Fin 2048) (l : Fin 128) :
    k0_pay25 (F := Ideal) x0 x1 x2 x3 (ix2 t l) = grad (head x0) (taps x1) (ct x2 x3) t l :=
  grad_read x0 x1 x2 x3 t l

theorem out4_read (x0 : FVec Ideal S2048x128 .f32) (x1 : FVec Ideal S4x128 .f32) (x2 x3) (t : Fin 2048) (l : Fin 128) :
    out0_4 (F := Ideal) x0 x1 x2 x3 (ix2 t l) = dx (grad (head x0) (taps x1) (ct x2 x3)) (taps x1) t l := by
  unfold out0_4
  frame_out
  pointwise [k0_pay2, k0_pay18]
  simp only [grad_read, grad_read', dx]
  rw [← select_ahead _ _ 1 2047 rfl (by norm_num), ← select_ahead _ _ 2 2046 rfl (by norm_num), ← select_ahead _ _ 3 2045 rfl (by norm_num)]
  simp only [taps]
  ac_rfl

set_option maxHeartbeats 1000000 in
theorem out5_read (x0 : FVec Ideal S2048x128 .f32) (x1 : FVec Ideal S4x128 .f32) (x2 x3) (i : S4x128.Idx) :
    out0_5 (F := Ideal) x0 x1 x2 x3 i = dw (grad (head x0) (taps x1) (ct x2 x3)) (head x0) (3 - i 0) (i 1) := by
  unfold out0_5
  canon_tiles x h
  all_goals
    obtain ⟨r, l, rfl⟩ : ∃ (r : Fin 1) (l : Fin 128), x = ix2 r l := ⟨x 0, x 1, by idx_vars x⟩
    have hl : i 1 = l := Fin.ext h1
    have hr : r = 0 := Subsingleton.elim _ _
    subst hr
    pointwise [k0_pay1, k0_pay19, k0_pay17, k0_pay16, k0_pay6, k0_pay5, k0_pay4, k0_pay3]
    simp only [grad_read, grad_read', hl]
    rw [show (i 0 : ℕ) = _ from h0]
  · exact sum_here _ (head x0) l
  · exact sum_select_back _ (head x0) 1 (by norm_num) l
  · exact sum_select_back _ (head x0) 2 (by norm_num) l
  · exact sum_select_back _ (head x0) 3 (by norm_num) l

/-- The windows' blocks: grid point `t` has head `t`. -/
theorem idx : ∀ t : Fin cfg0.N, win0_0.index t = ![0, 14 + t.val] ∧ win0_1.index t = ![0, 6 + t.val] ∧ win0_2.index t = ![0, t.val]
    ∧ win0_3.index t = ![0, t.val] ∧ win0_4.index t = ![0, t.val] ∧ win0_5.index t = ![0, t.val] :=
  (by decide +kernel : ∀ t : Fin grid0.N, _)

/-! ## The arrays -/

variable (m : (ℓ : Loc nD τ sig) → Buf (Elt Ideal) ℓ)

/-- Head `h`'s cotangent. -/
def cotOf2 (A B : FVec Ideal S2048x768 .f32) (h : Fin 6) : Head := fun r l => cotOf A h r l + cotOf B h r l

/-- The input's gradient. -/
def DX (P : FVec Ideal S1x2048x6412 .f32) (W : FVec Ideal S4x2304 .f32) (A B : FVec Ideal S2048x768 .f32) : S2048x768.Idx → EReal :=
  side fun h => dx (grad (headOf 1 P h) (tapsOf 1 W h) (cotOf2 A B h)) (tapsOf 1 W h)

/-- The weights' gradient. -/
def DW (P : FVec Ideal S1x2048x6412 .f32) (W : FVec Ideal S4x2304 .f32) (A B : FVec Ideal S2048x768 .f32) : S4x768.Idx → EReal :=
  side fun h k => dw (grad (headOf 1 P h) (tapsOf 1 W h) (cotOf2 A B h)) (headOf 1 P h) (3 - k)

theorem seg_eq (c : Dev nD) : V m c main_v4 = columns (m ((c : Thread nD τ).loc main_arg0)) := by
  unfold V
  after_results
  rfl

theorem blocks_read (c : Dev nD) (t : Fin cfg0.N) (h : Fin 6) (ht : h.1 = t.1) :
    head (iblk m c 0 t) = headOf 1 (m ((c : Thread nD τ).loc main_arg0)) h
    ∧ taps (iblk m c 1 t) = tapsOf 1 (m ((c : Thread nD τ).loc main_arg1)) h
    ∧ ct (iblk m c 2 t) (iblk m c 3 t) = cotOf2 (m ((c : Thread nD τ).loc main_arg2)) (m ((c : Thread nD τ).loc main_arg3)) h := by
  refine ⟨?_, ?_, ?_⟩ <;> funext r l
  · refine Eq.trans ?_ (columns_read _ r ⟨1024 + 768 * (1 : Fin 3).1 + 128 * h.1 + l.1, by omega⟩ _ rfl (by simp only; omega))
    rw [← seg_eq]
    unfold head
    blk_ext [iblk, idx t]
  · unfold taps tapsOf
    blk_point [iblk, V, idx t]
  · unfold ct cotOf2 cotOf
    blk_point [iblk, V, idx t]

theorem final4 (c : Dev nD) : (dats m 0 c).arrAt 4 (cfgs 0).N
    = DX (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  idx_vars y
  obtain ⟨e1, e2, e3⟩ := blocks_read m c t ⟨t.1, lt_of_lt_of_eq t.isLt N_0⟩ rfl
  rw [out4_read, e1, e2, e3]
  unfold DX
  rw [side_at _ _ ⟨t.1, lt_of_lt_of_eq t.isLt N_0⟩ y0 y1]
  · blk_simp [idx t]
  · blk_simp [idx t]
    show _ = 128 * t.1 + y1.1
    omega

theorem final5 (c : Dev nD) : (dats m 0 c).arrAt 5 (cfgs 0).N
    = DW (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  idx_vars y
  obtain ⟨e1, e2, e3⟩ := blocks_read m c t ⟨t.1, lt_of_lt_of_eq t.isLt N_0⟩ rfl
  rw [out5_read, e1, e2, e3]
  unfold DW
  rw [side_at _ _ ⟨t.1, lt_of_lt_of_eq t.isLt N_0⟩ y0 y1]
  · rfl
  · blk_simp [idx t]
  · blk_simp [idx t]
    show _ = 128 * t.1 + y1.1
    omega

end Cert.ConvKIdeal.Value

end
-- ==== Proof.Conv.KRef.lean ====
/- The convolution's gradient for the keys, read from the reference's operations. -/
module

public import proofs.«01_k».proof.Proof.Gen.ConvKRefIdeal.Run
public import proofs.«01_k».proof.Proof.Conv.Spec
public import proofs.«01_k».proof.Proof.Reads
public import Idealize.ShloMosaic.Lib.Pipeline.ValueKit

@[expose] public section

set_option maxRecDepth 16384

noncomputable section

namespace Cert.ConvKRefIdeal.Value

open Cert.Conv Cert.Reads Cert.ConvKRefIdeal Idealize.ShloMosaic Idealize.ShloMosaic.TcCoe Idealize.SL.Sem

variable (V : Valuation τ sig (Elt Ideal)) (h : Fin 6) (t : Fin 2048) (l : Fin 128)

/-- Channel `l` of head `h`. -/
abbrev ch (h : Fin 6) (l : Fin 128) : Fin 768 := ⟨h.1 * 128 + l.1, by omega⟩

/-- The head's input, tap weights and cotangent. -/
abbrev X : Head := headOf 1 (V (Proc.devRef .tc main_arg0)) h
abbrev W : Taps := tapsOf 1 (V (Proc.devRef .tc main_arg1)) h
abbrev C : Head := fun r l =>
  cotOf (V (Proc.devRef .tc main_arg2)) h r l + cotOf (V (Proc.devRef .tc main_arg3)) h r l

/-! ## The four taps -/

theorem tap3 : res_main_v15 V (ix3 0 t (ch h l)) = back (X V h) 3 t l := by
  pointwise [res_main_v15, res_main_v13]
  unfold back X headOf
  by_cases e : 3 ≤ t.1
  · rw [dif_neg (by omega), if_pos e]
    blk_ext
  · rw [dif_pos (by omega), if_neg e]

theorem tap2 : res_main_v23 V (ix3 0 t (ch h l)) = back (X V h) 2 t l := by
  pointwise [res_main_v23, res_main_v13]
  unfold back X headOf
  by_cases e : 2 ≤ t.1
  · rw [dif_neg (by omega), if_pos e]
    blk_ext
  · rw [dif_pos (by omega), if_neg e]

theorem tap1 : res_main_v30 V (ix3 0 t (ch h l)) = back (X V h) 1 t l := by
  pointwise [res_main_v30, res_main_v13]
  unfold back X headOf
  by_cases e : 1 ≤ t.1
  · rw [dif_neg (by omega), if_pos e]
    blk_ext
  · rw [dif_pos (by omega), if_neg e]

theorem tap0 : res_main_v37 V (ix3 0 t (ch h l)) = X V h t l := by
  pointwise [res_main_v37, res_main_v13]
  unfold X headOf
  blk_ext

theorem weights : res_main_v18 V (ix3 0 0 (ch h l)) = W V h 0 l ∧ res_main_v26 V (ix3 0 0 (ch h l)) = W V h 1 l
    ∧ res_main_v33 V (ix3 0 0 (ch h l)) = W V h 2 l ∧ res_main_v40 V (ix3 0 0 (ch h l)) = W V h 3 l := by
  refine ⟨?_, ?_, ?_, ?_⟩
  · pointwise [res_main_v18, res_main_v11]
    unfold W tapsOf; blk_ext
  · pointwise [res_main_v26, res_main_v11]
    unfold W tapsOf; blk_ext
  · pointwise [res_main_v33, res_main_v11]
    unfold W tapsOf; blk_ext
  · pointwise [res_main_v40, res_main_v11]
    unfold W tapsOf; blk_ext

/-! ## The convolution, SiLU and the norm -/

theorem conv_at : res_main_v43 V (ix3 0 t (ch h l)) = conv (X V h) (W V h) t l := by
  obtain ⟨w0, w1, w2, w3⟩ := weights V h l
  pointwise [res_main_v43]
  rw [tap3, tap2, tap1, tap0, w0, w1, w2, w3]
  unfold conv
  ac_rfl

theorem logi_at : res_main_v44_2 V (ix3 0 t (ch h l)) = logi (conv (X V h) (W V h) t l) := by
  pointwise [res_main_v44_2]
  rw [conv_at]
  rfl

theorem act_at : res_main_v46 V (ix4 0 h t l) = act (conv (X V h) (W V h)) t l := by
  pointwise [res_main_v46]
  rw [conv_at, logi_at]
  rfl

theorem energy_at : res_main_v51 V (ix4 0 h t 0) = energy (act (conv (X V h) (W V h))) t := by
  pointwise [res_main_v51]
  simp only [act_at]
  rfl

theorem root_at : res_main_v52 V (ix4 0 h t 0) = Ideal.rsqrt (energy (act (conv (X V h) (W V h))) t) := by
  pointwise [res_main_v52]
  rw [energy_at]

theorem cot_at : res_main_v60 V (ix4 0 h t l) = C V h t l := by
  pointwise [res_main_v60]
  unfold C cotOf
  blk_point []

theorem common_at : res_main_v69 V (ix4 0 h t l) = common (act (conv (X V h) (W V h))) (C V h) t := by
  pointwise [res_main_v69]
  refine (sum_outer _ _ h t).trans ?_
  pointwise
  simp only [act_at, cot_at, energy_at, root_at]
  rfl

theorem norm_at : res_main_v75 V (ix3 0 t (ch h l)) = normGrad (act (conv (X V h) (W V h))) (C V h) t l := by
  have e1 : (⟨(h.1 * 128 + l.1) / 128, by omega⟩ : Fin 6) = h := Fin.ext (by simp only; omega)
  have e2 : (⟨(h.1 * 128 + l.1) % 128, by omega⟩ : Fin 128) = l := Fin.ext (by simp only; omega)
  pointwise [res_main_v75]
  rw [e1, e2, cot_at, root_at, act_at, common_at]
  rfl

theorem grad_at : res_main_v76 V (ix3 0 t (ch h l)) = grad (X V h) (W V h) (C V h) t l := by
  pointwise [res_main_v76]
  rw [norm_at, logi_at, conv_at]
  rfl

/-! ## The two results -/

theorem dx_at (k : Fin 2051) (hk : k.1 = t.1 + 3) :
    res_main_v118 V (ix3 0 k (ch h l)) = dx (grad (X V h) (W V h) (C V h)) (W V h) t l := by
  obtain ⟨w0, w1, w2, w3⟩ := weights V h l
  have last := dite_ahead (grad (X V h) (W V h) (C V h)) (W V h 0 l) t l k.1 0 3 hk rfl
  simp only [Nat.zero_le, Nat.sub_zero, true_and] at last
  unfold res_main_v118
  refine (congrArg₂ (· + ·) (congrArg₂ (· + ·) (congrArg₂ (· + ·) (pad_rows _ _ ?_ _ _ k _) (pad_rows _ _ ?_ _ _ k _))
    (pad_rows _ _ ?_ _ _ k _)) (pad_rows _ _ ?_ _ _ k _)).trans ?_
  case refine_5 =>
    pointwise
    simp only [grad_at, w0, w1, w2, w3]
    rw [dite_ahead _ _ t l k.1 3 0 hk rfl, dite_ahead _ _ t l k.1 2 1 hk rfl, dite_ahead _ _ t l k.1 1 2 hk rfl,
      last, ahead_zero]
    rfl
  all_goals exact fun i => by pointwise

/-- The input's gradient. -/
theorem result0 : val3 V (Proc.devRef .tc main_v122) = side fun h => dx (grad (X V h) (W V h) (C V h)) (W V h) := by
  rw [show val3 V (Proc.devRef .tc main_v122) = _ from val3_main_v122 V]
  refine (side_ext _ _ fun h r l => ?_).symm
  pointwise
  rw [show (⟨128 * h.1 + l.1, by omega⟩ : Fin 768) = ch h l from Fin.ext (by simp only; omega)]
  exact dx_at V h r l _ (by simp only; omega)

/-- The weights' gradient. -/
theorem result1 : val3 V (Proc.devRef .tc main_v116) = side fun h k => dw (grad (X V h) (W V h) (C V h)) (X V h) (3 - k) := by
  rw [show val3 V (Proc.devRef .tc main_v116) = _ from val3_main_v116 V]
  refine (side_ext _ _ fun h k l => ?_).symm
  have hc : h.1 * 128 + l.1 < 768 := by omega
  rw [show (⟨128 * h.1 + l.1, by omega⟩ : Fin 768) = ch h l from Fin.ext (by simp only; omega)]
  pointwise
  fin_cases k <;> simp only [sum_front, hc] <;> norm_num
  all_goals
    pointwise
    simp only [tap3, tap2, tap1, tap0, grad_at, dw, back_zero]
    exact Finset.sum_congr rfl fun r _ => mul_comm _ _

end Cert.ConvKRefIdeal.Value

end
-- ==== Proof.Conv.V.lean ====
/- The convolution's gradient for the values: one head's block, and the arrays after the run. -/
module

public import proofs.«01_k».proof.Proof.Gen.ConvVIdeal.Value
public import proofs.«01_k».proof.Proof.Columns
public import proofs.«01_k».proof.Proof.Conv.Q

@[expose] public section

set_option maxRecDepth 16384

noncomputable section

namespace Cert.ConvVIdeal.Value

open Cert.Conv Cert.Columns Cert.ConvVIdeal Cert.ConvVIdeal.Gen Idealize.ShloMosaic Idealize.ShloMosaic.TcCoe Idealize.SL.Sem

/-! ## One head's block: the convolution is the queries' -/

open Cert.ConvQIdeal.Value (head taps)

theorem conv_read (x0 : FVec Ideal S2048x128 .f32) (x1 : FVec Ideal S4x128 .f32) (x2) (t : Fin 2048) (l : Fin 128) :
    k0_pay15 (F := Ideal) x0 x1 x2 (ix2 t l) = conv (head x0) (taps x1) t l :=
  ConvQIdeal.Value.conv_read x0 x1 x2 x2 t l

theorem exp_read (x0 : FVec Ideal S2048x128 .f32) (x1 : FVec Ideal S4x128 .f32) (x2) (t : Fin 2048) (l : Fin 128) :
    k0_pay16 (F := Ideal) x0 x1 x2 (ix2 t l) = Ideal.exp (0 - conv (head x0) (taps x1) t l) :=
  ConvQIdeal.Value.exp_read x0 x1 x2 x2 t l

theorem grad_read (x0 : FVec Ideal S2048x128 .f32) (x1 : FVec Ideal S4x128 .f32) (x2) (t : Fin 2048) (l : Fin 128) :
    k0_pay11 (F := Ideal) (k0_pay15 x0 x1 x2) (k0_pay16 x0 x1 x2) x2 (ix2 t l) = gradV (head x0) (taps x1) (head x2) t l := by
  pointwise [k0_pay11, k0_pay10, k0_pay9]
  simp only [conv_read, exp_read]
  rw [gradV, siluGrad, ← siluGrad_recip]
  simp only [logi, head, zero_sub]

theorem whole (x2 : FVec Ideal S2048x128 .f32) : View.ld (Val := Elt Ideal) (S := S2048x128) (e' := .f32) x2 r0_0 = x2 := by
  frame_out

theorem grad_read' (x0 : FVec Ideal S2048x128 .f32) (x1 : FVec Ideal S4x128 .f32) (x2) (t : Fin 2048) (l : Fin 128) :
    k0_pay17 (F := Ideal) x0 x1 x2 (ix2 t l) = gradV (head x0) (taps x1) (head x2) t l := by
  unfold k0_pay17
  rw [whole]
  exact grad_read x0 x1 x2 t l

theorem grad_read'' (x0 : FVec Ideal S2048x128 .f32) (x1 : FVec Ideal S4x128 .f32) (x2) (t : Fin 2048) (l : Fin 128) :
    k0_pay11 (F := Ideal) (k0_pay15 x0 x1 x2) (k0_pay16 x0 x1 x2) (View.ld x2 r0_0) (ix2 t l) =
      gradV (head x0) (taps x1) (head x2) t l := by
  rw [whole]
  exact grad_read x0 x1 x2 t l

theorem out3_read (x0 : FVec Ideal S2048x128 .f32) (x1 : FVec Ideal S4x128 .f32) (x2) (t : Fin 2048) (l : Fin 128) :
    out0_3 (F := Ideal) x0 x1 x2 (ix2 t l) = dx (gradV (head x0) (taps x1) (head x2)) (taps x1) t l := by
  unfold out0_3
  frame_out
  pointwise [k0_pay4, k0_pay13]
  simp only [grad_read, grad_read', dx]
  rw [← select_ahead _ _ 1 2047 rfl (by norm_num), ← select_ahead _ _ 2 2046 rfl (by norm_num), ← select_ahead _ _ 3 2045 rfl (by norm_num)]
  simp only [taps]
  ac_rfl

set_option maxHeartbeats 1000000 in
theorem out4_read (x0 : FVec Ideal S2048x128 .f32) (x1 : FVec Ideal S4x128 .f32) (x2) (i : S4x128.Idx) :
    out0_4 (F := Ideal) x0 x1 x2 i = dw (gradV (head x0) (taps x1) (head x2)) (head x0) (3 - i 0) (i 1) := by
  unfold out0_4
  canon_tiles x h
  all_goals
    obtain ⟨r, l, rfl⟩ : ∃ (r : Fin 1) (l : Fin 128), x = ix2 r l := ⟨x 0, x 1, by idx_vars x⟩
    have hl : i 1 = l := Fin.ext h1
    have hr : r = 0 := Subsingleton.elim _ _
    subst hr
    pointwise [k0_pay1, k0_pay2, k0_pay3, k0_pay12, k0_pay14, k0_pay5, k0_pay6, k0_pay7, k0_pay8]
    simp only [grad_read, grad_read', grad_read'', hl]
    rw [show (i 0 : ℕ) = _ from h0]
  · exact sum_here _ (head x0) l
  · exact sum_select_back _ (head x0) 1 (by norm_num) l
  · exact sum_select_back _ (head x0) 2 (by norm_num) l
  · exact sum_select_back _ (head x0) 3 (by norm_num) l

/-- The windows' blocks: grid point `t` has head `t`. -/
theorem idx : ∀ t : Fin cfg0.N, win0_0.index t = ![0, 20 + t.val] ∧ win0_1.index t = ![0, 12 + t.val] ∧ win0_2.index t = ![0, t.val]
    ∧ win0_3.index t = ![0, t.val] ∧ win0_4.index t = ![0, t.val] :=
  (by decide +kernel : ∀ t : Fin grid0.N, _)

/-! ## The arrays -/

variable (m : (ℓ : Loc nD τ sig) → Buf (Elt Ideal) ℓ)

/-- The input's gradient. -/
def DX (P : FVec Ideal S1x2048x6412 .f32) (W : FVec Ideal S4x2304 .f32) (A : FVec Ideal S2048x768 .f32) : S2048x768.Idx → EReal :=
  side fun h => dx (gradV (headOf 2 P h) (tapsOf 2 W h) (cotOf A h)) (tapsOf 2 W h)

/-- The weights' gradient. -/
def DW (P : FVec Ideal S1x2048x6412 .f32) (W : FVec Ideal S4x2304 .f32) (A : FVec Ideal S2048x768 .f32) : S4x768.Idx → EReal :=
  side fun h k => dw (gradV (headOf 2 P h) (tapsOf 2 W h) (cotOf A h)) (headOf 2 P h) (3 - k)

theorem seg_eq (c : Dev nD) : V m c main_v4 = columns (m ((c : Thread nD τ).loc main_arg0)) := by
  unfold V
  after_results
  rfl

theorem blocks_read (c : Dev nD) (t : Fin cfg0.N) (h : Fin 6) (ht : h.1 = t.1) :
    head (iblk m c 0 t) = headOf 2 (m ((c : Thread nD τ).loc main_arg0)) h
    ∧ taps (iblk m c 1 t) = tapsOf 2 (m ((c : Thread nD τ).loc main_arg1)) h
    ∧ head (iblk m c 2 t) = cotOf (m ((c : Thread nD τ).loc main_arg2)) h := by
  refine ⟨?_, ?_, ?_⟩ <;> funext r l
  · refine Eq.trans ?_ (columns_read _ r ⟨1024 + 768 * (2 : Fin 3).1 + 128 * h.1 + l.1, by omega⟩ _ rfl (by simp only; omega))
    rw [← seg_eq]
    unfold head
    blk_ext [iblk, idx t]
  · unfold taps tapsOf
    blk_point [iblk, V, idx t]
  · unfold head cotOf
    blk_point [iblk, V, idx t]

theorem final3 (c : Dev nD) : (dats m 0 c).arrAt 3 (cfgs 0).N
    = DX (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  obtain ⟨e1, e2, e3⟩ := blocks_read m c t ⟨t.1, lt_of_lt_of_eq t.isLt N_0⟩ rfl
  rw [out3_read, e1, e2, e3]
  unfold DX
  rw [side_at _ _ ⟨t.1, lt_of_lt_of_eq t.isLt N_0⟩ y0 y1]
  · blk_simp [idx t]
  · blk_simp [idx t]
    show _ = 128 * t.1 + y1.1
    omega

theorem final4 (c : Dev nD) : (dats m 0 c).arrAt 4 (cfgs 0).N
    = DW (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  obtain ⟨e1, e2, e3⟩ := blocks_read m c t ⟨t.1, lt_of_lt_of_eq t.isLt N_0⟩ rfl
  rw [out4_read, e1, e2, e3]
  unfold DW
  rw [side_at _ _ ⟨t.1, lt_of_lt_of_eq t.isLt N_0⟩ y0 y1]
  · rfl
  · blk_simp [idx t]
  · blk_simp [idx t]
    show _ = 128 * t.1 + y1.1
    omega

end Cert.ConvVIdeal.Value

end
-- ==== Proof.Conv.VRef.lean ====
/- The convolution's gradient for the values, read from the reference's operations. -/
module

public import proofs.«01_k».proof.Proof.Gen.ConvVRefIdeal.Run
public import proofs.«01_k».proof.Proof.Conv.Spec
public import proofs.«01_k».proof.Proof.Reads
public import Idealize.ShloMosaic.Lib.Pipeline.ValueKit

@[expose] public section

set_option maxRecDepth 16384

noncomputable section

namespace Cert.ConvVRefIdeal.Value

open Cert.Conv Cert.Reads Cert.ConvVRefIdeal Cert.ConvVRefIdeal.Gen Idealize.ShloMosaic Idealize.ShloMosaic.TcCoe Idealize.SL.Sem

/-! ## The values that the two results share, as the operations give them -/

/-- The tap weights of the values. -/
def tapWeights (P : FVec Ideal S1x2048x6412 .f32) (W : FVec Ideal S4x2304 .f32) : FVec Ideal S4x768 .f32 :=
  extractStridedSlice S4x768 ![0, 1536] W slices_S4x2304_S4x768_0_1536

/-- The input after three rows of zeros. -/
def padded (P : FVec Ideal S1x2048x6412 .f32) (W : FVec Ideal S4x2304 .f32) : FVec Ideal S1x2051x768 .f32 :=
  concatenate S1x2051x768 1 [⟨S1x3x768, (broadcastInDim S1x3x768 ![] bcast_S_S1x3x768 (constant S_ .f32 0x00000000#32))⟩, ⟨S1x2048x768, (extractStridedSlice S1x2048x768 ![0, 0, 2560] P slices_S1x2048x6412_S1x2048x768_0_0_2560)⟩] concatenates_S1x3x768_S1x2048x768_S1x2051x768_d1

/-- The padded input from row 0, 1, 2 and 3. -/
def lag3 (P : FVec Ideal S1x2048x6412 .f32) (W : FVec Ideal S4x2304 .f32) : FVec Ideal S1x2048x768 .f32 :=
  extractStridedSlice S1x2048x768 ![0, 0, 0] (padded P W) slices_S1x2051x768_S1x2048x768_0_0_0

def lag2 (P : FVec Ideal S1x2048x6412 .f32) (W : FVec Ideal S4x2304 .f32) : FVec Ideal S1x2048x768 .f32 :=
  extractStridedSlice S1x2048x768 ![0, 1, 0] (padded P W) slices_S1x2051x768_S1x2048x768_0_1_0

def lag1 (P : FVec Ideal S1x2048x6412 .f32) (W : FVec Ideal S4x2304 .f32) : FVec Ideal S1x2048x768 .f32 :=
  extractStridedSlice S1x2048x768 ![0, 2, 0] (padded P W) slices_S1x2051x768_S1x2048x768_0_2_0

def lag0 (P : FVec Ideal S1x2048x6412 .f32) (W : FVec Ideal S4x2304 .f32) : FVec Ideal S1x2048x768 .f32 :=
  extractStridedSlice S1x2048x768 ![0, 3, 0] (padded P W) slices_S1x2051x768_S1x2048x768_0_3_0

/-- The tap weights one by one. -/
def weight0 (P : FVec Ideal S1x2048x6412 .f32) (W : FVec Ideal S4x2304 .f32) : FVec Ideal S1x1x768 .f32 :=
  broadcastInDim S1x1x768 ![2] bcast_S768_S1x1x768_2 (shapeCast _ (extractStridedSlice S1x768 ![0, 0] (tapWeights P W) slices_S4x768_S1x768_0_0) shapeCasts_S1x768_S768)

def weight1 (P : FVec Ideal S1x2048x6412 .f32) (W : FVec Ideal S4x2304 .f32) : FVec Ideal S1x1x768 .f32 :=
  broadcastInDim S1x1x768 ![2] bcast_S768_S1x1x768_2 (shapeCast _ (extractStridedSlice S1x768 ![1, 0] (tapWeights P W) slices_S4x768_S1x768_1_0) shapeCasts_S1x768_S768)

def weight2 (P : FVec Ideal S1x2048x6412 .f32) (W : FVec Ideal S4x2304 .f32) : FVec Ideal S1x1x768 .f32 :=
  broadcastInDim S1x1x768 ![2] bcast_S768_S1x1x768_2 (shapeCast _ (extractStridedSlice S1x768 ![2, 0] (tapWeights P W) slices_S4x768_S1x768_2_0) shapeCasts_S1x768_S768)

def weight3 (P : FVec Ideal S1x2048x6412 .f32) (W : FVec Ideal S4x2304 .f32) : FVec Ideal S1x1x768 .f32 :=
  broadcastInDim S1x1x768 ![2] bcast_S768_S1x1x768_2 (shapeCast _ (extractStridedSlice S1x768 ![3, 0] (tapWeights P W) slices_S4x768_S1x768_3_0) shapeCasts_S1x768_S768)

/-- The convolution. -/
def mixed (P : FVec Ideal S1x2048x6412 .f32) (W : FVec Ideal S4x2304 .f32) : FVec Ideal S1x2048x768 .f32 :=
  addf (addf (addf (addf (broadcastInDim S1x2048x768 ![] bcast_S_S1x2048x768 (constant S_ .f32 0x00000000#32)) (mulf (lag3 P W) (broadcastInDim S1x2048x768 ![0, 1, 2] bcast_S1x1x768_S1x2048x768_0_1_2 (weight0 P W)))) (mulf (lag2 P W) (broadcastInDim S1x2048x768 ![0, 1, 2] bcast_S1x1x768_S1x2048x768_0_1_2 (weight1 P W)))) (mulf (lag1 P W) (broadcastInDim S1x2048x768 ![0, 1, 2] bcast_S1x1x768_S1x2048x768_0_1_2 (weight2 P W)))) (mulf (lag0 P W) (broadcastInDim S1x2048x768 ![0, 1, 2] bcast_S1x1x768_S1x2048x768_0_1_2 (weight3 P W)))

/-- Its logistic function. -/
def logistic (P : FVec Ideal S1x2048x6412 .f32) (W : FVec Ideal S4x2304 .f32) : FVec Ideal S1x2048x768 .f32 :=
  Host.divf (broadcastInDim S1x2048x768 ![] bcast_S_S1x2048x768 (constant S_ .f32 0x3F800000#32)) (addf (broadcastInDim S1x2048x768 ![] bcast_S_S1x2048x768 (constant S_ .f32 0x3F800000#32)) (Host.exp (Host.negf (mixed P W))))

/-- The cotangent, its columns as they were. -/
def cot (A : FVec Ideal S2048x768 .f32) : FVec Ideal S1x2048x768 .f32 :=
  shapeCast _ (transpose S1x2048x6x128 [0, 2, 1, 3] (transpose S1x6x2048x128 [0, 2, 1, 3] (shapeCast _ A shapeCasts_S2048x768_S1x2048x6x128) transposes_S1x2048x6x128_S1x6x2048x128_0_2_1_3) transposes_S1x6x2048x128_S1x2048x6x128_0_2_1_3) shapeCasts_S1x2048x6x128_S1x2048x768

/-- The gradient at the convolution's output. -/
def inner (P : FVec Ideal S1x2048x6412 .f32) (W : FVec Ideal S4x2304 .f32) (A : FVec Ideal S2048x768 .f32) : FVec Ideal S1x2048x768 .f32 :=
  addf (mulf (cot A) (logistic P W)) (mulf (mulf (mixed P W) (cot A)) (mulf (logistic P W) (subf (broadcastInDim S1x2048x768 ![] bcast_S_S1x2048x768 (constant S_ .f32 0x3F800000#32)) (logistic P W))))

/-- The four taps' gradients of the padded input, added. -/
def spread (P : FVec Ideal S1x2048x6412 .f32) (W : FVec Ideal S4x2304 .f32) (A : FVec Ideal S2048x768 .f32) : FVec Ideal S1x2051x768 .f32 :=
  addf (addf (addf (pad S1x2051x768 ![0, 3, 0] ![0, 0, 0] ![0, 0, 0] (mulf (inner P W A) (broadcastInDim S1x2048x768 ![0, 1, 2] bcast_S1x1x768_S1x2048x768_0_1_2 (weight3 P W))) (constant S_ .f32 0x00000000#32) pads_S1x2048x768_S1x2051x768_000_300_000 h_S_) (pad S1x2051x768 ![0, 2, 0] ![0, 1, 0] ![0, 0, 0] (mulf (inner P W A) (broadcastInDim S1x2048x768 ![0, 1, 2] bcast_S1x1x768_S1x2048x768_0_1_2 (weight2 P W))) (constant S_ .f32 0x00000000#32) pads_S1x2048x768_S1x2051x768_000_210_000 h_S_)) (pad S1x2051x768 ![0, 1, 0] ![0, 2, 0] ![0, 0, 0] (mulf (inner P W A) (broadcastInDim S1x2048x768 ![0, 1, 2] bcast_S1x1x768_S1x2048x768_0_1_2 (weight1 P W))) (constant S_ .f32 0x00000000#32) pads_S1x2048x768_S1x2051x768_000_120_000 h_S_)) (pad S1x2051x768 ![0, 0, 0] ![0, 3, 0] ![0, 0, 0] (mulf (inner P W A) (broadcastInDim S1x2048x768 ![0, 1, 2] bcast_S1x1x768_S1x2048x768_0_1_2 (weight0 P W))) (constant S_ .f32 0x00000000#32) pads_S1x2048x768_S1x2051x768_000_030_000 h_S_)

/-- The row sums of a tap times the gradient. -/
def rowSum (P : FVec Ideal S1x2048x6412 .f32) (W : FVec Ideal S4x2304 .f32) (A : FVec Ideal S2048x768 .f32) (T : FVec Ideal S1x2048x768 .f32) : FVec Ideal S1x768 .f32 :=
  broadcastInDim S1x768 ![1] bcast_S768_S1x768_1 (Host.reduceAdd (shapeCast _ (Host.reduceAdd (mulf T (inner P W A)) (constant S_ .f32 0x00000000#32) reducesTo_S1x2048x768_S1x768_d1 h_S_) shapeCasts_S1x768_S1x1x768) (constant S_ .f32 0x00000000#32) reducesTo_S1x1x768_S768_d0_1 h_S_)

/-- The four taps' weight gradients. -/
def stacked (P : FVec Ideal S1x2048x6412 .f32) (W : FVec Ideal S4x2304 .f32) (A : FVec Ideal S2048x768 .f32) : FVec Ideal S4x768 .f32 :=
  addf (addf (addf (pad S4x768 ![3, 0] ![0, 0] ![0, 0] (rowSum P W A (lag0 P W)) (constant S_ .f32 0x00000000#32) pads_S1x768_S4x768_300_000 h_S_)
    (pad S4x768 ![2, 0] ![1, 0] ![0, 0] (rowSum P W A (lag1 P W)) (constant S_ .f32 0x00000000#32) pads_S1x768_S4x768_210_000 h_S_))
    (pad S4x768 ![1, 0] ![2, 0] ![0, 0] (rowSum P W A (lag2 P W)) (constant S_ .f32 0x00000000#32) pads_S1x768_S4x768_120_000 h_S_))
    (pad S4x768 ![0, 0] ![3, 0] ![0, 0] (rowSum P W A (lag3 P W)) (constant S_ .f32 0x00000000#32) pads_S1x768_S4x768_030_000 h_S_)

variable (P : FVec Ideal S1x2048x6412 .f32) (W : FVec Ideal S4x2304 .f32) (A : FVec Ideal S2048x768 .f32)
  (h : Fin 6) (t : Fin 2048) (l : Fin 128)

/-- Channel `l` of head `h`. -/
abbrev ch (h : Fin 6) (l : Fin 128) : Fin 768 := ⟨h.1 * 128 + l.1, by omega⟩

/-- The head's input and tap weights. -/
abbrev X : Head := headOf 2 P h
abbrev T : Taps := tapsOf 2 W h

/-! ## The four taps -/

theorem tap3 : lag3 P W (ix3 0 t (ch h l)) = back (X P h) 3 t l := by
  pointwise [lag3, padded]
  unfold back X headOf
  by_cases e : 3 ≤ t.1
  · rw [dif_neg (by omega), if_pos e]
    blk_ext
  · rw [dif_pos (by omega), if_neg e]

theorem tap2 : lag2 P W (ix3 0 t (ch h l)) = back (X P h) 2 t l := by
  pointwise [lag2, padded]
  unfold back X headOf
  by_cases e : 2 ≤ t.1
  · rw [dif_neg (by omega), if_pos e]
    blk_ext
  · rw [dif_pos (by omega), if_neg e]

theorem tap1 : lag1 P W (ix3 0 t (ch h l)) = back (X P h) 1 t l := by
  pointwise [lag1, padded]
  unfold back X headOf
  by_cases e : 1 ≤ t.1
  · rw [dif_neg (by omega), if_pos e]
    blk_ext
  · rw [dif_pos (by omega), if_neg e]

theorem tap0 : lag0 P W (ix3 0 t (ch h l)) = X P h t l := by
  pointwise [lag0, padded]
  unfold X headOf
  blk_ext

theorem weights : weight0 P W (ix3 0 0 (ch h l)) = T W h 0 l ∧ weight1 P W (ix3 0 0 (ch h l)) = T W h 1 l
    ∧ weight2 P W (ix3 0 0 (ch h l)) = T W h 2 l ∧ weight3 P W (ix3 0 0 (ch h l)) = T W h 3 l := by
  refine ⟨?_, ?_, ?_, ?_⟩
  · pointwise [weight0, tapWeights]
    unfold T tapsOf; blk_ext
  · pointwise [weight1, tapWeights]
    unfold T tapsOf; blk_ext
  · pointwise [weight2, tapWeights]
    unfold T tapsOf; blk_ext
  · pointwise [weight3, tapWeights]
    unfold T tapsOf; blk_ext

/-! ## The convolution, SiLU and the norm -/

theorem conv_at : mixed P W (ix3 0 t (ch h l)) = conv (X P h) (T W h) t l := by
  obtain ⟨w0, w1, w2, w3⟩ := weights P W h l
  pointwise [mixed]
  rw [tap3, tap2, tap1, tap0, w0, w1, w2, w3]
  unfold conv
  ac_rfl

theorem logi_at : logistic P W (ix3 0 t (ch h l)) = logi (conv (X P h) (T W h) t l) := by
  pointwise [logistic]
  rw [conv_at]
  rfl

theorem cot_at : cot A (ix3 0 t (ch h l)) = cotOf A h t l := by
  pointwise [cot]
  unfold cotOf
  blk_point []

theorem grad_at : inner P W A (ix3 0 t (ch h l)) = gradV (X P h) (T W h) (cotOf A h) t l := by
  pointwise [inner]
  rw [cot_at, logi_at, conv_at]
  rfl

/-! ## The two results -/

theorem dx_at (k : Fin 2051) (hk : k.1 = t.1 + 3) :
    spread P W A (ix3 0 k (ch h l)) = dx (gradV (X P h) (T W h) (cotOf A h)) (T W h) t l := by
  obtain ⟨w0, w1, w2, w3⟩ := weights P W h l
  have last := dite_ahead (gradV (X P h) (T W h) (cotOf A h)) (T W h 0 l) t l k.1 0 3 hk rfl
  simp only [Nat.zero_le, Nat.sub_zero, true_and] at last
  unfold spread
  refine (congrArg₂ (· + ·) (congrArg₂ (· + ·) (congrArg₂ (· + ·) (pad_rows _ _ ?_ _ _ k _) (pad_rows _ _ ?_ _ _ k _))
    (pad_rows _ _ ?_ _ _ k _)) (pad_rows _ _ ?_ _ _ k _)).trans ?_
  case refine_5 =>
    pointwise
    simp only [grad_at, w0, w1, w2, w3]
    rw [dite_ahead _ _ t l k.1 3 0 hk rfl, dite_ahead _ _ t l k.1 2 1 hk rfl, dite_ahead _ _ t l k.1 1 2 hk rfl,
      last, ahead_zero]
    rfl
  all_goals exact fun i => by pointwise

/-- The input's gradient. -/
theorem result0 (m : (ℓ : Loc nD τ sig) → Buf (Elt Ideal) ℓ) (c : Dev nD) :
    res_main_v87 m c = side fun h => dx (gradV (X (m ((c : Thread nD τ).loc main_arg0)) h) (T (m ((c : Thread nD τ).loc main_arg1)) h)
      (cotOf (m ((c : Thread nD τ).loc main_arg2)) h)) (T (m ((c : Thread nD τ).loc main_arg1)) h) := by
  rw [show res_main_v87 m c = (truncf .bf16 (shapeCast S2048x768 (extractStridedSlice S1x2048x768 ![0, 3, 0]
    (spread (m ((c : Thread nD τ).loc main_arg0)) (m ((c : Thread nD τ).loc main_arg1)) (m ((c : Thread nD τ).loc main_arg2)))
    slices_S1x2051x768_S1x2048x768_0_3_0) shapeCasts_S1x2048x768_S2048x768) bitsLt_bf16_f32 : FVec Ideal S2048x768 .bf16) from rfl]
  refine (side_ext _ _ fun h r l => ?_).symm
  pointwise
  rw [show (⟨128 * h.1 + l.1, by omega⟩ : Fin 768) = ch h l from Fin.ext (by simp only; omega)]
  exact dx_at _ _ _ h r l _ (by simp only; omega)

/-- The weights' gradient. -/
theorem result1 (m : (ℓ : Loc nD τ sig) → Buf (Elt Ideal) ℓ) (c : Dev nD) :
    res_main_v81 m c = side fun h k => dw (gradV (X (m ((c : Thread nD τ).loc main_arg0)) h) (T (m ((c : Thread nD τ).loc main_arg1)) h)
      (cotOf (m ((c : Thread nD τ).loc main_arg2)) h)) (X (m ((c : Thread nD τ).loc main_arg0)) h) (3 - k) := by
  rw [show res_main_v81 m c = stacked (m ((c : Thread nD τ).loc main_arg0)) (m ((c : Thread nD τ).loc main_arg1))
    (m ((c : Thread nD τ).loc main_arg2)) from rfl]
  generalize m ((c : Thread nD τ).loc main_arg0) = P
  generalize m ((c : Thread nD τ).loc main_arg1) = W
  generalize m ((c : Thread nD τ).loc main_arg2) = A
  refine (side_ext _ _ fun h k l => ?_).symm
  have hc : h.1 * 128 + l.1 < 768 := by omega
  rw [show (⟨128 * h.1 + l.1, by omega⟩ : Fin 768) = ch h l from Fin.ext (by simp only; omega)]
  pointwise [stacked, rowSum]
  fin_cases k <;> simp only [sum_front, hc] <;> norm_num
  all_goals
    pointwise
    simp only [tap3, tap2, tap1, tap0, grad_at, dw, back_zero]
    exact Finset.sum_congr rfl fun r _ => mul_comm _ _

end Cert.ConvVRefIdeal.Value

end
-- ==== Proof.Conv.lean ====
/- The convolution's gradients: the kernel and the derivative of the forward lines give the same arrays, for the
   queries, the keys and the values. -/
module

public import proofs.«01_k».proof.Defs
public import proofs.«01_k».proof.Proof.Conv.Q
public import proofs.«01_k».proof.Proof.Conv.QRef
public import proofs.«01_k».proof.Proof.Conv.K
public import proofs.«01_k».proof.Proof.Conv.KRef
public import proofs.«01_k».proof.Proof.Conv.V
public import proofs.«01_k».proof.Proof.Conv.VRef
public import Idealize.ShloMosaic.Lib.Claim

@[expose] public section

set_option maxRecDepth 16384

noncomputable section

namespace Cert.Proof

open Idealize.ShloMosaic Idealize.ShloMosaic.TcCoe Idealize.SL.Sem

theorem algebraic_conv_q : Cert.algebraic_ConvQIdeal_ConvQRefIdeal := by
  pair_intro
  · run_from Cert.ConvQIdeal.Gen.run_main m g
  · run_from Cert.ConvQRefIdeal.Value.run m' g'
    · rw [Cert.ConvQIdeal.Value.final4 m c, ← (hagree c).1, ← (hagree c).2.1, ← (hagree c).2.2.1, ← (hagree c).2.2.2]
      exact (Cert.ConvQRefIdeal.Value.val3_main_v126 _).symm.trans (Cert.ConvQRefIdeal.Value.result0 _)
    · rw [Cert.ConvQIdeal.Value.final5 m c, ← (hagree c).1, ← (hagree c).2.1, ← (hagree c).2.2.1, ← (hagree c).2.2.2]
      exact (Cert.ConvQRefIdeal.Value.val3_main_v120 _).symm.trans (Cert.ConvQRefIdeal.Value.result1 _)

theorem algebraic_conv_k : Cert.algebraic_ConvKIdeal_ConvKRefIdeal := by
  pair_intro
  · run_from Cert.ConvKIdeal.Gen.run_main m g
  · run_from Cert.ConvKRefIdeal.Value.run m' g'
    · rw [Cert.ConvKIdeal.Value.final4 m c, ← (hagree c).1, ← (hagree c).2.1, ← (hagree c).2.2.1, ← (hagree c).2.2.2]
      exact (Cert.ConvKRefIdeal.Value.val3_main_v122 _).symm.trans (Cert.ConvKRefIdeal.Value.result0 _)
    · rw [Cert.ConvKIdeal.Value.final5 m c, ← (hagree c).1, ← (hagree c).2.1, ← (hagree c).2.2.1, ← (hagree c).2.2.2]
      exact (Cert.ConvKRefIdeal.Value.val3_main_v116 _).symm.trans (Cert.ConvKRefIdeal.Value.result1 _)

theorem algebraic_conv_v : Cert.algebraic_ConvVIdeal_ConvVRefIdeal := by
  pair_intro
  · run_from Cert.ConvVIdeal.Gen.run_main m g
  · run_from Cert.ConvVRefIdeal.Value.run m' g'
    · rw [Cert.ConvVIdeal.Value.final3 m c, ← (hagree c).1, ← (hagree c).2.1, ← (hagree c).2.2]
      exact Cert.ConvVRefIdeal.Value.result0 _ _
    · rw [Cert.ConvVIdeal.Value.final4 m c, ← (hagree c).1, ← (hagree c).2.1, ← (hagree c).2.2]
      exact Cert.ConvVRefIdeal.Value.result1 _ _

end Cert.Proof

end
-- ==== Proof.Norm.Value.lean ====
/- The RMS norm's gradient: the block of 512 rows that one grid point computes, and the arrays after the run. -/
module

public import proofs.«01_k».proof.Proof.Arith
public import proofs.«01_k».proof.Proof.Gen.NormIdeal.Frame
public import Idealize.ShloMosaic.Lib.Pipeline.ValueKit

@[expose] public section

set_option maxRecDepth 16384

noncomputable section

namespace Cert.NormIdeal.Value

open Cert.NormIdeal Cert.NormIdeal.Gen Idealize.ShloMosaic Idealize.ShloMosaic.TcCoe Idealize.SL.Sem
open Idealize.ShloMosaic.Pipeline (Dat)

/-! ## One row -/

/-- A row's mean square, with the norm's epsilon. -/
def ms (x : Fin 2048 → EReal) : EReal := Ideal.div (∑ k, x k * x k) (Ideal.ofBits .f32 0x45000000#32) + Ideal.ofBits .f32 0x358637BD#32

/-- What the mean square's gradient gives each entry of the row, up to the entry. -/
def common (x u : Fin 2048 → EReal) : EReal :=
  Ideal.div ((∑ k, x k * u k) * (Ideal.ofBits .f32 0xBF000000#32 * Ideal.div (Ideal.rsqrt (ms x)) (ms x))) (Ideal.ofBits .f32 0x45000000#32)

/-- The row's gradient for the scaled cotangent `u`. -/
def dx (x u : Fin 2048 → EReal) (l : Fin 2048) : EReal := u l * Ideal.rsqrt (ms x) + x l * common x u + common x u * x l

/-- The residual's gradient and the norm's. -/
def total (X : FVec Ideal S2048x2048 .f32) (g : FVec Ideal S2048 .f32) (dh dres : FVec Ideal S2048x2048 .f32) : S2048x2048.Idx → EReal :=
  fun j => dres j + dx (fun k => X (ix2 (j 0) k)) (fun k => dh (ix2 (j 0) k) * g (ix1 k)) (j 1)

/-- One row's part of the scale's gradient, and the gradient. -/
def term (X dh : FVec Ideal S2048x2048 .f32) (r l : Fin 2048) : EReal := X (ix2 r l) * Ideal.rsqrt (ms fun k => X (ix2 r k)) * dh (ix2 r l)

def dg (X dh : FVec Ideal S2048x2048 .f32) (l : Fin 2048) : EReal := ∑ r : Fin 2048, term X dh r l

/-! ## One block -/

theorem root_read (x : FVec Ideal S512x2048 .f32) (r : Fin 512) :
    k0_pay5 (F := Ideal) x (ix2 r 0) = Ideal.rsqrt (ms fun k => x (ix2 r k)) := by
  pointwise [k0_pay5, k0_pay4]
  rfl

theorem total_read (x : FVec Ideal S512x2048 .f32) (g : FVec Ideal S1x2048 .f32) (dh dres : FVec Ideal S512x2048 .f32) (r : Fin 512) (l : Fin 2048) :
    k0_pay7 (F := Ideal) x g dh dres (ix2 r l)
      = dres (ix2 r l) + dx (fun k => x (ix2 r k)) (fun k => dh (ix2 r k) * g (ix2 0 k)) l := by
  pointwise [k0_pay7, k0_pay5, k0_pay4]
  simp only [Finset.univ_unique, Finset.sum_singleton]
  rfl

/-- A block's part of the scale's gradient. -/
def part (x dh : FVec Ideal S512x2048 .f32) (l : Fin 2048) : EReal :=
  ∑ r : Fin 512, x (ix2 r l) * Ideal.rsqrt (ms fun k => x (ix2 r k)) * dh (ix2 r l)

theorem dg_read (x dh : FVec Ideal S512x2048 .f32) (o : Fin 1) (l : Fin 2048) :
    k0_pay6 (F := Ideal) x dh (ix2 o l) = part x dh l := by
  unfold part
  pointwise [k0_pay6]
  simp only [root_read]

/-! ## The arrays -/

variable (m : (ℓ : Loc nD τ sig) → Buf (Elt Ideal) ℓ)

/-- The windows' blocks: block `t` of 512 rows, and the one row of the scale. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- Row `r` of block `t`. -/
abbrev row (t : Fin cfg0.N) (r : Fin 512) : Fin 2048 := ⟨t.1 * 512 + r.1, by have : t.1 < 4 := lt_of_lt_of_eq t.isLt N_0; omega⟩

theorem blocks_read (c : Dev nD) (t : Fin cfg0.N) (r : Fin 512) (l : Fin 2048) :
    iblk m c 0 t (ix2 r l) = m ((c : Thread nD τ).loc main_arg0) (ix2 (row t r) l)
    ∧ iblk m c 2 t (ix2 r l) = m ((c : Thread nD τ).loc main_arg2) (ix2 (row t r) l)
    ∧ iblk m c 3 t (ix2 r l) = m ((c : Thread nD τ).loc main_arg3) (ix2 (row t r) l) := by
  refine ⟨?_, ?_, ?_⟩ <;> blk_ext [iblk, V, idx t]

theorem scale_read (c : Dev nD) (t : Fin cfg0.N) (l : Fin 2048) :
    iblk m c 1 t (ix2 0 l) = m ((c : Thread nD τ).loc main_arg1) (ix1 l) := by
  have e : V m c main_v0 = broadcastInDim S1x2048 ![1] bcast_S2048_S1x2048_1 (m ((c : Thread nD τ).loc main_arg1)) := by
    unfold V; after_results
  refine Eq.trans (b := V m c main_v0 (ix2 0 l)) (by blk_ext [iblk, idx t]) ?_
  rw [e]
  pointwise

theorem total_at (c : Dev nD) (t : Fin cfg0.N) (r : Fin 512) (l : Fin 2048) :
    k0_pay7 (F := Ideal) (iblk m c 0 t) (iblk m c 1 t) (iblk m c 2 t) (iblk m c 3 t) (ix2 r l)
      = total (m ((c : Thread nD τ).loc main_arg0)) (m ((c : Thread nD τ).loc main_arg1)) (m ((c : Thread nD τ).loc main_arg2))
        (m ((c : Thread nD τ).loc main_arg3)) (ix2 (row t r) l) := by
  rw [total_read]
  simp only [blocks_read m c t, scale_read m c t]
  rfl

theorem final4 (c : Dev nD) : (dats m 0 c).arrAt 4 (cfgs 0).N
    = total (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  idx_vars y
  by_cases h : t.val % 4 = 0
  · rw [outsAt0_A m c t h]; frame_out
    refine (total_at m c t y0 y1).trans ?_
    blk_ext [idx t]
  · rw [outsAt0_B m c t h]; frame_out
    refine (total_at m c t y0 y1).trans ?_
    blk_ext [idx t]

theorem final5 (c : Dev nD) : (dats m 0 c).arrAt 5 (cfgs 0).N
    = total (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  idx_vars y
  by_cases h : t.val % 4 = 0
  · rw [outsAt0_A m c t h]; frame_out
    refine (total_at m c t y0 y1).trans ?_
    blk_ext [idx t]
  · rw [outsAt0_B m c t h]; frame_out
    refine (total_at m c t y0 y1).trans ?_
    blk_ext [idx t]

theorem part_at (c : Dev nD) (t : Fin cfg0.N) (l : Fin 2048) :
    part (iblk m c 0 t) (iblk m c 2 t) l
      = ∑ r : Fin 512, term (m ((c : Thread nD τ).loc main_arg0)) (m ((c : Thread nD τ).loc main_arg2)) (row t r) l := by
  unfold part term
  simp only [blocks_read m c t]

theorem final6 (c : Dev nD) (j : S1x2048.Idx) : (dats m 0 c).arrAt 6 (cfgs 0).N j
    = dg (m ((c : Thread nD τ).loc main_arg0)) (m ((c : Thread nD τ).loc main_arg2)) (j 1) := by
  refine congrFun ((dats m 0 c).arrAt_eq_of_after_last 6 t0_3 (by decide +kernel)
    (fun j => dg (m ((c : Thread nD τ).loc main_arg0)) (m ((c : Thread nD τ).loc main_arg2)) (j 1)) fun j => ?_) j
  idx_vars j
  blk_simp
  rw [after0_6, Pipeline.eq_sum_fin_of_reset_step_apply_last (fun n h => (outsAt0 m c n h).2.2) 4 (fun _ => 0)
      (fun t j => part (iblk m c 0 t) (iblk m c 2 t) (j 1))
    (fun t h j => by
      idx_vars j
      rw [outsAt0_A m c t h]; frame_out
      pointwise [k0_pay3, k0_pay2]
      rw [dg_read])
    (fun t h j => by
      idx_vars j
      rw [outsAt0_B m c t h]; frame_out
      pointwise [k0_pay3]
      rw [dg_read])
    (le_of_eq N_0) t0_3 rfl _, zero_add]
  refine (Finset.sum_congr rfl fun t _ => part_at m c t _).trans ?_
  unfold dg
  refine Fin.sum_mul_add_congr fun t k hk => ?_
  rfl

end Cert.NormIdeal.Value

end
-- ==== Proof.Norm.lean ====
/- The RMS norm's gradient: the kernel and the derivative of the forward lines give the same three arrays. -/
module

public import proofs.«01_k».proof.Defs
public import proofs.«01_k».proof.Proof.Norm.Value
public import proofs.«01_k».proof.Proof.Reads
public import proofs.«01_k».proof.Proof.Gen.NormRefIdeal.Run
public import Idealize.ShloMosaic.Lib.Claim

@[expose] public section

set_option maxRecDepth 16384

noncomputable section

namespace Cert.NormRefIdeal.Value

open Cert.Reads Cert.NormRefIdeal Cert.NormRefIdeal.Gen Idealize.ShloMosaic Idealize.ShloMosaic.TcCoe Idealize.SL.Sem
open Cert.NormIdeal.Value (ms common dx total dg)

variable (m : (ℓ : Loc nD τ sig) → Buf (Elt Ideal) ℓ) (c : Dev nD)

theorem result0 : res_main_v40 m c = total (m ((c : Thread nD τ).loc main_arg0)) (m ((c : Thread nD τ).loc main_arg1))
    (m ((c : Thread nD τ).loc main_arg2)) (m ((c : Thread nD τ).loc main_arg3)) := by
  unfold res_main_v40
  generalize m ((c : Thread nD τ).loc main_arg0) = X
  generalize m ((c : Thread nD τ).loc main_arg1) = g
  generalize m ((c : Thread nD τ).loc main_arg2) = dh
  generalize m ((c : Thread nD τ).loc main_arg3) = dres
  funext j
  idx_vars j
  unfold total dx common ms
  pointwise
  simp only [sum_ends]
  pointwise

theorem result1 : res_main_v41 m c = total (m ((c : Thread nD τ).loc main_arg0)) (m ((c : Thread nD τ).loc main_arg1))
    (m ((c : Thread nD τ).loc main_arg2)) (m ((c : Thread nD τ).loc main_arg3)) := by
  rw [← result0]
  rfl

end Cert.NormRefIdeal.Value

namespace Cert.Proof

open Idealize.ShloMosaic Idealize.ShloMosaic.TcCoe Idealize.SL.Sem

theorem algebraic_norm : Cert.algebraic_NormIdeal_NormRefIdeal := by
  pair_intro
  · run_from Cert.NormIdeal.Gen.run_main m g
  · run_from Cert.NormRefIdeal.Value.run m' g'
    · rw [Cert.NormIdeal.Value.final4 m c, ← (hagree c).1, ← (hagree c).2.1, ← (hagree c).2.2.1, ← (hagree c).2.2.2]
      exact Cert.NormRefIdeal.Value.result0 _ _
    · rw [Cert.NormIdeal.Value.final5 m c, ← (hagree c).1, ← (hagree c).2.1, ← (hagree c).2.2.1, ← (hagree c).2.2.2]
      exact Cert.NormRefIdeal.Value.result1 _ _
    · funext j
      idx_vars j
      rw [Cert.NormIdeal.Value.final6 m c, ← (hagree c).1, ← (hagree c).2.2.1]
      unfold Cert.NormIdeal.Value.dg Cert.NormIdeal.Value.term Cert.NormIdeal.Value.ms
      pointwise
      simp only [Reads.sum_front]
      pointwise

end Cert.Proof

end
-- ==== Proof.Swiglu.Value.lean ====
/- The SwiGLU's gradient, fused with the product by `w_down`'s transpose: the block of 512 rows and 1408 channels that one
   grid point computes, and the array after the run. -/
module

public import proofs.«01_k».proof.Proof.Conv.Spec
public import proofs.«01_k».proof.Proof.Gen.SwigluIdeal.Frame
public import Idealize.ShloMosaic.Lib.Pipeline.ValueKit

@[expose] public section

set_option maxRecDepth 16384

noncomputable section

namespace Cert.SwigluIdeal.Value

open Cert.Conv (logi siluGrad_recip)
open Cert.SwigluIdeal Cert.SwigluIdeal.Gen Idealize.ShloMosaic Idealize.ShloMosaic.TcCoe Idealize.SL.Sem
open Idealize.ShloMosaic.Pipeline (Dat)

/-! ## One entry -/

/-- The gradients of gate `z` (plane 0) and up-projection `u` (plane 1), for the cotangent `a` of their SwiGLU. -/
def pair (p : Fin 2) (z u a : EReal) : EReal :=
  if p = 0 then a * u * logi z + z * (a * u) * (logi z * (1 - logi z)) else z * logi z * a

/-- A row's cotangent times a row of `w_down`. -/
def dot (x w : Fin 2048 → EReal) : EReal := ∑ k, x k * w k

/-- The gradient, from the projection's output `P`, `w_down` and the cotangent. -/
def grad (P : FVec Ideal S1x2048x11264 .f32) (W : FVec Ideal S5632x2048 .f32) (X : FVec Ideal S2048x2048 .f32) : S2x2048x5632.Idx → EReal :=
  fun j => pair (j 0) (P (ix3 0 (j 1) ⟨(j 2 : ℕ), lt_trans (show (j 2 : ℕ) < 5632 from (j 2).2) (by norm_num)⟩)) (P (ix3 0 (j 1) ⟨5632 + (j 2 : ℕ), by have : (j 2 : ℕ) < 5632 := (j 2).2; omega⟩))
    (dot (fun k => X (ix2 (j 1) k)) (fun k => W (ix2 (j 2) k)))

theorem grad_at (P : FVec Ideal S1x2048x11264 .f32) (W : FVec Ideal S5632x2048 .f32) (X : FVec Ideal S2048x2048 .f32)
    (p : Fin 2) (r : Fin 2048) (l : Fin 5632) :
    grad P W X (ix3 p r l) = pair p (P (ix3 0 r ⟨l.1, by omega⟩)) (P (ix3 0 r ⟨5632 + l.1, by omega⟩))
      (dot (fun k => X (ix2 r k)) (fun k => W (ix2 l k))) := rfl

/-! ## One block -/

theorem prod_read (x : FVec Ideal S512x2048 .bf16) (w : FVec Ideal S1x1408x2048 .bf16) (r : Fin 512) (l : Fin 1408) :
    k0_pay3 (F := Ideal) x w (ix2 r l) = dot (fun k => x (ix2 r k)) (fun k => w (ix3 0 l k)) := by
  unfold dot
  pointwise [k0_pay3]

theorem up_read (x : FVec Ideal S512x2048 .bf16) (w : FVec Ideal S1x1408x2048 .bf16) (g : FVec Ideal S1x512x1408 .bf16)
    (r : Fin 512) (l : Fin 1408) :
    k0_pay2 (F := Ideal) (k0_pay8 x w g) (ix3 0 r l)
      = g (ix3 0 r l) * logi (g (ix3 0 r l)) * dot (fun k => x (ix2 r k)) (fun k => w (ix3 0 l k)) := by
  pointwise [k0_pay2, k0_pay8, k0_pay7, k0_pay6, k0_pay5, k0_pay4]
  rw [prod_read]
  unfold logi
  simp only [zero_sub]

theorem gate_read (x : FVec Ideal S512x2048 .bf16) (w : FVec Ideal S1x1408x2048 .bf16) (g u : FVec Ideal S1x512x1408 .bf16)
    (r : Fin 512) (l : Fin 1408) :
    k0_pay1 (F := Ideal) (k0_pay9 x w g u) (ix3 0 r l)
      = dot (fun k => x (ix2 r k)) (fun k => w (ix3 0 l k)) * u (ix3 0 r l) * logi (g (ix3 0 r l))
        + g (ix3 0 r l) * (dot (fun k => x (ix2 r k)) (fun k => w (ix3 0 l k)) * u (ix3 0 r l))
          * (logi (g (ix3 0 r l)) * (1 - logi (g (ix3 0 r l)))) := by
  rw [← siluGrad_recip]
  pointwise [k0_pay1, k0_pay9, k0_pay7, k0_pay6, k0_pay5, k0_pay4]
  simp only [prod_read, logi, zero_sub, mul_one]

theorem plane_loads (g : FVec Ideal S2x512x1408 .bf16) (r : Fin 512) (l : Fin 1408) :
    View.ld (Val := Elt Ideal) (S := S2x512x1408) (e' := .bf16) g r0_2 (ix3 0 r l) = g (ix3 0 r l) ∧ View.ld (Val := Elt Ideal) (S := S2x512x1408) (e' := .bf16) g r0_3 (ix3 0 r l) = g (ix3 1 r l) := by
  constructor
  · exact View.ld_unit_apply_of (Val := Elt Ideal) (S := S2x512x1408) (e := .bf16) g _ _ _ _ _ fun (a : Fin 3) => match a with
      | 0 => rfl | 1 => (Nat.zero_add _).symm | 2 => (Nat.zero_add _).symm
  · exact View.ld_unit_apply_of (Val := Elt Ideal) (S := S2x512x1408) (e := .bf16) g _ _ _ _ _ fun (a : Fin 3) => match a with
      | 0 => rfl | 1 => (Nat.zero_add _).symm | 2 => (Nat.zero_add _).symm

theorem whole_loads (x : FVec Ideal S512x2048 .bf16) (w : FVec Ideal S1x1408x2048 .bf16) :
    View.ld (Val := Elt Ideal) (S := S512x2048) (e' := .bf16) x r0_0 = x ∧ View.ld (Val := Elt Ideal) (S := S1x1408x2048) (e' := .bf16) w r0_1 = w := by
  refine ⟨?_, ?_⟩ <;> frame_out

theorem out_read (x : FVec Ideal S512x2048 .bf16) (w : FVec Ideal S1x1408x2048 .bf16) (g : FVec Ideal S2x512x1408 .bf16)
    (p : Fin 2) (r : Fin 512) (l : Fin 1408) :
    out0_3 (F := Ideal) x w g (ix3 p r l)
      = pair p (g (ix3 0 r l)) (g (ix3 1 r l)) (dot (fun k => x (ix2 r k)) (fun k => w (ix3 0 l k))) := by
  unfold out0_3
  canon_tiles y h
  all_goals
    idx_vars y
    obtain rfl : r = y1 := Fin.ext h1
    obtain rfl : l = y2 := Fin.ext h2
    obtain rfl : y0 = 0 := Subsingleton.elim _ _
  · obtain rfl : p = 1 := Fin.ext h0
    refine (up_read _ _ _ r l).trans ?_
    rw [(plane_loads g r l).1, (whole_loads x w).1, (whole_loads x w).2]
    exact (if_neg (by decide)).symm
  · obtain rfl : p = 0 := Fin.ext h0
    refine (gate_read _ _ _ _ r l).trans ?_
    rw [(plane_loads g r l).1, (plane_loads g r l).2, (whole_loads x w).1, (whole_loads x w).2]
    exact (if_pos rfl).symm

/-! ## The array -/

variable (m : (ℓ : Loc nD τ sig) → Buf (Elt Ideal) ℓ)

/-- The windows' blocks: point `4 * j + i` has the block of rows `i` and the block of channels `j`. -/
theorem idx : ∀ t : Fin cfg0.N, win0_0.index t = ![t.val % 4, 0] ∧ win0_1.index t = ![0, t.val / 4, 0]
    ∧ win0_2.index t = ![0, t.val % 4, t.val / 4] ∧ win0_3.index t = ![0, t.val % 4, t.val / 4] :=
  (by decide +kernel : ∀ t : Fin grid0.N, _)

abbrev row (t : Fin cfg0.N) (r : Fin 512) : Fin 2048 := ⟨t.1 % 4 * 512 + r.1, by omega⟩

abbrev col (t : Fin cfg0.N) (l : Fin 1408) : Fin 5632 := ⟨t.1 / 4 * 1408 + l.1, by have : t.1 < 16 := lt_of_lt_of_eq t.isLt N_0; omega⟩

theorem x_read (c : Dev nD) (t : Fin cfg0.N) (r : Fin 512) (k : Fin 2048) :
    iblk m c 0 t (ix2 r k) = m ((c : Thread nD τ).loc main_arg2) (ix2 (row t r) k) := by
  have e : V m c main_v4 = truncf (F := Ideal) .bf16 (m ((c : Thread nD τ).loc main_arg2)) bitsLt_bf16_f32 := by
    unfold V; after_results
  refine Eq.trans (b := V m c main_v4 (ix2 (row t r) k)) (by blk_ext [iblk, idx t]) ?_
  rw [e]
  pointwise

theorem w_read (c : Dev nD) (t : Fin cfg0.N) (l : Fin 1408) (k : Fin 2048) :
    iblk m c 1 t (ix3 0 l k) = m ((c : Thread nD τ).loc main_arg1) (ix2 (col t l) k) := by
  have e : V m c main_v6 = broadcastInDim S1x5632x2048 ![1, 2] bcast_S5632x2048_S1x5632x2048_1_2
      (truncf (F := Ideal) .bf16 (m ((c : Thread nD τ).loc main_arg1)) bitsLt_bf16_f32) := by
    unfold V; after_results
  refine Eq.trans (b := V m c main_v6 (ix3 0 (col t l) k)) (by blk_ext [iblk, idx t]) ?_
  rw [e]
  pointwise

/-- The two halves of the projection's columns as two planes. -/
theorem planes_read (G : FVec Ideal S1x2048x11264 .bf16) (p : Fin 2) (r : Fin 2048) (l : Fin 5632) :
    transpose S2x2048x5632 [1, 0, 2] (shapeCast S2048x2x5632 (shapeCast S2048x11264 G shapeCasts_S1x2048x11264_S2048x11264)
      shapeCasts_S2048x11264_S2048x2x5632) transposes_S2048x2x5632_S2x2048x5632_1_0_2 (ix3 p r l)
      = G (ix3 0 r ⟨p.1 * 5632 + l.1, by omega⟩) := by
  pointwise

theorem gu_read (c : Dev nD) (t : Fin cfg0.N) (p : Fin 2) (r : Fin 512) (l : Fin 1408) :
    iblk m c 2 t (ix3 p r l) = m ((c : Thread nD τ).loc main_arg0) (ix3 0 (row t r) ⟨p.1 * 5632 + (col t l).1, by omega⟩) := by
  have e : V m c main_v3 = transpose S2x2048x5632 [1, 0, 2] (shapeCast S2048x2x5632 (shapeCast S2048x11264
      (truncf (F := Ideal) .bf16 (m ((c : Thread nD τ).loc main_arg0)) bitsLt_bf16_f32) shapeCasts_S1x2048x11264_S2048x11264) shapeCasts_S2048x11264_S2048x2x5632)
      transposes_S2048x2x5632_S2x2048x5632_1_0_2 := by
    unfold V; after_results; rfl
  refine Eq.trans (b := V m c main_v3 (ix3 p (row t r) (col t l))) (by blk_ext [iblk, idx t]) ?_
  rw [e, planes_read]
  rfl

theorem point (c : Dev nD) (t : Fin cfg0.N) (p : Fin 2) (r : Fin 512) (l : Fin 1408) :
    pair p (iblk m c 2 t (ix3 0 r l)) (iblk m c 2 t (ix3 1 r l)) (dot (fun k => iblk m c 0 t (ix2 r k)) (fun k => iblk m c 1 t (ix3 0 l k)))
      = grad (m ((c : Thread nD τ).loc main_arg0)) (m ((c : Thread nD τ).loc main_arg1)) (m ((c : Thread nD τ).loc main_arg2))
        (ix3 p (row t r) (col t l)) := by
  simp only [gu_read, x_read, w_read]
  refine Eq.trans ?_ (grad_at _ _ _ p (row t r) (col t l)).symm
  simp only [Fin.val_zero, Fin.val_one, zero_mul, one_mul, zero_add]

theorem final3 (c : Dev nD) : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  refine (out_read _ _ _ y0 y1 y2).trans ?_
  refine Eq.trans (b := grad (m ((c : Thread nD τ).loc main_arg0)) (m ((c : Thread nD τ).loc main_arg1))
    (m ((c : Thread nD τ).loc main_arg2)) (ix3 y0 (row t y1) (col t y2))) ?_ (by blk_ext [idx t])
  exact point m c t y0 y1 y2

end Cert.SwigluIdeal.Value

end
-- ==== Proof.Swiglu.lean ====
/- The SwiGLU's gradient: the kernel and the derivative of the forward lines give the same array. -/
module

public import proofs.«01_k».proof.Defs
public import proofs.«01_k».proof.Proof.Swiglu.Value
public import proofs.«01_k».proof.Proof.Gen.SwigluRefIdeal.Run
public import Idealize.ShloMosaic.Lib.Claim

@[expose] public section

set_option maxRecDepth 16384

noncomputable section

namespace Cert.SwigluRefIdeal.Value

open Cert.SwigluRefIdeal Cert.SwigluRefIdeal.Gen Idealize.ShloMosaic Idealize.ShloMosaic.TcCoe Idealize.SL.Sem
open Cert.SwigluIdeal.Value (pair dot grad grad_at)

theorem pick {n : ℕ} (A B : Fin n → EReal) (p : Fin 2) (l : Fin n) :
    (if h : p.1 * n + l.1 < n then A ⟨p.1 * n + l.1, h⟩ else B ⟨p.1 * n + l.1 - n, by
      have h1 : p.1 * n ≤ 1 * n := Nat.mul_le_mul_right n (by omega)
      have := l.2
      omega⟩) = if p = 0 then A l else B l := by
  have hl := l.2
  rcases (show p = 0 ∨ p = 1 by omega) with rfl | rfl
  · rw [if_pos rfl, dif_pos (by simp)]
    exact congrArg A (Fin.ext (by simp))
  · rw [if_neg (by decide), dif_neg (by simp)]
    exact congrArg B (Fin.ext (by simp))

/-- Two planes from the two halves of the columns. -/
theorem planes_read (A B : FVec Ideal S1x2048x5632 .f32) (p : Fin 2) (r : Fin 2048) (l : Fin 5632) :
    truncf .bf16 (transpose S2x2048x5632 [1, 0, 2] (shapeCast S2048x2x5632 (shapeCast S2048x11264
      (concatenate S1x2048x11264 2 [⟨S1x2048x5632, A⟩, ⟨S1x2048x5632, B⟩] concatenates_S1x2048x5632_S1x2048x5632_S1x2048x11264_d2)
      shapeCasts_S1x2048x11264_S2048x11264) shapeCasts_S2048x11264_S2048x2x5632) transposes_S2048x2x5632_S2x2048x5632_1_0_2)
      bitsLt_bf16_f32 (ix3 p r l) = if p = 0 then A (ix3 0 r l) else B (ix3 0 r l) := by
  pointwise
  exact pick (fun k => A (ix3 0 r k)) (fun k => B (ix3 0 r k)) p l

end Cert.SwigluRefIdeal.Value

namespace Cert.Proof

open Idealize.ShloMosaic Idealize.ShloMosaic.TcCoe Idealize.SL.Sem

theorem algebraic_swiglu : Cert.algebraic_SwigluIdeal_SwigluRefIdeal := by
  pair_intro
  · run_from Cert.SwigluIdeal.Gen.run_main m g
  · run_from Cert.SwigluRefIdeal.Value.run m' g'
    funext j
    idx_vars j
    rw [Cert.SwigluIdeal.Value.final3 m c, ← (hagree c).1, ← (hagree c).2.1, ← (hagree c).2.2, Cert.SwigluIdeal.Value.grad_at]
    refine (Cert.SwigluRefIdeal.Value.planes_read _ _ j0 j1 j2).trans ?_
    unfold Cert.SwigluIdeal.Value.pair Cert.Conv.logi
    unfold Cert.SwigluIdeal.Value.dot
    generalize m' ((c.tc : Thread _ _).loc Cert.SwigluRefIdeal.main_arg0) = P
    generalize m' ((c.tc : Thread _ _).loc Cert.SwigluRefIdeal.main_arg1) = W
    generalize m' ((c.tc : Thread _ _).loc Cert.SwigluRefIdeal.main_arg2) = X
    split_ifs
    · pointwise
    · pointwise

end Cert.Proof

end
-- ==== Proof.Sgu.Spec.lean ====
/- The gradient of the spatial gating unit, for one group of 128 channels: plain functions of the group's rows. -/
module

public import proofs.«01_k».proof.Proof.Arith

@[expose] public section

noncomputable section

namespace Cert.Sgu

open Idealize.ShloMosaic

/-- A group's 2048 rows of 128 channels. -/
abbrev Rows := Fin 2048 → Fin 128 → EReal

/-! ## GELU and its gradient -/

def th (x : EReal) : EReal := Ideal.tanh (Ideal.ofBits .f32 0x3F4C422A#32 * (x + Ideal.ofBits .f32 0x3D372713#32 * (x * x * x)))

def gelu (x : EReal) : EReal := Ideal.ofBits .f32 0x3F000000#32 * x * (1 + th x)

/-- What the hyperbolic tangent's gradient gives, for the cotangent `d`. -/
def geluInner (x d : EReal) : EReal :=
  Ideal.ofBits .f32 0x3F4C422A#32 * (Ideal.ofBits .f32 0x3F000000#32 * x * d
    * ((1 + th x) * (1 - th x)))

def cube (x d : EReal) : EReal := Ideal.ofBits .f32 0x3D372713#32 * geluInner x d

def geluGrad (x d : EReal) : EReal :=
  geluInner x d + x * x * cube x d + x * (cube x d * x) + cube x d * x * x
    + Ideal.ofBits .f32 0x3F000000#32 * (d * (1 + th x))

theorem three : Ideal.ofBits .f32 0x40400000#32 = ((3 : ℝ) : EReal) := by
  simp [Ideal.ofBits, Ideal.ieee, -EReal.coe_mul]; norm_num

/-- Three times anything is its sum with itself and itself. -/
theorem three_mul (t : EReal) : ((3 : ℝ) : EReal) * t = t + t + t := by
  rw [show (3 : ℝ) = 1 + 1 + 1 by norm_num, EReal.coe_add, EReal.coe_add,
    EReal.right_distrib_of_nonneg (by norm_num) (by norm_num), EReal.right_distrib_of_nonneg (by norm_num) (by norm_num)]
  simp

/-- The cube's gradient as one term: three times the square. -/
theorem geluGrad_eq (x d : EReal) : geluGrad x d
    = d * (Ideal.ofBits .f32 0x3F000000#32 * (1 + th x)) + geluInner x d
      + cube x d * (Ideal.ofBits .f32 0x40400000#32 * (x * x)) := by
  rw [three, show cube x d * (((3 : ℝ) : EReal) * (x * x)) = ((3 : ℝ) : EReal) * (x * x * cube x d) by ac_rfl, three_mul]
  unfold geluGrad
  rw [show x * (cube x d * x) = x * x * cube x d by ac_rfl, show cube x d * x * x = x * x * cube x d by ac_rfl,
    show Ideal.ofBits .f32 0x3F000000#32 * (d * (1 + th x))
      = d * (Ideal.ofBits .f32 0x3F000000#32 * (1 + th x)) by ac_rfl]
  ac_rfl

/-! ## The norm over the group's channels -/

def ms (y : Fin 128 → EReal) : EReal := Ideal.div (∑ k, y k * y k) (Ideal.ofBits .f32 0x43000000#32) + Ideal.ofBits .f32 0x358637BD#32

def common (y u : Fin 128 → EReal) : EReal :=
  Ideal.div ((∑ k, y k * u k) * (Ideal.ofBits .f32 0xBF000000#32 * Ideal.div (Ideal.rsqrt (ms y)) (ms y))) (Ideal.ofBits .f32 0x43000000#32)

def normGrad (y u : Fin 128 → EReal) (l : Fin 128) : EReal := u l * Ideal.rsqrt (ms y) + y l * common y u + common y u * y l

/-! ## The gate -/

/-- Row `i` of chunk `c`. -/
abbrev row (c : Fin 16) (i : Fin 128) : Fin 2048 := ⟨c.1 * 128 + i.1, by omega⟩

/-- The chunk and the place in it of a row. -/
abbrev chunk (r : Fin 2048) : Fin 16 := ⟨r.1 / 128, by omega⟩

abbrev place (r : Fin 2048) : Fin 128 := ⟨r.1 % 128, by omega⟩

variable (U V : Rows) (sg : Fin 128 → EReal) (w : Fin 128 → Fin 128 → EReal) (b : Fin 128 → EReal) (dy : Rows)

/-- The activated rows, normed, and scaled. -/
def act (r : Fin 2048) (l : Fin 128) : EReal := gelu (V r l)

def normed (r : Fin 2048) (l : Fin 128) : EReal := act V r l * Ideal.rsqrt (ms (act V r))

def scaled (r : Fin 2048) (l : Fin 128) : EReal := normed V r l * sg l

/-- The mixing weights: a row sees itself and the rows before it. -/
def mix (i j : Fin 128) : EReal := if j.1 ≤ i.1 then w i j else 0

/-- The gate. -/
def gate (r : Fin 2048) (l : Fin 128) : EReal := (∑ j, mix w (place r) j * scaled V sg (row (chunk r) j) l) + b (place r)

/-- The gate's cotangent, and through the mixing the scaled rows'. -/
def dgate (r : Fin 2048) (l : Fin 128) : EReal := act U r l * dy r l

def dscaled (r : Fin 2048) (l : Fin 128) : EReal := ∑ i, mix w i (place r) * dgate U dy (row (chunk r) i) l

/-! ## The five gradients -/

def du (r : Fin 2048) (l : Fin 128) : EReal := geluGrad (U r l) (dy r l * gate V sg w b r l)

def dv (r : Fin 2048) (l : Fin 128) : EReal := geluGrad (V r l) (normGrad (act V r) (fun k => dscaled U w dy r k * sg k) l)

def dsg (l : Fin 128) : EReal := ∑ r : Fin 2048, normed V r l * dscaled U w dy r l

def dw (i j : Fin 128) : EReal :=
  if j.1 ≤ i.1 then ∑ c : Fin 16, ∑ d : Fin 128, dgate U dy (row c i) d * scaled V sg (row c j) d else 0

def db (i : Fin 128) : EReal := ∑ c : Fin 16, ∑ d : Fin 128, dgate U dy (row c i) d

/-! ## Four groups side by side -/

/-- The array of four groups' rows. -/
def groups (F : Fin 4 → Rows) : (⟨2, ![2048, 512]⟩ : Shape).Idx → EReal :=
  fun j => F ⟨(j 1 : ℕ) / 128, Nat.div_lt_of_lt_mul (j 1).2⟩ (j 0) ⟨(j 1 : ℕ) % 128, Nat.mod_lt _ (by norm_num)⟩

theorem groups_at (F : Fin 4 → Rows) (j : (⟨2, ![2048, 512]⟩ : Shape).Idx) (g : Fin 4) (r : Fin 2048) (l : Fin 128)
    (h0 : (j 0 : ℕ) = r.1) (h1 : (j 1 : ℕ) = 128 * g.1 + l.1) : groups F j = F g r l := by
  have e0 : j 0 = r := Fin.ext h0
  have e1 : (⟨(j 1 : ℕ) / 128, Nat.div_lt_of_lt_mul (j 1).2⟩ : Fin 4) = g := Fin.ext (by simp only [h1]; omega)
  have e2 : (⟨(j 1 : ℕ) % 128, Nat.mod_lt _ (by norm_num)⟩ : Fin 128) = l := Fin.ext (by simp only [h1]; omega)
  show F _ _ _ = F _ _ _
  rw [e0, e1, e2]

/-- An array of four groups is known from each group's rows. -/
theorem groups_ext (F : Fin 4 → Rows) (G : (⟨2, ![2048, 512]⟩ : Shape).Idx → EReal)
    (e : ∀ (g : Fin 4) (r : Fin 2048) (l : Fin 128), G (ix2 r ⟨128 * g.1 + l.1, by omega⟩) = F g r l) : groups F = G := by
  funext j
  have h1 : (j 1 : ℕ) < 512 := (j 1).2
  have hj : j = ix2 (j 0) ⟨128 * ((j 1 : ℕ) / 128) + (j 1 : ℕ) % 128, by omega⟩ := by
    funext a
    fin_cases a
    · rfl
    · exact Fin.ext (by show (j 1 : ℕ) = 128 * ((j 1 : ℕ) / 128) + (j 1 : ℕ) % 128; omega)
  exact (groups_at F j ⟨(j 1 : ℕ) / 128, by omega⟩ (j 0) ⟨(j 1 : ℕ) % 128, by omega⟩ rfl (by simp only; omega)).trans
    ((e _ _ _).symm.trans (congrArg G hj.symm))

/-! ## A group's part of the arguments -/

/-- The group's rows of the projection's output: `k` is 0 for the gated half, 1 for the gating one. -/
def part (k : Fin 2) (P : FVec Ideal ⟨3, ![1, 2048, 6412]⟩ .f32) (g : Fin 4) : Rows :=
  fun r l => P (ix3 0 r ⟨512 * k.1 + 128 * g.1 + l.1, by omega⟩)

def scaleOf (s : FVec Ideal ⟨2, ![4, 128]⟩ .f32) (g : Fin 4) : Fin 128 → EReal := fun l => s (ix2 g l)

def weightsOf (w : FVec Ideal ⟨3, ![4, 128, 128]⟩ .f32) (g : Fin 4) : Fin 128 → Fin 128 → EReal := fun i j => w (ix3 g i j)

def cotOf (d : FVec Ideal ⟨2, ![2048, 2048]⟩ .f32) (g : Fin 4) : Rows := fun r l => d (ix2 r ⟨128 * g.1 + l.1, by omega⟩)

/-! ## The five results -/

section

variable (P : FVec Ideal ⟨3, ![1, 2048, 6412]⟩ .f32) (s : FVec Ideal ⟨2, ![4, 128]⟩ .f32) (w : FVec Ideal ⟨3, ![4, 128, 128]⟩ .f32)
  (b : FVec Ideal ⟨2, ![4, 128]⟩ .f32) (d : FVec Ideal ⟨2, ![2048, 2048]⟩ .f32)

def DU : (⟨2, ![2048, 512]⟩ : Shape).Idx → EReal :=
  groups fun g => du (part 0 P g) (part 1 P g) (scaleOf s g) (weightsOf w g) (scaleOf b g) (cotOf d g)

def DV : (⟨2, ![2048, 512]⟩ : Shape).Idx → EReal :=
  groups fun g => dv (part 0 P g) (part 1 P g) (scaleOf s g) (weightsOf w g) (cotOf d g)

def DSG : (⟨3, ![4, 1, 128]⟩ : Shape).Idx → EReal :=
  fun j => dsg (part 0 P (j 0)) (part 1 P (j 0)) (weightsOf w (j 0)) (cotOf d (j 0)) (j 2)

def DW : (⟨3, ![4, 128, 128]⟩ : Shape).Idx → EReal :=
  fun j => dw (part 0 P (j 0)) (part 1 P (j 0)) (scaleOf s (j 0)) (cotOf d (j 0)) (j 1) (j 2)

def DB : (⟨3, ![4, 128, 1]⟩ : Shape).Idx → EReal := fun j => db (part 0 P (j 0)) (cotOf d (j 0)) (j 1)

end

end Cert.Sgu

end
-- ==== Proof.Sgu.Value.lean ====
/- The gradient of the spatial gating unit: one group's block, and the arrays after the run. -/
module

public import proofs.«01_k».proof.Proof.Columns
public import proofs.«01_k».proof.Proof.Reads
public import proofs.«01_k».proof.Proof.Sgu.Spec
public import proofs.«01_k».proof.Proof.Gen.SguIdeal.Frame
public import Idealize.ShloMosaic.Lib.Pipeline.ValueKit

@[expose] public section

set_option maxRecDepth 16384

noncomputable section

namespace Cert.SguIdeal.Value

open Cert.Sgu Cert.Columns Cert.Reads Cert.SguIdeal Cert.SguIdeal.Gen Idealize.ShloMosaic Idealize.ShloMosaic.TcCoe Idealize.SL.Sem

/-! ## One group's block -/

def rows (x : FVec Ideal S2048x128 .f32) : Rows := fun t l => x (ix2 t l)

def scale (x : FVec Ideal S1x1x128 .f32) : Fin 128 → EReal := fun l => x (ix3 0 0 l)

def weights (x : FVec Ideal S1x128x128 .f32) : Fin 128 → Fin 128 → EReal := fun i j => x (ix3 0 i j)

def bias (x : FVec Ideal S1x128x1 .f32) : Fin 128 → EReal := fun i => x (ix3 0 i 0)

variable (x0 x1 : FVec Ideal S2048x128 .f32) (x2 : FVec Ideal S1x1x128 .f32) (x3 : FVec Ideal S1x128x128 .f32)
  (x4 : FVec Ideal S1x128x1 .f32) (x5 : FVec Ideal S2048x128 .f32)

theorem ld2 {e : EltTy} (x : Vec Ideal S2048x128 e) : View.ld x r0_0 = x := by frame_out

theorem actu_read (r : Fin 2048) (l : Fin 128) : k0_pay16 (F := Ideal) x0 (ix2 r l) = act (rows x0) r l := by
  pointwise [k0_pay16, k0_pay15, k0_pay13, k0_pay12, k0_pay11, k0_pay6]
  rfl

theorem actv_read (r : Fin 2048) (l : Fin 128) :
    k0_pay23 (F := Ideal) (k0_pay17 x1) (k0_pay19 x1) (ix2 r l) = act (rows x1) r l := by
  pointwise [k0_pay23, k0_pay22, k0_pay20, k0_pay17, k0_pay19, k0_pay18, k0_pay7]
  rfl

theorem ms_read (r : Fin 2048) :
    k0_pay24 (F := Ideal) (k0_pay17 x1) (k0_pay19 x1) (ix2 r 0) = ms (act (rows x1) r) := by
  pointwise [k0_pay24]
  simp only [actv_read]
  rfl

theorem normed_read (r : Fin 2048) (l : Fin 128) :
    k0_pay27 (F := Ideal) (k0_pay17 x1) (k0_pay19 x1) (ix2 r l) = normed (rows x1) r l := by
  pointwise [k0_pay27, k0_pay25]
  simp only [actv_read, ms_read]
  rfl

theorem mix_read (c : Fin 16) (i j : Fin 128) : k0_pay29 (F := Ideal) (k0_pay9 x3) (ix3 c i j) = mix (weights x3) i j := by
  pointwise [k0_pay29, k0_pay28, k0_pay9]
  unfold mix weights
  word_cmp

theorem scaled_read (c : Fin 16) (i : Fin 128) (l : Fin 128) :
    k0_pay30 (F := Ideal) (k0_pay8 x2) (k0_pay17 x1) (k0_pay19 x1) (ix3 c i l) = scaled (rows x1) (scale x2) (row c i) l := by
  pointwise [k0_pay30, k0_pay8]
  simp only [normed_read]
  rfl

theorem dgate_read (c : Fin 16) (i l : Fin 128) :
    k0_pay32 (F := Ideal) (k0_pay16 x0) x5 (ix3 c i l) = dgate (rows x0) (rows x5) (row c i) l := by
  pointwise [k0_pay32]
  simp only [actu_read]
  rfl

theorem gate_read (r : Fin 2048) (l : Fin 128) :
    k0_pay31 (F := Ideal) (k0_pay8 x2) (k0_pay9 x3) (k0_pay10 x4) (k0_pay17 x1) (k0_pay19 x1) x5 (ix2 r l)
      = rows x5 r l * gate (rows x1) (scale x2) (weights x3) (bias x4) r l := by
  pointwise [k0_pay31, k0_pay10]
  simp only [mix_read, scaled_read]
  rfl

theorem db_read (i : Fin 128) : k0_pay34 (F := Ideal) (k0_pay33 (k0_pay16 x0) x5) (ix2 i 0) = db (rows x0) (rows x5) i := by
  pointwise [k0_pay34, k0_pay33]
  rw [reduce_ends]
  simp only [Fin.sum_univ_one]
  pointwise
  rw [reduce_ends]
  simp only [dgate_read]
  rfl

theorem dscaled_read (r : Fin 2048) (l : Fin 128) :
    k0_pay35 (F := Ideal) (k0_pay29 (k0_pay9 x3)) (k0_pay32 (k0_pay16 x0) x5) (ix2 r l)
      = dscaled (rows x0) (weights x3) (rows x5) r l := by
  pointwise [k0_pay35]
  simp only [mix_read, dgate_read]
  rfl

theorem dw_read (i j : Fin 128) :
    k0_pay36 (F := Ideal) k0_pay28 (k0_pay30 (k0_pay8 x2) (k0_pay17 x1) (k0_pay19 x1)) (k0_pay32 (k0_pay16 x0) x5) (ix2 i j)
      = dw (rows x0) (rows x1) (scale x2) (rows x5) i j := by
  pointwise [k0_pay36, k0_pay28]
  simp only [scaled_read, dgate_read, Fin.sum_univ_one]
  unfold dw
  word_cmp

theorem dsg_read (l : Fin 128) :
    k0_pay37 (F := Ideal) (k0_pay27 (k0_pay17 x1) (k0_pay19 x1)) (k0_pay29 (k0_pay9 x3)) (k0_pay32 (k0_pay16 x0) x5) (ix2 0 l)
      = dsg (rows x0) (rows x1) (weights x3) (rows x5) l := by
  pointwise [k0_pay37]
  simp only [normed_read, dscaled_read]
  rfl

theorem norm_read (r : Fin 2048) (l : Fin 128) :
    k0_pay38 (F := Ideal) (k0_pay8 x2) (k0_pay23 (k0_pay17 x1) (k0_pay19 x1)) (k0_pay25 (k0_pay17 x1) (k0_pay19 x1))
      (k0_pay26 (k0_pay17 x1) (k0_pay19 x1)) (k0_pay29 (k0_pay9 x3)) (k0_pay32 (k0_pay16 x0) x5) (ix2 r l)
      = normGrad (act (rows x1) r) (fun k => dscaled (rows x0) (weights x3) (rows x5) r k * scale x2 k) l := by
  pointwise [k0_pay38, k0_pay26, k0_pay25, k0_pay8]
  simp only [dscaled_read, actv_read, Fin.sum_univ_one, ms_read]
  rfl

theorem out6_read (r : Fin 2048) (l : Fin 128) : out0_6 (F := Ideal) x0 x1 x2 x3 x4 x5 (ix2 r l)
    = du (rows x0) (rows x1) (scale x2) (weights x3) (bias x4) (rows x5) r l := by
  unfold_out out0_6
  frame_out
  pointwise [k0_pay1, k0_pay11, k0_pay12, k0_pay14, k0_pay15, k0_pay13, k0_pay6]
  simp only [gate_read]
  rfl

theorem out7_read (r : Fin 2048) (l : Fin 128) : out0_7 (F := Ideal) x0 x1 x2 x3 x4 x5 (ix2 r l)
    = dv (rows x0) (rows x1) (scale x2) (weights x3) (rows x5) r l := by
  unfold_out out0_7
  frame_out
  pointwise [k0_pay2, k0_pay39, k0_pay40, k0_pay41]
  simp only [norm_read]
  pointwise [k0_pay22, k0_pay21, k0_pay20, k0_pay17, k0_pay19, k0_pay18, k0_pay7]
  rfl

theorem out8_read (l : Fin 128) : out0_8 (F := Ideal) x0 x1 x2 x3 x4 x5 (ix3 0 0 l)
    = dsg (rows x0) (rows x1) (weights x3) (rows x5) l := by
  unfold_out out0_8
  frame_out
  pointwise [k0_pay3]
  rw [dsg_read]

theorem out9_read (i j : Fin 128) : out0_9 (F := Ideal) x0 x1 x2 x3 x4 x5 (ix3 0 i j)
    = dw (rows x0) (rows x1) (scale x2) (rows x5) i j := by
  unfold_out out0_9
  frame_out
  pointwise [k0_pay4]
  rw [dw_read]

theorem out10_read (i : Fin 128) : out0_10 (F := Ideal) x0 x1 x2 x3 x4 x5 (ix3 0 i 0) = db (rows x0) (rows x5) i := by
  unfold_out out0_10
  frame_out
  pointwise [k0_pay5]
  rw [db_read]

/-! ## The arrays -/

section

variable (m : (ℓ : Loc nD τ sig) → Buf (Elt Ideal) ℓ)

/-- The windows' blocks: grid point `t` has group `t`. -/
theorem idx : ∀ t : Fin cfg0.N, win0_0.index t = ![0, t.val] ∧ win0_1.index t = ![0, 4 + t.val] ∧ win0_2.index t = ![t.val, 0, 0]
    ∧ win0_3.index t = ![t.val, 0, 0] ∧ win0_4.index t = ![t.val, 0, 0] ∧ win0_5.index t = ![0, t.val] ∧ win0_6.index t = ![0, t.val]
    ∧ win0_7.index t = ![0, t.val] ∧ win0_8.index t = ![t.val, 0, 0] ∧ win0_9.index t = ![t.val, 0, 0] ∧ win0_10.index t = ![t.val, 0, 0] :=
  (by decide +kernel : ∀ t : Fin grid0.N, _)

/-- The group of a grid point. -/
abbrev grp (t : Fin cfg0.N) : Fin 4 := ⟨t.1, lt_of_lt_of_eq t.isLt N_0⟩

theorem seg_eq (c : Dev nD) : V m c main_v4 = columns (m ((c : Thread nD τ).loc main_arg0)) := by
  unfold V
  after_results
  rfl

theorem part0_read (c : Dev nD) (t : Fin cfg0.N) : rows (iblk m c 0 t) = part 0 (m ((c : Thread nD τ).loc main_arg0)) (grp t) := by
  funext r l
  have ht : t.1 < 4 := (grp t).2
  refine Eq.trans ?_ (columns_read _ r ⟨512 * (0 : Fin 2).1 + 128 * (grp t).1 + l.1, by omega⟩ _ rfl (by simp only; omega))
  rw [← seg_eq]
  unfold rows
  blk_ext [iblk, idx t]

theorem part1_read (c : Dev nD) (t : Fin cfg0.N) : rows (iblk m c 1 t) = part 1 (m ((c : Thread nD τ).loc main_arg0)) (grp t) := by
  funext r l
  have ht : t.1 < 4 := (grp t).2
  refine Eq.trans ?_ (columns_read _ r ⟨512 * (1 : Fin 2).1 + 128 * (grp t).1 + l.1, by omega⟩ _ rfl (by simp only; omega))
  rw [← seg_eq]
  unfold rows
  blk_ext [iblk, idx t]

theorem scale_at (c : Dev nD) (t : Fin cfg0.N) : scale (iblk m c 2 t) = scaleOf (m ((c : Thread nD τ).loc main_arg1)) (grp t) := by
  have e : V m c main_v5 = broadcastInDim S4x1x128 ![0, 2] bcast_S4x128_S4x1x128_0_2 (m ((c : Thread nD τ).loc main_arg1)) := by
    unfold V; after_results
  funext l
  refine Eq.trans (b := V m c main_v5 (ix3 (grp t) 0 l)) (by unfold scale; blk_ext [iblk, idx t]) ?_
  rw [e]
  pointwise
  rfl

theorem weights_at (c : Dev nD) (t : Fin cfg0.N) : weights (iblk m c 3 t) = weightsOf (m ((c : Thread nD τ).loc main_arg2)) (grp t) := by
  funext i j
  unfold weights weightsOf
  blk_ext [iblk, V, idx t]

theorem bias_at (c : Dev nD) (t : Fin cfg0.N) : bias (iblk m c 4 t) = scaleOf (m ((c : Thread nD τ).loc main_arg3)) (grp t) := by
  have e : V m c main_v6 = broadcastInDim S4x128x1 ![0, 1] bcast_S4x128_S4x128x1_0_1 (m ((c : Thread nD τ).loc main_arg3)) := by
    unfold V; after_results
  funext l
  refine Eq.trans (b := V m c main_v6 (ix3 (grp t) l 0)) (by unfold bias; blk_ext [iblk, idx t]) ?_
  rw [e]
  pointwise
  rfl

theorem cot_at (c : Dev nD) (t : Fin cfg0.N) : rows (iblk m c 5 t) = cotOf (m ((c : Thread nD τ).loc main_arg4)) (grp t) := by
  funext r l
  unfold rows cotOf
  blk_ext [iblk, V, idx t]

theorem final6 (c : Dev nD) : (dats m 0 c).arrAt 6 (cfgs 0).N
    = DU (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  idx_vars y
  rw [out6_read, part0_read, part1_read, scale_at, weights_at, bias_at, cot_at]
  unfold DU
  rw [groups_at _ _ (grp t) y0 y1]
  · blk_simp [idx t]
  · blk_simp [idx t]
    show _ = 128 * t.1 + y1.1
    omega

theorem final7 (c : Dev nD) : (dats m 0 c).arrAt 7 (cfgs 0).N
    = DV (m ((c : Thread nD τ).loc main_arg0)) (m ((c : Thread nD τ).loc main_arg1)) (m ((c : Thread nD τ).loc main_arg2))
        (m ((c : Thread nD τ).loc main_arg4)) := by
  refine (dats m 0 c).arrAt_eq_of_covers 7 _ (by decide +kernel) fun t _ y => ?_
  blk_simp
  rw [after0_7]
  idx_vars y
  rw [out7_read, part0_read, part1_read, scale_at, weights_at, cot_at]
  unfold DV
  rw [groups_at _ _ (grp t) y0 y1]
  · blk_simp [idx t]
  · blk_simp [idx t]
    show _ = 128 * t.1 + y1.1
    omega

theorem final8 (c : Dev nD) : (dats m 0 c).arrAt 8 (cfgs 0).N
    = DSG (m ((c : Thread nD τ).loc main_arg0)) (m ((c : Thread nD τ).loc main_arg2)) (m ((c : Thread nD τ).loc main_arg4)) := by
  refine (dats m 0 c).arrAt_eq_of_covers 8 _ (by decide +kernel) fun t _ y => ?_
  blk_simp
  rw [after0_8]
  idx_vars y
  obtain rfl : y0 = 0 := Subsingleton.elim _ _
  obtain rfl : y1 = 0 := Subsingleton.elim _ _
  rw [out8_read, part0_read, part1_read, weights_at, cot_at]
  refine Eq.trans (b := DSG _ _ _ (ix3 (grp t) 0 y2)) rfl (by blk_ext [idx t])

theorem final9 (c : Dev nD) : (dats m 0 c).arrAt 9 (cfgs 0).N
    = DW (m ((c : Thread nD τ).loc main_arg0)) (m ((c : Thread nD τ).loc main_arg1)) (m ((c : Thread nD τ).loc main_arg4)) := by
  refine (dats m 0 c).arrAt_eq_of_covers 9 _ (by decide +kernel) fun t _ y => ?_
  blk_simp
  rw [after0_9]
  idx_vars y
  obtain rfl : y0 = 0 := Subsingleton.elim _ _
  rw [out9_read, part0_read, part1_read, scale_at, cot_at]
  refine Eq.trans (b := DW _ _ _ (ix3 (grp t) y1 y2)) rfl (by blk_ext [idx t])

theorem final10 (c : Dev nD) : (dats m 0 c).arrAt 10 (cfgs 0).N
    = DB (m ((c : Thread nD τ).loc main_arg0)) (m ((c : Thread nD τ).loc main_arg4)) := by
  refine (dats m 0 c).arrAt_eq_of_covers 10 _ (by decide +kernel) fun t _ y => ?_
  blk_simp
  rw [after0_10]
  idx_vars y
  obtain rfl : y0 = 0 := Subsingleton.elim _ _
  obtain rfl : y2 = 0 := Subsingleton.elim _ _
  rw [out10_read, part0_read, cot_at]
  refine Eq.trans (b := DB _ _ (ix3 (grp t) y1 0)) rfl (by blk_ext [idx t])

end

end Cert.SguIdeal.Value

end
-- ==== Proof.Sgu.Ref.lean ====
/- The gradient of the spatial gating unit, read from the reference's operations. -/
module

public import proofs.«01_k».proof.Proof.Gen.SguRefIdeal.Run
public import proofs.«01_k».proof.Proof.Sgu.Spec
public import proofs.«01_k».proof.Proof.Reads
public import Idealize.ShloMosaic.Lib.Pipeline.ValueKit
public import Idealize.ShloMosaic.Lib.WordCmp

@[expose] public section

set_option maxRecDepth 16384

noncomputable section

namespace Cert.SguRefIdeal.Value

open Cert.Sgu Cert.Reads Cert.SguRefIdeal Idealize.ShloMosaic Idealize.ShloMosaic.TcCoe Idealize.SL.Sem

variable (V0 : Valuation τ sig (Elt Ideal)) (g : Fin 4) (t : Fin 2048) (l : Fin 128)

/-- Channel `l` of group `g`. -/
abbrev ch (g : Fin 4) (l : Fin 128) : Fin 512 := ⟨g.1 * 128 + l.1, by omega⟩

theorem ch_div : (⟨(g.1 * 128 + l.1) / 128, by omega⟩ : Fin 4) = g := Fin.ext (by simp only; omega)

theorem ch_mod : (⟨(g.1 * 128 + l.1) % 128, by omega⟩ : Fin 128) = l := Fin.ext (by simp only; omega)

/-- The group's parts of the arguments. -/
abbrev U : Rows := part 0 (V0 (Proc.devRef .tc main_arg0)) g
abbrev V : Rows := part 1 (V0 (Proc.devRef .tc main_arg0)) g
abbrev S : Fin 128 → EReal := scaleOf (V0 (Proc.devRef .tc main_arg1)) g
abbrev W : Fin 128 → Fin 128 → EReal := weightsOf (V0 (Proc.devRef .tc main_arg2)) g
abbrev B : Fin 128 → EReal := scaleOf (V0 (Proc.devRef .tc main_arg3)) g
abbrev D : Rows := cotOf (V0 (Proc.devRef .tc main_arg4)) g

theorem u_at : res_main_v0 V0 (ix3 0 t (ch g l)) = U V0 g t l := by
  pointwise [res_main_v0]
  unfold U part
  blk_ext

theorem v_at : res_main_v1 V0 (ix3 0 t (ch g l)) = V V0 g t l := by
  pointwise [res_main_v1]
  unfold V part
  blk_ext

theorem thu_at : res_main_v21 V0 (ix3 0 t (ch g l)) = th (U V0 g t l) := by
  pointwise [res_main_v21]
  rw [u_at]
  rfl

theorem thv_at : res_main_v42 V0 (ix3 0 t (ch g l)) = th (V V0 g t l) := by
  pointwise [res_main_v42]
  rw [v_at]
  rfl

theorem actu_at : res_main_v31 V0 (ix3 0 t (ch g l)) = act (U V0 g) t l := by
  pointwise [res_main_v31, res_main_v30]
  rw [u_at, thu_at]
  unfold act gelu
  ac_rfl

theorem actv_at : res_main_v53 V0 (ix4 0 t g l) = act (V V0 g) t l := by
  pointwise [res_main_v53, res_main_v51]
  rw [v_at, thv_at]
  unfold act gelu
  ac_rfl

theorem ms_at : res_main_v60 V0 (ix4 0 t g 0) = ms (act (V V0 g) t) := by
  pointwise [res_main_v60]
  simp only [actv_at]
  rfl

theorem normed_at : res_main_v66 V0 (ix4 0 t g l) = normed (V V0 g) t l := by
  pointwise [res_main_v66, res_main_v61]
  rw [actv_at, ms_at]
  rfl

theorem scaled_at (c : Fin 16) (i : Fin 128) : res_main_v70 V0 (ix5 0 c i g l) = scaled (V V0 g) (S V0 g) (row c i) l := by
  pointwise [res_main_v70, res_main_v67]
  rw [normed_at]
  rfl

/-- A bit chosen by itself, and a row's number moved by nothing. -/
theorem bit_self (c : BitVec 1) : Scalar.select c 1#1 0#1 = c := by revert c; decide

theorem addi_zero (x : BitVec 32) : IntOp.addi x 0#32 = x := by simp [IntOp.addi]

theorem mix_at (i j : Fin 128) : res_main_v75_0 V0 (ix3 g i j) = mix (W V0 g) i j := by
  pointwise [res_main_v75_0, res_main_v75_1]
  rw [bit_self, addi_zero]
  unfold mix W weightsOf
  word_cmp

theorem cot_at : res_main_v85 V0 (ix3 0 t (ch g l)) = D V0 g t l := by
  pointwise [res_main_v85]
  unfold D cotOf
  blk_ext

theorem gate_at : res_main_v82 V0 (ix3 0 t (ch g l)) = gate (V V0 g) (S V0 g) (W V0 g) (B V0 g) t l := by
  pointwise [res_main_v82]
  simp only [ch_div, ch_mod, scaled_at, mix_at]
  unfold gate
  exact congrArg₂ (· + ·) (Finset.sum_congr rfl fun _ _ => mul_comm _ _) rfl

theorem dgate_at (c : Fin 16) (i : Fin 128) : res_main_v88 V0 (ix5 0 c i g l) = dgate (U V0 g) (D V0 g) (row c i) l := by
  pointwise [res_main_v88]
  rw [actu_at, cot_at]
  rfl

theorem dscaled_at : res_main_v98 V0 (ix4 0 t g l) = dscaled (U V0 g) (W V0 g) (D V0 g) t l := by
  pointwise [res_main_v98, res_main_v93]
  simp only [dgate_at, mix_at]
  unfold dscaled
  exact Finset.sum_congr (M := EReal) rfl fun i _ => mul_comm (dgate (U V0 g) (D V0 g) _ l) _

theorem cots_at : res_main_v103 V0 (ix4 0 t g l) = dscaled (U V0 g) (W V0 g) (D V0 g) t l * S V0 g l := by
  pointwise [res_main_v103, res_main_v67]
  rw [dscaled_at]
  rfl

theorem common_at : res_main_v115 V0 (ix4 0 t g l)
    = common (act (V V0 g) t) (fun k => dscaled (U V0 g) (W V0 g) (D V0 g) t k * S V0 g k) := by
  pointwise [res_main_v115]
  refine (sum_outer _ _ t g).trans ?_
  pointwise [res_main_v61]
  simp only [actv_at, cots_at, ms_at]
  rfl

theorem norm_at : res_main_v120 V0 (ix3 0 t (ch g l))
    = normGrad (act (V V0 g) t) (fun k => dscaled (U V0 g) (W V0 g) (D V0 g) t k * S V0 g k) l := by
  pointwise [res_main_v120, res_main_v61]
  simp only [ch_div, ch_mod, cots_at, ms_at, actv_at, common_at]
  rfl

theorem slopev_at : res_main_v127 V0 (ix3 0 t (ch g l)) = geluInner (V V0 g t l)
    (normGrad (act (V V0 g) t) (fun k => dscaled (U V0 g) (W V0 g) (D V0 g) t k * S V0 g k) l) := by
  pointwise [res_main_v127]
  rw [v_at, thv_at, norm_at]
  unfold geluInner
  ac_rfl

theorem slopeu_at : res_main_v139 V0 (ix3 0 t (ch g l)) = geluInner (U V0 g t l)
    (D V0 g t l * gate (V V0 g) (S V0 g) (W V0 g) (B V0 g) t l) := by
  pointwise [res_main_v139, res_main_v87]
  rw [u_at, thu_at, gate_at, cot_at]
  unfold geluInner
  ac_rfl

theorem result0 : val4 V0 (Proc.devRef .tc main_v146) = DU (V0 (Proc.devRef .tc main_arg0)) (V0 (Proc.devRef .tc main_arg1))
    (V0 (Proc.devRef .tc main_arg2)) (V0 (Proc.devRef .tc main_arg3)) (V0 (Proc.devRef .tc main_arg4)) := by
  rw [show val4 V0 (Proc.devRef .tc main_v146) = _ from val4_main_v146 V0]
  refine (groups_ext _ _ fun g r l => ?_).symm
  rw [show (⟨128 * g.1 + l.1, by omega⟩ : Fin 512) = ch g l from Fin.ext (by simp only; omega)]
  pointwise [res_main_v87, res_main_v30]
  rw [slopeu_at, gate_at, cot_at, thu_at, u_at]
  unfold du
  rw [geluGrad_eq]
  rfl

theorem result1 : val4 V0 (Proc.devRef .tc main_v148) = DV (V0 (Proc.devRef .tc main_arg0)) (V0 (Proc.devRef .tc main_arg1))
    (V0 (Proc.devRef .tc main_arg2)) (V0 (Proc.devRef .tc main_arg4)) := by
  rw [show val4 V0 (Proc.devRef .tc main_v148) = _ from val4_main_v148 V0]
  refine (groups_ext _ _ fun g r l => ?_).symm
  rw [show (⟨128 * g.1 + l.1, by omega⟩ : Fin 512) = ch g l from Fin.ext (by simp only; omega)]
  pointwise [res_main_v51]
  rw [slopev_at, norm_at, thv_at, v_at]
  unfold dv
  rw [geluGrad_eq]
  rfl

theorem result2 : val4 V0 (Proc.devRef .tc main_v149) = DSG (V0 (Proc.devRef .tc main_arg0)) (V0 (Proc.devRef .tc main_arg2))
    (V0 (Proc.devRef .tc main_arg4)) := by
  rw [show val4 V0 (Proc.devRef .tc main_v149) = _ from val4_main_v149 V0]
  funext j
  idx_vars j
  pointwise
  rw [sum_front4]
  pointwise
  simp only [normed_at, dscaled_at]
  rfl

/-! The contraction over the chunks and the channels. -/

/-- The contraction's index with its first coordinate, of one value, left out. -/
def pick (c : Fin 16) (d : Fin 128) : dot_S4x1x16x128x128_S1x16x128x4x128_S4x128x128_123_014_4_2_0_3.contr.Idx :=
  fun (a : Fin 3) => match a with
    | 0 => (0 : Fin 1)
    | 1 => c
    | 2 => d

theorem contract (x : FVec Ideal S4x1x16x128x128 .f32) (y : FVec Ideal S1x16x128x4x128 .f32) (g : Fin 4) (i j : Fin 128) :
    Ideal.matmul dot_S4x1x16x128x128_S1x16x128x4x128_S4x128x128_123_014_4_2_0_3 x y (fun _ => 0) (ix3 g i j)
      = ∑ c : Fin 16, ∑ d : Fin 128, x (ix5 g 0 c d i) * y (ix5 0 c j g d) := by
  unfold Ideal.matmul
  rw [zero_add, ← Fintype.sum_prod_type' (f := fun c d => x (ix5 g 0 c d i) * y (ix5 0 c j g d))]
  refine (Finset.sum_bij' (fun (p : Fin 16 × Fin 128) _ => pick p.1 p.2) (fun k _ => (k (1 : Fin 3), k (2 : Fin 3)))
    (fun _ _ => Finset.mem_univ _) (fun _ _ => Finset.mem_univ _) (fun _ _ => rfl) ?_ ?_).symm
  · intro k _
    funext a
    have ha : a.1 < 3 := a.2
    obtain ⟨a, _⟩ := a
    interval_cases a
    · exact Subsingleton.elim (α := Fin 1) _ _
    · rfl
    · rfl
  · intro p _
    refine congrArg₂ (· * ·) (congrArg x ?_) (congrArg y ?_) <;> funext a <;> fin_cases a <;> rfl

theorem result3 : val4 V0 (Proc.devRef .tc main_v97) = DW (V0 (Proc.devRef .tc main_arg0)) (V0 (Proc.devRef .tc main_arg1))
    (V0 (Proc.devRef .tc main_arg4)) := by
  rw [show val4 V0 (Proc.devRef .tc main_v97) = _ from val4_main_v97 V0]
  funext j
  idx_vars j
  pointwise [res_main_v75_1, res_main_v93]
  refine (congrArg (fun z : EReal => Scalar.select _ z (0 : EReal)) (contract _ _ j0 j1 j2)).trans ?_
  pointwise
  simp only [dgate_at, scaled_at]
  rw [bit_self, addi_zero]
  unfold DW dw
  word_cmp
  rfl

theorem result4 : val4 V0 (Proc.devRef .tc main_v150) = DB (V0 (Proc.devRef .tc main_arg0)) (V0 (Proc.devRef .tc main_arg4)) := by
  rw [show val4 V0 (Proc.devRef .tc main_v150) = _ from val4_main_v150 V0]
  funext j
  idx_vars j
  pointwise
  rw [sum_outer5]
  pointwise
  rw [sum_second_last]
  simp only [dgate_at]
  rfl

end Cert.SguRefIdeal.Value

end
-- ==== Proof.Sgu.lean ====
/- The spatial gating unit: the kernel and the derivative of the forward lines give the same five arrays. -/
module

public import proofs.«01_k».proof.Defs
public import proofs.«01_k».proof.Proof.Sgu.Value
public import proofs.«01_k».proof.Proof.Sgu.Ref
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
theorem algebraic_sgu : Cert.algebraic_SguIdeal_SguRefIdeal := by
  pair_intro
  · run_from Cert.SguIdeal.Gen.run_main m g
  · run_from Cert.SguRefIdeal.Value.run m' g'
    · rw [Cert.SguIdeal.Value.final6 m c, ← (hagree c).1, ← (hagree c).2.1, ← (hagree c).2.2.1, ← (hagree c).2.2.2.1,
        ← (hagree c).2.2.2.2]
      exact (Cert.SguRefIdeal.Value.val4_main_v146 _).symm.trans (Cert.SguRefIdeal.Value.result0 _)
    · rw [Cert.SguIdeal.Value.final7 m c, ← (hagree c).1, ← (hagree c).2.1, ← (hagree c).2.2.1, ← (hagree c).2.2.2.2]
      exact (Cert.SguRefIdeal.Value.val4_main_v148 _).symm.trans (Cert.SguRefIdeal.Value.result1 _)
    · rw [Cert.SguIdeal.Value.final8 m c, ← (hagree c).1, ← (hagree c).2.2.1, ← (hagree c).2.2.2.2]
      exact (Cert.SguRefIdeal.Value.val4_main_v149 _).symm.trans (Cert.SguRefIdeal.Value.result2 _)
    · rw [Cert.SguIdeal.Value.final9 m c, ← (hagree c).1, ← (hagree c).2.1, ← (hagree c).2.2.2.2]
      exact (Cert.SguRefIdeal.Value.val4_main_v97 _).symm.trans (Cert.SguRefIdeal.Value.result3 _)
    · rw [Cert.SguIdeal.Value.final10 m c, ← (hagree c).1, ← (hagree c).2.2.2.2]
      exact (Cert.SguRefIdeal.Value.val4_main_v150 _).symm.trans (Cert.SguRefIdeal.Value.result4 _)

end Cert.Proof

end
-- ==== Proof.Gates.Spec.lean ====
/- The gates' gradient in numbers: one row of one head, the running sum of a chunk from its end, and the arrays. -/
module

public import proofs.«01_k».proof.Proof.Arith

@[expose] public section

set_option maxRecDepth 16384

noncomputable section

namespace Cert.Gates

open Idealize.ShloMosaic

/-- The gradient of the sigmoid's logit `x` for the cotangent `d`. -/
def dlogit (x d : EReal) : EReal :=
  0 - (0 - d * Ideal.div 1 ((1 + Ideal.exp (0 - x)) * (1 + Ideal.exp (0 - x))) * 1) * Ideal.exp (0 - x)

/-- What the rows of a chunk from row `r` on add up to. -/
def fromRow (D : Fin 2048 → EReal) (r : Fin 2048) : EReal :=
  ∑ i : Fin 64, (if r.1 % 64 ≤ i.1 then (1 : EReal) else 0) * D ⟨r.1 / 64 * 64 + i.1, by omega⟩

/-- `exp (-|y|)`, the softplus as the kernel writes it, and its gradient for the cotangent `g` times `c`. -/
def tail (y : EReal) : EReal := Ideal.exp (0 - FloatOps.absf (F := Ideal) (φ := .f32) y)

def softplus (y : EReal) : EReal := max y 0 + Ideal.log (1 + tail y)

def away (c y g : EReal) : EReal := 0 - Ideal.div (c * g) (1 + tail y) * tail y

def da (c y g : EReal) : EReal :=
  (if 0 ≤ y then away c y g else 0) + (0 - if 0 ≤ y then 0 else away c y g)
    + c * g * (if 0 < y then 1 else if y = 0 then Ideal.ofBits .f32 0x3F000000#32 else 0)

/-- One column of numbers picked out by a column of zeros with a single one. -/
theorem pick_sum {n : ℕ} (f : Fin n → EReal) (a : Fin n) : ∑ k, f k * (if k.1 = a.1 then (1 : EReal) else 0) = f a := by
  rw [Finset.sum_eq_single a]
  · rw [if_pos rfl, mul_one]
  · intro b _ hb
    rw [if_neg (fun h => hb (Fin.ext h)), mul_zero]
  · exact fun h => absurd (Finset.mem_univ a) h

/-! ## The arrays -/

abbrev Proj := FVec Ideal ⟨3, ![1, 2048, 6412]⟩ .f32

abbrev PerHead := FVec Ideal ⟨1, ![6]⟩ .f32

abbrev Cot := FVec Ideal ⟨3, ![6, 2048, 128]⟩ .f32

variable (P : Proj) (al dt : PerHead) (b g1 g2 : Cot)

/-- The logit of beta, and the decay's, of a head and a row. -/
def logit (h : Fin 6) (r : Fin 2048) : EReal := P (ix3 0 r ⟨4096 + h.1, by omega⟩)

def shifted (h : Fin 6) (r : Fin 2048) : EReal := P (ix3 0 r ⟨4102 + h.1, by omega⟩) + dt (ix1 h)

/-- The cotangent of the decay that a row passes to itself and to the rows before it. -/
def flow (h : Fin 6) (r : Fin 2048) (l : Fin 128) : EReal := fromRow (fun i => g1 (ix3 h i l) + g2 (ix3 h i l)) r

def betaCol (h : Fin 6) (r : Fin 2048) : EReal := ∑ l : Fin 128, dlogit (logit P h r) (b (ix3 h r l))

def decayAt (h : Fin 6) (r : Fin 2048) (l : Fin 128) : EReal :=
  da (0 - Ideal.exp (al (ix1 h))) (shifted P dt h r) (flow g1 g2 h r l)

def decayCol (h : Fin 6) (r : Fin 2048) : EReal := ∑ l : Fin 128, decayAt P al dt g1 g2 h r l

/-- What head `h` adds to column `k` of the gates' gradient. -/
def headPart (h : Fin 6) (r : Fin 2048) (k : Fin 128) : EReal :=
  ∑ l : Fin 128, decayAt P al dt g1 g2 h r l * (if k.1 = h.1 + 6 then (1 : EReal) else 0)
    + ∑ l : Fin 128, dlogit (logit P h r) (b (ix3 h r l)) * (if k.1 = h.1 then (1 : EReal) else 0)

def DBG : FVec Ideal ⟨2, ![2048, 128]⟩ .bf16 := fun j => ∑ h : Fin 6, headPart P al dt b g1 g2 h (j 0) (j 1)

def DAL : FVec Ideal ⟨3, ![6, 1, 128]⟩ .f32 := fun j =>
  ∑ l : Fin 128, (0 - ∑ r : Fin 2048, flow g1 g2 (j 0) r l * softplus (shifted P dt (j 0) r)) * Ideal.exp (al (ix1 (j 0)))

def DDT : FVec Ideal ⟨3, ![6, 1, 128]⟩ .f32 := fun j => ∑ l : Fin 128, ∑ r : Fin 2048, decayAt P al dt g1 g2 (j 0) r l

end Cert.Gates

end
-- ==== Proof.Gates.Value.lean ====
/- The gates' gradient: what one head's grid point computes, and the arrays after the run. -/
module

public import proofs.«01_k».proof.Proof.Gates.Spec
public import proofs.«01_k».proof.Proof.Columns
public import proofs.«01_k».proof.Proof.Gen.GatesIdeal.Frame
public import Idealize.ShloMosaic.Lib.Pipeline.ValueKit
public import Idealize.ShloMosaic.Lib.WordCmp

@[expose] public section

set_option maxRecDepth 16384

noncomputable section

namespace Cert.GatesIdeal.Value

open Cert.GatesIdeal Cert.GatesIdeal.Gen Idealize.ShloMosaic Idealize.ShloMosaic.TcCoe Idealize.SL.Sem
open Idealize.ShloMosaic.Pipeline (Dat)
open Cert.Gates
open Cert.Columns (columns columns_read)

/-! ## The payloads at an index -/

/-- A comparison's bit, widened and read as a number. -/
theorem bit_read (p : Prop) [Decidable p] :
    FloatOps.sitofp (F := Ideal) FTy.f32 (BitVec.setWidth 32 (BitVec.ofBool (decide p))) = if p then (1 : EReal) else 0 := by
  by_cases h : p
  · rw [decide_eq_true h, if_pos h]; show (((1#32 : BitVec 32).toInt : ℝ) : EReal) = 1; simp
  · rw [decide_eq_false h, if_neg h]; show (((0#32 : BitVec 32).toInt : ℝ) : EReal) = 0; simp

theorem hot_beta (i : grid0.Coords) (k l : Fin 128) :
    k0_pay4 (F := Ideal) i (ix2 k l) = if k.1 = (i 0).val then (1 : EReal) else 0 := by
  have h : (i 0).val < 6 := (i 0).isLt
  pointwise [k0_pay4]
  word_cmp
  exact bit_read _

theorem hot_a (i : grid0.Coords) (k l : Fin 128) :
    k0_pay5 (F := Ideal) i (ix2 k l) = if k.1 = (i 0).val + 6 then (1 : EReal) else 0 := by
  have h : (i 0).val < 6 := (i 0).isLt
  pointwise [k0_pay5]
  rw [show Scalar.addi (BitVec.ofNat 32 (i 0).val) 6#32 = BitVec.ofNat 32 ((i 0).val + 6) from (BitVec.ofNat_add _ _).symm]
  word_cmp
  exact bit_read _

/-- The columns of the logits in the block of 128 columns. -/
abbrev cb (i : grid0.Coords) : Fin 128 := ⟨(i 0).val, by have h : (i 0).val < 6 := (i 0).isLt; omega⟩

abbrev ca (i : grid0.Coords) : Fin 128 := ⟨(i 0).val + 6, by have h : (i 0).val < 6 := (i 0).isLt; omega⟩

theorem exp_read (i : grid0.Coords) (x : FVec Ideal S2048x128 .f32) (r : Fin 2048) (l : Fin 128) :
    k0_pay6 (F := Ideal) i x (ix2 r l) = Ideal.exp (0 - x (ix2 r (cb i))) := by
  pointwise [k0_pay6, k0_pay3]
  simp only [hot_beta]
  rw [← pick_sum (fun k => x (ix2 r k)) (cb i)]

theorem shifted_read (i : grid0.Coords) (x : FVec Ideal S2048x128 .f32) (d : FVec Ideal S1x1x128 .f32) (r : Fin 2048) (l : Fin 128) :
    k0_pay10 (F := Ideal) i x d (ix2 r l) = x (ix2 r (ca i)) + d (ix3 0 0 l) := by
  pointwise [k0_pay10, k0_pay3]
  simp only [hot_a]
  rw [← pick_sum (fun k => x (ix2 r k)) (ca i)]

theorem flow_read (x y : FVec Ideal S1x2048x128 .f32) (r : Fin 2048) (l : Fin 128) :
    k0_pay21 (F := Ideal) x y (ix2 r l) = fromRow (fun i => x (ix3 0 i l) + y (ix3 0 i l)) r := by
  unfold fromRow
  pointwise [k0_pay21]
  refine Finset.sum_congr rfl fun k _ => ?_
  word_cmp
  rw [bit_read]

section

variable (i : grid0.Coords) (x : FVec Ideal S2048x128 .f32) (a d : FVec Ideal S1x1x128 .f32) (b g1 g2 : FVec Ideal S1x2048x128 .f32)

/-- The decay's gradient, as the body computes it from the blocks. -/
def decay : FVec Ideal S2048x128 .f32 :=
  k0_pay28 (F := Ideal) (k0_pay16 (k0_pay12 (F := Ideal) i x d) (k0_pay13 (F := Ideal) i x d) k0_pay14 k0_pay15) (k0_pay22 (k0_pay9 a) g1 g2)
    (k0_pay26 (k0_pay9 a) (k0_pay10 i x d) g1 g2) (k0_pay27 (k0_pay9 a) (k0_pay10 i x d) g1 g2) (Scalar.ofBits .f32 0x00000000#32)

theorem decay_read (r : Fin 2048) (l : Fin 128) : decay i x a d g1 g2 (ix2 r l)
    = da (0 - Ideal.exp (a (ix3 0 0 l))) (x (ix2 r (ca i)) + d (ix3 0 0 l)) (fromRow (fun i => g1 (ix3 0 i l) + g2 (ix3 0 i l)) r) := by
  unfold da away tail
  pointwise [decay, k0_pay28, k0_pay16, k0_pay12, k0_pay13, k0_pay14, k0_pay15, k0_pay9, k0_pay8, k0_pay26, k0_pay27, k0_pay17, k0_pay24,
    k0_pay22, k0_pay19, k0_pay18, k0_pay25]
  rw [flow_read, shifted_read]

/-- What the grid point adds to the gates' gradient. -/
theorem part_read (prior : FVec Ideal S2048x128 .f32) (r : Fin 2048) (k : Fin 128) :
    k0_pay31 (F := Ideal) (k0_pay4 i) (k0_pay5 i) (k0_pay6 i x) (k0_pay7 i x) (k0_pay16 (k0_pay12 (F := Ideal) i x d) (k0_pay13 (F := Ideal) i x d) k0_pay14 k0_pay15)
        (k0_pay20 b) (k0_pay22 (k0_pay9 a) g1 g2) (k0_pay26 (k0_pay9 a) (k0_pay10 i x d) g1 g2)
        (k0_pay27 (k0_pay9 a) (k0_pay10 i x d) g1 g2) (Scalar.ofBits .f32 0x00000000#32) prior (ix2 r k)
      = prior (ix2 r k) + (∑ l : Fin 128, decay i x a d g1 g2 (ix2 r l) * (if k.1 = (i 0).val + 6 then (1 : EReal) else 0)
        + ∑ l : Fin 128, dlogit (x (ix2 r (cb i))) (b (ix3 0 r l)) * (if k.1 = (i 0).val then (1 : EReal) else 0)) := by
  unfold decay dlogit
  pointwise [k0_pay31, k0_pay7, k0_pay20]
  simp only [hot_a, hot_beta, exp_read]

theorem dal_read (o o' : Fin 1) (k : Fin 128) :
    k0_pay1 (F := Ideal) (k0_pay33 (k0_pay8 a) (k0_pay23 (k0_pay10 i x d) (k0_pay11 i x d) g1 g2)) (ix3 o o' k)
      = ∑ l : Fin 128, (0 - ∑ r : Fin 2048, fromRow (fun i => g1 (ix3 0 i l) + g2 (ix3 0 i l)) r
          * softplus (x (ix2 r (ca i)) + d (ix3 0 0 l))) * Ideal.exp (a (ix3 0 0 l)) := by
  unfold softplus tail
  pointwise [k0_pay1, k0_pay33, k0_pay8, k0_pay23, k0_pay19, k0_pay18, k0_pay11]
  simp only [flow_read, shifted_read]

theorem ddt_read (o o' : Fin 1) (k : Fin 128) :
    k0_pay2 (F := Ideal) (k0_pay29 (k0_pay16 (k0_pay12 (F := Ideal) i x d) (k0_pay13 (F := Ideal) i x d) k0_pay14 k0_pay15)
        (k0_pay22 (k0_pay9 a) g1 g2) (k0_pay26 (k0_pay9 a) (k0_pay10 i x d) g1 g2) (k0_pay27 (k0_pay9 a) (k0_pay10 i x d) g1 g2)
        (Scalar.ofBits .f32 0x00000000#32)) (ix3 o o' k)
      = ∑ l : Fin 128, ∑ r : Fin 2048, decay i x a d g1 g2 (ix2 r l) := by
  unfold decay
  pointwise [k0_pay2, k0_pay29]

end

/-! ## The arrays -/

section

variable (m : (ℓ : Loc nD τ sig) → Buf (Elt Ideal) ℓ)

/-- The windows' blocks: grid point `t` has head `t`; the gates' columns are one block of 128. -/
theorem idx : ∀ t : Fin cfg0.N, (grid0.coords t 0).val = t.val ∧ win0_0.index t = ![0, 32] ∧ win0_1.index t = ![t.val, 0, 0]
    ∧ win0_2.index t = ![t.val, 0, 0] ∧ win0_3.index t = ![t.val, 0, 0] ∧ win0_4.index t = ![t.val, 0, 0] ∧ win0_5.index t = ![t.val, 0, 0]
    ∧ win0_6.index t = ![0, 0] ∧ win0_7.index t = ![t.val, 0, 0] ∧ win0_8.index t = ![t.val, 0, 0] :=
  (by decide +kernel : ∀ t : Fin grid0.N, _)

/-- The head of a grid point. -/
abbrev head (t : Fin cfg0.N) : Fin 6 := ⟨t.1, lt_of_lt_of_eq t.isLt N_0⟩

abbrev aP (c : Dev nD) : Proj := m ((c : Thread nD τ).loc main_arg0)
abbrev aAl (c : Dev nD) : PerHead := m ((c : Thread nD τ).loc main_arg1)
abbrev aDt (c : Dev nD) : PerHead := m ((c : Thread nD τ).loc main_arg2)
abbrev aB (c : Dev nD) : Cot := m ((c : Thread nD τ).loc main_arg3)
abbrev aG (c : Dev nD) : Cot := m ((c : Thread nD τ).loc main_arg4)
abbrev aG' (c : Dev nD) : Cot := m ((c : Thread nD τ).loc main_arg5)

theorem seg_eq (c : Dev nD) : V m c main_v4 = columns (aP m c) := by
  unfold V
  after_results
  rfl

theorem logit_at (c : Dev nD) (t : Fin cfg0.N) (r : Fin 2048) :
    iblk m c 0 t (ix2 r (cb (grid0.coords t))) = logit (aP m c) (head t) r := by
  have ht : t.1 < 6 := (head t).2
  have hc : (grid0.coords t 0).val = t.val := (idx t).1
  refine Eq.trans ?_ (columns_read (aP m c) r ⟨4096 + t.1, by omega⟩ _ rfl (by simp only; omega))
  rw [← seg_eq]
  refine Eq.trans (b := V m c main_v4 (ix2 r ⟨4096 + (grid0.coords t 0).val, by omega⟩)) (by blk_ext [iblk, idx t]) ?_
  simp only [hc]

theorem alog_at (c : Dev nD) (t : Fin cfg0.N) (l : Fin 128) : iblk m c 1 t (ix3 0 0 l) = aAl m c (ix1 (head t)) := by
  have e : V m c main_v6 = broadcastInDim S6x1x128 ![0, 1, 2] bcast_S6x1x1_S6x1x128_0_1_2
      (broadcastInDim S6x1x1 ![0] bcast_S6_S6x1x1_0 (m ((c : Thread nD τ).loc main_arg1))) := by
    unfold V; after_results
  refine Eq.trans (b := V m c main_v6 (ix3 (head t) 0 l)) (by blk_ext [iblk, idx t]) ?_
  rw [e]
  pointwise
  rfl

theorem dtb_at (c : Dev nD) (t : Fin cfg0.N) (l : Fin 128) : iblk m c 2 t (ix3 0 0 l) = aDt m c (ix1 (head t)) := by
  have e : V m c main_v8 = broadcastInDim S6x1x128 ![0, 1, 2] bcast_S6x1x1_S6x1x128_0_1_2
      (broadcastInDim S6x1x1 ![0] bcast_S6_S6x1x1_0 (m ((c : Thread nD τ).loc main_arg2))) := by
    unfold V; after_results
  refine Eq.trans (b := V m c main_v8 (ix3 (head t) 0 l)) (by blk_ext [iblk, idx t]) ?_
  rw [e]
  pointwise
  rfl

theorem shifted_at (c : Dev nD) (t : Fin cfg0.N) (r : Fin 2048) (l : Fin 128) :
    @HAdd.hAdd EReal EReal EReal _ (iblk m c 0 t (ix2 r (ca (grid0.coords t)))) (iblk m c 2 t (ix3 0 0 l)) = shifted (aP m c) (aDt m c) (head t) r := by
  have ht : t.1 < 6 := (head t).2
  have hc : (grid0.coords t 0).val = t.val := (idx t).1
  unfold shifted
  refine congrArg₂ (fun a b : EReal => a + b) ?_ (dtb_at m c t l)
  refine Eq.trans ?_ (columns_read (aP m c) r ⟨4102 + t.1, by omega⟩ _ rfl (by simp only; omega))
  rw [← seg_eq]
  refine Eq.trans (b := V m c main_v4 (ix2 r ⟨4102 + (grid0.coords t 0).val, by omega⟩)) (by blk_ext [iblk, idx t]) ?_
  simp only [hc]

theorem cot_at (c : Dev nD) (t : Fin cfg0.N) (r : Fin 2048) (l : Fin 128) :
    iblk m c 3 t (ix3 0 r l) = aB m c (ix3 (head t) r l) ∧ iblk m c 4 t (ix3 0 r l) = aG m c (ix3 (head t) r l)
    ∧ iblk m c 5 t (ix3 0 r l) = aG' m c (ix3 (head t) r l) := by
  refine ⟨?_, ?_, ?_⟩ <;> blk_ext [iblk, V, idx t]

theorem flow_at (c : Dev nD) (t : Fin cfg0.N) (r : Fin 2048) (l : Fin 128) :
    fromRow (fun i => @HAdd.hAdd EReal EReal EReal _ (iblk m c 4 t (ix3 0 i l)) (iblk m c 5 t (ix3 0 i l))) r = flow (aG m c) (aG' m c) (head t) r l := by
  unfold flow
  simp only [cot_at m c t]

theorem decay_at (c : Dev nD) (t : Fin cfg0.N) (r : Fin 2048) (l : Fin 128) :
    decay (grid0.coords t) (iblk m c 0 t) (iblk m c 1 t) (iblk m c 2 t) (iblk m c 4 t) (iblk m c 5 t) (ix2 r l)
      = decayAt (aP m c) (aAl m c) (aDt m c) (aG m c) (aG' m c) (head t) r l := by
  rw [decay_read, flow_at, shifted_at, alog_at]
  rfl

theorem part_at (c : Dev nD) (t : Fin cfg0.N) (r : Fin 2048) (k : Fin 128) :
    ∑ l : Fin 128, decay (grid0.coords t) (iblk m c 0 t) (iblk m c 1 t) (iblk m c 2 t) (iblk m c 4 t) (iblk m c 5 t) (ix2 r l)
          * (if k.1 = (grid0.coords t 0).val + 6 then (1 : EReal) else 0)
        + ∑ l : Fin 128, dlogit (iblk m c 0 t (ix2 r (cb (grid0.coords t)))) (iblk m c 3 t (ix3 0 r l))
          * (if k.1 = (grid0.coords t 0).val then (1 : EReal) else 0)
      = headPart (aP m c) (aAl m c) (aDt m c) (aB m c) (aG m c) (aG' m c) (head t) r k := by
  unfold headPart
  simp only [decay_at, logit_at, (cot_at m c t r _).1, (idx t).1]

/-- What is stored is what the running sum holds. -/
theorem stored (c : Dev nD) (t : Fin cfg0.N) : (outsAt0 m c t.val t.isLt).1 = (outsAt0 m c t.val t.isLt).2.2.2 := by
  by_cases h : t.val % 6 = 0
  · rw [outsAt0_A m c t h]; frame_out; rfl
  · rw [outsAt0_B m c t h]; frame_out; rfl

theorem final6 (c : Dev nD) : (dats m 0 c).arrAt 6 (cfgs 0).N = DBG (aP m c) (aAl m c) (aDt m c) (aB m c) (aG m c) (aG' m c) := by
  refine (dats m 0 c).arrAt_eq_of_after_last 6 t0_5 (by decide +kernel) _ fun j => ?_
  idx_vars j
  blk_simp
  rw [after0_6, stored, Pipeline.eq_sum_fin_of_reset_step_apply_last (fun n h => (outsAt0 m c n h).2.2.2) 6 (fun _ => 0)
      (fun t j => headPart (aP m c) (aAl m c) (aDt m c) (aB m c) (aG m c) (aG' m c) (head t) (j 0) (j 1))
    (fun t h j => by
      idx_vars j
      rw [outsAt0_A m c t h]; frame_out
      refine (part_read _ _ _ _ _ _ _ _ _ _).trans ?_
      rw [part_at]
      pointwise [k0_pay30])
    (fun t h j => by
      idx_vars j
      rw [outsAt0_B m c t h]; frame_out
      refine (part_read _ _ _ _ _ _ _ _ _ _).trans ?_
      rw [part_at]
      exact congrArg (fun z : FVec Ideal S2048x128 .f32 => z (ix2 j0 j1) + _) (Memref.IsWhole.read_unread _ _))
    (le_of_eq N_0) t0_5 rfl _, zero_add]
  rfl

theorem final7 (c : Dev nD) : (dats m 0 c).arrAt 7 (cfgs 0).N = DAL (aP m c) (aAl m c) (aDt m c) (aG m c) (aG' m c) := by
  refine (dats m 0 c).arrAt_eq_of_covers 7 _ (by decide +kernel) fun t _ y => ?_
  blk_simp
  rw [after0_7]
  idx_vars y
  have e : (outsAt0 m c t.val t.isLt).2.1 (ix3 y0 y1 y2)
      = DAL (aP m c) (aAl m c) (aDt m c) (aG m c) (aG' m c) (ix3 (head t) 0 y2) := by
    unfold DAL
    by_cases h : t.val % 6 = 0
    · rw [outsAt0_A m c t h]; frame_out
      refine (dal_read _ _ _ _ _ _ _ _ _).trans ?_
      simp only [flow_at, shifted_at, alog_at]
      rfl
    · rw [outsAt0_B m c t h]; frame_out
      refine (dal_read _ _ _ _ _ _ _ _ _).trans ?_
      simp only [flow_at, shifted_at, alog_at]
      rfl
  rw [e]
  blk_ext [idx t]

theorem final8 (c : Dev nD) : (dats m 0 c).arrAt 8 (cfgs 0).N = DDT (aP m c) (aAl m c) (aDt m c) (aG m c) (aG' m c) := by
  refine (dats m 0 c).arrAt_eq_of_covers 8 _ (by decide +kernel) fun t _ y => ?_
  blk_simp
  rw [after0_8]
  idx_vars y
  have e : (outsAt0 m c t.val t.isLt).2.2.1 (ix3 y0 y1 y2)
      = DDT (aP m c) (aAl m c) (aDt m c) (aG m c) (aG' m c) (ix3 (head t) 0 y2) := by
    unfold DDT
    by_cases h : t.val % 6 = 0
    · rw [outsAt0_A m c t h]; frame_out
      refine (ddt_read _ _ _ _ _ _ _ _ _).trans ?_
      simp only [decay_at]
      rfl
    · rw [outsAt0_B m c t h]; frame_out
      refine (ddt_read _ _ _ _ _ _ _ _ _).trans ?_
      simp only [decay_at]
      rfl
  rw [e]
  blk_ext [idx t]

end

end Cert.GatesIdeal.Value

end
-- ==== Proof.Gates.Window.lean ====
/- The host's sum over the rest of a row: the derivative of a running sum. -/
module

public import Idealize.ShloMosaic.Lib.Pointwise
public import Idealize.ShloMosaic.Lib.IdealHost

@[expose] public section

set_option maxRecDepth 16384

noncomputable section

namespace Cert.Window

open Idealize.ShloMosaic

theorem foldl_sum {n : ℕ} (f : Fin n → EReal) : (List.finRange n).foldl (fun r i => r + f i) 0 = ∑ i, f i := by
  rw [Fin.sum_univ_def, List.sum_eq_foldl, List.foldl_map]

/-- A sum over the positions from `r` on, one row's length. -/
theorem shift_sum {n : ℕ} (x : Fin n → EReal) (r : Fin n) :
    ∑ k : Fin n, (if h : r.1 + k.1 < n then x ⟨r.1 + k.1, h⟩ else 0) = ∑ i : Fin n, (if r.1 ≤ i.1 then (1 : EReal) else 0) * x i := by
  have e1 := Fin.sum_univ_eq_sum_range (fun k => if h : r.1 + k < n then x ⟨r.1 + k, h⟩ else 0) n
  have e2 := Fin.sum_univ_eq_sum_range (fun k => if h : k < n then (if r.1 ≤ k then (1 : EReal) else 0) * x ⟨k, h⟩ else 0) n
  rw [e1, Finset.sum_congr rfl (fun i _ => by rw [dif_pos i.2] : ∀ i ∈ Finset.univ, (if r.1 ≤ i.1 then (1 : EReal) else 0) * x i
      = if h : i.1 < n then (if r.1 ≤ i.1 then (1 : EReal) else 0) * x ⟨i.1, h⟩ else 0), e2]
  have hr := r.2
  have hL := Finset.sum_range_add_sum_Ico (fun k => if h : r.1 + k < n then x ⟨r.1 + k, h⟩ else 0) (Nat.sub_le n r.1)
  have hR := Finset.sum_range_add_sum_Ico (fun k => if h : k < n then (if r.1 ≤ k then (1 : EReal) else 0) * x ⟨k, h⟩ else 0) (Nat.le_of_lt hr)
  rw [← hL, ← hR, Finset.sum_eq_zero (s := Finset.Ico (n - r.1) n), Finset.sum_eq_zero (s := Finset.range r.1), zero_add, add_zero,
    Finset.sum_Ico_eq_sum_range]
  · refine Finset.sum_congr rfl fun k hk => ?_
    have := Finset.mem_range.mp hk
    rw [dif_pos (by omega), dif_pos (by omega), if_pos (by omega), one_mul]
  · intro k hk
    have := Finset.mem_range.mp hk
    rw [dif_pos (by omega), if_neg (by omega), zero_mul]
  · intro k hk
    have := Finset.mem_Ico.mp hk
    rw [dif_neg (by omega)]

/-- An index whose first three coordinates have one value is given by its last. -/
theorem only_last {n : ℕ} (w : (⟨4, ![1, 1, 1, n]⟩ : Shape).Idx) : ∃ k : Fin n, w = ix4 0 0 0 k := by
  refine ⟨w 3, funext fun q => ?_⟩
  match q with
  | 0 => exact Subsingleton.elim (α := Fin 1) _ _
  | 1 => exact Subsingleton.elim (α := Fin 1) _ _
  | 2 => exact Subsingleton.elim (α := Fin 1) _ _
  | 3 => rfl

theorem tail_read {a b n p : ℕ} (h : (⟨4, ![1, a, b, n]⟩ : Shape).ReduceWindows ![1, 1, 1, n] ![1, 1, 1, 1] ![0, 0, 0, 0] ![0, 0, 0, p] ⟨4, ![1, a, b, n]⟩)
    (x : (⟨4, ![1, a, b, n]⟩ : Shape).Idx → EReal) (i : Fin a) (j : Fin b) (r : Fin n) :
    Ideal.hostReduceWindowAdd ![1, 1, 1, n] ![1, 1, 1, 1] ![0, 0, 0, 0] ![0, 0, 0, p] h x 0 (ix4 0 i j r)
      = ∑ k : Fin n, (if r.1 ≤ k.1 then (1 : EReal) else 0) * x (ix4 0 i j k) := by
  rw [← shift_sum (fun k => x (ix4 0 i j k)) r]
  unfold Ideal.hostReduceWindowAdd Host.reduceWindow
  dsimp only
  rw [foldl_sum]
  refine Finset.sum_bij' (fun q _ => ((⟨4, ![1, 1, 1, n]⟩ : Shape).rowMajor.symm q 3 : Fin n))
    (fun k _ => (⟨4, ![1, 1, 1, n]⟩ : Shape).rowMajor (ix4 0 0 0 k)) (fun _ _ => Finset.mem_univ _)
    (fun _ _ => Finset.mem_univ _) ?_ ?_ ?_
  · intro q _
    obtain ⟨w, rfl⟩ := (⟨4, ![1, 1, 1, n]⟩ : Shape).rowMajor.surjective q
    rw [Equiv.symm_apply_apply]
    obtain ⟨w3, rfl⟩ := only_last w
    rfl
  · intro k _
    rw [Equiv.symm_apply_apply]
    rfl
  · intro q _
    obtain ⟨w, rfl⟩ := (⟨4, ![1, 1, 1, n]⟩ : Shape).rowMajor.surjective q
    simp only [Equiv.symm_apply_apply]
    obtain ⟨w3, rfl⟩ := only_last w
    by_cases hk : r.1 + w3.1 < n
    · refine Eq.trans ?_ (dif_pos hk).symm
      refine (dif_pos ?_).trans ?_
      · intro q
        fin_cases q <;> simp [ix4] <;> omega
      · congr 1
        funext q
        fin_cases q <;> apply Fin.ext <;> simp [ix4]
        rfl
    · refine Eq.trans ?_ (dif_neg hk).symm
      refine dif_neg fun hin => ?_
      have := (hin 3).2
      simp [ix4] at this
      omega

end Cert.Window

end
-- ==== Proof.Gates.Ref.lean ====
/- The gates' gradient as the derivative of the forward lines: the three arrays at an index. -/
module

public import proofs.«01_k».proof.Proof.Gates.Spec
public import proofs.«01_k».proof.Proof.Gates.Window
public import proofs.«01_k».proof.Proof.Reads
public import proofs.«01_k».proof.Proof.Gen.GatesRefIdeal.Run
public import Idealize.ShloMosaic.Lib.Pipeline.ValueKit

@[expose] public section

set_option maxRecDepth 16384

noncomputable section

namespace Cert.GatesRefIdeal.Value

open Cert.GatesRefIdeal Idealize.ShloMosaic Idealize.ShloMosaic.TcCoe Idealize.SL.Sem
open Cert.Gates Cert.Window Cert.Reads

variable (m : (ℓ : Loc nD τ sig) → Buf (Elt Ideal) ℓ) (c : Dev nD)

/-- The running sum's derivative at a row: what the rows of its chunk from it on pass to it, the lanes summed. -/
def rest (a b : Cot) (h : Fin 6) (r : Fin 2048) : EReal := fromRow (fun i => ∑ l : Fin 128, (a (ix3 h i l) + b (ix3 h i l))) r

theorem window_eq (a b : FVec Ideal S6x2048x128 .f32) :
    Host.reduceWindowAdd (F := Ideal) ![1, 1, 1, 64] ![1, 1, 1, 1] ![0, 0, 0, 0] ![0, 0, 0, 63]
      (shapeCast S1x6x32x64 (Host.reduceAdd (addf a b) (constant S_ FTy.f32 0#32) Gen.reducesTo_S6x2048x128_S6x2048_d2 Gen.h_S_)
        Gen.shapeCasts_S6x2048_S1x6x32x64)
      (broadcastInDim S_ ![] Gen.bcast_S_S_ (constant S_ FTy.f32 0#32))
      Gen.reduceWindows_S1x6x32x64_S1x6x32x64_w1s1p0_0_w1s1p0_0_w1s1p0_0_w64s1p0_63 Gen.h_S_
      = fun j : S1x6x32x64.Idx => rest a b (j 1) ⟨64 * (j 2).1 + (j 3).1, by
          have h2 : (j 2).1 < 32 := (j 2).2
          have h3 : (j 3).1 < 64 := (j 3).2
          omega⟩ := by
  funext j
  idx_vars j
  obtain rfl : j0 = 0 := Subsingleton.elim _ _
  refine Eq.trans (b := Ideal.hostReduceWindowAdd ![1, 1, 1, 64] ![1, 1, 1, 1] ![0, 0, 0, 0] ![0, 0, 0, 63]
    Gen.reduceWindows_S1x6x32x64_S1x6x32x64_w1s1p0_0_w1s1p0_0_w1s1p0_0_w64s1p0_63
    (shapeCast S1x6x32x64 (Host.reduceAdd (addf a b) (constant S_ FTy.f32 0#32) Gen.reducesTo_S6x2048x128_S6x2048_d2 Gen.h_S_)
        Gen.shapeCasts_S6x2048_S1x6x32x64) 0 (ix4 0 j1 j2 j3)) ?_ ?_
  · refine congrArg (fun z : EReal => Ideal.hostReduceWindowAdd ![1, 1, 1, 64] ![1, 1, 1, 1] ![0, 0, 0, 0] ![0, 0, 0, 63]
      Gen.reduceWindows_S1x6x32x64_S1x6x32x64_w1s1p0_0_w1s1p0_0_w1s1p0_0_w64s1p0_63
      (shapeCast S1x6x32x64 (Host.reduceAdd (addf a b) (constant S_ FTy.f32 0#32) Gen.reducesTo_S6x2048x128_S6x2048_d2 Gen.h_S_)
        Gen.shapeCasts_S6x2048_S1x6x32x64) z (ix4 0 j1 j2 j3)) ?_
    pointwise
  · rw [tail_read]
    unfold rest fromRow
    pointwise
    refine Finset.sum_congr rfl fun k _ => ?_
    have e1 : (64 * j2.1 + j3.1) % 64 = j3.1 := by omega
    have e2 : (64 * j2.1 + j3.1) / 64 = j2.1 := by omega
    simp only [e1, e2]
    blk_ext

theorem zero_int : FloatOps.sitofp (F := Ideal) FTy.f32 (0#32) = (0 : EReal) := by
  show (((0#32 : BitVec 32).toInt : ℝ) : EReal) = 0
  simp

theorem rest_split (a b : Cot) (h : Fin 6) (r : Fin 2048) (e) : rest a b h ⟨64 * (r.1 / 64) + r.1 % 64, e⟩ = rest a b h r :=
  congrArg (rest a b h) (Fin.ext (by simp only; omega))

/-- The softplus as the host writes it, and the factor by which its derivative multiplies. -/
def plus (y : EReal) : EReal :=
  if y ≠ y then y else max y 0 + Ideal.log1p (Ideal.exp (-FloatOps.absf (F := Ideal) (φ := .f32) y))

def sigma (y : EReal) : EReal :=
  Ideal.exp ((if y = Ideal.ofBits .f32 0x7F800000#32 then 0 else y)
    - if plus y = Ideal.ofBits .f32 0x7F800000#32 then 0 else plus y)

abbrev aP : Proj := m ((c.tc : Thread nD τ).loc main_arg0)
abbrev aAl : PerHead := m ((c.tc : Thread nD τ).loc main_arg1)
abbrev aDt : PerHead := m ((c.tc : Thread nD τ).loc main_arg2)
abbrev aB : Cot := m ((c.tc : Thread nD τ).loc main_arg3)
abbrev aG : Cot := m ((c.tc : Thread nD τ).loc main_arg4)
abbrev aG' : Cot := m ((c.tc : Thread nD τ).loc main_arg5)

theorem ddt_at (h : Fin 6) (o : Fin 1) (l : Fin 128) : res_main_v63 m c (ix3 h o l)
    = ∑ r : Fin 2048, -Ideal.exp (aAl m c (ix1 h)) * rest (aG m c) (aG' m c) h r * sigma (shifted (aP m c) (aDt m c) h r) := by
  unfold res_main_v63
  rw [window_eq]
  pointwise
  rw [sum_front]
  unfold sigma plus shifted
  pointwise
  simp only [rest_split]

theorem dbg_at (r : Fin 2048) (k : Fin 128) : res_main_v59 m c (ix2 r k)
    = if h : k.1 < 12 then
        if h6 : k.1 < 6 then
          (∑ l : Fin 128, aB m c (ix3 ⟨k.1, h6⟩ r l)) * (Ideal.div 1 (1 + Ideal.exp (-logit (aP m c) ⟨k.1, h6⟩ r))
            * (1 - Ideal.div 1 (1 + Ideal.exp (-logit (aP m c) ⟨k.1, h6⟩ r))))
        else -Ideal.exp (aAl m c (ix1 ⟨k.1 - 6, by omega⟩)) * rest (aG m c) (aG' m c) ⟨k.1 - 6, by omega⟩ r
          * sigma (shifted (aP m c) (aDt m c) ⟨k.1 - 6, by omega⟩ r)
      else (0 : EReal) := by
  unfold res_main_v59
  rw [window_eq]
  unfold sigma plus shifted logit
  pointwise
  simp only [rest_split, zero_int]

end Cert.GatesRefIdeal.Value

end
-- ==== Proof.Gates.Same.lean ====
/- The two forms of the gates' gradient agree where the decay's arguments are finite and its logit isn't zero. -/
module

public import proofs.«01_k».proof.Proof.Gates.Spec
public import proofs.«01_k».proof.Proof.Gates.Ref

@[expose] public section

set_option maxRecDepth 16384

noncomputable section

namespace Cert.Gates

open Idealize.ShloMosaic Cert.Arith
open Cert.GatesRefIdeal.Value (rest plus sigma)

/-! ## One number -/

theorem coe_max (x y : ℝ) : ((max x y : ℝ) : EReal) = max (x : EReal) (y : EReal) := EReal.coe_strictMono.monotone.map_max

theorem logistic_slope (x : EReal) : ∃ κ : ℝ, 0 ≤ κ
    ∧ Ideal.div 1 ((1 + Ideal.exp (0 - x)) * (1 + Ideal.exp (0 - x))) * Ideal.exp (0 - x) = κ
    ∧ Ideal.div 1 (1 + Ideal.exp (-x)) * (1 - Ideal.div 1 (1 + Ideal.exp (-x))) = κ := by
  rw [zero_sub]
  induction x using EReal.rec with
  | bot =>
    have h : (1 : EReal) + ⊤ = ⊤ := rfl
    refine ⟨0, le_rfl, ?_, ?_⟩ <;> simp [Ideal.div, h]
  | top =>
    have h : (1 : EReal) - 1 = 0 := by rw [← EReal.coe_one, ← EReal.coe_sub, sub_self, EReal.coe_zero]
    refine ⟨0, le_rfl, ?_, ?_⟩ <;> simp [Ideal.div, h]
  | coe x =>
    rw [← EReal.coe_neg, Ideal.exp_coe]
    have he := Real.exp_pos (-x)
    have h1 : (1 + Real.exp (-x)) ≠ 0 := by positivity
    refine ⟨Real.exp (-x) / ((1 + Real.exp (-x)) * (1 + Real.exp (-x))), by positivity, ?_, ?_⟩
    · rw [← EReal.coe_one, ← EReal.coe_add, ← EReal.coe_mul, Ideal.div_coe (by positivity), ← EReal.coe_mul, ← EReal.coe_mul]
      congr 1
      field_simp
    · rw [← EReal.coe_one, ← EReal.coe_add, Ideal.div_coe (by positivity), ← EReal.coe_mul, ← EReal.coe_sub, ← EReal.coe_mul]
      congr 1
      field_simp
      ring

theorem dlogit_eq (x d : EReal) : dlogit x d
    = d * (Ideal.div 1 ((1 + Ideal.exp (0 - x)) * (1 + Ideal.exp (0 - x))) * Ideal.exp (0 - x)) := by
  unfold dlogit
  rw [zero_sub, zero_sub, mul_one, EReal.neg_mul, neg_neg, mul_assoc]

theorem dlogit_sum {n : ℕ} (x : EReal) (d : Fin n → EReal) : ∑ l, dlogit x (d l)
    = (∑ l, d l) * (Ideal.div 1 (1 + Ideal.exp (-x)) * (1 - Ideal.div 1 (1 + Ideal.exp (-x)))) := by
  obtain ⟨κ, h0, h1, h2⟩ := logistic_slope x
  simp only [dlogit_eq]
  rw [h1, h2, mul_comm, coe_mul_sum _ h0]
  exact Finset.sum_congr rfl fun l _ => mul_comm _ _

/-- The softplus of a real number. -/
def plusR (y : ℝ) : ℝ := max y 0 + Real.log (1 + Real.exp (-|y|))

theorem abs_read (y : ℝ) : FloatOps.absf (F := Ideal) (φ := .f32) ((y : ℝ) : EReal) = ((|y| : ℝ) : EReal) := by
  show max ((y : ℝ) : EReal) (-((y : ℝ) : EReal)) = _
  rw [← EReal.coe_neg, ← coe_max]
  rfl

theorem log_read {y : ℝ} (h : 0 < y) : Ideal.log (y : EReal) = ((Real.log y : ℝ) : EReal) := by
  show (if y ≤ 0 then ⊥ else (Real.log y : EReal)) = _
  rw [if_neg (not_le.mpr h)]

theorem softplus_coe (y : ℝ) : softplus (y : EReal) = (plusR y : EReal) := by
  unfold softplus tail plusR
  rw [abs_read, zero_sub, ← EReal.coe_neg, Ideal.exp_coe, ← EReal.coe_one, ← EReal.coe_add, log_read (by positivity), ← EReal.coe_zero,
    ← coe_max, ← EReal.coe_add]

theorem plus_coe (y : ℝ) : plus (y : EReal) = (plusR y : EReal) := by
  unfold plus plusR Ideal.log1p
  rw [if_neg (not_not.mpr rfl), abs_read, ← EReal.coe_neg, Ideal.exp_coe, ← EReal.coe_one, ← EReal.coe_add, log_read (by positivity),
    ← EReal.coe_zero, ← coe_max, ← EReal.coe_add]

theorem infinity : Ideal.ofBits .f32 0x7F800000#32 = ⊤ := by
  simp [Ideal.ofBits, Ideal.ieee]

theorem plusR_slope (y : ℝ) : Real.exp (y - plusR y) = 1 / (1 + Real.exp (-y)) := by
  unfold plusR
  rw [← sub_sub, Real.exp_sub, Real.exp_log (by positivity)]
  rcases le_total 0 y with h | h
  · rw [max_eq_left h, abs_of_nonneg h, sub_self, Real.exp_zero]
  · rw [max_eq_right h, abs_of_nonpos h, sub_zero, neg_neg, Real.exp_neg]
    have := Real.exp_pos y
    field_simp
    ring

theorem sigma_coe (y : ℝ) : sigma (y : EReal) = ((1 / (1 + Real.exp (-y)) : ℝ) : EReal) := by
  unfold sigma
  rw [infinity, plus_coe, if_neg (EReal.coe_ne_top _), if_neg (EReal.coe_ne_top _), ← EReal.coe_sub, Ideal.exp_coe, plusR_slope]

theorem tail_coe (y : ℝ) : tail (y : EReal) = (Real.exp (-|y|) : EReal) := by
  unfold tail
  rw [abs_read, zero_sub, ← EReal.coe_neg, Ideal.exp_coe]

theorem away_coe (c y g : ℝ) : away c y g = ((-(c * g / (1 + Real.exp (-|y|)) * Real.exp (-|y|)) : ℝ) : EReal) := by
  have := Real.exp_pos (-|y|)
  unfold away
  rw [tail_coe, ← EReal.coe_one, ← EReal.coe_add, ← EReal.coe_mul, Ideal.div_coe (by positivity), ← EReal.coe_mul, ← EReal.coe_mul,
    zero_sub, ← EReal.coe_neg]
  congr 1
  ring

/-- Off zero the kernel's gradient of the softplus is the logistic function. -/
theorem da_coe (c y g : ℝ) (h : y ≠ 0) : da c y g = ((c * g * (1 / (1 + Real.exp (-y))) : ℝ) : EReal) := by
  unfold da
  rw [away_coe, ← EReal.coe_zero]
  rcases lt_or_gt_of_ne h with hy | hy
  · have hp := Real.exp_pos y
    rw [if_neg (not_le.mpr (EReal.coe_lt_coe hy)), if_neg (not_le.mpr (EReal.coe_lt_coe hy)), if_neg (not_lt.mpr (EReal.coe_le_coe hy.le)),
      if_neg (fun e => h (EReal.coe_injective e)), EReal.coe_zero, mul_zero, zero_sub, zero_add, add_zero, ← EReal.coe_neg]
    congr 1
    rw [abs_of_neg hy, neg_neg, Real.exp_neg]
    field_simp
    ring
  · have hp := Real.exp_pos (-y)
    rw [if_pos (EReal.coe_le_coe hy.le), if_pos (EReal.coe_le_coe hy.le), if_pos (EReal.coe_lt_coe hy), EReal.coe_zero, sub_zero, add_zero,
      mul_one, ← EReal.coe_mul, ← EReal.coe_add]
    congr 1
    rw [abs_of_pos hy]
    field_simp
    ring

/-! ## The cotangent of the decay: the row's running sums, then the lanes -/

theorem flow_sum (g1 g2 : Cot) (h : Fin 6) (r : Fin 2048) : ∑ l, flow g1 g2 h r l = rest g1 g2 h r := by
  unfold flow rest fromRow
  rw [Finset.sum_comm]
  refine Finset.sum_congr rfl fun i _ => ?_
  split
  · simp only [one_mul]
  · simp only [zero_mul, Finset.sum_const_zero]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The arguments of the decay are finite and no logit of the softplus is zero. -/
structure Regular (P : Proj) (al dt : PerHead) (g1 g2 : Cot) : Prop where
  logit : ∀ h r, ∃ y : ℝ, y ≠ 0 ∧ shifted P dt h r = (y : EReal)
  speed : ∀ h, ∃ a : ℝ, al (ix1 h) = (a : EReal)
  cot : ∀ h r l, ∃ a b : ℝ, g1 (ix3 h r l) = (a : EReal) ∧ g2 (ix3 h r l) = (b : EReal)

theorem Regular.flow {P : Proj} {al dt : PerHead} {g1 g2 : Cot} (R : Regular P al dt g1 g2) (h : Fin 6) (r : Fin 2048) :
    ∃ f : Fin 128 → ℝ, ∀ l, flow g1 g2 h r l = (f l : EReal) := by
  choose a b ha hb using R.cot h
  refine ⟨fun l => ∑ i : Fin 64, (if r.val % 64 ≤ i.val then 1 else 0) * (a ⟨r.val / 64 * 64 + i.val, by omega⟩ l + b ⟨r.val / 64 * 64 + i.val, by omega⟩ l),
    fun l => ?_⟩
  rw [coe_sum]
  unfold Gates.flow fromRow
  refine Finset.sum_congr rfl fun i _ => ?_
  show _ * (g1 (ix3 h _ l) + g2 (ix3 h _ l)) = _
  rw [ha, hb, ← EReal.coe_add, EReal.coe_mul]
  congr 1
  split <;> simp

variable {P : Proj} {al dt : PerHead} {g1 g2 : Cot} (R : Regular P al dt g1 g2)
include R

theorem decay_real (h : Fin 6) : ∃ (c : ℝ) (s y : Fin 2048 → ℝ) (f : Fin 2048 → Fin 128 → ℝ),
    -Ideal.exp (al (ix1 h)) = (c : EReal) ∧ (∀ r, sigma (shifted P dt h r) = (s r : EReal))
    ∧ (∀ r, softplus (shifted P dt h r) = (y r : EReal)) ∧ (∀ r, plus (shifted P dt h r) = (y r : EReal))
    ∧ (∀ r l, flow g1 g2 h r l = (f r l : EReal)) ∧ ∀ r l, decayAt P al dt g1 g2 h r l = ((c * f r l * s r : ℝ) : EReal) := by
  obtain ⟨a, ha⟩ := R.speed h
  choose y hy0 hy using R.logit h
  choose f hf using R.flow h
  have hc : -Ideal.exp (al (ix1 h)) = ((-Real.exp a : ℝ) : EReal) := by rw [ha, Ideal.exp_coe, EReal.coe_neg]
  refine ⟨-Real.exp a, fun r => 1 / (1 + Real.exp (-y r)), fun r => plusR (y r), f, hc, fun r => ?_, fun r => ?_, fun r => ?_, hf, fun r l => ?_⟩
  · rw [hy, sigma_coe]
  · rw [hy, softplus_coe]
  · rw [hy, plus_coe]
  · unfold decayAt
    rw [zero_sub, hc, hy, hf, da_coe _ _ _ (hy0 r)]

theorem decayCol_eq (h : Fin 6) (r : Fin 2048) : decayCol P al dt g1 g2 h r
    = -Ideal.exp (al (ix1 h)) * rest g1 g2 h r * sigma (shifted P dt h r) := by
  obtain ⟨c, s, y, f, hc, hs, -, -, hf, hd⟩ := decay_real R h
  unfold decayCol
  rw [← flow_sum, hc, hs]
  simp only [hd, hf]
  rw [← coe_sum, ← coe_sum, ← EReal.coe_mul, ← EReal.coe_mul, Finset.mul_sum, Finset.sum_mul]

theorem ddt_eq (h : Fin 6) : ∑ l : Fin 128, ∑ r : Fin 2048, decayAt P al dt g1 g2 h r l
    = ∑ r : Fin 2048, -Ideal.exp (al (ix1 h)) * rest g1 g2 h r * sigma (shifted P dt h r) := by
  rw [Finset.sum_comm]
  exact Finset.sum_congr rfl fun r _ => decayCol_eq R h r

theorem dal_eq (h : Fin 6) :
    ∑ l : Fin 128, (0 - ∑ r : Fin 2048, flow g1 g2 h r l * softplus (shifted P dt h r)) * Ideal.exp (al (ix1 h))
    = -(∑ r : Fin 2048, rest g1 g2 h r * plus (shifted P dt h r)) * Ideal.exp (al (ix1 h)) := by
  obtain ⟨a, ha⟩ := R.speed h
  obtain ⟨c, s, y, f, -, -, hy, hp, hf, -⟩ := decay_real R h
  simp only [← flow_sum, hy, hp, hf, ha, Ideal.exp_coe, zero_sub]
  simp only [← coe_sum, ← EReal.coe_mul, ← EReal.coe_neg]
  congr 1
  rw [← Finset.sum_mul, Finset.sum_neg_distrib, Finset.sum_comm]
  simp only [Finset.sum_mul]

omit R in
theorem betaCol_eq (b : Cot) (h : Fin 6) (r : Fin 2048) : betaCol P b h r
    = (∑ l : Fin 128, b (ix3 h r l)) * (Ideal.div 1 (1 + Ideal.exp (-logit P h r)) * (1 - Ideal.div 1 (1 + Ideal.exp (-logit P h r)))) :=
  dlogit_sum _ _

omit R in
/-- What head `h` adds to column `k`: the decay's column six places on, the mixing rate's on its own. -/
theorem headPart_eq (b : Cot) (h : Fin 6) (r : Fin 2048) (k : Fin 128) : headPart P al dt b g1 g2 h r k
    = (if k.1 = h.1 + 6 then decayCol P al dt g1 g2 h r else 0) + if k.1 = h.1 then betaCol P b h r else 0 := by
  unfold headPart decayCol betaCol
  congr 1
  · split
    · simp only [mul_one]
    · simp only [mul_zero, Finset.sum_const_zero]
  · split
    · simp only [mul_one]
    · simp only [mul_zero, Finset.sum_const_zero]

theorem dbg_eq (b : Cot) (r : Fin 2048) (k : Fin 128) : ∑ h : Fin 6, headPart P al dt b g1 g2 h r k
    = if h : k.1 < 12 then
        if h6 : k.1 < 6 then
          (∑ l : Fin 128, b (ix3 ⟨k.1, h6⟩ r l)) * (Ideal.div 1 (1 + Ideal.exp (-logit P ⟨k.1, h6⟩ r))
            * (1 - Ideal.div 1 (1 + Ideal.exp (-logit P ⟨k.1, h6⟩ r))))
        else -Ideal.exp (al (ix1 ⟨k.1 - 6, by omega⟩)) * rest g1 g2 ⟨k.1 - 6, by omega⟩ r * sigma (shifted P dt ⟨k.1 - 6, by omega⟩ r)
      else (0 : EReal) := by
  simp only [headPart_eq]
  by_cases h : k.1 < 12
  · rw [dif_pos h]
    by_cases h6 : k.1 < 6
    · rw [dif_pos h6, ← betaCol_eq, Finset.sum_eq_single ⟨k.1, h6⟩]
      · rw [if_neg (by show ¬k.1 = k.1 + 6; omega), if_pos rfl, zero_add]
      · intro j _ hj
        rw [if_neg (by omega), if_neg (fun e => hj (Fin.ext e.symm)), add_zero]
      · intro hn
        exact absurd (Finset.mem_univ _) hn
    · rw [dif_neg h6, ← decayCol_eq R, Finset.sum_eq_single ⟨k.1 - 6, by omega⟩]
      · rw [if_pos (by show k.1 = k.1 - 6 + 6; omega), if_neg (by show ¬k.1 = k.1 - 6; omega), add_zero]
      · intro j _ hj
        rw [if_neg (fun e => hj (Fin.ext (by show j.1 = k.1 - 6; omega))), if_neg (by omega), add_zero]
      · intro hn
        exact absurd (Finset.mem_univ _) hn
  · rw [dif_neg h]
    refine Finset.sum_eq_zero fun j _ => ?_
    rw [if_neg (by omega), if_neg (by omega), add_zero]

end Cert.Gates

end
-- ==== Proof.Gates.lean ====
/- The gates: where the decay's arguments are finite and its logit isn't zero, the kernel and the derivative of the
   forward lines give the same three arrays. -/
module

public import proofs.«01_k».proof.Defs
public import proofs.«01_k».proof.Proof.Gates.Value
public import proofs.«01_k».proof.Proof.Gates.Same
public import proofs.«01_k».proof.Proof.Gen.Pre_gates_regular
public import Idealize.ShloMosaic.Lib.Claim

@[expose] public section

set_option maxRecDepth 16384

noncomputable section

namespace Cert.Gates

open Idealize.ShloMosaic Idealize.ShloMosaic.TcCoe Idealize.SL.Sem Cert.Arith

theorem truth {p : Prop} [Decidable p] (h : BitVec.ofBool (decide p) = 1#1) : p := by
  by_contra hn
  rw [decide_eq_false hn] at h
  exact absurd h (by decide)

theorem finite_of {x : EReal} (h : BitVec.ofBool (decide (FloatOps.absf (F := Ideal) (φ := .f32) x < Ideal.ofBits .f32 0x7F800000#32)) = 1#1) :
    ∃ a : ℝ, x = (a : EReal) := by
  have h' : max x (-x) < Ideal.ofBits .f32 0x7F800000#32 := truth h
  rw [infinity] at h'
  induction x using EReal.rec with
  | bot => simp at h'
  | top => simp at h'
  | coe a => exact ⟨a, rfl⟩

theorem regular_of (m : (ℓ : Loc Cert.GatesIdeal.nD Cert.GatesIdeal.τ Cert.GatesIdeal.sig) → Buf (Elt Ideal) ℓ)
    (h : Cert.Pre_GatesIdeal_gates_regular m) (c : Dev Cert.GatesIdeal.nD) :
    Regular (Cert.GatesIdeal.Value.aP m c) (Cert.GatesIdeal.Value.aAl m c) (Cert.GatesIdeal.Value.aDt m c)
      (Cert.GatesIdeal.Value.aG m c) (Cert.GatesIdeal.Value.aG' m c) := by
  obtain ⟨h0, h1, h2, h3, h4, h5⟩ := h c
  refine ⟨fun h r => ?_, fun h => ?_, fun h r l => ?_⟩
  · have e0 := congrFun h0 (ix2 r h)
    have e2 := congrFun h2 (ix1 h)
    have e5 := congrFun h5 (ix2 r h)
    simp only [Cert.Pre_gates_regular.fn, Cert.Pre_gates_regular.fn_part1] at e0 e2 e5
    pointwise at e0
    pointwise at e2
    pointwise at e5
    obtain ⟨a, ha⟩ := finite_of e0
    obtain ⟨b, hb⟩ := finite_of e2
    have hn := truth e5
    rw [ha, hb] at hn
    refine ⟨a + b, fun e => hn ?_, ?_⟩
    · rw [← EReal.coe_add, e, EReal.coe_zero]
    · unfold shifted
      rw [EReal.coe_add, ← ha, ← hb]
  · have e1 := congrFun h1 (ix1 h)
    simp only [Cert.Pre_gates_regular.fn, Cert.Pre_gates_regular.fn_part1] at e1
    pointwise at e1
    exact finite_of e1
  · have e3 := congrFun h3 (ix3 h r l)
    have e4 := congrFun h4 (ix3 h r l)
    simp only [Cert.Pre_gates_regular.fn, Cert.Pre_gates_regular.fn_part1] at e3 e4
    pointwise at e3
    pointwise at e4
    obtain ⟨a, ha⟩ := finite_of e3
    obtain ⟨b, hb⟩ := finite_of e4
    exact ⟨a, b, ha, hb⟩

end Cert.Gates

namespace Cert.Proof

open Idealize.ShloMosaic Idealize.ShloMosaic.TcCoe Idealize.SL.Sem Cert.Arith Cert.Gates

set_option maxHeartbeats 1000000 in
theorem algebraic_gates : Cert.algebraic_GatesIdeal_GatesRefIdeal_pre_gates_regular := by
  pair_intro
  · run_from Cert.GatesIdeal.Gen.run_main m g
  · run_from Cert.GatesRefIdeal.Value.run m' g'
    · have R := regular_of m hpre c
      rw [Cert.GatesIdeal.Value.final6 m c]
      funext j
      idx_vars j
      refine (Cert.GatesRefIdeal.Value.dbg_at m' c _ _).trans ?_
      unfold Cert.GatesRefIdeal.Value.aP Cert.GatesRefIdeal.Value.aAl Cert.GatesRefIdeal.Value.aDt Cert.GatesRefIdeal.Value.aB Cert.GatesRefIdeal.Value.aG Cert.GatesRefIdeal.Value.aG'
      rw [(hagree c).1, (hagree c).2.1, (hagree c).2.2.1, (hagree c).2.2.2.1, (hagree c).2.2.2.2.1, (hagree c).2.2.2.2.2]
      exact (dbg_eq R _ _ _).symm
    · have R := regular_of m hpre c
      rw [Cert.GatesIdeal.Value.final7 m c]
      funext j
      idx_vars j
      rw [Cert.GatesRefIdeal.Value.window_eq]
      pointwise
      rw [Cert.Reads.sum_front]
      pointwise
      simp only [Cert.GatesRefIdeal.Value.rest_split]
      exact (dal_eq R _).symm
    · have R := regular_of m hpre c
      have h := (hagree c)
      rw [Cert.GatesIdeal.Value.final8 m c]
      funext j
      idx_vars j
      refine (Cert.GatesRefIdeal.Value.ddt_at m' c _ _ _).trans ?_
      unfold Cert.GatesRefIdeal.Value.aP Cert.GatesRefIdeal.Value.aAl Cert.GatesRefIdeal.Value.aDt Cert.GatesRefIdeal.Value.aG Cert.GatesRefIdeal.Value.aG'
      rw [(hagree c).1, (hagree c).2.1, (hagree c).2.2.1, (hagree c).2.2.2.2.1, (hagree c).2.2.2.2.2]
      exact (ddt_eq R _).symm

end Cert.Proof

end
-- ==== Proof.NormF.lean ====
/- The RMS norm: the blocks of rows are the rows' norms, as the reference writes them. -/
module

public import proofs.«01_k».proof.Defs
public import proofs.«01_k».proof.Proof.Reads
public import proofs.«01_k».proof.Proof.Norm.Value
public import proofs.«01_k».proof.Proof.Gen.NormFIdeal.Frame
public import proofs.«01_k».proof.Proof.Gen.NormFRefIdeal.Run
public import Idealize.ShloMosaic.Lib.Claim
public import Idealize.ShloMosaic.Lib.Pipeline.ValueKit

@[expose] public section

set_option maxRecDepth 16384

noncomputable section

namespace Cert.NormFIdeal.Value

open Cert.NormFIdeal Cert.NormFIdeal.Gen Idealize.ShloMosaic Idealize.ShloMosaic.TcCoe Idealize.SL.Sem
open Cert.NormIdeal.Value (ms)

/-- The norm of each row, scaled. -/
def normed (X : FVec Ideal S2048x2048 .f32) (g : FVec Ideal S2048 .f32) : FVec Ideal S2048x2048 .bf16 :=
  fun j => X j * Ideal.rsqrt (ms fun k => X (ix2 (j 0) k)) * g (ix1 (j 1))

theorem block_read (x : FVec Ideal S512x2048 .f32) (g : FVec Ideal S1x2048 .f32) (r : Fin 512) (l : Fin 2048) :
    k0_pay1 (F := Ideal) x g (ix2 r l) = x (ix2 r l) * Ideal.rsqrt (ms fun k => x (ix2 r k)) * g (ix2 0 l) := by
  pointwise [k0_pay1]
  rfl

variable (m : (ℓ : Loc nD τ sig) → Buf (Elt Ideal) ℓ)

/-- Block `t` of 512 rows, and the one row of the scale. -/
theorem idx : ∀ t : Fin cfg0.N, win0_0.index t = ![t.val, 0] ∧ win0_1.index t = ![0, 0] ∧ win0_2.index t = ![t.val, 0] :=
  (by decide +kernel : ∀ t : Fin grid0.N, _)

/-- Row `r` of block `t`. -/
abbrev row (t : Fin cfg0.N) (r : Fin 512) : Fin 2048 := ⟨t.1 * 512 + r.1, by have : t.1 < 4 := lt_of_lt_of_eq t.isLt N_0; omega⟩

theorem rows_read (c : Dev nD) (t : Fin cfg0.N) (r : Fin 512) (l : Fin 2048) :
    iblk m c 0 t (ix2 r l) = m ((c : Thread nD τ).loc main_arg0) (ix2 (row t r) l) := by
  blk_ext [iblk, V, idx t]

theorem scale_read (c : Dev nD) (t : Fin cfg0.N) (l : Fin 2048) :
    iblk m c 1 t (ix2 0 l) = m ((c : Thread nD τ).loc main_arg1) (ix1 l) := by
  have e : V m c main_v0 = broadcastInDim S1x2048 ![1] bcast_S2048_S1x2048_1 (m ((c : Thread nD τ).loc main_arg1)) := by
    unfold V; after_results
  refine Eq.trans (b := V m c main_v0 (ix2 0 l)) (by blk_ext [iblk, idx t]) ?_
  rw [e]
  pointwise

theorem final2 (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have e : out0_2 (F := Ideal) (iblk m c 0 t) (iblk m c 1 t) = k0_pay1 (iblk m c 0 t) (iblk m c 1 t) := by
    unfold out0_2
    frame_out
  rw [e, block_read]
  simp only [rows_read m c t, scale_read m c t]
  refine Eq.trans (b := normed _ _ (ix2 (row t y0) y1)) rfl (by blk_ext [idx t])

end Cert.NormFIdeal.Value

namespace Cert.Proof

open Idealize.ShloMosaic Idealize.ShloMosaic.TcCoe Idealize.SL.Sem

theorem algebraic_norm_f : Cert.algebraic_NormFIdeal_NormFRefIdeal := by
  pair_intro
  · run_from Cert.NormFIdeal.Gen.run_main m g
  · run_from Cert.NormFRefIdeal.Value.run m' g'
    funext j
    idx_vars j
    rw [Cert.NormFIdeal.Value.final2 m c]
    unfold Cert.NormFIdeal.Value.normed Cert.NormIdeal.Value.ms
    pointwise

end Cert.Proof

end
-- ==== Proof.SguF.lean ====
/- The spatial gating unit of the forward pass: the kernel and the forward lines give the same array. -/
module

public import proofs.«01_k».proof.Defs
public import proofs.«01_k».proof.Proof.Columns
public import proofs.«01_k».proof.Proof.Reads
public import proofs.«01_k».proof.Proof.Sgu.Spec
public import proofs.«01_k».proof.Proof.Gen.SguFIdeal.Frame
public import proofs.«01_k».proof.Proof.Gen.SguFIdeal.Value
public import proofs.«01_k».proof.Proof.Gen.SguFRefIdeal.Run
public import Idealize.ShloMosaic.Lib.Pipeline.ValueKit
public import Idealize.ShloMosaic.Lib.WordCmp
public import Idealize.ShloMosaic.Lib.Claim

@[expose] public section

set_option maxRecDepth 16384

noncomputable section

namespace Cert.SguFIdeal.Value

open Cert.Sgu Cert.Columns Cert.Reads Cert.SguFIdeal Cert.SguFIdeal.Gen Idealize.ShloMosaic Idealize.ShloMosaic.TcCoe Idealize.SL.Sem

/-! ## One group's block -/

def rows (x : FVec Ideal S2048x128 .f32) : Rows := fun t l => x (ix2 t l)

def scale (x : FVec Ideal S1x1x128 .f32) : Fin 128 → EReal := fun l => x (ix3 0 0 l)

def weights (x : FVec Ideal S1x128x128 .f32) : Fin 128 → Fin 128 → EReal := fun i j => x (ix3 0 i j)

def bias (x : FVec Ideal S1x128x1 .f32) : Fin 128 → EReal := fun i => x (ix3 0 i 0)

variable (x0 x1 : FVec Ideal S2048x128 .f32) (x2 : FVec Ideal S1x1x128 .f32) (x3 : FVec Ideal S1x128x128 .f32)
  (x4 : FVec Ideal S1x128x1 .f32)

/-- The gated rows: the first half activated, times the gate of the second. -/
def out (U V : Rows) (s : Fin 128 → EReal) (w : Fin 128 → Fin 128 → EReal) (b : Fin 128 → EReal) : Rows :=
  fun r l => act U r l * gate V s w b r l

/-- The mixing weight times a number, and the comparison of two rows' numbers as the kernel makes it. -/
theorem mix_mul (w : Fin 128 → Fin 128 → EReal) (i j : Fin 128) (x : EReal) : mix w i j * x = if j.1 ≤ i.1 then w i j * x else 0 := by
  unfold mix
  rw [ite_mul, zero_mul]

theorem select_le (a b : ℕ) (x : EReal) (ha : a < 128) (hb : b < 128) :
    Scalar.select (IntOp.cmpi CmpIPredicate.sge (BitVec.ofNat 32 a) (BitVec.ofNat 32 b)) x 0 = if b ≤ a then x else 0 := by
  word_cmp

theorem actu_read (r : Fin 2048) (l : Fin 128) : k0_pay5 (F := Ideal) x0 (ix2 r l) = act (rows x0) r l := by
  pointwise [k0_pay5]
  rfl

theorem actv_read (r : Fin 2048) (l : Fin 128) : k0_pay6 (F := Ideal) x1 (ix2 r l) = act (rows x1) r l := by
  pointwise [k0_pay6]
  rfl

theorem out5_read (r : Fin 2048) (l : Fin 128) : out0_5 (F := Ideal) x0 x1 x2 x3 x4 (ix2 r l)
    = out (rows x0) (rows x1) (scale x2) (weights x3) (bias x4) r l := by
  unfold out0_5
  frame_out
  pointwise [k0_pay1, k0_pay2, k0_pay3, k0_pay4, k0_pay7]
  simp only [actu_read, actv_read]
  unfold out gate
  refine congrArg (HMul.hMul (α := EReal) _) (congrArg₂ (· + ·) (Finset.sum_congr rfl fun j _ => ?_) rfl)
  rw [mix_mul, ← select_le (r.1 % 128) j.1 _ (by omega) (by omega)]
  rfl

variable (m : (ℓ : Loc nD τ sig) → Buf (Elt Ideal) ℓ)

/-- The windows' blocks: grid point `t` has group `t`. -/
theorem idx : ∀ t : Fin cfg0.N, win0_0.index t = ![0, t.val] ∧ win0_1.index t = ![0, 4 + t.val] ∧ win0_2.index t = ![t.val, 0, 0]
    ∧ win0_3.index t = ![t.val, 0, 0] ∧ win0_4.index t = ![t.val, 0, 0] ∧ win0_5.index t = ![0, t.val] :=
  (by decide +kernel : ∀ t : Fin grid0.N, _)

/-- The group of a grid point. -/
abbrev grp (t : Fin cfg0.N) : Fin 4 := ⟨t.1, lt_of_lt_of_eq t.isLt N_0⟩

theorem seg_eq (c : Dev nD) : V m c main_v4 = columns (m ((c : Thread nD τ).loc main_arg0)) := by
  unfold V
  after_results
  rfl

theorem part0_read (c : Dev nD) (t : Fin cfg0.N) : rows (iblk m c 0 t) = part 0 (m ((c : Thread nD τ).loc main_arg0)) (grp t) := by
  funext r l
  have ht : t.1 < 4 := (grp t).2
  refine Eq.trans ?_ (columns_read _ r ⟨512 * (0 : Fin 2).1 + 128 * (grp t).1 + l.1, by omega⟩ _ rfl (by simp only; omega))
  rw [← seg_eq]
  unfold rows
  blk_ext [iblk, idx t]

theorem part1_read (c : Dev nD) (t : Fin cfg0.N) : rows (iblk m c 1 t) = part 1 (m ((c : Thread nD τ).loc main_arg0)) (grp t) := by
  funext r l
  have ht : t.1 < 4 := (grp t).2
  refine Eq.trans ?_ (columns_read _ r ⟨512 * (1 : Fin 2).1 + 128 * (grp t).1 + l.1, by omega⟩ _ rfl (by simp only; omega))
  rw [← seg_eq]
  unfold rows
  blk_ext [iblk, idx t]

theorem scale_at (c : Dev nD) (t : Fin cfg0.N) : scale (iblk m c 2 t) = scaleOf (m ((c : Thread nD τ).loc main_arg1)) (grp t) := by
  have e : V m c main_v5 = broadcastInDim S4x1x128 ![0, 2] bcast_S4x128_S4x1x128_0_2 (m ((c : Thread nD τ).loc main_arg1)) := by
    unfold V; after_results
  funext l
  refine Eq.trans (b := V m c main_v5 (ix3 (grp t) 0 l)) (by unfold scale; blk_ext [iblk, idx t]) ?_
  rw [e]
  pointwise
  rfl

theorem weights_at (c : Dev nD) (t : Fin cfg0.N) : weights (iblk m c 3 t) = weightsOf (m ((c : Thread nD τ).loc main_arg2)) (grp t) := by
  funext i j
  unfold weights weightsOf
  blk_ext [iblk, V, idx t]

theorem bias_at (c : Dev nD) (t : Fin cfg0.N) : bias (iblk m c 4 t) = scaleOf (m ((c : Thread nD τ).loc main_arg3)) (grp t) := by
  have e : V m c main_v6 = broadcastInDim S4x128x1 ![0, 1] bcast_S4x128_S4x128x1_0_1 (m ((c : Thread nD τ).loc main_arg3)) := by
    unfold V; after_results
  funext l
  refine Eq.trans (b := V m c main_v6 (ix3 (grp t) l 0)) (by unfold bias; blk_ext [iblk, idx t]) ?_
  rw [e]
  pointwise
  rfl

/-- The array of the four groups' gated rows. -/
def gated (P : FVec Ideal S1x2048x6412 .f32) (s : FVec Ideal S4x128 .f32) (w : FVec Ideal S4x128x128 .f32)
    (b : FVec Ideal S4x128 .f32) : (⟨2, ![2048, 512]⟩ : Shape).Idx → EReal :=
  groups fun g => out (part 0 P g) (part 1 P g) (scaleOf s g) (weightsOf w g) (scaleOf b g)

theorem final5 (c : Dev nD) : (dats m 0 c).arrAt 5 (cfgs 0).N
    = gated (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  idx_vars y
  rw [out5_read, part0_read, part1_read, scale_at, weights_at, bias_at]
  unfold gated
  rw [groups_at _ _ (grp t) y0 y1]
  · blk_simp [idx t]
  · blk_simp [idx t]
    show _ = 128 * t.1 + y1.1
    omega

end Cert.SguFIdeal.Value

namespace Cert.SguFRefIdeal.Value

open Cert.Sgu Cert.Reads Cert.SguFRefIdeal Idealize.ShloMosaic Idealize.ShloMosaic.TcCoe Idealize.SL.Sem

variable (m : (ℓ : Loc nD τ sig) → Buf (Elt Ideal) ℓ) (c : Dev nD) (g : Fin 4) (t : Fin 2048) (l : Fin 128)

theorem gelu_eq (x : EReal) : x * (Ideal.ofBits .f32 0x3F000000#32 * (1 + Ideal.tanh (Ideal.ofBits .f32 0x3F4C422A#32
    * (x + Ideal.ofBits .f32 0x3D372713#32 * (x * x * x))))) = gelu x := by
  unfold gelu th
  ac_rfl

/-- A bit chosen by itself, and a row's number moved by nothing. -/
theorem bit_self (c : BitVec 1) : Scalar.select c 1#1 0#1 = c := by revert c; decide

theorem addi_zero (x : BitVec 32) : IntOp.addi x 0#32 = x := by simp [IntOp.addi]

theorem result : res_main_v66 m c = Cert.SguFIdeal.Value.gated (m ((c : Thread nD τ).loc main_arg0)) (m ((c : Thread nD τ).loc main_arg1))
    (m ((c : Thread nD τ).loc main_arg2)) (m ((c : Thread nD τ).loc main_arg3)) := by
  refine (groups_ext _ _ fun g t l => ?_).symm
  have p0 : ∀ (r : Fin 2048) (k : Fin 128), m ((c : Thread nD τ).loc main_arg0) (ix3 0 r ⟨128 * g.1 + k.1, by omega⟩)
      = part 0 (m ((c : Thread nD τ).loc main_arg0)) g r k := fun r k => by unfold part; blk_ext
  have p1 : ∀ (r : Fin 2048) (k : Fin 128), m ((c : Thread nD τ).loc main_arg0) (ix3 0 r ⟨512 + (g.1 * 128 + k.1), by omega⟩)
      = part 1 (m ((c : Thread nD τ).loc main_arg0)) g r k := fun r k => by unfold part; blk_ext
  unfold res_main_v66
  pointwise
  simp only [gelu_eq, p0, p1, bit_self, addi_zero]
  unfold Cert.SguFIdeal.Value.out gate
  refine congrArg (HMul.hMul (α := EReal) _) (congrArg₂ (· + ·) (Finset.sum_congr rfl fun j _ => ?_) rfl)
  rw [Cert.SguFIdeal.Value.mix_mul, ← Cert.SguFIdeal.Value.select_le (t.1 % 128) j.1 _ (by omega) (by omega), mul_comm (weightsOf _ _ _ _)]
  rfl

end Cert.SguFRefIdeal.Value

namespace Cert.Proof

open Idealize.ShloMosaic Idealize.ShloMosaic.TcCoe Idealize.SL.Sem

theorem algebraic_sgu_f : Cert.algebraic_SguFIdeal_SguFRefIdeal := by
  pair_intro
  · run_from Cert.SguFIdeal.Gen.run_main m g
  · run_from Cert.SguFRefIdeal.Value.run m' g'
    rw [Cert.SguFIdeal.Value.final5 m c, Cert.SguFRefIdeal.Value.result m' c, (hagree c).1, (hagree c).2.1, (hagree c).2.2.1, (hagree c).2.2.2]

end Cert.Proof

end
-- ==== Proof.Conv.Forward.lean ====
/- The convolution of the forward pass: its four taps as the forward lines add them. -/
module

public import proofs.«01_k».proof.Proof.Conv.Spec
public import Idealize.ShloMosaic.Lib.Pipeline.ValueKit

@[expose] public section

noncomputable section

namespace Cert.Conv

open Idealize.ShloMosaic

/-- A row read from an array with three rows of zeros before it. -/
theorem back_of (X : Head) (k n : ℕ) (t : Fin 2048) (l : Fin 128) (hn : n < 3 ↔ t.1 < k) (f : ¬ n < 3 → EReal)
    (e : ∀ h (hk : k ≤ t.1), f h = X ⟨t.1 - k, by omega⟩ l) : (if h : n < 3 then 0 else f h) = back X k t l := by
  unfold back
  by_cases h : n < 3
  · rw [dif_pos h, if_neg (by omega)]
  · rw [dif_neg h, if_pos (by omega), e h (by omega)]

theorem conv_eq (X : Head) (W : Taps) (t : Fin 2048) (l : Fin 128) :
    back X 3 t l * W 0 l + back X 2 t l * W 1 l + back X 1 t l * W 2 l + X t l * W 3 l = conv X W t l := by
  unfold conv
  ac_rfl

/-- The forward lines' three earlier rows, and the row itself, of the head `h` of the queries, keys or values (`o`), whose channels
begin at `n`. -/
theorem rows_of (o : Fin 3) (n : ℕ) (hn : n = 1024 + 768 * o.1) (P : FVec Ideal ⟨3, ![1, 2048, 6412]⟩ .f32) (h : Fin 6) (t : Fin 2048)
    (l : Fin 128) :
    (if e : t.1 < 3 then (0 : EReal) else P (ix3 0 ⟨t.1 - 3, by omega⟩ ⟨n + (h.1 * 128 + l.1), by omega⟩)) = back (headOf o P h) 3 t l
    ∧ (if e : 1 + t.1 < 3 then (0 : EReal) else P (ix3 0 ⟨1 + t.1 - 3, by omega⟩ ⟨n + (h.1 * 128 + l.1), by omega⟩)) = back (headOf o P h) 2 t l
    ∧ (if e : 2 + t.1 < 3 then (0 : EReal) else P (ix3 0 ⟨2 + t.1 - 3, by omega⟩ ⟨n + (h.1 * 128 + l.1), by omega⟩)) = back (headOf o P h) 1 t l
    ∧ P (ix3 0 t ⟨n + (h.1 * 128 + l.1), by omega⟩) = headOf o P h t l := by
  refine ⟨back_of _ 3 _ t l Iff.rfl _ fun _ _ => ?_, back_of _ 2 _ t l (by omega) _ fun _ _ => ?_, back_of _ 1 _ t l (by omega) _ fun _ _ => ?_,
    ?_⟩ <;> unfold headOf <;> blk_ext

/-- The activated convolution, its rows divided by their length. -/
def unit (X : Head) (W : Taps) : Head := fun t l => act (conv X W) t l * Ideal.rsqrt (energy (act (conv X W)) t)

end Cert.Conv

end
-- ==== Proof.ConvQF.lean ====
/- The causal convolution of the forward pass, for the queries: the kernel and the forward lines give the same array. -/
module

public import proofs.«01_k».proof.Defs
public import proofs.«01_k».proof.Proof.Columns
public import proofs.«01_k».proof.Proof.Reads
public import proofs.«01_k».proof.Proof.Conv.Forward
public import proofs.«01_k».proof.Proof.Gen.ConvQFIdeal.Frame
public import proofs.«01_k».proof.Proof.Gen.ConvQFIdeal.Value
public import proofs.«01_k».proof.Proof.Gen.ConvQFRefIdeal.Run
public import Idealize.ShloMosaic.Lib.Pipeline.ValueKit
public import Idealize.ShloMosaic.Lib.Claim

@[expose] public section

set_option maxRecDepth 16384

noncomputable section

namespace Cert.ConvQFIdeal.Value

open Cert.Conv Cert.Columns Cert.ConvQFIdeal Cert.ConvQFIdeal.Gen Idealize.ShloMosaic Idealize.ShloMosaic.TcCoe Idealize.SL.Sem

/-! ## One head's block -/

/-- The block of inputs, and the block of tap weights, as plain functions. -/
def head (x : FVec Ideal S2048x128 .f32) : Head := fun t l => x (ix2 t l)

def taps (x : FVec Ideal S4x128 .f32) : Taps := fun t l => x (ix2 t l)

/-- The head of queries: the activated convolution, its rows divided by their length, and scaled. -/
def out (X : Head) (W : Taps) : Head := fun t l =>
  unit X W t l * Ideal.ofBits .f32 0x3DB504F3#32

variable (x0 : FVec Ideal S2048x128 .f32) (x1 : FVec Ideal S4x128 .f32)

theorem conv_read (t : Fin 2048) (l : Fin 128) :
    k0_pay2 (F := Ideal) x0 (View.ld x1 r0_1) (View.ld x1 r0_2) (View.ld x1 r0_3) (View.ld x1 r0_4) (ix2 t l)
      = conv (head x0) (taps x1) t l := by
  pointwise [k0_pay2]
  simp only [conv, ← select_back _ _ 3 (by norm_num), ← select_back _ _ 2 (by norm_num), ← select_back _ _ 1 (by norm_num)]
  rfl

theorem out2_read (t : Fin 2048) (l : Fin 128) : out0_2 (F := Ideal) x0 x1 (ix2 t l) = out (head x0) (taps x1) t l := by
  unfold out0_2
  frame_out
  pointwise [k0_pay1, k0_pay3]
  simp only [conv_read, zero_sub]
  rfl

/-- The windows' blocks: grid point `t` has head `t`. -/
theorem idx : ∀ t : Fin cfg0.N, win0_0.index t = ![0, 8 + t.val] ∧ win0_1.index t = ![0, t.val] ∧ win0_2.index t = ![0, t.val] :=
  (by decide +kernel : ∀ t : Fin grid0.N, _)

/-! ## The array -/

variable (m : (ℓ : Loc nD τ sig) → Buf (Elt Ideal) ℓ)

def heads (P : FVec Ideal S1x2048x6412 .f32) (W : FVec Ideal S4x2304 .f32) : S2048x768.Idx → EReal :=
  side fun h => out (headOf 0 P h) (tapsOf 0 W h)

theorem seg_eq (c : Dev nD) : V m c main_v4 = columns (m ((c : Thread nD τ).loc main_arg0)) := by
  unfold V
  after_results
  rfl

theorem blocks_read (c : Dev nD) (t : Fin cfg0.N) (h : Fin 6) (ht : h.1 = t.1) :
    head (iblk m c 0 t) = headOf 0 (m ((c : Thread nD τ).loc main_arg0)) h
    ∧ taps (iblk m c 1 t) = tapsOf 0 (m ((c : Thread nD τ).loc main_arg1)) h := by
  refine ⟨?_, ?_⟩ <;> funext r l
  · refine Eq.trans ?_ (columns_read _ r ⟨1024 + 768 * (0 : Fin 3).1 + 128 * h.1 + l.1, by omega⟩ _ rfl (by simp only; omega))
    rw [← seg_eq]
    unfold head
    blk_ext [iblk, idx t]
  · unfold taps tapsOf
    blk_point [iblk, V, idx t]

theorem final2 (c : Dev nD) : (dats m 0 c).arrAt 2 (cfgs 0).N
    = heads (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain ⟨e1, e2⟩ := blocks_read m c t ⟨t.1, lt_of_lt_of_eq t.isLt N_0⟩ rfl
  rw [out2_read, e1, e2]
  unfold heads
  rw [side_at _ _ ⟨t.1, lt_of_lt_of_eq t.isLt N_0⟩ y0 y1]
  · blk_simp [idx t]
  · blk_simp [idx t]
    show _ = 128 * t.1 + y1.1
    omega

end Cert.ConvQFIdeal.Value

namespace Cert.ConvQFRefIdeal.Value

open Cert.Conv Cert.Reads Cert.ConvQFRefIdeal Idealize.ShloMosaic Idealize.ShloMosaic.TcCoe Idealize.SL.Sem

variable (m : (ℓ : Loc nD τ sig) → Buf (Elt Ideal) ℓ) (c : Dev nD)

theorem weights_read (W : FVec Ideal S4x2304 .f32) (h : Fin 6) (k : Fin 4) (l : Fin 128) :
    W (ix2 k ⟨h.1 * 128 + l.1, by omega⟩) = tapsOf 0 W h k l := by
  unfold tapsOf; blk_ext

theorem result : res_main_v58 m c = Cert.ConvQFIdeal.Value.heads (m ((c : Thread nD τ).loc main_arg0)) (m ((c : Thread nD τ).loc main_arg1)) := by
  refine (side_ext _ _ fun h t l => ?_).symm
  have e := fun l => rows_of 0 1024 rfl (m ((c : Thread nD τ).loc main_arg0)) h t l
  unfold res_main_v58
  pointwise
  simp only [fun l => (e l).1, fun l => (e l).2.1, fun l => (e l).2.2.1, fun l => (e l).2.2.2, weights_read, conv_eq]
  rfl

end Cert.ConvQFRefIdeal.Value

namespace Cert.Proof

open Idealize.ShloMosaic Idealize.ShloMosaic.TcCoe Idealize.SL.Sem

theorem algebraic_conv_q_f : Cert.algebraic_ConvQFIdeal_ConvQFRefIdeal := by
  pair_intro
  · run_from Cert.ConvQFIdeal.Gen.run_main m g
  · run_from Cert.ConvQFRefIdeal.Value.run m' g'
    rw [Cert.ConvQFIdeal.Value.final2 m c, Cert.ConvQFRefIdeal.Value.result m' c, (hagree c).1, (hagree c).2]

end Cert.Proof

end
-- ==== Proof.ConvKF.lean ====
/- The causal convolution of the forward pass, for the keys: the kernel and the forward lines give the same array. -/
module

public import proofs.«01_k».proof.Defs
public import proofs.«01_k».proof.Proof.Columns
public import proofs.«01_k».proof.Proof.Reads
public import proofs.«01_k».proof.Proof.Conv.Forward
public import proofs.«01_k».proof.Proof.Gen.ConvKFIdeal.Frame
public import proofs.«01_k».proof.Proof.Gen.ConvKFIdeal.Value
public import proofs.«01_k».proof.Proof.Gen.ConvKFRefIdeal.Run
public import Idealize.ShloMosaic.Lib.Pipeline.ValueKit
public import Idealize.ShloMosaic.Lib.Claim

@[expose] public section

set_option maxRecDepth 16384

noncomputable section

namespace Cert.ConvKFIdeal.Value

open Cert.Conv Cert.Columns Cert.ConvKFIdeal Cert.ConvKFIdeal.Gen Idealize.ShloMosaic Idealize.ShloMosaic.TcCoe Idealize.SL.Sem

/-! ## One head's block -/

/-- The block of inputs, and the block of tap weights, as plain functions. -/
def head (x : FVec Ideal S2048x128 .f32) : Head := fun t l => x (ix2 t l)

def taps (x : FVec Ideal S4x128 .f32) : Taps := fun t l => x (ix2 t l)

/-- The head of keys: the activated convolution, its rows divided by their length. -/
abbrev out (X : Head) (W : Taps) : Head := unit X W

variable (x0 : FVec Ideal S2048x128 .f32) (x1 : FVec Ideal S4x128 .f32)

theorem conv_read (t : Fin 2048) (l : Fin 128) :
    k0_pay2 (F := Ideal) x0 (View.ld x1 r0_1) (View.ld x1 r0_2) (View.ld x1 r0_3) (View.ld x1 r0_4) (ix2 t l)
      = conv (head x0) (taps x1) t l := by
  pointwise [k0_pay2]
  simp only [conv, ← select_back _ _ 3 (by norm_num), ← select_back _ _ 2 (by norm_num), ← select_back _ _ 1 (by norm_num)]
  rfl

theorem out2_read (t : Fin 2048) (l : Fin 128) : out0_2 (F := Ideal) x0 x1 (ix2 t l) = out (head x0) (taps x1) t l := by
  unfold out0_2
  frame_out
  pointwise [k0_pay1, k0_pay3]
  simp only [conv_read, zero_sub]
  rfl

/-- The windows' blocks: grid point `t` has head `t`. -/
theorem idx : ∀ t : Fin cfg0.N, win0_0.index t = ![0, 14 + t.val] ∧ win0_1.index t = ![0, 6 + t.val] ∧ win0_2.index t = ![0, t.val] :=
  (by decide +kernel : ∀ t : Fin grid0.N, _)

/-! ## The array -/

variable (m : (ℓ : Loc nD τ sig) → Buf (Elt Ideal) ℓ)

def heads (P : FVec Ideal S1x2048x6412 .f32) (W : FVec Ideal S4x2304 .f32) : S2048x768.Idx → EReal :=
  side fun h => out (headOf 1 P h) (tapsOf 1 W h)

theorem seg_eq (c : Dev nD) : V m c main_v4 = columns (m ((c : Thread nD τ).loc main_arg0)) := by
  unfold V
  after_results
  rfl

theorem blocks_read (c : Dev nD) (t : Fin cfg0.N) (h : Fin 6) (ht : h.1 = t.1) :
    head (iblk m c 0 t) = headOf 1 (m ((c : Thread nD τ).loc main_arg0)) h
    ∧ taps (iblk m c 1 t) = tapsOf 1 (m ((c : Thread nD τ).loc main_arg1)) h := by
  refine ⟨?_, ?_⟩ <;> funext r l
  · refine Eq.trans ?_ (columns_read _ r ⟨1024 + 768 * (1 : Fin 3).1 + 128 * h.1 + l.1, by omega⟩ _ rfl (by simp only; omega))
    rw [← seg_eq]
    unfold head
    blk_ext [iblk, idx t]
  · unfold taps tapsOf
    blk_point [iblk, V, idx t]

theorem final2 (c : Dev nD) : (dats m 0 c).arrAt 2 (cfgs 0).N
    = heads (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain ⟨e1, e2⟩ := blocks_read m c t ⟨t.1, lt_of_lt_of_eq t.isLt N_0⟩ rfl
  rw [out2_read, e1, e2]
  unfold heads
  rw [side_at _ _ ⟨t.1, lt_of_lt_of_eq t.isLt N_0⟩ y0 y1]
  · blk_simp [idx t]
  · blk_simp [idx t]
    show _ = 128 * t.1 + y1.1
    omega

end Cert.ConvKFIdeal.Value

namespace Cert.ConvKFRefIdeal.Value

open Cert.Conv Cert.Reads Cert.ConvKFRefIdeal Idealize.ShloMosaic Idealize.ShloMosaic.TcCoe Idealize.SL.Sem

variable (m : (ℓ : Loc nD τ sig) → Buf (Elt Ideal) ℓ) (c : Dev nD)

theorem weights_read (W : FVec Ideal S4x2304 .f32) (h : Fin 6) (k : Fin 4) (l : Fin 128) :
    W (ix2 k ⟨768 + (h.1 * 128 + l.1), by omega⟩) = tapsOf 1 W h k l := by
  unfold tapsOf; blk_ext

theorem result : res_main_v56 m c = Cert.ConvKFIdeal.Value.heads (m ((c : Thread nD τ).loc main_arg0)) (m ((c : Thread nD τ).loc main_arg1)) := by
  refine (side_ext _ _ fun h t l => ?_).symm
  have e := fun l => rows_of 1 1792 rfl (m ((c : Thread nD τ).loc main_arg0)) h t l
  unfold res_main_v56
  pointwise
  simp only [fun l => (e l).1, fun l => (e l).2.1, fun l => (e l).2.2.1, fun l => (e l).2.2.2, weights_read, conv_eq]
  rfl

end Cert.ConvKFRefIdeal.Value

namespace Cert.Proof

open Idealize.ShloMosaic Idealize.ShloMosaic.TcCoe Idealize.SL.Sem

theorem algebraic_conv_k_f : Cert.algebraic_ConvKFIdeal_ConvKFRefIdeal := by
  pair_intro
  · run_from Cert.ConvKFIdeal.Gen.run_main m g
  · run_from Cert.ConvKFRefIdeal.Value.run m' g'
    rw [Cert.ConvKFIdeal.Value.final2 m c, Cert.ConvKFRefIdeal.Value.result m' c, (hagree c).1, (hagree c).2]

end Cert.Proof

end
-- ==== Proof.ConvVF.lean ====
/- The causal convolution of the forward pass, for the values: the kernel and the forward lines give the same array. -/
module

public import proofs.«01_k».proof.Defs
public import proofs.«01_k».proof.Proof.Columns
public import proofs.«01_k».proof.Proof.Reads
public import proofs.«01_k».proof.Proof.Conv.Forward
public import proofs.«01_k».proof.Proof.Gen.ConvVFIdeal.Frame
public import proofs.«01_k».proof.Proof.Gen.ConvVFIdeal.Value
public import proofs.«01_k».proof.Proof.Gen.ConvVFRefIdeal.Run
public import Idealize.ShloMosaic.Lib.Pipeline.ValueKit
public import Idealize.ShloMosaic.Lib.Claim

@[expose] public section

set_option maxRecDepth 16384

noncomputable section

namespace Cert.ConvVFIdeal.Value

open Cert.Conv Cert.Columns Cert.ConvVFIdeal Cert.ConvVFIdeal.Gen Idealize.ShloMosaic Idealize.ShloMosaic.TcCoe Idealize.SL.Sem

/-! ## One head's block -/

/-- The block of inputs, and the block of tap weights, as plain functions. -/
def head (x : FVec Ideal S2048x128 .f32) : Head := fun t l => x (ix2 t l)

def taps (x : FVec Ideal S4x128 .f32) : Taps := fun t l => x (ix2 t l)

/-- The head of values: the activated convolution. -/
abbrev out (X : Head) (W : Taps) : Head := act (conv X W)

variable (x0 : FVec Ideal S2048x128 .f32) (x1 : FVec Ideal S4x128 .f32)

theorem conv_read (t : Fin 2048) (l : Fin 128) :
    k0_pay2 (F := Ideal) x0 (View.ld x1 r0_1) (View.ld x1 r0_2) (View.ld x1 r0_3) (View.ld x1 r0_4) (ix2 t l)
      = conv (head x0) (taps x1) t l := by
  pointwise [k0_pay2]
  simp only [conv, ← select_back _ _ 3 (by norm_num), ← select_back _ _ 2 (by norm_num), ← select_back _ _ 1 (by norm_num)]
  rfl

theorem out2_read (t : Fin 2048) (l : Fin 128) : out0_2 (F := Ideal) x0 x1 (ix2 t l) = out (head x0) (taps x1) t l := by
  unfold out0_2
  frame_out
  pointwise [k0_pay1, k0_pay3]
  simp only [conv_read, zero_sub]
  rfl

/-- The windows' blocks: grid point `t` has head `t`. -/
theorem idx : ∀ t : Fin cfg0.N, win0_0.index t = ![0, 20 + t.val] ∧ win0_1.index t = ![0, 12 + t.val] ∧ win0_2.index t = ![0, t.val] :=
  (by decide +kernel : ∀ t : Fin grid0.N, _)

/-! ## The array -/

variable (m : (ℓ : Loc nD τ sig) → Buf (Elt Ideal) ℓ)

def heads (P : FVec Ideal S1x2048x6412 .f32) (W : FVec Ideal S4x2304 .f32) : S2048x768.Idx → EReal :=
  side fun h => out (headOf 2 P h) (tapsOf 2 W h)

theorem seg_eq (c : Dev nD) : V m c main_v4 = columns (m ((c : Thread nD τ).loc main_arg0)) := by
  unfold V
  after_results
  rfl

theorem blocks_read (c : Dev nD) (t : Fin cfg0.N) (h : Fin 6) (ht : h.1 = t.1) :
    head (iblk m c 0 t) = headOf 2 (m ((c : Thread nD τ).loc main_arg0)) h
    ∧ taps (iblk m c 1 t) = tapsOf 2 (m ((c : Thread nD τ).loc main_arg1)) h := by
  refine ⟨?_, ?_⟩ <;> funext r l
  · refine Eq.trans ?_ (columns_read _ r ⟨1024 + 768 * (2 : Fin 3).1 + 128 * h.1 + l.1, by omega⟩ _ rfl (by simp only; omega))
    rw [← seg_eq]
    unfold head
    blk_ext [iblk, idx t]
  · unfold taps tapsOf
    blk_point [iblk, V, idx t]

theorem final2 (c : Dev nD) : (dats m 0 c).arrAt 2 (cfgs 0).N
    = heads (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain ⟨e1, e2⟩ := blocks_read m c t ⟨t.1, lt_of_lt_of_eq t.isLt N_0⟩ rfl
  rw [out2_read, e1, e2]
  unfold heads
  rw [side_at _ _ ⟨t.1, lt_of_lt_of_eq t.isLt N_0⟩ y0 y1]
  · blk_simp [idx t]
  · blk_simp [idx t]
    show _ = 128 * t.1 + y1.1
    omega

end Cert.ConvVFIdeal.Value

namespace Cert.ConvVFRefIdeal.Value

open Cert.Conv Cert.Reads Cert.ConvVFRefIdeal Idealize.ShloMosaic Idealize.ShloMosaic.TcCoe Idealize.SL.Sem

variable (m : (ℓ : Loc nD τ sig) → Buf (Elt Ideal) ℓ) (c : Dev nD)

theorem weights_read (W : FVec Ideal S4x2304 .f32) (h : Fin 6) (k : Fin 4) (l : Fin 128) :
    W (ix2 k ⟨1536 + (h.1 * 128 + l.1), by omega⟩) = tapsOf 2 W h k l := by
  unfold tapsOf; blk_ext

theorem result : res_main_v38 m c = Cert.ConvVFIdeal.Value.heads (m ((c : Thread nD τ).loc main_arg0)) (m ((c : Thread nD τ).loc main_arg1)) := by
  refine (side_ext _ _ fun h t l => ?_).symm
  have e := fun l => rows_of 2 2560 rfl (m ((c : Thread nD τ).loc main_arg0)) h t l
  unfold res_main_v38
  pointwise
  simp only [fun l => (e l).1, fun l => (e l).2.1, fun l => (e l).2.2.1, fun l => (e l).2.2.2, weights_read, conv_eq]
  rfl

end Cert.ConvVFRefIdeal.Value

namespace Cert.Proof

open Idealize.ShloMosaic Idealize.ShloMosaic.TcCoe Idealize.SL.Sem

theorem algebraic_conv_v_f : Cert.algebraic_ConvVFIdeal_ConvVFRefIdeal := by
  pair_intro
  · run_from Cert.ConvVFIdeal.Gen.run_main m g
  · run_from Cert.ConvVFRefIdeal.Value.run m' g'
    rw [Cert.ConvVFIdeal.Value.final2 m c, Cert.ConvVFRefIdeal.Value.result m' c, (hagree c).1, (hagree c).2]

end Cert.Proof

end
-- ==== Proof.Gates.Lead.lean ====
/- The host's running sum of each row of the last axis, read as a sum over the positions up to one. -/
module

public import proofs.«01_k».proof.Proof.Gates.Window

@[expose] public section

set_option maxRecDepth 16384

noncomputable section

namespace Cert.Window

open Idealize.ShloMosaic

/-- A sum over the positions up to `r`, one row's length. -/
theorem lead_sum {n : ℕ} (x : Fin n → EReal) (r : Fin n) :
    ∑ k : Fin n, (if h : n - 1 ≤ r.1 + k.1 then x ⟨r.1 + k.1 - (n - 1), by omega⟩ else 0)
      = ∑ i : Fin n, (if i.1 ≤ r.1 then (1 : EReal) else 0) * x i := by
  have e := shift_sum (fun i => x i.rev) r.rev
  rw [← Equiv.sum_comp Fin.revPerm (fun i : Fin n => (if i.1 ≤ r.1 then (1 : EReal) else 0) * x i),
    ← Equiv.sum_comp Fin.revPerm (fun k : Fin n => (if h : n - 1 ≤ r.1 + k.1 then x ⟨r.1 + k.1 - (n - 1), by omega⟩ else 0))]
  refine Eq.trans (Finset.sum_congr rfl fun k _ => ?_) (e.trans (Finset.sum_congr rfl fun i _ => ?_))
  · have hk := k.2
    have hr := r.2
    simp only [Fin.revPerm_apply, Fin.val_rev]
    by_cases h : k.1 ≤ r.1
    · rw [dif_pos (by omega), dif_pos (by omega)]
      exact congrArg x (Fin.ext (by simp only [Fin.val_rev]; omega))
    · rw [dif_neg (by omega), dif_neg (by omega)]
  · have hi := i.2
    have hr := r.2
    simp only [Fin.revPerm_apply, Fin.val_rev]
    congr 1
    exact if_congr (by omega) rfl rfl

theorem lead_read {a b n p : ℕ} (hp : p = n - 1)
    (h : (⟨4, ![1, a, b, n]⟩ : Shape).ReduceWindows ![1, 1, 1, n] ![1, 1, 1, 1] ![0, 0, 0, p] ![0, 0, 0, 0] ⟨4, ![1, a, b, n]⟩)
    (x : (⟨4, ![1, a, b, n]⟩ : Shape).Idx → EReal) (i : Fin a) (j : Fin b) (r : Fin n) :
    Ideal.hostReduceWindowAdd ![1, 1, 1, n] ![1, 1, 1, 1] ![0, 0, 0, p] ![0, 0, 0, 0] h x 0 (ix4 0 i j r)
      = ∑ k : Fin n, (if k.1 ≤ r.1 then (1 : EReal) else 0) * x (ix4 0 i j k) := by
  rw [← lead_sum (fun k => x (ix4 0 i j k)) r]
  unfold Ideal.hostReduceWindowAdd Host.reduceWindow
  dsimp only
  rw [foldl_sum]
  refine Finset.sum_bij' (fun q _ => ((⟨4, ![1, 1, 1, n]⟩ : Shape).rowMajor.symm q 3 : Fin n))
    (fun k _ => (⟨4, ![1, 1, 1, n]⟩ : Shape).rowMajor (ix4 0 0 0 k)) (fun _ _ => Finset.mem_univ _)
    (fun _ _ => Finset.mem_univ _) ?_ ?_ ?_
  · intro q _
    obtain ⟨w, rfl⟩ := (⟨4, ![1, 1, 1, n]⟩ : Shape).rowMajor.surjective q
    rw [Equiv.symm_apply_apply]
    obtain ⟨w3, rfl⟩ := only_last w
    rfl
  · intro k _
    rw [Equiv.symm_apply_apply]
    rfl
  · intro q _
    obtain ⟨w, rfl⟩ := (⟨4, ![1, 1, 1, n]⟩ : Shape).rowMajor.surjective q
    simp only [Equiv.symm_apply_apply]
    obtain ⟨w3, rfl⟩ := only_last w
    have hr := r.2
    have hw := w3.2
    by_cases hk : n - 1 ≤ r.1 + w3.1
    · refine Eq.trans ?_ (dif_pos hk).symm
      refine (dif_pos ?_).trans ?_
      · intro q
        fin_cases q <;> simp [ix4] <;> omega
      · congr 1
        funext q
        fin_cases q <;> apply Fin.ext <;> simp [ix4, hp]
        rfl
    · refine Eq.trans ?_ (dif_neg hk).symm
      refine dif_neg fun hin => ?_
      have := (hin 3).1
      simp [ix4] at this
      omega

end Cert.Window

end
-- ==== Proof.GatesF.lean ====
/- The gates of the forward pass: the kernel and the forward lines give the same two arrays. -/
module

public import proofs.«01_k».proof.Defs
public import proofs.«01_k».proof.Proof.Columns
public import proofs.«01_k».proof.Proof.Gates.Lead
public import proofs.«01_k».proof.Proof.Gates.Spec
public import proofs.«01_k».proof.Proof.Gates.Ref
public import proofs.«01_k».proof.Proof.Gates.Value
public import proofs.«01_k».proof.Proof.Gen.GatesFIdeal.Frame
public import proofs.«01_k».proof.Proof.Gen.GatesFIdeal.Value
public import proofs.«01_k».proof.Proof.Gen.GatesFRefIdeal.Run
public import Idealize.ShloMosaic.Lib.Pipeline.ValueKit
public import Idealize.ShloMosaic.Lib.WordCmp
public import Idealize.ShloMosaic.Lib.Claim

@[expose] public section

set_option maxRecDepth 16384

noncomputable section

namespace Cert.Gates

open Idealize.ShloMosaic

/-- What the rows of a chunk up to row `r` add up to. -/
def upTo (D : Fin 2048 → EReal) (r : Fin 2048) : EReal :=
  ∑ i : Fin 64, (if i.1 ≤ r.1 % 64 then (1 : EReal) else 0) * D ⟨r.1 / 64 * 64 + i.1, by omega⟩

/-- A head's strengths, and its decays' running sums in each chunk, on 128 equal lanes. -/
def BETA (P : Proj) : (⟨3, ![6, 2048, 128]⟩ : Shape).Idx → EReal := fun j => Ideal.div 1 (1 + Ideal.exp (0 - logit P (j 0) (j 1)))

def DECAY (P : Proj) (al dt : PerHead) : (⟨3, ![6, 2048, 128]⟩ : Shape).Idx → EReal := fun j =>
  upTo (fun r => (0 - Ideal.exp (al (ix1 (j 0)))) * softplus (shifted P dt (j 0) r)) (j 1)

end Cert.Gates

namespace Cert.GatesFIdeal.Value

open Cert.Gates Cert.GatesFIdeal Cert.GatesFIdeal.Gen Idealize.ShloMosaic Idealize.ShloMosaic.TcCoe Idealize.SL.Sem
open Cert.Columns (columns columns_read)
open Cert.GatesIdeal.Value (bit_read)

/-! ## The payloads at an index -/

/-- The columns of the logits in the block of 128 columns. -/
abbrev cb (i : grid0.Coords) : Fin 128 := ⟨(i 0).val, by have h : (i 0).val < 6 := (i 0).isLt; omega⟩

abbrev ca (i : grid0.Coords) : Fin 128 := ⟨(i 0).val + 6, by have h : (i 0).val < 6 := (i 0).isLt; omega⟩

/-- A column of zeros with a single one, as the kernel makes it. -/
theorem hot (k a : ℕ) (hk : k < 128) (ha : a < 128) :
    FloatOps.sitofp (F := Ideal) FTy.f32 (BitVec.setWidth 32 (IntOp.cmpi CmpIPredicate.eq (BitVec.ofNat 32 k) (BitVec.ofNat 32 a)))
      = if k = a then (1 : EReal) else 0 := by
  word_cmp
  exact bit_read _

theorem beta_read (i : grid0.Coords) (x : FVec Ideal S2048x128 .f32) (r : Fin 2048) (l : Fin 128) :
    k0_pay4 (F := Ideal) i x (ix2 r l) = Ideal.div 1 (1 + Ideal.exp (0 - x (ix2 r (cb i)))) := by
  have h : (i 0).val < 6 := (i 0).isLt
  pointwise [k0_pay4, k0_pay3]
  rw [← pick_sum (fun k => x (ix2 r k)) (cb i)]
  have e := fun k : Fin 128 => hot k.1 (i 0).val k.2 (by omega)
  simp only [e]

theorem plus_read (i : grid0.Coords) (x : FVec Ideal S2048x128 .f32) (d : FVec Ideal S1x1x128 .f32) (r : Fin 2048) (l : Fin 128) :
    k0_pay5 (F := Ideal) i x d (ix2 r l) = softplus (x (ix2 r (ca i)) + d (ix3 0 0 l)) := by
  have h : (i 0).val < 6 := (i 0).isLt
  pointwise [k0_pay5, k0_pay3]
  rw [show Scalar.addi (BitVec.ofNat 32 (i 0).val) 6#32 = BitVec.ofNat 32 ((i 0).val + 6) from (BitVec.ofNat_add _ _).symm]
  rw [← pick_sum (fun k => x (ix2 r k)) (ca i)]
  have e := fun k : Fin 128 => hot k.1 ((i 0).val + 6) k.2 (by omega)
  simp only [e]
  rfl

theorem decay_read (i : grid0.Coords) (x : FVec Ideal S2048x128 .f32) (a d : FVec Ideal S1x1x128 .f32) (r : Fin 2048) (l : Fin 128) :
    k0_pay2 (F := Ideal) (k0_pay5 i x d) (k0_pay6 a) (ix3 0 r l)
      = upTo (fun r => (0 - Ideal.exp (a (ix3 0 0 l))) * softplus (x (ix2 r (ca i)) + d (ix3 0 0 l))) r := by
  unfold upTo
  pointwise [k0_pay2, k0_pay6]
  refine Finset.sum_congr rfl fun k _ => congrArg₂ (· * ·) ?_ (congrArg (HMul.hMul (α := EReal) _) (plus_read i x d _ l))
  word_cmp
  exact bit_read _

/-! ## The arrays -/

variable (m : (ℓ : Loc nD τ sig) → Buf (Elt Ideal) ℓ)

/-- The windows' blocks: grid point `t` has head `t`; the gates' columns are one block of 128. -/
theorem idx : ∀ t : Fin cfg0.N, (grid0.coords t 0).val = t.val ∧ win0_0.index t = ![0, 32] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, _)

/-- The head of a grid point. -/
abbrev head (t : Fin cfg0.N) : Fin 6 := ⟨t.1, lt_of_lt_of_eq t.isLt N_0⟩

abbrev aP (c : Dev nD) : Proj := m ((c : Thread nD τ).loc main_arg0)
abbrev aAl (c : Dev nD) : PerHead := m ((c : Thread nD τ).loc main_arg1)
abbrev aDt (c : Dev nD) : PerHead := m ((c : Thread nD τ).loc main_arg2)

theorem seg_eq (c : Dev nD) : V m c main_v4 = columns (aP m c) := by
  unfold V
  after_results
  rfl

theorem logit_at (c : Dev nD) (t : Fin cfg0.N) (r : Fin 2048) :
    iblk m c 0 t (ix2 r (cb (grid0.coords t))) = logit (aP m c) (head t) r := by
  have ht : t.1 < 6 := (head t).2
  have hc : (grid0.coords t 0).val = t.val := (idx t).1
  refine Eq.trans ?_ (columns_read (aP m c) r ⟨4096 + t.1, by omega⟩ _ rfl (by simp only; omega))
  rw [← seg_eq]
  refine Eq.trans (b := V m c main_v4 (ix2 r ⟨4096 + (grid0.coords t 0).val, by omega⟩)) (by blk_ext [iblk, idx t]) ?_
  simp only [hc]

theorem alog_at (c : Dev nD) (t : Fin cfg0.N) (l : Fin 128) : iblk m c 1 t (ix3 0 0 l) = aAl m c (ix1 (head t)) := by
  have e : V m c main_v6 = broadcastInDim S6x1x128 ![0, 1, 2] bcast_S6x1x1_S6x1x128_0_1_2
      (broadcastInDim S6x1x1 ![0] bcast_S6_S6x1x1_0 (aAl m c)) := by
    unfold V; after_results
  refine Eq.trans (b := V m c main_v6 (ix3 (head t) 0 l)) (by blk_ext [iblk, idx t]) ?_
  rw [e]
  pointwise
  rfl

theorem dtb_at (c : Dev nD) (t : Fin cfg0.N) (l : Fin 128) : iblk m c 2 t (ix3 0 0 l) = aDt m c (ix1 (head t)) := by
  have e : V m c main_v8 = broadcastInDim S6x1x128 ![0, 1, 2] bcast_S6x1x1_S6x1x128_0_1_2
      (broadcastInDim S6x1x1 ![0] bcast_S6_S6x1x1_0 (aDt m c)) := by
    unfold V; after_results
  refine Eq.trans (b := V m c main_v8 (ix3 (head t) 0 l)) (by blk_ext [iblk, idx t]) ?_
  rw [e]
  pointwise
  rfl

theorem shifted_at (c : Dev nD) (t : Fin cfg0.N) (r : Fin 2048) (l : Fin 128) :
    @HAdd.hAdd EReal EReal EReal _ (iblk m c 0 t (ix2 r (ca (grid0.coords t)))) (iblk m c 2 t (ix3 0 0 l))
      = shifted (aP m c) (aDt m c) (head t) r := by
  have ht : t.1 < 6 := (head t).2
  have hc : (grid0.coords t 0).val = t.val := (idx t).1
  unfold shifted
  refine congrArg₂ (fun a b : EReal => a + b) ?_ (dtb_at m c t l)
  refine Eq.trans ?_ (columns_read (aP m c) r ⟨4102 + t.1, by omega⟩ _ rfl (by simp only; omega))
  rw [← seg_eq]
  refine Eq.trans (b := V m c main_v4 (ix2 r ⟨4102 + (grid0.coords t 0).val, by omega⟩)) (by blk_ext [iblk, idx t]) ?_
  simp only [hc]

theorem final3 (c : Dev nD) : (dats m 0 c).arrAt 3 (cfgs 0).N = BETA (aP m c) := by
  refine (dats m 0 c).arrAt_eq_of_covers 3 _ (by decide +kernel) fun t _ y => ?_
  blk_simp
  rw [after0_3]
  idx_vars y
  obtain rfl : y0 = 0 := Subsingleton.elim _ _
  have e : out0_3 (F := Ideal) (grid0.coords t) (iblk m c 0 t) (iblk m c 1 t) (iblk m c 2 t) = k0_pay1 (k0_pay4 (grid0.coords t) (iblk m c 0 t)) := by
    unfold out0_3
    frame_out
  rw [e]
  pointwise [k0_pay1]
  rw [beta_read, logit_at]
  refine Eq.trans (b := BETA _ (ix3 (head t) y1 y2)) rfl (by blk_ext [idx t])

theorem final4 (c : Dev nD) : (dats m 0 c).arrAt 4 (cfgs 0).N = DECAY (aP m c) (aAl m c) (aDt m c) := by
  refine (dats m 0 c).arrAt_eq_of_covers 4 _ (by decide +kernel) fun t _ y => ?_
  blk_simp
  rw [after0_4]
  idx_vars y
  obtain rfl : y0 = 0 := Subsingleton.elim _ _
  have e : out0_4 (F := Ideal) (grid0.coords t) (iblk m c 0 t) (iblk m c 1 t) (iblk m c 2 t)
      = k0_pay2 (k0_pay5 (grid0.coords t) (iblk m c 0 t) (iblk m c 2 t)) (k0_pay6 (iblk m c 1 t)) := by
    unfold out0_4
    frame_out
  rw [e, decay_read, alog_at]
  simp only [fun r l => shifted_at m c t r l]
  refine Eq.trans (b := DECAY _ _ _ (ix3 (head t) y1 y2)) rfl (by blk_ext [idx t])

end Cert.GatesFIdeal.Value

namespace Cert.GatesFRefIdeal.Value

open Cert.Gates Cert.Window Cert.GatesFRefIdeal Idealize.ShloMosaic Idealize.ShloMosaic.TcCoe Idealize.SL.Sem

theorem plus_softplus (y : EReal) : Cert.GatesRefIdeal.Value.plus y = softplus y := by
  unfold Cert.GatesRefIdeal.Value.plus softplus tail Ideal.log1p
  rw [if_neg (fun h => h rfl), zero_sub]

theorem window_eq (x : FVec Ideal S1x6x32x64 .f32) :
    Host.reduceWindowAdd (F := Ideal) ![1, 1, 1, 64] ![1, 1, 1, 1] ![0, 0, 0, 63] ![0, 0, 0, 0] x
      (broadcastInDim S_ ![] Gen.bcast_S_S_ (constant S_ FTy.f32 0#32))
      Gen.reduceWindows_S1x6x32x64_S1x6x32x64_w1s1p0_0_w1s1p0_0_w1s1p0_0_w64s1p63_0 Gen.h_S_
      = fun j : S1x6x32x64.Idx => ∑ k : Fin 64, (if k.1 ≤ (j 3).1 then (1 : EReal) else 0) * x (ix4 0 (j 1) (j 2) k) := by
  funext j
  idx_vars j
  obtain rfl : j0 = 0 := Subsingleton.elim _ _
  refine Eq.trans (b := Ideal.hostReduceWindowAdd ![1, 1, 1, 64] ![1, 1, 1, 1] ![0, 0, 0, 63] ![0, 0, 0, 0]
    Gen.reduceWindows_S1x6x32x64_S1x6x32x64_w1s1p0_0_w1s1p0_0_w1s1p0_0_w64s1p63_0 x 0 (ix4 0 j1 j2 j3)) ?_ (lead_read rfl _ x j1 j2 j3)
  refine congrArg (fun z : EReal => Ideal.hostReduceWindowAdd ![1, 1, 1, 64] ![1, 1, 1, 1] ![0, 0, 0, 63] ![0, 0, 0, 0]
      Gen.reduceWindows_S1x6x32x64_S1x6x32x64_w1s1p0_0_w1s1p0_0_w1s1p0_0_w64s1p63_0 x z (ix4 0 j1 j2 j3)) ?_
  pointwise

end Cert.GatesFRefIdeal.Value

namespace Cert.Proof

open Idealize.ShloMosaic Idealize.ShloMosaic.TcCoe Idealize.SL.Sem Cert.Gates

theorem algebraic_gates_f : Cert.algebraic_GatesFIdeal_GatesFRefIdeal := by
  pair_intro
  · run_from Cert.GatesFIdeal.Gen.run_main m g
  · run_from Cert.GatesFRefIdeal.Value.run m' g'
    · funext j
      idx_vars j
      rw [Cert.GatesFIdeal.Value.final3 m c]
      unfold BETA logit
      simp only [zero_sub]
      pointwise
    · funext j
      idx_vars j
      rw [Cert.GatesFIdeal.Value.final4 m c, Cert.GatesFRefIdeal.Value.window_eq]
      unfold DECAY upTo shifted
      simp only [← Cert.GatesFRefIdeal.Value.plus_softplus, zero_sub]
      unfold Cert.GatesRefIdeal.Value.plus
      pointwise

end Cert.Proof

end
-- ==== Proof.SwigluF.lean ====
/- The SwiGLU of the forward pass with its product: the kernel and the forward lines give the same two arrays. -/
module

public import proofs.«01_k».proof.Defs
public import proofs.«01_k».proof.Proof.Conv.Spec
public import proofs.«01_k».proof.Proof.Gen.SwigluFIdeal.Frame
public import proofs.«01_k».proof.Proof.Gen.SwigluFIdeal.Value
public import proofs.«01_k».proof.Proof.Gen.SwigluFRefIdeal.Run
public import Idealize.ShloMosaic.Lib.Pipeline.ValueKit
public import Idealize.ShloMosaic.Lib.Claim

@[expose] public section

set_option maxRecDepth 16384

noncomputable section

namespace Cert.SwigluFIdeal.Value

open Cert.Conv (logi)
open Cert.SwigluFIdeal Cert.SwigluFIdeal.Gen Idealize.ShloMosaic Idealize.ShloMosaic.TcCoe Idealize.SL.Sem

/-- A row times a column of the weight. -/
def dot (x w : Fin 2048 → EReal) : EReal := ∑ k, x k * w k

/-- Entry `l` of the gate's half and of the other half of the projection, in row `r`. -/
def half (X : FVec Ideal S2048x2048 .f32) (W : FVec Ideal S2048x11264 .f32) (p : Fin 2) (r : Fin 2048) (l : Fin 5632) : EReal :=
  dot (fun k => X (ix2 r k)) (fun k => W (ix2 k ⟨p.1 * 5632 + l.1, by omega⟩))

/-- The two halves as two planes, and their SwiGLU. -/
def planes (X : FVec Ideal S2048x2048 .f32) (W : FVec Ideal S2048x11264 .f32) : S2x2048x5632.Idx → EReal :=
  fun j => half X W (j 0) (j 1) (j 2)

def swiglu (X : FVec Ideal S2048x2048 .f32) (W : FVec Ideal S2048x11264 .f32) : S2048x5632.Idx → EReal :=
  fun j => half X W 0 (j 0) (j 1) * logi (half X W 0 (j 0) (j 1)) * half X W 1 (j 0) (j 1)

/-! ## One block -/

section

variable (x : FVec Ideal S512x2048 .bf16) (w w' : FVec Ideal S1x1x2048x1408 .bf16)

theorem gate_read (r : Fin 512) (l : Fin 1408) :
    k0_pay2 (F := Ideal) x w (ix2 r l) = dot (fun k => x (ix2 r k)) (fun k => w (ix4 0 0 k l)) := by
  unfold dot
  pointwise [k0_pay2, k0_pay1]

theorem up_read (r : Fin 512) (l : Fin 1408) :
    k0_pay3 (F := Ideal) x w (ix2 r l) = dot (fun k => x (ix2 r k)) (fun k => w (ix4 0 0 k l)) := by
  unfold dot
  pointwise [k0_pay3, k0_pay1]

theorem whole_loads : View.ld (Val := Elt Ideal) (S := S512x2048) (e' := .bf16) x r0_0 = x
    ∧ View.ld (Val := Elt Ideal) (S := S1x1x2048x1408) (e' := .bf16) w r0_1 = w := by
  refine ⟨?_, ?_⟩ <;> frame_out

theorem out3_read (p : Fin 2) (r : Fin 512) (l : Fin 1408) : out0_3 (F := Ideal) x w w' (ix3 p r l)
    = if p = 0 then dot (fun k => x (ix2 r k)) (fun k => w (ix4 0 0 k l)) else dot (fun k => x (ix2 r k)) (fun k => w' (ix4 0 0 k l)) := by
  unfold out0_3
  rw [(whole_loads x w).1, (whole_loads x w).2, (whole_loads x w').2]
  canon_tiles y h
  all_goals
    idx_vars y
    obtain rfl : r = y1 := Fin.ext h1
    obtain rfl : l = y2 := Fin.ext h2
    obtain rfl : y0 = 0 := Subsingleton.elim _ _
  · obtain rfl : p = 1 := Fin.ext h0
    rw [if_neg (by decide)]
    pointwise [k0_pay5]
    exact up_read x w' r l
  · obtain rfl : p = 0 := Fin.ext h0
    rw [if_pos rfl]
    pointwise [k0_pay4]
    exact gate_read x w r l

theorem out4_read (r : Fin 512) (l : Fin 1408) : out0_4 (F := Ideal) x w w' (ix2 r l)
    = dot (fun k => x (ix2 r k)) (fun k => w (ix4 0 0 k l)) * logi (dot (fun k => x (ix2 r k)) (fun k => w (ix4 0 0 k l)))
      * dot (fun k => x (ix2 r k)) (fun k => w' (ix4 0 0 k l)) := by
  unfold out0_4
  frame_out
  pointwise [k0_pay6]
  rw [gate_read, up_read, zero_sub]
  rfl

end

/-! ## The arrays -/

variable (m : (ℓ : Loc nD τ sig) → Buf (Elt Ideal) ℓ)

/-- The windows' blocks: point `4 * j + i` has the block of rows `i` and the block of columns `j`. -/
theorem idx : ∀ t : Fin cfg0.N, win0_0.index t = ![t.val % 4, 0] ∧ win0_1.index t = ![0, t.val / 8, 0, t.val / 4 % 2]
    ∧ win0_2.index t = ![0, 2 + t.val / 8, 0, t.val / 4 % 2] ∧ win0_3.index t = ![0, t.val % 4, t.val / 4]
    ∧ win0_4.index t = ![t.val % 4, t.val / 4] :=
  (by decide +kernel : ∀ t : Fin grid0.N, _)

abbrev row (t : Fin cfg0.N) (r : Fin 512) : Fin 2048 := ⟨t.1 % 4 * 512 + r.1, by omega⟩

abbrev col (t : Fin cfg0.N) (l : Fin 1408) : Fin 5632 := ⟨t.1 / 4 * 1408 + l.1, by have : t.1 < 16 := lt_of_lt_of_eq t.isLt N_0; omega⟩

abbrev aX (c : Dev nD) : FVec Ideal S2048x2048 .f32 := m ((c : Thread nD τ).loc main_arg0)
abbrev aW (c : Dev nD) : FVec Ideal S2048x11264 .f32 := m ((c : Thread nD τ).loc main_arg1)

theorem x_read (c : Dev nD) (t : Fin cfg0.N) (r : Fin 512) (k : Fin 2048) : iblk m c 0 t (ix2 r k) = aX m c (ix2 (row t r) k) := by
  have e : V m c main_v4 = truncf (F := Ideal) .bf16 (aX m c) bitsLt_bf16_f32 := by
    unfold V; after_results
  refine Eq.trans (b := V m c main_v4 (ix2 (row t r) k)) (by blk_ext [iblk, idx t]) ?_
  rw [e]
  pointwise

/-- The weight's columns in four parts. -/
theorem parts_read (c : Dev nD) (q : Fin 4) (k : Fin 2048) (l : Fin 2816) :
    V m c main_v3 (ix4 0 q k l) = aW m c (ix2 k ⟨q.1 * 2816 + l.1, by omega⟩) := by
  have e : V m c main_v3 = broadcastInDim S1x4x2048x2816 ![1, 2, 3] bcast_S4x2048x2816_S1x4x2048x2816_1_2_3
      (transpose S4x2048x2816 [1, 0, 2] (shapeCast S2048x4x2816 (truncf (F := Ideal) .bf16 (aW m c) bitsLt_bf16_f32)
        shapeCasts_S2048x11264_S2048x4x2816) transposes_S2048x4x2816_S4x2048x2816_1_0_2) := by
    unfold V; after_results; rfl
  rw [e]
  pointwise

theorem w_read (c : Dev nD) (t : Fin cfg0.N) (k : Fin 2048) (l : Fin 1408) :
    iblk m c 1 t (ix4 0 0 k l) = aW m c (ix2 k ⟨(0 : Fin 2).1 * 5632 + (col t l).1, by omega⟩)
    ∧ iblk m c 2 t (ix4 0 0 k l) = aW m c (ix2 k ⟨(1 : Fin 2).1 * 5632 + (col t l).1, by omega⟩) := by
  have ht : t.1 < 16 := lt_of_lt_of_eq t.isLt N_0
  constructor
  · refine Eq.trans (b := V m c main_v3 (ix4 0 ⟨t.1 / 8, by omega⟩ k ⟨t.1 / 4 % 2 * 1408 + l.1, by omega⟩)) (by blk_ext [iblk, idx t]) ?_
    rw [parts_read]
    refine congrArg (fun j => aW m c (ix2 k j)) (Fin.ext ?_)
    simp only [Fin.val_zero]
    omega
  · refine Eq.trans (b := V m c main_v3 (ix4 0 ⟨2 + t.1 / 8, by omega⟩ k ⟨t.1 / 4 % 2 * 1408 + l.1, by omega⟩)) (by blk_ext [iblk, idx t]) ?_
    rw [parts_read]
    refine congrArg (fun j => aW m c (ix2 k j)) (Fin.ext ?_)
    simp only [Fin.val_one]
    omega

theorem dots (c : Dev nD) (t : Fin cfg0.N) (r : Fin 512) (l : Fin 1408) :
    dot (fun k => iblk m c 0 t (ix2 r k)) (fun k => iblk m c 1 t (ix4 0 0 k l)) = half (aX m c) (aW m c) 0 (row t r) (col t l)
    ∧ dot (fun k => iblk m c 0 t (ix2 r k)) (fun k => iblk m c 2 t (ix4 0 0 k l)) = half (aX m c) (aW m c) 1 (row t r) (col t l) := by
  unfold half
  refine ⟨congrArg₂ dot (funext fun k => x_read m c t r k) (funext fun k => (w_read m c t k l).1),
    congrArg₂ dot (funext fun k => x_read m c t r k) (funext fun k => (w_read m c t k l).2)⟩

theorem final3 (c : Dev nD) : (dats m 0 c).arrAt 3 (cfgs 0).N = planes (aX m c) (aW m c) := by
  refine (dats m 0 c).arrAt_eq_of_covers 3 _ (by decide +kernel) fun t _ y => ?_
  blk_simp
  rw [after0_3]
  idx_vars y
  refine (out3_read _ _ _ y0 y1 y2).trans ?_
  refine Eq.trans (b := planes (aX m c) (aW m c) (ix3 y0 (row t y1) (col t y2))) ?_ (by blk_ext [idx t])
  rw [(dots m c t y1 y2).1, (dots m c t y1 y2).2]
  unfold planes
  rcases (show y0 = 0 ∨ y0 = 1 by omega) with rfl | rfl
  · rfl
  · rfl

theorem final4 (c : Dev nD) : (dats m 0 c).arrAt 4 (cfgs 0).N = swiglu (aX m c) (aW m c) := by
  refine (dats m 0 c).arrAt_eq_of_covers 4 _ (by decide +kernel) fun t _ y => ?_
  blk_simp
  rw [after0_4]
  idx_vars y
  refine (out4_read _ _ _ y0 y1).trans ?_
  rw [(dots m c t y0 y1).1, (dots m c t y0 y1).2]
  refine Eq.trans (b := swiglu (aX m c) (aW m c) (ix2 (row t y0) (col t y1))) rfl (by blk_ext [idx t])

end Cert.SwigluFIdeal.Value

namespace Cert.Proof

open Idealize.ShloMosaic Idealize.ShloMosaic.TcCoe Idealize.SL.Sem Cert.SwigluFIdeal.Value

theorem algebraic_swiglu_f : Cert.algebraic_SwigluFIdeal_SwigluFRefIdeal := by
  pair_intro
  · run_from Cert.SwigluFIdeal.Gen.run_main m g
  · run_from Cert.SwigluFRefIdeal.Value.run m' g'
    · funext j
      idx_vars j
      rw [Cert.SwigluFIdeal.Value.final3 m c]
      unfold planes half dot
      pointwise
    · funext j
      idx_vars j
      rw [Cert.SwigluFIdeal.Value.final4 m c]
      unfold swiglu half dot Cert.Conv.logi
      simp only [Fin.val_zero, Fin.val_one, zero_mul, one_mul, zero_add]
      pointwise

end Cert.Proof

end
-- ==== Proof.ScanF.Spec.lean ====
/- The recurrence of the DeltaNet over its chunks: one head's chunk of 64 positions, the state it is handed and the one it leaves. -/
module

public import proofs.«01_k».proof.Proof.Conv.Spec

@[expose] public section

noncomputable section

namespace Cert.Scan

open Idealize.ShloMosaic

/-- One head's arrays in one chunk; the decay's running sum is one number a position. -/
structure Chunk where
  q : Fin 64 → Fin 128 → EReal
  k : Fin 64 → Fin 128 → EReal
  u : Fin 64 → Fin 128 → EReal
  w : Fin 64 → Fin 128 → EReal
  g : Fin 64 → EReal
  a : Fin 64 → Fin 64 → EReal

abbrev Mat := Fin 128 → Fin 128 → EReal

variable (x : Chunk) (S : Mat)

/-- What the chunk's values lack of the state's answer to its keys. -/
def fresh (i : Fin 64) (v : Fin 128) : EReal := x.u i v - ∑ d, x.w i d * S d v

/-- The chunk's output: the decayed state read by the queries, and the chunk's own values. -/
def out (i : Fin 64) (v : Fin 128) : EReal := (∑ d, x.q i d * Ideal.exp (x.g i) * S d v) + ∑ j, x.a i j * fresh x S j v

/-- The state after the chunk. -/
def next : Mat := fun d v => S d v * Ideal.exp (x.g 63) + ∑ i, x.k i d * Ideal.exp (x.g 63 - x.g i) * fresh x S i v

/-- A chunk's outputs: the norm of the output's row, scaled, times the gate's SiLU. -/
def normed (o : Fin 128 → EReal) (og : Fin 128 → EReal) (z : EReal) (v : Fin 128) : EReal :=
  o v * Ideal.rsqrt (Ideal.div (∑ d, o d * o d) (Ideal.ofBits .f32 0x43000000#32) + Cert.Conv.eps) * og v * (z * Cert.Conv.logi z)

/-- The state before chunk `n`. -/
def state (xs : ℕ → Chunk) : ℕ → Mat
  | 0 => fun _ _ => 0
  | n + 1 => next (xs n) (state xs n)

/-- The part's arrays. -/
structure Arrays where
  q : Fin 2048 → Fin 768 → EReal
  k : Fin 2048 → Fin 768 → EReal
  u : Fin 2048 → Fin 768 → EReal
  w : Fin 2048 → Fin 768 → EReal
  g : Fin 6 → Fin 2048 → EReal
  a : Fin 6 → Fin 32 → Fin 64 → Fin 64 → EReal
  z : Fin 2048 → Fin 768 → EReal
  og : Fin 128 → EReal

abbrev row (n : Fin 32) (i : Fin 64) : Fin 2048 := ⟨n.1 * 64 + i.1, by omega⟩
abbrev col (h : Fin 6) (d : Fin 128) : Fin 768 := ⟨h.1 * 128 + d.1, by omega⟩

/-- A head's chunk `n`. -/
def segment (x : Arrays) (h : Fin 6) (n : Fin 32) : Chunk where
  q i d := x.q (row n i) (col h d)
  k i d := x.k (row n i) (col h d)
  u i d := x.u (row n i) (col h d)
  w i d := x.w (row n i) (col h d)
  g i := x.g h (row n i)
  a i j := x.a h n i j

/-- A head's state before chunk `n`. -/
def stateAt (x : Arrays) (h : Fin 6) (n : ℕ) : Mat := state (fun n => segment x h (Fin.ofNat 32 n)) n

theorem stateAt_next (x : Arrays) (h : Fin 6) (n : Fin 32) : stateAt x h (n.1 + 1) = next (segment x h n) (stateAt x h n.1) := by
  refine congrArg (fun k => next (segment x h k) (stateAt x h n.1)) (Fin.ext ?_)
  exact Nat.mod_eq_of_lt n.2

/-- The part's output, at a row and a column. -/
def outAt (x : Arrays) (r : Fin 2048) (l : Fin 768) : EReal :=
  have n : Fin 32 := ⟨r.1 / 64, by omega⟩
  have h : Fin 6 := ⟨l.1 / 128, by omega⟩
  normed (out (segment x h n) (stateAt x h n.1) ⟨r.1 % 64, by omega⟩) x.og (x.z r l) ⟨l.1 % 128, by omega⟩

theorem outAt_eq (x : Arrays) (n : Fin 32) (i : Fin 64) (h : Fin 6) (v : Fin 128) (r : Fin 2048) (l : Fin 768) (hr : r.1 = n.1 * 64 + i.1)
    (hl : l.1 = h.1 * 128 + v.1) :
    outAt x r l = normed (out (segment x h n) (stateAt x h n.1) i) x.og (x.z (row n i) (col h v)) v := by
  obtain rfl : r = row n i := Fin.ext hr
  obtain rfl : l = col h v := Fin.ext hl
  have e1 : (⟨(row n i).1 / 64, by omega⟩ : Fin 32) = n := Fin.ext (by simp only; omega)
  have e2 : (⟨(row n i).1 % 64, by omega⟩ : Fin 64) = i := Fin.ext (by simp only; omega)
  have e3 : (⟨(col h v).1 / 128, by omega⟩ : Fin 6) = h := Fin.ext (by simp only; omega)
  have e4 : (⟨(col h v).1 % 128, by omega⟩ : Fin 128) = v := Fin.ext (by simp only; omega)
  unfold outAt
  simp only [e1, e2, e3, e4]
  rw [show (n.1 * 64 + i.1) / 64 = n.1 by omega]

/-- A sum of one selected entry. -/
theorem sum_last (g : Fin 64 → EReal) : (∑ i : Fin 64, if i = 63 then g i else 0) = g 63 := by simp

end Cert.Scan

end
-- ==== Proof.ScanF.Value.lean ====
/- The recurrence of the forward pass: one head's payloads at an index. -/
module

public import proofs.«01_k».proof.Proof.ScanF.Spec
public import proofs.«01_k».proof.Proof.Gen.ScanFIdeal.Frame
public import proofs.«01_k».proof.Proof.Gen.ScanFIdeal.Value
public import Idealize.ShloMosaic.Lib.Pipeline.ValueKit
public import Idealize.ShloMosaic.Lib.WordCmp
public import Idealize.ShloMosaic.Lib.Pipeline.ReadBack

@[expose] public section

set_option maxRecDepth 16384

noncomputable section

namespace Cert.ScanFIdeal.Value

open Cert.ScanFIdeal Cert.ScanFIdeal.Gen Idealize.ShloMosaic Idealize.ShloMosaic.TcCoe Idealize.SL.Sem
open Cert.Scan

/-! ## One head's payloads -/

section

variable (S : Vec Ideal S1x128x128 .f32) (q k u w z : Vec Ideal S64x128 .f32) (g : Vec Ideal S1x64x128 .f32)
  (a : Vec Ideal S1x1x64x64 .f32) (og : Vec Ideal S1x128 .f32)

/-- The blocks as a chunk and a state; the decay is the same in every lane. -/
def chunk : Chunk where
  q i d := q (ix2 i d)
  k i d := k (ix2 i d)
  u i d := u (ix2 i d)
  w i d := w (ix2 i d)
  g i := g (ix3 0 i 0)
  a i j := a (ix4 0 0 i j)

def mat : Mat := fun d v => S (ix3 0 d v)

theorem fresh_read (i : Fin 64) (v : Fin 128) :
    k0_pay8 (F := Ideal) S u w (ix2 i v) = fresh (chunk q k u w g a) (mat S) i v := by
  unfold fresh chunk mat
  pointwise [k0_pay8, k0_pay3]

def lanes : Prop := ∀ (i : Fin 64) (l : Fin 128), g (ix3 0 i l) = g (ix3 0 i 0)

variable {g} in
theorem next_read (hg : lanes g) (d v : Fin 128) :
    k0_pay13 (k0_pay11 (F := Ideal) (k0_pay3 S) k (k0_pay5 g) (k0_pay8 S u w)) (ix3 0 d v) = next (chunk q k u w g a) (mat S) d v := by
  have e : (∑ i : Fin 64, Scalar.select (IntOp.cmpi CmpIPredicate.eq (BitVec.ofNat 32 i.val) 63#32) (g (ix3 0 i 0)) 0) = g (ix3 0 63 0) := by
    refine Eq.trans (Finset.sum_congr rfl fun i _ => ?_) (sum_last fun i => g (ix3 0 i 0))
    fin_cases i <;> rfl
  have e' (i : Fin 64) (n : Fin 128) : k0_pay5 (F := Ideal) g (ix2 i n) = g (ix3 0 i 0) := by
    pointwise [k0_pay5]
    exact hg i n
  unfold next
  pointwise [k0_pay13, k0_pay11]
  simp only [e', e, fresh_read S q k u w g a]
  pointwise [k0_pay3]
  rfl

variable {g} in
theorem out_read (hg : lanes g) (i : Fin 64) (v : Fin 128) :
    k0_pay12 (F := Ideal) (k0_pay6 a) z (k0_pay7 og) (k0_pay8 S u w) (k0_pay9 q g) (k0_pay10 S) (constant S64x128 .f32 0x00000000#32) (ix2 i v)
      = normed (out (chunk q k u w g a) (mat S) i) (fun d => og (ix2 0 d)) (z (ix2 i v)) v := by
  have e (n : Fin 128) : ∑ d, k0_pay9 (F := Ideal) q g (ix2 i d) * k0_pay10 S (ix2 d n) + ∑ j, k0_pay6 a (ix2 i j) * k0_pay8 S u w (ix2 j n)
      = out (chunk q k u w g a) (mat S) i n := by
    simp only [fresh_read S q k u w g a]
    unfold out
    pointwise [k0_pay9, k0_pay10, k0_pay6, k0_pay3, k0_pay5]
    refine congrArg₂ (· + ·) (Finset.sum_congr rfl fun d _ => ?_) rfl
    rw [hg i d]
    rfl
  unfold normed
  pointwise [k0_pay12]
  simp only [e]
  pointwise [k0_pay7]
  rw [zero_sub]
  rfl

variable {S q k u w z g a og} {x : Chunk} {M : Mat}

theorem next_at (hk : ∀ i d, k (ix2 i d) = x.k i d) (hu : ∀ i d, u (ix2 i d) = x.u i d) (hw : ∀ i d, w (ix2 i d) = x.w i d)
    (hg : ∀ i l, g (ix3 0 i l) = x.g i) (hS : ∀ d v, S (ix3 0 d v) = M d v) (o : Fin 1) (d v : Fin 128) :
    k0_pay13 (k0_pay11 (F := Ideal) (k0_pay3 S) k (k0_pay5 g) (k0_pay8 S u w)) (ix3 o d v) = next x M d v := by
  have h : lanes g := fun i l => (hg i l).trans (hg i 0).symm
  obtain rfl : o = 0 := Subsingleton.elim _ _
  refine (next_read S k k u w (fun _ => 0) h d v).trans ?_
  unfold next fresh chunk mat
  simp only [hk, hu, hw, hg, hS]

theorem out_at (hq : ∀ i d, q (ix2 i d) = x.q i d) (hu : ∀ i d, u (ix2 i d) = x.u i d) (hw : ∀ i d, w (ix2 i d) = x.w i d)
    (hg : ∀ i l, g (ix3 0 i l) = x.g i) (ha : ∀ i j, a (ix4 0 0 i j) = x.a i j) (hS : ∀ d v, S (ix3 0 d v) = M d v)
    (i : Fin 64) (v : Fin 128) {zs : EReal} {os : Fin 128 → EReal} (hz : z (ix2 i v) = zs) (ho : ∀ d, og (ix2 0 d) = os d) :
    k0_pay12 (F := Ideal) (k0_pay6 a) z (k0_pay7 og) (k0_pay8 S u w) (k0_pay9 q g) (k0_pay10 S) (constant S64x128 .f32 0x00000000#32) (ix2 i v)
      = normed (out x M i) os zs v := by
  have h : lanes g := fun i l => (hg i l).trans (hg i 0).symm
  refine (out_read S q q u w z a og h i v).trans ?_
  unfold normed out fresh chunk mat
  simp only [hq, hu, hw, hg, ha, hS, hz, ho]

end

/-! ## A point's stores -/

variable (m : (ℓ : Loc nD τ sig) → Buf (Elt Ideal) ℓ)

/-- The windows' blocks: grid point `t` has chunk `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![0, t.val, 0, 0] ∧ win0_6.index t = ![t.val, 0]
    ∧ win0_7.index t = ![0, 0] ∧ win0_8.index t = ![t.val, 0] ∧ win0_9.index t = ![t.val, 0, 0, 0] :=
  (by decide +kernel : ∀ t : Fin grid0.N, _)

/-- The chunk of a grid point. -/
abbrev num (t : Fin cfg0.N) : Fin 32 := ⟨t.1, lt_of_lt_of_eq t.isLt N_0⟩

/-- The arguments. -/
def arrays (c : Dev nD) : Arrays where
  q r l := m ((c : Thread nD τ).loc main_arg0) (ix2 r l)
  k r l := m ((c : Thread nD τ).loc main_arg1) (ix2 r l)
  u r l := m ((c : Thread nD τ).loc main_arg2) (ix2 r l)
  w r l := m ((c : Thread nD τ).loc main_arg3) (ix2 r l)
  g h r := m ((c : Thread nD τ).loc main_arg4) (ix2 h r)
  a h n i j := m ((c : Thread nD τ).loc main_arg5) (ix4 h n i j)
  z r l := m ((c : Thread nD τ).loc main_arg6) (ix2 r l)
  og d := m ((c : Thread nD τ).loc main_arg7) (ix1 d)

section

variable (c : Dev nD) (t : Fin cfg0.N) (h : Fin 6)

theorem ld_lanes (X : Vec Ideal S64x768 .f32) (inb) (i : Fin 64) (d : Fin 128) :
    View.ld X (Rect.unit (s := S64x768) ![0, h.1 * 128] ![64, 128] inb) (ix2 i d) = X (ix2 i (col h d)) :=
  congrArg X (by blk_ext <;> simp [Rect.idx_unit_val])

theorem ld_head (X : Vec Ideal S6x64x128 .f32) (inb) (i : Fin 64) (d : Fin 128) :
    View.ld X (Rect.unit (s := S6x64x128) ![h.1, 0, 0] ![1, 64, 128] inb) (ix3 0 i d) = X (ix3 h i d) :=
  congrArg X (by blk_ext <;> simp [Rect.idx_unit_val])

theorem ld_square (X : Vec Ideal S6x1x64x64 .f32) (inb) (i j : Fin 64) :
    View.ld X (Rect.unit (s := S6x1x64x64) ![h.1, 0, 0, 0] ![1, 1, 64, 64] inb) (ix4 0 0 i j) = X (ix4 h 0 i j) :=
  congrArg X (by blk_ext <;> simp [Rect.idx_unit_val])

theorem ld_state (X : Vec Ideal S6x128x128 .f32) (inb) (i j : Fin 128) :
    View.ld X (Rect.unit (s := S6x128x128) ![h.1, 0, 0] ![1, 128, 128] inb) (ix3 0 i j) = X (ix3 h i j) :=
  congrArg X (by blk_ext <;> simp [Rect.idx_unit_val])

theorem q_at (inb) (i : Fin 64) (d : Fin 128) :
    View.ld (iblk m c 0 t) (Rect.unit ![0, h.1 * 128] ![64, 128] inb) (ix2 i d) = (segment (arrays m c) h (num t)).q i d := by
  exact (ld_lanes h _ inb i d).trans (Eq.trans (b := m ((c : Thread nD τ).loc main_arg0) (ix2 (row (num t) i) (col h d))) (by blk_ext [iblk, V, idx t]) rfl)

theorem k_at (inb) (i : Fin 64) (d : Fin 128) :
    View.ld (iblk m c 1 t) (Rect.unit ![0, h.1 * 128] ![64, 128] inb) (ix2 i d) = (segment (arrays m c) h (num t)).k i d := by
  exact (ld_lanes h _ inb i d).trans (Eq.trans (b := m ((c : Thread nD τ).loc main_arg1) (ix2 (row (num t) i) (col h d))) (by blk_ext [iblk, V, idx t]) rfl)

theorem u_at (inb) (i : Fin 64) (d : Fin 128) :
    View.ld (iblk m c 2 t) (Rect.unit ![0, h.1 * 128] ![64, 128] inb) (ix2 i d) = (segment (arrays m c) h (num t)).u i d := by
  exact (ld_lanes h _ inb i d).trans (Eq.trans (b := m ((c : Thread nD τ).loc main_arg2) (ix2 (row (num t) i) (col h d))) (by blk_ext [iblk, V, idx t]) rfl)

theorem w_at (inb) (i : Fin 64) (d : Fin 128) :
    View.ld (iblk m c 3 t) (Rect.unit ![0, h.1 * 128] ![64, 128] inb) (ix2 i d) = (segment (arrays m c) h (num t)).w i d := by
  exact (ld_lanes h _ inb i d).trans (Eq.trans (b := m ((c : Thread nD τ).loc main_arg3) (ix2 (row (num t) i) (col h d))) (by blk_ext [iblk, V, idx t]) rfl)

theorem z_at (inb) (i : Fin 64) (d : Fin 128) :
    View.ld (iblk m c 6 t) (Rect.unit ![0, h.1 * 128] ![64, 128] inb) (ix2 i d) = (arrays m c).z (row (num t) i) (col h d) := by
  exact (ld_lanes h _ inb i d).trans (Eq.trans (b := m ((c : Thread nD τ).loc main_arg6) (ix2 (row (num t) i) (col h d))) (by blk_ext [iblk, V, idx t]) rfl)

theorem a_at (inb) (i j : Fin 64) :
    View.ld (iblk m c 5 t) (Rect.unit ![h.1, 0, 0, 0] ![1, 1, 64, 64] inb) (ix4 0 0 i j) = (segment (arrays m c) h (num t)).a i j := by
  exact (ld_square h _ inb i j).trans (Eq.trans (b := m ((c : Thread nD τ).loc main_arg5) (ix4 h (num t) i j)) (by blk_ext [iblk, V, idx t]) rfl)

theorem og_at (d : Fin 128) : iblk m c 7 t (ix2 0 d) = (arrays m c).og d := by
  have e : V m c main_v2 = broadcastInDim S1x128 ![1] bcast_S128_S1x128_1 (m ((c : Thread nD τ).loc main_arg7)) := by
    unfold V; after_results
  refine Eq.trans (b := V m c main_v2 (ix2 0 d)) (by blk_ext [iblk, idx t]) ?_
  rw [e]
  pointwise
  rfl

theorem g_at (inb) (i : Fin 64) (l : Fin 128) :
    View.ld (iblk m c 4 t) (Rect.unit ![h.1, 0, 0] ![1, 64, 128] inb) (ix3 0 i l) = (segment (arrays m c) h (num t)).g i := by
  refine ((ld_head h _ inb i l).trans (Eq.trans (b := V m c main_v1 (ix3 h (row (num t) i) l)) (by blk_ext [iblk, idx t]) ?_))
  unfold V
  after_results
  pointwise
  rfl

variable (S : Vec Ideal S1x128x128 .f32) (hS : ∀ d v, S (ix3 0 d v) = stateAt (arrays m c) h t.1 d v)

include hS in
/-- What the body stores of a head's state. -/
theorem next_store (i1 i2 i3 i4) (x : S1x128x128.Idx) (y : S6x128x128.Idx) (h0 : (y 0).val = h.1 + (x 0).val) (hx : (x 0).val < 1)
    (h1 : (y 1).val = (x 1).val) (h2 : (y 2).val = (x 2).val) :
    k0_pay13 (k0_pay11 (F := Ideal) (k0_pay3 S) (View.ld (iblk m c 1 t) (Rect.unit ![0, h.1 * 128] ![64, 128] i1))
      (k0_pay5 (View.ld (iblk m c 4 t) (Rect.unit ![h.1, 0, 0] ![1, 64, 128] i4)))
      (k0_pay8 S (View.ld (iblk m c 2 t) (Rect.unit ![0, h.1 * 128] ![64, 128] i2))
        (View.ld (iblk m c 3 t) (Rect.unit ![0, h.1 * 128] ![64, 128] i3)))) x
      = stateAt (arrays m c) (y 0) (t.1 + 1) (y 1) (y 2) := by
  idx_vars x
  have e0' : (y 0).val = h.1 := by omega
  have e0 : y 0 = h := Fin.ext e0'
  have e1 : y 1 = x1 := Fin.ext h1
  have e2 : y 2 = x2 := Fin.ext h2
  rw [e0, e1, e2, next_at (x := segment (arrays m c) h (num t)) (M := stateAt (arrays m c) h t.1) (k_at m c t h i1) (u_at m c t h i2) (w_at m c t h i3) (g_at m c t h i4) hS]
  rw [← stateAt_next (arrays m c) h (num t)]

include hS in
/-- What the body stores of a head's output. -/
theorem out_store (i0 i2 i3 i4 i5 i6) (x : S64x128.Idx) (y : S64x768.Idx) (h0 : (y 0).val = (x 0).val) (h1 : (y 1).val = h.1 * 128 + (x 1).val) :
    k0_pay12 (F := Ideal) (k0_pay6 (View.ld (iblk m c 5 t) (Rect.unit ![h.1, 0, 0, 0] ![1, 1, 64, 64] i5)))
      (View.ld (iblk m c 6 t) (Rect.unit ![0, h.1 * 128] ![64, 128] i6)) (k0_pay7 (iblk m c 7 t))
      (k0_pay8 S (View.ld (iblk m c 2 t) (Rect.unit ![0, h.1 * 128] ![64, 128] i2))
        (View.ld (iblk m c 3 t) (Rect.unit ![0, h.1 * 128] ![64, 128] i3)))
      (k0_pay9 (View.ld (iblk m c 0 t) (Rect.unit ![0, h.1 * 128] ![64, 128] i0)) (View.ld (iblk m c 4 t) (Rect.unit ![h.1, 0, 0] ![1, 64, 128] i4)))
      (k0_pay10 S) (constant S64x128 .f32 0x00000000#32) x
      = outAt (arrays m c) (row (num t) (y 0)) (y 1) := by
  idx_vars x
  rw [out_at (x := segment (arrays m c) h (num t)) (M := stateAt (arrays m c) h t.1) (q_at m c t h i0) (u_at m c t h i2) (w_at m c t h i3) (g_at m c t h i4)
    (a_at m c t h i5) hS x0 x1 (z_at m c t h i6 x0 x1) (og_at m c t)]
  refine (outAt_eq (arrays m c) (num t) x0 h x1 _ _ ?_ ?_).symm
  · simp only [h0]
  · exact h1

include hS in
/-- What the body stores of a head's entering state. -/
theorem state_store (x : S1x1x128x128.Idx) (y : S1x6x128x128.Idx) (h1 : (y 1).val = h.1 + (x 1).val) (hx : (x 1).val < 1)
    (h2 : (y 2).val = (x 2).val) (h3 : (y 3).val = (x 3).val) :
    k0_pay4 (F := Ideal) S x = stateAt (arrays m c) (y 1) t.1 (y 2) (y 3) := by
  idx_vars x
  have e1' : (y 1).val = h.1 := by omega
  have e1 : y 1 = h := Fin.ext e1'
  have e2 : y 2 = x2 := Fin.ext h2
  have e3 : y 3 = x3 := Fin.ext h3
  rw [e1, e2, e3, ← hS]
  pointwise [k0_pay4, k0_pay3]

end

/-- What the point before left in the scratch, as a head's block. -/
theorem read_state (c : Dev nD) (t : Fin cfg0.N) (X : Vec Ideal S6x128x128 .f32) (hX : ∀ h d v, X (ix3 h d v) = stateAt (arrays m c) h t.1 d v)
    (h : Fin 6) (inb) (d v : Fin 128) :
    View.ld X (Rect.unit (s := S6x128x128) ![h.1, 0, 0] ![1, 128, 128] inb) (ix3 0 d v) = stateAt (arrays m c) h t.1 d v :=
  (ld_state h X inb d v).trans (hX h d v)

/-- What the body stores of a head's state, in its place in the scratch. -/
theorem next_piece (c : Dev nD) (t : Fin cfg0.N) (h : Fin 6) (S : Vec Ideal S1x128x128 .f32) (hS : ∀ d v, S (ix3 0 d v) = stateAt (arrays m c) h t.1 d v)
    (i0 i1 i2 i3 i4) (x : S1x128x128.Idx) :
    k0_pay13 (k0_pay11 (F := Ideal) (k0_pay3 S) (View.ld (iblk m c 1 t) (Rect.unit ![0, h.1 * 128] ![64, 128] i1))
      (k0_pay5 (View.ld (iblk m c 4 t) (Rect.unit ![h.1, 0, 0] ![1, 64, 128] i4)))
      (k0_pay8 S (View.ld (iblk m c 2 t) (Rect.unit ![0, h.1 * 128] ![64, 128] i2))
        (View.ld (iblk m c 3 t) (Rect.unit ![0, h.1 * 128] ![64, 128] i3)))) x
      = (fun y : S6x128x128.Idx => stateAt (arrays m c) (y 0) (t.1 + 1) (y 1) (y 2)) ((Rect.unit (s := S6x128x128) ![h.1, 0, 0] ![1, 128, 128] i0).emb x) := by
  have e := ValueKit.rect_emb_unit_val (s := S6x128x128) ![h.1, 0, 0] ![1, 128, 128] i0 x
  exact next_store m c t h S hS i1 i2 i3 i4 x _ (e 0) (x 0).isLt ((e 1).trans (Nat.zero_add _)) ((e 2).trans (Nat.zero_add _))

/-- A point's three stores, where the scratch held the states before its chunk. -/
def Stored (c : Dev nD) (t : Fin cfg0.N) : Prop :=
  (∀ y : S6x128x128.Idx, (outsAt0 m c t.val t.isLt).2.2 y = stateAt (arrays m c) (y 0) (t.1 + 1) (y 1) (y 2))
    ∧ (∀ y : S64x768.Idx, (outsAt0 m c t.val t.isLt).1 y = outAt (arrays m c) (row (num t) (y 0)) (y 1))
    ∧ ∀ y : S1x6x128x128.Idx, (outsAt0 m c t.val t.isLt).2.1 y = stateAt (arrays m c) (y 1) t.1 (y 2) (y 3)

theorem point_B (c : Dev nD) (t : Fin cfg0.N) (h : ¬ t.val % 32 = 0)
    (hX : ∀ h d v, (outsAt0 m c (t.val - 1) (by omega)).2.2 (ix3 h d v) = stateAt (arrays m c) h t.1 d v) : Stored m c t := by
  have s := read_state m c t _ fun h d v => (congrFun (Memref.IsWhole.read_unread (Val := Elt Ideal) (Memref.isWhole_whole cc0_scratch0) _) _).trans (hX h d v)
  unfold Stored
  rw [outsAt0_B m c t h]
  refine ⟨fun y => ?_, fun y => ?_, fun y => ?_⟩
  · frame_out
    canon_tiles x q
    · exact next_store m c t 5 _ (s 5 _) _ _ _ _ x y q0 x0_lt q1 q2
    · exact next_store m c t 4 _ (s 4 _) _ _ _ _ x y q0 x0_lt q1 q2
    · exact next_store m c t 3 _ (s 3 _) _ _ _ _ x y q0 x0_lt q1 q2
    · exact next_store m c t 2 _ (s 2 _) _ _ _ _ x y q0 x0_lt q1 q2
    · exact next_store m c t 1 _ (s 1 _) _ _ _ _ x y q0 x0_lt q1 q2
    · exact next_store m c t 0 _ (s 0 _) _ _ _ _ x y (q0.trans (Nat.zero_add _).symm) x0_lt q1 q2
  · frame_out
    canon_tiles x q
    · exact out_store m c t 5 _ (s 5 _) _ _ _ _ _ _ x y q0 q1
    · exact out_store m c t 4 _ (s 4 _) _ _ _ _ _ _ x y q0 q1
    · exact out_store m c t 3 _ (s 3 _) _ _ _ _ _ _ x y q0 q1
    · exact out_store m c t 2 _ (s 2 _) _ _ _ _ _ _ x y q0 q1
    · exact out_store m c t 1 _ (s 1 _) _ _ _ _ _ _ x y q0 q1
    · exact out_store m c t 0 _ (s 0 _) _ _ _ _ _ _ x y q0 (q1.trans (Nat.zero_add _).symm)
  · frame_out
    canon_tiles x q
    · exact state_store m c t 5 _ (s 5 _) x y q1 x1_lt q2 q3
    · exact state_store m c t 4 _ (s 4 _) x y q1 x1_lt q2 q3
    · exact state_store m c t 3 _ (s 3 _) x y q1 x1_lt q2 q3
    · exact state_store m c t 2 _ (s 2 _) x y q1 x1_lt q2 q3
    · exact state_store m c t 1 _ (s 1 _) x y q1 x1_lt q2 q3
    · exact state_store m c t 0 _ (s 0 _) x y (q1.trans (Nat.zero_add _).symm) x1_lt q2 q3

theorem point_A (c : Dev nD) (t : Fin cfg0.N) (h : t.val % 32 = 0) : Stored m c t := by
  have e : t.1 = 0 := by have : t.1 < 32 := (num t).2; omega
  have z := read_state m c t (k0_pay2 (F := Ideal)) fun h d v => by rw [e]; pointwise [k0_pay2]; rfl
  unfold Stored
  rw [outsAt0_A m c t h]
  refine ⟨fun y => ?_, fun y => ?_, fun y => ?_⟩
  · frame_open
    simp (disch := decide) only [↓ View.readCov_skip, ↓ View.readCov_cons_toLoadRect, ↓ View.readCov_fill]
    frame_out
    refine View.canon_append_of_piecesOf (Val := Elt Ideal) (s := S6x128x128) (e := .f32) (fun y : S6x128x128.Idx => stateAt (arrays m c) (y 0) (t.1 + 1) (y 1) (y 2)) [_] [_, _, _, _, _, _]
      ⟨fun x => ?_, fun x => ?_, fun x => ?_, fun x => ?_, fun x => ?_, fun x => ?_, trivial⟩ y ?_
    · exact next_piece m c t 5 _ (z 5 _) inb_S6x128x128_S1x128x128_5_0_0 _ _ _ _ x
    · exact next_piece m c t 4 _ (z 4 _) inb_S6x128x128_S1x128x128_4_0_0 _ _ _ _ x
    · exact next_piece m c t 3 _ (z 3 _) inb_S6x128x128_S1x128x128_3_0_0 _ _ _ _ x
    · exact next_piece m c t 2 _ (z 2 _) inb_S6x128x128_S1x128x128_2_0_0 _ _ _ _ x
    · exact next_piece m c t 1 _ (z 1 _) inb_S6x128x128_S1x128x128_1_0_0 _ _ _ _ x
    · exact next_piece m c t 0 _ (z 0 _) inb_S6x128x128_S1x128x128_0_0_0 _ _ _ _ x
    · have h0 : (y 0).val < 6 := (y 0).isLt
      have h1 : (y 1).val < 128 := (y 1).isLt
      have h2 : (y 2).val < 128 := (y 2).isLt
      simp [Rect.mem_set_unit, Fin.forall_fin_succ]
      omega
  · frame_open
    simp (disch := decide) only [↓ View.readCov_skip, ↓ View.readCov_cons_toLoadRect, ↓ View.readCov_fill]
    frame_out
    canon_tiles x q
    · exact out_store m c t 5 _ (z 5 _) _ _ _ _ _ _ x y q0 q1
    · exact out_store m c t 4 _ (z 4 _) _ _ _ _ _ _ x y q0 q1
    · exact out_store m c t 3 _ (z 3 _) _ _ _ _ _ _ x y q0 q1
    · exact out_store m c t 2 _ (z 2 _) _ _ _ _ _ _ x y q0 q1
    · exact out_store m c t 1 _ (z 1 _) _ _ _ _ _ _ x y q0 q1
    · exact out_store m c t 0 _ (z 0 _) _ _ _ _ _ _ x y q0 (q1.trans (Nat.zero_add _).symm)
  · frame_open
    simp (disch := decide) only [↓ View.readCov_skip, ↓ View.readCov_cons_toLoadRect, ↓ View.readCov_fill]
    frame_out
    canon_tiles x q
    · exact state_store m c t 5 _ (z 5 _) x y q1 x1_lt q2 q3
    · exact state_store m c t 4 _ (z 4 _) x y q1 x1_lt q2 q3
    · exact state_store m c t 3 _ (z 3 _) x y q1 x1_lt q2 q3
    · exact state_store m c t 2 _ (z 2 _) x y q1 x1_lt q2 q3
    · exact state_store m c t 1 _ (z 1 _) x y q1 x1_lt q2 q3
    · exact state_store m c t 0 _ (z 0 _) x y (q1.trans (Nat.zero_add _).symm) x1_lt q2 q3

theorem stored (c : Dev nD) : ∀ (n : ℕ) (hn : n < cfg0.N), Stored m c ⟨n, hn⟩
  | 0, hn => point_A m c ⟨0, hn⟩ rfl
  | n + 1, hn => point_B m c ⟨n + 1, hn⟩ (by have : n + 1 < 32 := (num ⟨n + 1, hn⟩).2; simp only; omega)
      fun h d v => (stored c n (by omega)).1 (ix3 h d v)

/-- The array of outputs, and the array of the states before each chunk. -/
def OUT (x : Arrays) : Vec Ideal S2048x768 .bf16 := fun j => outAt x (j 0) (j 1)
def STATES (x : Arrays) : Vec Ideal S32x6x128x128 .f32 := fun j => stateAt x (j 1) (j 0).val (j 2) (j 3)

theorem out_array (c : Dev nD) : (dats m 0 c).arrAt 8 (cfgs 0).N = OUT (arrays m c) := by
  refine (dats m 0 c).arrAt_eq_of_covers 8 _ (by decide +kernel) fun t _ y => ?_
  blk_simp
  rw [after0_8, (stored m c t.val t.isLt).2.1 y]
  idx_vars y
  refine Eq.trans (b := OUT (arrays m c) (ix2 (row (num t) y0) y1)) rfl (by blk_ext [idx t])

theorem states_array (c : Dev nD) : (dats m 0 c).arrAt 9 (cfgs 0).N = STATES (arrays m c) := by
  refine (dats m 0 c).arrAt_eq_of_covers 9 _ (by decide +kernel) fun t _ y => ?_
  blk_simp
  rw [after0_9, (stored m c t.val t.isLt).2.2 y]
  idx_vars y
  refine Eq.trans (b := STATES (arrays m c) (ix4 (num t) y1 y2 y3)) rfl (by blk_ext [idx t])

end Cert.ScanFIdeal.Value

end
-- ==== Proof.ScanF.Ref.lean ====
/- The recurrence over the chunks, as the reference's loop computes it. -/
module

public import proofs.«01_k».proof.Proof.ScanF.Spec
public import proofs.«01_k».proof.Proof.Gen.ScanFRefIdeal.Run
public import Idealize.ShloMosaic.Lib.Pipeline.ValueKit
public import Idealize.ShloMosaic.Lib.DynamicIndex
public import Idealize.ShloMosaic.Lib.WordCmp

@[expose] public section

set_option maxRecDepth 16384

noncomputable section

namespace Cert.ScanFRefIdeal.Value

open Cert.ScanFRefIdeal Cert.ScanFRefIdeal.Gen Idealize.ShloMosaic Idealize.ShloMosaic.TcCoe Idealize.SL.Sem Idealize.ShloMosaic.StableHlo
open Cert.Scan

/-! ## A chunk taken out of an array of chunks -/

/-- The index of chunk `n` as a word. -/
abbrev word (n : Fin 32) : IVec S_ 32 := constantI S_ 32 (BitVec.ofNat 32 n.1)

theorem word_start (n : Fin 32) (k : S_.Idx) : (word n k).toInt = (n.1 : ℤ) := by
  show (BitVec.ofNat 32 n.1).toInt = _
  revert n; decide

theorem starts5 (n : Fin 32) : ∀ a : Fin 5, (fun k => (((![word n, constantI S_ 32 0#32, constantI S_ 32 0#32, constantI S_ 32 0#32, constantI S_ 32 0#32] : Fin 5 → (⟨S_, .i32⟩ : BufTy).Contents (Elt Ideal))) k (Shape.Idx.first h_S_)).toInt) a = ((![n.1, 0, 0, 0, 0] : Fin 5 → ℕ) a : ℤ)
  | 0 => word_start n (Shape.Idx.first h_S_)
  | 1 => rfl
  | 2 => rfl
  | 3 => rfl
  | 4 => rfl

theorem starts4 (n : Fin 32) : ∀ a : Fin 4, (fun k => (((![word n, constantI S_ 32 0#32, constantI S_ 32 0#32, constantI S_ 32 0#32] : Fin 4 → (⟨S_, .i32⟩ : BufTy).Contents (Elt Ideal))) k (Shape.Idx.first h_S_)).toInt) a = ((![n.1, 0, 0, 0] : Fin 4 → ℕ) a : ℤ)
  | 0 => word_start n (Shape.Idx.first h_S_)
  | 1 => rfl
  | 2 => rfl
  | 3 => rfl

/-- Chunk `n` of an array of chunks. -/
def lanes (X : Vec Ideal S32x1x6x64x128 .f32) (n : Fin 32) : Vec Ideal S1x6x64x128 .f32 := fun j => X (ix5 n 0 (j 1) (j 2) (j 3))

theorem slice_lanes (X : Vec Ideal S32x1x6x64x128 .f32) (n : Fin 32) :
    shapeCast S1x6x64x128 (Host.dynamicSlice S1x1x6x64x128 X (fun k => (((![word n, constantI S_ 32 0#32, constantI S_ 32 0#32, constantI S_ 32 0#32, constantI S_ 32 0#32] : Fin 5 → (⟨S_, .i32⟩ : BufTy).Contents (Elt Ideal))) k (Shape.Idx.first h_S_)).toInt) sliceFits_S32x1x6x64x128_S1x1x6x64x128) shapeCasts_S1x1x6x64x128_S1x6x64x128
      = lanes X n := by
  rw [Host.dynamicSlice_eq_extractStridedSlice S1x1x6x64x128 X _ ![n.1, 0, 0, 0, 0] _ ⟨rfl, fun a => by fin_cases a <;> simp <;> omega⟩ (starts5 n)]
  funext j
  idx_vars j
  pointwise [lanes]
  blk_ext

/-- Chunk `n` of an array of chunks. -/
def square (X : Vec Ideal S32x1x6x64x64 .f32) (n : Fin 32) : Vec Ideal S1x6x64x64 .f32 := fun j => X (ix5 n 0 (j 1) (j 2) (j 3))

theorem slice_square (X : Vec Ideal S32x1x6x64x64 .f32) (n : Fin 32) :
    shapeCast S1x6x64x64 (Host.dynamicSlice S1x1x6x64x64 X (fun k => (((![word n, constantI S_ 32 0#32, constantI S_ 32 0#32, constantI S_ 32 0#32, constantI S_ 32 0#32] : Fin 5 → (⟨S_, .i32⟩ : BufTy).Contents (Elt Ideal))) k (Shape.Idx.first h_S_)).toInt) sliceFits_S32x1x6x64x64_S1x1x6x64x64) shapeCasts_S1x1x6x64x64_S1x6x64x64
      = square X n := by
  rw [Host.dynamicSlice_eq_extractStridedSlice S1x1x6x64x64 X _ ![n.1, 0, 0, 0, 0] _ ⟨rfl, fun a => by fin_cases a <;> simp <;> omega⟩ (starts5 n)]
  funext j
  idx_vars j
  pointwise [square]
  blk_ext

theorem slice_row (X : Vec Ideal S32x1x6x64 .f32) (n : Fin 32) (h : Fin 6) (i : Fin 64) :
    shapeCast S1x6x64 (Host.dynamicSlice S1x1x6x64 X (fun k => (((![word n, constantI S_ 32 0#32, constantI S_ 32 0#32, constantI S_ 32 0#32] : Fin 4 → (⟨S_, .i32⟩ : BufTy).Contents (Elt Ideal))) k (Shape.Idx.first h_S_)).toInt) sliceFits_S32x1x6x64_S1x1x6x64) shapeCasts_S1x1x6x64_S1x6x64 (ix3 0 h i)
      = X (ix4 n 0 h i) := by
  rw [Host.dynamicSlice_eq_extractStridedSlice S1x1x6x64 X _ ![n.1, 0, 0, 0] _ ⟨rfl, fun a => by fin_cases a <;> simp <;> omega⟩ (starts4 n)]
  pointwise
  blk_ext

/-! ## A chunk put into an array of chunks -/

theorem put_lanes (X : Vec Ideal S32x1x6x64x128 .f32) (Y : Vec Ideal S1x1x6x64x128 .f32) (n n' : Fin 32) (h : Fin 6) (i : Fin 64) (d : Fin 128) :
    Host.dynamicUpdateSlice X Y (fun k => (((![word n, constantI S_ 32 0#32, constantI S_ 32 0#32, constantI S_ 32 0#32, constantI S_ 32 0#32] : Fin 5 → (⟨S_, .i32⟩ : BufTy).Contents (Elt Ideal))) k (Shape.Idx.first h_S_)).toInt) updateFits_S32x1x6x64x128_S1x1x6x64x128 (ix5 n' 0 h i d)
      = if n' = n then Y (ix5 0 0 h i d) else X (ix5 n' 0 h i d) := by
  rw [WordCmp.dynamicUpdateSlice_eq_update X Y _ _ ![n.1, 0, 0, 0, 0] ⟨rfl, fun a => by fin_cases a <;> simp <;> omega⟩ (starts5 n)]
  pointwise
  by_cases e : n' = n
  · subst e
    simp
  · have e' : n'.1 ≠ n.1 := fun q => e (Fin.ext q)
    rw [if_neg e, dif_neg (by omega)]

theorem put_states (X : Vec Ideal S32x1x6x128x128 .f32) (Y : Vec Ideal S1x1x6x128x128 .f32) (n n' : Fin 32) (h : Fin 6) (i : Fin 128) (d : Fin 128) :
    Host.dynamicUpdateSlice X Y (fun k => (((![word n, constantI S_ 32 0#32, constantI S_ 32 0#32, constantI S_ 32 0#32, constantI S_ 32 0#32] : Fin 5 → (⟨S_, .i32⟩ : BufTy).Contents (Elt Ideal))) k (Shape.Idx.first h_S_)).toInt) updateFits_S32x1x6x128x128_S1x1x6x128x128 (ix5 n' 0 h i d)
      = if n' = n then Y (ix5 0 0 h i d) else X (ix5 n' 0 h i d) := by
  rw [WordCmp.dynamicUpdateSlice_eq_update X Y _ _ ![n.1, 0, 0, 0, 0] ⟨rfl, fun a => by fin_cases a <;> simp <;> omega⟩ (starts5 n)]
  pointwise
  by_cases e : n' = n
  · subst e
    simp
  · have e' : n'.1 ≠ n.1 := fun q => e (Fin.ext q)
    rw [if_neg e, dif_neg (by omega)]

/-! ## One trip -/

/-- What the loop holds before trip `j`. -/
structure At (x : Arrays) (V : Valuation τ sig (Elt Ideal)) (j : ℕ) : Prop where
  q : ∀ n h i d, (V (Proc.devRef .tc main_v24_0) : Vec Ideal S32x1x6x64x128 .f32) (ix5 n 0 h i d) = x.q (row n i) (col h d)
  k : ∀ n h i d, (V (Proc.devRef .tc main_v24_1) : Vec Ideal S32x1x6x64x128 .f32) (ix5 n 0 h i d) = x.k (row n i) (col h d)
  u : ∀ n h i d, (V (Proc.devRef .tc main_v24_2) : Vec Ideal S32x1x6x64x128 .f32) (ix5 n 0 h i d) = x.u (row n i) (col h d)
  w : ∀ n h i d, (V (Proc.devRef .tc main_v24_3) : Vec Ideal S32x1x6x64x128 .f32) (ix5 n 0 h i d) = x.w (row n i) (col h d)
  g : ∀ n h i, (V (Proc.devRef .tc main_v24_4) : Vec Ideal S32x1x6x64 .f32) (ix4 n 0 h i) = x.g h (row n i)
  a : ∀ n h i l, (V (Proc.devRef .tc main_v24_5) : Vec Ideal S32x1x6x64x64 .f32) (ix5 n 0 h i l) = x.a h n i l
  num : V (Proc.devRef .tc main_v24_6) = constantI S_ 32 (BitVec.ofNat 32 j)
  s : ∀ h d v, (V (Proc.devRef .tc main_v24_7) : Vec Ideal S1x6x128x128 .f32) (ix4 0 h d v) = stateAt x h j d v
  o : ∀ n h i v, n.1 < j → (V (Proc.devRef .tc main_v24_8) : Vec Ideal S32x1x6x64x128 .f32) (ix5 n 0 h i v) = out (segment x h n) (stateAt x h n.1) i v
  st : ∀ n h d v, n.1 < j → (V (Proc.devRef .tc main_v24_9) : Vec Ideal S32x1x6x128x128 .f32) (ix5 n 0 h d v) = stateAt x h n.1 d v

section

variable {x : Arrays} {V : Valuation τ sig (Elt Ideal)} {n : Fin 32} (H : At x V n.1)

include H in
theorem g_read (h : Fin 6) (i : Fin 64) : (res_main_while0b_v51 V : Vec Ideal S1x6x64 .f32) (ix3 0 h i) = (segment x h n).g i := by
  unfold res_main_while0b_v51
  rw [H.num]
  exact (slice_row _ n h i).trans (H.g n h i)

include H in
theorem last_read (h : Fin 6) : (res_main_while0b_v62 V : Vec Ideal S1x6x1 .f32) (ix3 0 h 0) = (segment x h n).g 63 := by
  unfold res_main_while0b_v62
  pointwise
  exact g_read H h 63

include H in
theorem fresh_read (h : Fin 6) (i : Fin 64) (v : Fin 128) :
    (res_main_while0b_v54 V : Vec Ideal S1x6x64x128 .f32) (ix4 0 h i v) = fresh (segment x h n) (stateAt x h n.1) i v := by
  unfold res_main_while0b_v54
  rw [H.num]
  erw [slice_lanes _ n, slice_lanes _ n]
  pointwise [lanes]
  simp only [H.u, H.w, H.s]
  rfl

include H in
theorem next_read (h : Fin 6) (d v : Fin 128) :
    (step_main_v24_7 V : Vec Ideal S1x6x128x128 .f32) (ix4 0 h d v) = stateAt x h (n.1 + 1) d v := by
  rw [stateAt_next]
  unfold step_main_v24_7
  rw [H.num]
  erw [slice_lanes _ n]
  rw [id]
  pointwise [lanes]
  simp only [H.k, H.s, last_read H, g_read H, fresh_read H]
  rfl

include H in
theorem out_read (h : Fin 6) (i : Fin 64) (v : Fin 128) (m : Fin 32) (hm : m.1 < n.1 + 1) :
    (step_main_v24_8 V : Vec Ideal S32x1x6x64x128 .f32) (ix5 m 0 h i v) = out (segment x h m) (stateAt x h m.1) i v := by
  unfold step_main_v24_8
  rw [H.num]
  erw [slice_lanes _ n, slice_square _ n]
  refine (put_lanes _ _ n m h i v).trans ?_
  split
  · rename_i e
    subst e
    pointwise [lanes, square]
    simp only [H.q, H.a, H.s, g_read H, fresh_read H]
    rfl
  · rename_i e
    exact H.o m h i v (by have : m.1 ≠ n.1 := fun q => e (Fin.ext q); omega)

include H in
theorem states_read (h : Fin 6) (d v : Fin 128) (m : Fin 32) (hm : m.1 < n.1 + 1) :
    (step_main_v24_9 V : Vec Ideal S32x1x6x128x128 .f32) (ix5 m 0 h d v) = stateAt x h m.1 d v := by
  unfold step_main_v24_9
  rw [H.num]
  refine (put_states _ _ n m h d v).trans ?_
  split
  · rename_i e
    subst e
    pointwise
    exact H.s h d v
  · rename_i e
    exact H.st m h d v (by have : m.1 ≠ n.1 := fun q => e (Fin.ext q); omega)

include H in
theorem trip : At x (STEP V) (n.1 + 1) where
  q := by rw [STEP_main_v24_0]; exact H.q
  k := by rw [STEP_main_v24_1]; exact H.k
  u := by rw [STEP_main_v24_2]; exact H.u
  w := by rw [STEP_main_v24_3]; exact H.w
  g := by rw [STEP_main_v24_4]; exact H.g
  a := by rw [STEP_main_v24_5]; exact H.a
  num := by
    rw [STEP_main_v24_6]
    unfold step_main_v24_6
    rw [H.num]
    funext j
    show BitVec.ofNat 32 n.1 + 1#32 = BitVec.ofNat 32 (n.1 + 1)
    rw [BitVec.ofNat_add]
  s := by rw [STEP_main_v24_7]; exact next_read H
  o := fun m h i v hm => by rw [STEP_main_v24_8]; exact out_read H h i v m hm
  st := fun m h d v hm => by rw [STEP_main_v24_9]; exact states_read H h d v m hm

end

/-! ## The loop -/

variable (m : (ℓ : Loc nD τ sig) → Buf (Elt Ideal) ℓ)

/-- The arguments. -/
def arrays (c : Dev nD) : Arrays where
  q r l := m ((c : Thread nD τ).loc main_arg0) (ix2 r l)
  k r l := m ((c : Thread nD τ).loc main_arg1) (ix2 r l)
  u r l := m ((c : Thread nD τ).loc main_arg2) (ix2 r l)
  w r l := m ((c : Thread nD τ).loc main_arg3) (ix2 r l)
  g h r := m ((c : Thread nD τ).loc main_arg4) (ix2 h r)
  a h n i j := m ((c : Thread nD τ).loc main_arg5) (ix4 h n i j)
  z r l := m ((c : Thread nD τ).loc main_arg6) (ix2 r l)
  og d := m ((c : Thread nD τ).loc main_arg7) (ix1 d)

/-- The chunks of an array of positions. -/
def lanesOf (X : Vec Ideal S2048x768 .f32) : Vec Ideal S32x1x6x64x128 .f32 :=
  transpose S32x1x6x64x128 [2, 0, 1, 3, 4]
    (shapeCast S1x6x32x64x128 (transpose S1x6x2048x128 [0, 2, 1, 3] (shapeCast S1x2048x6x128 X shapeCasts_S2048x768_S1x2048x6x128)
      transposes_S1x2048x6x128_S1x6x2048x128_0_2_1_3) shapeCasts_S1x6x2048x128_S1x6x32x64x128)
    transposes_S1x6x32x64x128_S32x1x6x64x128_2_0_1_3_4

theorem lanesOf_read (X : Vec Ideal S2048x768 .f32) (n : Fin 32) (h : Fin 6) (i : Fin 64) (d : Fin 128) :
    lanesOf X (ix5 n 0 h i d) = X (ix2 (row n i) (col h d)) := by
  pointwise [lanesOf]
  blk_ext

/-- The chunks of the decay's running sum. -/
def decaysOf (X : Vec Ideal S6x2048 .f32) : Vec Ideal S32x1x6x64 .f32 :=
  transpose S32x1x6x64 [2, 0, 1, 3]
    (shapeCast S1x6x32x64 (broadcastInDim S1x6x2048 ![1, 2] bcast_S6x2048_S1x6x2048_1_2 X) shapeCasts_S1x6x2048_S1x6x32x64)
    transposes_S1x6x32x64_S32x1x6x64_2_0_1_3

theorem decaysOf_read (X : Vec Ideal S6x2048 .f32) (n : Fin 32) (h : Fin 6) (i : Fin 64) :
    decaysOf X (ix4 n 0 h i) = X (ix2 h (row n i)) := by
  pointwise [decaysOf]
  blk_ext

/-- The chunks' products of queries and keys. -/
def squaresOf (X : Vec Ideal S6x32x64x64 .f32) : Vec Ideal S32x1x6x64x64 .f32 :=
  transpose S32x1x6x64x64 [2, 0, 1, 3, 4] (broadcastInDim S1x6x32x64x64 ![1, 2, 3, 4] bcast_S6x32x64x64_S1x6x32x64x64_1_2_3_4 X)
    transposes_S1x6x32x64x64_S32x1x6x64x64_2_0_1_3_4

theorem squaresOf_read (X : Vec Ideal S6x32x64x64 .f32) (n : Fin 32) (h : Fin 6) (i l : Fin 64) :
    squaresOf X (ix5 n 0 h i l) = X (ix4 h n i l) := by
  pointwise [squaresOf]

set_option maxHeartbeats 1000000 in
theorem entry (c : Dev nD) : At (arrays m c) (entryContents preI m c) 0 := by
  constructor <;> (simp only [entryContents, afterL_cons, afterL_nil]; after_reads_simp)
  case q => exact fun n h i d => lanesOf_read _ n h i d
  case k => exact fun n h i d => lanesOf_read _ n h i d
  case u => exact fun n h i d => lanesOf_read _ n h i d
  case w => exact fun n h i d => lanesOf_read _ n h i d
  case g => exact fun n h i => decaysOf_read _ n h i
  case a => exact fun n h i l => squaresOf_read _ n h i l
  case num => rfl
  case s =>
    intro h d v
    refine Eq.trans (b := (0 : EReal)) ?_ rfl
    rw [id]
    pointwise
  case o => exact fun n h i v hn => absurd hn (Nat.not_lt_zero _)
  case st => exact fun n h d v hn => absurd hn (Nat.not_lt_zero _)

theorem loop (c : Dev nD) : ∀ j, j ≤ 32 → At (arrays m c) (STEP^[j] (entryContents preI m c)) j
  | 0, _ => entry m c
  | j + 1, h => by
    rw [Function.iterate_succ_apply']
    exact trip (n := ⟨j, by omega⟩) (loop c j (by omega))

/-! ## The results -/

/-- The chunks' outputs, by position. -/
def positions (X : Vec Ideal S32x1x6x64x128 .f32) : Vec Ideal S1x2048x6x128 .f32 :=
  transpose S1x2048x6x128 [0, 2, 1, 3] (shapeCast S1x6x2048x128 (transpose S1x6x32x64x128 [1, 2, 0, 3, 4] X
    transposes_S32x1x6x64x128_S1x6x32x64x128_1_2_0_3_4) shapeCasts_S1x6x32x64x128_S1x6x2048x128) transposes_S1x6x2048x128_S1x2048x6x128_0_2_1_3

theorem positions_read (X : Vec Ideal S32x1x6x64x128 .f32) (n : Fin 32) (i : Fin 64) (h : Fin 6) (v : Fin 128) :
    positions X (ix4 0 (row n i) h v) = X (ix5 n 0 h i v) := by
  pointwise [positions]
  blk_ext

/-- What follows the loop: each position's norm, the scale and the gate. -/
def after (T : Vec Ideal S1x2048x6x128 .f32) (og : Vec Ideal S128 .f32) (z : Vec Ideal S2048x768 .f32) : Vec Ideal S2048x768 .bf16 :=
  truncf (F := Ideal) .bf16 (shapeCast S2048x768 (mulf (mulf (mulf T (broadcastInDim S1x2048x6x128 ![0, 1, 2, 3] bcast_S1x2048x6x1_S1x2048x6x128_0_1_2_3 (Host.rsqrt (addf (Host.divf (broadcastInDim S1x2048x6x1 ![0, 1, 2] bcast_S1x2048x6_S1x2048x6x1_0_1_2 (Host.reduceAdd (mulf T T) (constant S_ .f32 0x00000000#32) reducesTo_S1x2048x6x128_S1x2048x6_d3 h_S_)) (broadcastInDim S1x2048x6x1 ![] bcast_S_S1x2048x6x1 (constant S_ .f32 0x43000000#32))) (broadcastInDim S1x2048x6x1 ![] bcast_S_S1x2048x6x1 (constant S_ .f32 0x358637BD#32)))))) (broadcastInDim S1x2048x6x128 ![0, 1, 2, 3] bcast_S1x1x1x128_S1x2048x6x128_0_1_2_3 (broadcastInDim S1x1x1x128 ![3] bcast_S128_S1x1x1x128_3 og))) (mulf (shapeCast S1x2048x6x128 z shapeCasts_S2048x768_S1x2048x6x128) (Host.divf (broadcastInDim S1x2048x6x128 ![] bcast_S_S1x2048x6x128 (constant S_ .f32 0x3F800000#32)) (addf (broadcastInDim S1x2048x6x128 ![] bcast_S_S1x2048x6x128 (constant S_ .f32 0x3F800000#32)) (Host.exp (Host.negf (shapeCast S1x2048x6x128 z shapeCasts_S2048x768_S1x2048x6x128))))))) shapeCasts_S1x2048x6x128_S2048x768) bitsLt_bf16_f32

theorem after_read (T : Vec Ideal S1x2048x6x128 .f32) (og : Vec Ideal S128 .f32) (z : Vec Ideal S2048x768 .f32) (r : Fin 2048) (h : Fin 6) (v : Fin 128) :
    after T og z (ix2 r (col h v)) = normed (fun d => T (ix4 0 r h d)) (fun d => og (ix1 d)) (z (ix2 r (col h v))) v := by
  pointwise [after]
  have e1 : (⟨(col h v).1 / 128, by omega⟩ : Fin 6) = h := Fin.ext (by simp only; omega)
  have e2 : (⟨(col h v).1 % 128, by omega⟩ : Fin 128) = v := Fin.ext (by simp only; omega)
  simp only [e1, e2]
  have e3 : (h.1 * 128 + v.1) / 128 * 128 + (h.1 * 128 + v.1) % 128 = h.1 * 128 + v.1 := by omega
  simp only [e3]
  rfl

theorem result0 (c : Dev nD) : (out_main_v45 (STEP^[32] (entryContents preI m c)) : Vec Ideal S2048x768 .bf16) = fun j => outAt (arrays m c) (j 0) (j 1) := by
  have A := loop m c 32 le_rfl
  funext j
  idx_vars j
  obtain ⟨n, i, rfl⟩ : ∃ (n : Fin 32) (i : Fin 64), j0 = row n i := ⟨⟨j0.1 / 64, by omega⟩, ⟨j0.1 % 64, by omega⟩, Fin.ext (by simp only; omega)⟩
  obtain ⟨h, v, rfl⟩ : ∃ (h : Fin 6) (v : Fin 128), j1 = col h v := ⟨⟨j1.1 / 128, by omega⟩, ⟨j1.1 % 128, by omega⟩, Fin.ext (by simp only; omega)⟩
  unfold out_main_v45
  rw [iter_main_arg6, iter_main_arg7]
  refine (after_read (positions _) _ _ (row n i) h v).trans ?_
  refine Eq.trans ?_ (outAt_eq (arrays m c) n i h v _ _ rfl rfl).symm
  refine congrArg (fun o => normed o _ _ v) (funext fun d => ?_)
  exact (positions_read _ n i h d).trans (A.o n h i d n.2)

theorem result1 (c : Dev nD) : (out_main_v46 (STEP^[32] (entryContents preI m c)) : Vec Ideal S32x6x128x128 .f32) = fun j => stateAt (arrays m c) (j 1) (j 0).1 (j 2) (j 3) := by
  have A := loop m c 32 le_rfl
  funext j
  idx_vars j
  unfold out_main_v46
  pointwise
  refine Eq.trans ?_ (A.st j0 j1 j2 j3 j0.2)
  blk_ext

/-- The reference's run: its two results as functions of its arguments. -/
theorem values (ρ : Dev nD → PrngReg) : θ_run (defs (F := Ideal)) (onTc (τ := τ) (main (F := Ideal))) ⟨m, fun _ => 0, ρ⟩ fun r => ∀ c : Dev nD,
      r.2.mem ((c.tc : Thread nD τ).loc main_v45) = (fun j => outAt (arrays m c) (j 0) (j 1) : Vec Ideal S2048x768 .bf16)
      ∧ r.2.mem ((c.tc : Thread nD τ).loc main_v46) = (fun j => stateAt (arrays m c) (j 1) (j 0).1 (j 2) (j 3) : Vec Ideal S32x6x128x128 .f32)
      ∧ ∀ a ∈ [main_arg0, main_arg1, main_arg2, main_arg3, main_arg4, main_arg5, main_arg6, main_arg7],
        r.2.mem ((c.tc : Thread nD τ).loc a) = m ((c.tc : Thread nD τ).loc a) := by
  refine (θ_run _ _ _).mono (fun r h c => ?_) (run m ρ)
  obtain ⟨h0, h1, a0, a1, a2, a3, a4, a5, a6, a7⟩ := h c
  refine ⟨h0.trans (result0 m c), h1.trans (result1 m c), ?_⟩
  simp only [List.forall_mem_cons, List.not_mem_nil, false_implies, implies_true, and_true]
  exact ⟨a0, a1, a2, a3, a4, a5, a6, a7⟩

end Cert.ScanFRefIdeal.Value

end
-- ==== Proof.ScanF.lean ====
/- The forward recurrence: the kernel's outputs and states are the reference's. -/
module

public import proofs.«01_k».proof.Proof.ScanF.Value
public import proofs.«01_k».proof.Proof.ScanF.Ref
public import proofs.«01_k».proof.Defs

@[expose] public section

set_option maxRecDepth 16384

noncomputable section

namespace Cert.Proof

open Idealize.ShloMosaic Idealize.ShloMosaic.TcCoe Idealize.SL.Sem

theorem algebraic_scan_f : Cert.algebraic_ScanFIdeal_ScanFRefIdeal := by
  pair_intro
  · run_from Cert.ScanFIdeal.Gen.run_main m g
  · refine (θ_run _ _ _).mono (fun r h c => ?_) (Cert.ScanFRefIdeal.Value.values m' g')
    obtain ⟨h0, h1, ha⟩ := h c
    have e : Cert.ScanFRefIdeal.Value.arrays m' c = Cert.ScanFIdeal.Value.arrays m c := by
      obtain ⟨a0, a1, a2, a3, a4, a5, a6, a7⟩ := hagree c
      unfold Cert.ScanFRefIdeal.Value.arrays Cert.ScanFIdeal.Value.arrays
      simp only [a0, a1, a2, a3, a4, a5, a6, a7]
    refine ⟨h0.trans ?_, h1.trans ?_, ha _ (by simp), ha _ (by simp), ha _ (by simp), ha _ (by simp), ha _ (by simp), ha _ (by simp), ha _ (by simp), ha _ (by simp)⟩
    · rw [e]
      exact (Cert.ScanFIdeal.Value.out_array m c).symm
    · rw [e]
      exact (Cert.ScanFIdeal.Value.states_array m c).symm

end Cert.Proof

end
-- ==== Proof.WyF.Spec.lean ====
/- The WY form of the DeltaNet in one chunk of a head: the matrix of the keys' products, its inverse as the kernel multiplies it out, and the solution row by row. -/
module

public import proofs.«01_k».proof.Proof.Gates.Same
public import Idealize.ShloMosaic.Lib.Pipeline.ValueKit
public import Idealize.ShloMosaic.PureOps.Ideal
public import Mathlib.LinearAlgebra.Matrix.NonsingularInverse
public import Mathlib.Tactic.NoncommRing

@[expose] public section

noncomputable section

namespace Cert.Wy

open Idealize.ShloMosaic

/-- One head's arrays in one chunk; the gate and the decay's running sum are one number a position. -/
structure Chunk where
  q : Fin 64 → Fin 128 → EReal
  k : Fin 64 → Fin 128 → EReal
  v : Fin 64 → Fin 128 → EReal
  b : Fin 64 → EReal
  g : Fin 64 → EReal

abbrev Mat := Fin 64 → Fin 64 → EReal

variable (x : Chunk)

/-- The decay from position `j` to position `i`, none to an earlier one. -/
def decay : Mat := fun i j => Ideal.exp (if j ≤ i then x.g i - x.g j else ⊥)

/-- The gated keys' products with the keys before them. -/
def keys : Mat := fun i j => (∑ d, x.k i d * x.b i * x.k j d) * if j < i then decay x i j else 0

def attn : Mat := fun i j => (∑ d, x.q i d * x.k j d) * decay x i j

/-- The two right-hand sides: the gated values, and the gated keys decayed. -/
def values (d : Fin 128) : Fin 64 → EReal := fun i => x.v i d * x.b i
def keysOf (d : Fin 128) : Fin 64 → EReal := fun i => x.k i d * x.b i * Ideal.exp (x.g i)

/-! ## The inverse, multiplied out -/

def mm (a b : Mat) : Mat := fun i j => ∑ l, a i l * b l j
def start (a : Mat) : Mat := fun i j => (if i = j then 1 else 0) - a i j

/-- `x + x · p`. -/
def grow (y p : Mat) : Mat := fun i j => y i j + mm y p i j

/-- `(1 - a)(1 + a²)(1 + a⁴) … (1 + a³²)`. -/
def inverse (a : Mat) : Mat :=
  have p1 := mm a a
  have p2 := mm p1 p1
  have p3 := mm p2 p2
  have p4 := mm p3 p3
  grow (grow (grow (grow (grow (start a) p1) p2) p3) p4) (mm p4 p4)

/-! ## Row by row -/

/-- The first `n` rows of the solution of `y + a y = r`, zero below. -/
def rows (a : Mat) (r : Fin 64 → EReal) : ℕ → Fin 64 → EReal
  | 0 => fun _ => 0
  | n + 1 => fun i => if i.1 = n then r i - ∑ j, a i j * rows a r n j else rows a r n i

/-! ## Over the reals the two agree -/

abbrev RMat := Matrix (Fin 64) (Fin 64) ℝ

section

variable (A : RMat) (R : Fin 64 → ℝ)

def up (B : RMat) : Mat := fun i j => ((B i j : ℝ) : EReal)

theorem mm_up (B C : RMat) : mm (up B) (up C) = up (B * C) := by
  funext i j
  unfold mm up
  rw [Matrix.mul_apply, Cert.Gates.coe_sum]
  exact Finset.sum_congr rfl fun l _ => (EReal.coe_mul _ _).symm

theorem start_up : start (up A) = up (1 - A) := by
  funext i j
  unfold start up
  rw [Matrix.sub_apply, Matrix.one_apply, EReal.coe_sub]
  split <;> rfl

theorem grow_up (B C : RMat) : grow (up B) (up C) = up (B + B * C) := by
  funext i j
  unfold grow
  rw [mm_up]
  unfold up
  rw [Matrix.add_apply, EReal.coe_add]

/-- The product over the reals. -/
def inv : RMat :=
  have y1 := (1 - A) + (1 - A) * (A * A)
  have p2 := A * A * (A * A)
  have y2 := y1 + y1 * p2
  have y3 := y2 + y2 * (p2 * p2)
  have p4 := p2 * p2 * (p2 * p2)
  have y4 := y3 + y3 * p4
  y4 + y4 * (p4 * p4)

theorem inverse_up : inverse (up A) = up (inv A) := by
  unfold inverse inv
  simp only [mm_up, start_up, grow_up]

variable (hA : ∀ i j : Fin 64, i ≤ j → A i j = 0)

include hA in
theorem pow_low : ∀ (n : ℕ) (i j : Fin 64), i.1 < j.1 + n → (A ^ n) i j = 0
  | 0, i, j, h => by
    rw [pow_zero, Matrix.one_apply_ne]
    rintro rfl
    omega
  | n + 1, i, j, h => by
    rw [pow_succ, Matrix.mul_apply]
    refine Finset.sum_eq_zero fun l _ => ?_
    by_cases hl : l.1 ≤ j.1
    · rw [hA l j hl, mul_zero]
    · rw [pow_low n i l (by omega), zero_mul]

include hA in
theorem inv_left : inv A * (1 + A) = 1 := by
  have h64 : A ^ 64 = 0 := by
    ext i j
    exact pow_low A hA 64 i j (by omega)
  have step (y p : RMat) (h : (1 + A) * y = 1 - p) : (1 + A) * (y + y * p) = 1 - p * p := by
    rw [mul_add, ← mul_assoc, h]
    noncomm_ring
  have h0 : (1 + A) * (1 - A) = 1 - A * A := by noncomm_ring
  have h5 := step _ _ (step _ _ (step _ _ (step _ _ (step _ _ h0))))
  have e : A * A * (A * A) * (A * A * (A * A)) * (A * A * (A * A) * (A * A * (A * A))) * (A * A * (A * A) * (A * A * (A * A)) * (A * A * (A * A) * (A * A * (A * A))))
      * (A * A * (A * A) * (A * A * (A * A)) * (A * A * (A * A) * (A * A * (A * A))) * (A * A * (A * A) * (A * A * (A * A)) * (A * A * (A * A) * (A * A * (A * A))))) = A ^ 64 := by
    simp only [← pow_two, ← pow_mul]
    norm_num
  rw [e, h64, sub_zero] at h5
  exact mul_eq_one_comm.mp h5

/-- The rows over the reals. -/
def solved : ℕ → Fin 64 → ℝ
  | 0 => fun _ => 0
  | n + 1 => fun i => if i.1 = n then R i - ∑ j, A i j * solved n j else solved n i

theorem rows_up : ∀ n, rows (up A) (fun i => (R i : EReal)) n = fun i => ((solved A R n i : ℝ) : EReal)
  | 0 => rfl
  | n + 1 => by
    funext i
    unfold rows solved
    rw [rows_up n]
    split
    · rw [EReal.coe_sub, Cert.Gates.coe_sum]
      refine congrArg (fun z => (R i : EReal) - z) (Finset.sum_congr rfl fun j _ => ?_)
      exact (EReal.coe_mul _ _).symm
    · rfl

theorem solved_stays (i : Fin 64) (n : ℕ) (h : i.1 < n) : ∀ k, solved A R (n + k) i = solved A R n i
  | 0 => rfl
  | k + 1 => by
    have e : i.1 ≠ n + k := by omega
    exact Eq.trans (if_neg e) (solved_stays i n h k)

include hA in
theorem solved_eq : (1 + A).mulVec (solved A R 64) = R := by
  funext i
  rw [Matrix.add_mulVec, Matrix.one_mulVec, Pi.add_apply]
  have e : solved A R 64 i = R i - ∑ j, A i j * solved A R i.1 j := by
    have h := solved_stays A R i (i.1 + 1) (by omega) (64 - (i.1 + 1))
    rw [show i.1 + 1 + (64 - (i.1 + 1)) = 64 by omega] at h
    rw [h]
    conv_lhs => unfold solved
    rw [if_pos rfl]
  have e' : (A.mulVec (solved A R 64)) i = ∑ j, A i j * solved A R i.1 j := by
    unfold Matrix.mulVec dotProduct
    refine Finset.sum_congr rfl fun j _ => ?_
    show A i j * _ = A i j * _
    by_cases hj : i ≤ j
    · rw [hA i j hj, zero_mul, zero_mul]
    · have h := solved_stays A R j i.1 (by omega) (64 - i.1)
      rw [show i.1 + (64 - i.1) = 64 by omega] at h
      rw [h]
  rw [e, e', sub_add_cancel]

include hA in
/-- The inverse times the right-hand side is the solution row by row. -/
theorem inverse_rows (i : Fin 64) : ∑ j, inverse (up A) i j * (R j : EReal) = rows (up A) (fun i => (R i : EReal)) 64 i := by
  have e : (inv A).mulVec R = solved A R 64 := by
    conv_lhs => rw [← solved_eq A R hA]
    rw [Matrix.mulVec_mulVec, inv_left A hA, Matrix.one_mulVec]
  rw [inverse_up, rows_up, ← e]
  simp only [up, Matrix.mulVec, dotProduct]
  rw [Cert.Gates.coe_sum]
  exact Finset.sum_congr rfl fun l _ => (EReal.coe_mul _ _).symm

end

/-! ## A chunk of finite numbers -/

/-- The keys, values, gates and decays are finite. -/
structure Finite (x : Chunk) : Prop where
  k : ∀ i d, ∃ r : ℝ, x.k i d = r
  v : ∀ i d, ∃ r : ℝ, x.v i d = r
  b : ∀ i, ∃ r : ℝ, x.b i = r
  g : ∀ i, ∃ r : ℝ, x.g i = r

variable {x}

theorem keys_up (h : Finite x) : ∃ A : RMat, (∀ i j : Fin 64, i ≤ j → A i j = 0) ∧ keys x = up A := by
  choose k hk using h.k
  choose b hb using h.b
  choose g hg using h.g
  refine ⟨fun i j => (∑ d, k i d * b i * k j d) * if j < i then Real.exp (g i - g j) else 0, fun i j hij => ?_, ?_⟩
  · show _ * (if j < i then _ else _) = _
    rw [if_neg (not_lt.mpr hij), mul_zero]
  · funext i j
    unfold keys decay up
    simp only [hk, hb, hg, ← EReal.coe_mul]
    rw [EReal.coe_mul, Cert.Gates.coe_sum]
    refine congrArg _ ?_
    by_cases hij : j < i
    · simp only [if_pos hij, if_pos hij.le, ← EReal.coe_sub, Ideal.exp_coe]
    · simp only [if_neg hij, EReal.coe_zero]

theorem values_up (h : Finite x) (d : Fin 128) : ∃ R : Fin 64 → ℝ, values x d = fun i => (R i : EReal) := by
  choose v hv using h.v
  choose b hb using h.b
  refine ⟨fun i => v i d * b i, ?_⟩
  funext i
  unfold values
  rw [hv, hb, EReal.coe_mul]

theorem keysOf_up (h : Finite x) (d : Fin 128) : ∃ R : Fin 64 → ℝ, keysOf x d = fun i => (R i : EReal) := by
  choose k hk using h.k
  choose b hb using h.b
  choose g hg using h.g
  refine ⟨fun i => k i d * b i * Real.exp (g i), ?_⟩
  funext i
  unfold keysOf
  rw [hk, hb, hg, EReal.coe_mul, EReal.coe_mul, Ideal.exp_coe]

/-- A column of the kernel's product with the values is the column solved row by row. -/
theorem values_eq (h : Finite x) (d : Fin 128) (i : Fin 64) : ∑ j, inverse (keys x) i j * values x d j = rows (keys x) (values x d) 64 i := by
  obtain ⟨A, hA, e⟩ := keys_up h
  obtain ⟨R, e'⟩ := values_up h d
  rw [e, e']
  exact inverse_rows A R hA i

theorem keysOf_eq (h : Finite x) (d : Fin 128) (i : Fin 64) : ∑ j, inverse (keys x) i j * keysOf x d j = rows (keys x) (keysOf x d) 64 i := by
  obtain ⟨A, hA, e⟩ := keys_up h
  obtain ⟨R, e'⟩ := keysOf_up h d
  rw [e, e']
  exact inverse_rows A R hA i

/-! ## The arrays -/

/-- The part's arrays. -/
structure Arrays where
  q : Fin 2048 → Fin 768 → EReal
  k : Fin 2048 → Fin 768 → EReal
  v : Fin 2048 → Fin 768 → EReal
  b : Fin 6 → Fin 2048 → EReal
  g : Fin 6 → Fin 2048 → EReal

abbrev row (n : Fin 32) (i : Fin 64) : Fin 2048 := ⟨n.1 * 64 + i.1, by omega⟩
abbrev col (h : Fin 6) (d : Fin 128) : Fin 768 := ⟨h.1 * 128 + d.1, by omega⟩

/-- A head's chunk `n`. -/
def chunkOf (x : Arrays) (h : Fin 6) (n : Fin 32) : Chunk where
  q i d := x.q (row n i) (col h d)
  k i d := x.k (row n i) (col h d)
  v i d := x.v (row n i) (col h d)
  b i := x.b h (row n i)
  g i := x.g h (row n i)

/-! ## Comparisons of two positions, as words -/

theorem select_ge (i j : Fin 64) (a b : EReal) :
    Scalar.select (IntOp.cmpi CmpIPredicate.sge (BitVec.ofNat 32 i.1) (BitVec.ofNat 32 j.1)) a b = if j ≤ i then a else b := by
  have e : IntOp.cmpi CmpIPredicate.sge (BitVec.ofNat 32 i.1) (BitVec.ofNat 32 j.1) = if j ≤ i then 1#1 else 0#1 := by
    revert i j; decide +kernel
  rw [e]
  split <;> rfl

theorem select_gt (i j : Fin 64) (a b : EReal) :
    Scalar.select (IntOp.cmpi CmpIPredicate.sgt (BitVec.ofNat 32 i.1) (BitVec.ofNat 32 j.1)) a b = if j < i then a else b := by
  have e : IntOp.cmpi CmpIPredicate.sgt (BitVec.ofNat 32 i.1) (BitVec.ofNat 32 j.1) = if j < i then 1#1 else 0#1 := by
    revert i j; decide +kernel
  rw [e]
  split <;> rfl

theorem neg_inf : (Ideal.ofBits FTy.f32 4286578688#32 : EReal) = ⊥ := by
  simp [Ideal.ofBits, Ideal.ieee]

end Cert.Wy

end
-- ==== Proof.WyF.Value.lean ====
/- The WY form of the forward pass: the kernel's payloads at an index, and the arrays it writes. -/
module

public import proofs.«01_k».proof.Proof.WyF.Spec
public import proofs.«01_k».proof.Proof.Gen.WyFIdeal.Frame
public import proofs.«01_k».proof.Proof.Gen.WyFIdeal.Value
public import Idealize.ShloMosaic.Lib.Pipeline.ValueKit
public import Idealize.ShloMosaic.Lib.WordCmp
public import Idealize.ShloMosaic.Lib.Pipeline.ReadBack

@[expose] public section

set_option maxRecDepth 16384

noncomputable section

namespace Cert.WyFIdeal.Value

open Cert.WyFIdeal Cert.WyFIdeal.Gen Idealize.ShloMosaic Idealize.ShloMosaic.TcCoe Idealize.SL.Sem
open Cert.Wy

/-! ## The payloads -/

/-- A chunk of a batch of matrices. -/
def mat (Y : Vec Ideal S16x64x64 .f32) (n : Fin 16) : Mat := fun i j => Y (ix3 n i j)

/-- A row of a block of sixteen chunks. -/
abbrev place (n : Fin 16) (i : Fin 64) : Fin 1024 := ⟨n.1 * 64 + i.1, by omega⟩

theorem grow_read (A P : Vec Ideal S16x64x64 .f32) (n : Fin 16) :
    mat (k0_pay1 (F := Ideal) A P) n
      = (have p3 := mm (mat P n) (mat P n)
         have p4 := mm p3 p3
         grow (grow (grow (grow (mat A n) (mat P n)) p3) p4) (mm p4 p4)) := by
  funext i j
  unfold mat
  pointwise [k0_pay1]
  rfl

/-- The unit matrix, from the comparison of the two positions. -/
theorem one_at (i j : Fin 64) :
    (FloatOps.sitofp (F := Ideal) FTy.f32 (BitVec.setWidth 32 (IntOp.cmpi CmpIPredicate.eq (BitVec.ofNat 32 i.1) (BitVec.ofNat 32 j.1))) : EReal)
      = if i = j then 1 else 0 := by
  have e : (BitVec.setWidth 32 (IntOp.cmpi CmpIPredicate.eq (BitVec.ofNat 32 i.1) (BitVec.ofNat 32 j.1))).toInt = if i = j then 1 else 0 := by
    revert i j; decide +kernel
  show (((BitVec.setWidth 32 (IntOp.cmpi CmpIPredicate.eq (BitVec.ofNat 32 i.1) (BitVec.ofNat 32 j.1))).toInt : ℝ) : EReal) = _
  rw [e]
  split <;> simp

section

variable (q k v : Vec Ideal S1024x128 .f32) (b g : Vec Ideal S1x1024x128 .f32) (x : Chunk) (n : Fin 16)

theorem decay_read (hg : ∀ i l, g (ix3 0 (place n i) l) = x.g i) : mat (k0_pay10 (F := Ideal) g) n = decay x := by
  funext i j
  unfold mat decay
  pointwise [k0_pay10, k0_pay9]
  rw [hg, hg, select_ge]
  simp only [neg_inf]

theorem keys_read (hk : ∀ i d, k (ix2 (place n i) d) = x.k i d) (hb : ∀ i l, b (ix3 0 (place n i) l) = x.b i)
    (hg : ∀ i l, g (ix3 0 (place n i) l) = x.g i) : mat (k0_pay12 (F := Ideal) k b g) n = keys x := by
  have e := fun i j => congrFun (congrFun (decay_read g x n hg) i) j
  funext i j
  unfold mat at *
  unfold keys
  pointwise [k0_pay12, k0_pay11, k0_pay6, k0_pay8]
  rw [select_gt]
  simp only [hk, hb, e]
  split
  · rfl
  · exact (mul_zero _).symm

theorem start_read : mat (k0_pay14 (F := Ideal) k b g) n
    = (have a := mat (k0_pay12 (F := Ideal) k b g) n
       grow (start a) (mm a a)) := by
  funext i j
  unfold mat grow start
  pointwise [k0_pay14, k0_pay13]
  simp only [one_at]
  rfl

theorem square_read : mat (k0_pay15 (F := Ideal) k b g) n
    = (have a := mat (k0_pay12 (F := Ideal) k b g) n
       mm (mm a a) (mm a a)) := by
  funext i j
  unfold mat
  pointwise [k0_pay15, k0_pay13]
  rfl

theorem inverse_read (hk : ∀ i d, k (ix2 (place n i) d) = x.k i d) (hb : ∀ i l, b (ix3 0 (place n i) l) = x.b i)
    (hg : ∀ i l, g (ix3 0 (place n i) l) = x.g i) :
    mat (k0_pay1 (F := Ideal) (k0_pay14 k b g) (k0_pay15 k b g)) n = inverse (keys x) := by
  rw [grow_read, start_read, square_read, keys_read k b g x n hk hb hg]
  rfl

theorem values_read (hk : ∀ i d, k (ix2 (place n i) d) = x.k i d) (hv : ∀ i d, v (ix2 (place n i) d) = x.v i d)
    (hb : ∀ i l, b (ix3 0 (place n i) l) = x.b i) (hg : ∀ i l, g (ix3 0 (place n i) l) = x.g i) (i : Fin 64) (d : Fin 128) :
    k0_pay2 (F := Ideal) (k0_pay7 v) (k0_pay8 b) (k0_pay14 k b g) (k0_pay15 k b g) (ix2 (place n i) d)
      = ∑ j, inverse (keys x) i j * values x d j := by
  have e := fun i j => congrFun (congrFun (inverse_read k b g x n hk hb hg) i) j
  unfold mat at e
  unfold values
  pointwise [k0_pay2, k0_pay7, k0_pay8]
  have e1 : (⟨(place n i).1 / 64, by omega⟩ : Fin 16) = n := Fin.ext (by simp only; omega)
  have e2 : (⟨(place n i).1 % 64, by omega⟩ : Fin 64) = i := Fin.ext (by simp only; omega)
  have e3 : (n.1 * 64 + i.1) / 64 = n.1 := by omega
  simp only [e1, e2, e3, e, hv, hb]

theorem keysOf_read (hk : ∀ i d, k (ix2 (place n i) d) = x.k i d)
    (hb : ∀ i l, b (ix3 0 (place n i) l) = x.b i) (hg : ∀ i l, g (ix3 0 (place n i) l) = x.g i) (i : Fin 64) (d : Fin 128) :
    k0_pay3 (F := Ideal) (k0_pay9 g) (k0_pay11 k b) (k0_pay14 k b g) (k0_pay15 k b g) (ix2 (place n i) d)
      = ∑ j, inverse (keys x) i j * keysOf x d j := by
  have e := fun i j => congrFun (congrFun (inverse_read k b g x n hk hb hg) i) j
  unfold mat at e
  unfold keysOf
  pointwise [k0_pay3, k0_pay9, k0_pay11, k0_pay6, k0_pay8]
  have e1 : (⟨(place n i).1 / 64, by omega⟩ : Fin 16) = n := Fin.ext (by simp only; omega)
  have e2 : (⟨(place n i).1 % 64, by omega⟩ : Fin 64) = i := Fin.ext (by simp only; omega)
  have e3 : (n.1 * 64 + i.1) / 64 = n.1 := by omega
  simp only [e1, e2, e3, e, hk, hb, hg]

theorem attn_read (hq : ∀ i d, q (ix2 (place n i) d) = x.q i d) (hk : ∀ i d, k (ix2 (place n i) d) = x.k i d)
    (hg : ∀ i l, g (ix3 0 (place n i) l) = x.g i) (i j : Fin 64) :
    k0_pay4 (F := Ideal) (k0_pay5 q) (k0_pay6 k) (k0_pay10 g) (ix4 0 n i j) = attn x i j := by
  have e := fun i j => congrFun (congrFun (decay_read g x n hg) i) j
  unfold mat at e
  unfold attn
  pointwise [k0_pay4, k0_pay5, k0_pay6]
  simp only [hq, hk, e]

end

/-! ## A point's stores -/

variable (m : (ℓ : Loc nD τ sig) → Buf (Elt Ideal) ℓ)

/-- The windows' blocks: grid point `t` has head `t / 2` and the half `t % 2` of its chunks. -/
theorem idx : ∀ t : Fin cfg0.N, win0_0.index t = ![t.val % 2, t.val / 2] ∧ win0_1.index t = ![t.val % 2, t.val / 2] ∧ win0_2.index t = ![t.val % 2, t.val / 2]
    ∧ win0_3.index t = ![t.val / 2, t.val % 2, 0] ∧ win0_4.index t = ![t.val / 2, t.val % 2, 0] ∧ win0_5.index t = ![t.val % 2, t.val / 2]
    ∧ win0_6.index t = ![t.val % 2, t.val / 2] ∧ win0_7.index t = ![t.val / 2, t.val % 2, 0, 0] :=
  (by decide +kernel : ∀ t : Fin grid0.N, _)

theorem lt_t (t : Fin cfg0.N) : t.1 < 12 := lt_of_lt_of_eq t.isLt N_0

/-- The head of a grid point, and its chunks. -/
abbrev head (t : Fin cfg0.N) : Fin 6 := ⟨t.1 / 2, by have := lt_t t; omega⟩
abbrev num (t : Fin cfg0.N) (n : Fin 16) : Fin 32 := ⟨t.1 % 2 * 16 + n.1, by omega⟩

/-- The arguments. -/
def arrays (c : Dev nD) : Arrays where
  q r l := m ((c : Thread nD τ).loc main_arg0) (ix2 r l)
  k r l := m ((c : Thread nD τ).loc main_arg1) (ix2 r l)
  v r l := m ((c : Thread nD τ).loc main_arg2) (ix2 r l)
  b h r := m ((c : Thread nD τ).loc main_arg3) (ix2 h r)
  g h r := m ((c : Thread nD τ).loc main_arg4) (ix2 h r)

section

variable (c : Dev nD) (t : Fin cfg0.N) (n : Fin 16)

theorem ld_block (X : Vec Ideal S1024x128 .f32) : View.ld X r0_0 = X := by
  funext j
  idx_vars j
  exact congrArg X (by blk_ext <;> simp [Rect.idx_unit_val])

theorem ld_sheet (X : Vec Ideal S1x1024x128 .f32) : View.ld X r0_1 = X := by
  funext j
  idx_vars j
  exact congrArg X (by blk_ext <;> simp [Rect.idx_unit_val])

theorem q_at (i : Fin 64) (d : Fin 128) : View.ld (iblk m c 0 t) r0_0 (ix2 (place n i) d) = (chunkOf (arrays m c) (head t) (num t n)).q i d :=
  (congrFun (ld_block _) _).trans (Eq.trans (b := m ((c : Thread nD τ).loc main_arg0) (ix2 (row (num t n) i) (col (head t) d))) (by blk_ext [iblk, V, idx t]) rfl)

theorem k_at (i : Fin 64) (d : Fin 128) : View.ld (iblk m c 1 t) r0_0 (ix2 (place n i) d) = (chunkOf (arrays m c) (head t) (num t n)).k i d :=
  (congrFun (ld_block _) _).trans (Eq.trans (b := m ((c : Thread nD τ).loc main_arg1) (ix2 (row (num t n) i) (col (head t) d))) (by blk_ext [iblk, V, idx t]) rfl)

theorem v_at (i : Fin 64) (d : Fin 128) : View.ld (iblk m c 2 t) r0_0 (ix2 (place n i) d) = (chunkOf (arrays m c) (head t) (num t n)).v i d :=
  (congrFun (ld_block _) _).trans (Eq.trans (b := m ((c : Thread nD τ).loc main_arg2) (ix2 (row (num t n) i) (col (head t) d))) (by blk_ext [iblk, V, idx t]) rfl)

theorem b_at (i : Fin 64) (l : Fin 128) : View.ld (iblk m c 3 t) r0_1 (ix3 0 (place n i) l) = (chunkOf (arrays m c) (head t) (num t n)).b i := by
  refine (congrFun (ld_sheet _) _).trans (Eq.trans (b := V m c main_v1 (ix3 (head t) (row (num t n) i) l)) (by blk_ext [iblk, idx t]) ?_)
  unfold V
  after_results
  pointwise
  rfl

theorem g_at (i : Fin 64) (l : Fin 128) : View.ld (iblk m c 4 t) r0_1 (ix3 0 (place n i) l) = (chunkOf (arrays m c) (head t) (num t n)).g i := by
  refine (congrFun (ld_sheet _) _).trans (Eq.trans (b := V m c main_v3 (ix3 (head t) (row (num t n) i) l)) (by blk_ext [iblk, idx t]) ?_)
  unfold V
  after_results
  pointwise
  rfl

end

/-! ## The arrays -/

/-- The three arrays the kernel writes. -/
def U (x : Arrays) : Vec Ideal S2048x768 .f32 := fun j =>
  have z := chunkOf x ⟨(j 1).1 / 128, by have : (j 1).1 < 768 := (j 1).2; omega⟩ ⟨(j 0).1 / 64, by have : (j 0).1 < 2048 := (j 0).2; omega⟩
  ∑ l, inverse (keys z) ⟨(j 0).1 % 64, by omega⟩ l * values z ⟨(j 1).1 % 128, by omega⟩ l

def W (x : Arrays) : Vec Ideal S2048x768 .f32 := fun j =>
  have z := chunkOf x ⟨(j 1).1 / 128, by have : (j 1).1 < 768 := (j 1).2; omega⟩ ⟨(j 0).1 / 64, by have : (j 0).1 < 2048 := (j 0).2; omega⟩
  ∑ l, inverse (keys z) ⟨(j 0).1 % 64, by omega⟩ l * keysOf z ⟨(j 1).1 % 128, by omega⟩ l

def A (x : Arrays) : Vec Ideal S6x32x64x64 .f32 := fun j => attn (chunkOf x (j 0) (j 1)) (j 2) (j 3)

theorem U_at (x : Arrays) (n : Fin 32) (i : Fin 64) (h : Fin 6) (d : Fin 128) :
    U x (ix2 (row n i) (col h d)) = ∑ l, inverse (keys (chunkOf x h n)) i l * values (chunkOf x h n) d l := by
  have e1 : (⟨(col h d).1 / 128, by omega⟩ : Fin 6) = h := Fin.ext (by simp only; omega)
  have e2 : (⟨(col h d).1 % 128, by omega⟩ : Fin 128) = d := Fin.ext (by simp only; omega)
  have e3 : (⟨(row n i).1 / 64, by omega⟩ : Fin 32) = n := Fin.ext (by simp only; omega)
  have e4 : (⟨(row n i).1 % 64, by omega⟩ : Fin 64) = i := Fin.ext (by simp only; omega)
  show (∑ l, inverse (keys (chunkOf x ⟨(col h d).1 / 128, _⟩ ⟨(row n i).1 / 64, _⟩)) ⟨(row n i).1 % 64, _⟩ l * values (chunkOf x ⟨(col h d).1 / 128, _⟩ ⟨(row n i).1 / 64, _⟩) ⟨(col h d).1 % 128, _⟩ l) = _
  simp only [e1, e2, e3, e4]

theorem W_at (x : Arrays) (n : Fin 32) (i : Fin 64) (h : Fin 6) (d : Fin 128) :
    W x (ix2 (row n i) (col h d)) = ∑ l, inverse (keys (chunkOf x h n)) i l * keysOf (chunkOf x h n) d l := by
  have e1 : (⟨(col h d).1 / 128, by omega⟩ : Fin 6) = h := Fin.ext (by simp only; omega)
  have e2 : (⟨(col h d).1 % 128, by omega⟩ : Fin 128) = d := Fin.ext (by simp only; omega)
  have e3 : (⟨(row n i).1 / 64, by omega⟩ : Fin 32) = n := Fin.ext (by simp only; omega)
  have e4 : (⟨(row n i).1 % 64, by omega⟩ : Fin 64) = i := Fin.ext (by simp only; omega)
  show (∑ l, inverse (keys (chunkOf x ⟨(col h d).1 / 128, _⟩ ⟨(row n i).1 / 64, _⟩)) ⟨(row n i).1 % 64, _⟩ l * keysOf (chunkOf x ⟨(col h d).1 / 128, _⟩ ⟨(row n i).1 / 64, _⟩) ⟨(col h d).1 % 128, _⟩ l) = _
  simp only [e1, e2, e3, e4]

theorem split_row (r : Fin 1024) : ∃ (n : Fin 16) (i : Fin 64), r = place n i :=
  ⟨⟨r.1 / 64, by omega⟩, ⟨r.1 % 64, by omega⟩, Fin.ext (by simp only; omega)⟩

theorem u_array (c : Dev nD) : (dats m 0 c).arrAt 5 (cfgs 0).N = U (arrays m c) := by
  refine (dats m 0 c).arrAt_eq_of_covers 5 _ (by decide +kernel) fun t _ y => ?_
  blk_simp
  rw [after0_5]
  idx_vars y
  obtain ⟨n, i, rfl⟩ := split_row y0
  refine Eq.trans (b := U (arrays m c) (ix2 (row (num t n) i) (col (head t) y1))) ?_ (by blk_ext [idx t])
  rw [U_at]
  refine Eq.trans ?_ (values_read (View.ld (iblk m c 1 t) r0_0) (View.ld (iblk m c 2 t) r0_0) (View.ld (iblk m c 3 t) r0_1) (View.ld (iblk m c 4 t) r0_1)
    (chunkOf (arrays m c) (head t) (num t n)) n (k_at m c t n) (v_at m c t n) (b_at m c t n) (g_at m c t n) i y1)
  unfold out0_5
  frame_out
  unfold k0_pay16 k0_pay17
  simp only [ld_block, ld_sheet]

theorem w_array (c : Dev nD) : (dats m 0 c).arrAt 6 (cfgs 0).N = W (arrays m c) := by
  refine (dats m 0 c).arrAt_eq_of_covers 6 _ (by decide +kernel) fun t _ y => ?_
  blk_simp
  rw [after0_6]
  idx_vars y
  obtain ⟨n, i, rfl⟩ := split_row y0
  refine Eq.trans (b := W (arrays m c) (ix2 (row (num t n) i) (col (head t) y1))) ?_ (by blk_ext [idx t])
  rw [W_at]
  refine Eq.trans ?_ (keysOf_read (View.ld (iblk m c 1 t) r0_0) (View.ld (iblk m c 3 t) r0_1) (View.ld (iblk m c 4 t) r0_1)
    (chunkOf (arrays m c) (head t) (num t n)) n (k_at m c t n) (b_at m c t n) (g_at m c t n) i y1)
  unfold out0_6
  frame_out
  unfold k0_pay16 k0_pay17
  simp only [ld_block, ld_sheet]

theorem a_array (c : Dev nD) : (dats m 0 c).arrAt 7 (cfgs 0).N = A (arrays m c) := by
  refine (dats m 0 c).arrAt_eq_of_covers 7 _ (by decide +kernel) fun t _ y => ?_
  blk_simp
  rw [after0_7]
  idx_vars y
  refine Eq.trans (b := A (arrays m c) (ix4 (head t) (num t y1) y2 y3)) ?_ (by blk_ext [idx t])
  refine Eq.trans ?_ (attn_read (View.ld (iblk m c 0 t) r0_0) (View.ld (iblk m c 1 t) r0_0) (View.ld (iblk m c 4 t) r0_1)
    (chunkOf (arrays m c) (head t) (num t y1)) y1 (q_at m c t y1) (k_at m c t y1) (g_at m c t y1) y2 y3)
  unfold out0_7
  frame_out
  obtain rfl : y0 = 0 := Subsingleton.elim _ _
  simp only [ld_block, ld_sheet]

end Cert.WyFIdeal.Value

end
-- ==== Proof.WyF.Ref.lean ====
/- The forward substitution, as the reference's loop computes it. -/
module

public import proofs.«01_k».proof.Proof.WyF.Spec
public import proofs.«01_k».proof.Proof.Gen.WyFRefIdeal.Run
public import Idealize.ShloMosaic.Lib.Pipeline.ValueKit
public import Idealize.ShloMosaic.Lib.DynamicIndex

@[expose] public section

set_option maxRecDepth 16384

noncomputable section

namespace Cert.WyFRefIdeal.Value

open Cert.WyFRefIdeal Cert.WyFRefIdeal.Gen Idealize.ShloMosaic Idealize.ShloMosaic.TcCoe Idealize.SL.Sem Idealize.ShloMosaic.StableHlo
open Cert.Wy

/-! ## A row taken out of an array of rows -/

/-- The index of row `n` as a word. -/
abbrev word (n : Fin 64) : IVec S_ 32 := constantI S_ 32 (BitVec.ofNat 32 n.1)

theorem word_start (n : Fin 64) (k : S_.Idx) : (word n k).toInt = (n.1 : ℤ) := by
  show (BitVec.ofNat 32 n.1).toInt = _
  revert n; decide

theorem starts5 (n : Fin 64) : ∀ a : Fin 5, (fun k => (((![word n, constantI S_ 32 0#32, constantI S_ 32 0#32, constantI S_ 32 0#32, constantI S_ 32 0#32] : Fin 5 → (⟨S_, .i32⟩ : BufTy).Contents (Elt Ideal))) k (Shape.Idx.first h_S_)).toInt) a = ((![n.1, 0, 0, 0, 0] : Fin 5 → ℕ) a : ℤ)
  | 0 => word_start n (Shape.Idx.first h_S_)
  | 1 => rfl
  | 2 => rfl
  | 3 => rfl
  | 4 => rfl

theorem starts1 (n : Fin 64) : ∀ a : Fin 1, (fun k => (((![word n] : Fin 1 → (⟨S_, .i32⟩ : BufTy).Contents (Elt Ideal))) k (Shape.Idx.first h_S_)).toInt) a = ((![n.1] : Fin 1 → ℕ) a : ℤ)
  | 0 => word_start n (Shape.Idx.first h_S_)

/-- Row `n` of every chunk. -/
def lanes (X : Vec Ideal S64x1x6x32x128 .f32) (n : Fin 64) : Vec Ideal S1x6x32x128 .f32 := fun j => X (ix5 n 0 (j 1) (j 2) (j 3))

theorem slice_lanes (X : Vec Ideal S64x1x6x32x128 .f32) (n : Fin 64) :
    shapeCast S1x6x32x128 (Host.dynamicSlice S1x1x6x32x128 X (fun k => (((![word n, constantI S_ 32 0#32, constantI S_ 32 0#32, constantI S_ 32 0#32, constantI S_ 32 0#32] : Fin 5 → (⟨S_, .i32⟩ : BufTy).Contents (Elt Ideal))) k (Shape.Idx.first h_S_)).toInt) sliceFits_S64x1x6x32x128_S1x1x6x32x128) shapeCasts_S1x1x6x32x128_S1x6x32x128
      = lanes X n := by
  rw [Host.dynamicSlice_eq_extractStridedSlice S1x1x6x32x128 X _ ![n.1, 0, 0, 0, 0] _ ⟨rfl, fun a => by fin_cases a <;> simp <;> omega⟩ (starts5 n)]
  funext j
  idx_vars j
  pointwise [lanes]
  blk_ext

theorem slice_row (X : Vec Ideal S64x1x6x32x64 .f32) (n : Fin 64) (h : Fin 6) (k : Fin 32) (j : Fin 64) :
    shapeCast S1x6x32x64 (Host.dynamicSlice S1x1x6x32x64 X (fun k => (((![word n, constantI S_ 32 0#32, constantI S_ 32 0#32, constantI S_ 32 0#32, constantI S_ 32 0#32] : Fin 5 → (⟨S_, .i32⟩ : BufTy).Contents (Elt Ideal))) k (Shape.Idx.first h_S_)).toInt) sliceFits_S64x1x6x32x64_S1x1x6x32x64) shapeCasts_S1x1x6x32x64_S1x6x32x64 (ix4 0 h k j)
      = X (ix5 n 0 h k j) := by
  rw [Host.dynamicSlice_eq_extractStridedSlice S1x1x6x32x64 X _ ![n.1, 0, 0, 0, 0] _ ⟨rfl, fun a => by fin_cases a <;> simp <;> omega⟩ (starts5 n)]
  pointwise
  blk_ext

theorem slice_number (n : Fin 64) (y : S_.Idx) :
    shapeCast S_ (Host.dynamicSlice (α := BitVec 32) S1 (iotaInDim S64 32 0) (fun k => (((![word n] : Fin 1 → (⟨S_, .i32⟩ : BufTy).Contents (Elt Ideal))) k (Shape.Idx.first h_S_)).toInt) sliceFits_S64_S1) shapeCasts_S1_S_ y
      = BitVec.ofNat 32 n.1 := by
  erw [Host.dynamicSlice_eq_extractStridedSlice S1 (iotaInDim S64 32 0) _ ![n.1] _ ⟨rfl, fun a => by fin_cases a <;> simp <;> omega⟩ (starts1 n)]
  pointwise

/-! ## One trip -/

/-- What the loop holds before trip `j`. -/
structure At (x : Arrays) (V : Valuation τ sig (Elt Ideal)) (j : ℕ) : Prop where
  pos : V (Proc.devRef .tc main_v53_0) = iotaInDim S64 32 0
  m : ∀ i h n l, (V (Proc.devRef .tc main_v53_1) : Vec Ideal S64x1x6x32x64 .f32) (ix5 i 0 h n l) = keys (chunkOf x h n) i l
  u : ∀ i h n d, (V (Proc.devRef .tc main_v53_2) : Vec Ideal S64x1x6x32x128 .f32) (ix5 i 0 h n d) = values (chunkOf x h n) d i
  w : ∀ i h n d, (V (Proc.devRef .tc main_v53_3) : Vec Ideal S64x1x6x32x128 .f32) (ix5 i 0 h n d) = keysOf (chunkOf x h n) d i
  num : V (Proc.devRef .tc main_v53_5) = constantI S_ 32 (BitVec.ofNat 32 j)
  pos' : V (Proc.devRef .tc main_v53_4) = iotaInDim S64 32 0
  u' : ∀ h n i d, (V (Proc.devRef .tc main_v53_6) : Vec Ideal S1x6x32x64x128 .f32) (ix5 0 h n i d) = rows (keys (chunkOf x h n)) (values (chunkOf x h n) d) j i
  w' : ∀ h n i d, (V (Proc.devRef .tc main_v53_7) : Vec Ideal S1x6x32x64x128 .f32) (ix5 0 h n i d) = rows (keys (chunkOf x h n)) (keysOf (chunkOf x h n) d) j i

section

variable {x : Arrays} {V : Valuation τ sig (Elt Ideal)} {i : Fin 64} (H : At x V i.1)

include H in
theorem number_read (y : S_.Idx) : (res_main_while0b_v60 V : IVec S_ 32) y = BitVec.ofNat 32 i.1 := by
  unfold res_main_while0b_v60
  rw [H.num, H.pos]
  exact slice_number i y

include H in
theorem row_read (h : Fin 6) (n : Fin 32) (l : Fin 64) :
    (res_main_while0b_v61 V : Vec Ideal S1x6x32x64 .f32) (ix4 0 h n l) = keys (chunkOf x h n) i l := by
  unfold res_main_while0b_v61
  rw [H.num]
  exact (slice_row _ i h n l).trans (H.m i h n l)

theorem select_eq (l i : Fin 64) (a b : EReal) :
    Scalar.select (IntOp.cmpi CmpIPredicate.eq (BitVec.ofNat 32 l.1) (BitVec.ofNat 32 i.1)) a b = if l.1 = i.1 then a else b := by
  have e : IntOp.cmpi CmpIPredicate.eq (BitVec.ofNat 32 l.1) (BitVec.ofNat 32 i.1) = if l.1 = i.1 then 1#1 else 0#1 := by
    revert l i; decide +kernel
  rw [e]
  split <;> rfl

include H in
theorem x_read (h : Fin 6) (n : Fin 32) (l : Fin 64) (d : Fin 128) :
    (step_main_v53_6 V : Vec Ideal S1x6x32x64x128 .f32) (ix5 0 h n l d) = rows (keys (chunkOf x h n)) (values (chunkOf x h n) d) (i.1 + 1) l := by
  unfold step_main_v53_6
  rw [H.num, H.pos']
  erw [slice_lanes _ i]
  rw [id]
  pointwise [lanes]
  rw [number_read H, select_eq]
  simp only [H.u, H.u', row_read H]
  show _ = if l.1 = i.1 then values (chunkOf x h n) d l - ∑ j, keys (chunkOf x h n) l j * rows (keys (chunkOf x h n)) (values (chunkOf x h n) d) i.1 j
    else rows (keys (chunkOf x h n)) (values (chunkOf x h n) d) i.1 l
  split
  · rename_i e
    obtain rfl : l = i := Fin.ext e
    rfl
  · rfl

include H in
theorem y_read (h : Fin 6) (n : Fin 32) (l : Fin 64) (d : Fin 128) :
    (step_main_v53_7 V : Vec Ideal S1x6x32x64x128 .f32) (ix5 0 h n l d) = rows (keys (chunkOf x h n)) (keysOf (chunkOf x h n) d) (i.1 + 1) l := by
  unfold step_main_v53_7
  rw [H.num, H.pos']
  erw [slice_lanes _ i]
  rw [id]
  pointwise [lanes]
  rw [number_read H, select_eq]
  simp only [H.w, H.w', row_read H]
  show _ = if l.1 = i.1 then keysOf (chunkOf x h n) d l - ∑ j, keys (chunkOf x h n) l j * rows (keys (chunkOf x h n)) (keysOf (chunkOf x h n) d) i.1 j
    else rows (keys (chunkOf x h n)) (keysOf (chunkOf x h n) d) i.1 l
  split
  · rename_i e
    obtain rfl : l = i := Fin.ext e
    rfl
  · rfl

include H in
theorem trip : At x (STEP V) (i.1 + 1) where
  pos := by rw [STEP_main_v53_0]; exact H.pos
  m := by rw [STEP_main_v53_1]; exact H.m
  u := by rw [STEP_main_v53_2]; exact H.u
  w := by rw [STEP_main_v53_3]; exact H.w
  pos' := by rw [STEP_main_v53_4]; exact H.pos'
  num := by
    rw [STEP_main_v53_5]
    unfold step_main_v53_5
    rw [H.num]
    funext j
    show BitVec.ofNat 32 i.1 + 1#32 = BitVec.ofNat 32 (i.1 + 1)
    rw [BitVec.ofNat_add]
  u' := by rw [STEP_main_v53_6]; exact x_read H
  w' := by rw [STEP_main_v53_7]; exact y_read H

end

/-! ## What the loop starts with -/

variable (m : (ℓ : Loc nD τ sig) → Buf (Elt Ideal) ℓ)

/-- The arguments. -/
def arrays (c : Dev nD) : Arrays where
  q r l := m ((c : Thread nD τ).loc main_arg0) (ix2 r l)
  k r l := m ((c : Thread nD τ).loc main_arg1) (ix2 r l)
  v r l := m ((c : Thread nD τ).loc main_arg2) (ix2 r l)
  b h r := m ((c : Thread nD τ).loc main_arg3) (ix2 h r)
  g h r := m ((c : Thread nD τ).loc main_arg4) (ix2 h r)

/-- The heads' chunks of an array of positions. -/
def heads (X : FVec Ideal S2048x768 .f32) : FVec Ideal S1x6x32x64x128 .f32 :=
  shapeCast S1x6x32x64x128 (transpose S1x6x2048x128 [0, 2, 1, 3] (shapeCast S1x2048x6x128 X shapeCasts_S2048x768_S1x2048x6x128)
    transposes_S1x2048x6x128_S1x6x2048x128_0_2_1_3) shapeCasts_S1x6x2048x128_S1x6x32x64x128

/-- The chunks of an array of one number a position. -/
def numbers (X : FVec Ideal S6x2048 .f32) : FVec Ideal S1x6x32x64 .f32 :=
  shapeCast S1x6x32x64 (broadcastInDim S1x6x2048 ![1, 2] bcast_S6x2048_S1x6x2048_1_2 X) shapeCasts_S1x6x2048_S1x6x32x64

def wide (X : FVec Ideal S1x6x32x64 .f32) : FVec Ideal S1x6x32x64x128 .f32 :=
  broadcastInDim S1x6x32x64x128 ![0, 1, 2, 3, 4] bcast_S1x6x32x64x1_S1x6x32x64x128_0_1_2_3_4
    (broadcastInDim S1x6x32x64x1 ![0, 1, 2, 3] bcast_S1x6x32x64_S1x6x32x64x1_0_1_2_3 X)

/-- The two positions of a product, as words. -/
def fore : IVec S64x64 32 := broadcastInDim S64x64 ![0, 1] bcast_S64x1_S64x64_0_1 (broadcastInDim S64x1 ![0] bcast_S64_S64x1_0 (iotaInDim S64 32 0))
def back : IVec S64x64 32 := broadcastInDim S64x64 ![0, 1] bcast_S1x64_S64x64_0_1 (broadcastInDim S1x64 ![1] bcast_S64_S1x64_1 (iotaInDim S64 32 0))

def decays (g : FVec Ideal S6x2048 .f32) : FVec Ideal S1x6x32x64x64 .f32 :=
  Host.exp (F := Ideal) (select (broadcastInDim S1x6x32x64x64 ![3, 4] bcast_S64x64_S1x6x32x64x64_3_4 (cmpi .sge fore back))
    (subf (F := Ideal) (broadcastInDim S1x6x32x64x64 ![0, 1, 2, 3, 4] bcast_S1x6x32x64x1_S1x6x32x64x64_0_1_2_3_4 (broadcastInDim S1x6x32x64x1 ![0, 1, 2, 3] bcast_S1x6x32x64_S1x6x32x64x1_0_1_2_3 (numbers g)))
      (broadcastInDim S1x6x32x64x64 ![0, 1, 2, 3, 4] bcast_S1x6x32x1x64_S1x6x32x64x64_0_1_2_3_4 (broadcastInDim S1x6x32x1x64 ![0, 1, 2, 4] bcast_S1x6x32x64_S1x6x32x1x64_0_1_2_4 (numbers g))))
    (broadcastInDim S1x6x32x64x64 ![] bcast_S_S1x6x32x64x64 (constant S_ .f32 0xFF800000#32)))

def products (k : FVec Ideal S2048x768 .f32) (b g : FVec Ideal S6x2048 .f32) : FVec Ideal S64x1x6x32x64 .f32 :=
  transpose S64x1x6x32x64 [3, 0, 1, 2, 4]
    (mulf (F := Ideal) (Host.dotGeneral (F := Ideal) dot_S1x6x32x64x128_S1x6x32x64x128_S1x6x32x64x64_4_4_3_3_012_012 none (mulf (F := Ideal) (heads k) (wide (numbers b))) (heads k))
      (select (broadcastInDim S1x6x32x64x64 ![3, 4] bcast_S64x64_S1x6x32x64x64_3_4 (cmpi .sgt fore back)) (decays g)
        (broadcastInDim S1x6x32x64x64 ![] bcast_S_S1x6x32x64x64 (constant S_ .f32 0x00000000#32))))
    transposes_S1x6x32x64x64_S64x1x6x32x64_3_0_1_2_4

def gatedValues (v : FVec Ideal S2048x768 .f32) (b : FVec Ideal S6x2048 .f32) : FVec Ideal S64x1x6x32x128 .f32 :=
  transpose S64x1x6x32x128 [3, 0, 1, 2, 4] (mulf (F := Ideal) (heads v) (wide (numbers b))) transposes_S1x6x32x64x128_S64x1x6x32x128_3_0_1_2_4

def gatedKeys (k : FVec Ideal S2048x768 .f32) (b g : FVec Ideal S6x2048 .f32) : FVec Ideal S64x1x6x32x128 .f32 :=
  transpose S64x1x6x32x128 [3, 0, 1, 2, 4] (mulf (F := Ideal) (mulf (F := Ideal) (heads k) (wide (numbers b))) (wide (Host.exp (F := Ideal) (numbers g))))
    transposes_S1x6x32x64x128_S64x1x6x32x128_3_0_1_2_4

def attention (q k : FVec Ideal S2048x768 .f32) (g : FVec Ideal S6x2048 .f32) : FVec Ideal S6x32x64x64 .f32 :=
  shapeCast S6x32x64x64 (mulf (F := Ideal) (Host.dotGeneral (F := Ideal) dot_S1x6x32x64x128_S1x6x32x64x128_S1x6x32x64x64_4_4_3_3_012_012 none (heads q) (heads k)) (decays g))
    shapeCasts_S1x6x32x64x64_S6x32x64x64

section

variable (q k v : Vec Ideal S2048x768 .f32) (b g : Vec Ideal S6x2048 .f32)

theorem heads_read (X : Vec Ideal S2048x768 .f32) (h : Fin 6) (n : Fin 32) (i : Fin 64) (d : Fin 128) :
    heads X (ix5 0 h n i d) = X (ix2 (row n i) (col h d)) := by
  pointwise [heads]
  blk_ext

theorem numbers_read (X : Vec Ideal S6x2048 .f32) (h : Fin 6) (n : Fin 32) (i : Fin 64) : numbers X (ix4 0 h n i) = X (ix2 h (row n i)) := by
  pointwise [numbers]
  blk_ext

/-- The arrays of the arguments. -/
def of : Arrays where
  q r l := q (ix2 r l)
  k r l := k (ix2 r l)
  v r l := v (ix2 r l)
  b h r := b (ix2 h r)
  g h r := g (ix2 h r)

theorem decays_read (h : Fin 6) (n : Fin 32) (i j : Fin 64) : decays g (ix5 0 h n i j) = decay (chunkOf (of q k v b g) h n) i j := by
  pointwise [decays, fore, back]
  simp only [numbers_read]
  rw [select_ge, neg_inf]
  rfl

theorem products_read (h : Fin 6) (n : Fin 32) (i j : Fin 64) : products k b g (ix5 i 0 h n j) = keys (chunkOf (of q k v b g) h n) i j := by
  pointwise [products, fore, back, wide]
  simp only [numbers_read, heads_read, decays_read q k v b g, select_gt]
  unfold keys
  split
  · rfl
  · exact (mul_zero _).symm

theorem gatedValues_read (h : Fin 6) (n : Fin 32) (i : Fin 64) (d : Fin 128) : gatedValues v b (ix5 i 0 h n d) = values (chunkOf (of q k v b g) h n) d i := by
  pointwise [gatedValues, wide]
  simp only [numbers_read, heads_read]
  rfl

theorem gatedKeys_read (h : Fin 6) (n : Fin 32) (i : Fin 64) (d : Fin 128) : gatedKeys k b g (ix5 i 0 h n d) = keysOf (chunkOf (of q k v b g) h n) d i := by
  pointwise [gatedKeys, wide]
  simp only [numbers_read, heads_read]
  rfl

theorem attention_read (h : Fin 6) (n : Fin 32) (i j : Fin 64) : attention q k g (ix4 h n i j) = attn (chunkOf (of q k v b g) h n) i j := by
  pointwise [attention]
  simp only [heads_read, decays_read q k v b g]
  rfl

end

/-! ## The loop -/

set_option maxHeartbeats 1000000 in
theorem entry (c : Dev nD) : At (arrays m c) (entryContents preI m c) 0 := by
  constructor <;> (simp only [entryContents, afterL_cons, afterL_nil]; after_reads_simp)
  case pos => rfl
  case m => exact fun i h n l => products_read _ _ _ _ _ h n i l
  case u => exact fun i h n d => gatedValues_read _ _ _ _ _ h n i d
  case w => exact fun i h n d => gatedKeys_read _ _ _ _ _ h n i d
  case num => rfl
  case pos' => rfl
  case u' =>
    intro h n i d
    refine Eq.trans (b := (0 : EReal)) ?_ rfl
    rw [id]
    pointwise
  case w' =>
    intro h n i d
    refine Eq.trans (b := (0 : EReal)) ?_ rfl
    rw [id]
    pointwise

theorem loop (c : Dev nD) : ∀ j, j ≤ 64 → At (arrays m c) (STEP^[j] (entryContents preI m c)) j
  | 0, _ => entry m c
  | j + 1, h => by
    rw [Function.iterate_succ_apply']
    exact trip (i := ⟨j, by omega⟩) (loop c j (by omega))

/-! ## What the loop leaves alone -/

/-- The buffers that the loop writes. -/
abbrev written : List (Ref sig .tc) := condOps_W ++ while0Ops0_W ++ while0Ops0_1_W ++ while0Ops0_2_W ++ while0Ops0_3_W ++ while0Ops0_4_W ++ while0Ops0_5_W
  ++ while0Ops0_6_W ++ while0Ops0_7_W ++ while0Ops0_8_W

theorem trip_keeps (V : Valuation τ sig (Elt Ideal)) (r : Ref sig .tc) (h : r ∉ written) :
    afterL bodyI (after condOps V) (Proc.devRef .tc r) = V (Proc.devRef .tc r) := by
  simp only [written, List.mem_append, not_or] at h
  obtain ⟨⟨⟨⟨⟨⟨⟨⟨⟨hc, h0⟩, h1⟩, h2⟩, h3⟩, h4⟩, h5⟩, h6⟩, h7⟩, h8⟩ := h
  simp only [afterL_cons, afterL_nil]
  rw [after_of_writes_sub while0Ops0_8 _ while0Ops0_8_writes h8, after_of_writes_sub while0Ops0_7 _ while0Ops0_7_writes h7,
    after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

theorem loop_keeps (c : Dev nD) (r : Ref sig .tc) (h : r ∉ written) :
    ∀ k, atK m k c (Proc.devRef .tc r) = entryContents preI m c (Proc.devRef .tc r)
  | 0 => rfl
  | k + 1 => by
    rw [show atK m (k + 1) c = afterL bodyI (after condOps (atK m k c)) from rfl]
    exact (trip_keeps _ r h).trans (loop_keeps c r h k)

theorem kept (c : Dev nD) (r : Ref sig .tc) (h : r ∉ written) (h' : r ∉ hostOps0_5_W) :
    finalContents condOps preI bodyI postI 64 m c (Proc.devRef .tc r) = entryContents preI m c (Proc.devRef .tc r) := by
  refine Eq.trans ?_ (loop_keeps m c r h 64)
  refine (after_of_writes_sub hostOps0_5 _ hostOps0_5_writes h').trans ?_
  simp only [written, List.mem_append, not_or] at h
  exact after_of_writes_sub condOps _ condOps_writes h.1.1.1.1.1.1.1.1.1

theorem entry_keeps (c : Dev nD) (r : Ref sig .tc) (h : r ∉ hostOps0_W ++ hostOps0_1_W ++ hostOps0_2_W ++ hostOps0_3_W ++ hostOps0_4_W) :
    entryContents preI m c (Proc.devRef .tc r) = m ((c.tc : Thread nD τ).loc r) := by
  simp only [List.mem_append, not_or] at h
  obtain ⟨⟨⟨⟨h0, h1⟩, h2⟩, h3⟩, h4⟩ := h
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-! ## The results -/

/-- The three results. -/
def U (x : Arrays) : Vec Ideal S2048x768 .f32 := fun j =>
  have z := chunkOf x ⟨(j 1).1 / 128, by have : (j 1).1 < 768 := (j 1).2; omega⟩ ⟨(j 0).1 / 64, by have : (j 0).1 < 2048 := (j 0).2; omega⟩
  rows (keys z) (values z ⟨(j 1).1 % 128, by omega⟩) 64 ⟨(j 0).1 % 64, by omega⟩

def W (x : Arrays) : Vec Ideal S2048x768 .f32 := fun j =>
  have z := chunkOf x ⟨(j 1).1 / 128, by have : (j 1).1 < 768 := (j 1).2; omega⟩ ⟨(j 0).1 / 64, by have : (j 0).1 < 2048 := (j 0).2; omega⟩
  rows (keys z) (keysOf z ⟨(j 1).1 % 128, by omega⟩) 64 ⟨(j 0).1 % 64, by omega⟩

def A (x : Arrays) : Vec Ideal S6x32x64x64 .f32 := fun j => attn (chunkOf x (j 0) (j 1)) (j 2) (j 3)

/-- The heads' chunks, by position. -/
def joined (X : FVec Ideal S1x6x32x64x128 .f32) : FVec Ideal S2048x768 .f32 :=
  shapeCast S2048x768 (transpose S1x2048x6x128 [0, 2, 1, 3] (shapeCast S1x6x2048x128 X shapeCasts_S1x6x32x64x128_S1x6x2048x128)
    transposes_S1x6x2048x128_S1x2048x6x128_0_2_1_3) shapeCasts_S1x2048x6x128_S2048x768

theorem joined_read (X : FVec Ideal S1x6x32x64x128 .f32) (r : Fin 2048) (l : Fin 768) :
    joined X (ix2 r l) = X (ix5 0 ⟨l.1 / 128, by omega⟩ ⟨r.1 / 64, by omega⟩ ⟨r.1 % 64, by omega⟩ ⟨l.1 % 128, by omega⟩) := by
  pointwise [joined]
  blk_ext

theorem final_x (c : Dev nD) (r : Ref sig .tc) (h : r ∈ carriedRefs) :
    after condOps (atK m 64 c) (Proc.devRef .tc r) = STEP^[64] (entryContents preI m c) (Proc.devRef .tc r) :=
  (cond_keeps _ r h).trans (atK_agree m c 64 r h)

theorem final_u (c : Dev nD) : (finalContents condOps preI bodyI postI 64 m c (Proc.devRef .tc main_v56) : Vec Ideal S2048x768 .f32) = U (arrays m c) := by
  have e : finalContents condOps preI bodyI postI 64 m c (Proc.devRef .tc main_v56) = joined (after condOps (atK m 64 c) (Proc.devRef .tc main_v53_6)) := by
    show after hostOps0_5 (after condOps (atK m 64 c)) _ = _
    after_reads_simp
    rfl
  rw [e, final_x m c main_v53_6 (by decide)]
  funext j
  idx_vars j
  exact (joined_read _ j0 j1).trans ((loop m c 64 le_rfl).u' _ _ _ _)

theorem final_w (c : Dev nD) : (finalContents condOps preI bodyI postI 64 m c (Proc.devRef .tc main_v59) : Vec Ideal S2048x768 .f32) = W (arrays m c) := by
  have e : finalContents condOps preI bodyI postI 64 m c (Proc.devRef .tc main_v59) = joined (after condOps (atK m 64 c) (Proc.devRef .tc main_v53_7)) := by
    show after hostOps0_5 (after condOps (atK m 64 c)) _ = _
    after_reads_simp
    rfl
  rw [e, final_x m c main_v53_7 (by decide)]
  funext j
  idx_vars j
  exact (joined_read _ j0 j1).trans ((loop m c 64 le_rfl).w' _ _ _ _)

set_option maxHeartbeats 1000000 in
theorem final_a (c : Dev nD) : (finalContents condOps preI bodyI postI 64 m c (Proc.devRef .tc main_v36) : Vec Ideal S6x32x64x64 .f32) = A (arrays m c) := by
  rw [kept m c main_v36 (by decide +kernel) (by decide +kernel)]
  simp only [entryContents, afterL_cons, afterL_nil]
  after_reads_simp
  funext j
  idx_vars j
  exact attention_read _ _ (m ((c : Thread nD τ).loc main_arg2)) (m ((c : Thread nD τ).loc main_arg3)) _ j0 j1 j2 j3

/-- The reference's run: its three results as functions of its arguments. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v56) = U (arrays m c)
      ∧ r.2.mem ((c.tc : Thread nD τ).loc main_v59) = W (arrays m c)
      ∧ r.2.mem ((c.tc : Thread nD τ).loc main_v36) = A (arrays m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have k : ∀ c : Dev nD, ∀ a ∈ [main_arg0, main_arg1, main_arg2, main_arg3, main_arg4],
      finalContents condOps preI bodyI postI 64 m c (Proc.devRef .tc a) = m ((c.tc : Thread nD τ).loc a) := fun c a h =>
    (kept m c a (by revert a; decide +kernel) (by revert a; decide +kernel)).trans (entry_keeps m c a (by revert a; decide +kernel))
  exact (θ_run _ _ _).mono (fun r h c => ⟨(h c main_v56 rfl).trans (final_u m c), (h c main_v59 rfl).trans (final_w m c), (h c main_v36 rfl).trans (final_a m c),
    (h c main_arg0 rfl).trans (k c _ (by simp)), (h c main_arg1 rfl).trans (k c _ (by simp)), (h c main_arg2 rfl).trans (k c _ (by simp)),
    (h c main_arg3 rfl).trans (k c _ (by simp)), (h c main_arg4 rfl).trans (k c _ (by simp))⟩) (run_fold m ρ)

end Cert.WyFRefIdeal.Value

end
-- ==== Proof.WyF.lean ====
/- The WY form of the forward pass: where the keys, values, gates and decays are finite, the inverse multiplied out
   solves the same equations as the substitution row by row. -/
module

public import proofs.«01_k».proof.Defs
public import proofs.«01_k».proof.Proof.WyF.Value
public import proofs.«01_k».proof.Proof.WyF.Ref
public import proofs.«01_k».proof.Proof.Gates
public import proofs.«01_k».proof.Proof.Gen.Pre_wy_finite
public import Idealize.ShloMosaic.Lib.Claim

@[expose] public section

set_option maxRecDepth 16384

noncomputable section

namespace Cert.Wy

open Idealize.ShloMosaic Idealize.ShloMosaic.TcCoe Idealize.SL.Sem

theorem finite_of (m : (ℓ : Loc Cert.WyFIdeal.nD Cert.WyFIdeal.τ Cert.WyFIdeal.sig) → Buf (Elt Ideal) ℓ)
    (hp : Cert.Pre_WyFIdeal_wy_finite m) (c : Dev Cert.WyFIdeal.nD) (h : Fin 6) (n : Fin 32) : Finite (chunkOf (Cert.WyFIdeal.Value.arrays m c) h n) := by
  obtain ⟨h0, h1, h2, h3⟩ := hp c
  refine ⟨fun i d => ?_, fun i d => ?_, fun i => ?_, fun i => ?_⟩
  · have e := congrFun h0 (ix2 (row n i) (col h d))
    simp only [Cert.Pre_wy_finite.fn] at e
    pointwise at e
    exact Cert.Gates.finite_of e
  · have e := congrFun h1 (ix2 (row n i) (col h d))
    simp only [Cert.Pre_wy_finite.fn] at e
    pointwise at e
    exact Cert.Gates.finite_of e
  · have e := congrFun h2 (ix2 h (row n i))
    simp only [Cert.Pre_wy_finite.fn] at e
    pointwise at e
    exact Cert.Gates.finite_of e
  · have e := congrFun h3 (ix2 h (row n i))
    simp only [Cert.Pre_wy_finite.fn] at e
    pointwise at e
    exact Cert.Gates.finite_of e

end Cert.Wy

namespace Cert.Proof

open Idealize.ShloMosaic Idealize.ShloMosaic.TcCoe Idealize.SL.Sem

theorem algebraic_wy_f : Cert.algebraic_WyFIdeal_WyFRefIdeal_pre_wy_finite := by
  pair_intro
  · run_from Cert.WyFIdeal.Gen.run_main m g
  · refine (θ_run _ _ _).mono (fun r h c => ?_) (Cert.WyFRefIdeal.Value.run m' g')
    obtain ⟨h0, h1, h2, ha⟩ := h c
    have F := Cert.Wy.finite_of m hpre c
    have e : Cert.WyFRefIdeal.Value.arrays m' c = Cert.WyFIdeal.Value.arrays m c := by
      obtain ⟨a0, a1, a2, a3, a4⟩ := hagree c
      unfold Cert.WyFRefIdeal.Value.arrays Cert.WyFIdeal.Value.arrays
      simp only [a0, a1, a2, a3, a4]
    refine ⟨h0.trans ?_, h1.trans ?_, h2.trans ?_, ha⟩
    · rw [e]
      refine Eq.trans ?_ (Cert.WyFIdeal.Value.u_array m c).symm
      exact funext fun j => (Cert.Wy.values_eq (F _ _) _ _).symm
    · rw [e]
      refine Eq.trans ?_ (Cert.WyFIdeal.Value.w_array m c).symm
      exact funext fun j => (Cert.Wy.keysOf_eq (F _ _) _ _).symm
    · rw [e]
      exact (Cert.WyFIdeal.Value.a_array m c).symm

end Cert.Proof

end
-- ==== Proof.Plain.lean ====
/- Plain products: the kernels' blocks of rows and columns together are the products of the whole arrays. -/
module

public import proofs.«01_k».proof.Defs
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.Dmix.Frame
public import proofs.«01_k».proof.Proof.Gen.DmixIdeal.Frame
public import proofs.«01_k».proof.Proof.Gen.DmixIdeal.Value
public import proofs.«01_k».proof.Proof.Gen.DmixRefIdeal.Run
public import proofs.«01_k».proof.Proof.Gen.Dwout.Frame
public import proofs.«01_k».proof.Proof.Gen.DwoutIdeal.Frame
public import proofs.«01_k».proof.Proof.Gen.DwoutIdeal.Value
public import proofs.«01_k».proof.Proof.Gen.DwoutRefIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.Dwdown.Frame
public import proofs.«01_k».proof.Proof.Gen.DwdownIdeal.Frame
public import proofs.«01_k».proof.Proof.Gen.DwdownIdeal.Value
public import proofs.«01_k».proof.Proof.Gen.DwdownRefIdeal.Run
public import Idealize.ShloMosaic.Lib.Pipeline.ValueKit
public import Idealize.ShloMosaic.Lib.Claim

@[expose] public section

set_option maxRecDepth 16384

noncomputable section

namespace Cert.Plain

open Idealize.ShloMosaic

variable {a b n : ℕ} {e f : FTy}

/-- The product of two arrays, of the first and the second's transpose, and of the first's transpose and the second. -/
def mm (A : FVec Ideal ⟨2, ![a, n]⟩ e) (B : FVec Ideal ⟨2, ![n, b]⟩ f) (i : Fin a) (j : Fin b) : EReal := ∑ k, A (ix2 i k) * B (ix2 k j)

def mmt (A : FVec Ideal ⟨2, ![a, n]⟩ e) (B : FVec Ideal ⟨2, ![b, n]⟩ f) (i : Fin a) (j : Fin b) : EReal := ∑ k, A (ix2 i k) * B (ix2 j k)

def tmm (A : FVec Ideal ⟨2, ![n, a]⟩ e) (B : FVec Ideal ⟨2, ![n, b]⟩ f) (i : Fin a) (j : Fin b) : EReal := ∑ k, A (ix2 k i) * B (ix2 k j)

end Cert.Plain

/-! ## The mixers' output times w_out, added to the residual stream -/

namespace Cert.OutIdeal.Value

open Cert.Plain
open Cert.OutIdeal Cert.OutIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val % 2, 0] ∧ win0_1.index t = ![0, 0, t.val / 2] ∧ win0_2.index t = ![t.val % 2, t.val / 2] ∧ win0_3.index t = ![t.val % 2, t.val / 2] :=
  (by decide +kernel : ∀ t : Fin grid0.N, _)

abbrev row (t : Fin cfg0.N) (r : Fin 1024) : Fin 2048 := ⟨t.1 % 2 * 1024 + r.1, by have : t.1 < 4 := lt_of_lt_of_eq t.isLt N_0; omega⟩

abbrev col (t : Fin cfg0.N) (l : Fin 1024) : Fin 2048 := ⟨t.1 / 2 * 1024 + l.1, by have : t.1 < 4 := lt_of_lt_of_eq t.isLt N_0; omega⟩

abbrev aX (c : Dev nD) : FVec Ideal S2048x2048 .f32 := m ((c : Thread nD τ).loc main_arg0)
abbrev aW (c : Dev nD) : FVec Ideal S2048x2048 .f32 := m ((c : Thread nD τ).loc main_arg1)
abbrev aR (c : Dev nD) : FVec Ideal S2048x2048 .f32 := m ((c : Thread nD τ).loc main_arg2)

theorem x_read (c : Dev nD) (t : Fin cfg0.N) (r : Fin 1024) (k : Fin 2048) : iblk m c 0 t (ix2 r k) = aX m c (ix2 (row t r) k) := by
  have e : V m c main_v0 = truncf (F := Ideal) .bf16 (aX m c) bitsLt_bf16_f32 := by
    unfold V; after_results
  refine Eq.trans (b := V m c main_v0 (ix2 (row t r) k)) (by blk_ext [iblk, idx t]) ?_
  rw [e]
  pointwise

theorem w_read (c : Dev nD) (t : Fin cfg0.N) (k : Fin 2048) (l : Fin 1024) : iblk m c 1 t (ix3 0 k l) = aW m c (ix2 k (col t l)) := by
  have e : V m c main_v2 = broadcastInDim S1x2048x2048 ![1, 2] bcast_S2048x2048_S1x2048x2048_1_2
      (truncf (F := Ideal) .bf16 (aW m c) bitsLt_bf16_f32) := by
    unfold V; after_results
  refine Eq.trans (b := V m c main_v2 (ix3 0 k (col t l))) (by blk_ext [iblk, idx t]) ?_
  rw [e]
  pointwise

theorem r_read (c : Dev nD) (t : Fin cfg0.N) (r : Fin 1024) (l : Fin 1024) : iblk m c 2 t (ix2 r l) = aR m c (ix2 (row t r) (col t l)) := by
  blk_ext [iblk, idx t]

theorem out_read (x : FVec Ideal S1024x2048 .bf16) (w : FVec Ideal S1x2048x1024 .bf16) (y : FVec Ideal S1024x1024 .f32) (r : Fin 1024) (l : Fin 1024) :
    out0_3 (F := Ideal) x w y (ix2 r l) = (∑ k, x (ix2 r k) * w (ix3 0 k l)) + y (ix2 r l) := by
  unfold out0_3
  frame_out
  pointwise [k0_pay1]

/-- The array after the call. -/
def G (c : Dev nD) : S2048x2048.Idx → EReal := fun j => mm (aX m c) (aW m c) (j 0) (j 1) + aR m c (ix2 (j 0) (j 1))

theorem final (c : Dev nD) : (dats m 0 c).arrAt 3 (cfgs 0).N = G m c := by
  refine (dats m 0 c).arrAt_eq_of_covers 3 _ (by decide +kernel) fun t _ y => ?_
  blk_simp
  rw [after0_3]
  idx_vars y
  refine (out_read _ _ _ y0 y1).trans ?_
  simp only [x_read, w_read, r_read]
  refine Eq.trans (b := G m c (ix2 (row t y0) (col t y1))) rfl (by blk_ext [idx t])

end Cert.OutIdeal.Value

namespace Cert.Proof

open Idealize.ShloMosaic Idealize.ShloMosaic.TcCoe Idealize.SL.Sem Cert.Plain

theorem algebraic_out : Cert.algebraic_OutIdeal_OutRefIdeal := by
  pair_intro
  · run_from Cert.OutIdeal.Gen.run_main m g
  · run_from Cert.OutRefIdeal.Value.run m' g'
    funext j
    idx_vars j
    rw [Cert.OutIdeal.Value.final m c]
    unfold Cert.OutIdeal.Value.G mm
    pointwise
    exact add_comm _ _

end Cert.Proof

/-! ## The gradient of the product with w_out, by its input -/

namespace Cert.DmixIdeal.Value

open Cert.Plain
open Cert.DmixIdeal Cert.DmixIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val % 2, 0] ∧ win0_1.index t = ![0, t.val / 2, 0] ∧ win0_2.index t = ![t.val % 2, t.val / 2] :=
  (by decide +kernel : ∀ t : Fin grid0.N, _)

abbrev row (t : Fin cfg0.N) (r : Fin 1024) : Fin 2048 := ⟨t.1 % 2 * 1024 + r.1, by have : t.1 < 4 := lt_of_lt_of_eq t.isLt N_0; omega⟩

abbrev col (t : Fin cfg0.N) (l : Fin 1024) : Fin 2048 := ⟨t.1 / 2 * 1024 + l.1, by have : t.1 < 4 := lt_of_lt_of_eq t.isLt N_0; omega⟩

abbrev aW (c : Dev nD) : FVec Ideal S2048x2048 .f32 := m ((c : Thread nD τ).loc main_arg0)
abbrev aD (c : Dev nD) : FVec Ideal S2048x2048 .f32 := m ((c : Thread nD τ).loc main_arg1)

theorem d_read (c : Dev nD) (t : Fin cfg0.N) (r : Fin 1024) (k : Fin 2048) : iblk m c 0 t (ix2 r k) = aD m c (ix2 (row t r) k) := by
  have e : V m c main_v0 = truncf (F := Ideal) .bf16 (aD m c) bitsLt_bf16_f32 := by
    unfold V; after_results
  refine Eq.trans (b := V m c main_v0 (ix2 (row t r) k)) (by blk_ext [iblk, idx t]) ?_
  rw [e]
  pointwise

theorem w_read (c : Dev nD) (t : Fin cfg0.N) (l : Fin 1024) (k : Fin 2048) : iblk m c 1 t (ix3 0 l k) = aW m c (ix2 (col t l) k) := by
  have e : V m c main_v2 = broadcastInDim S1x2048x2048 ![1, 2] bcast_S2048x2048_S1x2048x2048_1_2
      (truncf (F := Ideal) .bf16 (aW m c) bitsLt_bf16_f32) := by
    unfold V; after_results
  refine Eq.trans (b := V m c main_v2 (ix3 0 (col t l) k)) (by blk_ext [iblk, idx t]) ?_
  rw [e]
  pointwise

theorem out_read (d : FVec Ideal S1024x2048 .bf16) (w : FVec Ideal S1x1024x2048 .bf16) (r : Fin 1024) (l : Fin 1024) :
    out0_2 (F := Ideal) d w (ix2 r l) = ∑ k, d (ix2 r k) * w (ix3 0 l k) := by
  unfold out0_2
  frame_out
  pointwise [k0_pay1]

/-- The array after the call. -/
def G (c : Dev nD) : S2048x2048.Idx → EReal := fun j => mmt (aD m c) (aW m c) (j 0) (j 1)

theorem final (c : Dev nD) : (dats m 0 c).arrAt 2 (cfgs 0).N = G m c := by
  refine (dats m 0 c).arrAt_eq_of_covers 2 _ (by decide +kernel) fun t _ y => ?_
  blk_simp
  rw [after0_2]
  idx_vars y
  refine (out_read _ _ y0 y1).trans ?_
  simp only [d_read, w_read]
  refine Eq.trans (b := G m c (ix2 (row t y0) (col t y1))) rfl (by blk_ext [idx t])

end Cert.DmixIdeal.Value

namespace Cert.Proof

open Idealize.ShloMosaic Idealize.ShloMosaic.TcCoe Idealize.SL.Sem Cert.Plain

theorem algebraic_dmix : Cert.algebraic_DmixIdeal_DmixRefIdeal := by
  pair_intro
  · run_from Cert.DmixIdeal.Gen.run_main m g
  · run_from Cert.DmixRefIdeal.Value.run m' g'
    funext j
    idx_vars j
    rw [Cert.DmixIdeal.Value.final m c]
    unfold Cert.DmixIdeal.Value.G mmt
    pointwise

end Cert.Proof

/-! ## The gradient of w_out -/

namespace Cert.DwoutIdeal.Value

open Cert.Plain
open Cert.DwoutIdeal Cert.DwoutIdeal.Gen Idealize.ShloMosaic Idealize.ShloMosaic.TcCoe Idealize.SL.Sem

variable (m : (ℓ : Loc nD τ sig) → Buf (Elt Ideal) ℓ)

theorem idx : ∀ t : Fin cfg0.N, win0_0.index t = ![0, t.val % 2] ∧ win0_1.index t = ![0, t.val / 2] ∧ win0_2.index t = ![t.val % 2, t.val / 2] :=
  (by decide +kernel : ∀ t : Fin grid0.N, _)

abbrev row (t : Fin cfg0.N) (r : Fin 1024) : Fin 2048 := ⟨t.1 % 2 * 1024 + r.1, by have : t.1 < 4 := lt_of_lt_of_eq t.isLt N_0; omega⟩

abbrev col (t : Fin cfg0.N) (l : Fin 1024) : Fin 2048 := ⟨t.1 / 2 * 1024 + l.1, by have : t.1 < 4 := lt_of_lt_of_eq t.isLt N_0; omega⟩

abbrev aX (c : Dev nD) : FVec Ideal S2048x2048 .f32 := m ((c : Thread nD τ).loc main_arg0)
abbrev aD (c : Dev nD) : FVec Ideal S2048x2048 .f32 := m ((c : Thread nD τ).loc main_arg1)

theorem x_read (c : Dev nD) (t : Fin cfg0.N) (k : Fin 2048) (r : Fin 1024) : iblk m c 0 t (ix2 k r) = aX m c (ix2 k (row t r)) := by
  have e : V m c main_v0 = truncf (F := Ideal) .bf16 (aX m c) bitsLt_bf16_f32 := by
    unfold V; after_results
  refine Eq.trans (b := V m c main_v0 (ix2 k (row t r))) (by blk_ext [iblk, idx t]) ?_
  rw [e]
  pointwise

theorem d_read (c : Dev nD) (t : Fin cfg0.N) (k : Fin 2048) (l : Fin 1024) : iblk m c 1 t (ix2 k l) = aD m c (ix2 k (col t l)) := by
  have e : V m c main_v1 = truncf (F := Ideal) .bf16 (aD m c) bitsLt_bf16_f32 := by
    unfold V; after_results
  refine Eq.trans (b := V m c main_v1 (ix2 k (col t l))) (by blk_ext [iblk, idx t]) ?_
  rw [e]
  pointwise

theorem out_read (x : FVec Ideal S2048x1024 .bf16) (d : FVec Ideal S2048x1024 .bf16) (r : Fin 1024) (l : Fin 1024) :
    out0_2 (F := Ideal) x d (ix2 r l) = ∑ k, x (ix2 k r) * d (ix2 k l) := by
  unfold out0_2
  frame_out
  pointwise [k0_pay1]

/-- The array after the call. -/
def G (c : Dev nD) : S2048x2048.Idx → EReal := fun j => tmm (aX m c) (aD m c) (j 0) (j 1)

theorem final (c : Dev nD) : (dats m 0 c).arrAt 2 (cfgs 0).N = G m c := by
  refine (dats m 0 c).arrAt_eq_of_covers 2 _ (by decide +kernel) fun t _ y => ?_
  blk_simp
  rw [after0_2]
  idx_vars y
  refine (out_read _ _ y0 y1).trans ?_
  simp only [x_read, d_read]
  refine Eq.trans (b := G m c (ix2 (row t y0) (col t y1))) rfl (by blk_ext [idx t])

end Cert.DwoutIdeal.Value

namespace Cert.Proof

open Idealize.ShloMosaic Idealize.ShloMosaic.TcCoe Idealize.SL.Sem Cert.Plain

theorem algebraic_dwout : Cert.algebraic_DwoutIdeal_DwoutRefIdeal := by
  pair_intro
  · run_from Cert.DwoutIdeal.Gen.run_main m g
  · run_from Cert.DwoutRefIdeal.Value.run m' g'
    funext j
    idx_vars j
    rw [Cert.DwoutIdeal.Value.final m c]
    unfold Cert.DwoutIdeal.Value.G tmm
    pointwise
    exact (Fin.sum_univ_one _).trans (Finset.sum_congr rfl fun k _ => mul_comm _ _)

end Cert.Proof

/-! ## The feed-forward's product with w_down, added to the residual stream -/

namespace Cert.DownIdeal.Value

open Cert.Plain
open Cert.DownIdeal Cert.DownIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val % 2, 0] ∧ win0_1.index t = ![0, 0, t.val / 2] ∧ win0_2.index t = ![t.val % 2, t.val / 2] ∧ win0_3.index t = ![t.val % 2, t.val / 2] :=
  (by decide +kernel : ∀ t : Fin grid0.N, _)

abbrev row (t : Fin cfg0.N) (r : Fin 1024) : Fin 2048 := ⟨t.1 % 2 * 1024 + r.1, by have : t.1 < 8 := lt_of_lt_of_eq t.isLt N_0; omega⟩

abbrev col (t : Fin cfg0.N) (l : Fin 512) : Fin 2048 := ⟨t.1 / 2 * 512 + l.1, by have : t.1 < 8 := lt_of_lt_of_eq t.isLt N_0; omega⟩

abbrev aX (c : Dev nD) : FVec Ideal S2048x5632 .f32 := m ((c : Thread nD τ).loc main_arg0)
abbrev aW (c : Dev nD) : FVec Ideal S5632x2048 .f32 := m ((c : Thread nD τ).loc main_arg1)
abbrev aR (c : Dev nD) : FVec Ideal S2048x2048 .f32 := m ((c : Thread nD τ).loc main_arg2)

theorem x_read (c : Dev nD) (t : Fin cfg0.N) (r : Fin 1024) (k : Fin 5632) : iblk m c 0 t (ix2 r k) = aX m c (ix2 (row t r) k) := by
  have e : V m c main_v0 = truncf (F := Ideal) .bf16 (aX m c) bitsLt_bf16_f32 := by
    unfold V; after_results
  refine Eq.trans (b := V m c main_v0 (ix2 (row t r) k)) (by blk_ext [iblk, idx t]) ?_
  rw [e]
  pointwise

theorem w_read (c : Dev nD) (t : Fin cfg0.N) (k : Fin 5632) (l : Fin 512) : iblk m c 1 t (ix3 0 k l) = aW m c (ix2 k (col t l)) := by
  have e : V m c main_v2 = broadcastInDim S1x5632x2048 ![1, 2] bcast_S5632x2048_S1x5632x2048_1_2
      (truncf (F := Ideal) .bf16 (aW m c) bitsLt_bf16_f32) := by
    unfold V; after_results
  refine Eq.trans (b := V m c main_v2 (ix3 0 k (col t l))) (by blk_ext [iblk, idx t]) ?_
  rw [e]
  pointwise

theorem r_read (c : Dev nD) (t : Fin cfg0.N) (r : Fin 1024) (l : Fin 512) : iblk m c 2 t (ix2 r l) = aR m c (ix2 (row t r) (col t l)) := by
  blk_ext [iblk, idx t]

theorem out_read (x : FVec Ideal S1024x5632 .bf16) (w : FVec Ideal S1x5632x512 .bf16) (y : FVec Ideal S1024x512 .f32) (r : Fin 1024) (l : Fin 512) :
    out0_3 (F := Ideal) x w y (ix2 r l) = (∑ k, x (ix2 r k) * w (ix3 0 k l)) + y (ix2 r l) := by
  unfold out0_3
  frame_out
  pointwise [k0_pay1]

/-- The array after the call. -/
def G (c : Dev nD) : S2048x2048.Idx → EReal := fun j => mm (aX m c) (aW m c) (j 0) (j 1) + aR m c (ix2 (j 0) (j 1))

theorem final (c : Dev nD) : (dats m 0 c).arrAt 3 (cfgs 0).N = G m c := by
  refine (dats m 0 c).arrAt_eq_of_covers 3 _ (by decide +kernel) fun t _ y => ?_
  blk_simp
  rw [after0_3]
  idx_vars y
  refine (out_read _ _ _ y0 y1).trans ?_
  simp only [x_read, w_read, r_read]
  refine Eq.trans (b := G m c (ix2 (row t y0) (col t y1))) rfl (by blk_ext [idx t])

end Cert.DownIdeal.Value

namespace Cert.Proof

open Idealize.ShloMosaic Idealize.ShloMosaic.TcCoe Idealize.SL.Sem Cert.Plain

theorem algebraic_down : Cert.algebraic_DownIdeal_DownRefIdeal := by
  pair_intro
  · run_from Cert.DownIdeal.Gen.run_main m g
  · run_from Cert.DownRefIdeal.Value.run m' g'
    funext j
    idx_vars j
    rw [Cert.DownIdeal.Value.final m c]
    unfold Cert.DownIdeal.Value.G mm
    pointwise
    exact add_comm _ _

end Cert.Proof

/-! ## The gradient of w_down -/

namespace Cert.DwdownIdeal.Value

open Cert.Plain
open Cert.DwdownIdeal Cert.DwdownIdeal.Gen Idealize.ShloMosaic Idealize.ShloMosaic.TcCoe Idealize.SL.Sem

variable (m : (ℓ : Loc nD τ sig) → Buf (Elt Ideal) ℓ)

theorem idx : ∀ t : Fin cfg0.N, win0_0.index t = ![0, t.val % 4] ∧ win0_1.index t = ![0, t.val / 4] ∧ win0_2.index t = ![t.val % 4, t.val / 4] :=
  (by decide +kernel : ∀ t : Fin grid0.N, _)

abbrev row (t : Fin cfg0.N) (r : Fin 1408) : Fin 5632 := ⟨t.1 % 4 * 1408 + r.1, by have : t.1 < 16 := lt_of_lt_of_eq t.isLt N_0; omega⟩

abbrev col (t : Fin cfg0.N) (l : Fin 512) : Fin 2048 := ⟨t.1 / 4 * 512 + l.1, by have : t.1 < 16 := lt_of_lt_of_eq t.isLt N_0; omega⟩

abbrev aX (c : Dev nD) : FVec Ideal S2048x5632 .f32 := m ((c : Thread nD τ).loc main_arg0)
abbrev aD (c : Dev nD) : FVec Ideal S2048x2048 .f32 := m ((c : Thread nD τ).loc main_arg1)

theorem x_read (c : Dev nD) (t : Fin cfg0.N) (k : Fin 2048) (r : Fin 1408) : iblk m c 0 t (ix2 k r) = aX m c (ix2 k (row t r)) := by
  have e : V m c main_v0 = truncf (F := Ideal) .bf16 (aX m c) bitsLt_bf16_f32 := by
    unfold V; after_results
  refine Eq.trans (b := V m c main_v0 (ix2 k (row t r))) (by blk_ext [iblk, idx t]) ?_
  rw [e]
  pointwise

theorem d_read (c : Dev nD) (t : Fin cfg0.N) (k : Fin 2048) (l : Fin 512) : iblk m c 1 t (ix2 k l) = aD m c (ix2 k (col t l)) := by
  have e : V m c main_v1 = truncf (F := Ideal) .bf16 (aD m c) bitsLt_bf16_f32 := by
    unfold V; after_results
  refine Eq.trans (b := V m c main_v1 (ix2 k (col t l))) (by blk_ext [iblk, idx t]) ?_
  rw [e]
  pointwise

theorem out_read (x : FVec Ideal S2048x1408 .bf16) (d : FVec Ideal S2048x512 .bf16) (r : Fin 1408) (l : Fin 512) :
    out0_2 (F := Ideal) x d (ix2 r l) = ∑ k, x (ix2 k r) * d (ix2 k l) := by
  unfold out0_2
  frame_out
  pointwise [k0_pay1]

/-- The array after the call. -/
def G (c : Dev nD) : S5632x2048.Idx → EReal := fun j => tmm (aX m c) (aD m c) (j 0) (j 1)

theorem final (c : Dev nD) : (dats m 0 c).arrAt 2 (cfgs 0).N = G m c := by
  refine (dats m 0 c).arrAt_eq_of_covers 2 _ (by decide +kernel) fun t _ y => ?_
  blk_simp
  rw [after0_2]
  idx_vars y
  refine (out_read _ _ y0 y1).trans ?_
  simp only [x_read, d_read]
  refine Eq.trans (b := G m c (ix2 (row t y0) (col t y1))) rfl (by blk_ext [idx t])

end Cert.DwdownIdeal.Value

namespace Cert.Proof

open Idealize.ShloMosaic Idealize.ShloMosaic.TcCoe Idealize.SL.Sem Cert.Plain

theorem algebraic_dwdown : Cert.algebraic_DwdownIdeal_DwdownRefIdeal := by
  pair_intro
  · run_from Cert.DwdownIdeal.Gen.run_main m g
  · run_from Cert.DwdownRefIdeal.Value.run m' g'
    funext j
    idx_vars j
    rw [Cert.DwdownIdeal.Value.final m c]
    unfold Cert.DwdownIdeal.Value.G tmm
    pointwise
    exact (Fin.sum_univ_one _).trans (Finset.sum_congr rfl fun k _ => mul_comm _ _)

end Cert.Proof

end
-- ==== Proof.Adam.lean ====
/- The optimiser on the packed small parameters: one step of AdamW, entry by entry. -/
module

public import proofs.«01_k».proof.Defs
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import Idealize.ShloMosaic.Lib.Pipeline.ValueKit
public import Idealize.ShloMosaic.Lib.Claim

@[expose] public section

set_option maxRecDepth 16384

noncomputable section

namespace Cert.Proof

open Idealize.ShloMosaic Idealize.ShloMosaic.TcCoe Idealize.SL.Sem

theorem algebraic_adam : Cert.algebraic_AdamIdeal_AdamRefIdeal := by
  pair_intro
  · run_from Cert.AdamIdeal.Value.run m g
  · run_from Cert.AdamRefIdeal.Value.run m' g'
    · funext j
      idx_vars j
      pointwise [Cert.AdamIdeal.Value.G4]
    · funext j
      idx_vars j
      pointwise [Cert.AdamIdeal.Value.G5]
    · funext j
      idx_vars j
      pointwise [Cert.AdamIdeal.Value.G6]

end Cert.Proof

end
-- ==== Proof.Wide.lean ====
/- Plain products on columns that the version lays out anew: the projection, its weight's gradient, and the gradient of w_gate_up. -/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.Dwin.Frame
public import proofs.«01_k».proof.Proof.Gen.DwinIdeal.Frame
public import proofs.«01_k».proof.Proof.Gen.DwinIdeal.Value
public import proofs.«01_k».proof.Proof.Gen.DwinRefIdeal.Run
public import proofs.«01_k».proof.Proof.Gen.Dwgu.Frame
public import proofs.«01_k».proof.Proof.Gen.DwguIdeal.Frame
public import proofs.«01_k».proof.Proof.Gen.DwguIdeal.Value
public import proofs.«01_k».proof.Proof.Gen.DwguRefIdeal.Run
public import proofs.«01_k».proof.Proof.Plain
public import Idealize.ShloMosaic.Lib.Pipeline.ValueKit
public import Idealize.ShloMosaic.Lib.Claim

@[expose] public section

set_option maxRecDepth 16384

noncomputable section

namespace Cert.Plain

open Idealize.ShloMosaic

/-- The 6412 columns with 116 zeros after the gates. -/
def apart (f : Fin 6412 → EReal) (j : Fin 6528) : EReal :=
  if h : j.1 < 4108 then f ⟨j.1, by omega⟩ else if h' : j.1 < 4224 then 0 else f ⟨j.1 - 116, by omega⟩

theorem apart_sum (x : Fin 2048 → EReal) (f : Fin 2048 → Fin 6412 → EReal) (j : Fin 6528) :
    ∑ k, x k * apart (f k) j = apart (fun q => ∑ k, x k * f k q) j := by
  unfold apart
  split_ifs
  · rfl
  · simp
  · rfl

/-- The columns in three pieces. -/
theorem apart_read (A : FVec Ideal ⟨2, ![2048, 6412]⟩ .f32) (h1 h2 h3 h4) (r : Fin 2048) (j : Fin 6528) :
    concatenate ⟨2, ![2048, 6528]⟩ 1 [⟨⟨2, ![2048, 4108]⟩, extractStridedSlice ⟨2, ![2048, 4108]⟩ ![0, 0] A h1⟩,
      ⟨⟨2, ![2048, 116]⟩, broadcastInDim ⟨2, ![2048, 116]⟩ ![] h2 (constant (F := Ideal) ⟨0, ![]⟩ .f32 0x00000000#32)⟩,
      ⟨⟨2, ![2048, 2304]⟩, extractStridedSlice ⟨2, ![2048, 2304]⟩ ![0, 4108] A h3⟩] h4 (ix2 r j) = apart (fun q => A (ix2 r q)) j := by
  unfold apart
  pointwise
  by_cases a : j.1 < 4108
  · simp only [a, ↓reduceDIte, ↓reduceIte]
    try rfl
  · have e : j.1 - 4108 < 116 ↔ j.1 < 4224 := by omega
    by_cases b : j.1 < 4224
    · simp only [a, e, b, ↓reduceDIte, ↓reduceIte]
    · simp only [a, e, b, ↓reduceDIte, ↓reduceIte]
      exact congrArg (fun k => A (ix2 r k)) (Fin.ext (by show 4108 + (j.1 - 4108 - 116) = j.1 - 116; omega))

end Cert.Plain

/-! ## The projection -/

namespace Cert.ProjIdeal.Value

open Cert.Plain
open Cert.ProjIdeal Cert.ProjIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val % 2, 0] ∧ win0_1.index t = ![0, 0, t.val / 2] ∧ win0_2.index t = ![t.val % 2, t.val / 2] :=
  (by decide +kernel : ∀ t : Fin grid0.N, _)

abbrev row (t : Fin cfg0.N) (r : Fin 1024) : Fin 2048 := ⟨t.1 % 2 * 1024 + r.1, by have : t.1 < 6 := lt_of_lt_of_eq t.isLt N_0; omega⟩

abbrev col (t : Fin cfg0.N) (l : Fin 2176) : Fin 6528 := ⟨t.1 / 2 * 2176 + l.1, by have : t.1 < 6 := lt_of_lt_of_eq t.isLt N_0; omega⟩

abbrev aX (c : Dev nD) : FVec Ideal S2048x2048 .f32 := m ((c : Thread nD τ).loc main_arg0)
abbrev aW (c : Dev nD) : FVec Ideal S2048x6412 .f32 := m ((c : Thread nD τ).loc main_arg1)

theorem x_read (c : Dev nD) (t : Fin cfg0.N) (r : Fin 1024) (k : Fin 2048) : iblk m c 0 t (ix2 r k) = aX m c (ix2 (row t r) k) := by
  have e : V m c main_v0 = truncf (F := Ideal) .bf16 (aX m c) bitsLt_bf16_f32 := by
    unfold V; after_results
  refine Eq.trans (b := V m c main_v0 (ix2 (row t r) k)) (by blk_ext [iblk, idx t]) ?_
  rw [e]
  pointwise

theorem w_read (c : Dev nD) (t : Fin cfg0.N) (k : Fin 2048) (l : Fin 2176) :
    iblk m c 1 t (ix3 0 k l) = apart (fun q => aW m c (ix2 k q)) (col t l) := by
  have e : V m c main_v8 = broadcastInDim S1x2048x6528 ![1, 2] bcast_S2048x6528_S1x2048x6528_1_2
      (truncf (F := Ideal) .bf16 (concatenate S2048x6528 1
      [⟨S2048x4108, extractStridedSlice S2048x4108 ![0, 0] (shapeCast S2048x6412 (broadcastInDim S1x2048x6412 ![1, 2] bcast_S2048x6412_S1x2048x6412_1_2 (aW m c)) shapeCasts_S1x2048x6412_S2048x6412) slices_S2048x6412_S2048x4108_0_0⟩,
        ⟨S2048x116, broadcastInDim S2048x116 ![] bcast_S_S2048x116 (constant (F := Ideal) S_ .f32 0x00000000#32)⟩,
        ⟨S2048x2304, extractStridedSlice S2048x2304 ![0, 4108] (shapeCast S2048x6412 (broadcastInDim S1x2048x6412 ![1, 2] bcast_S2048x6412_S1x2048x6412_1_2 (aW m c)) shapeCasts_S1x2048x6412_S2048x6412) slices_S2048x6412_S2048x2304_0_4108⟩]
      concatenates_S2048x4108_S2048x116_S2048x2304_S2048x6528_d1) bitsLt_bf16_f32) := by
    unfold V; after_results; rfl
  refine Eq.trans (b := V m c main_v8 (ix3 0 k (col t l))) (by blk_ext [iblk, idx t]) ?_
  rw [e]
  refine (Eq.trans ?_ (apart_read (shapeCast S2048x6412 (broadcastInDim S1x2048x6412 ![1, 2] bcast_S2048x6412_S1x2048x6412_1_2 (aW m c)) shapeCasts_S1x2048x6412_S2048x6412) slices_S2048x6412_S2048x4108_0_0 bcast_S_S2048x116 slices_S2048x6412_S2048x2304_0_4108
    concatenates_S2048x4108_S2048x116_S2048x2304_S2048x6528_d1 k (col t l))).trans ?_
  · pointwise
  · pointwise

theorem out_read (x : FVec Ideal S1024x2048 .bf16) (w : FVec Ideal S1x2048x2176 .bf16) (r : Fin 1024) (l : Fin 2176) :
    out0_2 (F := Ideal) x w (ix2 r l) = ∑ k, x (ix2 r k) * w (ix3 0 k l) := by
  unfold out0_2
  frame_out
  pointwise [k0_pay1]

/-- The array after the call. -/
def G (c : Dev nD) : S2048x6528.Idx → EReal := fun j => apart (fun q => mm (aX m c) (aW m c) (j 0) q) (j 1)

theorem final (c : Dev nD) : (dats m 0 c).arrAt 2 (cfgs 0).N = G m c := by
  refine (dats m 0 c).arrAt_eq_of_covers 2 _ (by decide +kernel) fun t _ y => ?_
  blk_simp
  rw [after0_2]
  idx_vars y
  refine (out_read _ _ y0 y1).trans ?_
  simp only [x_read, w_read, apart_sum]
  refine Eq.trans (b := G m c (ix2 (row t y0) (col t y1))) rfl (by blk_ext [idx t])

end Cert.ProjIdeal.Value

namespace Cert.Proof

open Idealize.ShloMosaic Idealize.ShloMosaic.TcCoe Idealize.SL.Sem Cert.Plain

theorem algebraic_proj : Cert.algebraic_ProjIdeal_ProjRefIdeal := by
  pair_intro
  · run_from Cert.ProjIdeal.Gen.run_main m g
  · run_from Cert.ProjRefIdeal.Value.run m' g'
    funext j
    idx_vars j
    rw [Cert.ProjIdeal.Value.final m c]
    refine (apart_read _ _ _ _ Cert.ProjRefIdeal.Gen.concatenates_S2048x4108_S2048x116_S2048x2304_S2048x6528_d1 j0 j1).trans ?_
    unfold Cert.ProjIdeal.Value.G mm
    pointwise

end Cert.Proof

/-! ## The gradient of w_in -/

namespace Cert.DwinIdeal.Value

open Cert.Plain
open Cert.DwinIdeal Cert.DwinIdeal.Gen Idealize.ShloMosaic Idealize.ShloMosaic.TcCoe Idealize.SL.Sem

variable (m : (ℓ : Loc nD τ sig) → Buf (Elt Ideal) ℓ)

theorem idx : ∀ t : Fin cfg0.N, win0_0.index t = ![0, t.val % 2] ∧ win0_1.index t = ![0, t.val / 2] ∧ win0_2.index t = ![t.val % 2, t.val / 2] :=
  (by decide +kernel : ∀ t : Fin grid0.N, _)

abbrev row (t : Fin cfg0.N) (r : Fin 1024) : Fin 2048 := ⟨t.1 % 2 * 1024 + r.1, by have : t.1 < 6 := lt_of_lt_of_eq t.isLt N_0; omega⟩

abbrev col (t : Fin cfg0.N) (l : Fin 2176) : Fin 6528 := ⟨t.1 / 2 * 2176 + l.1, by have : t.1 < 6 := lt_of_lt_of_eq t.isLt N_0; omega⟩

abbrev aX (c : Dev nD) : FVec Ideal S2048x2048 .f32 := m ((c : Thread nD τ).loc main_arg0)
abbrev aD (c : Dev nD) : FVec Ideal S1x2048x6412 .f32 := m ((c : Thread nD τ).loc main_arg1)

theorem x_read (c : Dev nD) (t : Fin cfg0.N) (k : Fin 2048) (r : Fin 1024) : iblk m c 0 t (ix2 k r) = aX m c (ix2 k (row t r)) := by
  have e : V m c main_v0 = truncf (F := Ideal) .bf16 (aX m c) bitsLt_bf16_f32 := by
    unfold V; after_results
  refine Eq.trans (b := V m c main_v0 (ix2 k (row t r))) (by blk_ext [iblk, idx t]) ?_
  rw [e]
  pointwise

theorem d_read (c : Dev nD) (t : Fin cfg0.N) (k : Fin 2048) (l : Fin 2176) :
    iblk m c 1 t (ix2 k l) = apart (fun q => aD m c (ix3 0 k q)) (col t l) := by
  have e : V m c main_v6 = (truncf (F := Ideal) .bf16 (concatenate S2048x6528 1
      [⟨S2048x4108, extractStridedSlice S2048x4108 ![0, 0] (shapeCast S2048x6412 (aD m c) shapeCasts_S1x2048x6412_S2048x6412) slices_S2048x6412_S2048x4108_0_0⟩,
        ⟨S2048x116, broadcastInDim S2048x116 ![] bcast_S_S2048x116 (constant (F := Ideal) S_ .f32 0x00000000#32)⟩,
        ⟨S2048x2304, extractStridedSlice S2048x2304 ![0, 4108] (shapeCast S2048x6412 (aD m c) shapeCasts_S1x2048x6412_S2048x6412) slices_S2048x6412_S2048x2304_0_4108⟩]
      concatenates_S2048x4108_S2048x116_S2048x2304_S2048x6528_d1) bitsLt_bf16_f32) := by
    unfold V; after_results; rfl
  refine Eq.trans (b := V m c main_v6 (ix2 k (col t l))) (by blk_ext [iblk, idx t]) ?_
  rw [e]
  refine (Eq.trans ?_ (apart_read (shapeCast S2048x6412 (aD m c) shapeCasts_S1x2048x6412_S2048x6412) slices_S2048x6412_S2048x4108_0_0 bcast_S_S2048x116 slices_S2048x6412_S2048x2304_0_4108
    concatenates_S2048x4108_S2048x116_S2048x2304_S2048x6528_d1 k (col t l))).trans ?_
  · pointwise
  · pointwise

theorem out_read (x : FVec Ideal S2048x1024 .bf16) (d : FVec Ideal S2048x2176 .bf16) (r : Fin 1024) (l : Fin 2176) :
    out0_2 (F := Ideal) x d (ix2 r l) = ∑ k, x (ix2 k r) * d (ix2 k l) := by
  unfold out0_2
  frame_out
  pointwise [k0_pay1]

/-- The array after the call. -/
def G (c : Dev nD) : S2048x6528.Idx → EReal := fun j => apart (fun q => ∑ k, aX m c (ix2 k (j 0)) * aD m c (ix3 0 k q)) (j 1)

theorem final (c : Dev nD) : (dats m 0 c).arrAt 2 (cfgs 0).N = G m c := by
  refine (dats m 0 c).arrAt_eq_of_covers 2 _ (by decide +kernel) fun t _ y => ?_
  blk_simp
  rw [after0_2]
  idx_vars y
  refine (out_read _ _ y0 y1).trans ?_
  simp only [x_read, d_read, apart_sum]
  refine Eq.trans (b := G m c (ix2 (row t y0) (col t y1))) rfl (by blk_ext [idx t])

end Cert.DwinIdeal.Value

namespace Cert.Proof

open Idealize.ShloMosaic Idealize.ShloMosaic.TcCoe Idealize.SL.Sem Cert.Plain

theorem algebraic_dwin : Cert.algebraic_DwinIdeal_DwinRefIdeal := by
  pair_intro
  · run_from Cert.DwinIdeal.Gen.run_main m g
  · run_from Cert.DwinRefIdeal.Value.run m' g'
    funext j
    idx_vars j
    rw [Cert.DwinIdeal.Value.final m c]
    refine (apart_read _ _ _ _ Cert.DwinRefIdeal.Gen.concatenates_S2048x4108_S2048x116_S2048x2304_S2048x6528_d1 j0 j1).trans ?_
    unfold Cert.DwinIdeal.Value.G
    pointwise
    exact congrArg (fun f => apart f j1) (funext fun q => (Fin.sum_univ_one _).trans (Finset.sum_congr rfl fun k _ => mul_comm _ _))

end Cert.Proof

/-! ## The gradient of w_gate_up -/

namespace Cert.DwguIdeal.Value

open Cert.Plain
open Cert.DwguIdeal Cert.DwguIdeal.Gen Idealize.ShloMosaic Idealize.ShloMosaic.TcCoe Idealize.SL.Sem

variable (m : (ℓ : Loc nD τ sig) → Buf (Elt Ideal) ℓ)

theorem idx : ∀ t : Fin cfg0.N, win0_0.index t = ![0, t.val % 2] ∧ win0_1.index t = ![t.val / 8, 0, t.val / 2 % 4] ∧ win0_2.index t = ![t.val / 4, t.val % 2, t.val / 2 % 2] :=
  (by decide +kernel : ∀ t : Fin grid0.N, _)

abbrev row (t : Fin cfg0.N) (r : Fin 1024) : Fin 2048 := ⟨t.1 % 2 * 1024 + r.1, by have : t.1 < 16 := lt_of_lt_of_eq t.isLt N_0; omega⟩

abbrev col (t : Fin cfg0.N) (l : Fin 1408) : Fin 2816 := ⟨t.1 / 2 % 2 * 1408 + l.1, by have : t.1 < 16 := lt_of_lt_of_eq t.isLt N_0; omega⟩

abbrev aX (c : Dev nD) : FVec Ideal S2048x2048 .f32 := m ((c : Thread nD τ).loc main_arg0)
abbrev aD (c : Dev nD) : FVec Ideal S1x2048x11264 .f32 := m ((c : Thread nD τ).loc main_arg1)

theorem x_read (c : Dev nD) (t : Fin cfg0.N) (k : Fin 2048) (r : Fin 1024) : iblk m c 0 t (ix2 k r) = aX m c (ix2 k (row t r)) := by
  have e : V m c main_v0 = truncf (F := Ideal) .bf16 (aX m c) bitsLt_bf16_f32 := by
    unfold V; after_results
  refine Eq.trans (b := V m c main_v0 (ix2 k (row t r))) (by blk_ext [iblk, idx t]) ?_
  rw [e]
  pointwise

/-- The two halves of the columns as two planes. -/
theorem planes_read (c : Dev nD) (p : Fin 2) (k : Fin 2048) (l : Fin 5632) :
    V m c main_v4 (ix3 p k l) = aD m c (ix3 0 k ⟨p.1 * 5632 + l.1, by omega⟩) := by
  have e : V m c main_v4 = transpose S2x2048x5632 [1, 0, 2] (shapeCast S2048x2x5632 (shapeCast S2048x11264
      (truncf (F := Ideal) .bf16 (aD m c) bitsLt_bf16_f32) shapeCasts_S1x2048x11264_S2048x11264) shapeCasts_S2048x11264_S2048x2x5632)
      transposes_S2048x2x5632_S2x2048x5632_1_0_2 := by
    unfold V; after_results; rfl
  rw [e]
  pointwise

abbrev part (t : Fin cfg0.N) : Fin 4 := ⟨t.1 / 4, by have : t.1 < 16 := lt_of_lt_of_eq t.isLt N_0; omega⟩

theorem d_read (c : Dev nD) (t : Fin cfg0.N) (k : Fin 2048) (l : Fin 1408) :
    iblk m c 1 t (ix3 0 k l) = aD m c (ix3 0 k ⟨(part t).1 * 2816 + (col t l).1, by have := (part t).2; have := (col t l).2; omega⟩) := by
  have ht : t.1 < 16 := lt_of_lt_of_eq t.isLt N_0
  refine Eq.trans (b := V m c main_v4 (ix3 ⟨t.1 / 8, by omega⟩ k ⟨t.1 / 2 % 4 * 1408 + l.1, by omega⟩)) (by blk_ext [iblk, idx t]) ?_
  rw [planes_read]
  refine congrArg (fun j => aD m c (ix3 0 k j)) (Fin.ext ?_)
  show t.1 / 8 * 5632 + (t.1 / 2 % 4 * 1408 + l.1) = t.1 / 4 * 2816 + (t.1 / 2 % 2 * 1408 + l.1)
  omega

theorem out_read (x : FVec Ideal S2048x1024 .bf16) (d : FVec Ideal S1x2048x1408 .bf16) (r : Fin 1024) (l : Fin 1408) :
    out0_2 (F := Ideal) x d (ix3 0 r l) = ∑ k, x (ix2 k r) * d (ix3 0 k l) := by
  unfold out0_2
  frame_out
  pointwise [k0_pay1]

/-- The array after the call. -/
def G (c : Dev nD) : S4x2048x2816.Idx → EReal := fun j =>
  ∑ k, aX m c (ix2 k (j 1)) * aD m c (ix3 0 k ⟨(j 0).1 * 2816 + (j 2).1, by have := (j 0).isLt; have := (j 2).isLt; simp at *; omega⟩)

theorem final (c : Dev nD) : (dats m 0 c).arrAt 2 (cfgs 0).N = G m c := by
  refine (dats m 0 c).arrAt_eq_of_covers 2 _ (by decide +kernel) fun t _ y => ?_
  blk_simp
  rw [after0_2]
  idx_vars y
  obtain rfl : y0 = 0 := Subsingleton.elim _ _
  refine (out_read _ _ y1 y2).trans ?_
  simp only [x_read, d_read]
  refine Eq.trans (b := G m c (ix3 (part t) (row t y1) (col t y2))) rfl (by blk_ext [idx t])

end Cert.DwguIdeal.Value

namespace Cert.Proof

open Idealize.ShloMosaic Idealize.ShloMosaic.TcCoe Idealize.SL.Sem Cert.Plain

theorem algebraic_dwgu : Cert.algebraic_DwguIdeal_DwguRefIdeal := by
  pair_intro
  · run_from Cert.DwguIdeal.Gen.run_main m g
  · run_from Cert.DwguRefIdeal.Value.run m' g'
    funext j
    idx_vars j
    rw [Cert.DwguIdeal.Value.final m c]
    unfold Cert.DwguIdeal.Value.G
    pointwise
    exact (Fin.sum_univ_one _).trans (Finset.sum_congr rfl fun k _ => mul_comm _ _)

end Cert.Proof

end
-- ==== Proof.Dh.lean ====
/- The gradients of the two norms' outputs: products by a transposed weight, summed over blocks of the columns. -/
module

public import proofs.«01_k».proof.Defs
public import proofs.«01_k».proof.Proof.Wide
public import proofs.«01_k».proof.Proof.Gen.DhAIdeal.Frame
public import proofs.«01_k».proof.Proof.Gen.DhARefIdeal.Run
public import proofs.«01_k».proof.Proof.Gen.DhBIdeal.Frame
public import proofs.«01_k».proof.Proof.Gen.DhBRefIdeal.Run
public import Idealize.ShloMosaic.Lib.Claim
public import Idealize.ShloMosaic.Lib.Pipeline.ValueKit

@[expose] public section

set_option maxRecDepth 16384

noncomputable section

namespace Cert.Plain

open Idealize.ShloMosaic

/-- A product over the columns laid apart is the product over the columns. -/
theorem apart_dot (f g : Fin 6412 → EReal) : ∑ j, apart f j * apart g j = ∑ q, f q * g q := by
  symm
  refine Finset.sum_of_injOn (fun q : Fin 6412 => (⟨if q.1 < 4108 then q.1 else q.1 + 116, by split <;> omega⟩ : Fin 6528)) ?_
    (fun _ _ => Finset.mem_coe.mpr (Finset.mem_univ _)) ?_ ?_
  · intro a _ b _ h
    have h' := congrArg Fin.val h
    dsimp only at h'
    apply Fin.ext
    split_ifs at h' <;> omega
  · intro j _ h
    by_cases a : j.1 < 4108
    · exact absurd ⟨⟨j.1, by omega⟩, Finset.mem_coe.mpr (Finset.mem_univ _), Fin.ext (if_pos a)⟩ h
    by_cases b : j.1 < 4224
    · simp only [apart, a, b, ↓reduceDIte, mul_zero]
    · refine absurd ⟨⟨j.1 - 116, by omega⟩, Finset.mem_coe.mpr (Finset.mem_univ _), Fin.ext ?_⟩ h
      show (if j.1 - 116 < 4108 then j.1 - 116 else j.1 - 116 + 116) = j.1
      split_ifs <;> omega
  · intro q _
    by_cases a : q.1 < 4108
    · simp only [apart, a, ↓reduceIte, ↓reduceDIte, Fin.eta]
    · have b : ¬q.1 + 116 < 4108 := by omega
      have d : ¬q.1 + 116 < 4224 := by omega
      simp only [apart, a, b, d, ↓reduceIte, ↓reduceDIte, Nat.add_sub_cancel, Fin.eta]

end Cert.Plain

/-! ## The first norm's output, over the projection's columns -/

namespace Cert.DhAIdeal.Value

open Cert.Plain
open Cert.DhAIdeal Cert.DhAIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val / 3, t.val % 3] ∧ win0_1.index t = ![0, 0, t.val % 3] ∧ win0_2.index t = ![t.val / 3, 0] :=
  (by decide +kernel : ∀ t : Fin grid0.N, _)

abbrev row (t : Fin cfg0.N) (r : Fin 1024) : Fin 2048 := ⟨t.1 / 3 * 1024 + r.1, by have : t.1 < 6 := lt_of_lt_of_eq t.isLt N_0; omega⟩

abbrev col (t : Fin cfg0.N) (l : Fin 2176) : Fin 6528 := ⟨t.1 % 3 * 2176 + l.1, by omega⟩

abbrev aW (c : Dev nD) : FVec Ideal S2048x6412 .f32 := m ((c : Thread nD τ).loc main_arg0)
abbrev aD (c : Dev nD) : FVec Ideal S1x2048x6412 .f32 := m ((c : Thread nD τ).loc main_arg1)

/-- The columns laid apart by the host. -/
abbrev laid (A : FVec Ideal S2048x6412 .f32) : FVec Ideal S2048x6528 .f32 := concatenate S2048x6528 1
  [⟨S2048x4108, extractStridedSlice S2048x4108 ![0, 0] A slices_S2048x6412_S2048x4108_0_0⟩,
    ⟨S2048x116, broadcastInDim S2048x116 ![] bcast_S_S2048x116 (constant (F := Ideal) S_ .f32 0x00000000#32)⟩,
    ⟨S2048x2304, extractStridedSlice S2048x2304 ![0, 4108] A slices_S2048x6412_S2048x2304_0_4108⟩]
  concatenates_S2048x4108_S2048x116_S2048x2304_S2048x6528_d1

theorem laid_read (A : FVec Ideal S2048x6412 .f32) (k : Fin 2048) (j : Fin 6528) : laid A (ix2 k j) = apart (fun q => A (ix2 k q)) j :=
  apart_read A _ _ _ _ k j

theorem d_read (c : Dev nD) (t : Fin cfg0.N) (r : Fin 1024) (l : Fin 2176) :
    iblk m c 0 t (ix2 r l) = apart (fun q => aD m c (ix3 0 (row t r) q)) (col t l) := by
  have e : V m c main_v5 = truncf (F := Ideal) .bf16 (laid (shapeCast S2048x6412 (aD m c) shapeCasts_S1x2048x6412_S2048x6412)) bitsLt_bf16_f32 := by
    unfold V; after_results; rfl
  refine Eq.trans (b := V m c main_v5 (ix2 (row t r) (col t l))) (by blk_ext [iblk, idx t]) ?_
  rw [e]
  refine (Eq.trans ?_ (laid_read (shapeCast S2048x6412 (aD m c) shapeCasts_S1x2048x6412_S2048x6412) (row t r) (col t l))).trans ?_
  · pointwise
  · pointwise

theorem w_read (c : Dev nD) (t : Fin cfg0.N) (k : Fin 2048) (l : Fin 2176) :
    iblk m c 1 t (ix3 0 k l) = apart (fun q => aW m c (ix2 k q)) (col t l) := by
  have e : V m c main_v13 = broadcastInDim S1x2048x6528 ![1, 2] bcast_S2048x6528_S1x2048x6528_1_2 (truncf (F := Ideal) .bf16
      (laid (shapeCast S2048x6412 (broadcastInDim S1x2048x6412 ![1, 2] bcast_S2048x6412_S1x2048x6412_1_2 (aW m c)) shapeCasts_S1x2048x6412_S2048x6412))
      bitsLt_bf16_f32) := by
    unfold V; after_results; rfl
  refine Eq.trans (b := V m c main_v13 (ix3 0 k (col t l))) (by blk_ext [iblk, idx t]) ?_
  rw [e]
  refine (Eq.trans ?_ (laid_read (shapeCast S2048x6412 (broadcastInDim S1x2048x6412 ![1, 2] bcast_S2048x6412_S1x2048x6412_1_2 (aW m c))
    shapeCasts_S1x2048x6412_S2048x6412) k (col t l))).trans ?_
  · pointwise
  · pointwise

/-- One block's part of the sum. -/
def term (d : FVec Ideal S1024x2176 .bf16) (w : FVec Ideal S1x2048x2176 .bf16) (j : S1024x2048.Idx) : EReal :=
  ∑ l, d (ix2 (j 0) l) * w (ix3 0 (j 1) l)

theorem pay_read (d : FVec Ideal S1024x2176 .bf16) (w : FVec Ideal S1x2048x2176 .bf16) (r : Fin 1024) (k : Fin 2048) :
    k0_pay1 (F := Ideal) d w (ix2 r k) = ∑ l, d (ix2 r l) * w (ix3 0 k l) := by
  pointwise [k0_pay1]

/-- The array after the call. -/
def G (c : Dev nD) : S2048x2048.Idx → EReal := fun j => ∑ q : Fin 6412, aD m c (ix3 0 (j 0) q) * aW m c (ix2 (j 1) q)

theorem final (c : Dev nD) : (dats m 0 c).arrAt 2 (cfgs 0).N = G m c := by
  refine (dats m 0 c).arrAt_eq_of_covers 2 _ (by decide +kernel) fun t hf y => ?_
  blk_simp
  rw [after0_2]
  idx_vars y
  have hr : t.val % 3 = 3 - 1 := (flush0_2 t).mp hf
  refine (Pipeline.eq_sum_fin_of_reset_step_apply_of_flush (fun n h => outsAt0 m c n h) 3 (fun _ => 0)
    (fun t => term (iblk m c 0 t) (iblk m c 1 t))
    (fun t h j => by
      idx_vars j
      rw [outsAt0_A m c t h (by omega)]; frame_out
      rw [zero_add]
      exact pay_read _ _ _ _)
    (fun t h j => by
      idx_vars j
      rw [outsAt0_B m c t h (by omega)]; frame_out
      refine Eq.trans (b := outsAt0 m c (t.val - 1) (Nat.lt_of_le_of_lt (Nat.sub_le _ _) t.isLt) (ix2 j0 j1) + k0_pay1 (F := Ideal) (iblk m c 0 t) (iblk m c 1 t) (ix2 j0 j1)) ?_ ?_
      · pointwise [k0_pay2]
      · exact congrArg _ (pay_read _ _ _ _))
    t hr (ix2 y0 y1)).trans ?_
  rw [zero_add]
  refine Eq.trans (b := G m c (ix2 (row t y0) y1)) ?_ (by blk_ext [idx t])
  refine Eq.trans ?_ (apart_dot (fun q => aD m c (ix3 0 (row t y0) q)) (fun q => aW m c (ix2 y1 q)))
  unfold term
  refine Fin.sum_mul_add_congr fun s l hl => ?_
  have hs : (3 * (t.val / 3) + s.val) / 3 = t.val / 3 := by omega
  have hs' : (3 * (t.val / 3) + s.val) % 3 = s.val := by omega
  refine congrArg₂ (· * ·) ((d_read m c _ y0 l).trans ?_) ((w_read m c _ y1 l).trans ?_)
  · simp only [row, col, hs, hs']
  · simp only [col, hs']

end Cert.DhAIdeal.Value

namespace Cert.Proof

open Idealize.ShloMosaic Idealize.ShloMosaic.TcCoe Idealize.SL.Sem Cert.Plain

theorem algebraic_dh_a : Cert.algebraic_DhAIdeal_DhARefIdeal := by
  pair_intro
  · run_from Cert.DhAIdeal.Gen.run_main m g
  · run_from Cert.DhARefIdeal.Value.run m' g'
    funext j
    idx_vars j
    rw [Cert.DhAIdeal.Value.final m c]
    unfold Cert.DhAIdeal.Value.G
    pointwise

end Cert.Proof

/-! ## The second norm's output, over the gate's and the upward columns -/

namespace Cert.DhBIdeal.Value

open Cert.Plain
open Cert.DhBIdeal Cert.DhBIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val % 8 / 4, t.val / 8, t.val % 4] ∧ win0_1.index t = ![0, t.val % 8 / 2, 0, t.val % 2]
    ∧ win0_2.index t = ![t.val / 8, 0] :=
  (by decide +kernel : ∀ t : Fin grid0.N, _)

abbrev row (t : Fin cfg0.N) (r : Fin 1024) : Fin 2048 := ⟨t.1 / 8 * 1024 + r.1, by have : t.1 < 16 := lt_of_lt_of_eq t.isLt N_0; omega⟩

abbrev col (t : Fin cfg0.N) (l : Fin 1408) : Fin 11264 := ⟨t.1 % 8 * 1408 + l.1, by omega⟩

abbrev aW (c : Dev nD) : FVec Ideal S2048x11264 .f32 := m ((c : Thread nD τ).loc main_arg0)
abbrev aD (c : Dev nD) : FVec Ideal S1x2048x11264 .f32 := m ((c : Thread nD τ).loc main_arg1)

theorem planes_read (c : Dev nD) (p : Fin 2) (k : Fin 2048) (l : Fin 5632) :
    V m c main_v7 (ix3 p k l) = aD m c (ix3 0 k ⟨p.1 * 5632 + l.1, by omega⟩) := by
  have e : V m c main_v7 = transpose S2x2048x5632 [1, 0, 2] (shapeCast S2048x2x5632 (shapeCast S2048x11264
      (truncf (F := Ideal) .bf16 (aD m c) bitsLt_bf16_f32) shapeCasts_S1x2048x11264_S2048x11264) shapeCasts_S2048x11264_S2048x2x5632)
      transposes_S2048x2x5632_S2x2048x5632_1_0_2 := by
    unfold V; after_results; rfl
  rw [e]
  pointwise

theorem shards_read (c : Dev nD) (p : Fin 4) (k : Fin 2048) (l : Fin 2816) :
    V m c main_v3 (ix4 0 p k l) = aW m c (ix2 k ⟨p.1 * 2816 + l.1, by omega⟩) := by
  have e : V m c main_v3 = broadcastInDim S1x4x2048x2816 ![1, 2, 3] bcast_S4x2048x2816_S1x4x2048x2816_1_2_3 (transpose S4x2048x2816 [1, 0, 2]
      (shapeCast S2048x4x2816 (truncf (F := Ideal) .bf16 (aW m c) bitsLt_bf16_f32) shapeCasts_S2048x11264_S2048x4x2816)
      transposes_S2048x4x2816_S4x2048x2816_1_0_2) := by
    unfold V; after_results; rfl
  rw [e]
  pointwise

theorem d_read (c : Dev nD) (t : Fin cfg0.N) (r : Fin 1024) (l : Fin 1408) : iblk m c 0 t (ix3 0 r l) = aD m c (ix3 0 (row t r) (col t l)) := by
  refine Eq.trans (b := V m c main_v7 (ix3 ⟨t.1 % 8 / 4, by omega⟩ (row t r) ⟨t.1 % 4 * 1408 + l.1, by omega⟩)) (by blk_ext [iblk, idx t]) ?_
  rw [planes_read]
  refine congrArg (fun j => aD m c (ix3 0 (row t r) j)) (Fin.ext ?_)
  show t.1 % 8 / 4 * 5632 + (t.1 % 4 * 1408 + l.1) = t.1 % 8 * 1408 + l.1
  omega

theorem w_read (c : Dev nD) (t : Fin cfg0.N) (k : Fin 2048) (l : Fin 1408) : iblk m c 1 t (ix4 0 0 k l) = aW m c (ix2 k (col t l)) := by
  refine Eq.trans (b := V m c main_v3 (ix4 0 ⟨t.1 % 8 / 2, by omega⟩ k ⟨t.1 % 2 * 1408 + l.1, by omega⟩)) (by blk_ext [iblk, idx t]) ?_
  rw [shards_read]
  refine congrArg (fun j => aW m c (ix2 k j)) (Fin.ext ?_)
  show t.1 % 8 / 2 * 2816 + (t.1 % 2 * 1408 + l.1) = t.1 % 8 * 1408 + l.1
  omega

/-- One block's part of the sum. -/
def term (d : FVec Ideal S1x1024x1408 .bf16) (w : FVec Ideal S1x1x2048x1408 .bf16) (j : S1024x2048.Idx) : EReal :=
  ∑ l, d (ix3 0 (j 0) l) * w (ix4 0 0 (j 1) l)

theorem pay_read (d : FVec Ideal S1x1024x1408 .bf16) (w : FVec Ideal S1x1x2048x1408 .bf16) (r : Fin 1024) (k : Fin 2048) :
    k0_pay1 (F := Ideal) d w (ix2 r k) = ∑ l, d (ix3 0 r l) * w (ix4 0 0 k l) := by
  pointwise [k0_pay1]

/-- The array after the call. -/
def G (c : Dev nD) : S2048x2048.Idx → EReal := fun j => ∑ q : Fin 11264, aD m c (ix3 0 (j 0) q) * aW m c (ix2 (j 1) q)

theorem final (c : Dev nD) : (dats m 0 c).arrAt 2 (cfgs 0).N = G m c := by
  refine (dats m 0 c).arrAt_eq_of_covers 2 _ (by decide +kernel) fun t hf y => ?_
  blk_simp
  rw [after0_2]
  idx_vars y
  have hr : t.val % 8 = 8 - 1 := (flush0_2 t).mp hf
  refine (Pipeline.eq_sum_fin_of_reset_step_apply_of_flush (fun n h => outsAt0 m c n h) 8 (fun _ => 0)
    (fun t => term (iblk m c 0 t) (iblk m c 1 t))
    (fun t h j => by
      idx_vars j
      rw [outsAt0_A m c t h (by omega)]; frame_out
      rw [zero_add]
      exact pay_read _ _ _ _)
    (fun t h j => by
      idx_vars j
      rw [outsAt0_B m c t h (by omega)]; frame_out
      refine Eq.trans (b := outsAt0 m c (t.val - 1) (Nat.lt_of_le_of_lt (Nat.sub_le _ _) t.isLt) (ix2 j0 j1) + k0_pay1 (F := Ideal) (iblk m c 0 t) (iblk m c 1 t) (ix2 j0 j1)) ?_ ?_
      · pointwise [k0_pay2]
      · exact congrArg _ (pay_read _ _ _ _))
    t hr (ix2 y0 y1)).trans ?_
  rw [zero_add]
  refine Eq.trans (b := G m c (ix2 (row t y0) y1)) ?_ (by blk_ext [idx t])
  unfold term G
  refine Fin.sum_mul_add_congr fun s l hl => ?_
  have hs : (8 * (t.val / 8) + s.val) / 8 = t.val / 8 := by omega
  have hs' : (8 * (t.val / 8) + s.val) % 8 = s.val := by omega
  refine congrArg₂ (· * ·) ((d_read m c _ y0 l).trans ?_) ((w_read m c _ y1 l).trans ?_)
  · simp only [row, col, hs, hs']
    rfl
  · simp only [col, hs']
    rfl

end Cert.DhBIdeal.Value

namespace Cert.Proof

open Idealize.ShloMosaic Idealize.ShloMosaic.TcCoe Idealize.SL.Sem Cert.Plain

theorem algebraic_dh_b : Cert.algebraic_DhBIdeal_DhBRefIdeal := by
  pair_intro
  · run_from Cert.DhBIdeal.Gen.run_main m g
  · run_from Cert.DhBRefIdeal.Value.run m' g'
    funext j
    idx_vars j
    rw [Cert.DhBIdeal.Value.final m c]
    unfold Cert.DhBIdeal.Value.G
    pointwise

end Cert.Proof

end
-- ==== Proof.lean ====
/- The claims of proofs.«01_k».proof.Defs, each proved in a module of its own below Proof/. -/
module

public import proofs.«01_k».proof.Defs
public import proofs.«01_k».proof.Proof.Gen.Loss.Frame
public import proofs.«01_k».proof.Proof.Gen.LossIdeal.Frame
public import proofs.«01_k».proof.Proof.Gen.LossRefIdeal.Run
public import proofs.«01_k».proof.Proof.Gen.ConvQ.Frame
public import proofs.«01_k».proof.Proof.Gen.ConvQIdeal.Frame
public import proofs.«01_k».proof.Proof.Gen.ConvQRefIdeal.Run
public import proofs.«01_k».proof.Proof.Gen.ConvK.Frame
public import proofs.«01_k».proof.Proof.Gen.ConvKIdeal.Frame
public import proofs.«01_k».proof.Proof.Gen.ConvKRefIdeal.Run
public import proofs.«01_k».proof.Proof.Gen.ConvV.Frame
public import proofs.«01_k».proof.Proof.Gen.ConvVIdeal.Frame
public import proofs.«01_k».proof.Proof.Gen.ConvVRefIdeal.Run
public import proofs.«01_k».proof.Proof.Gen.Norm.Frame
public import proofs.«01_k».proof.Proof.Gen.NormIdeal.Frame
public import proofs.«01_k».proof.Proof.Gen.NormRefIdeal.Run
public import proofs.«01_k».proof.Proof.Gen.Swiglu.Frame
public import proofs.«01_k».proof.Proof.Gen.SwigluIdeal.Frame
public import proofs.«01_k».proof.Proof.Gen.SwigluRefIdeal.Run
public import proofs.«01_k».proof.Proof.Gen.Sgu.Frame
public import proofs.«01_k».proof.Proof.Gen.SguIdeal.Frame
public import proofs.«01_k».proof.Proof.Gen.SguRefIdeal.Run
public import proofs.«01_k».proof.Proof.Gen.Gates.Frame
public import proofs.«01_k».proof.Proof.Gen.GatesIdeal.Frame
public import proofs.«01_k».proof.Proof.Gen.GatesRefIdeal.Run
public import proofs.«01_k».proof.Proof.Gen.Pre_gates_regular
public import proofs.«01_k».proof.Proof.Gen.NormF.Frame
public import proofs.«01_k».proof.Proof.Gen.NormFIdeal.Frame
public import proofs.«01_k».proof.Proof.Gen.NormFRefIdeal.Run
public import proofs.«01_k».proof.Proof.Gen.SguF.Frame
public import proofs.«01_k».proof.Proof.Gen.SguFIdeal.Frame
public import proofs.«01_k».proof.Proof.Gen.SguFRefIdeal.Run
public import proofs.«01_k».proof.Proof.Gen.ConvQF.Frame
public import proofs.«01_k».proof.Proof.Gen.ConvQFIdeal.Frame
public import proofs.«01_k».proof.Proof.Gen.ConvQFRefIdeal.Run
public import proofs.«01_k».proof.Proof.Gen.ConvKF.Frame
public import proofs.«01_k».proof.Proof.Gen.ConvKFIdeal.Frame
public import proofs.«01_k».proof.Proof.Gen.ConvKFRefIdeal.Run
public import proofs.«01_k».proof.Proof.Gen.ConvVF.Frame
public import proofs.«01_k».proof.Proof.Gen.ConvVFIdeal.Frame
public import proofs.«01_k».proof.Proof.Gen.ConvVFRefIdeal.Run
public import proofs.«01_k».proof.Proof.Gen.GatesF.Frame
public import proofs.«01_k».proof.Proof.Gen.GatesFIdeal.Frame
public import proofs.«01_k».proof.Proof.Gen.GatesFRefIdeal.Run
public import proofs.«01_k».proof.Proof.Gen.SwigluF.Frame
public import proofs.«01_k».proof.Proof.Gen.SwigluFIdeal.Frame
public import proofs.«01_k».proof.Proof.Gen.SwigluFRefIdeal.Run
public import proofs.«01_k».proof.Proof.Gen.ScanF.Frame
public import proofs.«01_k».proof.Proof.Gen.ScanFIdeal.Frame
public import proofs.«01_k».proof.Proof.Gen.ScanFRefIdeal.Run
public import proofs.«01_k».proof.Proof.Gen.WyF.Frame
public import proofs.«01_k».proof.Proof.Gen.WyFIdeal.Frame
public import proofs.«01_k».proof.Proof.Gen.WyFRefIdeal.Run
public import proofs.«01_k».proof.Proof.Gen.Pre_wy_finite
public import proofs.«01_k».proof.Proof.Gen.Out.Frame
public import proofs.«01_k».proof.Proof.Gen.OutIdeal.Frame
public import proofs.«01_k».proof.Proof.Gen.OutRefIdeal.Run
public import proofs.«01_k».proof.Proof.Gen.Dmix.Frame
public import proofs.«01_k».proof.Proof.Gen.DmixIdeal.Frame
public import proofs.«01_k».proof.Proof.Gen.DmixRefIdeal.Run
public import proofs.«01_k».proof.Proof.Gen.Dwout.Frame
public import proofs.«01_k».proof.Proof.Gen.DwoutIdeal.Frame
public import proofs.«01_k».proof.Proof.Gen.DwoutRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Dwdown.Frame
public import proofs.«01_k».proof.Proof.Gen.DwdownIdeal.Frame
public import proofs.«01_k».proof.Proof.Gen.DwdownRefIdeal.Run
public import proofs.«01_k».proof.Proof.Gen.Adam.Frame
public import proofs.«01_k».proof.Proof.Gen.AdamIdeal.Frame
public import proofs.«01_k».proof.Proof.Gen.AdamRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.Dwin.Frame
public import proofs.«01_k».proof.Proof.Gen.DwinIdeal.Frame
public import proofs.«01_k».proof.Proof.Gen.DwinRefIdeal.Run
public import proofs.«01_k».proof.Proof.Gen.Dwgu.Frame
public import proofs.«01_k».proof.Proof.Gen.DwguIdeal.Frame
public import proofs.«01_k».proof.Proof.Gen.DwguRefIdeal.Run
public import proofs.«01_k».proof.Proof.Gen.DhA.Frame
public import proofs.«01_k».proof.Proof.Gen.DhAIdeal.Frame
public import proofs.«01_k».proof.Proof.Gen.DhARefIdeal.Run
public import proofs.«01_k».proof.Proof.Gen.DhB.Frame
public import proofs.«01_k».proof.Proof.Gen.DhBIdeal.Frame
public import proofs.«01_k».proof.Proof.Gen.DhBRefIdeal.Run
public import proofs.«01_k».proof.Proof.Gen.Wy.Frame
public import proofs.«01_k».proof.Proof.Gen.WyIdeal.Frame
public import proofs.«01_k».proof.Proof.Loss
public import proofs.«01_k».proof.Proof.Conv
public import proofs.«01_k».proof.Proof.Norm
public import proofs.«01_k».proof.Proof.Swiglu
public import proofs.«01_k».proof.Proof.Sgu
public import proofs.«01_k».proof.Proof.Gates
public import proofs.«01_k».proof.Proof.NormF
public import proofs.«01_k».proof.Proof.SguF
public import proofs.«01_k».proof.Proof.ConvQF
public import proofs.«01_k».proof.Proof.ConvKF
public import proofs.«01_k».proof.Proof.ConvVF
public import proofs.«01_k».proof.Proof.GatesF
public import proofs.«01_k».proof.Proof.SwigluF
public import proofs.«01_k».proof.Proof.ScanF
public import proofs.«01_k».proof.Proof.WyF
public import proofs.«01_k».proof.Proof.Plain
public import proofs.«01_k».proof.Proof.Adam
public import proofs.«01_k».proof.Proof.Wide
public import proofs.«01_k».proof.Proof.Dh
public import Idealize.ShloMosaic.Adequacy
public import Idealize.ShloMosaic.Init

@[expose] public section

set_option maxRecDepth 16384

noncomputable section

namespace Cert.Proof

open Idealize.ShloMosaic Idealize.SL.Sem

/-! A reference is a list of host operations and declares no semaphore. -/

theorem frame_loss_ref : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

theorem frame_conv_q_ref : Cert.quiescent_ConvQRefIdeal := fun m ρ _ =>
  (θ_run Cert.ConvQRefIdeal.defs _ _).mono (fun r h => ⟨fun c => (h c).2.2, sem_eq_zero_of_no_sems (by decide) r.2⟩)
    (Cert.ConvQRefIdeal.Value.run (F := Ideal) m ρ)

theorem frame_conv_k_ref : Cert.quiescent_ConvKRefIdeal := fun m ρ _ =>
  (θ_run Cert.ConvKRefIdeal.defs _ _).mono (fun r h => ⟨fun c => (h c).2.2, sem_eq_zero_of_no_sems (by decide) r.2⟩)
    (Cert.ConvKRefIdeal.Value.run (F := Ideal) m ρ)

theorem frame_conv_v_ref : Cert.quiescent_ConvVRefIdeal := fun m ρ _ =>
  (θ_run Cert.ConvVRefIdeal.defs _ _).mono (fun r h => ⟨fun c => (h c).2.2, sem_eq_zero_of_no_sems (by decide) r.2⟩)
    (Cert.ConvVRefIdeal.Value.run (F := Ideal) m ρ)

theorem frame_norm_ref : Cert.quiescent_NormRefIdeal := fun m ρ _ =>
  (θ_run Cert.NormRefIdeal.defs _ _).mono (fun r h => ⟨fun c => (h c).2.2.2, sem_eq_zero_of_no_sems (by decide) r.2⟩)
    (Cert.NormRefIdeal.Value.run (F := Ideal) m ρ)

theorem frame_swiglu_ref : Cert.quiescent_SwigluRefIdeal := fun m ρ _ =>
  (θ_run Cert.SwigluRefIdeal.defs _ _).mono (fun r h => ⟨fun c => (h c).2, sem_eq_zero_of_no_sems (by decide) r.2⟩)
    (Cert.SwigluRefIdeal.Value.run (F := Ideal) m ρ)

theorem frame_sgu_ref : Cert.quiescent_SguRefIdeal := fun m ρ _ =>
  (θ_run Cert.SguRefIdeal.defs _ _).mono (fun r h => ⟨fun c => (h c).2.2.2.2.2, sem_eq_zero_of_no_sems (by decide) r.2⟩)
    (Cert.SguRefIdeal.Value.run (F := Ideal) m ρ)

theorem frame_gates_ref : Cert.quiescent_GatesRefIdeal := fun m ρ _ =>
  (θ_run Cert.GatesRefIdeal.defs _ _).mono (fun r h => ⟨fun c => (h c).2.2.2, sem_eq_zero_of_no_sems (by decide) r.2⟩)
    (Cert.GatesRefIdeal.Value.run (F := Ideal) m ρ)

theorem frame_norm_f_ref : Cert.quiescent_NormFRefIdeal := fun m ρ _ =>
  (θ_run Cert.NormFRefIdeal.defs _ _).mono (fun r h => ⟨fun c => (h c).2, sem_eq_zero_of_no_sems (by decide) r.2⟩)
    (Cert.NormFRefIdeal.Value.run (F := Ideal) m ρ)

theorem frame_sgu_f_ref : Cert.quiescent_SguFRefIdeal := fun m ρ _ =>
  (θ_run Cert.SguFRefIdeal.defs _ _).mono (fun r h => ⟨fun c => (h c).2, sem_eq_zero_of_no_sems (by decide) r.2⟩)
    (Cert.SguFRefIdeal.Value.run (F := Ideal) m ρ)

theorem frame_conv_q_f_ref : Cert.quiescent_ConvQFRefIdeal := fun m ρ _ =>
  (θ_run Cert.ConvQFRefIdeal.defs _ _).mono (fun r h => ⟨fun c => (h c).2, sem_eq_zero_of_no_sems (by decide) r.2⟩)
    (Cert.ConvQFRefIdeal.Value.run (F := Ideal) m ρ)

theorem frame_conv_k_f_ref : Cert.quiescent_ConvKFRefIdeal := fun m ρ _ =>
  (θ_run Cert.ConvKFRefIdeal.defs _ _).mono (fun r h => ⟨fun c => (h c).2, sem_eq_zero_of_no_sems (by decide) r.2⟩)
    (Cert.ConvKFRefIdeal.Value.run (F := Ideal) m ρ)

theorem frame_conv_v_f_ref : Cert.quiescent_ConvVFRefIdeal := fun m ρ _ =>
  (θ_run Cert.ConvVFRefIdeal.defs _ _).mono (fun r h => ⟨fun c => (h c).2, sem_eq_zero_of_no_sems (by decide) r.2⟩)
    (Cert.ConvVFRefIdeal.Value.run (F := Ideal) m ρ)

theorem frame_gates_f_ref : Cert.quiescent_GatesFRefIdeal := fun m ρ _ =>
  (θ_run Cert.GatesFRefIdeal.defs _ _).mono (fun r h => ⟨fun c => (h c).2.2, sem_eq_zero_of_no_sems (by decide) r.2⟩)
    (Cert.GatesFRefIdeal.Value.run (F := Ideal) m ρ)

theorem frame_swiglu_f_ref : Cert.quiescent_SwigluFRefIdeal := fun m ρ _ =>
  (θ_run Cert.SwigluFRefIdeal.defs _ _).mono (fun r h => ⟨fun c => (h c).2.2, sem_eq_zero_of_no_sems (by decide) r.2⟩)
    (Cert.SwigluFRefIdeal.Value.run (F := Ideal) m ρ)

theorem frame_scan_f_ref : Cert.quiescent_ScanFRefIdeal := fun m ρ _ =>
  (θ_run Cert.ScanFRefIdeal.defs _ _).mono (fun r h => ⟨fun c => (h c).2.2, sem_eq_zero_of_no_sems (by decide) r.2⟩)
    (Cert.ScanFRefIdeal.Value.run (F := Ideal) m ρ)

theorem frame_wy_f_ref : Cert.quiescent_WyFRefIdeal := fun m ρ _ =>
  (θ_run Cert.WyFRefIdeal.defs _ _).mono (fun r h => ⟨fun c => (h c).2.2.2, sem_eq_zero_of_no_sems (by decide) r.2⟩)
    (Cert.WyFRefIdeal.Value.run m ρ)

theorem frame_out_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem frame_dmix_ref : Cert.quiescent_DmixRefIdeal := fun m ρ _ =>
  (θ_run Cert.DmixRefIdeal.defs _ _).mono (fun r h => ⟨fun c => (h c).2, sem_eq_zero_of_no_sems (by decide) r.2⟩)
    (Cert.DmixRefIdeal.Value.run (F := Ideal) m ρ)

theorem frame_dwout_ref : Cert.quiescent_DwoutRefIdeal := fun m ρ _ =>
  (θ_run Cert.DwoutRefIdeal.defs _ _).mono (fun r h => ⟨fun c => (h c).2, sem_eq_zero_of_no_sems (by decide) r.2⟩)
    (Cert.DwoutRefIdeal.Value.run (F := Ideal) m ρ)

theorem frame_down_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem frame_dwdown_ref : Cert.quiescent_DwdownRefIdeal := fun m ρ _ =>
  (θ_run Cert.DwdownRefIdeal.defs _ _).mono (fun r h => ⟨fun c => (h c).2, sem_eq_zero_of_no_sems (by decide) r.2⟩)
    (Cert.DwdownRefIdeal.Value.run (F := Ideal) m ρ)

theorem frame_adam_ref : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

theorem frame_proj_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem frame_dwin_ref : Cert.quiescent_DwinRefIdeal := fun m ρ _ =>
  (θ_run Cert.DwinRefIdeal.defs _ _).mono (fun r h => ⟨fun c => (h c).2, sem_eq_zero_of_no_sems (by decide) r.2⟩)
    (Cert.DwinRefIdeal.Value.run (F := Ideal) m ρ)

theorem frame_dwgu_ref : Cert.quiescent_DwguRefIdeal := fun m ρ _ =>
  (θ_run Cert.DwguRefIdeal.defs _ _).mono (fun r h => ⟨fun c => (h c).2, sem_eq_zero_of_no_sems (by decide) r.2⟩)
    (Cert.DwguRefIdeal.Value.run (F := Ideal) m ρ)

theorem frame_dh_a_ref : Cert.quiescent_DhARefIdeal := fun m ρ _ =>
  (θ_run Cert.DhARefIdeal.defs _ _).mono (fun r h => ⟨fun c => (h c).2, sem_eq_zero_of_no_sems (by decide) r.2⟩)
    (Cert.DhARefIdeal.Value.run (F := Ideal) m ρ)

theorem frame_dh_b_ref : Cert.quiescent_DhBRefIdeal := fun m ρ _ =>
  (θ_run Cert.DhBRefIdeal.defs _ _).mono (fun r h => ⟨fun c => (h c).2, sem_eq_zero_of_no_sems (by decide) r.2⟩)
    (Cert.DhBRefIdeal.Value.run (F := Ideal) m ρ)

theorem claim : Cert.Claim :=
  ⟨Cert.Loss.Gen.facts, Cert.LossIdeal.Gen.facts, Cert.LossRefIdeal.Gen.facts,
    Cert.ConvQ.Gen.facts, Cert.ConvQIdeal.Gen.facts, Cert.ConvQRefIdeal.Gen.facts,
    Cert.ConvK.Gen.facts, Cert.ConvKIdeal.Gen.facts, Cert.ConvKRefIdeal.Gen.facts,
    Cert.ConvV.Gen.facts, Cert.ConvVIdeal.Gen.facts, Cert.ConvVRefIdeal.Gen.facts,
    Cert.Norm.Gen.facts, Cert.NormIdeal.Gen.facts, Cert.NormRefIdeal.Gen.facts,
    Cert.Swiglu.Gen.facts, Cert.SwigluIdeal.Gen.facts, Cert.SwigluRefIdeal.Gen.facts,
    Cert.Sgu.Gen.facts, Cert.SguIdeal.Gen.facts, Cert.SguRefIdeal.Gen.facts,
    Cert.Gates.Gen.facts, Cert.GatesIdeal.Gen.facts, Cert.GatesRefIdeal.Gen.facts,
    Cert.NormF.Gen.facts, Cert.NormFIdeal.Gen.facts, Cert.NormFRefIdeal.Gen.facts,
    Cert.SguF.Gen.facts, Cert.SguFIdeal.Gen.facts, Cert.SguFRefIdeal.Gen.facts,
    Cert.ConvQF.Gen.facts, Cert.ConvQFIdeal.Gen.facts, Cert.ConvQFRefIdeal.Gen.facts,
    Cert.ConvKF.Gen.facts, Cert.ConvKFIdeal.Gen.facts, Cert.ConvKFRefIdeal.Gen.facts,
    Cert.ConvVF.Gen.facts, Cert.ConvVFIdeal.Gen.facts, Cert.ConvVFRefIdeal.Gen.facts,
    Cert.GatesF.Gen.facts, Cert.GatesFIdeal.Gen.facts, Cert.GatesFRefIdeal.Gen.facts,
    Cert.SwigluF.Gen.facts, Cert.SwigluFIdeal.Gen.facts, Cert.SwigluFRefIdeal.Gen.facts,
    Cert.ScanF.Gen.facts, Cert.ScanFIdeal.Gen.facts, Cert.ScanFRefIdeal.Gen.facts,
    Cert.WyF.Gen.facts, Cert.WyFIdeal.Gen.facts, Cert.WyFRefIdeal.Gen.facts,
    Cert.Out.Gen.facts, Cert.OutIdeal.Gen.facts, Cert.OutRefIdeal.Gen.facts,
    Cert.Dmix.Gen.facts, Cert.DmixIdeal.Gen.facts, Cert.DmixRefIdeal.Gen.facts,
    Cert.Dwout.Gen.facts, Cert.DwoutIdeal.Gen.facts, Cert.DwoutRefIdeal.Gen.facts,
    Cert.Down.Gen.facts, Cert.DownIdeal.Gen.facts, Cert.DownRefIdeal.Gen.facts,
    Cert.Dwdown.Gen.facts, Cert.DwdownIdeal.Gen.facts, Cert.DwdownRefIdeal.Gen.facts,
    Cert.Adam.Gen.facts, Cert.AdamIdeal.Gen.facts, Cert.AdamRefIdeal.Gen.facts,
    Cert.Proj.Gen.facts, Cert.ProjIdeal.Gen.facts, Cert.ProjRefIdeal.Gen.facts,
    Cert.Dwin.Gen.facts, Cert.DwinIdeal.Gen.facts, Cert.DwinRefIdeal.Gen.facts,
    Cert.Dwgu.Gen.facts, Cert.DwguIdeal.Gen.facts, Cert.DwguRefIdeal.Gen.facts,
    Cert.DhA.Gen.facts, Cert.DhAIdeal.Gen.facts, Cert.DhARefIdeal.Gen.facts,
    Cert.DhB.Gen.facts, Cert.DhBIdeal.Gen.facts, Cert.DhBRefIdeal.Gen.facts,
    Cert.Wy.Gen.facts, Cert.WyIdeal.Gen.facts,
    Cert.Pre_gates_regular.Gen.facts,
    Cert.Pre_wy_finite.Gen.facts,
    fun m ρ _ => Cert.Loss.Gen.frame m ρ, fun m ρ _ => Cert.LossIdeal.Gen.frame m ρ, frame_loss_ref,
    fun m ρ _ => Cert.ConvQ.Gen.frame m ρ, fun m ρ _ => Cert.ConvQIdeal.Gen.frame m ρ, frame_conv_q_ref,
    fun m ρ _ => Cert.ConvK.Gen.frame m ρ, fun m ρ _ => Cert.ConvKIdeal.Gen.frame m ρ, frame_conv_k_ref,
    fun m ρ _ => Cert.ConvV.Gen.frame m ρ, fun m ρ _ => Cert.ConvVIdeal.Gen.frame m ρ, frame_conv_v_ref,
    fun m ρ _ => Cert.Norm.Gen.frame m ρ, fun m ρ _ => Cert.NormIdeal.Gen.frame m ρ, frame_norm_ref,
    fun m ρ _ => Cert.Swiglu.Gen.frame m ρ, fun m ρ _ => Cert.SwigluIdeal.Gen.frame m ρ, frame_swiglu_ref,
    fun m ρ _ => Cert.Sgu.Gen.frame m ρ, fun m ρ _ => Cert.SguIdeal.Gen.frame m ρ, frame_sgu_ref,
    fun m ρ _ => Cert.Gates.Gen.frame m ρ, fun m ρ _ => Cert.GatesIdeal.Gen.frame m ρ, fun m ρ _ => Cert.GatesIdeal.Gen.frame m ρ, frame_gates_ref, fun m ρ _ => frame_gates_ref m ρ trivial,
    fun m ρ _ => Cert.NormF.Gen.frame m ρ, fun m ρ _ => Cert.NormFIdeal.Gen.frame m ρ, frame_norm_f_ref,
    fun m ρ _ => Cert.SguF.Gen.frame m ρ, fun m ρ _ => Cert.SguFIdeal.Gen.frame m ρ, frame_sgu_f_ref,
    fun m ρ _ => Cert.ConvQF.Gen.frame m ρ, fun m ρ _ => Cert.ConvQFIdeal.Gen.frame m ρ, frame_conv_q_f_ref,
    fun m ρ _ => Cert.ConvKF.Gen.frame m ρ, fun m ρ _ => Cert.ConvKFIdeal.Gen.frame m ρ, frame_conv_k_f_ref,
    fun m ρ _ => Cert.ConvVF.Gen.frame m ρ, fun m ρ _ => Cert.ConvVFIdeal.Gen.frame m ρ, frame_conv_v_f_ref,
    fun m ρ _ => Cert.GatesF.Gen.frame m ρ, fun m ρ _ => Cert.GatesFIdeal.Gen.frame m ρ, frame_gates_f_ref,
    fun m ρ _ => Cert.SwigluF.Gen.frame m ρ, fun m ρ _ => Cert.SwigluFIdeal.Gen.frame m ρ, frame_swiglu_f_ref,
    fun m ρ _ => Cert.ScanF.Gen.frame m ρ, fun m ρ _ => Cert.ScanFIdeal.Gen.frame m ρ, frame_scan_f_ref,
    fun m ρ _ => Cert.WyF.Gen.frame m ρ, fun m ρ _ => Cert.WyFIdeal.Gen.frame m ρ, fun m ρ _ => Cert.WyFIdeal.Gen.frame m ρ, frame_wy_f_ref, fun m ρ _ => frame_wy_f_ref m ρ trivial,
    fun m ρ _ => Cert.Out.Gen.frame m ρ, fun m ρ _ => Cert.OutIdeal.Gen.frame m ρ, frame_out_ref,
    fun m ρ _ => Cert.Dmix.Gen.frame m ρ, fun m ρ _ => Cert.DmixIdeal.Gen.frame m ρ, frame_dmix_ref,
    fun m ρ _ => Cert.Dwout.Gen.frame m ρ, fun m ρ _ => Cert.DwoutIdeal.Gen.frame m ρ, frame_dwout_ref,
    fun m ρ _ => Cert.Down.Gen.frame m ρ, fun m ρ _ => Cert.DownIdeal.Gen.frame m ρ, frame_down_ref,
    fun m ρ _ => Cert.Dwdown.Gen.frame m ρ, fun m ρ _ => Cert.DwdownIdeal.Gen.frame m ρ, frame_dwdown_ref,
    fun m ρ _ => Cert.Adam.Gen.frame m ρ, fun m ρ _ => Cert.AdamIdeal.Gen.frame m ρ, frame_adam_ref,
    fun m ρ _ => Cert.Proj.Gen.frame m ρ, fun m ρ _ => Cert.ProjIdeal.Gen.frame m ρ, frame_proj_ref,
    fun m ρ _ => Cert.Dwin.Gen.frame m ρ, fun m ρ _ => Cert.DwinIdeal.Gen.frame m ρ, frame_dwin_ref,
    fun m ρ _ => Cert.Dwgu.Gen.frame m ρ, fun m ρ _ => Cert.DwguIdeal.Gen.frame m ρ, frame_dwgu_ref,
    fun m ρ _ => Cert.DhA.Gen.frame m ρ, fun m ρ _ => Cert.DhAIdeal.Gen.frame m ρ, frame_dh_a_ref,
    fun m ρ _ => Cert.DhB.Gen.frame m ρ, fun m ρ _ => Cert.DhBIdeal.Gen.frame m ρ, frame_dh_b_ref,
    fun m ρ _ => Cert.Wy.Gen.frame m ρ, fun m ρ _ => Cert.WyIdeal.Gen.frame m ρ,
    trivial, algebraic_loss,
    trivial, algebraic_conv_q,
    trivial, algebraic_conv_k,
    trivial, algebraic_conv_v,
    trivial, algebraic_norm,
    trivial, algebraic_swiglu,
    trivial, algebraic_sgu,
    trivial, algebraic_gates,
    trivial, algebraic_norm_f,
    trivial, algebraic_sgu_f,
    trivial, algebraic_conv_q_f,
    trivial, algebraic_conv_k_f,
    trivial, algebraic_conv_v_f,
    trivial, algebraic_gates_f,
    trivial, algebraic_swiglu_f,
    trivial, algebraic_scan_f,
    trivial, algebraic_wy_f,
    trivial, algebraic_out,
    trivial, algebraic_dmix,
    trivial, algebraic_dwout,
    trivial, algebraic_down,
    trivial, algebraic_dwdown,
    trivial, algebraic_adam,
    trivial, algebraic_proj,
    trivial, algebraic_dwin,
    trivial, algebraic_dwgu,
    trivial, algebraic_dh_a,
    trivial, algebraic_dh_b,
    trivial⟩

end Cert.Proof

end
